-- ==== Defs.lean ====
def Pre_Kernel (m : (ℓ : Loc Cert.Kernel.nD Cert.Kernel.τ Cert.Kernel.sig) → Buf (Elt Bits) ℓ) : Prop :=
  True

def Pre_Kernel_finite [hPre_finite : Cert.Pre_finite.Facts] (m : (ℓ : Loc Cert.Kernel.nD Cert.Kernel.τ Cert.Kernel.sig) → Buf (Elt Bits) ℓ) : Prop :=
  ∀ c : Dev Cert.Kernel.nD,
    (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_DownHidden (m : (ℓ : Loc Cert.DownHidden.nD Cert.DownHidden.τ Cert.DownHidden.sig) → Buf (Elt Bits) ℓ) : Prop :=
  True

def Pre_DownHiddenIdeal (m : (ℓ : Loc Cert.DownHiddenIdeal.nD Cert.DownHiddenIdeal.τ Cert.DownHiddenIdeal.sig) → Buf (Elt Ideal) ℓ) : Prop :=
  True

def Pre_DownHiddenReferenceIdeal (m : (ℓ : Loc Cert.DownHiddenReferenceIdeal.nD Cert.DownHiddenReferenceIdeal.τ Cert.DownHiddenReferenceIdeal.sig) → Buf (Elt Ideal) ℓ) : Prop :=
  True

def Pre_DownWeight (m : (ℓ : Loc Cert.DownWeight.nD Cert.DownWeight.τ Cert.DownWeight.sig) → Buf (Elt Bits) ℓ) : Prop :=
  True

def Pre_DownWeightIdeal (m : (ℓ : Loc Cert.DownWeightIdeal.nD Cert.DownWeightIdeal.τ Cert.DownWeightIdeal.sig) → Buf (Elt Ideal) ℓ) : Prop :=
  True

def Pre_DownWeightReferenceIdeal (m : (ℓ : Loc Cert.DownWeightReferenceIdeal.nD Cert.DownWeightReferenceIdeal.τ Cert.DownWeightReferenceIdeal.sig) → Buf (Elt Ideal) ℓ) : Prop :=
  True

def Pre_UpInput (m : (ℓ : Loc Cert.UpInput.nD Cert.UpInput.τ Cert.UpInput.sig) → Buf (Elt Bits) ℓ) : Prop :=
  True

def Pre_UpInputIdeal (m : (ℓ : Loc Cert.UpInputIdeal.nD Cert.UpInputIdeal.τ Cert.UpInputIdeal.sig) → Buf (Elt Ideal) ℓ) : Prop :=
  True

def Pre_UpInputReferenceIdeal (m : (ℓ : Loc Cert.UpInputReferenceIdeal.nD Cert.UpInputReferenceIdeal.τ Cert.UpInputReferenceIdeal.sig) → Buf (Elt Ideal) ℓ) : Prop :=
  True

def Pre_UpInputAdd (m : (ℓ : Loc Cert.UpInputAdd.nD Cert.UpInputAdd.τ Cert.UpInputAdd.sig) → Buf (Elt Bits) ℓ) : Prop :=
  True

def Pre_UpInputAddIdeal (m : (ℓ : Loc Cert.UpInputAddIdeal.nD Cert.UpInputAddIdeal.τ Cert.UpInputAddIdeal.sig) → Buf (Elt Ideal) ℓ) : Prop :=
  True

def Pre_UpInputAddReferenceIdeal (m : (ℓ : Loc Cert.UpInputAddReferenceIdeal.nD Cert.UpInputAddReferenceIdeal.τ Cert.UpInputAddReferenceIdeal.sig) → Buf (Elt Ideal) ℓ) : Prop :=
  True

def Pre_UpWeight (m : (ℓ : Loc Cert.UpWeight.nD Cert.UpWeight.τ Cert.UpWeight.sig) → Buf (Elt Bits) ℓ) : Prop :=
  True

def Pre_UpWeightIdeal (m : (ℓ : Loc Cert.UpWeightIdeal.nD Cert.UpWeightIdeal.τ Cert.UpWeightIdeal.sig) → Buf (Elt Ideal) ℓ) : Prop :=
  True

def Pre_UpWeightReferenceIdeal (m : (ℓ : Loc Cert.UpWeightReferenceIdeal.nD Cert.UpWeightReferenceIdeal.τ Cert.UpWeightReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_OutMixInput (m : (ℓ : Loc Cert.OutMixInput.nD Cert.OutMixInput.τ Cert.OutMixInput.sig) → Buf (Elt Bits) ℓ) : Prop :=
  True

def Pre_OutMixInputIdeal (m : (ℓ : Loc Cert.OutMixInputIdeal.nD Cert.OutMixInputIdeal.τ Cert.OutMixInputIdeal.sig) → Buf (Elt Ideal) ℓ) : Prop :=
  True

def Pre_OutMixInputReferenceIdeal (m : (ℓ : Loc Cert.OutMixInputReferenceIdeal.nD Cert.OutMixInputReferenceIdeal.τ Cert.OutMixInputReferenceIdeal.sig) → Buf (Elt Ideal) ℓ) : Prop :=
  True

def Pre_OutMemInput (m : (ℓ : Loc Cert.OutMemInput.nD Cert.OutMemInput.τ Cert.OutMemInput.sig) → Buf (Elt Bits) ℓ) : Prop :=
  True

def Pre_OutMemInputIdeal (m : (ℓ : Loc Cert.OutMemInputIdeal.nD Cert.OutMemInputIdeal.τ Cert.OutMemInputIdeal.sig) → Buf (Elt Ideal) ℓ) : Prop :=
  True

def Pre_OutMemInputReferenceIdeal (m : (ℓ : Loc Cert.OutMemInputReferenceIdeal.nD Cert.OutMemInputReferenceIdeal.τ Cert.OutMemInputReferenceIdeal.sig) → Buf (Elt Ideal) ℓ) : Prop :=
  True

def Pre_OutMixWeight (m : (ℓ : Loc Cert.OutMixWeight.nD Cert.OutMixWeight.τ Cert.OutMixWeight.sig) → Buf (Elt Bits) ℓ) : Prop :=
  True

def Pre_OutMixWeightIdeal (m : (ℓ : Loc Cert.OutMixWeightIdeal.nD Cert.OutMixWeightIdeal.τ Cert.OutMixWeightIdeal.sig) → Buf (Elt Ideal) ℓ) : Prop :=
  True

def Pre_OutMixWeightReferenceIdeal (m : (ℓ : Loc Cert.OutMixWeightReferenceIdeal.nD Cert.OutMixWeightReferenceIdeal.τ Cert.OutMixWeightReferenceIdeal.sig) → Buf (Elt Ideal) ℓ) : Prop :=
  True

def Pre_OutMemWeight (m : (ℓ : Loc Cert.OutMemWeight.nD Cert.OutMemWeight.τ Cert.OutMemWeight.sig) → Buf (Elt Bits) ℓ) : Prop :=
  True

def Pre_OutMemWeightIdeal (m : (ℓ : Loc Cert.OutMemWeightIdeal.nD Cert.OutMemWeightIdeal.τ Cert.OutMemWeightIdeal.sig) → Buf (Elt Ideal) ℓ) : Prop :=
  True

def Pre_OutMemWeightReferenceIdeal (m : (ℓ : Loc Cert.OutMemWeightReferenceIdeal.nD Cert.OutMemWeightReferenceIdeal.τ Cert.OutMemWeightReferenceIdeal.sig) → Buf (Elt Ideal) ℓ) : Prop :=
  True

def Pre_OutMix (m : (ℓ : Loc Cert.OutMix.nD Cert.OutMix.τ Cert.OutMix.sig) → Buf (Elt Bits) ℓ) : Prop :=
  True

def Pre_OutMixIdeal (m : (ℓ : Loc Cert.OutMixIdeal.nD Cert.OutMixIdeal.τ Cert.OutMixIdeal.sig) → Buf (Elt Ideal) ℓ) : Prop :=
  True

def Pre_OutMixReferenceIdeal (m : (ℓ : Loc Cert.OutMixReferenceIdeal.nD Cert.OutMixReferenceIdeal.τ Cert.OutMixReferenceIdeal.sig) → Buf (Elt Ideal) ℓ) : Prop :=
  True

def Pre_OutMem (m : (ℓ : Loc Cert.OutMem.nD Cert.OutMem.τ Cert.OutMem.sig) → Buf (Elt Bits) ℓ) : Prop :=
  True

def Pre_OutMemIdeal (m : (ℓ : Loc Cert.OutMemIdeal.nD Cert.OutMemIdeal.τ Cert.OutMemIdeal.sig) → Buf (Elt Ideal) ℓ) : Prop :=
  True

def Pre_OutMemReferenceIdeal (m : (ℓ : Loc Cert.OutMemReferenceIdeal.nD Cert.OutMemReferenceIdeal.τ Cert.OutMemReferenceIdeal.sig) → Buf (Elt Ideal) ℓ) : Prop :=
  True

def Pre_InWeight (m : (ℓ : Loc Cert.InWeight.nD Cert.InWeight.τ Cert.InWeight.sig) → Buf (Elt Bits) ℓ) : Prop :=
  True

def Pre_InWeightIdeal (m : (ℓ : Loc Cert.InWeightIdeal.nD Cert.InWeightIdeal.τ Cert.InWeightIdeal.sig) → Buf (Elt Ideal) ℓ) : Prop :=
  True

def Pre_InWeightReferenceIdeal (m : (ℓ : Loc Cert.InWeightReferenceIdeal.nD Cert.InWeightReferenceIdeal.τ Cert.InWeightReferenceIdeal.sig) → Buf (Elt Ideal) ℓ) : Prop :=
  True

def Pre_InMemWeight (m : (ℓ : Loc Cert.InMemWeight.nD Cert.InMemWeight.τ Cert.InMemWeight.sig) → Buf (Elt Bits) ℓ) : Prop :=
  True

def Pre_InMemWeightIdeal (m : (ℓ : Loc Cert.InMemWeightIdeal.nD Cert.InMemWeightIdeal.τ Cert.InMemWeightIdeal.sig) → Buf (Elt Ideal) ℓ) : Prop :=
  True

def Pre_InMemWeightReferenceIdeal (m : (ℓ : Loc Cert.InMemWeightReferenceIdeal.nD Cert.InMemWeightReferenceIdeal.τ Cert.InMemWeightReferenceIdeal.sig) → Buf (Elt Ideal) ℓ) : Prop :=
  True

def Pre_InInput (m : (ℓ : Loc Cert.InInput.nD Cert.InInput.τ Cert.InInput.sig) → Buf (Elt Bits) ℓ) : Prop :=
  True

def Pre_InInputIdeal (m : (ℓ : Loc Cert.InInputIdeal.nD Cert.InInputIdeal.τ Cert.InInputIdeal.sig) → Buf (Elt Ideal) ℓ) : Prop :=
  True

def Pre_InInputReferenceIdeal (m : (ℓ : Loc Cert.InInputReferenceIdeal.nD Cert.InInputReferenceIdeal.τ Cert.InInputReferenceIdeal.sig) → Buf (Elt Ideal) ℓ) : Prop :=
  True

def Pre_InInputAdd (m : (ℓ : Loc Cert.InInputAdd.nD Cert.InInputAdd.τ Cert.InInputAdd.sig) → Buf (Elt Bits) ℓ) : Prop :=
  True

def Pre_InInputAddIdeal (m : (ℓ : Loc Cert.InInputAddIdeal.nD Cert.InInputAddIdeal.τ Cert.InInputAddIdeal.sig) → Buf (Elt Ideal) ℓ) : Prop :=
  True

def Pre_InInputAddReferenceIdeal (m : (ℓ : Loc Cert.InInputAddReferenceIdeal.nD Cert.InInputAddReferenceIdeal.τ Cert.InInputAddReferenceIdeal.sig) → Buf (Elt Ideal) ℓ) : Prop :=
  True

def Pre_InMemInputAdd (m : (ℓ : Loc Cert.InMemInputAdd.nD Cert.InMemInputAdd.τ Cert.InMemInputAdd.sig) → Buf (Elt Bits) ℓ) : Prop :=
  True

def Pre_InMemInputAddIdeal (m : (ℓ : Loc Cert.InMemInputAddIdeal.nD Cert.InMemInputAddIdeal.τ Cert.InMemInputAddIdeal.sig) → Buf (Elt Ideal) ℓ) : Prop :=
  True

def Pre_InMemInputAddReferenceIdeal (m : (ℓ : Loc Cert.InMemInputAddReferenceIdeal.nD Cert.InMemInputAddReferenceIdeal.τ Cert.InMemInputAddReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_InMem (m : (ℓ : Loc Cert.InMem.nD Cert.InMem.τ Cert.InMem.sig) → Buf (Elt Bits) ℓ) : Prop :=
  True

def Pre_InMemIdeal (m : (ℓ : Loc Cert.InMemIdeal.nD Cert.InMemIdeal.τ Cert.InMemIdeal.sig) → Buf (Elt Ideal) ℓ) : Prop :=
  True

def Pre_InMemReferenceIdeal (m : (ℓ : Loc Cert.InMemReferenceIdeal.nD Cert.InMemReferenceIdeal.τ Cert.InMemReferenceIdeal.sig) → Buf (Elt Ideal) ℓ) : Prop :=
  True

def Pre_QkvWeight (m : (ℓ : Loc Cert.QkvWeight.nD Cert.QkvWeight.τ Cert.QkvWeight.sig) → Buf (Elt Bits) ℓ) : Prop :=
  True

def Pre_QkvWeightIdeal (m : (ℓ : Loc Cert.QkvWeightIdeal.nD Cert.QkvWeightIdeal.τ Cert.QkvWeightIdeal.sig) → Buf (Elt Ideal) ℓ) : Prop :=
  True

def Pre_QkvWeightReferenceIdeal (m : (ℓ : Loc Cert.QkvWeightReferenceIdeal.nD Cert.QkvWeightReferenceIdeal.τ Cert.QkvWeightReferenceIdeal.sig) → Buf (Elt Ideal) ℓ) : Prop :=
  True

def Pre_QkvInput (m : (ℓ : Loc Cert.QkvInput.nD Cert.QkvInput.τ Cert.QkvInput.sig) → Buf (Elt Bits) ℓ) : Prop :=
  True

def Pre_QkvInputIdeal (m : (ℓ : Loc Cert.QkvInputIdeal.nD Cert.QkvInputIdeal.τ Cert.QkvInputIdeal.sig) → Buf (Elt Ideal) ℓ) : Prop :=
  True

def Pre_QkvInputReferenceIdeal (m : (ℓ : Loc Cert.QkvInputReferenceIdeal.nD Cert.QkvInputReferenceIdeal.τ Cert.QkvInputReferenceIdeal.sig) → Buf (Elt Ideal) ℓ) : Prop :=
  True

def Pre_QkvInputAdd (m : (ℓ : Loc Cert.QkvInputAdd.nD Cert.QkvInputAdd.τ Cert.QkvInputAdd.sig) → Buf (Elt Bits) ℓ) : Prop :=
  True

def Pre_QkvInputAddIdeal (m : (ℓ : Loc Cert.QkvInputAddIdeal.nD Cert.QkvInputAddIdeal.τ Cert.QkvInputAddIdeal.sig) → Buf (Elt Ideal) ℓ) : Prop :=
  True

def Pre_QkvInputAddReferenceIdeal (m : (ℓ : Loc Cert.QkvInputAddReferenceIdeal.nD Cert.QkvInputAddReferenceIdeal.τ Cert.QkvInputAddReferenceIdeal.sig) → Buf (Elt Ideal) ℓ) : Prop :=
  True

def Pre_GateWeight (m : (ℓ : Loc Cert.GateWeight.nD Cert.GateWeight.τ Cert.GateWeight.sig) → Buf (Elt Bits) ℓ) : Prop :=
  True

def Pre_GateWeightIdeal (m : (ℓ : Loc Cert.GateWeightIdeal.nD Cert.GateWeightIdeal.τ Cert.GateWeightIdeal.sig) → Buf (Elt Ideal) ℓ) : Prop :=
  True

def Pre_GateWeightReferenceIdeal (m : (ℓ : Loc Cert.GateWeightReferenceIdeal.nD Cert.GateWeightReferenceIdeal.τ Cert.GateWeightReferenceIdeal.sig) → Buf (Elt Ideal) ℓ) : Prop :=
  True

def Pre_GateInputAdd (m : (ℓ : Loc Cert.GateInputAdd.nD Cert.GateInputAdd.τ Cert.GateInputAdd.sig) → Buf (Elt Bits) ℓ) : Prop :=
  True

def Pre_GateInputAddIdeal (m : (ℓ : Loc Cert.GateInputAddIdeal.nD Cert.GateInputAddIdeal.τ Cert.GateInputAddIdeal.sig) → Buf (Elt Ideal) ℓ) : Prop :=
  True

def Pre_GateInputAddReferenceIdeal (m : (ℓ : Loc Cert.GateInputAddReferenceIdeal.nD Cert.GateInputAddReferenceIdeal.τ Cert.GateInputAddReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_MemKvWeight (m : (ℓ : Loc Cert.MemKvWeight.nD Cert.MemKvWeight.τ Cert.MemKvWeight.sig) → Buf (Elt Bits) ℓ) : Prop :=
  True

def Pre_MemKvWeightIdeal (m : (ℓ : Loc Cert.MemKvWeightIdeal.nD Cert.MemKvWeightIdeal.τ Cert.MemKvWeightIdeal.sig) → Buf (Elt Ideal) ℓ) : Prop :=
  True

def Pre_MemKvWeightReferenceIdeal (m : (ℓ : Loc Cert.MemKvWeightReferenceIdeal.nD Cert.MemKvWeightReferenceIdeal.τ Cert.MemKvWeightReferenceIdeal.sig) → Buf (Elt Ideal) ℓ) : Prop :=
  True

def Pre_MemKvInput (m : (ℓ : Loc Cert.MemKvInput.nD Cert.MemKvInput.τ Cert.MemKvInput.sig) → Buf (Elt Bits) ℓ) : Prop :=
  True

def Pre_MemKvInputIdeal (m : (ℓ : Loc Cert.MemKvInputIdeal.nD Cert.MemKvInputIdeal.τ Cert.MemKvInputIdeal.sig) → Buf (Elt Ideal) ℓ) : Prop :=
  True

def Pre_MemKvInputReferenceIdeal (m : (ℓ : Loc Cert.MemKvInputReferenceIdeal.nD Cert.MemKvInputReferenceIdeal.τ Cert.MemKvInputReferenceIdeal.sig) → Buf (Elt Ideal) ℓ) : Prop :=
  True

def Pre_MemKvInputAdd (m : (ℓ : Loc Cert.MemKvInputAdd.nD Cert.MemKvInputAdd.τ Cert.MemKvInputAdd.sig) → Buf (Elt Bits) ℓ) : Prop :=
  True

def Pre_MemKvInputAddIdeal (m : (ℓ : Loc Cert.MemKvInputAddIdeal.nD Cert.MemKvInputAddIdeal.τ Cert.MemKvInputAddIdeal.sig) → Buf (Elt Ideal) ℓ) : Prop :=
  True

def Pre_MemKvInputAddReferenceIdeal (m : (ℓ : Loc Cert.MemKvInputAddReferenceIdeal.nD Cert.MemKvInputAddReferenceIdeal.τ Cert.MemKvInputAddReferenceIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvReferenceIdeal (m : (ℓ : Loc Cert.MemKvReferenceIdeal.nD Cert.MemKvReferenceIdeal.τ Cert.MemKvReferenceIdeal.sig) → Buf (Elt Ideal) ℓ) : Prop :=
  True

def Pre_AdamNorms (m : (ℓ : Loc Cert.AdamNorms.nD Cert.AdamNorms.τ Cert.AdamNorms.sig) → Buf (Elt Bits) ℓ) : Prop :=
  True

def Pre_AdamNormsIdeal (m : (ℓ : Loc Cert.AdamNormsIdeal.nD Cert.AdamNormsIdeal.τ Cert.AdamNormsIdeal.sig) → Buf (Elt Ideal) ℓ) : Prop :=
  True

def Pre_AdamNormsReferenceIdeal (m : (ℓ : Loc Cert.AdamNormsReferenceIdeal.nD Cert.AdamNormsReferenceIdeal.τ Cert.AdamNormsReferenceIdeal.sig) → Buf (Elt Ideal) ℓ) : Prop :=
  True

def Pre_AdamInA (m : (ℓ : Loc Cert.AdamInA.nD Cert.AdamInA.τ Cert.AdamInA.sig) → Buf (Elt Bits) ℓ) : Prop :=
  True

def Pre_AdamInAIdeal (m : (ℓ : Loc Cert.AdamInAIdeal.nD Cert.AdamInAIdeal.τ Cert.AdamInAIdeal.sig) → Buf (Elt Ideal) ℓ) : Prop :=
  True

def Pre_AdamInAReferenceIdeal (m : (ℓ : Loc Cert.AdamInAReferenceIdeal.nD Cert.AdamInAReferenceIdeal.τ Cert.AdamInAReferenceIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluReferenceIdeal (m : (ℓ : Loc Cert.AdamGluReferenceIdeal.nD Cert.AdamGluReferenceIdeal.τ Cert.AdamGluReferenceIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvReferenceIdeal (m : (ℓ : Loc Cert.AdamConvReferenceIdeal.nD Cert.AdamConvReferenceIdeal.τ Cert.AdamConvReferenceIdeal.sig) → Buf (Elt Ideal) ℓ) : Prop :=
  True

def Pre_AdamChannels (m : (ℓ : Loc Cert.AdamChannels.nD Cert.AdamChannels.τ Cert.AdamChannels.sig) → Buf (Elt Bits) ℓ) : Prop :=
  True

def Pre_AdamChannelsIdeal (m : (ℓ : Loc Cert.AdamChannelsIdeal.nD Cert.AdamChannelsIdeal.τ Cert.AdamChannelsIdeal.sig) → Buf (Elt Ideal) ℓ) : Prop :=
  True

def Pre_AdamChannelsReferenceIdeal (m : (ℓ : Loc Cert.AdamChannelsReferenceIdeal.nD Cert.AdamChannelsReferenceIdeal.τ Cert.AdamChannelsReferenceIdeal.sig) → Buf (Elt Ideal) ℓ) : Prop :=
  True

def Pre_AdamGain (m : (ℓ : Loc Cert.AdamGain.nD Cert.AdamGain.τ Cert.AdamGain.sig) → Buf (Elt Bits) ℓ) : Prop :=
  True

def Pre_AdamGainIdeal (m : (ℓ : Loc Cert.AdamGainIdeal.nD Cert.AdamGainIdeal.τ Cert.AdamGainIdeal.sig) → Buf (Elt Ideal) ℓ) : Prop :=
  True

def Pre_AdamGainReferenceIdeal (m : (ℓ : Loc Cert.AdamGainReferenceIdeal.nD Cert.AdamGainReferenceIdeal.τ Cert.AdamGainReferenceIdeal.sig) → Buf (Elt Ideal) ℓ) : Prop :=
  True

def Pre_AdamKvf (m : (ℓ : Loc Cert.AdamKvf.nD Cert.AdamKvf.τ Cert.AdamKvf.sig) → Buf (Elt Bits) ℓ) : Prop :=
  True

def Pre_AdamKvfIdeal (m : (ℓ : Loc Cert.AdamKvfIdeal.nD Cert.AdamKvfIdeal.τ Cert.AdamKvfIdeal.sig) → Buf (Elt Ideal) ℓ) : Prop :=
  True

def Pre_AdamKvfReferenceIdeal (m : (ℓ : Loc Cert.AdamKvfReferenceIdeal.nD Cert.AdamKvfReferenceIdeal.τ Cert.AdamKvfReferenceIdeal.sig) → Buf (Elt Ideal) ℓ) : Prop :=
  True

def Pre_AdamForget (m : (ℓ : Loc Cert.AdamForget.nD Cert.AdamForget.τ Cert.AdamForget.sig) → Buf (Elt Bits) ℓ) : Prop :=
  True

def Pre_AdamForgetIdeal (m : (ℓ : Loc Cert.AdamForgetIdeal.nD Cert.AdamForgetIdeal.τ Cert.AdamForgetIdeal.sig) → Buf (Elt Ideal) ℓ) : Prop :=
  True

def Pre_AdamForgetReferenceIdeal (m : (ℓ : Loc Cert.AdamForgetReferenceIdeal.nD Cert.AdamForgetReferenceIdeal.τ Cert.AdamForgetReferenceIdeal.sig) → Buf (Elt Ideal) ℓ) : Prop :=
  True

def Pre_AdamInB (m : (ℓ : Loc Cert.AdamInB.nD Cert.AdamInB.τ Cert.AdamInB.sig) → Buf (Elt Bits) ℓ) : Prop :=
  True

def Pre_AdamInBIdeal (m : (ℓ : Loc Cert.AdamInBIdeal.nD Cert.AdamInBIdeal.τ Cert.AdamInBIdeal.sig) → Buf (Elt Ideal) ℓ) : Prop :=
  True

def Pre_AdamInBReferenceIdeal (m : (ℓ : Loc Cert.AdamInBReferenceIdeal.nD Cert.AdamInBReferenceIdeal.τ Cert.AdamInBReferenceIdeal.sig) → Buf (Elt Ideal) ℓ) : Prop :=
  True

def Pre_AdamMemKv (m : (ℓ : Loc Cert.AdamMemKv.nD Cert.AdamMemKv.τ Cert.AdamMemKv.sig) → Buf (Elt Bits) ℓ) : Prop :=
  True

def Pre_AdamMemKvIdeal (m : (ℓ : Loc Cert.AdamMemKvIdeal.nD Cert.AdamMemKvIdeal.τ Cert.AdamMemKvIdeal.sig) → Buf (Elt Ideal) ℓ) : Prop :=
  True

def Pre_AdamMemKvReferenceIdeal (m : (ℓ : Loc Cert.AdamMemKvReferenceIdeal.nD Cert.AdamMemKvReferenceIdeal.τ Cert.AdamMemKvReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpReferenceIdeal (m : (ℓ : Loc Cert.AdamUpReferenceIdeal.nD Cert.AdamUpReferenceIdeal.τ Cert.AdamUpReferenceIdeal.sig) → Buf (Elt Ideal) ℓ) : Prop :=
  True

def Pre_AdamFfnConv (m : (ℓ : Loc Cert.AdamFfnConv.nD Cert.AdamFfnConv.τ Cert.AdamFfnConv.sig) → Buf (Elt Bits) ℓ) : Prop :=
  True

def Pre_AdamFfnConvIdeal (m : (ℓ : Loc Cert.AdamFfnConvIdeal.nD Cert.AdamFfnConvIdeal.τ Cert.AdamFfnConvIdeal.sig) → Buf (Elt Ideal) ℓ) : Prop :=
  True

def Pre_AdamFfnConvReferenceIdeal (m : (ℓ : Loc Cert.AdamFfnConvReferenceIdeal.nD Cert.AdamFfnConvReferenceIdeal.τ Cert.AdamFfnConvReferenceIdeal.sig) → Buf (Elt Ideal) ℓ) : Prop :=
  True

def Pre_AdamFfnBias (m : (ℓ : Loc Cert.AdamFfnBias.nD Cert.AdamFfnBias.τ Cert.AdamFfnBias.sig) → Buf (Elt Bits) ℓ) : Prop :=
  True

def Pre_AdamFfnBiasIdeal (m : (ℓ : Loc Cert.AdamFfnBiasIdeal.nD Cert.AdamFfnBiasIdeal.τ Cert.AdamFfnBiasIdeal.sig) → Buf (Elt Ideal) ℓ) : Prop :=
  True

def Pre_AdamFfnBiasReferenceIdeal (m : (ℓ : Loc Cert.AdamFfnBiasReferenceIdeal.nD Cert.AdamFfnBiasReferenceIdeal.τ Cert.AdamFfnBiasReferenceIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownReferenceIdeal (m : (ℓ : Loc Cert.AdamDownReferenceIdeal.nD Cert.AdamDownReferenceIdeal.τ Cert.AdamDownReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_Kernel_pre_finite [hKernel : Cert.Kernel.Facts] [hPre_finite : Cert.Pre_finite.Facts] : Prop :=
  ∀ (m : (ℓ : Loc Cert.Kernel.nD Cert.Kernel.τ Cert.Kernel.sig) → Buf (Elt Bits) ℓ) (g : Dev Cert.Kernel.nD → PrngReg), Pre_Kernel_finite m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_DownHidden [hDownHidden : Cert.DownHidden.Facts] : Prop :=
  ∀ (m : (ℓ : Loc Cert.DownHidden.nD Cert.DownHidden.τ Cert.DownHidden.sig) → Buf (Elt Bits) ℓ) (g : Dev Cert.DownHidden.nD → PrngReg), Pre_DownHidden m →
    θ_run (Cert.DownHidden.defs (F := Bits)) (onTc (τ := Cert.DownHidden.τ) (Cert.DownHidden.main (F := Bits))) ⟨m, fun _ => 0, g⟩ (fun r => (∀ c : Dev Cert.DownHidden.nD,
      r.2.mem ((c.tc : Thread Cert.DownHidden.nD Cert.DownHidden.τ).loc Cert.DownHidden.main_arg0) = m ((c.tc : Thread Cert.DownHidden.nD Cert.DownHidden.τ).loc Cert.DownHidden.main_arg0)
      ∧ r.2.mem ((c.tc : Thread Cert.DownHidden.nD Cert.DownHidden.τ).loc Cert.DownHidden.main_arg1) = m ((c.tc : Thread Cert.DownHidden.nD Cert.DownHidden.τ).loc Cert.DownHidden.main_arg1))
      ∧ r.2.sem = fun _ => 0)

def quiescent_DownHiddenIdeal [hDownHiddenIdeal : Cert.DownHiddenIdeal.Facts] : Prop :=
  ∀ (m : (ℓ : Loc Cert.DownHiddenIdeal.nD Cert.DownHiddenIdeal.τ Cert.DownHiddenIdeal.sig) → Buf (Elt Ideal) ℓ) (g : Dev Cert.DownHiddenIdeal.nD → PrngReg), Pre_DownHiddenIdeal m →
    θ_run (Cert.DownHiddenIdeal.defs (F := Ideal)) (onTc (τ := Cert.DownHiddenIdeal.τ) (Cert.DownHiddenIdeal.main (F := Ideal))) ⟨m, fun _ => 0, g⟩ (fun r => (∀ c : Dev Cert.DownHiddenIdeal.nD,
      r.2.mem ((c.tc : Thread Cert.DownHiddenIdeal.nD Cert.DownHiddenIdeal.τ).loc Cert.DownHiddenIdeal.main_arg0) = m ((c.tc : Thread Cert.DownHiddenIdeal.nD Cert.DownHiddenIdeal.τ).loc Cert.DownHiddenIdeal.main_arg0)
      ∧ r.2.mem ((c.tc : Thread Cert.DownHiddenIdeal.nD Cert.DownHiddenIdeal.τ).loc Cert.DownHiddenIdeal.main_arg1) = m ((c.tc : Thread Cert.DownHiddenIdeal.nD Cert.DownHiddenIdeal.τ).loc Cert.DownHiddenIdeal.main_arg1))
      ∧ r.2.sem = fun _ => 0)

def quiescent_DownHiddenReferenceIdeal [hDownHiddenReferenceIdeal : Cert.DownHiddenReferenceIdeal.Facts] : Prop :=
  ∀ (m : (ℓ : Loc Cert.DownHiddenReferenceIdeal.nD Cert.DownHiddenReferenceIdeal.τ Cert.DownHiddenReferenceIdeal.sig) → Buf (Elt Ideal) ℓ) (g : Dev Cert.DownHiddenReferenceIdeal.nD → PrngReg), Pre_DownHiddenReferenceIdeal m →
    θ_run (Cert.DownHiddenReferenceIdeal.defs (F := Ideal)) (onTc (τ := Cert.DownHiddenReferenceIdeal.τ) (Cert.DownHiddenReferenceIdeal.main (F := Ideal))) ⟨m, fun _ => 0, g⟩ (fun r => (∀ c : Dev Cert.DownHiddenReferenceIdeal.nD,
      r.2.mem ((c.tc : Thread Cert.DownHiddenReferenceIdeal.nD Cert.DownHiddenReferenceIdeal.τ).loc Cert.DownHiddenReferenceIdeal.main_arg0) = m ((c.tc : Thread Cert.DownHiddenReferenceIdeal.nD Cert.DownHiddenReferenceIdeal.τ).loc Cert.DownHiddenReferenceIdeal.main_arg0)
      ∧ r.2.mem ((c.tc : Thread Cert.DownHiddenReferenceIdeal.nD Cert.DownHiddenReferenceIdeal.τ).loc Cert.DownHiddenReferenceIdeal.main_arg1) = m ((c.tc : Thread Cert.DownHiddenReferenceIdeal.nD Cert.DownHiddenReferenceIdeal.τ).loc Cert.DownHiddenReferenceIdeal.main_arg1))
      ∧ r.2.sem = fun _ => 0)

def quiescent_DownWeight [hDownWeight : Cert.DownWeight.Facts] : Prop :=
  ∀ (m : (ℓ : Loc Cert.DownWeight.nD Cert.DownWeight.τ Cert.DownWeight.sig) → Buf (Elt Bits) ℓ) (g : Dev Cert.DownWeight.nD → PrngReg), Pre_DownWeight m →
    θ_run (Cert.DownWeight.defs (F := Bits)) (onTc (τ := Cert.DownWeight.τ) (Cert.DownWeight.main (F := Bits))) ⟨m, fun _ => 0, g⟩ (fun r => (∀ c : Dev Cert.DownWeight.nD,
      r.2.mem ((c.tc : Thread Cert.DownWeight.nD Cert.DownWeight.τ).loc Cert.DownWeight.main_arg0) = m ((c.tc : Thread Cert.DownWeight.nD Cert.DownWeight.τ).loc Cert.DownWeight.main_arg0)
      ∧ r.2.mem ((c.tc : Thread Cert.DownWeight.nD Cert.DownWeight.τ).loc Cert.DownWeight.main_arg1) = m ((c.tc : Thread Cert.DownWeight.nD Cert.DownWeight.τ).loc Cert.DownWeight.main_arg1))
      ∧ r.2.sem = fun _ => 0)

def quiescent_DownWeightIdeal [hDownWeightIdeal : Cert.DownWeightIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg), Pre_DownWeightIdeal m →
    θ_run (Cert.DownWeightIdeal.defs (F := Ideal)) (onTc (τ := Cert.DownWeightIdeal.τ) (Cert.DownWeightIdeal.main (F := Ideal))) ⟨m, fun _ => 0, g⟩ (fun r => (∀ c : Dev Cert.DownWeightIdeal.nD,
      r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
      ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1))
      ∧ r.2.sem = fun _ => 0)

def quiescent_DownWeightReferenceIdeal [hDownWeightReferenceIdeal : Cert.DownWeightReferenceIdeal.Facts] : Prop :=
  ∀ (m : (ℓ : Loc Cert.DownWeightReferenceIdeal.nD Cert.DownWeightReferenceIdeal.τ Cert.DownWeightReferenceIdeal.sig) → Buf (Elt Ideal) ℓ) (g : Dev Cert.DownWeightReferenceIdeal.nD → PrngReg), Pre_DownWeightReferenceIdeal m →
    θ_run (Cert.DownWeightReferenceIdeal.defs (F := Ideal)) (onTc (τ := Cert.DownWeightReferenceIdeal.τ) (Cert.DownWeightReferenceIdeal.main (F := Ideal))) ⟨m, fun _ => 0, g⟩ (fun r => (∀ c : Dev Cert.DownWeightReferenceIdeal.nD,
      r.2.mem ((c.tc : Thread Cert.DownWeightReferenceIdeal.nD Cert.DownWeightReferenceIdeal.τ).loc Cert.DownWeightReferenceIdeal.main_arg0) = m ((c.tc : Thread Cert.DownWeightReferenceIdeal.nD Cert.DownWeightReferenceIdeal.τ).loc Cert.DownWeightReferenceIdeal.main_arg0)
      ∧ r.2.mem ((c.tc : Thread Cert.DownWeightReferenceIdeal.nD Cert.DownWeightReferenceIdeal.τ).loc Cert.DownWeightReferenceIdeal.main_arg1) = m ((c.tc : Thread Cert.DownWeightReferenceIdeal.nD Cert.DownWeightReferenceIdeal.τ).loc Cert.DownWeightReferenceIdeal.main_arg1))
      ∧ r.2.sem = fun _ => 0)

def quiescent_UpInput [hUpInput : Cert.UpInput.Facts] : Prop :=
  ∀ (m : (ℓ : Loc Cert.UpInput.nD Cert.UpInput.τ Cert.UpInput.sig) → Buf (Elt Bits) ℓ) (g : Dev Cert.UpInput.nD → PrngReg), Pre_UpInput m →
    θ_run (Cert.UpInput.defs (F := Bits)) (onTc (τ := Cert.UpInput.τ) (Cert.UpInput.main (F := Bits))) ⟨m, fun _ => 0, g⟩ (fun r => (∀ c : Dev Cert.UpInput.nD,
      r.2.mem ((c.tc : Thread Cert.UpInput.nD Cert.UpInput.τ).loc Cert.UpInput.main_arg0) = m ((c.tc : Thread Cert.UpInput.nD Cert.UpInput.τ).loc Cert.UpInput.main_arg0)
      ∧ r.2.mem ((c.tc : Thread Cert.UpInput.nD Cert.UpInput.τ).loc Cert.UpInput.main_arg1) = m ((c.tc : Thread Cert.UpInput.nD Cert.UpInput.τ).loc Cert.UpInput.main_arg1))
      ∧ r.2.sem = fun _ => 0)

def quiescent_UpInputIdeal [hUpInputIdeal : Cert.UpInputIdeal.Facts] : Prop :=
  ∀ (m : (ℓ : Loc Cert.UpInputIdeal.nD Cert.UpInputIdeal.τ Cert.UpInputIdeal.sig) → Buf (Elt Ideal) ℓ) (g : Dev Cert.UpInputIdeal.nD → PrngReg), Pre_UpInputIdeal m →
    θ_run (Cert.UpInputIdeal.defs (F := Ideal)) (onTc (τ := Cert.UpInputIdeal.τ) (Cert.UpInputIdeal.main (F := Ideal))) ⟨m, fun _ => 0, g⟩ (fun r => (∀ c : Dev Cert.UpInputIdeal.nD,
      r.2.mem ((c.tc : Thread Cert.UpInputIdeal.nD Cert.UpInputIdeal.τ).loc Cert.UpInputIdeal.main_arg0) = m ((c.tc : Thread Cert.UpInputIdeal.nD Cert.UpInputIdeal.τ).loc Cert.UpInputIdeal.main_arg0)
      ∧ r.2.mem ((c.tc : Thread Cert.UpInputIdeal.nD Cert.UpInputIdeal.τ).loc Cert.UpInputIdeal.main_arg1) = m ((c.tc : Thread Cert.UpInputIdeal.nD Cert.UpInputIdeal.τ).loc Cert.UpInputIdeal.main_arg1))
      ∧ r.2.sem = fun _ => 0)

def quiescent_UpInputReferenceIdeal [hUpInputReferenceIdeal : Cert.UpInputReferenceIdeal.Facts] : Prop :=
  ∀ (m : (ℓ : Loc Cert.UpInputReferenceIdeal.nD Cert.UpInputReferenceIdeal.τ Cert.UpInputReferenceIdeal.sig) → Buf (Elt Ideal) ℓ) (g : Dev Cert.UpInputReferenceIdeal.nD → PrngReg), Pre_UpInputReferenceIdeal m →
    θ_run (Cert.UpInputReferenceIdeal.defs (F := Ideal)) (onTc (τ := Cert.UpInputReferenceIdeal.τ) (Cert.UpInputReferenceIdeal.main (F := Ideal))) ⟨m, fun _ => 0, g⟩ (fun r => (∀ c : Dev Cert.UpInputReferenceIdeal.nD,
      r.2.mem ((c.tc : Thread Cert.UpInputReferenceIdeal.nD Cert.UpInputReferenceIdeal.τ).loc Cert.UpInputReferenceIdeal.main_arg0) = m ((c.tc : Thread Cert.UpInputReferenceIdeal.nD Cert.UpInputReferenceIdeal.τ).loc Cert.UpInputReferenceIdeal.main_arg0)
      ∧ r.2.mem ((c.tc : Thread Cert.UpInputReferenceIdeal.nD Cert.UpInputReferenceIdeal.τ).loc Cert.UpInputReferenceIdeal.main_arg1) = m ((c.tc : Thread Cert.UpInputReferenceIdeal.nD Cert.UpInputReferenceIdeal.τ).loc Cert.UpInputReferenceIdeal.main_arg1))
      ∧ r.2.sem = fun _ => 0)

def quiescent_UpInputAdd [hUpInputAdd : Cert.UpInputAdd.Facts] : Prop :=
  ∀ (m : (ℓ : Loc Cert.UpInputAdd.nD Cert.UpInputAdd.τ Cert.UpInputAdd.sig) → Buf (Elt Bits) ℓ) (g : Dev Cert.UpInputAdd.nD → PrngReg), Pre_UpInputAdd m →
    θ_run (Cert.UpInputAdd.defs (F := Bits)) (onTc (τ := Cert.UpInputAdd.τ) (Cert.UpInputAdd.main (F := Bits))) ⟨m, fun _ => 0, g⟩ (fun r => (∀ c : Dev Cert.UpInputAdd.nD,
      r.2.mem ((c.tc : Thread Cert.UpInputAdd.nD Cert.UpInputAdd.τ).loc Cert.UpInputAdd.main_arg0) = m ((c.tc : Thread Cert.UpInputAdd.nD Cert.UpInputAdd.τ).loc Cert.UpInputAdd.main_arg0)
      ∧ r.2.mem ((c.tc : Thread Cert.UpInputAdd.nD Cert.UpInputAdd.τ).loc Cert.UpInputAdd.main_arg1) = m ((c.tc : Thread Cert.UpInputAdd.nD Cert.UpInputAdd.τ).loc Cert.UpInputAdd.main_arg1)
      ∧ r.2.mem ((c.tc : Thread Cert.UpInputAdd.nD Cert.UpInputAdd.τ).loc Cert.UpInputAdd.main_arg2) = m ((c.tc : Thread Cert.UpInputAdd.nD Cert.UpInputAdd.τ).loc Cert.UpInputAdd.main_arg2))
      ∧ r.2.sem = fun _ => 0)

def quiescent_UpInputAddIdeal [hUpInputAddIdeal : Cert.UpInputAddIdeal.Facts] : Prop :=
  ∀ (m : (ℓ : Loc Cert.UpInputAddIdeal.nD Cert.UpInputAddIdeal.τ Cert.UpInputAddIdeal.sig) → Buf (Elt Ideal) ℓ) (g : Dev Cert.UpInputAddIdeal.nD → PrngReg), Pre_UpInputAddIdeal m →
    θ_run (Cert.UpInputAddIdeal.defs (F := Ideal)) (onTc (τ := Cert.UpInputAddIdeal.τ) (Cert.UpInputAddIdeal.main (F := Ideal))) ⟨m, fun _ => 0, g⟩ (fun r => (∀ c : Dev Cert.UpInputAddIdeal.nD,
      r.2.mem ((c.tc : Thread Cert.UpInputAddIdeal.nD Cert.UpInputAddIdeal.τ).loc Cert.UpInputAddIdeal.main_arg0) = m ((c.tc : Thread Cert.UpInputAddIdeal.nD Cert.UpInputAddIdeal.τ).loc Cert.UpInputAddIdeal.main_arg0)
      ∧ r.2.mem ((c.tc : Thread Cert.UpInputAddIdeal.nD Cert.UpInputAddIdeal.τ).loc Cert.UpInputAddIdeal.main_arg1) = m ((c.tc : Thread Cert.UpInputAddIdeal.nD Cert.UpInputAddIdeal.τ).loc Cert.UpInputAddIdeal.main_arg1)
      ∧ r.2.mem ((c.tc : Thread Cert.UpInputAddIdeal.nD Cert.UpInputAddIdeal.τ).loc Cert.UpInputAddIdeal.main_arg2) = m ((c.tc : Thread Cert.UpInputAddIdeal.nD Cert.UpInputAddIdeal.τ).loc Cert.UpInputAddIdeal.main_arg2))
      ∧ r.2.sem = fun _ => 0)

def quiescent_UpInputAddReferenceIdeal [hUpInputAddReferenceIdeal : Cert.UpInputAddReferenceIdeal.Facts] : Prop :=
  ∀ (m : (ℓ : Loc Cert.UpInputAddReferenceIdeal.nD Cert.UpInputAddReferenceIdeal.τ Cert.UpInputAddReferenceIdeal.sig) → Buf (Elt Ideal) ℓ) (g : Dev Cert.UpInputAddReferenceIdeal.nD → PrngReg), Pre_UpInputAddReferenceIdeal m →
    θ_run (Cert.UpInputAddReferenceIdeal.defs (F := Ideal)) (onTc (τ := Cert.UpInputAddReferenceIdeal.τ) (Cert.UpInputAddReferenceIdeal.main (F := Ideal))) ⟨m, fun _ => 0, g⟩ (fun r => (∀ c : Dev Cert.UpInputAddReferenceIdeal.nD,
      r.2.mem ((c.tc : Thread Cert.UpInputAddReferenceIdeal.nD Cert.UpInputAddReferenceIdeal.τ).loc Cert.UpInputAddReferenceIdeal.main_arg0) = m ((c.tc : Thread Cert.UpInputAddReferenceIdeal.nD Cert.UpInputAddReferenceIdeal.τ).loc Cert.UpInputAddReferenceIdeal.main_arg0)
      ∧ r.2.mem ((c.tc : Thread Cert.UpInputAddReferenceIdeal.nD Cert.UpInputAddReferenceIdeal.τ).loc Cert.UpInputAddReferenceIdeal.main_arg1) = m ((c.tc : Thread Cert.UpInputAddReferenceIdeal.nD Cert.UpInputAddReferenceIdeal.τ).loc Cert.UpInputAddReferenceIdeal.main_arg1)
      ∧ r.2.mem ((c.tc : Thread Cert.UpInputAddReferenceIdeal.nD Cert.UpInputAddReferenceIdeal.τ).loc Cert.UpInputAddReferenceIdeal.main_arg2) = m ((c.tc : Thread Cert.UpInputAddReferenceIdeal.nD Cert.UpInputAddReferenceIdeal.τ).loc Cert.UpInputAddReferenceIdeal.main_arg2))
      ∧ r.2.sem = fun _ => 0)

def quiescent_UpWeight [hUpWeight : Cert.UpWeight.Facts] : Prop :=
  ∀ (m : (ℓ : Loc Cert.UpWeight.nD Cert.UpWeight.τ Cert.UpWeight.sig) → Buf (Elt Bits) ℓ) (g : Dev Cert.UpWeight.nD → PrngReg), Pre_UpWeight m →
    θ_run (Cert.UpWeight.defs (F := Bits)) (onTc (τ := Cert.UpWeight.τ) (Cert.UpWeight.main (F := Bits))) ⟨m, fun _ => 0, g⟩ (fun r => (∀ c : Dev Cert.UpWeight.nD,
      r.2.mem ((c.tc : Thread Cert.UpWeight.nD Cert.UpWeight.τ).loc Cert.UpWeight.main_arg0) = m ((c.tc : Thread Cert.UpWeight.nD Cert.UpWeight.τ).loc Cert.UpWeight.main_arg0)
      ∧ r.2.mem ((c.tc : Thread Cert.UpWeight.nD Cert.UpWeight.τ).loc Cert.UpWeight.main_arg1) = m ((c.tc : Thread Cert.UpWeight.nD Cert.UpWeight.τ).loc Cert.UpWeight.main_arg1))
      ∧ r.2.sem = fun _ => 0)

def quiescent_UpWeightIdeal [hUpWeightIdeal : Cert.UpWeightIdeal.Facts] : Prop :=
  ∀ (m : (ℓ : Loc Cert.UpWeightIdeal.nD Cert.UpWeightIdeal.τ Cert.UpWeightIdeal.sig) → Buf (Elt Ideal) ℓ) (g : Dev Cert.UpWeightIdeal.nD → PrngReg), Pre_UpWeightIdeal m →
    θ_run (Cert.UpWeightIdeal.defs (F := Ideal)) (onTc (τ := Cert.UpWeightIdeal.τ) (Cert.UpWeightIdeal.main (F := Ideal))) ⟨m, fun _ => 0, g⟩ (fun r => (∀ c : Dev Cert.UpWeightIdeal.nD,
      r.2.mem ((c.tc : Thread Cert.UpWeightIdeal.nD Cert.UpWeightIdeal.τ).loc Cert.UpWeightIdeal.main_arg0) = m ((c.tc : Thread Cert.UpWeightIdeal.nD Cert.UpWeightIdeal.τ).loc Cert.UpWeightIdeal.main_arg0)
      ∧ r.2.mem ((c.tc : Thread Cert.UpWeightIdeal.nD Cert.UpWeightIdeal.τ).loc Cert.UpWeightIdeal.main_arg1) = m ((c.tc : Thread Cert.UpWeightIdeal.nD Cert.UpWeightIdeal.τ).loc Cert.UpWeightIdeal.main_arg1))
      ∧ r.2.sem = fun _ => 0)

def quiescent_UpWeightReferenceIdeal [hUpWeightReferenceIdeal : Cert.UpWeightReferenceIdeal.Facts] : Prop :=
  ∀ (m : (ℓ : Loc Cert.UpWeightReferenceIdeal.nD Cert.UpWeightReferenceIdeal.τ Cert.UpWeightReferenceIdeal.sig) → Buf (Elt Ideal) ℓ) (g : Dev Cert.UpWeightReferenceIdeal.nD → PrngReg), Pre_UpWeightReferenceIdeal m →
    θ_run (Cert.UpWeightReferenceIdeal.defs (F := Ideal)) (onTc (τ := Cert.UpWeightReferenceIdeal.τ) (Cert.UpWeightReferenceIdeal.main (F := Ideal))) ⟨m, fun _ => 0, g⟩ (fun r => (∀ c : Dev Cert.UpWeightReferenceIdeal.nD,
      r.2.mem ((c.tc : Thread Cert.UpWeightReferenceIdeal.nD Cert.UpWeightReferenceIdeal.τ).loc Cert.UpWeightReferenceIdeal.main_arg0) = m ((c.tc : Thread Cert.UpWeightReferenceIdeal.nD Cert.UpWeightReferenceIdeal.τ).loc Cert.UpWeightReferenceIdeal.main_arg0)
      ∧ r.2.mem ((c.tc : Thread Cert.UpWeightReferenceIdeal.nD Cert.UpWeightReferenceIdeal.τ).loc Cert.UpWeightReferenceIdeal.main_arg1) = m ((c.tc : Thread Cert.UpWeightReferenceIdeal.nD Cert.UpWeightReferenceIdeal.τ).loc Cert.UpWeightReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_OutMixInput [hOutMixInput : Cert.OutMixInput.Facts] : Prop :=
  ∀ (m : (ℓ : Loc Cert.OutMixInput.nD Cert.OutMixInput.τ Cert.OutMixInput.sig) → Buf (Elt Bits) ℓ) (g : Dev Cert.OutMixInput.nD → PrngReg), Pre_OutMixInput m →
    θ_run (Cert.OutMixInput.defs (F := Bits)) (onTc (τ := Cert.OutMixInput.τ) (Cert.OutMixInput.main (F := Bits))) ⟨m, fun _ => 0, g⟩ (fun r => (∀ c : Dev Cert.OutMixInput.nD,
      r.2.mem ((c.tc : Thread Cert.OutMixInput.nD Cert.OutMixInput.τ).loc Cert.OutMixInput.main_arg0) = m ((c.tc : Thread Cert.OutMixInput.nD Cert.OutMixInput.τ).loc Cert.OutMixInput.main_arg0)
      ∧ r.2.mem ((c.tc : Thread Cert.OutMixInput.nD Cert.OutMixInput.τ).loc Cert.OutMixInput.main_arg1) = m ((c.tc : Thread Cert.OutMixInput.nD Cert.OutMixInput.τ).loc Cert.OutMixInput.main_arg1))
      ∧ r.2.sem = fun _ => 0)

def quiescent_OutMixInputIdeal [hOutMixInputIdeal : Cert.OutMixInputIdeal.Facts] : Prop :=
  ∀ (m : (ℓ : Loc Cert.OutMixInputIdeal.nD Cert.OutMixInputIdeal.τ Cert.OutMixInputIdeal.sig) → Buf (Elt Ideal) ℓ) (g : Dev Cert.OutMixInputIdeal.nD → PrngReg), Pre_OutMixInputIdeal m →
    θ_run (Cert.OutMixInputIdeal.defs (F := Ideal)) (onTc (τ := Cert.OutMixInputIdeal.τ) (Cert.OutMixInputIdeal.main (F := Ideal))) ⟨m, fun _ => 0, g⟩ (fun r => (∀ c : Dev Cert.OutMixInputIdeal.nD,
      r.2.mem ((c.tc : Thread Cert.OutMixInputIdeal.nD Cert.OutMixInputIdeal.τ).loc Cert.OutMixInputIdeal.main_arg0) = m ((c.tc : Thread Cert.OutMixInputIdeal.nD Cert.OutMixInputIdeal.τ).loc Cert.OutMixInputIdeal.main_arg0)
      ∧ r.2.mem ((c.tc : Thread Cert.OutMixInputIdeal.nD Cert.OutMixInputIdeal.τ).loc Cert.OutMixInputIdeal.main_arg1) = m ((c.tc : Thread Cert.OutMixInputIdeal.nD Cert.OutMixInputIdeal.τ).loc Cert.OutMixInputIdeal.main_arg1))
      ∧ r.2.sem = fun _ => 0)

def quiescent_OutMixInputReferenceIdeal [hOutMixInputReferenceIdeal : Cert.OutMixInputReferenceIdeal.Facts] : Prop :=
  ∀ (m : (ℓ : Loc Cert.OutMixInputReferenceIdeal.nD Cert.OutMixInputReferenceIdeal.τ Cert.OutMixInputReferenceIdeal.sig) → Buf (Elt Ideal) ℓ) (g : Dev Cert.OutMixInputReferenceIdeal.nD → PrngReg), Pre_OutMixInputReferenceIdeal m →
    θ_run (Cert.OutMixInputReferenceIdeal.defs (F := Ideal)) (onTc (τ := Cert.OutMixInputReferenceIdeal.τ) (Cert.OutMixInputReferenceIdeal.main (F := Ideal))) ⟨m, fun _ => 0, g⟩ (fun r => (∀ c : Dev Cert.OutMixInputReferenceIdeal.nD,
      r.2.mem ((c.tc : Thread Cert.OutMixInputReferenceIdeal.nD Cert.OutMixInputReferenceIdeal.τ).loc Cert.OutMixInputReferenceIdeal.main_arg0) = m ((c.tc : Thread Cert.OutMixInputReferenceIdeal.nD Cert.OutMixInputReferenceIdeal.τ).loc Cert.OutMixInputReferenceIdeal.main_arg0)
      ∧ r.2.mem ((c.tc : Thread Cert.OutMixInputReferenceIdeal.nD Cert.OutMixInputReferenceIdeal.τ).loc Cert.OutMixInputReferenceIdeal.main_arg1) = m ((c.tc : Thread Cert.OutMixInputReferenceIdeal.nD Cert.OutMixInputReferenceIdeal.τ).loc Cert.OutMixInputReferenceIdeal.main_arg1))
      ∧ r.2.sem = fun _ => 0)

def quiescent_OutMemInput [hOutMemInput : Cert.OutMemInput.Facts] : Prop :=
  ∀ (m : (ℓ : Loc Cert.OutMemInput.nD Cert.OutMemInput.τ Cert.OutMemInput.sig) → Buf (Elt Bits) ℓ) (g : Dev Cert.OutMemInput.nD → PrngReg), Pre_OutMemInput m →
    θ_run (Cert.OutMemInput.defs (F := Bits)) (onTc (τ := Cert.OutMemInput.τ) (Cert.OutMemInput.main (F := Bits))) ⟨m, fun _ => 0, g⟩ (fun r => (∀ c : Dev Cert.OutMemInput.nD,
      r.2.mem ((c.tc : Thread Cert.OutMemInput.nD Cert.OutMemInput.τ).loc Cert.OutMemInput.main_arg0) = m ((c.tc : Thread Cert.OutMemInput.nD Cert.OutMemInput.τ).loc Cert.OutMemInput.main_arg0)
      ∧ r.2.mem ((c.tc : Thread Cert.OutMemInput.nD Cert.OutMemInput.τ).loc Cert.OutMemInput.main_arg1) = m ((c.tc : Thread Cert.OutMemInput.nD Cert.OutMemInput.τ).loc Cert.OutMemInput.main_arg1))
      ∧ r.2.sem = fun _ => 0)

def quiescent_OutMemInputIdeal [hOutMemInputIdeal : Cert.OutMemInputIdeal.Facts] : Prop :=
  ∀ (m : (ℓ : Loc Cert.OutMemInputIdeal.nD Cert.OutMemInputIdeal.τ Cert.OutMemInputIdeal.sig) → Buf (Elt Ideal) ℓ) (g : Dev Cert.OutMemInputIdeal.nD → PrngReg), Pre_OutMemInputIdeal m →
    θ_run (Cert.OutMemInputIdeal.defs (F := Ideal)) (onTc (τ := Cert.OutMemInputIdeal.τ) (Cert.OutMemInputIdeal.main (F := Ideal))) ⟨m, fun _ => 0, g⟩ (fun r => (∀ c : Dev Cert.OutMemInputIdeal.nD,
      r.2.mem ((c.tc : Thread Cert.OutMemInputIdeal.nD Cert.OutMemInputIdeal.τ).loc Cert.OutMemInputIdeal.main_arg0) = m ((c.tc : Thread Cert.OutMemInputIdeal.nD Cert.OutMemInputIdeal.τ).loc Cert.OutMemInputIdeal.main_arg0)
      ∧ r.2.mem ((c.tc : Thread Cert.OutMemInputIdeal.nD Cert.OutMemInputIdeal.τ).loc Cert.OutMemInputIdeal.main_arg1) = m ((c.tc : Thread Cert.OutMemInputIdeal.nD Cert.OutMemInputIdeal.τ).loc Cert.OutMemInputIdeal.main_arg1))
      ∧ r.2.sem = fun _ => 0)

def quiescent_OutMemInputReferenceIdeal [hOutMemInputReferenceIdeal : Cert.OutMemInputReferenceIdeal.Facts] : Prop :=
  ∀ (m : (ℓ : Loc Cert.OutMemInputReferenceIdeal.nD Cert.OutMemInputReferenceIdeal.τ Cert.OutMemInputReferenceIdeal.sig) → Buf (Elt Ideal) ℓ) (g : Dev Cert.OutMemInputReferenceIdeal.nD → PrngReg), Pre_OutMemInputReferenceIdeal m →
    θ_run (Cert.OutMemInputReferenceIdeal.defs (F := Ideal)) (onTc (τ := Cert.OutMemInputReferenceIdeal.τ) (Cert.OutMemInputReferenceIdeal.main (F := Ideal))) ⟨m, fun _ => 0, g⟩ (fun r => (∀ c : Dev Cert.OutMemInputReferenceIdeal.nD,
      r.2.mem ((c.tc : Thread Cert.OutMemInputReferenceIdeal.nD Cert.OutMemInputReferenceIdeal.τ).loc Cert.OutMemInputReferenceIdeal.main_arg0) = m ((c.tc : Thread Cert.OutMemInputReferenceIdeal.nD Cert.OutMemInputReferenceIdeal.τ).loc Cert.OutMemInputReferenceIdeal.main_arg0)
      ∧ r.2.mem ((c.tc : Thread Cert.OutMemInputReferenceIdeal.nD Cert.OutMemInputReferenceIdeal.τ).loc Cert.OutMemInputReferenceIdeal.main_arg1) = m ((c.tc : Thread Cert.OutMemInputReferenceIdeal.nD Cert.OutMemInputReferenceIdeal.τ).loc Cert.OutMemInputReferenceIdeal.main_arg1))
      ∧ r.2.sem = fun _ => 0)

def quiescent_OutMixWeight [hOutMixWeight : Cert.OutMixWeight.Facts] : Prop :=
  ∀ (m : (ℓ : Loc Cert.OutMixWeight.nD Cert.OutMixWeight.τ Cert.OutMixWeight.sig) → Buf (Elt Bits) ℓ) (g : Dev Cert.OutMixWeight.nD → PrngReg), Pre_OutMixWeight m →
    θ_run (Cert.OutMixWeight.defs (F := Bits)) (onTc (τ := Cert.OutMixWeight.τ) (Cert.OutMixWeight.main (F := Bits))) ⟨m, fun _ => 0, g⟩ (fun r => (∀ c : Dev Cert.OutMixWeight.nD,
      r.2.mem ((c.tc : Thread Cert.OutMixWeight.nD Cert.OutMixWeight.τ).loc Cert.OutMixWeight.main_arg0) = m ((c.tc : Thread Cert.OutMixWeight.nD Cert.OutMixWeight.τ).loc Cert.OutMixWeight.main_arg0)
      ∧ r.2.mem ((c.tc : Thread Cert.OutMixWeight.nD Cert.OutMixWeight.τ).loc Cert.OutMixWeight.main_arg1) = m ((c.tc : Thread Cert.OutMixWeight.nD Cert.OutMixWeight.τ).loc Cert.OutMixWeight.main_arg1))
      ∧ r.2.sem = fun _ => 0)

def quiescent_OutMixWeightIdeal [hOutMixWeightIdeal : Cert.OutMixWeightIdeal.Facts] : Prop :=
  ∀ (m : (ℓ : Loc Cert.OutMixWeightIdeal.nD Cert.OutMixWeightIdeal.τ Cert.OutMixWeightIdeal.sig) → Buf (Elt Ideal) ℓ) (g : Dev Cert.OutMixWeightIdeal.nD → PrngReg), Pre_OutMixWeightIdeal m →
    θ_run (Cert.OutMixWeightIdeal.defs (F := Ideal)) (onTc (τ := Cert.OutMixWeightIdeal.τ) (Cert.OutMixWeightIdeal.main (F := Ideal))) ⟨m, fun _ => 0, g⟩ (fun r => (∀ c : Dev Cert.OutMixWeightIdeal.nD,
      r.2.mem ((c.tc : Thread Cert.OutMixWeightIdeal.nD Cert.OutMixWeightIdeal.τ).loc Cert.OutMixWeightIdeal.main_arg0) = m ((c.tc : Thread Cert.OutMixWeightIdeal.nD Cert.OutMixWeightIdeal.τ).loc Cert.OutMixWeightIdeal.main_arg0)
      ∧ r.2.mem ((c.tc : Thread Cert.OutMixWeightIdeal.nD Cert.OutMixWeightIdeal.τ).loc Cert.OutMixWeightIdeal.main_arg1) = m ((c.tc : Thread Cert.OutMixWeightIdeal.nD Cert.OutMixWeightIdeal.τ).loc Cert.OutMixWeightIdeal.main_arg1))
      ∧ r.2.sem = fun _ => 0)

def quiescent_OutMixWeightReferenceIdeal [hOutMixWeightReferenceIdeal : Cert.OutMixWeightReferenceIdeal.Facts] : Prop :=
  ∀ (m : (ℓ : Loc Cert.OutMixWeightReferenceIdeal.nD Cert.OutMixWeightReferenceIdeal.τ Cert.OutMixWeightReferenceIdeal.sig) → Buf (Elt Ideal) ℓ) (g : Dev Cert.OutMixWeightReferenceIdeal.nD → PrngReg), Pre_OutMixWeightReferenceIdeal m →
    θ_run (Cert.OutMixWeightReferenceIdeal.defs (F := Ideal)) (onTc (τ := Cert.OutMixWeightReferenceIdeal.τ) (Cert.OutMixWeightReferenceIdeal.main (F := Ideal))) ⟨m, fun _ => 0, g⟩ (fun r => (∀ c : Dev Cert.OutMixWeightReferenceIdeal.nD,
      r.2.mem ((c.tc : Thread Cert.OutMixWeightReferenceIdeal.nD Cert.OutMixWeightReferenceIdeal.τ).loc Cert.OutMixWeightReferenceIdeal.main_arg0) = m ((c.tc : Thread Cert.OutMixWeightReferenceIdeal.nD Cert.OutMixWeightReferenceIdeal.τ).loc Cert.OutMixWeightReferenceIdeal.main_arg0)
      ∧ r.2.mem ((c.tc : Thread Cert.OutMixWeightReferenceIdeal.nD Cert.OutMixWeightReferenceIdeal.τ).loc Cert.OutMixWeightReferenceIdeal.main_arg1) = m ((c.tc : Thread Cert.OutMixWeightReferenceIdeal.nD Cert.OutMixWeightReferenceIdeal.τ).loc Cert.OutMixWeightReferenceIdeal.main_arg1))
      ∧ r.2.sem = fun _ => 0)

def quiescent_OutMemWeight [hOutMemWeight : Cert.OutMemWeight.Facts] : Prop :=
  ∀ (m : (ℓ : Loc Cert.OutMemWeight.nD Cert.OutMemWeight.τ Cert.OutMemWeight.sig) → Buf (Elt Bits) ℓ) (g : Dev Cert.OutMemWeight.nD → PrngReg), Pre_OutMemWeight m →
    θ_run (Cert.OutMemWeight.defs (F := Bits)) (onTc (τ := Cert.OutMemWeight.τ) (Cert.OutMemWeight.main (F := Bits))) ⟨m, fun _ => 0, g⟩ (fun r => (∀ c : Dev Cert.OutMemWeight.nD,
      r.2.mem ((c.tc : Thread Cert.OutMemWeight.nD Cert.OutMemWeight.τ).loc Cert.OutMemWeight.main_arg0) = m ((c.tc : Thread Cert.OutMemWeight.nD Cert.OutMemWeight.τ).loc Cert.OutMemWeight.main_arg0)
      ∧ r.2.mem ((c.tc : Thread Cert.OutMemWeight.nD Cert.OutMemWeight.τ).loc Cert.OutMemWeight.main_arg1) = m ((c.tc : Thread Cert.OutMemWeight.nD Cert.OutMemWeight.τ).loc Cert.OutMemWeight.main_arg1))
      ∧ r.2.sem = fun _ => 0)

def quiescent_OutMemWeightIdeal [hOutMemWeightIdeal : Cert.OutMemWeightIdeal.Facts] : Prop :=
  ∀ (m : (ℓ : Loc Cert.OutMemWeightIdeal.nD Cert.OutMemWeightIdeal.τ Cert.OutMemWeightIdeal.sig) → Buf (Elt Ideal) ℓ) (g : Dev Cert.OutMemWeightIdeal.nD → PrngReg), Pre_OutMemWeightIdeal m →
    θ_run (Cert.OutMemWeightIdeal.defs (F := Ideal)) (onTc (τ := Cert.OutMemWeightIdeal.τ) (Cert.OutMemWeightIdeal.main (F := Ideal))) ⟨m, fun _ => 0, g⟩ (fun r => (∀ c : Dev Cert.OutMemWeightIdeal.nD,
      r.2.mem ((c.tc : Thread Cert.OutMemWeightIdeal.nD Cert.OutMemWeightIdeal.τ).loc Cert.OutMemWeightIdeal.main_arg0) = m ((c.tc : Thread Cert.OutMemWeightIdeal.nD Cert.OutMemWeightIdeal.τ).loc Cert.OutMemWeightIdeal.main_arg0)
      ∧ r.2.mem ((c.tc : Thread Cert.OutMemWeightIdeal.nD Cert.OutMemWeightIdeal.τ).loc Cert.OutMemWeightIdeal.main_arg1) = m ((c.tc : Thread Cert.OutMemWeightIdeal.nD Cert.OutMemWeightIdeal.τ).loc Cert.OutMemWeightIdeal.main_arg1))
      ∧ r.2.sem = fun _ => 0)

def quiescent_OutMemWeightReferenceIdeal [hOutMemWeightReferenceIdeal : Cert.OutMemWeightReferenceIdeal.Facts] : Prop :=
  ∀ (m : (ℓ : Loc Cert.OutMemWeightReferenceIdeal.nD Cert.OutMemWeightReferenceIdeal.τ Cert.OutMemWeightReferenceIdeal.sig) → Buf (Elt Ideal) ℓ) (g : Dev Cert.OutMemWeightReferenceIdeal.nD → PrngReg), Pre_OutMemWeightReferenceIdeal m →
    θ_run (Cert.OutMemWeightReferenceIdeal.defs (F := Ideal)) (onTc (τ := Cert.OutMemWeightReferenceIdeal.τ) (Cert.OutMemWeightReferenceIdeal.main (F := Ideal))) ⟨m, fun _ => 0, g⟩ (fun r => (∀ c : Dev Cert.OutMemWeightReferenceIdeal.nD,
      r.2.mem ((c.tc : Thread Cert.OutMemWeightReferenceIdeal.nD Cert.OutMemWeightReferenceIdeal.τ).loc Cert.OutMemWeightReferenceIdeal.main_arg0) = m ((c.tc : Thread Cert.OutMemWeightReferenceIdeal.nD Cert.OutMemWeightReferenceIdeal.τ).loc Cert.OutMemWeightReferenceIdeal.main_arg0)
      ∧ r.2.mem ((c.tc : Thread Cert.OutMemWeightReferenceIdeal.nD Cert.OutMemWeightReferenceIdeal.τ).loc Cert.OutMemWeightReferenceIdeal.main_arg1) = m ((c.tc : Thread Cert.OutMemWeightReferenceIdeal.nD Cert.OutMemWeightReferenceIdeal.τ).loc Cert.OutMemWeightReferenceIdeal.main_arg1))
      ∧ r.2.sem = fun _ => 0)

def quiescent_OutMix [hOutMix : Cert.OutMix.Facts] : Prop :=
  ∀ (m : (ℓ : Loc Cert.OutMix.nD Cert.OutMix.τ Cert.OutMix.sig) → Buf (Elt Bits) ℓ) (g : Dev Cert.OutMix.nD → PrngReg), Pre_OutMix m →
    θ_run (Cert.OutMix.defs (F := Bits)) (onTc (τ := Cert.OutMix.τ) (Cert.OutMix.main (F := Bits))) ⟨m, fun _ => 0, g⟩ (fun r => (∀ c : Dev Cert.OutMix.nD,
      r.2.mem ((c.tc : Thread Cert.OutMix.nD Cert.OutMix.τ).loc Cert.OutMix.main_arg0) = m ((c.tc : Thread Cert.OutMix.nD Cert.OutMix.τ).loc Cert.OutMix.main_arg0)
      ∧ r.2.mem ((c.tc : Thread Cert.OutMix.nD Cert.OutMix.τ).loc Cert.OutMix.main_arg1) = m ((c.tc : Thread Cert.OutMix.nD Cert.OutMix.τ).loc Cert.OutMix.main_arg1)
      ∧ r.2.mem ((c.tc : Thread Cert.OutMix.nD Cert.OutMix.τ).loc Cert.OutMix.main_arg2) = m ((c.tc : Thread Cert.OutMix.nD Cert.OutMix.τ).loc Cert.OutMix.main_arg2))
      ∧ r.2.sem = fun _ => 0)

def quiescent_OutMixIdeal [hOutMixIdeal : Cert.OutMixIdeal.Facts] : Prop :=
  ∀ (m : (ℓ : Loc Cert.OutMixIdeal.nD Cert.OutMixIdeal.τ Cert.OutMixIdeal.sig) → Buf (Elt Ideal) ℓ) (g : Dev Cert.OutMixIdeal.nD → PrngReg), Pre_OutMixIdeal m →
    θ_run (Cert.OutMixIdeal.defs (F := Ideal)) (onTc (τ := Cert.OutMixIdeal.τ) (Cert.OutMixIdeal.main (F := Ideal))) ⟨m, fun _ => 0, g⟩ (fun r => (∀ c : Dev Cert.OutMixIdeal.nD,
      r.2.mem ((c.tc : Thread Cert.OutMixIdeal.nD Cert.OutMixIdeal.τ).loc Cert.OutMixIdeal.main_arg0) = m ((c.tc : Thread Cert.OutMixIdeal.nD Cert.OutMixIdeal.τ).loc Cert.OutMixIdeal.main_arg0)
      ∧ r.2.mem ((c.tc : Thread Cert.OutMixIdeal.nD Cert.OutMixIdeal.τ).loc Cert.OutMixIdeal.main_arg1) = m ((c.tc : Thread Cert.OutMixIdeal.nD Cert.OutMixIdeal.τ).loc Cert.OutMixIdeal.main_arg1)
      ∧ r.2.mem ((c.tc : Thread Cert.OutMixIdeal.nD Cert.OutMixIdeal.τ).loc Cert.OutMixIdeal.main_arg2) = m ((c.tc : Thread Cert.OutMixIdeal.nD Cert.OutMixIdeal.τ).loc Cert.OutMixIdeal.main_arg2))
      ∧ r.2.sem = fun _ => 0)

def quiescent_OutMixReferenceIdeal [hOutMixReferenceIdeal : Cert.OutMixReferenceIdeal.Facts] : Prop :=
  ∀ (m : (ℓ : Loc Cert.OutMixReferenceIdeal.nD Cert.OutMixReferenceIdeal.τ Cert.OutMixReferenceIdeal.sig) → Buf (Elt Ideal) ℓ) (g : Dev Cert.OutMixReferenceIdeal.nD → PrngReg), Pre_OutMixReferenceIdeal m →
    θ_run (Cert.OutMixReferenceIdeal.defs (F := Ideal)) (onTc (τ := Cert.OutMixReferenceIdeal.τ) (Cert.OutMixReferenceIdeal.main (F := Ideal))) ⟨m, fun _ => 0, g⟩ (fun r => (∀ c : Dev Cert.OutMixReferenceIdeal.nD,
      r.2.mem ((c.tc : Thread Cert.OutMixReferenceIdeal.nD Cert.OutMixReferenceIdeal.τ).loc Cert.OutMixReferenceIdeal.main_arg0) = m ((c.tc : Thread Cert.OutMixReferenceIdeal.nD Cert.OutMixReferenceIdeal.τ).loc Cert.OutMixReferenceIdeal.main_arg0)
      ∧ r.2.mem ((c.tc : Thread Cert.OutMixReferenceIdeal.nD Cert.OutMixReferenceIdeal.τ).loc Cert.OutMixReferenceIdeal.main_arg1) = m ((c.tc : Thread Cert.OutMixReferenceIdeal.nD Cert.OutMixReferenceIdeal.τ).loc Cert.OutMixReferenceIdeal.main_arg1)
      ∧ r.2.mem ((c.tc : Thread Cert.OutMixReferenceIdeal.nD Cert.OutMixReferenceIdeal.τ).loc Cert.OutMixReferenceIdeal.main_arg2) = m ((c.tc : Thread Cert.OutMixReferenceIdeal.nD Cert.OutMixReferenceIdeal.τ).loc Cert.OutMixReferenceIdeal.main_arg2))
      ∧ r.2.sem = fun _ => 0)

def quiescent_OutMem [hOutMem : Cert.OutMem.Facts] : Prop :=
  ∀ (m : (ℓ : Loc Cert.OutMem.nD Cert.OutMem.τ Cert.OutMem.sig) → Buf (Elt Bits) ℓ) (g : Dev Cert.OutMem.nD → PrngReg), Pre_OutMem m →
    θ_run (Cert.OutMem.defs (F := Bits)) (onTc (τ := Cert.OutMem.τ) (Cert.OutMem.main (F := Bits))) ⟨m, fun _ => 0, g⟩ (fun r => (∀ c : Dev Cert.OutMem.nD,
      r.2.mem ((c.tc : Thread Cert.OutMem.nD Cert.OutMem.τ).loc Cert.OutMem.main_arg0) = m ((c.tc : Thread Cert.OutMem.nD Cert.OutMem.τ).loc Cert.OutMem.main_arg0)
      ∧ r.2.mem ((c.tc : Thread Cert.OutMem.nD Cert.OutMem.τ).loc Cert.OutMem.main_arg1) = m ((c.tc : Thread Cert.OutMem.nD Cert.OutMem.τ).loc Cert.OutMem.main_arg1)
      ∧ r.2.mem ((c.tc : Thread Cert.OutMem.nD Cert.OutMem.τ).loc Cert.OutMem.main_arg2) = m ((c.tc : Thread Cert.OutMem.nD Cert.OutMem.τ).loc Cert.OutMem.main_arg2))
      ∧ r.2.sem = fun _ => 0)

def quiescent_OutMemIdeal [hOutMemIdeal : Cert.OutMemIdeal.Facts] : Prop :=
  ∀ (m : (ℓ : Loc Cert.OutMemIdeal.nD Cert.OutMemIdeal.τ Cert.OutMemIdeal.sig) → Buf (Elt Ideal) ℓ) (g : Dev Cert.OutMemIdeal.nD → PrngReg), Pre_OutMemIdeal m →
    θ_run (Cert.OutMemIdeal.defs (F := Ideal)) (onTc (τ := Cert.OutMemIdeal.τ) (Cert.OutMemIdeal.main (F := Ideal))) ⟨m, fun _ => 0, g⟩ (fun r => (∀ c : Dev Cert.OutMemIdeal.nD,
      r.2.mem ((c.tc : Thread Cert.OutMemIdeal.nD Cert.OutMemIdeal.τ).loc Cert.OutMemIdeal.main_arg0) = m ((c.tc : Thread Cert.OutMemIdeal.nD Cert.OutMemIdeal.τ).loc Cert.OutMemIdeal.main_arg0)
      ∧ r.2.mem ((c.tc : Thread Cert.OutMemIdeal.nD Cert.OutMemIdeal.τ).loc Cert.OutMemIdeal.main_arg1) = m ((c.tc : Thread Cert.OutMemIdeal.nD Cert.OutMemIdeal.τ).loc Cert.OutMemIdeal.main_arg1)
      ∧ r.2.mem ((c.tc : Thread Cert.OutMemIdeal.nD Cert.OutMemIdeal.τ).loc Cert.OutMemIdeal.main_arg2) = m ((c.tc : Thread Cert.OutMemIdeal.nD Cert.OutMemIdeal.τ).loc Cert.OutMemIdeal.main_arg2))
      ∧ r.2.sem = fun _ => 0)

def quiescent_OutMemReferenceIdeal [hOutMemReferenceIdeal : Cert.OutMemReferenceIdeal.Facts] : Prop :=
  ∀ (m : (ℓ : Loc Cert.OutMemReferenceIdeal.nD Cert.OutMemReferenceIdeal.τ Cert.OutMemReferenceIdeal.sig) → Buf (Elt Ideal) ℓ) (g : Dev Cert.OutMemReferenceIdeal.nD → PrngReg), Pre_OutMemReferenceIdeal m →
    θ_run (Cert.OutMemReferenceIdeal.defs (F := Ideal)) (onTc (τ := Cert.OutMemReferenceIdeal.τ) (Cert.OutMemReferenceIdeal.main (F := Ideal))) ⟨m, fun _ => 0, g⟩ (fun r => (∀ c : Dev Cert.OutMemReferenceIdeal.nD,
      r.2.mem ((c.tc : Thread Cert.OutMemReferenceIdeal.nD Cert.OutMemReferenceIdeal.τ).loc Cert.OutMemReferenceIdeal.main_arg0) = m ((c.tc : Thread Cert.OutMemReferenceIdeal.nD Cert.OutMemReferenceIdeal.τ).loc Cert.OutMemReferenceIdeal.main_arg0)
      ∧ r.2.mem ((c.tc : Thread Cert.OutMemReferenceIdeal.nD Cert.OutMemReferenceIdeal.τ).loc Cert.OutMemReferenceIdeal.main_arg1) = m ((c.tc : Thread Cert.OutMemReferenceIdeal.nD Cert.OutMemReferenceIdeal.τ).loc Cert.OutMemReferenceIdeal.main_arg1)
      ∧ r.2.mem ((c.tc : Thread Cert.OutMemReferenceIdeal.nD Cert.OutMemReferenceIdeal.τ).loc Cert.OutMemReferenceIdeal.main_arg2) = m ((c.tc : Thread Cert.OutMemReferenceIdeal.nD Cert.OutMemReferenceIdeal.τ).loc Cert.OutMemReferenceIdeal.main_arg2))
      ∧ r.2.sem = fun _ => 0)

def quiescent_InWeight [hInWeight : Cert.InWeight.Facts] : Prop :=
  ∀ (m : (ℓ : Loc Cert.InWeight.nD Cert.InWeight.τ Cert.InWeight.sig) → Buf (Elt Bits) ℓ) (g : Dev Cert.InWeight.nD → PrngReg), Pre_InWeight m →
    θ_run (Cert.InWeight.defs (F := Bits)) (onTc (τ := Cert.InWeight.τ) (Cert.InWeight.main (F := Bits))) ⟨m, fun _ => 0, g⟩ (fun r => (∀ c : Dev Cert.InWeight.nD,
      r.2.mem ((c.tc : Thread Cert.InWeight.nD Cert.InWeight.τ).loc Cert.InWeight.main_arg0) = m ((c.tc : Thread Cert.InWeight.nD Cert.InWeight.τ).loc Cert.InWeight.main_arg0)
      ∧ r.2.mem ((c.tc : Thread Cert.InWeight.nD Cert.InWeight.τ).loc Cert.InWeight.main_arg1) = m ((c.tc : Thread Cert.InWeight.nD Cert.InWeight.τ).loc Cert.InWeight.main_arg1))
      ∧ r.2.sem = fun _ => 0)

def quiescent_InWeightIdeal [hInWeightIdeal : Cert.InWeightIdeal.Facts] : Prop :=
  ∀ (m : (ℓ : Loc Cert.InWeightIdeal.nD Cert.InWeightIdeal.τ Cert.InWeightIdeal.sig) → Buf (Elt Ideal) ℓ) (g : Dev Cert.InWeightIdeal.nD → PrngReg), Pre_InWeightIdeal m →
    θ_run (Cert.InWeightIdeal.defs (F := Ideal)) (onTc (τ := Cert.InWeightIdeal.τ) (Cert.InWeightIdeal.main (F := Ideal))) ⟨m, fun _ => 0, g⟩ (fun r => (∀ c : Dev Cert.InWeightIdeal.nD,
      r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
      ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1))
      ∧ r.2.sem = fun _ => 0)

def quiescent_InWeightReferenceIdeal [hInWeightReferenceIdeal : Cert.InWeightReferenceIdeal.Facts] : Prop :=
  ∀ (m : (ℓ : Loc Cert.InWeightReferenceIdeal.nD Cert.InWeightReferenceIdeal.τ Cert.InWeightReferenceIdeal.sig) → Buf (Elt Ideal) ℓ) (g : Dev Cert.InWeightReferenceIdeal.nD → PrngReg), Pre_InWeightReferenceIdeal m →
    θ_run (Cert.InWeightReferenceIdeal.defs (F := Ideal)) (onTc (τ := Cert.InWeightReferenceIdeal.τ) (Cert.InWeightReferenceIdeal.main (F := Ideal))) ⟨m, fun _ => 0, g⟩ (fun r => (∀ c : Dev Cert.InWeightReferenceIdeal.nD,
      r.2.mem ((c.tc : Thread Cert.InWeightReferenceIdeal.nD Cert.InWeightReferenceIdeal.τ).loc Cert.InWeightReferenceIdeal.main_arg0) = m ((c.tc : Thread Cert.InWeightReferenceIdeal.nD Cert.InWeightReferenceIdeal.τ).loc Cert.InWeightReferenceIdeal.main_arg0)
      ∧ r.2.mem ((c.tc : Thread Cert.InWeightReferenceIdeal.nD Cert.InWeightReferenceIdeal.τ).loc Cert.InWeightReferenceIdeal.main_arg1) = m ((c.tc : Thread Cert.InWeightReferenceIdeal.nD Cert.InWeightReferenceIdeal.τ).loc Cert.InWeightReferenceIdeal.main_arg1))
      ∧ r.2.sem = fun _ => 0)

def quiescent_InMemWeight [hInMemWeight : Cert.InMemWeight.Facts] : Prop :=
  ∀ (m : (ℓ : Loc Cert.InMemWeight.nD Cert.InMemWeight.τ Cert.InMemWeight.sig) → Buf (Elt Bits) ℓ) (g : Dev Cert.InMemWeight.nD → PrngReg), Pre_InMemWeight m →
    θ_run (Cert.InMemWeight.defs (F := Bits)) (onTc (τ := Cert.InMemWeight.τ) (Cert.InMemWeight.main (F := Bits))) ⟨m, fun _ => 0, g⟩ (fun r => (∀ c : Dev Cert.InMemWeight.nD,
      r.2.mem ((c.tc : Thread Cert.InMemWeight.nD Cert.InMemWeight.τ).loc Cert.InMemWeight.main_arg0) = m ((c.tc : Thread Cert.InMemWeight.nD Cert.InMemWeight.τ).loc Cert.InMemWeight.main_arg0)
      ∧ r.2.mem ((c.tc : Thread Cert.InMemWeight.nD Cert.InMemWeight.τ).loc Cert.InMemWeight.main_arg1) = m ((c.tc : Thread Cert.InMemWeight.nD Cert.InMemWeight.τ).loc Cert.InMemWeight.main_arg1))
      ∧ r.2.sem = fun _ => 0)

def quiescent_InMemWeightIdeal [hInMemWeightIdeal : Cert.InMemWeightIdeal.Facts] : Prop :=
  ∀ (m : (ℓ : Loc Cert.InMemWeightIdeal.nD Cert.InMemWeightIdeal.τ Cert.InMemWeightIdeal.sig) → Buf (Elt Ideal) ℓ) (g : Dev Cert.InMemWeightIdeal.nD → PrngReg), Pre_InMemWeightIdeal m →
    θ_run (Cert.InMemWeightIdeal.defs (F := Ideal)) (onTc (τ := Cert.InMemWeightIdeal.τ) (Cert.InMemWeightIdeal.main (F := Ideal))) ⟨m, fun _ => 0, g⟩ (fun r => (∀ c : Dev Cert.InMemWeightIdeal.nD,
      r.2.mem ((c.tc : Thread Cert.InMemWeightIdeal.nD Cert.InMemWeightIdeal.τ).loc Cert.InMemWeightIdeal.main_arg0) = m ((c.tc : Thread Cert.InMemWeightIdeal.nD Cert.InMemWeightIdeal.τ).loc Cert.InMemWeightIdeal.main_arg0)
      ∧ r.2.mem ((c.tc : Thread Cert.InMemWeightIdeal.nD Cert.InMemWeightIdeal.τ).loc Cert.InMemWeightIdeal.main_arg1) = m ((c.tc : Thread Cert.InMemWeightIdeal.nD Cert.InMemWeightIdeal.τ).loc Cert.InMemWeightIdeal.main_arg1))
      ∧ r.2.sem = fun _ => 0)

def quiescent_InMemWeightReferenceIdeal [hInMemWeightReferenceIdeal : Cert.InMemWeightReferenceIdeal.Facts] : Prop :=
  ∀ (m : (ℓ : Loc Cert.InMemWeightReferenceIdeal.nD Cert.InMemWeightReferenceIdeal.τ Cert.InMemWeightReferenceIdeal.sig) → Buf (Elt Ideal) ℓ) (g : Dev Cert.InMemWeightReferenceIdeal.nD → PrngReg), Pre_InMemWeightReferenceIdeal m →
    θ_run (Cert.InMemWeightReferenceIdeal.defs (F := Ideal)) (onTc (τ := Cert.InMemWeightReferenceIdeal.τ) (Cert.InMemWeightReferenceIdeal.main (F := Ideal))) ⟨m, fun _ => 0, g⟩ (fun r => (∀ c : Dev Cert.InMemWeightReferenceIdeal.nD,
      r.2.mem ((c.tc : Thread Cert.InMemWeightReferenceIdeal.nD Cert.InMemWeightReferenceIdeal.τ).loc Cert.InMemWeightReferenceIdeal.main_arg0) = m ((c.tc : Thread Cert.InMemWeightReferenceIdeal.nD Cert.InMemWeightReferenceIdeal.τ).loc Cert.InMemWeightReferenceIdeal.main_arg0)
      ∧ r.2.mem ((c.tc : Thread Cert.InMemWeightReferenceIdeal.nD Cert.InMemWeightReferenceIdeal.τ).loc Cert.InMemWeightReferenceIdeal.main_arg1) = m ((c.tc : Thread Cert.InMemWeightReferenceIdeal.nD Cert.InMemWeightReferenceIdeal.τ).loc Cert.InMemWeightReferenceIdeal.main_arg1))
      ∧ r.2.sem = fun _ => 0)

def quiescent_InInput [hInInput : Cert.InInput.Facts] : Prop :=
  ∀ (m : (ℓ : Loc Cert.InInput.nD Cert.InInput.τ Cert.InInput.sig) → Buf (Elt Bits) ℓ) (g : Dev Cert.InInput.nD → PrngReg), Pre_InInput m →
    θ_run (Cert.InInput.defs (F := Bits)) (onTc (τ := Cert.InInput.τ) (Cert.InInput.main (F := Bits))) ⟨m, fun _ => 0, g⟩ (fun r => (∀ c : Dev Cert.InInput.nD,
      r.2.mem ((c.tc : Thread Cert.InInput.nD Cert.InInput.τ).loc Cert.InInput.main_arg0) = m ((c.tc : Thread Cert.InInput.nD Cert.InInput.τ).loc Cert.InInput.main_arg0)
      ∧ r.2.mem ((c.tc : Thread Cert.InInput.nD Cert.InInput.τ).loc Cert.InInput.main_arg1) = m ((c.tc : Thread Cert.InInput.nD Cert.InInput.τ).loc Cert.InInput.main_arg1))
      ∧ r.2.sem = fun _ => 0)

def quiescent_InInputIdeal [hInInputIdeal : Cert.InInputIdeal.Facts] : Prop :=
  ∀ (m : (ℓ : Loc Cert.InInputIdeal.nD Cert.InInputIdeal.τ Cert.InInputIdeal.sig) → Buf (Elt Ideal) ℓ) (g : Dev Cert.InInputIdeal.nD → PrngReg), Pre_InInputIdeal m →
    θ_run (Cert.InInputIdeal.defs (F := Ideal)) (onTc (τ := Cert.InInputIdeal.τ) (Cert.InInputIdeal.main (F := Ideal))) ⟨m, fun _ => 0, g⟩ (fun r => (∀ c : Dev Cert.InInputIdeal.nD,
      r.2.mem ((c.tc : Thread Cert.InInputIdeal.nD Cert.InInputIdeal.τ).loc Cert.InInputIdeal.main_arg0) = m ((c.tc : Thread Cert.InInputIdeal.nD Cert.InInputIdeal.τ).loc Cert.InInputIdeal.main_arg0)
      ∧ r.2.mem ((c.tc : Thread Cert.InInputIdeal.nD Cert.InInputIdeal.τ).loc Cert.InInputIdeal.main_arg1) = m ((c.tc : Thread Cert.InInputIdeal.nD Cert.InInputIdeal.τ).loc Cert.InInputIdeal.main_arg1))
      ∧ r.2.sem = fun _ => 0)

def quiescent_InInputReferenceIdeal [hInInputReferenceIdeal : Cert.InInputReferenceIdeal.Facts] : Prop :=
  ∀ (m : (ℓ : Loc Cert.InInputReferenceIdeal.nD Cert.InInputReferenceIdeal.τ Cert.InInputReferenceIdeal.sig) → Buf (Elt Ideal) ℓ) (g : Dev Cert.InInputReferenceIdeal.nD → PrngReg), Pre_InInputReferenceIdeal m →
    θ_run (Cert.InInputReferenceIdeal.defs (F := Ideal)) (onTc (τ := Cert.InInputReferenceIdeal.τ) (Cert.InInputReferenceIdeal.main (F := Ideal))) ⟨m, fun _ => 0, g⟩ (fun r => (∀ c : Dev Cert.InInputReferenceIdeal.nD,
      r.2.mem ((c.tc : Thread Cert.InInputReferenceIdeal.nD Cert.InInputReferenceIdeal.τ).loc Cert.InInputReferenceIdeal.main_arg0) = m ((c.tc : Thread Cert.InInputReferenceIdeal.nD Cert.InInputReferenceIdeal.τ).loc Cert.InInputReferenceIdeal.main_arg0)
      ∧ r.2.mem ((c.tc : Thread Cert.InInputReferenceIdeal.nD Cert.InInputReferenceIdeal.τ).loc Cert.InInputReferenceIdeal.main_arg1) = m ((c.tc : Thread Cert.InInputReferenceIdeal.nD Cert.InInputReferenceIdeal.τ).loc Cert.InInputReferenceIdeal.main_arg1))
      ∧ r.2.sem = fun _ => 0)

def quiescent_InInputAdd [hInInputAdd : Cert.InInputAdd.Facts] : Prop :=
  ∀ (m : (ℓ : Loc Cert.InInputAdd.nD Cert.InInputAdd.τ Cert.InInputAdd.sig) → Buf (Elt Bits) ℓ) (g : Dev Cert.InInputAdd.nD → PrngReg), Pre_InInputAdd m →
    θ_run (Cert.InInputAdd.defs (F := Bits)) (onTc (τ := Cert.InInputAdd.τ) (Cert.InInputAdd.main (F := Bits))) ⟨m, fun _ => 0, g⟩ (fun r => (∀ c : Dev Cert.InInputAdd.nD,
      r.2.mem ((c.tc : Thread Cert.InInputAdd.nD Cert.InInputAdd.τ).loc Cert.InInputAdd.main_arg0) = m ((c.tc : Thread Cert.InInputAdd.nD Cert.InInputAdd.τ).loc Cert.InInputAdd.main_arg0)
      ∧ r.2.mem ((c.tc : Thread Cert.InInputAdd.nD Cert.InInputAdd.τ).loc Cert.InInputAdd.main_arg1) = m ((c.tc : Thread Cert.InInputAdd.nD Cert.InInputAdd.τ).loc Cert.InInputAdd.main_arg1)
      ∧ r.2.mem ((c.tc : Thread Cert.InInputAdd.nD Cert.InInputAdd.τ).loc Cert.InInputAdd.main_arg2) = m ((c.tc : Thread Cert.InInputAdd.nD Cert.InInputAdd.τ).loc Cert.InInputAdd.main_arg2))
      ∧ r.2.sem = fun _ => 0)

def quiescent_InInputAddIdeal [hInInputAddIdeal : Cert.InInputAddIdeal.Facts] : Prop :=
  ∀ (m : (ℓ : Loc Cert.InInputAddIdeal.nD Cert.InInputAddIdeal.τ Cert.InInputAddIdeal.sig) → Buf (Elt Ideal) ℓ) (g : Dev Cert.InInputAddIdeal.nD → PrngReg), Pre_InInputAddIdeal m →
    θ_run (Cert.InInputAddIdeal.defs (F := Ideal)) (onTc (τ := Cert.InInputAddIdeal.τ) (Cert.InInputAddIdeal.main (F := Ideal))) ⟨m, fun _ => 0, g⟩ (fun r => (∀ c : Dev Cert.InInputAddIdeal.nD,
      r.2.mem ((c.tc : Thread Cert.InInputAddIdeal.nD Cert.InInputAddIdeal.τ).loc Cert.InInputAddIdeal.main_arg0) = m ((c.tc : Thread Cert.InInputAddIdeal.nD Cert.InInputAddIdeal.τ).loc Cert.InInputAddIdeal.main_arg0)
      ∧ r.2.mem ((c.tc : Thread Cert.InInputAddIdeal.nD Cert.InInputAddIdeal.τ).loc Cert.InInputAddIdeal.main_arg1) = m ((c.tc : Thread Cert.InInputAddIdeal.nD Cert.InInputAddIdeal.τ).loc Cert.InInputAddIdeal.main_arg1)
      ∧ r.2.mem ((c.tc : Thread Cert.InInputAddIdeal.nD Cert.InInputAddIdeal.τ).loc Cert.InInputAddIdeal.main_arg2) = m ((c.tc : Thread Cert.InInputAddIdeal.nD Cert.InInputAddIdeal.τ).loc Cert.InInputAddIdeal.main_arg2))
      ∧ r.2.sem = fun _ => 0)

def quiescent_InInputAddReferenceIdeal [hInInputAddReferenceIdeal : Cert.InInputAddReferenceIdeal.Facts] : Prop :=
  ∀ (m : (ℓ : Loc Cert.InInputAddReferenceIdeal.nD Cert.InInputAddReferenceIdeal.τ Cert.InInputAddReferenceIdeal.sig) → Buf (Elt Ideal) ℓ) (g : Dev Cert.InInputAddReferenceIdeal.nD → PrngReg), Pre_InInputAddReferenceIdeal m →
    θ_run (Cert.InInputAddReferenceIdeal.defs (F := Ideal)) (onTc (τ := Cert.InInputAddReferenceIdeal.τ) (Cert.InInputAddReferenceIdeal.main (F := Ideal))) ⟨m, fun _ => 0, g⟩ (fun r => (∀ c : Dev Cert.InInputAddReferenceIdeal.nD,
      r.2.mem ((c.tc : Thread Cert.InInputAddReferenceIdeal.nD Cert.InInputAddReferenceIdeal.τ).loc Cert.InInputAddReferenceIdeal.main_arg0) = m ((c.tc : Thread Cert.InInputAddReferenceIdeal.nD Cert.InInputAddReferenceIdeal.τ).loc Cert.InInputAddReferenceIdeal.main_arg0)
      ∧ r.2.mem ((c.tc : Thread Cert.InInputAddReferenceIdeal.nD Cert.InInputAddReferenceIdeal.τ).loc Cert.InInputAddReferenceIdeal.main_arg1) = m ((c.tc : Thread Cert.InInputAddReferenceIdeal.nD Cert.InInputAddReferenceIdeal.τ).loc Cert.InInputAddReferenceIdeal.main_arg1)
      ∧ r.2.mem ((c.tc : Thread Cert.InInputAddReferenceIdeal.nD Cert.InInputAddReferenceIdeal.τ).loc Cert.InInputAddReferenceIdeal.main_arg2) = m ((c.tc : Thread Cert.InInputAddReferenceIdeal.nD Cert.InInputAddReferenceIdeal.τ).loc Cert.InInputAddReferenceIdeal.main_arg2))
      ∧ r.2.sem = fun _ => 0)

def quiescent_InMemInputAdd [hInMemInputAdd : Cert.InMemInputAdd.Facts] : Prop :=
  ∀ (m : (ℓ : Loc Cert.InMemInputAdd.nD Cert.InMemInputAdd.τ Cert.InMemInputAdd.sig) → Buf (Elt Bits) ℓ) (g : Dev Cert.InMemInputAdd.nD → PrngReg), Pre_InMemInputAdd m →
    θ_run (Cert.InMemInputAdd.defs (F := Bits)) (onTc (τ := Cert.InMemInputAdd.τ) (Cert.InMemInputAdd.main (F := Bits))) ⟨m, fun _ => 0, g⟩ (fun r => (∀ c : Dev Cert.InMemInputAdd.nD,
      r.2.mem ((c.tc : Thread Cert.InMemInputAdd.nD Cert.InMemInputAdd.τ).loc Cert.InMemInputAdd.main_arg0) = m ((c.tc : Thread Cert.InMemInputAdd.nD Cert.InMemInputAdd.τ).loc Cert.InMemInputAdd.main_arg0)
      ∧ r.2.mem ((c.tc : Thread Cert.InMemInputAdd.nD Cert.InMemInputAdd.τ).loc Cert.InMemInputAdd.main_arg1) = m ((c.tc : Thread Cert.InMemInputAdd.nD Cert.InMemInputAdd.τ).loc Cert.InMemInputAdd.main_arg1)
      ∧ r.2.mem ((c.tc : Thread Cert.InMemInputAdd.nD Cert.InMemInputAdd.τ).loc Cert.InMemInputAdd.main_arg2) = m ((c.tc : Thread Cert.InMemInputAdd.nD Cert.InMemInputAdd.τ).loc Cert.InMemInputAdd.main_arg2))
      ∧ r.2.sem = fun _ => 0)

def quiescent_InMemInputAddIdeal [hInMemInputAddIdeal : Cert.InMemInputAddIdeal.Facts] : Prop :=
  ∀ (m : (ℓ : Loc Cert.InMemInputAddIdeal.nD Cert.InMemInputAddIdeal.τ Cert.InMemInputAddIdeal.sig) → Buf (Elt Ideal) ℓ) (g : Dev Cert.InMemInputAddIdeal.nD → PrngReg), Pre_InMemInputAddIdeal m →
    θ_run (Cert.InMemInputAddIdeal.defs (F := Ideal)) (onTc (τ := Cert.InMemInputAddIdeal.τ) (Cert.InMemInputAddIdeal.main (F := Ideal))) ⟨m, fun _ => 0, g⟩ (fun r => (∀ c : Dev Cert.InMemInputAddIdeal.nD,
      r.2.mem ((c.tc : Thread Cert.InMemInputAddIdeal.nD Cert.InMemInputAddIdeal.τ).loc Cert.InMemInputAddIdeal.main_arg0) = m ((c.tc : Thread Cert.InMemInputAddIdeal.nD Cert.InMemInputAddIdeal.τ).loc Cert.InMemInputAddIdeal.main_arg0)
      ∧ r.2.mem ((c.tc : Thread Cert.InMemInputAddIdeal.nD Cert.InMemInputAddIdeal.τ).loc Cert.InMemInputAddIdeal.main_arg1) = m ((c.tc : Thread Cert.InMemInputAddIdeal.nD Cert.InMemInputAddIdeal.τ).loc Cert.InMemInputAddIdeal.main_arg1)
      ∧ r.2.mem ((c.tc : Thread Cert.InMemInputAddIdeal.nD Cert.InMemInputAddIdeal.τ).loc Cert.InMemInputAddIdeal.main_arg2) = m ((c.tc : Thread Cert.InMemInputAddIdeal.nD Cert.InMemInputAddIdeal.τ).loc Cert.InMemInputAddIdeal.main_arg2))
      ∧ r.2.sem = fun _ => 0)

def quiescent_InMemInputAddReferenceIdeal [hInMemInputAddReferenceIdeal : Cert.InMemInputAddReferenceIdeal.Facts] : Prop :=
  ∀ (m : (ℓ : Loc Cert.InMemInputAddReferenceIdeal.nD Cert.InMemInputAddReferenceIdeal.τ Cert.InMemInputAddReferenceIdeal.sig) → Buf (Elt Ideal) ℓ) (g : Dev Cert.InMemInputAddReferenceIdeal.nD → PrngReg), Pre_InMemInputAddReferenceIdeal m →
    θ_run (Cert.InMemInputAddReferenceIdeal.defs (F := Ideal)) (onTc (τ := Cert.InMemInputAddReferenceIdeal.τ) (Cert.InMemInputAddReferenceIdeal.main (F := Ideal))) ⟨m, fun _ => 0, g⟩ (fun r => (∀ c : Dev Cert.InMemInputAddReferenceIdeal.nD,
      r.2.mem ((c.tc : Thread Cert.InMemInputAddReferenceIdeal.nD Cert.InMemInputAddReferenceIdeal.τ).loc Cert.InMemInputAddReferenceIdeal.main_arg0) = m ((c.tc : Thread Cert.InMemInputAddReferenceIdeal.nD Cert.InMemInputAddReferenceIdeal.τ).loc Cert.InMemInputAddReferenceIdeal.main_arg0)
      ∧ r.2.mem ((c.tc : Thread Cert.InMemInputAddReferenceIdeal.nD Cert.InMemInputAddReferenceIdeal.τ).loc Cert.InMemInputAddReferenceIdeal.main_arg1) = m ((c.tc : Thread Cert.InMemInputAddReferenceIdeal.nD Cert.InMemInputAddReferenceIdeal.τ).loc Cert.InMemInputAddReferenceIdeal.main_arg1)
      ∧ r.2.mem ((c.tc : Thread Cert.InMemInputAddReferenceIdeal.nD Cert.InMemInputAddReferenceIdeal.τ).loc Cert.InMemInputAddReferenceIdeal.main_arg2) = m ((c.tc : Thread Cert.InMemInputAddReferenceIdeal.nD Cert.InMemInputAddReferenceIdeal.τ).loc Cert.InMemInputAddReferenceIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_InMem [hInMem : Cert.InMem.Facts] : Prop :=
  ∀ (m : (ℓ : Loc Cert.InMem.nD Cert.InMem.τ Cert.InMem.sig) → Buf (Elt Bits) ℓ) (g : Dev Cert.InMem.nD → PrngReg), Pre_InMem m →
    θ_run (Cert.InMem.defs (F := Bits)) (onTc (τ := Cert.InMem.τ) (Cert.InMem.main (F := Bits))) ⟨m, fun _ => 0, g⟩ (fun r => (∀ c : Dev Cert.InMem.nD,
      r.2.mem ((c.tc : Thread Cert.InMem.nD Cert.InMem.τ).loc Cert.InMem.main_arg0) = m ((c.tc : Thread Cert.InMem.nD Cert.InMem.τ).loc Cert.InMem.main_arg0)
      ∧ r.2.mem ((c.tc : Thread Cert.InMem.nD Cert.InMem.τ).loc Cert.InMem.main_arg1) = m ((c.tc : Thread Cert.InMem.nD Cert.InMem.τ).loc Cert.InMem.main_arg1))
      ∧ r.2.sem = fun _ => 0)

def quiescent_InMemIdeal [hInMemIdeal : Cert.InMemIdeal.Facts] : Prop :=
  ∀ (m : (ℓ : Loc Cert.InMemIdeal.nD Cert.InMemIdeal.τ Cert.InMemIdeal.sig) → Buf (Elt Ideal) ℓ) (g : Dev Cert.InMemIdeal.nD → PrngReg), Pre_InMemIdeal m →
    θ_run (Cert.InMemIdeal.defs (F := Ideal)) (onTc (τ := Cert.InMemIdeal.τ) (Cert.InMemIdeal.main (F := Ideal))) ⟨m, fun _ => 0, g⟩ (fun r => (∀ c : Dev Cert.InMemIdeal.nD,
      r.2.mem ((c.tc : Thread Cert.InMemIdeal.nD Cert.InMemIdeal.τ).loc Cert.InMemIdeal.main_arg0) = m ((c.tc : Thread Cert.InMemIdeal.nD Cert.InMemIdeal.τ).loc Cert.InMemIdeal.main_arg0)
      ∧ r.2.mem ((c.tc : Thread Cert.InMemIdeal.nD Cert.InMemIdeal.τ).loc Cert.InMemIdeal.main_arg1) = m ((c.tc : Thread Cert.InMemIdeal.nD Cert.InMemIdeal.τ).loc Cert.InMemIdeal.main_arg1))
      ∧ r.2.sem = fun _ => 0)

def quiescent_InMemReferenceIdeal [hInMemReferenceIdeal : Cert.InMemReferenceIdeal.Facts] : Prop :=
  ∀ (m : (ℓ : Loc Cert.InMemReferenceIdeal.nD Cert.InMemReferenceIdeal.τ Cert.InMemReferenceIdeal.sig) → Buf (Elt Ideal) ℓ) (g : Dev Cert.InMemReferenceIdeal.nD → PrngReg), Pre_InMemReferenceIdeal m →
    θ_run (Cert.InMemReferenceIdeal.defs (F := Ideal)) (onTc (τ := Cert.InMemReferenceIdeal.τ) (Cert.InMemReferenceIdeal.main (F := Ideal))) ⟨m, fun _ => 0, g⟩ (fun r => (∀ c : Dev Cert.InMemReferenceIdeal.nD,
      r.2.mem ((c.tc : Thread Cert.InMemReferenceIdeal.nD Cert.InMemReferenceIdeal.τ).loc Cert.InMemReferenceIdeal.main_arg0) = m ((c.tc : Thread Cert.InMemReferenceIdeal.nD Cert.InMemReferenceIdeal.τ).loc Cert.InMemReferenceIdeal.main_arg0)
      ∧ r.2.mem ((c.tc : Thread Cert.InMemReferenceIdeal.nD Cert.InMemReferenceIdeal.τ).loc Cert.InMemReferenceIdeal.main_arg1) = m ((c.tc : Thread Cert.InMemReferenceIdeal.nD Cert.InMemReferenceIdeal.τ).loc Cert.InMemReferenceIdeal.main_arg1))
      ∧ r.2.sem = fun _ => 0)

def quiescent_QkvWeight [hQkvWeight : Cert.QkvWeight.Facts] : Prop :=
  ∀ (m : (ℓ : Loc Cert.QkvWeight.nD Cert.QkvWeight.τ Cert.QkvWeight.sig) → Buf (Elt Bits) ℓ) (g : Dev Cert.QkvWeight.nD → PrngReg), Pre_QkvWeight m →
    θ_run (Cert.QkvWeight.defs (F := Bits)) (onTc (τ := Cert.QkvWeight.τ) (Cert.QkvWeight.main (F := Bits))) ⟨m, fun _ => 0, g⟩ (fun r => (∀ c : Dev Cert.QkvWeight.nD,
      r.2.mem ((c.tc : Thread Cert.QkvWeight.nD Cert.QkvWeight.τ).loc Cert.QkvWeight.main_arg0) = m ((c.tc : Thread Cert.QkvWeight.nD Cert.QkvWeight.τ).loc Cert.QkvWeight.main_arg0)
      ∧ r.2.mem ((c.tc : Thread Cert.QkvWeight.nD Cert.QkvWeight.τ).loc Cert.QkvWeight.main_arg1) = m ((c.tc : Thread Cert.QkvWeight.nD Cert.QkvWeight.τ).loc Cert.QkvWeight.main_arg1))
      ∧ r.2.sem = fun _ => 0)

def quiescent_QkvWeightIdeal [hQkvWeightIdeal : Cert.QkvWeightIdeal.Facts] : Prop :=
  ∀ (m : (ℓ : Loc Cert.QkvWeightIdeal.nD Cert.QkvWeightIdeal.τ Cert.QkvWeightIdeal.sig) → Buf (Elt Ideal) ℓ) (g : Dev Cert.QkvWeightIdeal.nD → PrngReg), Pre_QkvWeightIdeal m →
    θ_run (Cert.QkvWeightIdeal.defs (F := Ideal)) (onTc (τ := Cert.QkvWeightIdeal.τ) (Cert.QkvWeightIdeal.main (F := Ideal))) ⟨m, fun _ => 0, g⟩ (fun r => (∀ c : Dev Cert.QkvWeightIdeal.nD,
      r.2.mem ((c.tc : Thread Cert.QkvWeightIdeal.nD Cert.QkvWeightIdeal.τ).loc Cert.QkvWeightIdeal.main_arg0) = m ((c.tc : Thread Cert.QkvWeightIdeal.nD Cert.QkvWeightIdeal.τ).loc Cert.QkvWeightIdeal.main_arg0)
      ∧ r.2.mem ((c.tc : Thread Cert.QkvWeightIdeal.nD Cert.QkvWeightIdeal.τ).loc Cert.QkvWeightIdeal.main_arg1) = m ((c.tc : Thread Cert.QkvWeightIdeal.nD Cert.QkvWeightIdeal.τ).loc Cert.QkvWeightIdeal.main_arg1))
      ∧ r.2.sem = fun _ => 0)

def quiescent_QkvWeightReferenceIdeal [hQkvWeightReferenceIdeal : Cert.QkvWeightReferenceIdeal.Facts] : Prop :=
  ∀ (m : (ℓ : Loc Cert.QkvWeightReferenceIdeal.nD Cert.QkvWeightReferenceIdeal.τ Cert.QkvWeightReferenceIdeal.sig) → Buf (Elt Ideal) ℓ) (g : Dev Cert.QkvWeightReferenceIdeal.nD → PrngReg), Pre_QkvWeightReferenceIdeal m →
    θ_run (Cert.QkvWeightReferenceIdeal.defs (F := Ideal)) (onTc (τ := Cert.QkvWeightReferenceIdeal.τ) (Cert.QkvWeightReferenceIdeal.main (F := Ideal))) ⟨m, fun _ => 0, g⟩ (fun r => (∀ c : Dev Cert.QkvWeightReferenceIdeal.nD,
      r.2.mem ((c.tc : Thread Cert.QkvWeightReferenceIdeal.nD Cert.QkvWeightReferenceIdeal.τ).loc Cert.QkvWeightReferenceIdeal.main_arg0) = m ((c.tc : Thread Cert.QkvWeightReferenceIdeal.nD Cert.QkvWeightReferenceIdeal.τ).loc Cert.QkvWeightReferenceIdeal.main_arg0)
      ∧ r.2.mem ((c.tc : Thread Cert.QkvWeightReferenceIdeal.nD Cert.QkvWeightReferenceIdeal.τ).loc Cert.QkvWeightReferenceIdeal.main_arg1) = m ((c.tc : Thread Cert.QkvWeightReferenceIdeal.nD Cert.QkvWeightReferenceIdeal.τ).loc Cert.QkvWeightReferenceIdeal.main_arg1))
      ∧ r.2.sem = fun _ => 0)

def quiescent_QkvInput [hQkvInput : Cert.QkvInput.Facts] : Prop :=
  ∀ (m : (ℓ : Loc Cert.QkvInput.nD Cert.QkvInput.τ Cert.QkvInput.sig) → Buf (Elt Bits) ℓ) (g : Dev Cert.QkvInput.nD → PrngReg), Pre_QkvInput m →
    θ_run (Cert.QkvInput.defs (F := Bits)) (onTc (τ := Cert.QkvInput.τ) (Cert.QkvInput.main (F := Bits))) ⟨m, fun _ => 0, g⟩ (fun r => (∀ c : Dev Cert.QkvInput.nD,
      r.2.mem ((c.tc : Thread Cert.QkvInput.nD Cert.QkvInput.τ).loc Cert.QkvInput.main_arg0) = m ((c.tc : Thread Cert.QkvInput.nD Cert.QkvInput.τ).loc Cert.QkvInput.main_arg0)
      ∧ r.2.mem ((c.tc : Thread Cert.QkvInput.nD Cert.QkvInput.τ).loc Cert.QkvInput.main_arg1) = m ((c.tc : Thread Cert.QkvInput.nD Cert.QkvInput.τ).loc Cert.QkvInput.main_arg1))
      ∧ r.2.sem = fun _ => 0)

def quiescent_QkvInputIdeal [hQkvInputIdeal : Cert.QkvInputIdeal.Facts] : Prop :=
  ∀ (m : (ℓ : Loc Cert.QkvInputIdeal.nD Cert.QkvInputIdeal.τ Cert.QkvInputIdeal.sig) → Buf (Elt Ideal) ℓ) (g : Dev Cert.QkvInputIdeal.nD → PrngReg), Pre_QkvInputIdeal m →
    θ_run (Cert.QkvInputIdeal.defs (F := Ideal)) (onTc (τ := Cert.QkvInputIdeal.τ) (Cert.QkvInputIdeal.main (F := Ideal))) ⟨m, fun _ => 0, g⟩ (fun r => (∀ c : Dev Cert.QkvInputIdeal.nD,
      r.2.mem ((c.tc : Thread Cert.QkvInputIdeal.nD Cert.QkvInputIdeal.τ).loc Cert.QkvInputIdeal.main_arg0) = m ((c.tc : Thread Cert.QkvInputIdeal.nD Cert.QkvInputIdeal.τ).loc Cert.QkvInputIdeal.main_arg0)
      ∧ r.2.mem ((c.tc : Thread Cert.QkvInputIdeal.nD Cert.QkvInputIdeal.τ).loc Cert.QkvInputIdeal.main_arg1) = m ((c.tc : Thread Cert.QkvInputIdeal.nD Cert.QkvInputIdeal.τ).loc Cert.QkvInputIdeal.main_arg1))
      ∧ r.2.sem = fun _ => 0)

def quiescent_QkvInputReferenceIdeal [hQkvInputReferenceIdeal : Cert.QkvInputReferenceIdeal.Facts] : Prop :=
  ∀ (m : (ℓ : Loc Cert.QkvInputReferenceIdeal.nD Cert.QkvInputReferenceIdeal.τ Cert.QkvInputReferenceIdeal.sig) → Buf (Elt Ideal) ℓ) (g : Dev Cert.QkvInputReferenceIdeal.nD → PrngReg), Pre_QkvInputReferenceIdeal m →
    θ_run (Cert.QkvInputReferenceIdeal.defs (F := Ideal)) (onTc (τ := Cert.QkvInputReferenceIdeal.τ) (Cert.QkvInputReferenceIdeal.main (F := Ideal))) ⟨m, fun _ => 0, g⟩ (fun r => (∀ c : Dev Cert.QkvInputReferenceIdeal.nD,
      r.2.mem ((c.tc : Thread Cert.QkvInputReferenceIdeal.nD Cert.QkvInputReferenceIdeal.τ).loc Cert.QkvInputReferenceIdeal.main_arg0) = m ((c.tc : Thread Cert.QkvInputReferenceIdeal.nD Cert.QkvInputReferenceIdeal.τ).loc Cert.QkvInputReferenceIdeal.main_arg0)
      ∧ r.2.mem ((c.tc : Thread Cert.QkvInputReferenceIdeal.nD Cert.QkvInputReferenceIdeal.τ).loc Cert.QkvInputReferenceIdeal.main_arg1) = m ((c.tc : Thread Cert.QkvInputReferenceIdeal.nD Cert.QkvInputReferenceIdeal.τ).loc Cert.QkvInputReferenceIdeal.main_arg1))
      ∧ r.2.sem = fun _ => 0)

def quiescent_QkvInputAdd [hQkvInputAdd : Cert.QkvInputAdd.Facts] : Prop :=
  ∀ (m : (ℓ : Loc Cert.QkvInputAdd.nD Cert.QkvInputAdd.τ Cert.QkvInputAdd.sig) → Buf (Elt Bits) ℓ) (g : Dev Cert.QkvInputAdd.nD → PrngReg), Pre_QkvInputAdd m →
    θ_run (Cert.QkvInputAdd.defs (F := Bits)) (onTc (τ := Cert.QkvInputAdd.τ) (Cert.QkvInputAdd.main (F := Bits))) ⟨m, fun _ => 0, g⟩ (fun r => (∀ c : Dev Cert.QkvInputAdd.nD,
      r.2.mem ((c.tc : Thread Cert.QkvInputAdd.nD Cert.QkvInputAdd.τ).loc Cert.QkvInputAdd.main_arg0) = m ((c.tc : Thread Cert.QkvInputAdd.nD Cert.QkvInputAdd.τ).loc Cert.QkvInputAdd.main_arg0)
      ∧ r.2.mem ((c.tc : Thread Cert.QkvInputAdd.nD Cert.QkvInputAdd.τ).loc Cert.QkvInputAdd.main_arg1) = m ((c.tc : Thread Cert.QkvInputAdd.nD Cert.QkvInputAdd.τ).loc Cert.QkvInputAdd.main_arg1)
      ∧ r.2.mem ((c.tc : Thread Cert.QkvInputAdd.nD Cert.QkvInputAdd.τ).loc Cert.QkvInputAdd.main_arg2) = m ((c.tc : Thread Cert.QkvInputAdd.nD Cert.QkvInputAdd.τ).loc Cert.QkvInputAdd.main_arg2))
      ∧ r.2.sem = fun _ => 0)

def quiescent_QkvInputAddIdeal [hQkvInputAddIdeal : Cert.QkvInputAddIdeal.Facts] : Prop :=
  ∀ (m : (ℓ : Loc Cert.QkvInputAddIdeal.nD Cert.QkvInputAddIdeal.τ Cert.QkvInputAddIdeal.sig) → Buf (Elt Ideal) ℓ) (g : Dev Cert.QkvInputAddIdeal.nD → PrngReg), Pre_QkvInputAddIdeal m →
    θ_run (Cert.QkvInputAddIdeal.defs (F := Ideal)) (onTc (τ := Cert.QkvInputAddIdeal.τ) (Cert.QkvInputAddIdeal.main (F := Ideal))) ⟨m, fun _ => 0, g⟩ (fun r => (∀ c : Dev Cert.QkvInputAddIdeal.nD,
      r.2.mem ((c.tc : Thread Cert.QkvInputAddIdeal.nD Cert.QkvInputAddIdeal.τ).loc Cert.QkvInputAddIdeal.main_arg0) = m ((c.tc : Thread Cert.QkvInputAddIdeal.nD Cert.QkvInputAddIdeal.τ).loc Cert.QkvInputAddIdeal.main_arg0)
      ∧ r.2.mem ((c.tc : Thread Cert.QkvInputAddIdeal.nD Cert.QkvInputAddIdeal.τ).loc Cert.QkvInputAddIdeal.main_arg1) = m ((c.tc : Thread Cert.QkvInputAddIdeal.nD Cert.QkvInputAddIdeal.τ).loc Cert.QkvInputAddIdeal.main_arg1)
      ∧ r.2.mem ((c.tc : Thread Cert.QkvInputAddIdeal.nD Cert.QkvInputAddIdeal.τ).loc Cert.QkvInputAddIdeal.main_arg2) = m ((c.tc : Thread Cert.QkvInputAddIdeal.nD Cert.QkvInputAddIdeal.τ).loc Cert.QkvInputAddIdeal.main_arg2))
      ∧ r.2.sem = fun _ => 0)

def quiescent_QkvInputAddReferenceIdeal [hQkvInputAddReferenceIdeal : Cert.QkvInputAddReferenceIdeal.Facts] : Prop :=
  ∀ (m : (ℓ : Loc Cert.QkvInputAddReferenceIdeal.nD Cert.QkvInputAddReferenceIdeal.τ Cert.QkvInputAddReferenceIdeal.sig) → Buf (Elt Ideal) ℓ) (g : Dev Cert.QkvInputAddReferenceIdeal.nD → PrngReg), Pre_QkvInputAddReferenceIdeal m →
    θ_run (Cert.QkvInputAddReferenceIdeal.defs (F := Ideal)) (onTc (τ := Cert.QkvInputAddReferenceIdeal.τ) (Cert.QkvInputAddReferenceIdeal.main (F := Ideal))) ⟨m, fun _ => 0, g⟩ (fun r => (∀ c : Dev Cert.QkvInputAddReferenceIdeal.nD,
      r.2.mem ((c.tc : Thread Cert.QkvInputAddReferenceIdeal.nD Cert.QkvInputAddReferenceIdeal.τ).loc Cert.QkvInputAddReferenceIdeal.main_arg0) = m ((c.tc : Thread Cert.QkvInputAddReferenceIdeal.nD Cert.QkvInputAddReferenceIdeal.τ).loc Cert.QkvInputAddReferenceIdeal.main_arg0)
      ∧ r.2.mem ((c.tc : Thread Cert.QkvInputAddReferenceIdeal.nD Cert.QkvInputAddReferenceIdeal.τ).loc Cert.QkvInputAddReferenceIdeal.main_arg1) = m ((c.tc : Thread Cert.QkvInputAddReferenceIdeal.nD Cert.QkvInputAddReferenceIdeal.τ).loc Cert.QkvInputAddReferenceIdeal.main_arg1)
      ∧ r.2.mem ((c.tc : Thread Cert.QkvInputAddReferenceIdeal.nD Cert.QkvInputAddReferenceIdeal.τ).loc Cert.QkvInputAddReferenceIdeal.main_arg2) = m ((c.tc : Thread Cert.QkvInputAddReferenceIdeal.nD Cert.QkvInputAddReferenceIdeal.τ).loc Cert.QkvInputAddReferenceIdeal.main_arg2))
      ∧ r.2.sem = fun _ => 0)

def quiescent_GateWeight [hGateWeight : Cert.GateWeight.Facts] : Prop :=
  ∀ (m : (ℓ : Loc Cert.GateWeight.nD Cert.GateWeight.τ Cert.GateWeight.sig) → Buf (Elt Bits) ℓ) (g : Dev Cert.GateWeight.nD → PrngReg), Pre_GateWeight m →
    θ_run (Cert.GateWeight.defs (F := Bits)) (onTc (τ := Cert.GateWeight.τ) (Cert.GateWeight.main (F := Bits))) ⟨m, fun _ => 0, g⟩ (fun r => (∀ c : Dev Cert.GateWeight.nD,
      r.2.mem ((c.tc : Thread Cert.GateWeight.nD Cert.GateWeight.τ).loc Cert.GateWeight.main_arg0) = m ((c.tc : Thread Cert.GateWeight.nD Cert.GateWeight.τ).loc Cert.GateWeight.main_arg0)
      ∧ r.2.mem ((c.tc : Thread Cert.GateWeight.nD Cert.GateWeight.τ).loc Cert.GateWeight.main_arg1) = m ((c.tc : Thread Cert.GateWeight.nD Cert.GateWeight.τ).loc Cert.GateWeight.main_arg1))
      ∧ r.2.sem = fun _ => 0)

def quiescent_GateWeightIdeal [hGateWeightIdeal : Cert.GateWeightIdeal.Facts] : Prop :=
  ∀ (m : (ℓ : Loc Cert.GateWeightIdeal.nD Cert.GateWeightIdeal.τ Cert.GateWeightIdeal.sig) → Buf (Elt Ideal) ℓ) (g : Dev Cert.GateWeightIdeal.nD → PrngReg), Pre_GateWeightIdeal m →
    θ_run (Cert.GateWeightIdeal.defs (F := Ideal)) (onTc (τ := Cert.GateWeightIdeal.τ) (Cert.GateWeightIdeal.main (F := Ideal))) ⟨m, fun _ => 0, g⟩ (fun r => (∀ c : Dev Cert.GateWeightIdeal.nD,
      r.2.mem ((c.tc : Thread Cert.GateWeightIdeal.nD Cert.GateWeightIdeal.τ).loc Cert.GateWeightIdeal.main_arg0) = m ((c.tc : Thread Cert.GateWeightIdeal.nD Cert.GateWeightIdeal.τ).loc Cert.GateWeightIdeal.main_arg0)
      ∧ r.2.mem ((c.tc : Thread Cert.GateWeightIdeal.nD Cert.GateWeightIdeal.τ).loc Cert.GateWeightIdeal.main_arg1) = m ((c.tc : Thread Cert.GateWeightIdeal.nD Cert.GateWeightIdeal.τ).loc Cert.GateWeightIdeal.main_arg1))
      ∧ r.2.sem = fun _ => 0)

def quiescent_GateWeightReferenceIdeal [hGateWeightReferenceIdeal : Cert.GateWeightReferenceIdeal.Facts] : Prop :=
  ∀ (m : (ℓ : Loc Cert.GateWeightReferenceIdeal.nD Cert.GateWeightReferenceIdeal.τ Cert.GateWeightReferenceIdeal.sig) → Buf (Elt Ideal) ℓ) (g : Dev Cert.GateWeightReferenceIdeal.nD → PrngReg), Pre_GateWeightReferenceIdeal m →
    θ_run (Cert.GateWeightReferenceIdeal.defs (F := Ideal)) (onTc (τ := Cert.GateWeightReferenceIdeal.τ) (Cert.GateWeightReferenceIdeal.main (F := Ideal))) ⟨m, fun _ => 0, g⟩ (fun r => (∀ c : Dev Cert.GateWeightReferenceIdeal.nD,
      r.2.mem ((c.tc : Thread Cert.GateWeightReferenceIdeal.nD Cert.GateWeightReferenceIdeal.τ).loc Cert.GateWeightReferenceIdeal.main_arg0) = m ((c.tc : Thread Cert.GateWeightReferenceIdeal.nD Cert.GateWeightReferenceIdeal.τ).loc Cert.GateWeightReferenceIdeal.main_arg0)
      ∧ r.2.mem ((c.tc : Thread Cert.GateWeightReferenceIdeal.nD Cert.GateWeightReferenceIdeal.τ).loc Cert.GateWeightReferenceIdeal.main_arg1) = m ((c.tc : Thread Cert.GateWeightReferenceIdeal.nD Cert.GateWeightReferenceIdeal.τ).loc Cert.GateWeightReferenceIdeal.main_arg1))
      ∧ r.2.sem = fun _ => 0)

def quiescent_GateInputAdd [hGateInputAdd : Cert.GateInputAdd.Facts] : Prop :=
  ∀ (m : (ℓ : Loc Cert.GateInputAdd.nD Cert.GateInputAdd.τ Cert.GateInputAdd.sig) → Buf (Elt Bits) ℓ) (g : Dev Cert.GateInputAdd.nD → PrngReg), Pre_GateInputAdd m →
    θ_run (Cert.GateInputAdd.defs (F := Bits)) (onTc (τ := Cert.GateInputAdd.τ) (Cert.GateInputAdd.main (F := Bits))) ⟨m, fun _ => 0, g⟩ (fun r => (∀ c : Dev Cert.GateInputAdd.nD,
      r.2.mem ((c.tc : Thread Cert.GateInputAdd.nD Cert.GateInputAdd.τ).loc Cert.GateInputAdd.main_arg0) = m ((c.tc : Thread Cert.GateInputAdd.nD Cert.GateInputAdd.τ).loc Cert.GateInputAdd.main_arg0)
      ∧ r.2.mem ((c.tc : Thread Cert.GateInputAdd.nD Cert.GateInputAdd.τ).loc Cert.GateInputAdd.main_arg1) = m ((c.tc : Thread Cert.GateInputAdd.nD Cert.GateInputAdd.τ).loc Cert.GateInputAdd.main_arg1)
      ∧ r.2.mem ((c.tc : Thread Cert.GateInputAdd.nD Cert.GateInputAdd.τ).loc Cert.GateInputAdd.main_arg2) = m ((c.tc : Thread Cert.GateInputAdd.nD Cert.GateInputAdd.τ).loc Cert.GateInputAdd.main_arg2))
      ∧ r.2.sem = fun _ => 0)

def quiescent_GateInputAddIdeal [hGateInputAddIdeal : Cert.GateInputAddIdeal.Facts] : Prop :=
  ∀ (m : (ℓ : Loc Cert.GateInputAddIdeal.nD Cert.GateInputAddIdeal.τ Cert.GateInputAddIdeal.sig) → Buf (Elt Ideal) ℓ) (g : Dev Cert.GateInputAddIdeal.nD → PrngReg), Pre_GateInputAddIdeal m →
    θ_run (Cert.GateInputAddIdeal.defs (F := Ideal)) (onTc (τ := Cert.GateInputAddIdeal.τ) (Cert.GateInputAddIdeal.main (F := Ideal))) ⟨m, fun _ => 0, g⟩ (fun r => (∀ c : Dev Cert.GateInputAddIdeal.nD,
      r.2.mem ((c.tc : Thread Cert.GateInputAddIdeal.nD Cert.GateInputAddIdeal.τ).loc Cert.GateInputAddIdeal.main_arg0) = m ((c.tc : Thread Cert.GateInputAddIdeal.nD Cert.GateInputAddIdeal.τ).loc Cert.GateInputAddIdeal.main_arg0)
      ∧ r.2.mem ((c.tc : Thread Cert.GateInputAddIdeal.nD Cert.GateInputAddIdeal.τ).loc Cert.GateInputAddIdeal.main_arg1) = m ((c.tc : Thread Cert.GateInputAddIdeal.nD Cert.GateInputAddIdeal.τ).loc Cert.GateInputAddIdeal.main_arg1)
      ∧ r.2.mem ((c.tc : Thread Cert.GateInputAddIdeal.nD Cert.GateInputAddIdeal.τ).loc Cert.GateInputAddIdeal.main_arg2) = m ((c.tc : Thread Cert.GateInputAddIdeal.nD Cert.GateInputAddIdeal.τ).loc Cert.GateInputAddIdeal.main_arg2))
      ∧ r.2.sem = fun _ => 0)

def quiescent_GateInputAddReferenceIdeal [hGateInputAddReferenceIdeal : Cert.GateInputAddReferenceIdeal.Facts] : Prop :=
  ∀ (m : (ℓ : Loc Cert.GateInputAddReferenceIdeal.nD Cert.GateInputAddReferenceIdeal.τ Cert.GateInputAddReferenceIdeal.sig) → Buf (Elt Ideal) ℓ) (g : Dev Cert.GateInputAddReferenceIdeal.nD → PrngReg), Pre_GateInputAddReferenceIdeal m →
    θ_run (Cert.GateInputAddReferenceIdeal.defs (F := Ideal)) (onTc (τ := Cert.GateInputAddReferenceIdeal.τ) (Cert.GateInputAddReferenceIdeal.main (F := Ideal))) ⟨m, fun _ => 0, g⟩ (fun r => (∀ c : Dev Cert.GateInputAddReferenceIdeal.nD,
      r.2.mem ((c.tc : Thread Cert.GateInputAddReferenceIdeal.nD Cert.GateInputAddReferenceIdeal.τ).loc Cert.GateInputAddReferenceIdeal.main_arg0) = m ((c.tc : Thread Cert.GateInputAddReferenceIdeal.nD Cert.GateInputAddReferenceIdeal.τ).loc Cert.GateInputAddReferenceIdeal.main_arg0)
      ∧ r.2.mem ((c.tc : Thread Cert.GateInputAddReferenceIdeal.nD Cert.GateInputAddReferenceIdeal.τ).loc Cert.GateInputAddReferenceIdeal.main_arg1) = m ((c.tc : Thread Cert.GateInputAddReferenceIdeal.nD Cert.GateInputAddReferenceIdeal.τ).loc Cert.GateInputAddReferenceIdeal.main_arg1)
      ∧ r.2.mem ((c.tc : Thread Cert.GateInputAddReferenceIdeal.nD Cert.GateInputAddReferenceIdeal.τ).loc Cert.GateInputAddReferenceIdeal.main_arg2) = m ((c.tc : Thread Cert.GateInputAddReferenceIdeal.nD Cert.GateInputAddReferenceIdeal.τ).loc Cert.GateInputAddReferenceIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1))
      ∧ r.2.sem = fun _ => 0)

def quiescent_MemKvWeight [hMemKvWeight : Cert.MemKvWeight.Facts] : Prop :=
  ∀ (m : (ℓ : Loc Cert.MemKvWeight.nD Cert.MemKvWeight.τ Cert.MemKvWeight.sig) → Buf (Elt Bits) ℓ) (g : Dev Cert.MemKvWeight.nD → PrngReg), Pre_MemKvWeight m →
    θ_run (Cert.MemKvWeight.defs (F := Bits)) (onTc (τ := Cert.MemKvWeight.τ) (Cert.MemKvWeight.main (F := Bits))) ⟨m, fun _ => 0, g⟩ (fun r => (∀ c : Dev Cert.MemKvWeight.nD,
      r.2.mem ((c.tc : Thread Cert.MemKvWeight.nD Cert.MemKvWeight.τ).loc Cert.MemKvWeight.main_arg0) = m ((c.tc : Thread Cert.MemKvWeight.nD Cert.MemKvWeight.τ).loc Cert.MemKvWeight.main_arg0)
      ∧ r.2.mem ((c.tc : Thread Cert.MemKvWeight.nD Cert.MemKvWeight.τ).loc Cert.MemKvWeight.main_arg1) = m ((c.tc : Thread Cert.MemKvWeight.nD Cert.MemKvWeight.τ).loc Cert.MemKvWeight.main_arg1))
      ∧ r.2.sem = fun _ => 0)

def quiescent_MemKvWeightIdeal [hMemKvWeightIdeal : Cert.MemKvWeightIdeal.Facts] : Prop :=
  ∀ (m : (ℓ : Loc Cert.MemKvWeightIdeal.nD Cert.MemKvWeightIdeal.τ Cert.MemKvWeightIdeal.sig) → Buf (Elt Ideal) ℓ) (g : Dev Cert.MemKvWeightIdeal.nD → PrngReg), Pre_MemKvWeightIdeal m →
    θ_run (Cert.MemKvWeightIdeal.defs (F := Ideal)) (onTc (τ := Cert.MemKvWeightIdeal.τ) (Cert.MemKvWeightIdeal.main (F := Ideal))) ⟨m, fun _ => 0, g⟩ (fun r => (∀ c : Dev Cert.MemKvWeightIdeal.nD,
      r.2.mem ((c.tc : Thread Cert.MemKvWeightIdeal.nD Cert.MemKvWeightIdeal.τ).loc Cert.MemKvWeightIdeal.main_arg0) = m ((c.tc : Thread Cert.MemKvWeightIdeal.nD Cert.MemKvWeightIdeal.τ).loc Cert.MemKvWeightIdeal.main_arg0)
      ∧ r.2.mem ((c.tc : Thread Cert.MemKvWeightIdeal.nD Cert.MemKvWeightIdeal.τ).loc Cert.MemKvWeightIdeal.main_arg1) = m ((c.tc : Thread Cert.MemKvWeightIdeal.nD Cert.MemKvWeightIdeal.τ).loc Cert.MemKvWeightIdeal.main_arg1))
      ∧ r.2.sem = fun _ => 0)

def quiescent_MemKvWeightReferenceIdeal [hMemKvWeightReferenceIdeal : Cert.MemKvWeightReferenceIdeal.Facts] : Prop :=
  ∀ (m : (ℓ : Loc Cert.MemKvWeightReferenceIdeal.nD Cert.MemKvWeightReferenceIdeal.τ Cert.MemKvWeightReferenceIdeal.sig) → Buf (Elt Ideal) ℓ) (g : Dev Cert.MemKvWeightReferenceIdeal.nD → PrngReg), Pre_MemKvWeightReferenceIdeal m →
    θ_run (Cert.MemKvWeightReferenceIdeal.defs (F := Ideal)) (onTc (τ := Cert.MemKvWeightReferenceIdeal.τ) (Cert.MemKvWeightReferenceIdeal.main (F := Ideal))) ⟨m, fun _ => 0, g⟩ (fun r => (∀ c : Dev Cert.MemKvWeightReferenceIdeal.nD,
      r.2.mem ((c.tc : Thread Cert.MemKvWeightReferenceIdeal.nD Cert.MemKvWeightReferenceIdeal.τ).loc Cert.MemKvWeightReferenceIdeal.main_arg0) = m ((c.tc : Thread Cert.MemKvWeightReferenceIdeal.nD Cert.MemKvWeightReferenceIdeal.τ).loc Cert.MemKvWeightReferenceIdeal.main_arg0)
      ∧ r.2.mem ((c.tc : Thread Cert.MemKvWeightReferenceIdeal.nD Cert.MemKvWeightReferenceIdeal.τ).loc Cert.MemKvWeightReferenceIdeal.main_arg1) = m ((c.tc : Thread Cert.MemKvWeightReferenceIdeal.nD Cert.MemKvWeightReferenceIdeal.τ).loc Cert.MemKvWeightReferenceIdeal.main_arg1))
      ∧ r.2.sem = fun _ => 0)

def quiescent_MemKvInput [hMemKvInput : Cert.MemKvInput.Facts] : Prop :=
  ∀ (m : (ℓ : Loc Cert.MemKvInput.nD Cert.MemKvInput.τ Cert.MemKvInput.sig) → Buf (Elt Bits) ℓ) (g : Dev Cert.MemKvInput.nD → PrngReg), Pre_MemKvInput m →
    θ_run (Cert.MemKvInput.defs (F := Bits)) (onTc (τ := Cert.MemKvInput.τ) (Cert.MemKvInput.main (F := Bits))) ⟨m, fun _ => 0, g⟩ (fun r => (∀ c : Dev Cert.MemKvInput.nD,
      r.2.mem ((c.tc : Thread Cert.MemKvInput.nD Cert.MemKvInput.τ).loc Cert.MemKvInput.main_arg0) = m ((c.tc : Thread Cert.MemKvInput.nD Cert.MemKvInput.τ).loc Cert.MemKvInput.main_arg0)
      ∧ r.2.mem ((c.tc : Thread Cert.MemKvInput.nD Cert.MemKvInput.τ).loc Cert.MemKvInput.main_arg1) = m ((c.tc : Thread Cert.MemKvInput.nD Cert.MemKvInput.τ).loc Cert.MemKvInput.main_arg1))
      ∧ r.2.sem = fun _ => 0)

def quiescent_MemKvInputIdeal [hMemKvInputIdeal : Cert.MemKvInputIdeal.Facts] : Prop :=
  ∀ (m : (ℓ : Loc Cert.MemKvInputIdeal.nD Cert.MemKvInputIdeal.τ Cert.MemKvInputIdeal.sig) → Buf (Elt Ideal) ℓ) (g : Dev Cert.MemKvInputIdeal.nD → PrngReg), Pre_MemKvInputIdeal m →
    θ_run (Cert.MemKvInputIdeal.defs (F := Ideal)) (onTc (τ := Cert.MemKvInputIdeal.τ) (Cert.MemKvInputIdeal.main (F := Ideal))) ⟨m, fun _ => 0, g⟩ (fun r => (∀ c : Dev Cert.MemKvInputIdeal.nD,
      r.2.mem ((c.tc : Thread Cert.MemKvInputIdeal.nD Cert.MemKvInputIdeal.τ).loc Cert.MemKvInputIdeal.main_arg0) = m ((c.tc : Thread Cert.MemKvInputIdeal.nD Cert.MemKvInputIdeal.τ).loc Cert.MemKvInputIdeal.main_arg0)
      ∧ r.2.mem ((c.tc : Thread Cert.MemKvInputIdeal.nD Cert.MemKvInputIdeal.τ).loc Cert.MemKvInputIdeal.main_arg1) = m ((c.tc : Thread Cert.MemKvInputIdeal.nD Cert.MemKvInputIdeal.τ).loc Cert.MemKvInputIdeal.main_arg1))
      ∧ r.2.sem = fun _ => 0)

def quiescent_MemKvInputReferenceIdeal [hMemKvInputReferenceIdeal : Cert.MemKvInputReferenceIdeal.Facts] : Prop :=
  ∀ (m : (ℓ : Loc Cert.MemKvInputReferenceIdeal.nD Cert.MemKvInputReferenceIdeal.τ Cert.MemKvInputReferenceIdeal.sig) → Buf (Elt Ideal) ℓ) (g : Dev Cert.MemKvInputReferenceIdeal.nD → PrngReg), Pre_MemKvInputReferenceIdeal m →
    θ_run (Cert.MemKvInputReferenceIdeal.defs (F := Ideal)) (onTc (τ := Cert.MemKvInputReferenceIdeal.τ) (Cert.MemKvInputReferenceIdeal.main (F := Ideal))) ⟨m, fun _ => 0, g⟩ (fun r => (∀ c : Dev Cert.MemKvInputReferenceIdeal.nD,
      r.2.mem ((c.tc : Thread Cert.MemKvInputReferenceIdeal.nD Cert.MemKvInputReferenceIdeal.τ).loc Cert.MemKvInputReferenceIdeal.main_arg0) = m ((c.tc : Thread Cert.MemKvInputReferenceIdeal.nD Cert.MemKvInputReferenceIdeal.τ).loc Cert.MemKvInputReferenceIdeal.main_arg0)
      ∧ r.2.mem ((c.tc : Thread Cert.MemKvInputReferenceIdeal.nD Cert.MemKvInputReferenceIdeal.τ).loc Cert.MemKvInputReferenceIdeal.main_arg1) = m ((c.tc : Thread Cert.MemKvInputReferenceIdeal.nD Cert.MemKvInputReferenceIdeal.τ).loc Cert.MemKvInputReferenceIdeal.main_arg1))
      ∧ r.2.sem = fun _ => 0)

def quiescent_MemKvInputAdd [hMemKvInputAdd : Cert.MemKvInputAdd.Facts] : Prop :=
  ∀ (m : (ℓ : Loc Cert.MemKvInputAdd.nD Cert.MemKvInputAdd.τ Cert.MemKvInputAdd.sig) → Buf (Elt Bits) ℓ) (g : Dev Cert.MemKvInputAdd.nD → PrngReg), Pre_MemKvInputAdd m →
    θ_run (Cert.MemKvInputAdd.defs (F := Bits)) (onTc (τ := Cert.MemKvInputAdd.τ) (Cert.MemKvInputAdd.main (F := Bits))) ⟨m, fun _ => 0, g⟩ (fun r => (∀ c : Dev Cert.MemKvInputAdd.nD,
      r.2.mem ((c.tc : Thread Cert.MemKvInputAdd.nD Cert.MemKvInputAdd.τ).loc Cert.MemKvInputAdd.main_arg0) = m ((c.tc : Thread Cert.MemKvInputAdd.nD Cert.MemKvInputAdd.τ).loc Cert.MemKvInputAdd.main_arg0)
      ∧ r.2.mem ((c.tc : Thread Cert.MemKvInputAdd.nD Cert.MemKvInputAdd.τ).loc Cert.MemKvInputAdd.main_arg1) = m ((c.tc : Thread Cert.MemKvInputAdd.nD Cert.MemKvInputAdd.τ).loc Cert.MemKvInputAdd.main_arg1)
      ∧ r.2.mem ((c.tc : Thread Cert.MemKvInputAdd.nD Cert.MemKvInputAdd.τ).loc Cert.MemKvInputAdd.main_arg2) = m ((c.tc : Thread Cert.MemKvInputAdd.nD Cert.MemKvInputAdd.τ).loc Cert.MemKvInputAdd.main_arg2))
      ∧ r.2.sem = fun _ => 0)

def quiescent_MemKvInputAddIdeal [hMemKvInputAddIdeal : Cert.MemKvInputAddIdeal.Facts] : Prop :=
  ∀ (m : (ℓ : Loc Cert.MemKvInputAddIdeal.nD Cert.MemKvInputAddIdeal.τ Cert.MemKvInputAddIdeal.sig) → Buf (Elt Ideal) ℓ) (g : Dev Cert.MemKvInputAddIdeal.nD → PrngReg), Pre_MemKvInputAddIdeal m →
    θ_run (Cert.MemKvInputAddIdeal.defs (F := Ideal)) (onTc (τ := Cert.MemKvInputAddIdeal.τ) (Cert.MemKvInputAddIdeal.main (F := Ideal))) ⟨m, fun _ => 0, g⟩ (fun r => (∀ c : Dev Cert.MemKvInputAddIdeal.nD,
      r.2.mem ((c.tc : Thread Cert.MemKvInputAddIdeal.nD Cert.MemKvInputAddIdeal.τ).loc Cert.MemKvInputAddIdeal.main_arg0) = m ((c.tc : Thread Cert.MemKvInputAddIdeal.nD Cert.MemKvInputAddIdeal.τ).loc Cert.MemKvInputAddIdeal.main_arg0)
      ∧ r.2.mem ((c.tc : Thread Cert.MemKvInputAddIdeal.nD Cert.MemKvInputAddIdeal.τ).loc Cert.MemKvInputAddIdeal.main_arg1) = m ((c.tc : Thread Cert.MemKvInputAddIdeal.nD Cert.MemKvInputAddIdeal.τ).loc Cert.MemKvInputAddIdeal.main_arg1)
      ∧ r.2.mem ((c.tc : Thread Cert.MemKvInputAddIdeal.nD Cert.MemKvInputAddIdeal.τ).loc Cert.MemKvInputAddIdeal.main_arg2) = m ((c.tc : Thread Cert.MemKvInputAddIdeal.nD Cert.MemKvInputAddIdeal.τ).loc Cert.MemKvInputAddIdeal.main_arg2))
      ∧ r.2.sem = fun _ => 0)

def quiescent_MemKvInputAddReferenceIdeal [hMemKvInputAddReferenceIdeal : Cert.MemKvInputAddReferenceIdeal.Facts] : Prop :=
  ∀ (m : (ℓ : Loc Cert.MemKvInputAddReferenceIdeal.nD Cert.MemKvInputAddReferenceIdeal.τ Cert.MemKvInputAddReferenceIdeal.sig) → Buf (Elt Ideal) ℓ) (g : Dev Cert.MemKvInputAddReferenceIdeal.nD → PrngReg), Pre_MemKvInputAddReferenceIdeal m →
    θ_run (Cert.MemKvInputAddReferenceIdeal.defs (F := Ideal)) (onTc (τ := Cert.MemKvInputAddReferenceIdeal.τ) (Cert.MemKvInputAddReferenceIdeal.main (F := Ideal))) ⟨m, fun _ => 0, g⟩ (fun r => (∀ c : Dev Cert.MemKvInputAddReferenceIdeal.nD,
      r.2.mem ((c.tc : Thread Cert.MemKvInputAddReferenceIdeal.nD Cert.MemKvInputAddReferenceIdeal.τ).loc Cert.MemKvInputAddReferenceIdeal.main_arg0) = m ((c.tc : Thread Cert.MemKvInputAddReferenceIdeal.nD Cert.MemKvInputAddReferenceIdeal.τ).loc Cert.MemKvInputAddReferenceIdeal.main_arg0)
      ∧ r.2.mem ((c.tc : Thread Cert.MemKvInputAddReferenceIdeal.nD Cert.MemKvInputAddReferenceIdeal.τ).loc Cert.MemKvInputAddReferenceIdeal.main_arg1) = m ((c.tc : Thread Cert.MemKvInputAddReferenceIdeal.nD Cert.MemKvInputAddReferenceIdeal.τ).loc Cert.MemKvInputAddReferenceIdeal.main_arg1)
      ∧ r.2.mem ((c.tc : Thread Cert.MemKvInputAddReferenceIdeal.nD Cert.MemKvInputAddReferenceIdeal.τ).loc Cert.MemKvInputAddReferenceIdeal.main_arg2) = m ((c.tc : Thread Cert.MemKvInputAddReferenceIdeal.nD Cert.MemKvInputAddReferenceIdeal.τ).loc Cert.MemKvInputAddReferenceIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvReferenceIdeal [hMemKvReferenceIdeal : Cert.MemKvReferenceIdeal.Facts] : Prop :=
  ∀ (m : (ℓ : Loc Cert.MemKvReferenceIdeal.nD Cert.MemKvReferenceIdeal.τ Cert.MemKvReferenceIdeal.sig) → Buf (Elt Ideal) ℓ) (g : Dev Cert.MemKvReferenceIdeal.nD → PrngReg), Pre_MemKvReferenceIdeal m →
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1))
      ∧ r.2.sem = fun _ => 0)

def quiescent_AdamNorms [hAdamNorms : Cert.AdamNorms.Facts] : Prop :=
  ∀ (m : (ℓ : Loc Cert.AdamNorms.nD Cert.AdamNorms.τ Cert.AdamNorms.sig) → Buf (Elt Bits) ℓ) (g : Dev Cert.AdamNorms.nD → PrngReg), Pre_AdamNorms m →
    θ_run (Cert.AdamNorms.defs (F := Bits)) (onTc (τ := Cert.AdamNorms.τ) (Cert.AdamNorms.main (F := Bits))) ⟨m, fun _ => 0, g⟩ (fun r => (∀ c : Dev Cert.AdamNorms.nD,
      r.2.mem ((c.tc : Thread Cert.AdamNorms.nD Cert.AdamNorms.τ).loc Cert.AdamNorms.main_arg0) = m ((c.tc : Thread Cert.AdamNorms.nD Cert.AdamNorms.τ).loc Cert.AdamNorms.main_arg0)
      ∧ r.2.mem ((c.tc : Thread Cert.AdamNorms.nD Cert.AdamNorms.τ).loc Cert.AdamNorms.main_arg1) = m ((c.tc : Thread Cert.AdamNorms.nD Cert.AdamNorms.τ).loc Cert.AdamNorms.main_arg1)
      ∧ r.2.mem ((c.tc : Thread Cert.AdamNorms.nD Cert.AdamNorms.τ).loc Cert.AdamNorms.main_arg2) = m ((c.tc : Thread Cert.AdamNorms.nD Cert.AdamNorms.τ).loc Cert.AdamNorms.main_arg2)
      ∧ r.2.mem ((c.tc : Thread Cert.AdamNorms.nD Cert.AdamNorms.τ).loc Cert.AdamNorms.main_arg3) = m ((c.tc : Thread Cert.AdamNorms.nD Cert.AdamNorms.τ).loc Cert.AdamNorms.main_arg3))
      ∧ r.2.sem = fun _ => 0)

def quiescent_AdamNormsIdeal [hAdamNormsIdeal : Cert.AdamNormsIdeal.Facts] : Prop :=
  ∀ (m : (ℓ : Loc Cert.AdamNormsIdeal.nD Cert.AdamNormsIdeal.τ Cert.AdamNormsIdeal.sig) → Buf (Elt Ideal) ℓ) (g : Dev Cert.AdamNormsIdeal.nD → PrngReg), Pre_AdamNormsIdeal m →
    θ_run (Cert.AdamNormsIdeal.defs (F := Ideal)) (onTc (τ := Cert.AdamNormsIdeal.τ) (Cert.AdamNormsIdeal.main (F := Ideal))) ⟨m, fun _ => 0, g⟩ (fun r => (∀ c : Dev Cert.AdamNormsIdeal.nD,
      r.2.mem ((c.tc : Thread Cert.AdamNormsIdeal.nD Cert.AdamNormsIdeal.τ).loc Cert.AdamNormsIdeal.main_arg0) = m ((c.tc : Thread Cert.AdamNormsIdeal.nD Cert.AdamNormsIdeal.τ).loc Cert.AdamNormsIdeal.main_arg0)
      ∧ r.2.mem ((c.tc : Thread Cert.AdamNormsIdeal.nD Cert.AdamNormsIdeal.τ).loc Cert.AdamNormsIdeal.main_arg1) = m ((c.tc : Thread Cert.AdamNormsIdeal.nD Cert.AdamNormsIdeal.τ).loc Cert.AdamNormsIdeal.main_arg1)
      ∧ r.2.mem ((c.tc : Thread Cert.AdamNormsIdeal.nD Cert.AdamNormsIdeal.τ).loc Cert.AdamNormsIdeal.main_arg2) = m ((c.tc : Thread Cert.AdamNormsIdeal.nD Cert.AdamNormsIdeal.τ).loc Cert.AdamNormsIdeal.main_arg2)
      ∧ r.2.mem ((c.tc : Thread Cert.AdamNormsIdeal.nD Cert.AdamNormsIdeal.τ).loc Cert.AdamNormsIdeal.main_arg3) = m ((c.tc : Thread Cert.AdamNormsIdeal.nD Cert.AdamNormsIdeal.τ).loc Cert.AdamNormsIdeal.main_arg3))
      ∧ r.2.sem = fun _ => 0)

def quiescent_AdamNormsReferenceIdeal [hAdamNormsReferenceIdeal : Cert.AdamNormsReferenceIdeal.Facts] : Prop :=
  ∀ (m : (ℓ : Loc Cert.AdamNormsReferenceIdeal.nD Cert.AdamNormsReferenceIdeal.τ Cert.AdamNormsReferenceIdeal.sig) → Buf (Elt Ideal) ℓ) (g : Dev Cert.AdamNormsReferenceIdeal.nD → PrngReg), Pre_AdamNormsReferenceIdeal m →
    θ_run (Cert.AdamNormsReferenceIdeal.defs (F := Ideal)) (onTc (τ := Cert.AdamNormsReferenceIdeal.τ) (Cert.AdamNormsReferenceIdeal.main (F := Ideal))) ⟨m, fun _ => 0, g⟩ (fun r => (∀ c : Dev Cert.AdamNormsReferenceIdeal.nD,
      r.2.mem ((c.tc : Thread Cert.AdamNormsReferenceIdeal.nD Cert.AdamNormsReferenceIdeal.τ).loc Cert.AdamNormsReferenceIdeal.main_arg0) = m ((c.tc : Thread Cert.AdamNormsReferenceIdeal.nD Cert.AdamNormsReferenceIdeal.τ).loc Cert.AdamNormsReferenceIdeal.main_arg0)
      ∧ r.2.mem ((c.tc : Thread Cert.AdamNormsReferenceIdeal.nD Cert.AdamNormsReferenceIdeal.τ).loc Cert.AdamNormsReferenceIdeal.main_arg1) = m ((c.tc : Thread Cert.AdamNormsReferenceIdeal.nD Cert.AdamNormsReferenceIdeal.τ).loc Cert.AdamNormsReferenceIdeal.main_arg1)
      ∧ r.2.mem ((c.tc : Thread Cert.AdamNormsReferenceIdeal.nD Cert.AdamNormsReferenceIdeal.τ).loc Cert.AdamNormsReferenceIdeal.main_arg2) = m ((c.tc : Thread Cert.AdamNormsReferenceIdeal.nD Cert.AdamNormsReferenceIdeal.τ).loc Cert.AdamNormsReferenceIdeal.main_arg2)
      ∧ r.2.mem ((c.tc : Thread Cert.AdamNormsReferenceIdeal.nD Cert.AdamNormsReferenceIdeal.τ).loc Cert.AdamNormsReferenceIdeal.main_arg3) = m ((c.tc : Thread Cert.AdamNormsReferenceIdeal.nD Cert.AdamNormsReferenceIdeal.τ).loc Cert.AdamNormsReferenceIdeal.main_arg3))
      ∧ r.2.sem = fun _ => 0)

def quiescent_AdamInA [hAdamInA : Cert.AdamInA.Facts] : Prop :=
  ∀ (m : (ℓ : Loc Cert.AdamInA.nD Cert.AdamInA.τ Cert.AdamInA.sig) → Buf (Elt Bits) ℓ) (g : Dev Cert.AdamInA.nD → PrngReg), Pre_AdamInA m →
    θ_run (Cert.AdamInA.defs (F := Bits)) (onTc (τ := Cert.AdamInA.τ) (Cert.AdamInA.main (F := Bits))) ⟨m, fun _ => 0, g⟩ (fun r => (∀ c : Dev Cert.AdamInA.nD,
      r.2.mem ((c.tc : Thread Cert.AdamInA.nD Cert.AdamInA.τ).loc Cert.AdamInA.main_arg0) = m ((c.tc : Thread Cert.AdamInA.nD Cert.AdamInA.τ).loc Cert.AdamInA.main_arg0)
      ∧ r.2.mem ((c.tc : Thread Cert.AdamInA.nD Cert.AdamInA.τ).loc Cert.AdamInA.main_arg1) = m ((c.tc : Thread Cert.AdamInA.nD Cert.AdamInA.τ).loc Cert.AdamInA.main_arg1)
      ∧ r.2.mem ((c.tc : Thread Cert.AdamInA.nD Cert.AdamInA.τ).loc Cert.AdamInA.main_arg2) = m ((c.tc : Thread Cert.AdamInA.nD Cert.AdamInA.τ).loc Cert.AdamInA.main_arg2)
      ∧ r.2.mem ((c.tc : Thread Cert.AdamInA.nD Cert.AdamInA.τ).loc Cert.AdamInA.main_arg3) = m ((c.tc : Thread Cert.AdamInA.nD Cert.AdamInA.τ).loc Cert.AdamInA.main_arg3))
      ∧ r.2.sem = fun _ => 0)

def quiescent_AdamInAIdeal [hAdamInAIdeal : Cert.AdamInAIdeal.Facts] : Prop :=
  ∀ (m : (ℓ : Loc Cert.AdamInAIdeal.nD Cert.AdamInAIdeal.τ Cert.AdamInAIdeal.sig) → Buf (Elt Ideal) ℓ) (g : Dev Cert.AdamInAIdeal.nD → PrngReg), Pre_AdamInAIdeal m →
    θ_run (Cert.AdamInAIdeal.defs (F := Ideal)) (onTc (τ := Cert.AdamInAIdeal.τ) (Cert.AdamInAIdeal.main (F := Ideal))) ⟨m, fun _ => 0, g⟩ (fun r => (∀ c : Dev Cert.AdamInAIdeal.nD,
      r.2.mem ((c.tc : Thread Cert.AdamInAIdeal.nD Cert.AdamInAIdeal.τ).loc Cert.AdamInAIdeal.main_arg0) = m ((c.tc : Thread Cert.AdamInAIdeal.nD Cert.AdamInAIdeal.τ).loc Cert.AdamInAIdeal.main_arg0)
      ∧ r.2.mem ((c.tc : Thread Cert.AdamInAIdeal.nD Cert.AdamInAIdeal.τ).loc Cert.AdamInAIdeal.main_arg1) = m ((c.tc : Thread Cert.AdamInAIdeal.nD Cert.AdamInAIdeal.τ).loc Cert.AdamInAIdeal.main_arg1)
      ∧ r.2.mem ((c.tc : Thread Cert.AdamInAIdeal.nD Cert.AdamInAIdeal.τ).loc Cert.AdamInAIdeal.main_arg2) = m ((c.tc : Thread Cert.AdamInAIdeal.nD Cert.AdamInAIdeal.τ).loc Cert.AdamInAIdeal.main_arg2)
      ∧ r.2.mem ((c.tc : Thread Cert.AdamInAIdeal.nD Cert.AdamInAIdeal.τ).loc Cert.AdamInAIdeal.main_arg3) = m ((c.tc : Thread Cert.AdamInAIdeal.nD Cert.AdamInAIdeal.τ).loc Cert.AdamInAIdeal.main_arg3))
      ∧ r.2.sem = fun _ => 0)

def quiescent_AdamInAReferenceIdeal [hAdamInAReferenceIdeal : Cert.AdamInAReferenceIdeal.Facts] : Prop :=
  ∀ (m : (ℓ : Loc Cert.AdamInAReferenceIdeal.nD Cert.AdamInAReferenceIdeal.τ Cert.AdamInAReferenceIdeal.sig) → Buf (Elt Ideal) ℓ) (g : Dev Cert.AdamInAReferenceIdeal.nD → PrngReg), Pre_AdamInAReferenceIdeal m →
    θ_run (Cert.AdamInAReferenceIdeal.defs (F := Ideal)) (onTc (τ := Cert.AdamInAReferenceIdeal.τ) (Cert.AdamInAReferenceIdeal.main (F := Ideal))) ⟨m, fun _ => 0, g⟩ (fun r => (∀ c : Dev Cert.AdamInAReferenceIdeal.nD,
      r.2.mem ((c.tc : Thread Cert.AdamInAReferenceIdeal.nD Cert.AdamInAReferenceIdeal.τ).loc Cert.AdamInAReferenceIdeal.main_arg0) = m ((c.tc : Thread Cert.AdamInAReferenceIdeal.nD Cert.AdamInAReferenceIdeal.τ).loc Cert.AdamInAReferenceIdeal.main_arg0)
      ∧ r.2.mem ((c.tc : Thread Cert.AdamInAReferenceIdeal.nD Cert.AdamInAReferenceIdeal.τ).loc Cert.AdamInAReferenceIdeal.main_arg1) = m ((c.tc : Thread Cert.AdamInAReferenceIdeal.nD Cert.AdamInAReferenceIdeal.τ).loc Cert.AdamInAReferenceIdeal.main_arg1)
      ∧ r.2.mem ((c.tc : Thread Cert.AdamInAReferenceIdeal.nD Cert.AdamInAReferenceIdeal.τ).loc Cert.AdamInAReferenceIdeal.main_arg2) = m ((c.tc : Thread Cert.AdamInAReferenceIdeal.nD Cert.AdamInAReferenceIdeal.τ).loc Cert.AdamInAReferenceIdeal.main_arg2)
      ∧ r.2.mem ((c.tc : Thread Cert.AdamInAReferenceIdeal.nD Cert.AdamInAReferenceIdeal.τ).loc Cert.AdamInAReferenceIdeal.main_arg3) = m ((c.tc : Thread Cert.AdamInAReferenceIdeal.nD Cert.AdamInAReferenceIdeal.τ).loc Cert.AdamInAReferenceIdeal.main_arg3))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ r.2.sem = fun _ => 0)

def quiescent_AdamGluReferenceIdeal [hAdamGluReferenceIdeal : Cert.AdamGluReferenceIdeal.Facts] : Prop :=
  ∀ (m : (ℓ : Loc Cert.AdamGluReferenceIdeal.nD Cert.AdamGluReferenceIdeal.τ Cert.AdamGluReferenceIdeal.sig) → Buf (Elt Ideal) ℓ) (g : Dev Cert.AdamGluReferenceIdeal.nD → PrngReg), Pre_AdamGluReferenceIdeal m →
    θ_run (Cert.AdamGluReferenceIdeal.defs (F := Ideal)) (onTc (τ := Cert.AdamGluReferenceIdeal.τ) (Cert.AdamGluReferenceIdeal.main (F := Ideal))) ⟨m, fun _ => 0, g⟩ (fun r => (∀ c : Dev Cert.AdamGluReferenceIdeal.nD,
      r.2.mem ((c.tc : Thread Cert.AdamGluReferenceIdeal.nD Cert.AdamGluReferenceIdeal.τ).loc Cert.AdamGluReferenceIdeal.main_arg0) = m ((c.tc : Thread Cert.AdamGluReferenceIdeal.nD Cert.AdamGluReferenceIdeal.τ).loc Cert.AdamGluReferenceIdeal.main_arg0)
      ∧ r.2.mem ((c.tc : Thread Cert.AdamGluReferenceIdeal.nD Cert.AdamGluReferenceIdeal.τ).loc Cert.AdamGluReferenceIdeal.main_arg1) = m ((c.tc : Thread Cert.AdamGluReferenceIdeal.nD Cert.AdamGluReferenceIdeal.τ).loc Cert.AdamGluReferenceIdeal.main_arg1)
      ∧ r.2.mem ((c.tc : Thread Cert.AdamGluReferenceIdeal.nD Cert.AdamGluReferenceIdeal.τ).loc Cert.AdamGluReferenceIdeal.main_arg2) = m ((c.tc : Thread Cert.AdamGluReferenceIdeal.nD Cert.AdamGluReferenceIdeal.τ).loc Cert.AdamGluReferenceIdeal.main_arg2)
      ∧ r.2.mem ((c.tc : Thread Cert.AdamGluReferenceIdeal.nD Cert.AdamGluReferenceIdeal.τ).loc Cert.AdamGluReferenceIdeal.main_arg3) = m ((c.tc : Thread Cert.AdamGluReferenceIdeal.nD Cert.AdamGluReferenceIdeal.τ).loc Cert.AdamGluReferenceIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvReferenceIdeal [hAdamConvReferenceIdeal : Cert.AdamConvReferenceIdeal.Facts] : Prop :=
  ∀ (m : (ℓ : Loc Cert.AdamConvReferenceIdeal.nD Cert.AdamConvReferenceIdeal.τ Cert.AdamConvReferenceIdeal.sig) → Buf (Elt Ideal) ℓ) (g : Dev Cert.AdamConvReferenceIdeal.nD → PrngReg), Pre_AdamConvReferenceIdeal m →
    θ_run (Cert.AdamConvReferenceIdeal.defs (F := Ideal)) (onTc (τ := Cert.AdamConvReferenceIdeal.τ) (Cert.AdamConvReferenceIdeal.main (F := Ideal))) ⟨m, fun _ => 0, g⟩ (fun r => (∀ c : Dev Cert.AdamConvReferenceIdeal.nD,
      r.2.mem ((c.tc : Thread Cert.AdamConvReferenceIdeal.nD Cert.AdamConvReferenceIdeal.τ).loc Cert.AdamConvReferenceIdeal.main_arg0) = m ((c.tc : Thread Cert.AdamConvReferenceIdeal.nD Cert.AdamConvReferenceIdeal.τ).loc Cert.AdamConvReferenceIdeal.main_arg0)
      ∧ r.2.mem ((c.tc : Thread Cert.AdamConvReferenceIdeal.nD Cert.AdamConvReferenceIdeal.τ).loc Cert.AdamConvReferenceIdeal.main_arg1) = m ((c.tc : Thread Cert.AdamConvReferenceIdeal.nD Cert.AdamConvReferenceIdeal.τ).loc Cert.AdamConvReferenceIdeal.main_arg1)
      ∧ r.2.mem ((c.tc : Thread Cert.AdamConvReferenceIdeal.nD Cert.AdamConvReferenceIdeal.τ).loc Cert.AdamConvReferenceIdeal.main_arg2) = m ((c.tc : Thread Cert.AdamConvReferenceIdeal.nD Cert.AdamConvReferenceIdeal.τ).loc Cert.AdamConvReferenceIdeal.main_arg2)
      ∧ r.2.mem ((c.tc : Thread Cert.AdamConvReferenceIdeal.nD Cert.AdamConvReferenceIdeal.τ).loc Cert.AdamConvReferenceIdeal.main_arg3) = m ((c.tc : Thread Cert.AdamConvReferenceIdeal.nD Cert.AdamConvReferenceIdeal.τ).loc Cert.AdamConvReferenceIdeal.main_arg3))
      ∧ r.2.sem = fun _ => 0)

def quiescent_AdamChannels [hAdamChannels : Cert.AdamChannels.Facts] : Prop :=
  ∀ (m : (ℓ : Loc Cert.AdamChannels.nD Cert.AdamChannels.τ Cert.AdamChannels.sig) → Buf (Elt Bits) ℓ) (g : Dev Cert.AdamChannels.nD → PrngReg), Pre_AdamChannels m →
    θ_run (Cert.AdamChannels.defs (F := Bits)) (onTc (τ := Cert.AdamChannels.τ) (Cert.AdamChannels.main (F := Bits))) ⟨m, fun _ => 0, g⟩ (fun r => (∀ c : Dev Cert.AdamChannels.nD,
      r.2.mem ((c.tc : Thread Cert.AdamChannels.nD Cert.AdamChannels.τ).loc Cert.AdamChannels.main_arg0) = m ((c.tc : Thread Cert.AdamChannels.nD Cert.AdamChannels.τ).loc Cert.AdamChannels.main_arg0)
      ∧ r.2.mem ((c.tc : Thread Cert.AdamChannels.nD Cert.AdamChannels.τ).loc Cert.AdamChannels.main_arg1) = m ((c.tc : Thread Cert.AdamChannels.nD Cert.AdamChannels.τ).loc Cert.AdamChannels.main_arg1)
      ∧ r.2.mem ((c.tc : Thread Cert.AdamChannels.nD Cert.AdamChannels.τ).loc Cert.AdamChannels.main_arg2) = m ((c.tc : Thread Cert.AdamChannels.nD Cert.AdamChannels.τ).loc Cert.AdamChannels.main_arg2)
      ∧ r.2.mem ((c.tc : Thread Cert.AdamChannels.nD Cert.AdamChannels.τ).loc Cert.AdamChannels.main_arg3) = m ((c.tc : Thread Cert.AdamChannels.nD Cert.AdamChannels.τ).loc Cert.AdamChannels.main_arg3))
      ∧ r.2.sem = fun _ => 0)

def quiescent_AdamChannelsIdeal [hAdamChannelsIdeal : Cert.AdamChannelsIdeal.Facts] : Prop :=
  ∀ (m : (ℓ : Loc Cert.AdamChannelsIdeal.nD Cert.AdamChannelsIdeal.τ Cert.AdamChannelsIdeal.sig) → Buf (Elt Ideal) ℓ) (g : Dev Cert.AdamChannelsIdeal.nD → PrngReg), Pre_AdamChannelsIdeal m →
    θ_run (Cert.AdamChannelsIdeal.defs (F := Ideal)) (onTc (τ := Cert.AdamChannelsIdeal.τ) (Cert.AdamChannelsIdeal.main (F := Ideal))) ⟨m, fun _ => 0, g⟩ (fun r => (∀ c : Dev Cert.AdamChannelsIdeal.nD,
      r.2.mem ((c.tc : Thread Cert.AdamChannelsIdeal.nD Cert.AdamChannelsIdeal.τ).loc Cert.AdamChannelsIdeal.main_arg0) = m ((c.tc : Thread Cert.AdamChannelsIdeal.nD Cert.AdamChannelsIdeal.τ).loc Cert.AdamChannelsIdeal.main_arg0)
      ∧ r.2.mem ((c.tc : Thread Cert.AdamChannelsIdeal.nD Cert.AdamChannelsIdeal.τ).loc Cert.AdamChannelsIdeal.main_arg1) = m ((c.tc : Thread Cert.AdamChannelsIdeal.nD Cert.AdamChannelsIdeal.τ).loc Cert.AdamChannelsIdeal.main_arg1)
      ∧ r.2.mem ((c.tc : Thread Cert.AdamChannelsIdeal.nD Cert.AdamChannelsIdeal.τ).loc Cert.AdamChannelsIdeal.main_arg2) = m ((c.tc : Thread Cert.AdamChannelsIdeal.nD Cert.AdamChannelsIdeal.τ).loc Cert.AdamChannelsIdeal.main_arg2)
      ∧ r.2.mem ((c.tc : Thread Cert.AdamChannelsIdeal.nD Cert.AdamChannelsIdeal.τ).loc Cert.AdamChannelsIdeal.main_arg3) = m ((c.tc : Thread Cert.AdamChannelsIdeal.nD Cert.AdamChannelsIdeal.τ).loc Cert.AdamChannelsIdeal.main_arg3))
      ∧ r.2.sem = fun _ => 0)

def quiescent_AdamChannelsReferenceIdeal [hAdamChannelsReferenceIdeal : Cert.AdamChannelsReferenceIdeal.Facts] : Prop :=
  ∀ (m : (ℓ : Loc Cert.AdamChannelsReferenceIdeal.nD Cert.AdamChannelsReferenceIdeal.τ Cert.AdamChannelsReferenceIdeal.sig) → Buf (Elt Ideal) ℓ) (g : Dev Cert.AdamChannelsReferenceIdeal.nD → PrngReg), Pre_AdamChannelsReferenceIdeal m →
    θ_run (Cert.AdamChannelsReferenceIdeal.defs (F := Ideal)) (onTc (τ := Cert.AdamChannelsReferenceIdeal.τ) (Cert.AdamChannelsReferenceIdeal.main (F := Ideal))) ⟨m, fun _ => 0, g⟩ (fun r => (∀ c : Dev Cert.AdamChannelsReferenceIdeal.nD,
      r.2.mem ((c.tc : Thread Cert.AdamChannelsReferenceIdeal.nD Cert.AdamChannelsReferenceIdeal.τ).loc Cert.AdamChannelsReferenceIdeal.main_arg0) = m ((c.tc : Thread Cert.AdamChannelsReferenceIdeal.nD Cert.AdamChannelsReferenceIdeal.τ).loc Cert.AdamChannelsReferenceIdeal.main_arg0)
      ∧ r.2.mem ((c.tc : Thread Cert.AdamChannelsReferenceIdeal.nD Cert.AdamChannelsReferenceIdeal.τ).loc Cert.AdamChannelsReferenceIdeal.main_arg1) = m ((c.tc : Thread Cert.AdamChannelsReferenceIdeal.nD Cert.AdamChannelsReferenceIdeal.τ).loc Cert.AdamChannelsReferenceIdeal.main_arg1)
      ∧ r.2.mem ((c.tc : Thread Cert.AdamChannelsReferenceIdeal.nD Cert.AdamChannelsReferenceIdeal.τ).loc Cert.AdamChannelsReferenceIdeal.main_arg2) = m ((c.tc : Thread Cert.AdamChannelsReferenceIdeal.nD Cert.AdamChannelsReferenceIdeal.τ).loc Cert.AdamChannelsReferenceIdeal.main_arg2)
      ∧ r.2.mem ((c.tc : Thread Cert.AdamChannelsReferenceIdeal.nD Cert.AdamChannelsReferenceIdeal.τ).loc Cert.AdamChannelsReferenceIdeal.main_arg3) = m ((c.tc : Thread Cert.AdamChannelsReferenceIdeal.nD Cert.AdamChannelsReferenceIdeal.τ).loc Cert.AdamChannelsReferenceIdeal.main_arg3))
      ∧ r.2.sem = fun _ => 0)

def quiescent_AdamGain [hAdamGain : Cert.AdamGain.Facts] : Prop :=
  ∀ (m : (ℓ : Loc Cert.AdamGain.nD Cert.AdamGain.τ Cert.AdamGain.sig) → Buf (Elt Bits) ℓ) (g : Dev Cert.AdamGain.nD → PrngReg), Pre_AdamGain m →
    θ_run (Cert.AdamGain.defs (F := Bits)) (onTc (τ := Cert.AdamGain.τ) (Cert.AdamGain.main (F := Bits))) ⟨m, fun _ => 0, g⟩ (fun r => (∀ c : Dev Cert.AdamGain.nD,
      r.2.mem ((c.tc : Thread Cert.AdamGain.nD Cert.AdamGain.τ).loc Cert.AdamGain.main_arg0) = m ((c.tc : Thread Cert.AdamGain.nD Cert.AdamGain.τ).loc Cert.AdamGain.main_arg0)
      ∧ r.2.mem ((c.tc : Thread Cert.AdamGain.nD Cert.AdamGain.τ).loc Cert.AdamGain.main_arg1) = m ((c.tc : Thread Cert.AdamGain.nD Cert.AdamGain.τ).loc Cert.AdamGain.main_arg1)
      ∧ r.2.mem ((c.tc : Thread Cert.AdamGain.nD Cert.AdamGain.τ).loc Cert.AdamGain.main_arg2) = m ((c.tc : Thread Cert.AdamGain.nD Cert.AdamGain.τ).loc Cert.AdamGain.main_arg2)
      ∧ r.2.mem ((c.tc : Thread Cert.AdamGain.nD Cert.AdamGain.τ).loc Cert.AdamGain.main_arg3) = m ((c.tc : Thread Cert.AdamGain.nD Cert.AdamGain.τ).loc Cert.AdamGain.main_arg3))
      ∧ r.2.sem = fun _ => 0)

def quiescent_AdamGainIdeal [hAdamGainIdeal : Cert.AdamGainIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg), Pre_AdamGainIdeal m →
    θ_run (Cert.AdamGainIdeal.defs (F := Ideal)) (onTc (τ := Cert.AdamGainIdeal.τ) (Cert.AdamGainIdeal.main (F := Ideal))) ⟨m, fun _ => 0, g⟩ (fun r => (∀ c : Dev Cert.AdamGainIdeal.nD,
      r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
      ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
      ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
      ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3))
      ∧ r.2.sem = fun _ => 0)

def quiescent_AdamGainReferenceIdeal [hAdamGainReferenceIdeal : Cert.AdamGainReferenceIdeal.Facts] : Prop :=
  ∀ (m : (ℓ : Loc Cert.AdamGainReferenceIdeal.nD Cert.AdamGainReferenceIdeal.τ Cert.AdamGainReferenceIdeal.sig) → Buf (Elt Ideal) ℓ) (g : Dev Cert.AdamGainReferenceIdeal.nD → PrngReg), Pre_AdamGainReferenceIdeal m →
    θ_run (Cert.AdamGainReferenceIdeal.defs (F := Ideal)) (onTc (τ := Cert.AdamGainReferenceIdeal.τ) (Cert.AdamGainReferenceIdeal.main (F := Ideal))) ⟨m, fun _ => 0, g⟩ (fun r => (∀ c : Dev Cert.AdamGainReferenceIdeal.nD,
      r.2.mem ((c.tc : Thread Cert.AdamGainReferenceIdeal.nD Cert.AdamGainReferenceIdeal.τ).loc Cert.AdamGainReferenceIdeal.main_arg0) = m ((c.tc : Thread Cert.AdamGainReferenceIdeal.nD Cert.AdamGainReferenceIdeal.τ).loc Cert.AdamGainReferenceIdeal.main_arg0)
      ∧ r.2.mem ((c.tc : Thread Cert.AdamGainReferenceIdeal.nD Cert.AdamGainReferenceIdeal.τ).loc Cert.AdamGainReferenceIdeal.main_arg1) = m ((c.tc : Thread Cert.AdamGainReferenceIdeal.nD Cert.AdamGainReferenceIdeal.τ).loc Cert.AdamGainReferenceIdeal.main_arg1)
      ∧ r.2.mem ((c.tc : Thread Cert.AdamGainReferenceIdeal.nD Cert.AdamGainReferenceIdeal.τ).loc Cert.AdamGainReferenceIdeal.main_arg2) = m ((c.tc : Thread Cert.AdamGainReferenceIdeal.nD Cert.AdamGainReferenceIdeal.τ).loc Cert.AdamGainReferenceIdeal.main_arg2)
      ∧ r.2.mem ((c.tc : Thread Cert.AdamGainReferenceIdeal.nD Cert.AdamGainReferenceIdeal.τ).loc Cert.AdamGainReferenceIdeal.main_arg3) = m ((c.tc : Thread Cert.AdamGainReferenceIdeal.nD Cert.AdamGainReferenceIdeal.τ).loc Cert.AdamGainReferenceIdeal.main_arg3))
      ∧ r.2.sem = fun _ => 0)

def quiescent_AdamKvf [hAdamKvf : Cert.AdamKvf.Facts] : Prop :=
  ∀ (m : (ℓ : Loc Cert.AdamKvf.nD Cert.AdamKvf.τ Cert.AdamKvf.sig) → Buf (Elt Bits) ℓ) (g : Dev Cert.AdamKvf.nD → PrngReg), Pre_AdamKvf m →
    θ_run (Cert.AdamKvf.defs (F := Bits)) (onTc (τ := Cert.AdamKvf.τ) (Cert.AdamKvf.main (F := Bits))) ⟨m, fun _ => 0, g⟩ (fun r => (∀ c : Dev Cert.AdamKvf.nD,
      r.2.mem ((c.tc : Thread Cert.AdamKvf.nD Cert.AdamKvf.τ).loc Cert.AdamKvf.main_arg0) = m ((c.tc : Thread Cert.AdamKvf.nD Cert.AdamKvf.τ).loc Cert.AdamKvf.main_arg0)
      ∧ r.2.mem ((c.tc : Thread Cert.AdamKvf.nD Cert.AdamKvf.τ).loc Cert.AdamKvf.main_arg1) = m ((c.tc : Thread Cert.AdamKvf.nD Cert.AdamKvf.τ).loc Cert.AdamKvf.main_arg1)
      ∧ r.2.mem ((c.tc : Thread Cert.AdamKvf.nD Cert.AdamKvf.τ).loc Cert.AdamKvf.main_arg2) = m ((c.tc : Thread Cert.AdamKvf.nD Cert.AdamKvf.τ).loc Cert.AdamKvf.main_arg2)
      ∧ r.2.mem ((c.tc : Thread Cert.AdamKvf.nD Cert.AdamKvf.τ).loc Cert.AdamKvf.main_arg3) = m ((c.tc : Thread Cert.AdamKvf.nD Cert.AdamKvf.τ).loc Cert.AdamKvf.main_arg3))
      ∧ r.2.sem = fun _ => 0)

def quiescent_AdamKvfIdeal [hAdamKvfIdeal : Cert.AdamKvfIdeal.Facts] : Prop :=
  ∀ (m : (ℓ : Loc Cert.AdamKvfIdeal.nD Cert.AdamKvfIdeal.τ Cert.AdamKvfIdeal.sig) → Buf (Elt Ideal) ℓ) (g : Dev Cert.AdamKvfIdeal.nD → PrngReg), Pre_AdamKvfIdeal m →
    θ_run (Cert.AdamKvfIdeal.defs (F := Ideal)) (onTc (τ := Cert.AdamKvfIdeal.τ) (Cert.AdamKvfIdeal.main (F := Ideal))) ⟨m, fun _ => 0, g⟩ (fun r => (∀ c : Dev Cert.AdamKvfIdeal.nD,
      r.2.mem ((c.tc : Thread Cert.AdamKvfIdeal.nD Cert.AdamKvfIdeal.τ).loc Cert.AdamKvfIdeal.main_arg0) = m ((c.tc : Thread Cert.AdamKvfIdeal.nD Cert.AdamKvfIdeal.τ).loc Cert.AdamKvfIdeal.main_arg0)
      ∧ r.2.mem ((c.tc : Thread Cert.AdamKvfIdeal.nD Cert.AdamKvfIdeal.τ).loc Cert.AdamKvfIdeal.main_arg1) = m ((c.tc : Thread Cert.AdamKvfIdeal.nD Cert.AdamKvfIdeal.τ).loc Cert.AdamKvfIdeal.main_arg1)
      ∧ r.2.mem ((c.tc : Thread Cert.AdamKvfIdeal.nD Cert.AdamKvfIdeal.τ).loc Cert.AdamKvfIdeal.main_arg2) = m ((c.tc : Thread Cert.AdamKvfIdeal.nD Cert.AdamKvfIdeal.τ).loc Cert.AdamKvfIdeal.main_arg2)
      ∧ r.2.mem ((c.tc : Thread Cert.AdamKvfIdeal.nD Cert.AdamKvfIdeal.τ).loc Cert.AdamKvfIdeal.main_arg3) = m ((c.tc : Thread Cert.AdamKvfIdeal.nD Cert.AdamKvfIdeal.τ).loc Cert.AdamKvfIdeal.main_arg3))
      ∧ r.2.sem = fun _ => 0)

def quiescent_AdamKvfReferenceIdeal [hAdamKvfReferenceIdeal : Cert.AdamKvfReferenceIdeal.Facts] : Prop :=
  ∀ (m : (ℓ : Loc Cert.AdamKvfReferenceIdeal.nD Cert.AdamKvfReferenceIdeal.τ Cert.AdamKvfReferenceIdeal.sig) → Buf (Elt Ideal) ℓ) (g : Dev Cert.AdamKvfReferenceIdeal.nD → PrngReg), Pre_AdamKvfReferenceIdeal m →
    θ_run (Cert.AdamKvfReferenceIdeal.defs (F := Ideal)) (onTc (τ := Cert.AdamKvfReferenceIdeal.τ) (Cert.AdamKvfReferenceIdeal.main (F := Ideal))) ⟨m, fun _ => 0, g⟩ (fun r => (∀ c : Dev Cert.AdamKvfReferenceIdeal.nD,
      r.2.mem ((c.tc : Thread Cert.AdamKvfReferenceIdeal.nD Cert.AdamKvfReferenceIdeal.τ).loc Cert.AdamKvfReferenceIdeal.main_arg0) = m ((c.tc : Thread Cert.AdamKvfReferenceIdeal.nD Cert.AdamKvfReferenceIdeal.τ).loc Cert.AdamKvfReferenceIdeal.main_arg0)
      ∧ r.2.mem ((c.tc : Thread Cert.AdamKvfReferenceIdeal.nD Cert.AdamKvfReferenceIdeal.τ).loc Cert.AdamKvfReferenceIdeal.main_arg1) = m ((c.tc : Thread Cert.AdamKvfReferenceIdeal.nD Cert.AdamKvfReferenceIdeal.τ).loc Cert.AdamKvfReferenceIdeal.main_arg1)
      ∧ r.2.mem ((c.tc : Thread Cert.AdamKvfReferenceIdeal.nD Cert.AdamKvfReferenceIdeal.τ).loc Cert.AdamKvfReferenceIdeal.main_arg2) = m ((c.tc : Thread Cert.AdamKvfReferenceIdeal.nD Cert.AdamKvfReferenceIdeal.τ).loc Cert.AdamKvfReferenceIdeal.main_arg2)
      ∧ r.2.mem ((c.tc : Thread Cert.AdamKvfReferenceIdeal.nD Cert.AdamKvfReferenceIdeal.τ).loc Cert.AdamKvfReferenceIdeal.main_arg3) = m ((c.tc : Thread Cert.AdamKvfReferenceIdeal.nD Cert.AdamKvfReferenceIdeal.τ).loc Cert.AdamKvfReferenceIdeal.main_arg3))
      ∧ r.2.sem = fun _ => 0)

def quiescent_AdamForget [hAdamForget : Cert.AdamForget.Facts] : Prop :=
  ∀ (m : (ℓ : Loc Cert.AdamForget.nD Cert.AdamForget.τ Cert.AdamForget.sig) → Buf (Elt Bits) ℓ) (g : Dev Cert.AdamForget.nD → PrngReg), Pre_AdamForget m →
    θ_run (Cert.AdamForget.defs (F := Bits)) (onTc (τ := Cert.AdamForget.τ) (Cert.AdamForget.main (F := Bits))) ⟨m, fun _ => 0, g⟩ (fun r => (∀ c : Dev Cert.AdamForget.nD,
      r.2.mem ((c.tc : Thread Cert.AdamForget.nD Cert.AdamForget.τ).loc Cert.AdamForget.main_arg0) = m ((c.tc : Thread Cert.AdamForget.nD Cert.AdamForget.τ).loc Cert.AdamForget.main_arg0)
      ∧ r.2.mem ((c.tc : Thread Cert.AdamForget.nD Cert.AdamForget.τ).loc Cert.AdamForget.main_arg1) = m ((c.tc : Thread Cert.AdamForget.nD Cert.AdamForget.τ).loc Cert.AdamForget.main_arg1)
      ∧ r.2.mem ((c.tc : Thread Cert.AdamForget.nD Cert.AdamForget.τ).loc Cert.AdamForget.main_arg2) = m ((c.tc : Thread Cert.AdamForget.nD Cert.AdamForget.τ).loc Cert.AdamForget.main_arg2)
      ∧ r.2.mem ((c.tc : Thread Cert.AdamForget.nD Cert.AdamForget.τ).loc Cert.AdamForget.main_arg3) = m ((c.tc : Thread Cert.AdamForget.nD Cert.AdamForget.τ).loc Cert.AdamForget.main_arg3))
      ∧ r.2.sem = fun _ => 0)

def quiescent_AdamForgetIdeal [hAdamForgetIdeal : Cert.AdamForgetIdeal.Facts] : Prop :=
  ∀ (m : (ℓ : Loc Cert.AdamForgetIdeal.nD Cert.AdamForgetIdeal.τ Cert.AdamForgetIdeal.sig) → Buf (Elt Ideal) ℓ) (g : Dev Cert.AdamForgetIdeal.nD → PrngReg), Pre_AdamForgetIdeal m →
    θ_run (Cert.AdamForgetIdeal.defs (F := Ideal)) (onTc (τ := Cert.AdamForgetIdeal.τ) (Cert.AdamForgetIdeal.main (F := Ideal))) ⟨m, fun _ => 0, g⟩ (fun r => (∀ c : Dev Cert.AdamForgetIdeal.nD,
      r.2.mem ((c.tc : Thread Cert.AdamForgetIdeal.nD Cert.AdamForgetIdeal.τ).loc Cert.AdamForgetIdeal.main_arg0) = m ((c.tc : Thread Cert.AdamForgetIdeal.nD Cert.AdamForgetIdeal.τ).loc Cert.AdamForgetIdeal.main_arg0)
      ∧ r.2.mem ((c.tc : Thread Cert.AdamForgetIdeal.nD Cert.AdamForgetIdeal.τ).loc Cert.AdamForgetIdeal.main_arg1) = m ((c.tc : Thread Cert.AdamForgetIdeal.nD Cert.AdamForgetIdeal.τ).loc Cert.AdamForgetIdeal.main_arg1)
      ∧ r.2.mem ((c.tc : Thread Cert.AdamForgetIdeal.nD Cert.AdamForgetIdeal.τ).loc Cert.AdamForgetIdeal.main_arg2) = m ((c.tc : Thread Cert.AdamForgetIdeal.nD Cert.AdamForgetIdeal.τ).loc Cert.AdamForgetIdeal.main_arg2)
      ∧ r.2.mem ((c.tc : Thread Cert.AdamForgetIdeal.nD Cert.AdamForgetIdeal.τ).loc Cert.AdamForgetIdeal.main_arg3) = m ((c.tc : Thread Cert.AdamForgetIdeal.nD Cert.AdamForgetIdeal.τ).loc Cert.AdamForgetIdeal.main_arg3))
      ∧ r.2.sem = fun _ => 0)

def quiescent_AdamForgetReferenceIdeal [hAdamForgetReferenceIdeal : Cert.AdamForgetReferenceIdeal.Facts] : Prop :=
  ∀ (m : (ℓ : Loc Cert.AdamForgetReferenceIdeal.nD Cert.AdamForgetReferenceIdeal.τ Cert.AdamForgetReferenceIdeal.sig) → Buf (Elt Ideal) ℓ) (g : Dev Cert.AdamForgetReferenceIdeal.nD → PrngReg), Pre_AdamForgetReferenceIdeal m →
    θ_run (Cert.AdamForgetReferenceIdeal.defs (F := Ideal)) (onTc (τ := Cert.AdamForgetReferenceIdeal.τ) (Cert.AdamForgetReferenceIdeal.main (F := Ideal))) ⟨m, fun _ => 0, g⟩ (fun r => (∀ c : Dev Cert.AdamForgetReferenceIdeal.nD,
      r.2.mem ((c.tc : Thread Cert.AdamForgetReferenceIdeal.nD Cert.AdamForgetReferenceIdeal.τ).loc Cert.AdamForgetReferenceIdeal.main_arg0) = m ((c.tc : Thread Cert.AdamForgetReferenceIdeal.nD Cert.AdamForgetReferenceIdeal.τ).loc Cert.AdamForgetReferenceIdeal.main_arg0)
      ∧ r.2.mem ((c.tc : Thread Cert.AdamForgetReferenceIdeal.nD Cert.AdamForgetReferenceIdeal.τ).loc Cert.AdamForgetReferenceIdeal.main_arg1) = m ((c.tc : Thread Cert.AdamForgetReferenceIdeal.nD Cert.AdamForgetReferenceIdeal.τ).loc Cert.AdamForgetReferenceIdeal.main_arg1)
      ∧ r.2.mem ((c.tc : Thread Cert.AdamForgetReferenceIdeal.nD Cert.AdamForgetReferenceIdeal.τ).loc Cert.AdamForgetReferenceIdeal.main_arg2) = m ((c.tc : Thread Cert.AdamForgetReferenceIdeal.nD Cert.AdamForgetReferenceIdeal.τ).loc Cert.AdamForgetReferenceIdeal.main_arg2)
      ∧ r.2.mem ((c.tc : Thread Cert.AdamForgetReferenceIdeal.nD Cert.AdamForgetReferenceIdeal.τ).loc Cert.AdamForgetReferenceIdeal.main_arg3) = m ((c.tc : Thread Cert.AdamForgetReferenceIdeal.nD Cert.AdamForgetReferenceIdeal.τ).loc Cert.AdamForgetReferenceIdeal.main_arg3))
      ∧ r.2.sem = fun _ => 0)

def quiescent_AdamInB [hAdamInB : Cert.AdamInB.Facts] : Prop :=
  ∀ (m : (ℓ : Loc Cert.AdamInB.nD Cert.AdamInB.τ Cert.AdamInB.sig) → Buf (Elt Bits) ℓ) (g : Dev Cert.AdamInB.nD → PrngReg), Pre_AdamInB m →
    θ_run (Cert.AdamInB.defs (F := Bits)) (onTc (τ := Cert.AdamInB.τ) (Cert.AdamInB.main (F := Bits))) ⟨m, fun _ => 0, g⟩ (fun r => (∀ c : Dev Cert.AdamInB.nD,
      r.2.mem ((c.tc : Thread Cert.AdamInB.nD Cert.AdamInB.τ).loc Cert.AdamInB.main_arg0) = m ((c.tc : Thread Cert.AdamInB.nD Cert.AdamInB.τ).loc Cert.AdamInB.main_arg0)
      ∧ r.2.mem ((c.tc : Thread Cert.AdamInB.nD Cert.AdamInB.τ).loc Cert.AdamInB.main_arg1) = m ((c.tc : Thread Cert.AdamInB.nD Cert.AdamInB.τ).loc Cert.AdamInB.main_arg1)
      ∧ r.2.mem ((c.tc : Thread Cert.AdamInB.nD Cert.AdamInB.τ).loc Cert.AdamInB.main_arg2) = m ((c.tc : Thread Cert.AdamInB.nD Cert.AdamInB.τ).loc Cert.AdamInB.main_arg2)
      ∧ r.2.mem ((c.tc : Thread Cert.AdamInB.nD Cert.AdamInB.τ).loc Cert.AdamInB.main_arg3) = m ((c.tc : Thread Cert.AdamInB.nD Cert.AdamInB.τ).loc Cert.AdamInB.main_arg3))
      ∧ r.2.sem = fun _ => 0)

def quiescent_AdamInBIdeal [hAdamInBIdeal : Cert.AdamInBIdeal.Facts] : Prop :=
  ∀ (m : (ℓ : Loc Cert.AdamInBIdeal.nD Cert.AdamInBIdeal.τ Cert.AdamInBIdeal.sig) → Buf (Elt Ideal) ℓ) (g : Dev Cert.AdamInBIdeal.nD → PrngReg), Pre_AdamInBIdeal m →
    θ_run (Cert.AdamInBIdeal.defs (F := Ideal)) (onTc (τ := Cert.AdamInBIdeal.τ) (Cert.AdamInBIdeal.main (F := Ideal))) ⟨m, fun _ => 0, g⟩ (fun r => (∀ c : Dev Cert.AdamInBIdeal.nD,
      r.2.mem ((c.tc : Thread Cert.AdamInBIdeal.nD Cert.AdamInBIdeal.τ).loc Cert.AdamInBIdeal.main_arg0) = m ((c.tc : Thread Cert.AdamInBIdeal.nD Cert.AdamInBIdeal.τ).loc Cert.AdamInBIdeal.main_arg0)
      ∧ r.2.mem ((c.tc : Thread Cert.AdamInBIdeal.nD Cert.AdamInBIdeal.τ).loc Cert.AdamInBIdeal.main_arg1) = m ((c.tc : Thread Cert.AdamInBIdeal.nD Cert.AdamInBIdeal.τ).loc Cert.AdamInBIdeal.main_arg1)
      ∧ r.2.mem ((c.tc : Thread Cert.AdamInBIdeal.nD Cert.AdamInBIdeal.τ).loc Cert.AdamInBIdeal.main_arg2) = m ((c.tc : Thread Cert.AdamInBIdeal.nD Cert.AdamInBIdeal.τ).loc Cert.AdamInBIdeal.main_arg2)
      ∧ r.2.mem ((c.tc : Thread Cert.AdamInBIdeal.nD Cert.AdamInBIdeal.τ).loc Cert.AdamInBIdeal.main_arg3) = m ((c.tc : Thread Cert.AdamInBIdeal.nD Cert.AdamInBIdeal.τ).loc Cert.AdamInBIdeal.main_arg3))
      ∧ r.2.sem = fun _ => 0)

def quiescent_AdamInBReferenceIdeal [hAdamInBReferenceIdeal : Cert.AdamInBReferenceIdeal.Facts] : Prop :=
  ∀ (m : (ℓ : Loc Cert.AdamInBReferenceIdeal.nD Cert.AdamInBReferenceIdeal.τ Cert.AdamInBReferenceIdeal.sig) → Buf (Elt Ideal) ℓ) (g : Dev Cert.AdamInBReferenceIdeal.nD → PrngReg), Pre_AdamInBReferenceIdeal m →
    θ_run (Cert.AdamInBReferenceIdeal.defs (F := Ideal)) (onTc (τ := Cert.AdamInBReferenceIdeal.τ) (Cert.AdamInBReferenceIdeal.main (F := Ideal))) ⟨m, fun _ => 0, g⟩ (fun r => (∀ c : Dev Cert.AdamInBReferenceIdeal.nD,
      r.2.mem ((c.tc : Thread Cert.AdamInBReferenceIdeal.nD Cert.AdamInBReferenceIdeal.τ).loc Cert.AdamInBReferenceIdeal.main_arg0) = m ((c.tc : Thread Cert.AdamInBReferenceIdeal.nD Cert.AdamInBReferenceIdeal.τ).loc Cert.AdamInBReferenceIdeal.main_arg0)
      ∧ r.2.mem ((c.tc : Thread Cert.AdamInBReferenceIdeal.nD Cert.AdamInBReferenceIdeal.τ).loc Cert.AdamInBReferenceIdeal.main_arg1) = m ((c.tc : Thread Cert.AdamInBReferenceIdeal.nD Cert.AdamInBReferenceIdeal.τ).loc Cert.AdamInBReferenceIdeal.main_arg1)
      ∧ r.2.mem ((c.tc : Thread Cert.AdamInBReferenceIdeal.nD Cert.AdamInBReferenceIdeal.τ).loc Cert.AdamInBReferenceIdeal.main_arg2) = m ((c.tc : Thread Cert.AdamInBReferenceIdeal.nD Cert.AdamInBReferenceIdeal.τ).loc Cert.AdamInBReferenceIdeal.main_arg2)
      ∧ r.2.mem ((c.tc : Thread Cert.AdamInBReferenceIdeal.nD Cert.AdamInBReferenceIdeal.τ).loc Cert.AdamInBReferenceIdeal.main_arg3) = m ((c.tc : Thread Cert.AdamInBReferenceIdeal.nD Cert.AdamInBReferenceIdeal.τ).loc Cert.AdamInBReferenceIdeal.main_arg3))
      ∧ r.2.sem = fun _ => 0)

def quiescent_AdamMemKv [hAdamMemKv : Cert.AdamMemKv.Facts] : Prop :=
  ∀ (m : (ℓ : Loc Cert.AdamMemKv.nD Cert.AdamMemKv.τ Cert.AdamMemKv.sig) → Buf (Elt Bits) ℓ) (g : Dev Cert.AdamMemKv.nD → PrngReg), Pre_AdamMemKv m →
    θ_run (Cert.AdamMemKv.defs (F := Bits)) (onTc (τ := Cert.AdamMemKv.τ) (Cert.AdamMemKv.main (F := Bits))) ⟨m, fun _ => 0, g⟩ (fun r => (∀ c : Dev Cert.AdamMemKv.nD,
      r.2.mem ((c.tc : Thread Cert.AdamMemKv.nD Cert.AdamMemKv.τ).loc Cert.AdamMemKv.main_arg0) = m ((c.tc : Thread Cert.AdamMemKv.nD Cert.AdamMemKv.τ).loc Cert.AdamMemKv.main_arg0)
      ∧ r.2.mem ((c.tc : Thread Cert.AdamMemKv.nD Cert.AdamMemKv.τ).loc Cert.AdamMemKv.main_arg1) = m ((c.tc : Thread Cert.AdamMemKv.nD Cert.AdamMemKv.τ).loc Cert.AdamMemKv.main_arg1)
      ∧ r.2.mem ((c.tc : Thread Cert.AdamMemKv.nD Cert.AdamMemKv.τ).loc Cert.AdamMemKv.main_arg2) = m ((c.tc : Thread Cert.AdamMemKv.nD Cert.AdamMemKv.τ).loc Cert.AdamMemKv.main_arg2)
      ∧ r.2.mem ((c.tc : Thread Cert.AdamMemKv.nD Cert.AdamMemKv.τ).loc Cert.AdamMemKv.main_arg3) = m ((c.tc : Thread Cert.AdamMemKv.nD Cert.AdamMemKv.τ).loc Cert.AdamMemKv.main_arg3))
      ∧ r.2.sem = fun _ => 0)

def quiescent_AdamMemKvIdeal [hAdamMemKvIdeal : Cert.AdamMemKvIdeal.Facts] : Prop :=
  ∀ (m : (ℓ : Loc Cert.AdamMemKvIdeal.nD Cert.AdamMemKvIdeal.τ Cert.AdamMemKvIdeal.sig) → Buf (Elt Ideal) ℓ) (g : Dev Cert.AdamMemKvIdeal.nD → PrngReg), Pre_AdamMemKvIdeal m →
    θ_run (Cert.AdamMemKvIdeal.defs (F := Ideal)) (onTc (τ := Cert.AdamMemKvIdeal.τ) (Cert.AdamMemKvIdeal.main (F := Ideal))) ⟨m, fun _ => 0, g⟩ (fun r => (∀ c : Dev Cert.AdamMemKvIdeal.nD,
      r.2.mem ((c.tc : Thread Cert.AdamMemKvIdeal.nD Cert.AdamMemKvIdeal.τ).loc Cert.AdamMemKvIdeal.main_arg0) = m ((c.tc : Thread Cert.AdamMemKvIdeal.nD Cert.AdamMemKvIdeal.τ).loc Cert.AdamMemKvIdeal.main_arg0)
      ∧ r.2.mem ((c.tc : Thread Cert.AdamMemKvIdeal.nD Cert.AdamMemKvIdeal.τ).loc Cert.AdamMemKvIdeal.main_arg1) = m ((c.tc : Thread Cert.AdamMemKvIdeal.nD Cert.AdamMemKvIdeal.τ).loc Cert.AdamMemKvIdeal.main_arg1)
      ∧ r.2.mem ((c.tc : Thread Cert.AdamMemKvIdeal.nD Cert.AdamMemKvIdeal.τ).loc Cert.AdamMemKvIdeal.main_arg2) = m ((c.tc : Thread Cert.AdamMemKvIdeal.nD Cert.AdamMemKvIdeal.τ).loc Cert.AdamMemKvIdeal.main_arg2)
      ∧ r.2.mem ((c.tc : Thread Cert.AdamMemKvIdeal.nD Cert.AdamMemKvIdeal.τ).loc Cert.AdamMemKvIdeal.main_arg3) = m ((c.tc : Thread Cert.AdamMemKvIdeal.nD Cert.AdamMemKvIdeal.τ).loc Cert.AdamMemKvIdeal.main_arg3))
      ∧ r.2.sem = fun _ => 0)

def quiescent_AdamMemKvReferenceIdeal [hAdamMemKvReferenceIdeal : Cert.AdamMemKvReferenceIdeal.Facts] : Prop :=
  ∀ (m : (ℓ : Loc Cert.AdamMemKvReferenceIdeal.nD Cert.AdamMemKvReferenceIdeal.τ Cert.AdamMemKvReferenceIdeal.sig) → Buf (Elt Ideal) ℓ) (g : Dev Cert.AdamMemKvReferenceIdeal.nD → PrngReg), Pre_AdamMemKvReferenceIdeal m →
    θ_run (Cert.AdamMemKvReferenceIdeal.defs (F := Ideal)) (onTc (τ := Cert.AdamMemKvReferenceIdeal.τ) (Cert.AdamMemKvReferenceIdeal.main (F := Ideal))) ⟨m, fun _ => 0, g⟩ (fun r => (∀ c : Dev Cert.AdamMemKvReferenceIdeal.nD,
      r.2.mem ((c.tc : Thread Cert.AdamMemKvReferenceIdeal.nD Cert.AdamMemKvReferenceIdeal.τ).loc Cert.AdamMemKvReferenceIdeal.main_arg0) = m ((c.tc : Thread Cert.AdamMemKvReferenceIdeal.nD Cert.AdamMemKvReferenceIdeal.τ).loc Cert.AdamMemKvReferenceIdeal.main_arg0)
      ∧ r.2.mem ((c.tc : Thread Cert.AdamMemKvReferenceIdeal.nD Cert.AdamMemKvReferenceIdeal.τ).loc Cert.AdamMemKvReferenceIdeal.main_arg1) = m ((c.tc : Thread Cert.AdamMemKvReferenceIdeal.nD Cert.AdamMemKvReferenceIdeal.τ).loc Cert.AdamMemKvReferenceIdeal.main_arg1)
      ∧ r.2.mem ((c.tc : Thread Cert.AdamMemKvReferenceIdeal.nD Cert.AdamMemKvReferenceIdeal.τ).loc Cert.AdamMemKvReferenceIdeal.main_arg2) = m ((c.tc : Thread Cert.AdamMemKvReferenceIdeal.nD Cert.AdamMemKvReferenceIdeal.τ).loc Cert.AdamMemKvReferenceIdeal.main_arg2)
      ∧ r.2.mem ((c.tc : Thread Cert.AdamMemKvReferenceIdeal.nD Cert.AdamMemKvReferenceIdeal.τ).loc Cert.AdamMemKvReferenceIdeal.main_arg3) = m ((c.tc : Thread Cert.AdamMemKvReferenceIdeal.nD Cert.AdamMemKvReferenceIdeal.τ).loc Cert.AdamMemKvReferenceIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpReferenceIdeal [hAdamUpReferenceIdeal : Cert.AdamUpReferenceIdeal.Facts] : Prop :=
  ∀ (m : (ℓ : Loc Cert.AdamUpReferenceIdeal.nD Cert.AdamUpReferenceIdeal.τ Cert.AdamUpReferenceIdeal.sig) → Buf (Elt Ideal) ℓ) (g : Dev Cert.AdamUpReferenceIdeal.nD → PrngReg), Pre_AdamUpReferenceIdeal m →
    θ_run (Cert.AdamUpReferenceIdeal.defs (F := Ideal)) (onTc (τ := Cert.AdamUpReferenceIdeal.τ) (Cert.AdamUpReferenceIdeal.main (F := Ideal))) ⟨m, fun _ => 0, g⟩ (fun r => (∀ c : Dev Cert.AdamUpReferenceIdeal.nD,
      r.2.mem ((c.tc : Thread Cert.AdamUpReferenceIdeal.nD Cert.AdamUpReferenceIdeal.τ).loc Cert.AdamUpReferenceIdeal.main_arg0) = m ((c.tc : Thread Cert.AdamUpReferenceIdeal.nD Cert.AdamUpReferenceIdeal.τ).loc Cert.AdamUpReferenceIdeal.main_arg0)
      ∧ r.2.mem ((c.tc : Thread Cert.AdamUpReferenceIdeal.nD Cert.AdamUpReferenceIdeal.τ).loc Cert.AdamUpReferenceIdeal.main_arg1) = m ((c.tc : Thread Cert.AdamUpReferenceIdeal.nD Cert.AdamUpReferenceIdeal.τ).loc Cert.AdamUpReferenceIdeal.main_arg1)
      ∧ r.2.mem ((c.tc : Thread Cert.AdamUpReferenceIdeal.nD Cert.AdamUpReferenceIdeal.τ).loc Cert.AdamUpReferenceIdeal.main_arg2) = m ((c.tc : Thread Cert.AdamUpReferenceIdeal.nD Cert.AdamUpReferenceIdeal.τ).loc Cert.AdamUpReferenceIdeal.main_arg2)
      ∧ r.2.mem ((c.tc : Thread Cert.AdamUpReferenceIdeal.nD Cert.AdamUpReferenceIdeal.τ).loc Cert.AdamUpReferenceIdeal.main_arg3) = m ((c.tc : Thread Cert.AdamUpReferenceIdeal.nD Cert.AdamUpReferenceIdeal.τ).loc Cert.AdamUpReferenceIdeal.main_arg3))
      ∧ r.2.sem = fun _ => 0)

def quiescent_AdamFfnConv [hAdamFfnConv : Cert.AdamFfnConv.Facts] : Prop :=
  ∀ (m : (ℓ : Loc Cert.AdamFfnConv.nD Cert.AdamFfnConv.τ Cert.AdamFfnConv.sig) → Buf (Elt Bits) ℓ) (g : Dev Cert.AdamFfnConv.nD → PrngReg), Pre_AdamFfnConv m →
    θ_run (Cert.AdamFfnConv.defs (F := Bits)) (onTc (τ := Cert.AdamFfnConv.τ) (Cert.AdamFfnConv.main (F := Bits))) ⟨m, fun _ => 0, g⟩ (fun r => (∀ c : Dev Cert.AdamFfnConv.nD,
      r.2.mem ((c.tc : Thread Cert.AdamFfnConv.nD Cert.AdamFfnConv.τ).loc Cert.AdamFfnConv.main_arg0) = m ((c.tc : Thread Cert.AdamFfnConv.nD Cert.AdamFfnConv.τ).loc Cert.AdamFfnConv.main_arg0)
      ∧ r.2.mem ((c.tc : Thread Cert.AdamFfnConv.nD Cert.AdamFfnConv.τ).loc Cert.AdamFfnConv.main_arg1) = m ((c.tc : Thread Cert.AdamFfnConv.nD Cert.AdamFfnConv.τ).loc Cert.AdamFfnConv.main_arg1)
      ∧ r.2.mem ((c.tc : Thread Cert.AdamFfnConv.nD Cert.AdamFfnConv.τ).loc Cert.AdamFfnConv.main_arg2) = m ((c.tc : Thread Cert.AdamFfnConv.nD Cert.AdamFfnConv.τ).loc Cert.AdamFfnConv.main_arg2)
      ∧ r.2.mem ((c.tc : Thread Cert.AdamFfnConv.nD Cert.AdamFfnConv.τ).loc Cert.AdamFfnConv.main_arg3) = m ((c.tc : Thread Cert.AdamFfnConv.nD Cert.AdamFfnConv.τ).loc Cert.AdamFfnConv.main_arg3))
      ∧ r.2.sem = fun _ => 0)

def quiescent_AdamFfnConvIdeal [hAdamFfnConvIdeal : Cert.AdamFfnConvIdeal.Facts] : Prop :=
  ∀ (m : (ℓ : Loc Cert.AdamFfnConvIdeal.nD Cert.AdamFfnConvIdeal.τ Cert.AdamFfnConvIdeal.sig) → Buf (Elt Ideal) ℓ) (g : Dev Cert.AdamFfnConvIdeal.nD → PrngReg), Pre_AdamFfnConvIdeal m →
    θ_run (Cert.AdamFfnConvIdeal.defs (F := Ideal)) (onTc (τ := Cert.AdamFfnConvIdeal.τ) (Cert.AdamFfnConvIdeal.main (F := Ideal))) ⟨m, fun _ => 0, g⟩ (fun r => (∀ c : Dev Cert.AdamFfnConvIdeal.nD,
      r.2.mem ((c.tc : Thread Cert.AdamFfnConvIdeal.nD Cert.AdamFfnConvIdeal.τ).loc Cert.AdamFfnConvIdeal.main_arg0) = m ((c.tc : Thread Cert.AdamFfnConvIdeal.nD Cert.AdamFfnConvIdeal.τ).loc Cert.AdamFfnConvIdeal.main_arg0)
      ∧ r.2.mem ((c.tc : Thread Cert.AdamFfnConvIdeal.nD Cert.AdamFfnConvIdeal.τ).loc Cert.AdamFfnConvIdeal.main_arg1) = m ((c.tc : Thread Cert.AdamFfnConvIdeal.nD Cert.AdamFfnConvIdeal.τ).loc Cert.AdamFfnConvIdeal.main_arg1)
      ∧ r.2.mem ((c.tc : Thread Cert.AdamFfnConvIdeal.nD Cert.AdamFfnConvIdeal.τ).loc Cert.AdamFfnConvIdeal.main_arg2) = m ((c.tc : Thread Cert.AdamFfnConvIdeal.nD Cert.AdamFfnConvIdeal.τ).loc Cert.AdamFfnConvIdeal.main_arg2)
      ∧ r.2.mem ((c.tc : Thread Cert.AdamFfnConvIdeal.nD Cert.AdamFfnConvIdeal.τ).loc Cert.AdamFfnConvIdeal.main_arg3) = m ((c.tc : Thread Cert.AdamFfnConvIdeal.nD Cert.AdamFfnConvIdeal.τ).loc Cert.AdamFfnConvIdeal.main_arg3))
      ∧ r.2.sem = fun _ => 0)

def quiescent_AdamFfnConvReferenceIdeal [hAdamFfnConvReferenceIdeal : Cert.AdamFfnConvReferenceIdeal.Facts] : Prop :=
  ∀ (m : (ℓ : Loc Cert.AdamFfnConvReferenceIdeal.nD Cert.AdamFfnConvReferenceIdeal.τ Cert.AdamFfnConvReferenceIdeal.sig) → Buf (Elt Ideal) ℓ) (g : Dev Cert.AdamFfnConvReferenceIdeal.nD → PrngReg), Pre_AdamFfnConvReferenceIdeal m →
    θ_run (Cert.AdamFfnConvReferenceIdeal.defs (F := Ideal)) (onTc (τ := Cert.AdamFfnConvReferenceIdeal.τ) (Cert.AdamFfnConvReferenceIdeal.main (F := Ideal))) ⟨m, fun _ => 0, g⟩ (fun r => (∀ c : Dev Cert.AdamFfnConvReferenceIdeal.nD,
      r.2.mem ((c.tc : Thread Cert.AdamFfnConvReferenceIdeal.nD Cert.AdamFfnConvReferenceIdeal.τ).loc Cert.AdamFfnConvReferenceIdeal.main_arg0) = m ((c.tc : Thread Cert.AdamFfnConvReferenceIdeal.nD Cert.AdamFfnConvReferenceIdeal.τ).loc Cert.AdamFfnConvReferenceIdeal.main_arg0)
      ∧ r.2.mem ((c.tc : Thread Cert.AdamFfnConvReferenceIdeal.nD Cert.AdamFfnConvReferenceIdeal.τ).loc Cert.AdamFfnConvReferenceIdeal.main_arg1) = m ((c.tc : Thread Cert.AdamFfnConvReferenceIdeal.nD Cert.AdamFfnConvReferenceIdeal.τ).loc Cert.AdamFfnConvReferenceIdeal.main_arg1)
      ∧ r.2.mem ((c.tc : Thread Cert.AdamFfnConvReferenceIdeal.nD Cert.AdamFfnConvReferenceIdeal.τ).loc Cert.AdamFfnConvReferenceIdeal.main_arg2) = m ((c.tc : Thread Cert.AdamFfnConvReferenceIdeal.nD Cert.AdamFfnConvReferenceIdeal.τ).loc Cert.AdamFfnConvReferenceIdeal.main_arg2)
      ∧ r.2.mem ((c.tc : Thread Cert.AdamFfnConvReferenceIdeal.nD Cert.AdamFfnConvReferenceIdeal.τ).loc Cert.AdamFfnConvReferenceIdeal.main_arg3) = m ((c.tc : Thread Cert.AdamFfnConvReferenceIdeal.nD Cert.AdamFfnConvReferenceIdeal.τ).loc Cert.AdamFfnConvReferenceIdeal.main_arg3))
      ∧ r.2.sem = fun _ => 0)

def quiescent_AdamFfnBias [hAdamFfnBias : Cert.AdamFfnBias.Facts] : Prop :=
  ∀ (m : (ℓ : Loc Cert.AdamFfnBias.nD Cert.AdamFfnBias.τ Cert.AdamFfnBias.sig) → Buf (Elt Bits) ℓ) (g : Dev Cert.AdamFfnBias.nD → PrngReg), Pre_AdamFfnBias m →
    θ_run (Cert.AdamFfnBias.defs (F := Bits)) (onTc (τ := Cert.AdamFfnBias.τ) (Cert.AdamFfnBias.main (F := Bits))) ⟨m, fun _ => 0, g⟩ (fun r => (∀ c : Dev Cert.AdamFfnBias.nD,
      r.2.mem ((c.tc : Thread Cert.AdamFfnBias.nD Cert.AdamFfnBias.τ).loc Cert.AdamFfnBias.main_arg0) = m ((c.tc : Thread Cert.AdamFfnBias.nD Cert.AdamFfnBias.τ).loc Cert.AdamFfnBias.main_arg0)
      ∧ r.2.mem ((c.tc : Thread Cert.AdamFfnBias.nD Cert.AdamFfnBias.τ).loc Cert.AdamFfnBias.main_arg1) = m ((c.tc : Thread Cert.AdamFfnBias.nD Cert.AdamFfnBias.τ).loc Cert.AdamFfnBias.main_arg1)
      ∧ r.2.mem ((c.tc : Thread Cert.AdamFfnBias.nD Cert.AdamFfnBias.τ).loc Cert.AdamFfnBias.main_arg2) = m ((c.tc : Thread Cert.AdamFfnBias.nD Cert.AdamFfnBias.τ).loc Cert.AdamFfnBias.main_arg2)
      ∧ r.2.mem ((c.tc : Thread Cert.AdamFfnBias.nD Cert.AdamFfnBias.τ).loc Cert.AdamFfnBias.main_arg3) = m ((c.tc : Thread Cert.AdamFfnBias.nD Cert.AdamFfnBias.τ).loc Cert.AdamFfnBias.main_arg3))
      ∧ r.2.sem = fun _ => 0)

def quiescent_AdamFfnBiasIdeal [hAdamFfnBiasIdeal : Cert.AdamFfnBiasIdeal.Facts] : Prop :=
  ∀ (m : (ℓ : Loc Cert.AdamFfnBiasIdeal.nD Cert.AdamFfnBiasIdeal.τ Cert.AdamFfnBiasIdeal.sig) → Buf (Elt Ideal) ℓ) (g : Dev Cert.AdamFfnBiasIdeal.nD → PrngReg), Pre_AdamFfnBiasIdeal m →
    θ_run (Cert.AdamFfnBiasIdeal.defs (F := Ideal)) (onTc (τ := Cert.AdamFfnBiasIdeal.τ) (Cert.AdamFfnBiasIdeal.main (F := Ideal))) ⟨m, fun _ => 0, g⟩ (fun r => (∀ c : Dev Cert.AdamFfnBiasIdeal.nD,
      r.2.mem ((c.tc : Thread Cert.AdamFfnBiasIdeal.nD Cert.AdamFfnBiasIdeal.τ).loc Cert.AdamFfnBiasIdeal.main_arg0) = m ((c.tc : Thread Cert.AdamFfnBiasIdeal.nD Cert.AdamFfnBiasIdeal.τ).loc Cert.AdamFfnBiasIdeal.main_arg0)
      ∧ r.2.mem ((c.tc : Thread Cert.AdamFfnBiasIdeal.nD Cert.AdamFfnBiasIdeal.τ).loc Cert.AdamFfnBiasIdeal.main_arg1) = m ((c.tc : Thread Cert.AdamFfnBiasIdeal.nD Cert.AdamFfnBiasIdeal.τ).loc Cert.AdamFfnBiasIdeal.main_arg1)
      ∧ r.2.mem ((c.tc : Thread Cert.AdamFfnBiasIdeal.nD Cert.AdamFfnBiasIdeal.τ).loc Cert.AdamFfnBiasIdeal.main_arg2) = m ((c.tc : Thread Cert.AdamFfnBiasIdeal.nD Cert.AdamFfnBiasIdeal.τ).loc Cert.AdamFfnBiasIdeal.main_arg2)
      ∧ r.2.mem ((c.tc : Thread Cert.AdamFfnBiasIdeal.nD Cert.AdamFfnBiasIdeal.τ).loc Cert.AdamFfnBiasIdeal.main_arg3) = m ((c.tc : Thread Cert.AdamFfnBiasIdeal.nD Cert.AdamFfnBiasIdeal.τ).loc Cert.AdamFfnBiasIdeal.main_arg3))
      ∧ r.2.sem = fun _ => 0)

def quiescent_AdamFfnBiasReferenceIdeal [hAdamFfnBiasReferenceIdeal : Cert.AdamFfnBiasReferenceIdeal.Facts] : Prop :=
  ∀ (m : (ℓ : Loc Cert.AdamFfnBiasReferenceIdeal.nD Cert.AdamFfnBiasReferenceIdeal.τ Cert.AdamFfnBiasReferenceIdeal.sig) → Buf (Elt Ideal) ℓ) (g : Dev Cert.AdamFfnBiasReferenceIdeal.nD → PrngReg), Pre_AdamFfnBiasReferenceIdeal m →
    θ_run (Cert.AdamFfnBiasReferenceIdeal.defs (F := Ideal)) (onTc (τ := Cert.AdamFfnBiasReferenceIdeal.τ) (Cert.AdamFfnBiasReferenceIdeal.main (F := Ideal))) ⟨m, fun _ => 0, g⟩ (fun r => (∀ c : Dev Cert.AdamFfnBiasReferenceIdeal.nD,
      r.2.mem ((c.tc : Thread Cert.AdamFfnBiasReferenceIdeal.nD Cert.AdamFfnBiasReferenceIdeal.τ).loc Cert.AdamFfnBiasReferenceIdeal.main_arg0) = m ((c.tc : Thread Cert.AdamFfnBiasReferenceIdeal.nD Cert.AdamFfnBiasReferenceIdeal.τ).loc Cert.AdamFfnBiasReferenceIdeal.main_arg0)
      ∧ r.2.mem ((c.tc : Thread Cert.AdamFfnBiasReferenceIdeal.nD Cert.AdamFfnBiasReferenceIdeal.τ).loc Cert.AdamFfnBiasReferenceIdeal.main_arg1) = m ((c.tc : Thread Cert.AdamFfnBiasReferenceIdeal.nD Cert.AdamFfnBiasReferenceIdeal.τ).loc Cert.AdamFfnBiasReferenceIdeal.main_arg1)
      ∧ r.2.mem ((c.tc : Thread Cert.AdamFfnBiasReferenceIdeal.nD Cert.AdamFfnBiasReferenceIdeal.τ).loc Cert.AdamFfnBiasReferenceIdeal.main_arg2) = m ((c.tc : Thread Cert.AdamFfnBiasReferenceIdeal.nD Cert.AdamFfnBiasReferenceIdeal.τ).loc Cert.AdamFfnBiasReferenceIdeal.main_arg2)
      ∧ r.2.mem ((c.tc : Thread Cert.AdamFfnBiasReferenceIdeal.nD Cert.AdamFfnBiasReferenceIdeal.τ).loc Cert.AdamFfnBiasReferenceIdeal.main_arg3) = m ((c.tc : Thread Cert.AdamFfnBiasReferenceIdeal.nD Cert.AdamFfnBiasReferenceIdeal.τ).loc Cert.AdamFfnBiasReferenceIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownReferenceIdeal [hAdamDownReferenceIdeal : Cert.AdamDownReferenceIdeal.Facts] : Prop :=
  ∀ (m : (ℓ : Loc Cert.AdamDownReferenceIdeal.nD Cert.AdamDownReferenceIdeal.τ Cert.AdamDownReferenceIdeal.sig) → Buf (Elt Ideal) ℓ) (g : Dev Cert.AdamDownReferenceIdeal.nD → PrngReg), Pre_AdamDownReferenceIdeal m →
    θ_run (Cert.AdamDownReferenceIdeal.defs (F := Ideal)) (onTc (τ := Cert.AdamDownReferenceIdeal.τ) (Cert.AdamDownReferenceIdeal.main (F := Ideal))) ⟨m, fun _ => 0, g⟩ (fun r => (∀ c : Dev Cert.AdamDownReferenceIdeal.nD,
      r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v53_0)) (v1 : (c : Dev Cert.KernelIdeal.nD) → Buf (Elt Ideal) ((c.tc : Thread Cert.KernelIdeal.nD Cert.KernelIdeal.τ).loc Cert.KernelIdeal.main_v53_1)) (v2 : (c : Dev Cert.KernelIdeal.nD) → Buf (Elt Ideal) ((c.tc : Thread Cert.KernelIdeal.nD Cert.KernelIdeal.τ).loc Cert.KernelIdeal.main_v53_2)) (v3 : (c : Dev Cert.KernelIdeal.nD) → Buf (Elt Ideal) ((c.tc : Thread Cert.KernelIdeal.nD Cert.KernelIdeal.τ).loc Cert.KernelIdeal.main_v53_3)) (v4 : (c : Dev Cert.KernelIdeal.nD) → Buf (Elt Ideal) ((c.tc : Thread Cert.KernelIdeal.nD Cert.KernelIdeal.τ).loc Cert.KernelIdeal.main_v53_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53_0) = v0 c
          ∧ r.2.mem ((c.tc : Thread Cert.KernelIdeal.nD Cert.KernelIdeal.τ).loc Cert.KernelIdeal.main_v53_1) = v1 c
          ∧ r.2.mem ((c.tc : Thread Cert.KernelIdeal.nD Cert.KernelIdeal.τ).loc Cert.KernelIdeal.main_v53_2) = v2 c
          ∧ r.2.mem ((c.tc : Thread Cert.KernelIdeal.nD Cert.KernelIdeal.τ).loc Cert.KernelIdeal.main_v53_3) = v3 c
          ∧ r.2.mem ((c.tc : Thread Cert.KernelIdeal.nD Cert.KernelIdeal.τ).loc Cert.KernelIdeal.main_v53_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_v92) = v3 c
          ∧ r.2.mem ((c.tc : Thread Cert.ReferenceIdeal.nD Cert.ReferenceIdeal.τ).loc Cert.ReferenceIdeal.main_v96) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_DownHidden_DownHiddenIdeal : Prop :=
  True

def algebraic_DownHiddenIdeal_DownHiddenReferenceIdeal [hDownHiddenIdeal : Cert.DownHiddenIdeal.Facts] [hDownHiddenReferenceIdeal : Cert.DownHiddenReferenceIdeal.Facts] : Prop :=
  ∀ (m : (ℓ : Loc Cert.DownHiddenIdeal.nD Cert.DownHiddenIdeal.τ Cert.DownHiddenIdeal.sig) → Buf (Elt Ideal) ℓ) (g : Dev Cert.DownHiddenIdeal.nD → PrngReg)
    (m' : (ℓ : Loc Cert.DownHiddenReferenceIdeal.nD Cert.DownHiddenReferenceIdeal.τ Cert.DownHiddenReferenceIdeal.sig) → Buf (Elt Ideal) ℓ) (g' : Dev Cert.DownHiddenReferenceIdeal.nD → PrngReg), Pre_DownHiddenIdeal m →
    (∀ c : Dev Cert.DownHiddenIdeal.nD,
      m' ((c.tc : Thread Cert.DownHiddenReferenceIdeal.nD Cert.DownHiddenReferenceIdeal.τ).loc Cert.DownHiddenReferenceIdeal.main_arg0) = m ((c.tc : Thread Cert.DownHiddenIdeal.nD Cert.DownHiddenIdeal.τ).loc Cert.DownHiddenIdeal.main_arg0)
      ∧ m' ((c.tc : Thread Cert.DownHiddenReferenceIdeal.nD Cert.DownHiddenReferenceIdeal.τ).loc Cert.DownHiddenReferenceIdeal.main_arg1) = m ((c.tc : Thread Cert.DownHiddenIdeal.nD Cert.DownHiddenIdeal.τ).loc Cert.DownHiddenIdeal.main_arg1)) →
    ∃ (v0 : (c : Dev Cert.DownHiddenIdeal.nD) → Buf (Elt Ideal) ((c.tc : Thread Cert.DownHiddenIdeal.nD Cert.DownHiddenIdeal.τ).loc Cert.DownHiddenIdeal.main_v0)),
      θ_run (Cert.DownHiddenIdeal.defs (F := Ideal)) (onTc (τ := Cert.DownHiddenIdeal.τ) (Cert.DownHiddenIdeal.main (F := Ideal))) ⟨m, fun _ => 0, g⟩ (fun r => ∀ c : Dev Cert.DownHiddenIdeal.nD,
          r.2.mem ((c.tc : Thread Cert.DownHiddenIdeal.nD Cert.DownHiddenIdeal.τ).loc Cert.DownHiddenIdeal.main_v0) = v0 c
          ∧ r.2.mem ((c.tc : Thread Cert.DownHiddenIdeal.nD Cert.DownHiddenIdeal.τ).loc Cert.DownHiddenIdeal.main_arg0) = m ((c.tc : Thread Cert.DownHiddenIdeal.nD Cert.DownHiddenIdeal.τ).loc Cert.DownHiddenIdeal.main_arg0)
          ∧ r.2.mem ((c.tc : Thread Cert.DownHiddenIdeal.nD Cert.DownHiddenIdeal.τ).loc Cert.DownHiddenIdeal.main_arg1) = m ((c.tc : Thread Cert.DownHiddenIdeal.nD Cert.DownHiddenIdeal.τ).loc Cert.DownHiddenIdeal.main_arg1))
      ∧ θ_run (Cert.DownHiddenReferenceIdeal.defs (F := Ideal)) (onTc (τ := Cert.DownHiddenReferenceIdeal.τ) (Cert.DownHiddenReferenceIdeal.main (F := Ideal))) ⟨m', fun _ => 0, g'⟩ (fun r => ∀ c : Dev Cert.DownHiddenReferenceIdeal.nD,
          r.2.mem ((c.tc : Thread Cert.DownHiddenReferenceIdeal.nD Cert.DownHiddenReferenceIdeal.τ).loc Cert.DownHiddenReferenceIdeal.main_v4) = v0 c
          ∧ r.2.mem ((c.tc : Thread Cert.DownHiddenReferenceIdeal.nD Cert.DownHiddenReferenceIdeal.τ).loc Cert.DownHiddenReferenceIdeal.main_arg0) = m' ((c.tc : Thread Cert.DownHiddenReferenceIdeal.nD Cert.DownHiddenReferenceIdeal.τ).loc Cert.DownHiddenReferenceIdeal.main_arg0)
          ∧ r.2.mem ((c.tc : Thread Cert.DownHiddenReferenceIdeal.nD Cert.DownHiddenReferenceIdeal.τ).loc Cert.DownHiddenReferenceIdeal.main_arg1) = m' ((c.tc : Thread Cert.DownHiddenReferenceIdeal.nD Cert.DownHiddenReferenceIdeal.τ).loc Cert.DownHiddenReferenceIdeal.main_arg1))

def preserves_DownWeight_DownWeightIdeal : Prop :=
  True

def algebraic_DownWeightIdeal_DownWeightReferenceIdeal [hDownWeightIdeal : Cert.DownWeightIdeal.Facts] [hDownWeightReferenceIdeal : Cert.DownWeightReferenceIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg)
    (m' : (ℓ : Loc Cert.DownWeightReferenceIdeal.nD Cert.DownWeightReferenceIdeal.τ Cert.DownWeightReferenceIdeal.sig) → Buf (Elt Ideal) ℓ) (g' : Dev Cert.DownWeightReferenceIdeal.nD → PrngReg), Pre_DownWeightIdeal m →
    (∀ c : Dev Cert.DownWeightIdeal.nD,
      m' ((c.tc : Thread Cert.DownWeightReferenceIdeal.nD Cert.DownWeightReferenceIdeal.τ).loc Cert.DownWeightReferenceIdeal.main_arg0) = m ((c.tc : Thread Cert.DownWeightIdeal.nD Cert.DownWeightIdeal.τ).loc Cert.DownWeightIdeal.main_arg0)
      ∧ m' ((c.tc : Thread Cert.DownWeightReferenceIdeal.nD Cert.DownWeightReferenceIdeal.τ).loc Cert.DownWeightReferenceIdeal.main_arg1) = m ((c.tc : Thread Cert.DownWeightIdeal.nD Cert.DownWeightIdeal.τ).loc Cert.DownWeightIdeal.main_arg1)) →
    ∃ (v0 : (c : Dev Cert.DownWeightIdeal.nD) → Buf (Elt Ideal) ((c.tc : Thread Cert.DownWeightIdeal.nD Cert.DownWeightIdeal.τ).loc Cert.DownWeightIdeal.main_v0)),
      θ_run (Cert.DownWeightIdeal.defs (F := Ideal)) (onTc (τ := Cert.DownWeightIdeal.τ) (Cert.DownWeightIdeal.main (F := Ideal))) ⟨m, fun _ => 0, g⟩ (fun r => ∀ c : Dev Cert.DownWeightIdeal.nD,
          r.2.mem ((c.tc : Thread Cert.DownWeightIdeal.nD Cert.DownWeightIdeal.τ).loc Cert.DownWeightIdeal.main_v0) = v0 c
          ∧ r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
          ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1))
      ∧ θ_run (Cert.DownWeightReferenceIdeal.defs (F := Ideal)) (onTc (τ := Cert.DownWeightReferenceIdeal.τ) (Cert.DownWeightReferenceIdeal.main (F := Ideal))) ⟨m', fun _ => 0, g'⟩ (fun r => ∀ c : Dev Cert.DownWeightReferenceIdeal.nD,
          r.2.mem ((c.tc : Thread Cert.DownWeightReferenceIdeal.nD Cert.DownWeightReferenceIdeal.τ).loc Cert.DownWeightReferenceIdeal.main_v6) = v0 c
          ∧ r.2.mem ((c.tc : Thread Cert.DownWeightReferenceIdeal.nD Cert.DownWeightReferenceIdeal.τ).loc Cert.DownWeightReferenceIdeal.main_arg0) = m' ((c.tc : Thread Cert.DownWeightReferenceIdeal.nD Cert.DownWeightReferenceIdeal.τ).loc Cert.DownWeightReferenceIdeal.main_arg0)
          ∧ r.2.mem ((c.tc : Thread Cert.DownWeightReferenceIdeal.nD Cert.DownWeightReferenceIdeal.τ).loc Cert.DownWeightReferenceIdeal.main_arg1) = m' ((c.tc : Thread Cert.DownWeightReferenceIdeal.nD Cert.DownWeightReferenceIdeal.τ).loc Cert.DownWeightReferenceIdeal.main_arg1))

def preserves_UpInput_UpInputIdeal : Prop :=
  True

def algebraic_UpInputIdeal_UpInputReferenceIdeal [hUpInputIdeal : Cert.UpInputIdeal.Facts] [hUpInputReferenceIdeal : Cert.UpInputReferenceIdeal.Facts] : Prop :=
  ∀ (m : (ℓ : Loc Cert.UpInputIdeal.nD Cert.UpInputIdeal.τ Cert.UpInputIdeal.sig) → Buf (Elt Ideal) ℓ) (g : Dev Cert.UpInputIdeal.nD → PrngReg)
    (m' : (ℓ : Loc Cert.UpInputReferenceIdeal.nD Cert.UpInputReferenceIdeal.τ Cert.UpInputReferenceIdeal.sig) → Buf (Elt Ideal) ℓ) (g' : Dev Cert.UpInputReferenceIdeal.nD → PrngReg), Pre_UpInputIdeal m →
    (∀ c : Dev Cert.UpInputIdeal.nD,
      m' ((c.tc : Thread Cert.UpInputReferenceIdeal.nD Cert.UpInputReferenceIdeal.τ).loc Cert.UpInputReferenceIdeal.main_arg0) = m ((c.tc : Thread Cert.UpInputIdeal.nD Cert.UpInputIdeal.τ).loc Cert.UpInputIdeal.main_arg0)
      ∧ m' ((c.tc : Thread Cert.UpInputReferenceIdeal.nD Cert.UpInputReferenceIdeal.τ).loc Cert.UpInputReferenceIdeal.main_arg1) = m ((c.tc : Thread Cert.UpInputIdeal.nD Cert.UpInputIdeal.τ).loc Cert.UpInputIdeal.main_arg1)) →
    ∃ (v0 : (c : Dev Cert.UpInputIdeal.nD) → Buf (Elt Ideal) ((c.tc : Thread Cert.UpInputIdeal.nD Cert.UpInputIdeal.τ).loc Cert.UpInputIdeal.main_v0)),
      θ_run (Cert.UpInputIdeal.defs (F := Ideal)) (onTc (τ := Cert.UpInputIdeal.τ) (Cert.UpInputIdeal.main (F := Ideal))) ⟨m, fun _ => 0, g⟩ (fun r => ∀ c : Dev Cert.UpInputIdeal.nD,
          r.2.mem ((c.tc : Thread Cert.UpInputIdeal.nD Cert.UpInputIdeal.τ).loc Cert.UpInputIdeal.main_v0) = v0 c
          ∧ r.2.mem ((c.tc : Thread Cert.UpInputIdeal.nD Cert.UpInputIdeal.τ).loc Cert.UpInputIdeal.main_arg0) = m ((c.tc : Thread Cert.UpInputIdeal.nD Cert.UpInputIdeal.τ).loc Cert.UpInputIdeal.main_arg0)
          ∧ r.2.mem ((c.tc : Thread Cert.UpInputIdeal.nD Cert.UpInputIdeal.τ).loc Cert.UpInputIdeal.main_arg1) = m ((c.tc : Thread Cert.UpInputIdeal.nD Cert.UpInputIdeal.τ).loc Cert.UpInputIdeal.main_arg1))
      ∧ θ_run (Cert.UpInputReferenceIdeal.defs (F := Ideal)) (onTc (τ := Cert.UpInputReferenceIdeal.τ) (Cert.UpInputReferenceIdeal.main (F := Ideal))) ⟨m', fun _ => 0, g'⟩ (fun r => ∀ c : Dev Cert.UpInputReferenceIdeal.nD,
          r.2.mem ((c.tc : Thread Cert.UpInputReferenceIdeal.nD Cert.UpInputReferenceIdeal.τ).loc Cert.UpInputReferenceIdeal.main_v4) = v0 c
          ∧ r.2.mem ((c.tc : Thread Cert.UpInputReferenceIdeal.nD Cert.UpInputReferenceIdeal.τ).loc Cert.UpInputReferenceIdeal.main_arg0) = m' ((c.tc : Thread Cert.UpInputReferenceIdeal.nD Cert.UpInputReferenceIdeal.τ).loc Cert.UpInputReferenceIdeal.main_arg0)
          ∧ r.2.mem ((c.tc : Thread Cert.UpInputReferenceIdeal.nD Cert.UpInputReferenceIdeal.τ).loc Cert.UpInputReferenceIdeal.main_arg1) = m' ((c.tc : Thread Cert.UpInputReferenceIdeal.nD Cert.UpInputReferenceIdeal.τ).loc Cert.UpInputReferenceIdeal.main_arg1))

def preserves_UpInputAdd_UpInputAddIdeal : Prop :=
  True

def algebraic_UpInputAddIdeal_UpInputAddReferenceIdeal [hUpInputAddIdeal : Cert.UpInputAddIdeal.Facts] [hUpInputAddReferenceIdeal : Cert.UpInputAddReferenceIdeal.Facts] : Prop :=
  ∀ (m : (ℓ : Loc Cert.UpInputAddIdeal.nD Cert.UpInputAddIdeal.τ Cert.UpInputAddIdeal.sig) → Buf (Elt Ideal) ℓ) (g : Dev Cert.UpInputAddIdeal.nD → PrngReg)
    (m' : (ℓ : Loc Cert.UpInputAddReferenceIdeal.nD Cert.UpInputAddReferenceIdeal.τ Cert.UpInputAddReferenceIdeal.sig) → Buf (Elt Ideal) ℓ) (g' : Dev Cert.UpInputAddReferenceIdeal.nD → PrngReg), Pre_UpInputAddIdeal m →
    (∀ c : Dev Cert.UpInputAddIdeal.nD,
      m' ((c.tc : Thread Cert.UpInputAddReferenceIdeal.nD Cert.UpInputAddReferenceIdeal.τ).loc Cert.UpInputAddReferenceIdeal.main_arg0) = m ((c.tc : Thread Cert.UpInputAddIdeal.nD Cert.UpInputAddIdeal.τ).loc Cert.UpInputAddIdeal.main_arg0)
      ∧ m' ((c.tc : Thread Cert.UpInputAddReferenceIdeal.nD Cert.UpInputAddReferenceIdeal.τ).loc Cert.UpInputAddReferenceIdeal.main_arg1) = m ((c.tc : Thread Cert.UpInputAddIdeal.nD Cert.UpInputAddIdeal.τ).loc Cert.UpInputAddIdeal.main_arg1)
      ∧ m' ((c.tc : Thread Cert.UpInputAddReferenceIdeal.nD Cert.UpInputAddReferenceIdeal.τ).loc Cert.UpInputAddReferenceIdeal.main_arg2) = m ((c.tc : Thread Cert.UpInputAddIdeal.nD Cert.UpInputAddIdeal.τ).loc Cert.UpInputAddIdeal.main_arg2)) →
    ∃ (v0 : (c : Dev Cert.UpInputAddIdeal.nD) → Buf (Elt Ideal) ((c.tc : Thread Cert.UpInputAddIdeal.nD Cert.UpInputAddIdeal.τ).loc Cert.UpInputAddIdeal.main_v0)),
      θ_run (Cert.UpInputAddIdeal.defs (F := Ideal)) (onTc (τ := Cert.UpInputAddIdeal.τ) (Cert.UpInputAddIdeal.main (F := Ideal))) ⟨m, fun _ => 0, g⟩ (fun r => ∀ c : Dev Cert.UpInputAddIdeal.nD,
          r.2.mem ((c.tc : Thread Cert.UpInputAddIdeal.nD Cert.UpInputAddIdeal.τ).loc Cert.UpInputAddIdeal.main_v0) = v0 c
          ∧ r.2.mem ((c.tc : Thread Cert.UpInputAddIdeal.nD Cert.UpInputAddIdeal.τ).loc Cert.UpInputAddIdeal.main_arg0) = m ((c.tc : Thread Cert.UpInputAddIdeal.nD Cert.UpInputAddIdeal.τ).loc Cert.UpInputAddIdeal.main_arg0)
          ∧ r.2.mem ((c.tc : Thread Cert.UpInputAddIdeal.nD Cert.UpInputAddIdeal.τ).loc Cert.UpInputAddIdeal.main_arg1) = m ((c.tc : Thread Cert.UpInputAddIdeal.nD Cert.UpInputAddIdeal.τ).loc Cert.UpInputAddIdeal.main_arg1)
          ∧ r.2.mem ((c.tc : Thread Cert.UpInputAddIdeal.nD Cert.UpInputAddIdeal.τ).loc Cert.UpInputAddIdeal.main_arg2) = m ((c.tc : Thread Cert.UpInputAddIdeal.nD Cert.UpInputAddIdeal.τ).loc Cert.UpInputAddIdeal.main_arg2))
      ∧ θ_run (Cert.UpInputAddReferenceIdeal.defs (F := Ideal)) (onTc (τ := Cert.UpInputAddReferenceIdeal.τ) (Cert.UpInputAddReferenceIdeal.main (F := Ideal))) ⟨m', fun _ => 0, g'⟩ (fun r => ∀ c : Dev Cert.UpInputAddReferenceIdeal.nD,
          r.2.mem ((c.tc : Thread Cert.UpInputAddReferenceIdeal.nD Cert.UpInputAddReferenceIdeal.τ).loc Cert.UpInputAddReferenceIdeal.main_v5) = v0 c
          ∧ r.2.mem ((c.tc : Thread Cert.UpInputAddReferenceIdeal.nD Cert.UpInputAddReferenceIdeal.τ).loc Cert.UpInputAddReferenceIdeal.main_arg0) = m' ((c.tc : Thread Cert.UpInputAddReferenceIdeal.nD Cert.UpInputAddReferenceIdeal.τ).loc Cert.UpInputAddReferenceIdeal.main_arg0)
          ∧ r.2.mem ((c.tc : Thread Cert.UpInputAddReferenceIdeal.nD Cert.UpInputAddReferenceIdeal.τ).loc Cert.UpInputAddReferenceIdeal.main_arg1) = m' ((c.tc : Thread Cert.UpInputAddReferenceIdeal.nD Cert.UpInputAddReferenceIdeal.τ).loc Cert.UpInputAddReferenceIdeal.main_arg1)
          ∧ r.2.mem ((c.tc : Thread Cert.UpInputAddReferenceIdeal.nD Cert.UpInputAddReferenceIdeal.τ).loc Cert.UpInputAddReferenceIdeal.main_arg2) = m' ((c.tc : Thread Cert.UpInputAddReferenceIdeal.nD Cert.UpInputAddReferenceIdeal.τ).loc Cert.UpInputAddReferenceIdeal.main_arg2))

def preserves_UpWeight_UpWeightIdeal : Prop :=
  True

def algebraic_UpWeightIdeal_UpWeightReferenceIdeal [hUpWeightIdeal : Cert.UpWeightIdeal.Facts] [hUpWeightReferenceIdeal : Cert.UpWeightReferenceIdeal.Facts] : Prop :=
  ∀ (m : (ℓ : Loc Cert.UpWeightIdeal.nD Cert.UpWeightIdeal.τ Cert.UpWeightIdeal.sig) → Buf (Elt Ideal) ℓ) (g : Dev Cert.UpWeightIdeal.nD → PrngReg)
    (m' : (ℓ : Loc Cert.UpWeightReferenceIdeal.nD Cert.UpWeightReferenceIdeal.τ Cert.UpWeightReferenceIdeal.sig) → Buf (Elt Ideal) ℓ) (g' : Dev Cert.UpWeightReferenceIdeal.nD → PrngReg), Pre_UpWeightIdeal m →
    (∀ c : Dev Cert.UpWeightIdeal.nD,
      m' ((c.tc : Thread Cert.UpWeightReferenceIdeal.nD Cert.UpWeightReferenceIdeal.τ).loc Cert.UpWeightReferenceIdeal.main_arg0) = m ((c.tc : Thread Cert.UpWeightIdeal.nD Cert.UpWeightIdeal.τ).loc Cert.UpWeightIdeal.main_arg0)
      ∧ m' ((c.tc : Thread Cert.UpWeightReferenceIdeal.nD Cert.UpWeightReferenceIdeal.τ).loc Cert.UpWeightReferenceIdeal.main_arg1) = m ((c.tc : Thread Cert.UpWeightIdeal.nD Cert.UpWeightIdeal.τ).loc Cert.UpWeightIdeal.main_arg1)) →
    ∃ (v0 : (c : Dev Cert.UpWeightIdeal.nD) → Buf (Elt Ideal) ((c.tc : Thread Cert.UpWeightIdeal.nD Cert.UpWeightIdeal.τ).loc Cert.UpWeightIdeal.main_v0)),
      θ_run (Cert.UpWeightIdeal.defs (F := Ideal)) (onTc (τ := Cert.UpWeightIdeal.τ) (Cert.UpWeightIdeal.main (F := Ideal))) ⟨m, fun _ => 0, g⟩ (fun r => ∀ c : Dev Cert.UpWeightIdeal.nD,
          r.2.mem ((c.tc : Thread Cert.UpWeightIdeal.nD Cert.UpWeightIdeal.τ).loc Cert.UpWeightIdeal.main_v0) = v0 c
          ∧ r.2.mem ((c.tc : Thread Cert.UpWeightIdeal.nD Cert.UpWeightIdeal.τ).loc Cert.UpWeightIdeal.main_arg0) = m ((c.tc : Thread Cert.UpWeightIdeal.nD Cert.UpWeightIdeal.τ).loc Cert.UpWeightIdeal.main_arg0)
          ∧ r.2.mem ((c.tc : Thread Cert.UpWeightIdeal.nD Cert.UpWeightIdeal.τ).loc Cert.UpWeightIdeal.main_arg1) = m ((c.tc : Thread Cert.UpWeightIdeal.nD Cert.UpWeightIdeal.τ).loc Cert.UpWeightIdeal.main_arg1))
      ∧ θ_run (Cert.UpWeightReferenceIdeal.defs (F := Ideal)) (onTc (τ := Cert.UpWeightReferenceIdeal.τ) (Cert.UpWeightReferenceIdeal.main (F := Ideal))) ⟨m', fun _ => 0, g'⟩ (fun r => ∀ c : Dev Cert.UpWeightReferenceIdeal.nD,
          r.2.mem ((c.tc : Thread Cert.UpWeightReferenceIdeal.nD Cert.UpWeightReferenceIdeal.τ).loc Cert.UpWeightReferenceIdeal.main_v6) = v0 c
          ∧ r.2.mem ((c.tc : Thread Cert.UpWeightReferenceIdeal.nD Cert.UpWeightReferenceIdeal.τ).loc Cert.UpWeightReferenceIdeal.main_arg0) = m' ((c.tc : Thread Cert.UpWeightReferenceIdeal.nD Cert.UpWeightReferenceIdeal.τ).loc Cert.UpWeightReferenceIdeal.main_arg0)
          ∧ r.2.mem ((c.tc : Thread Cert.UpWeightReferenceIdeal.nD Cert.UpWeightReferenceIdeal.τ).loc Cert.UpWeightReferenceIdeal.main_arg1) = m' ((c.tc : Thread Cert.UpWeightReferenceIdeal.nD Cert.UpWeightReferenceIdeal.τ).loc Cert.UpWeightReferenceIdeal.main_arg1))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v2) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v3) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_OutMixInput_OutMixInputIdeal : Prop :=
  True

def algebraic_OutMixInputIdeal_OutMixInputReferenceIdeal [hOutMixInputIdeal : Cert.OutMixInputIdeal.Facts] [hOutMixInputReferenceIdeal : Cert.OutMixInputReferenceIdeal.Facts] : Prop :=
  ∀ (m : (ℓ : Loc Cert.OutMixInputIdeal.nD Cert.OutMixInputIdeal.τ Cert.OutMixInputIdeal.sig) → Buf (Elt Ideal) ℓ) (g : Dev Cert.OutMixInputIdeal.nD → PrngReg)
    (m' : (ℓ : Loc Cert.OutMixInputReferenceIdeal.nD Cert.OutMixInputReferenceIdeal.τ Cert.OutMixInputReferenceIdeal.sig) → Buf (Elt Ideal) ℓ) (g' : Dev Cert.OutMixInputReferenceIdeal.nD → PrngReg), Pre_OutMixInputIdeal m →
    (∀ c : Dev Cert.OutMixInputIdeal.nD,
      m' ((c.tc : Thread Cert.OutMixInputReferenceIdeal.nD Cert.OutMixInputReferenceIdeal.τ).loc Cert.OutMixInputReferenceIdeal.main_arg0) = m ((c.tc : Thread Cert.OutMixInputIdeal.nD Cert.OutMixInputIdeal.τ).loc Cert.OutMixInputIdeal.main_arg0)
      ∧ m' ((c.tc : Thread Cert.OutMixInputReferenceIdeal.nD Cert.OutMixInputReferenceIdeal.τ).loc Cert.OutMixInputReferenceIdeal.main_arg1) = m ((c.tc : Thread Cert.OutMixInputIdeal.nD Cert.OutMixInputIdeal.τ).loc Cert.OutMixInputIdeal.main_arg1)) →
    ∃ (v0 : (c : Dev Cert.OutMixInputIdeal.nD) → Buf (Elt Ideal) ((c.tc : Thread Cert.OutMixInputIdeal.nD Cert.OutMixInputIdeal.τ).loc Cert.OutMixInputIdeal.main_v0)),
      θ_run (Cert.OutMixInputIdeal.defs (F := Ideal)) (onTc (τ := Cert.OutMixInputIdeal.τ) (Cert.OutMixInputIdeal.main (F := Ideal))) ⟨m, fun _ => 0, g⟩ (fun r => ∀ c : Dev Cert.OutMixInputIdeal.nD,
          r.2.mem ((c.tc : Thread Cert.OutMixInputIdeal.nD Cert.OutMixInputIdeal.τ).loc Cert.OutMixInputIdeal.main_v0) = v0 c
          ∧ r.2.mem ((c.tc : Thread Cert.OutMixInputIdeal.nD Cert.OutMixInputIdeal.τ).loc Cert.OutMixInputIdeal.main_arg0) = m ((c.tc : Thread Cert.OutMixInputIdeal.nD Cert.OutMixInputIdeal.τ).loc Cert.OutMixInputIdeal.main_arg0)
          ∧ r.2.mem ((c.tc : Thread Cert.OutMixInputIdeal.nD Cert.OutMixInputIdeal.τ).loc Cert.OutMixInputIdeal.main_arg1) = m ((c.tc : Thread Cert.OutMixInputIdeal.nD Cert.OutMixInputIdeal.τ).loc Cert.OutMixInputIdeal.main_arg1))
      ∧ θ_run (Cert.OutMixInputReferenceIdeal.defs (F := Ideal)) (onTc (τ := Cert.OutMixInputReferenceIdeal.τ) (Cert.OutMixInputReferenceIdeal.main (F := Ideal))) ⟨m', fun _ => 0, g'⟩ (fun r => ∀ c : Dev Cert.OutMixInputReferenceIdeal.nD,
          r.2.mem ((c.tc : Thread Cert.OutMixInputReferenceIdeal.nD Cert.OutMixInputReferenceIdeal.τ).loc Cert.OutMixInputReferenceIdeal.main_v4) = v0 c
          ∧ r.2.mem ((c.tc : Thread Cert.OutMixInputReferenceIdeal.nD Cert.OutMixInputReferenceIdeal.τ).loc Cert.OutMixInputReferenceIdeal.main_arg0) = m' ((c.tc : Thread Cert.OutMixInputReferenceIdeal.nD Cert.OutMixInputReferenceIdeal.τ).loc Cert.OutMixInputReferenceIdeal.main_arg0)
          ∧ r.2.mem ((c.tc : Thread Cert.OutMixInputReferenceIdeal.nD Cert.OutMixInputReferenceIdeal.τ).loc Cert.OutMixInputReferenceIdeal.main_arg1) = m' ((c.tc : Thread Cert.OutMixInputReferenceIdeal.nD Cert.OutMixInputReferenceIdeal.τ).loc Cert.OutMixInputReferenceIdeal.main_arg1))

def preserves_OutMemInput_OutMemInputIdeal : Prop :=
  True

def algebraic_OutMemInputIdeal_OutMemInputReferenceIdeal [hOutMemInputIdeal : Cert.OutMemInputIdeal.Facts] [hOutMemInputReferenceIdeal : Cert.OutMemInputReferenceIdeal.Facts] : Prop :=
  ∀ (m : (ℓ : Loc Cert.OutMemInputIdeal.nD Cert.OutMemInputIdeal.τ Cert.OutMemInputIdeal.sig) → Buf (Elt Ideal) ℓ) (g : Dev Cert.OutMemInputIdeal.nD → PrngReg)
    (m' : (ℓ : Loc Cert.OutMemInputReferenceIdeal.nD Cert.OutMemInputReferenceIdeal.τ Cert.OutMemInputReferenceIdeal.sig) → Buf (Elt Ideal) ℓ) (g' : Dev Cert.OutMemInputReferenceIdeal.nD → PrngReg), Pre_OutMemInputIdeal m →
    (∀ c : Dev Cert.OutMemInputIdeal.nD,
      m' ((c.tc : Thread Cert.OutMemInputReferenceIdeal.nD Cert.OutMemInputReferenceIdeal.τ).loc Cert.OutMemInputReferenceIdeal.main_arg0) = m ((c.tc : Thread Cert.OutMemInputIdeal.nD Cert.OutMemInputIdeal.τ).loc Cert.OutMemInputIdeal.main_arg0)
      ∧ m' ((c.tc : Thread Cert.OutMemInputReferenceIdeal.nD Cert.OutMemInputReferenceIdeal.τ).loc Cert.OutMemInputReferenceIdeal.main_arg1) = m ((c.tc : Thread Cert.OutMemInputIdeal.nD Cert.OutMemInputIdeal.τ).loc Cert.OutMemInputIdeal.main_arg1)) →
    ∃ (v0 : (c : Dev Cert.OutMemInputIdeal.nD) → Buf (Elt Ideal) ((c.tc : Thread Cert.OutMemInputIdeal.nD Cert.OutMemInputIdeal.τ).loc Cert.OutMemInputIdeal.main_v0)),
      θ_run (Cert.OutMemInputIdeal.defs (F := Ideal)) (onTc (τ := Cert.OutMemInputIdeal.τ) (Cert.OutMemInputIdeal.main (F := Ideal))) ⟨m, fun _ => 0, g⟩ (fun r => ∀ c : Dev Cert.OutMemInputIdeal.nD,
          r.2.mem ((c.tc : Thread Cert.OutMemInputIdeal.nD Cert.OutMemInputIdeal.τ).loc Cert.OutMemInputIdeal.main_v0) = v0 c
          ∧ r.2.mem ((c.tc : Thread Cert.OutMemInputIdeal.nD Cert.OutMemInputIdeal.τ).loc Cert.OutMemInputIdeal.main_arg0) = m ((c.tc : Thread Cert.OutMemInputIdeal.nD Cert.OutMemInputIdeal.τ).loc Cert.OutMemInputIdeal.main_arg0)
          ∧ r.2.mem ((c.tc : Thread Cert.OutMemInputIdeal.nD Cert.OutMemInputIdeal.τ).loc Cert.OutMemInputIdeal.main_arg1) = m ((c.tc : Thread Cert.OutMemInputIdeal.nD Cert.OutMemInputIdeal.τ).loc Cert.OutMemInputIdeal.main_arg1))
      ∧ θ_run (Cert.OutMemInputReferenceIdeal.defs (F := Ideal)) (onTc (τ := Cert.OutMemInputReferenceIdeal.τ) (Cert.OutMemInputReferenceIdeal.main (F := Ideal))) ⟨m', fun _ => 0, g'⟩ (fun r => ∀ c : Dev Cert.OutMemInputReferenceIdeal.nD,
          r.2.mem ((c.tc : Thread Cert.OutMemInputReferenceIdeal.nD Cert.OutMemInputReferenceIdeal.τ).loc Cert.OutMemInputReferenceIdeal.main_v4) = v0 c
          ∧ r.2.mem ((c.tc : Thread Cert.OutMemInputReferenceIdeal.nD Cert.OutMemInputReferenceIdeal.τ).loc Cert.OutMemInputReferenceIdeal.main_arg0) = m' ((c.tc : Thread Cert.OutMemInputReferenceIdeal.nD Cert.OutMemInputReferenceIdeal.τ).loc Cert.OutMemInputReferenceIdeal.main_arg0)
          ∧ r.2.mem ((c.tc : Thread Cert.OutMemInputReferenceIdeal.nD Cert.OutMemInputReferenceIdeal.τ).loc Cert.OutMemInputReferenceIdeal.main_arg1) = m' ((c.tc : Thread Cert.OutMemInputReferenceIdeal.nD Cert.OutMemInputReferenceIdeal.τ).loc Cert.OutMemInputReferenceIdeal.main_arg1))

def preserves_OutMixWeight_OutMixWeightIdeal : Prop :=
  True

def algebraic_OutMixWeightIdeal_OutMixWeightReferenceIdeal [hOutMixWeightIdeal : Cert.OutMixWeightIdeal.Facts] [hOutMixWeightReferenceIdeal : Cert.OutMixWeightReferenceIdeal.Facts] : Prop :=
  ∀ (m : (ℓ : Loc Cert.OutMixWeightIdeal.nD Cert.OutMixWeightIdeal.τ Cert.OutMixWeightIdeal.sig) → Buf (Elt Ideal) ℓ) (g : Dev Cert.OutMixWeightIdeal.nD → PrngReg)
    (m' : (ℓ : Loc Cert.OutMixWeightReferenceIdeal.nD Cert.OutMixWeightReferenceIdeal.τ Cert.OutMixWeightReferenceIdeal.sig) → Buf (Elt Ideal) ℓ) (g' : Dev Cert.OutMixWeightReferenceIdeal.nD → PrngReg), Pre_OutMixWeightIdeal m →
    (∀ c : Dev Cert.OutMixWeightIdeal.nD,
      m' ((c.tc : Thread Cert.OutMixWeightReferenceIdeal.nD Cert.OutMixWeightReferenceIdeal.τ).loc Cert.OutMixWeightReferenceIdeal.main_arg0) = m ((c.tc : Thread Cert.OutMixWeightIdeal.nD Cert.OutMixWeightIdeal.τ).loc Cert.OutMixWeightIdeal.main_arg0)
      ∧ m' ((c.tc : Thread Cert.OutMixWeightReferenceIdeal.nD Cert.OutMixWeightReferenceIdeal.τ).loc Cert.OutMixWeightReferenceIdeal.main_arg1) = m ((c.tc : Thread Cert.OutMixWeightIdeal.nD Cert.OutMixWeightIdeal.τ).loc Cert.OutMixWeightIdeal.main_arg1)) →
    ∃ (v0 : (c : Dev Cert.OutMixWeightIdeal.nD) → Buf (Elt Ideal) ((c.tc : Thread Cert.OutMixWeightIdeal.nD Cert.OutMixWeightIdeal.τ).loc Cert.OutMixWeightIdeal.main_v0)),
      θ_run (Cert.OutMixWeightIdeal.defs (F := Ideal)) (onTc (τ := Cert.OutMixWeightIdeal.τ) (Cert.OutMixWeightIdeal.main (F := Ideal))) ⟨m, fun _ => 0, g⟩ (fun r => ∀ c : Dev Cert.OutMixWeightIdeal.nD,
          r.2.mem ((c.tc : Thread Cert.OutMixWeightIdeal.nD Cert.OutMixWeightIdeal.τ).loc Cert.OutMixWeightIdeal.main_v0) = v0 c
          ∧ r.2.mem ((c.tc : Thread Cert.OutMixWeightIdeal.nD Cert.OutMixWeightIdeal.τ).loc Cert.OutMixWeightIdeal.main_arg0) = m ((c.tc : Thread Cert.OutMixWeightIdeal.nD Cert.OutMixWeightIdeal.τ).loc Cert.OutMixWeightIdeal.main_arg0)
          ∧ r.2.mem ((c.tc : Thread Cert.OutMixWeightIdeal.nD Cert.OutMixWeightIdeal.τ).loc Cert.OutMixWeightIdeal.main_arg1) = m ((c.tc : Thread Cert.OutMixWeightIdeal.nD Cert.OutMixWeightIdeal.τ).loc Cert.OutMixWeightIdeal.main_arg1))
      ∧ θ_run (Cert.OutMixWeightReferenceIdeal.defs (F := Ideal)) (onTc (τ := Cert.OutMixWeightReferenceIdeal.τ) (Cert.OutMixWeightReferenceIdeal.main (F := Ideal))) ⟨m', fun _ => 0, g'⟩ (fun r => ∀ c : Dev Cert.OutMixWeightReferenceIdeal.nD,
          r.2.mem ((c.tc : Thread Cert.OutMixWeightReferenceIdeal.nD Cert.OutMixWeightReferenceIdeal.τ).loc Cert.OutMixWeightReferenceIdeal.main_v6) = v0 c
          ∧ r.2.mem ((c.tc : Thread Cert.OutMixWeightReferenceIdeal.nD Cert.OutMixWeightReferenceIdeal.τ).loc Cert.OutMixWeightReferenceIdeal.main_arg0) = m' ((c.tc : Thread Cert.OutMixWeightReferenceIdeal.nD Cert.OutMixWeightReferenceIdeal.τ).loc Cert.OutMixWeightReferenceIdeal.main_arg0)
          ∧ r.2.mem ((c.tc : Thread Cert.OutMixWeightReferenceIdeal.nD Cert.OutMixWeightReferenceIdeal.τ).loc Cert.OutMixWeightReferenceIdeal.main_arg1) = m' ((c.tc : Thread Cert.OutMixWeightReferenceIdeal.nD Cert.OutMixWeightReferenceIdeal.τ).loc Cert.OutMixWeightReferenceIdeal.main_arg1))

def preserves_OutMemWeight_OutMemWeightIdeal : Prop :=
  True

def algebraic_OutMemWeightIdeal_OutMemWeightReferenceIdeal [hOutMemWeightIdeal : Cert.OutMemWeightIdeal.Facts] [hOutMemWeightReferenceIdeal : Cert.OutMemWeightReferenceIdeal.Facts] : Prop :=
  ∀ (m : (ℓ : Loc Cert.OutMemWeightIdeal.nD Cert.OutMemWeightIdeal.τ Cert.OutMemWeightIdeal.sig) → Buf (Elt Ideal) ℓ) (g : Dev Cert.OutMemWeightIdeal.nD → PrngReg)
    (m' : (ℓ : Loc Cert.OutMemWeightReferenceIdeal.nD Cert.OutMemWeightReferenceIdeal.τ Cert.OutMemWeightReferenceIdeal.sig) → Buf (Elt Ideal) ℓ) (g' : Dev Cert.OutMemWeightReferenceIdeal.nD → PrngReg), Pre_OutMemWeightIdeal m →
    (∀ c : Dev Cert.OutMemWeightIdeal.nD,
      m' ((c.tc : Thread Cert.OutMemWeightReferenceIdeal.nD Cert.OutMemWeightReferenceIdeal.τ).loc Cert.OutMemWeightReferenceIdeal.main_arg0) = m ((c.tc : Thread Cert.OutMemWeightIdeal.nD Cert.OutMemWeightIdeal.τ).loc Cert.OutMemWeightIdeal.main_arg0)
      ∧ m' ((c.tc : Thread Cert.OutMemWeightReferenceIdeal.nD Cert.OutMemWeightReferenceIdeal.τ).loc Cert.OutMemWeightReferenceIdeal.main_arg1) = m ((c.tc : Thread Cert.OutMemWeightIdeal.nD Cert.OutMemWeightIdeal.τ).loc Cert.OutMemWeightIdeal.main_arg1)) →
    ∃ (v0 : (c : Dev Cert.OutMemWeightIdeal.nD) → Buf (Elt Ideal) ((c.tc : Thread Cert.OutMemWeightIdeal.nD Cert.OutMemWeightIdeal.τ).loc Cert.OutMemWeightIdeal.main_v0)),
      θ_run (Cert.OutMemWeightIdeal.defs (F := Ideal)) (onTc (τ := Cert.OutMemWeightIdeal.τ) (Cert.OutMemWeightIdeal.main (F := Ideal))) ⟨m, fun _ => 0, g⟩ (fun r => ∀ c : Dev Cert.OutMemWeightIdeal.nD,
          r.2.mem ((c.tc : Thread Cert.OutMemWeightIdeal.nD Cert.OutMemWeightIdeal.τ).loc Cert.OutMemWeightIdeal.main_v0) = v0 c
          ∧ r.2.mem ((c.tc : Thread Cert.OutMemWeightIdeal.nD Cert.OutMemWeightIdeal.τ).loc Cert.OutMemWeightIdeal.main_arg0) = m ((c.tc : Thread Cert.OutMemWeightIdeal.nD Cert.OutMemWeightIdeal.τ).loc Cert.OutMemWeightIdeal.main_arg0)
          ∧ r.2.mem ((c.tc : Thread Cert.OutMemWeightIdeal.nD Cert.OutMemWeightIdeal.τ).loc Cert.OutMemWeightIdeal.main_arg1) = m ((c.tc : Thread Cert.OutMemWeightIdeal.nD Cert.OutMemWeightIdeal.τ).loc Cert.OutMemWeightIdeal.main_arg1))
      ∧ θ_run (Cert.OutMemWeightReferenceIdeal.defs (F := Ideal)) (onTc (τ := Cert.OutMemWeightReferenceIdeal.τ) (Cert.OutMemWeightReferenceIdeal.main (F := Ideal))) ⟨m', fun _ => 0, g'⟩ (fun r => ∀ c : Dev Cert.OutMemWeightReferenceIdeal.nD,
          r.2.mem ((c.tc : Thread Cert.OutMemWeightReferenceIdeal.nD Cert.OutMemWeightReferenceIdeal.τ).loc Cert.OutMemWeightReferenceIdeal.main_v6) = v0 c
          ∧ r.2.mem ((c.tc : Thread Cert.OutMemWeightReferenceIdeal.nD Cert.OutMemWeightReferenceIdeal.τ).loc Cert.OutMemWeightReferenceIdeal.main_arg0) = m' ((c.tc : Thread Cert.OutMemWeightReferenceIdeal.nD Cert.OutMemWeightReferenceIdeal.τ).loc Cert.OutMemWeightReferenceIdeal.main_arg0)
          ∧ r.2.mem ((c.tc : Thread Cert.OutMemWeightReferenceIdeal.nD Cert.OutMemWeightReferenceIdeal.τ).loc Cert.OutMemWeightReferenceIdeal.main_arg1) = m' ((c.tc : Thread Cert.OutMemWeightReferenceIdeal.nD Cert.OutMemWeightReferenceIdeal.τ).loc Cert.OutMemWeightReferenceIdeal.main_arg1))

def preserves_OutMix_OutMixIdeal : Prop :=
  True

def algebraic_OutMixIdeal_OutMixReferenceIdeal [hOutMixIdeal : Cert.OutMixIdeal.Facts] [hOutMixReferenceIdeal : Cert.OutMixReferenceIdeal.Facts] : Prop :=
  ∀ (m : (ℓ : Loc Cert.OutMixIdeal.nD Cert.OutMixIdeal.τ Cert.OutMixIdeal.sig) → Buf (Elt Ideal) ℓ) (g : Dev Cert.OutMixIdeal.nD → PrngReg)
    (m' : (ℓ : Loc Cert.OutMixReferenceIdeal.nD Cert.OutMixReferenceIdeal.τ Cert.OutMixReferenceIdeal.sig) → Buf (Elt Ideal) ℓ) (g' : Dev Cert.OutMixReferenceIdeal.nD → PrngReg), Pre_OutMixIdeal m →
    (∀ c : Dev Cert.OutMixIdeal.nD,
      m' ((c.tc : Thread Cert.OutMixReferenceIdeal.nD Cert.OutMixReferenceIdeal.τ).loc Cert.OutMixReferenceIdeal.main_arg0) = m ((c.tc : Thread Cert.OutMixIdeal.nD Cert.OutMixIdeal.τ).loc Cert.OutMixIdeal.main_arg0)
      ∧ m' ((c.tc : Thread Cert.OutMixReferenceIdeal.nD Cert.OutMixReferenceIdeal.τ).loc Cert.OutMixReferenceIdeal.main_arg1) = m ((c.tc : Thread Cert.OutMixIdeal.nD Cert.OutMixIdeal.τ).loc Cert.OutMixIdeal.main_arg1)
      ∧ m' ((c.tc : Thread Cert.OutMixReferenceIdeal.nD Cert.OutMixReferenceIdeal.τ).loc Cert.OutMixReferenceIdeal.main_arg2) = m ((c.tc : Thread Cert.OutMixIdeal.nD Cert.OutMixIdeal.τ).loc Cert.OutMixIdeal.main_arg2)) →
    ∃ (v0 : (c : Dev Cert.OutMixIdeal.nD) → Buf (Elt Ideal) ((c.tc : Thread Cert.OutMixIdeal.nD Cert.OutMixIdeal.τ).loc Cert.OutMixIdeal.main_v0)),
      θ_run (Cert.OutMixIdeal.defs (F := Ideal)) (onTc (τ := Cert.OutMixIdeal.τ) (Cert.OutMixIdeal.main (F := Ideal))) ⟨m, fun _ => 0, g⟩ (fun r => ∀ c : Dev Cert.OutMixIdeal.nD,
          r.2.mem ((c.tc : Thread Cert.OutMixIdeal.nD Cert.OutMixIdeal.τ).loc Cert.OutMixIdeal.main_v0) = v0 c
          ∧ r.2.mem ((c.tc : Thread Cert.OutMixIdeal.nD Cert.OutMixIdeal.τ).loc Cert.OutMixIdeal.main_arg0) = m ((c.tc : Thread Cert.OutMixIdeal.nD Cert.OutMixIdeal.τ).loc Cert.OutMixIdeal.main_arg0)
          ∧ r.2.mem ((c.tc : Thread Cert.OutMixIdeal.nD Cert.OutMixIdeal.τ).loc Cert.OutMixIdeal.main_arg1) = m ((c.tc : Thread Cert.OutMixIdeal.nD Cert.OutMixIdeal.τ).loc Cert.OutMixIdeal.main_arg1)
          ∧ r.2.mem ((c.tc : Thread Cert.OutMixIdeal.nD Cert.OutMixIdeal.τ).loc Cert.OutMixIdeal.main_arg2) = m ((c.tc : Thread Cert.OutMixIdeal.nD Cert.OutMixIdeal.τ).loc Cert.OutMixIdeal.main_arg2))
      ∧ θ_run (Cert.OutMixReferenceIdeal.defs (F := Ideal)) (onTc (τ := Cert.OutMixReferenceIdeal.τ) (Cert.OutMixReferenceIdeal.main (F := Ideal))) ⟨m', fun _ => 0, g'⟩ (fun r => ∀ c : Dev Cert.OutMixReferenceIdeal.nD,
          r.2.mem ((c.tc : Thread Cert.OutMixReferenceIdeal.nD Cert.OutMixReferenceIdeal.τ).loc Cert.OutMixReferenceIdeal.main_v3) = v0 c
          ∧ r.2.mem ((c.tc : Thread Cert.OutMixReferenceIdeal.nD Cert.OutMixReferenceIdeal.τ).loc Cert.OutMixReferenceIdeal.main_arg0) = m' ((c.tc : Thread Cert.OutMixReferenceIdeal.nD Cert.OutMixReferenceIdeal.τ).loc Cert.OutMixReferenceIdeal.main_arg0)
          ∧ r.2.mem ((c.tc : Thread Cert.OutMixReferenceIdeal.nD Cert.OutMixReferenceIdeal.τ).loc Cert.OutMixReferenceIdeal.main_arg1) = m' ((c.tc : Thread Cert.OutMixReferenceIdeal.nD Cert.OutMixReferenceIdeal.τ).loc Cert.OutMixReferenceIdeal.main_arg1)
          ∧ r.2.mem ((c.tc : Thread Cert.OutMixReferenceIdeal.nD Cert.OutMixReferenceIdeal.τ).loc Cert.OutMixReferenceIdeal.main_arg2) = m' ((c.tc : Thread Cert.OutMixReferenceIdeal.nD Cert.OutMixReferenceIdeal.τ).loc Cert.OutMixReferenceIdeal.main_arg2))

def preserves_OutMem_OutMemIdeal : Prop :=
  True

def algebraic_OutMemIdeal_OutMemReferenceIdeal [hOutMemIdeal : Cert.OutMemIdeal.Facts] [hOutMemReferenceIdeal : Cert.OutMemReferenceIdeal.Facts] : Prop :=
  ∀ (m : (ℓ : Loc Cert.OutMemIdeal.nD Cert.OutMemIdeal.τ Cert.OutMemIdeal.sig) → Buf (Elt Ideal) ℓ) (g : Dev Cert.OutMemIdeal.nD → PrngReg)
    (m' : (ℓ : Loc Cert.OutMemReferenceIdeal.nD Cert.OutMemReferenceIdeal.τ Cert.OutMemReferenceIdeal.sig) → Buf (Elt Ideal) ℓ) (g' : Dev Cert.OutMemReferenceIdeal.nD → PrngReg), Pre_OutMemIdeal m →
    (∀ c : Dev Cert.OutMemIdeal.nD,
      m' ((c.tc : Thread Cert.OutMemReferenceIdeal.nD Cert.OutMemReferenceIdeal.τ).loc Cert.OutMemReferenceIdeal.main_arg0) = m ((c.tc : Thread Cert.OutMemIdeal.nD Cert.OutMemIdeal.τ).loc Cert.OutMemIdeal.main_arg0)
      ∧ m' ((c.tc : Thread Cert.OutMemReferenceIdeal.nD Cert.OutMemReferenceIdeal.τ).loc Cert.OutMemReferenceIdeal.main_arg1) = m ((c.tc : Thread Cert.OutMemIdeal.nD Cert.OutMemIdeal.τ).loc Cert.OutMemIdeal.main_arg1)
      ∧ m' ((c.tc : Thread Cert.OutMemReferenceIdeal.nD Cert.OutMemReferenceIdeal.τ).loc Cert.OutMemReferenceIdeal.main_arg2) = m ((c.tc : Thread Cert.OutMemIdeal.nD Cert.OutMemIdeal.τ).loc Cert.OutMemIdeal.main_arg2)) →
    ∃ (v0 : (c : Dev Cert.OutMemIdeal.nD) → Buf (Elt Ideal) ((c.tc : Thread Cert.OutMemIdeal.nD Cert.OutMemIdeal.τ).loc Cert.OutMemIdeal.main_v0)),
      θ_run (Cert.OutMemIdeal.defs (F := Ideal)) (onTc (τ := Cert.OutMemIdeal.τ) (Cert.OutMemIdeal.main (F := Ideal))) ⟨m, fun _ => 0, g⟩ (fun r => ∀ c : Dev Cert.OutMemIdeal.nD,
          r.2.mem ((c.tc : Thread Cert.OutMemIdeal.nD Cert.OutMemIdeal.τ).loc Cert.OutMemIdeal.main_v0) = v0 c
          ∧ r.2.mem ((c.tc : Thread Cert.OutMemIdeal.nD Cert.OutMemIdeal.τ).loc Cert.OutMemIdeal.main_arg0) = m ((c.tc : Thread Cert.OutMemIdeal.nD Cert.OutMemIdeal.τ).loc Cert.OutMemIdeal.main_arg0)
          ∧ r.2.mem ((c.tc : Thread Cert.OutMemIdeal.nD Cert.OutMemIdeal.τ).loc Cert.OutMemIdeal.main_arg1) = m ((c.tc : Thread Cert.OutMemIdeal.nD Cert.OutMemIdeal.τ).loc Cert.OutMemIdeal.main_arg1)
          ∧ r.2.mem ((c.tc : Thread Cert.OutMemIdeal.nD Cert.OutMemIdeal.τ).loc Cert.OutMemIdeal.main_arg2) = m ((c.tc : Thread Cert.OutMemIdeal.nD Cert.OutMemIdeal.τ).loc Cert.OutMemIdeal.main_arg2))
      ∧ θ_run (Cert.OutMemReferenceIdeal.defs (F := Ideal)) (onTc (τ := Cert.OutMemReferenceIdeal.τ) (Cert.OutMemReferenceIdeal.main (F := Ideal))) ⟨m', fun _ => 0, g'⟩ (fun r => ∀ c : Dev Cert.OutMemReferenceIdeal.nD,
          r.2.mem ((c.tc : Thread Cert.OutMemReferenceIdeal.nD Cert.OutMemReferenceIdeal.τ).loc Cert.OutMemReferenceIdeal.main_v3) = v0 c
          ∧ r.2.mem ((c.tc : Thread Cert.OutMemReferenceIdeal.nD Cert.OutMemReferenceIdeal.τ).loc Cert.OutMemReferenceIdeal.main_arg0) = m' ((c.tc : Thread Cert.OutMemReferenceIdeal.nD Cert.OutMemReferenceIdeal.τ).loc Cert.OutMemReferenceIdeal.main_arg0)
          ∧ r.2.mem ((c.tc : Thread Cert.OutMemReferenceIdeal.nD Cert.OutMemReferenceIdeal.τ).loc Cert.OutMemReferenceIdeal.main_arg1) = m' ((c.tc : Thread Cert.OutMemReferenceIdeal.nD Cert.OutMemReferenceIdeal.τ).loc Cert.OutMemReferenceIdeal.main_arg1)
          ∧ r.2.mem ((c.tc : Thread Cert.OutMemReferenceIdeal.nD Cert.OutMemReferenceIdeal.τ).loc Cert.OutMemReferenceIdeal.main_arg2) = m' ((c.tc : Thread Cert.OutMemReferenceIdeal.nD Cert.OutMemReferenceIdeal.τ).loc Cert.OutMemReferenceIdeal.main_arg2))

def preserves_InWeight_InWeightIdeal : Prop :=
  True

def algebraic_InWeightIdeal_InWeightReferenceIdeal [hInWeightIdeal : Cert.InWeightIdeal.Facts] [hInWeightReferenceIdeal : Cert.InWeightReferenceIdeal.Facts] : Prop :=
  ∀ (m : (ℓ : Loc Cert.InWeightIdeal.nD Cert.InWeightIdeal.τ Cert.InWeightIdeal.sig) → Buf (Elt Ideal) ℓ) (g : Dev Cert.InWeightIdeal.nD → PrngReg)
    (m' : (ℓ : Loc Cert.InWeightReferenceIdeal.nD Cert.InWeightReferenceIdeal.τ Cert.InWeightReferenceIdeal.sig) → Buf (Elt Ideal) ℓ) (g' : Dev Cert.InWeightReferenceIdeal.nD → PrngReg), Pre_InWeightIdeal m →
    (∀ c : Dev Cert.InWeightIdeal.nD,
      m' ((c.tc : Thread Cert.InWeightReferenceIdeal.nD Cert.InWeightReferenceIdeal.τ).loc Cert.InWeightReferenceIdeal.main_arg0) = m ((c.tc : Thread Cert.InWeightIdeal.nD Cert.InWeightIdeal.τ).loc Cert.InWeightIdeal.main_arg0)
      ∧ m' ((c.tc : Thread Cert.InWeightReferenceIdeal.nD Cert.InWeightReferenceIdeal.τ).loc Cert.InWeightReferenceIdeal.main_arg1) = m ((c.tc : Thread Cert.InWeightIdeal.nD Cert.InWeightIdeal.τ).loc Cert.InWeightIdeal.main_arg1)) →
    ∃ (v0 : (c : Dev Cert.InWeightIdeal.nD) → Buf (Elt Ideal) ((c.tc : Thread Cert.InWeightIdeal.nD Cert.InWeightIdeal.τ).loc Cert.InWeightIdeal.main_v0)),
      θ_run (Cert.InWeightIdeal.defs (F := Ideal)) (onTc (τ := Cert.InWeightIdeal.τ) (Cert.InWeightIdeal.main (F := Ideal))) ⟨m, fun _ => 0, g⟩ (fun r => ∀ c : Dev Cert.InWeightIdeal.nD,
          r.2.mem ((c.tc : Thread Cert.InWeightIdeal.nD Cert.InWeightIdeal.τ).loc Cert.InWeightIdeal.main_v0) = v0 c
          ∧ r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
          ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1))
      ∧ θ_run (Cert.InWeightReferenceIdeal.defs (F := Ideal)) (onTc (τ := Cert.InWeightReferenceIdeal.τ) (Cert.InWeightReferenceIdeal.main (F := Ideal))) ⟨m', fun _ => 0, g'⟩ (fun r => ∀ c : Dev Cert.InWeightReferenceIdeal.nD,
          r.2.mem ((c.tc : Thread Cert.InWeightReferenceIdeal.nD Cert.InWeightReferenceIdeal.τ).loc Cert.InWeightReferenceIdeal.main_v6) = v0 c
          ∧ r.2.mem ((c.tc : Thread Cert.InWeightReferenceIdeal.nD Cert.InWeightReferenceIdeal.τ).loc Cert.InWeightReferenceIdeal.main_arg0) = m' ((c.tc : Thread Cert.InWeightReferenceIdeal.nD Cert.InWeightReferenceIdeal.τ).loc Cert.InWeightReferenceIdeal.main_arg0)
          ∧ r.2.mem ((c.tc : Thread Cert.InWeightReferenceIdeal.nD Cert.InWeightReferenceIdeal.τ).loc Cert.InWeightReferenceIdeal.main_arg1) = m' ((c.tc : Thread Cert.InWeightReferenceIdeal.nD Cert.InWeightReferenceIdeal.τ).loc Cert.InWeightReferenceIdeal.main_arg1))

def preserves_InMemWeight_InMemWeightIdeal : Prop :=
  True

def algebraic_InMemWeightIdeal_InMemWeightReferenceIdeal [hInMemWeightIdeal : Cert.InMemWeightIdeal.Facts] [hInMemWeightReferenceIdeal : Cert.InMemWeightReferenceIdeal.Facts] : Prop :=
  ∀ (m : (ℓ : Loc Cert.InMemWeightIdeal.nD Cert.InMemWeightIdeal.τ Cert.InMemWeightIdeal.sig) → Buf (Elt Ideal) ℓ) (g : Dev Cert.InMemWeightIdeal.nD → PrngReg)
    (m' : (ℓ : Loc Cert.InMemWeightReferenceIdeal.nD Cert.InMemWeightReferenceIdeal.τ Cert.InMemWeightReferenceIdeal.sig) → Buf (Elt Ideal) ℓ) (g' : Dev Cert.InMemWeightReferenceIdeal.nD → PrngReg), Pre_InMemWeightIdeal m →
    (∀ c : Dev Cert.InMemWeightIdeal.nD,
      m' ((c.tc : Thread Cert.InMemWeightReferenceIdeal.nD Cert.InMemWeightReferenceIdeal.τ).loc Cert.InMemWeightReferenceIdeal.main_arg0) = m ((c.tc : Thread Cert.InMemWeightIdeal.nD Cert.InMemWeightIdeal.τ).loc Cert.InMemWeightIdeal.main_arg0)
      ∧ m' ((c.tc : Thread Cert.InMemWeightReferenceIdeal.nD Cert.InMemWeightReferenceIdeal.τ).loc Cert.InMemWeightReferenceIdeal.main_arg1) = m ((c.tc : Thread Cert.InMemWeightIdeal.nD Cert.InMemWeightIdeal.τ).loc Cert.InMemWeightIdeal.main_arg1)) →
    ∃ (v0 : (c : Dev Cert.InMemWeightIdeal.nD) → Buf (Elt Ideal) ((c.tc : Thread Cert.InMemWeightIdeal.nD Cert.InMemWeightIdeal.τ).loc Cert.InMemWeightIdeal.main_v0)),
      θ_run (Cert.InMemWeightIdeal.defs (F := Ideal)) (onTc (τ := Cert.InMemWeightIdeal.τ) (Cert.InMemWeightIdeal.main (F := Ideal))) ⟨m, fun _ => 0, g⟩ (fun r => ∀ c : Dev Cert.InMemWeightIdeal.nD,
          r.2.mem ((c.tc : Thread Cert.InMemWeightIdeal.nD Cert.InMemWeightIdeal.τ).loc Cert.InMemWeightIdeal.main_v0) = v0 c
          ∧ r.2.mem ((c.tc : Thread Cert.InMemWeightIdeal.nD Cert.InMemWeightIdeal.τ).loc Cert.InMemWeightIdeal.main_arg0) = m ((c.tc : Thread Cert.InMemWeightIdeal.nD Cert.InMemWeightIdeal.τ).loc Cert.InMemWeightIdeal.main_arg0)
          ∧ r.2.mem ((c.tc : Thread Cert.InMemWeightIdeal.nD Cert.InMemWeightIdeal.τ).loc Cert.InMemWeightIdeal.main_arg1) = m ((c.tc : Thread Cert.InMemWeightIdeal.nD Cert.InMemWeightIdeal.τ).loc Cert.InMemWeightIdeal.main_arg1))
      ∧ θ_run (Cert.InMemWeightReferenceIdeal.defs (F := Ideal)) (onTc (τ := Cert.InMemWeightReferenceIdeal.τ) (Cert.InMemWeightReferenceIdeal.main (F := Ideal))) ⟨m', fun _ => 0, g'⟩ (fun r => ∀ c : Dev Cert.InMemWeightReferenceIdeal.nD,
          r.2.mem ((c.tc : Thread Cert.InMemWeightReferenceIdeal.nD Cert.InMemWeightReferenceIdeal.τ).loc Cert.InMemWeightReferenceIdeal.main_v6) = v0 c
          ∧ r.2.mem ((c.tc : Thread Cert.InMemWeightReferenceIdeal.nD Cert.InMemWeightReferenceIdeal.τ).loc Cert.InMemWeightReferenceIdeal.main_arg0) = m' ((c.tc : Thread Cert.InMemWeightReferenceIdeal.nD Cert.InMemWeightReferenceIdeal.τ).loc Cert.InMemWeightReferenceIdeal.main_arg0)
          ∧ r.2.mem ((c.tc : Thread Cert.InMemWeightReferenceIdeal.nD Cert.InMemWeightReferenceIdeal.τ).loc Cert.InMemWeightReferenceIdeal.main_arg1) = m' ((c.tc : Thread Cert.InMemWeightReferenceIdeal.nD Cert.InMemWeightReferenceIdeal.τ).loc Cert.InMemWeightReferenceIdeal.main_arg1))

def preserves_InInput_InInputIdeal : Prop :=
  True

def algebraic_InInputIdeal_InInputReferenceIdeal [hInInputIdeal : Cert.InInputIdeal.Facts] [hInInputReferenceIdeal : Cert.InInputReferenceIdeal.Facts] : Prop :=
  ∀ (m : (ℓ : Loc Cert.InInputIdeal.nD Cert.InInputIdeal.τ Cert.InInputIdeal.sig) → Buf (Elt Ideal) ℓ) (g : Dev Cert.InInputIdeal.nD → PrngReg)
    (m' : (ℓ : Loc Cert.InInputReferenceIdeal.nD Cert.InInputReferenceIdeal.τ Cert.InInputReferenceIdeal.sig) → Buf (Elt Ideal) ℓ) (g' : Dev Cert.InInputReferenceIdeal.nD → PrngReg), Pre_InInputIdeal m →
    (∀ c : Dev Cert.InInputIdeal.nD,
      m' ((c.tc : Thread Cert.InInputReferenceIdeal.nD Cert.InInputReferenceIdeal.τ).loc Cert.InInputReferenceIdeal.main_arg0) = m ((c.tc : Thread Cert.InInputIdeal.nD Cert.InInputIdeal.τ).loc Cert.InInputIdeal.main_arg0)
      ∧ m' ((c.tc : Thread Cert.InInputReferenceIdeal.nD Cert.InInputReferenceIdeal.τ).loc Cert.InInputReferenceIdeal.main_arg1) = m ((c.tc : Thread Cert.InInputIdeal.nD Cert.InInputIdeal.τ).loc Cert.InInputIdeal.main_arg1)) →
    ∃ (v0 : (c : Dev Cert.InInputIdeal.nD) → Buf (Elt Ideal) ((c.tc : Thread Cert.InInputIdeal.nD Cert.InInputIdeal.τ).loc Cert.InInputIdeal.main_v0)),
      θ_run (Cert.InInputIdeal.defs (F := Ideal)) (onTc (τ := Cert.InInputIdeal.τ) (Cert.InInputIdeal.main (F := Ideal))) ⟨m, fun _ => 0, g⟩ (fun r => ∀ c : Dev Cert.InInputIdeal.nD,
          r.2.mem ((c.tc : Thread Cert.InInputIdeal.nD Cert.InInputIdeal.τ).loc Cert.InInputIdeal.main_v0) = v0 c
          ∧ r.2.mem ((c.tc : Thread Cert.InInputIdeal.nD Cert.InInputIdeal.τ).loc Cert.InInputIdeal.main_arg0) = m ((c.tc : Thread Cert.InInputIdeal.nD Cert.InInputIdeal.τ).loc Cert.InInputIdeal.main_arg0)
          ∧ r.2.mem ((c.tc : Thread Cert.InInputIdeal.nD Cert.InInputIdeal.τ).loc Cert.InInputIdeal.main_arg1) = m ((c.tc : Thread Cert.InInputIdeal.nD Cert.InInputIdeal.τ).loc Cert.InInputIdeal.main_arg1))
      ∧ θ_run (Cert.InInputReferenceIdeal.defs (F := Ideal)) (onTc (τ := Cert.InInputReferenceIdeal.τ) (Cert.InInputReferenceIdeal.main (F := Ideal))) ⟨m', fun _ => 0, g'⟩ (fun r => ∀ c : Dev Cert.InInputReferenceIdeal.nD,
          r.2.mem ((c.tc : Thread Cert.InInputReferenceIdeal.nD Cert.InInputReferenceIdeal.τ).loc Cert.InInputReferenceIdeal.main_v4) = v0 c
          ∧ r.2.mem ((c.tc : Thread Cert.InInputReferenceIdeal.nD Cert.InInputReferenceIdeal.τ).loc Cert.InInputReferenceIdeal.main_arg0) = m' ((c.tc : Thread Cert.InInputReferenceIdeal.nD Cert.InInputReferenceIdeal.τ).loc Cert.InInputReferenceIdeal.main_arg0)
          ∧ r.2.mem ((c.tc : Thread Cert.InInputReferenceIdeal.nD Cert.InInputReferenceIdeal.τ).loc Cert.InInputReferenceIdeal.main_arg1) = m' ((c.tc : Thread Cert.InInputReferenceIdeal.nD Cert.InInputReferenceIdeal.τ).loc Cert.InInputReferenceIdeal.main_arg1))

def preserves_InInputAdd_InInputAddIdeal : Prop :=
  True

def algebraic_InInputAddIdeal_InInputAddReferenceIdeal [hInInputAddIdeal : Cert.InInputAddIdeal.Facts] [hInInputAddReferenceIdeal : Cert.InInputAddReferenceIdeal.Facts] : Prop :=
  ∀ (m : (ℓ : Loc Cert.InInputAddIdeal.nD Cert.InInputAddIdeal.τ Cert.InInputAddIdeal.sig) → Buf (Elt Ideal) ℓ) (g : Dev Cert.InInputAddIdeal.nD → PrngReg)
    (m' : (ℓ : Loc Cert.InInputAddReferenceIdeal.nD Cert.InInputAddReferenceIdeal.τ Cert.InInputAddReferenceIdeal.sig) → Buf (Elt Ideal) ℓ) (g' : Dev Cert.InInputAddReferenceIdeal.nD → PrngReg), Pre_InInputAddIdeal m →
    (∀ c : Dev Cert.InInputAddIdeal.nD,
      m' ((c.tc : Thread Cert.InInputAddReferenceIdeal.nD Cert.InInputAddReferenceIdeal.τ).loc Cert.InInputAddReferenceIdeal.main_arg0) = m ((c.tc : Thread Cert.InInputAddIdeal.nD Cert.InInputAddIdeal.τ).loc Cert.InInputAddIdeal.main_arg0)
      ∧ m' ((c.tc : Thread Cert.InInputAddReferenceIdeal.nD Cert.InInputAddReferenceIdeal.τ).loc Cert.InInputAddReferenceIdeal.main_arg1) = m ((c.tc : Thread Cert.InInputAddIdeal.nD Cert.InInputAddIdeal.τ).loc Cert.InInputAddIdeal.main_arg1)
      ∧ m' ((c.tc : Thread Cert.InInputAddReferenceIdeal.nD Cert.InInputAddReferenceIdeal.τ).loc Cert.InInputAddReferenceIdeal.main_arg2) = m ((c.tc : Thread Cert.InInputAddIdeal.nD Cert.InInputAddIdeal.τ).loc Cert.InInputAddIdeal.main_arg2)) →
    ∃ (v0 : (c : Dev Cert.InInputAddIdeal.nD) → Buf (Elt Ideal) ((c.tc : Thread Cert.InInputAddIdeal.nD Cert.InInputAddIdeal.τ).loc Cert.InInputAddIdeal.main_v0)),
      θ_run (Cert.InInputAddIdeal.defs (F := Ideal)) (onTc (τ := Cert.InInputAddIdeal.τ) (Cert.InInputAddIdeal.main (F := Ideal))) ⟨m, fun _ => 0, g⟩ (fun r => ∀ c : Dev Cert.InInputAddIdeal.nD,
          r.2.mem ((c.tc : Thread Cert.InInputAddIdeal.nD Cert.InInputAddIdeal.τ).loc Cert.InInputAddIdeal.main_v0) = v0 c
          ∧ r.2.mem ((c.tc : Thread Cert.InInputAddIdeal.nD Cert.InInputAddIdeal.τ).loc Cert.InInputAddIdeal.main_arg0) = m ((c.tc : Thread Cert.InInputAddIdeal.nD Cert.InInputAddIdeal.τ).loc Cert.InInputAddIdeal.main_arg0)
          ∧ r.2.mem ((c.tc : Thread Cert.InInputAddIdeal.nD Cert.InInputAddIdeal.τ).loc Cert.InInputAddIdeal.main_arg1) = m ((c.tc : Thread Cert.InInputAddIdeal.nD Cert.InInputAddIdeal.τ).loc Cert.InInputAddIdeal.main_arg1)
          ∧ r.2.mem ((c.tc : Thread Cert.InInputAddIdeal.nD Cert.InInputAddIdeal.τ).loc Cert.InInputAddIdeal.main_arg2) = m ((c.tc : Thread Cert.InInputAddIdeal.nD Cert.InInputAddIdeal.τ).loc Cert.InInputAddIdeal.main_arg2))
      ∧ θ_run (Cert.InInputAddReferenceIdeal.defs (F := Ideal)) (onTc (τ := Cert.InInputAddReferenceIdeal.τ) (Cert.InInputAddReferenceIdeal.main (F := Ideal))) ⟨m', fun _ => 0, g'⟩ (fun r => ∀ c : Dev Cert.InInputAddReferenceIdeal.nD,
          r.2.mem ((c.tc : Thread Cert.InInputAddReferenceIdeal.nD Cert.InInputAddReferenceIdeal.τ).loc Cert.InInputAddReferenceIdeal.main_v5) = v0 c
          ∧ r.2.mem ((c.tc : Thread Cert.InInputAddReferenceIdeal.nD Cert.InInputAddReferenceIdeal.τ).loc Cert.InInputAddReferenceIdeal.main_arg0) = m' ((c.tc : Thread Cert.InInputAddReferenceIdeal.nD Cert.InInputAddReferenceIdeal.τ).loc Cert.InInputAddReferenceIdeal.main_arg0)
          ∧ r.2.mem ((c.tc : Thread Cert.InInputAddReferenceIdeal.nD Cert.InInputAddReferenceIdeal.τ).loc Cert.InInputAddReferenceIdeal.main_arg1) = m' ((c.tc : Thread Cert.InInputAddReferenceIdeal.nD Cert.InInputAddReferenceIdeal.τ).loc Cert.InInputAddReferenceIdeal.main_arg1)
          ∧ r.2.mem ((c.tc : Thread Cert.InInputAddReferenceIdeal.nD Cert.InInputAddReferenceIdeal.τ).loc Cert.InInputAddReferenceIdeal.main_arg2) = m' ((c.tc : Thread Cert.InInputAddReferenceIdeal.nD Cert.InInputAddReferenceIdeal.τ).loc Cert.InInputAddReferenceIdeal.main_arg2))

def preserves_InMemInputAdd_InMemInputAddIdeal : Prop :=
  True

def algebraic_InMemInputAddIdeal_InMemInputAddReferenceIdeal [hInMemInputAddIdeal : Cert.InMemInputAddIdeal.Facts] [hInMemInputAddReferenceIdeal : Cert.InMemInputAddReferenceIdeal.Facts] : Prop :=
  ∀ (m : (ℓ : Loc Cert.InMemInputAddIdeal.nD Cert.InMemInputAddIdeal.τ Cert.InMemInputAddIdeal.sig) → Buf (Elt Ideal) ℓ) (g : Dev Cert.InMemInputAddIdeal.nD → PrngReg)
    (m' : (ℓ : Loc Cert.InMemInputAddReferenceIdeal.nD Cert.InMemInputAddReferenceIdeal.τ Cert.InMemInputAddReferenceIdeal.sig) → Buf (Elt Ideal) ℓ) (g' : Dev Cert.InMemInputAddReferenceIdeal.nD → PrngReg), Pre_InMemInputAddIdeal m →
    (∀ c : Dev Cert.InMemInputAddIdeal.nD,
      m' ((c.tc : Thread Cert.InMemInputAddReferenceIdeal.nD Cert.InMemInputAddReferenceIdeal.τ).loc Cert.InMemInputAddReferenceIdeal.main_arg0) = m ((c.tc : Thread Cert.InMemInputAddIdeal.nD Cert.InMemInputAddIdeal.τ).loc Cert.InMemInputAddIdeal.main_arg0)
      ∧ m' ((c.tc : Thread Cert.InMemInputAddReferenceIdeal.nD Cert.InMemInputAddReferenceIdeal.τ).loc Cert.InMemInputAddReferenceIdeal.main_arg1) = m ((c.tc : Thread Cert.InMemInputAddIdeal.nD Cert.InMemInputAddIdeal.τ).loc Cert.InMemInputAddIdeal.main_arg1)
      ∧ m' ((c.tc : Thread Cert.InMemInputAddReferenceIdeal.nD Cert.InMemInputAddReferenceIdeal.τ).loc Cert.InMemInputAddReferenceIdeal.main_arg2) = m ((c.tc : Thread Cert.InMemInputAddIdeal.nD Cert.InMemInputAddIdeal.τ).loc Cert.InMemInputAddIdeal.main_arg2)) →
    ∃ (v0 : (c : Dev Cert.InMemInputAddIdeal.nD) → Buf (Elt Ideal) ((c.tc : Thread Cert.InMemInputAddIdeal.nD Cert.InMemInputAddIdeal.τ).loc Cert.InMemInputAddIdeal.main_v0)),
      θ_run (Cert.InMemInputAddIdeal.defs (F := Ideal)) (onTc (τ := Cert.InMemInputAddIdeal.τ) (Cert.InMemInputAddIdeal.main (F := Ideal))) ⟨m, fun _ => 0, g⟩ (fun r => ∀ c : Dev Cert.InMemInputAddIdeal.nD,
          r.2.mem ((c.tc : Thread Cert.InMemInputAddIdeal.nD Cert.InMemInputAddIdeal.τ).loc Cert.InMemInputAddIdeal.main_v0) = v0 c
          ∧ r.2.mem ((c.tc : Thread Cert.InMemInputAddIdeal.nD Cert.InMemInputAddIdeal.τ).loc Cert.InMemInputAddIdeal.main_arg0) = m ((c.tc : Thread Cert.InMemInputAddIdeal.nD Cert.InMemInputAddIdeal.τ).loc Cert.InMemInputAddIdeal.main_arg0)
          ∧ r.2.mem ((c.tc : Thread Cert.InMemInputAddIdeal.nD Cert.InMemInputAddIdeal.τ).loc Cert.InMemInputAddIdeal.main_arg1) = m ((c.tc : Thread Cert.InMemInputAddIdeal.nD Cert.InMemInputAddIdeal.τ).loc Cert.InMemInputAddIdeal.main_arg1)
          ∧ r.2.mem ((c.tc : Thread Cert.InMemInputAddIdeal.nD Cert.InMemInputAddIdeal.τ).loc Cert.InMemInputAddIdeal.main_arg2) = m ((c.tc : Thread Cert.InMemInputAddIdeal.nD Cert.InMemInputAddIdeal.τ).loc Cert.InMemInputAddIdeal.main_arg2))
      ∧ θ_run (Cert.InMemInputAddReferenceIdeal.defs (F := Ideal)) (onTc (τ := Cert.InMemInputAddReferenceIdeal.τ) (Cert.InMemInputAddReferenceIdeal.main (F := Ideal))) ⟨m', fun _ => 0, g'⟩ (fun r => ∀ c : Dev Cert.InMemInputAddReferenceIdeal.nD,
          r.2.mem ((c.tc : Thread Cert.InMemInputAddReferenceIdeal.nD Cert.InMemInputAddReferenceIdeal.τ).loc Cert.InMemInputAddReferenceIdeal.main_v5) = v0 c
          ∧ r.2.mem ((c.tc : Thread Cert.InMemInputAddReferenceIdeal.nD Cert.InMemInputAddReferenceIdeal.τ).loc Cert.InMemInputAddReferenceIdeal.main_arg0) = m' ((c.tc : Thread Cert.InMemInputAddReferenceIdeal.nD Cert.InMemInputAddReferenceIdeal.τ).loc Cert.InMemInputAddReferenceIdeal.main_arg0)
          ∧ r.2.mem ((c.tc : Thread Cert.InMemInputAddReferenceIdeal.nD Cert.InMemInputAddReferenceIdeal.τ).loc Cert.InMemInputAddReferenceIdeal.main_arg1) = m' ((c.tc : Thread Cert.InMemInputAddReferenceIdeal.nD Cert.InMemInputAddReferenceIdeal.τ).loc Cert.InMemInputAddReferenceIdeal.main_arg1)
          ∧ r.2.mem ((c.tc : Thread Cert.InMemInputAddReferenceIdeal.nD Cert.InMemInputAddReferenceIdeal.τ).loc Cert.InMemInputAddReferenceIdeal.main_arg2) = m' ((c.tc : Thread Cert.InMemInputAddReferenceIdeal.nD Cert.InMemInputAddReferenceIdeal.τ).loc Cert.InMemInputAddReferenceIdeal.main_arg2))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v2) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_InMem_InMemIdeal : Prop :=
  True

def algebraic_InMemIdeal_InMemReferenceIdeal [hInMemIdeal : Cert.InMemIdeal.Facts] [hInMemReferenceIdeal : Cert.InMemReferenceIdeal.Facts] : Prop :=
  ∀ (m : (ℓ : Loc Cert.InMemIdeal.nD Cert.InMemIdeal.τ Cert.InMemIdeal.sig) → Buf (Elt Ideal) ℓ) (g : Dev Cert.InMemIdeal.nD → PrngReg)
    (m' : (ℓ : Loc Cert.InMemReferenceIdeal.nD Cert.InMemReferenceIdeal.τ Cert.InMemReferenceIdeal.sig) → Buf (Elt Ideal) ℓ) (g' : Dev Cert.InMemReferenceIdeal.nD → PrngReg), Pre_InMemIdeal m →
    (∀ c : Dev Cert.InMemIdeal.nD,
      m' ((c.tc : Thread Cert.InMemReferenceIdeal.nD Cert.InMemReferenceIdeal.τ).loc Cert.InMemReferenceIdeal.main_arg0) = m ((c.tc : Thread Cert.InMemIdeal.nD Cert.InMemIdeal.τ).loc Cert.InMemIdeal.main_arg0)
      ∧ m' ((c.tc : Thread Cert.InMemReferenceIdeal.nD Cert.InMemReferenceIdeal.τ).loc Cert.InMemReferenceIdeal.main_arg1) = m ((c.tc : Thread Cert.InMemIdeal.nD Cert.InMemIdeal.τ).loc Cert.InMemIdeal.main_arg1)) →
    ∃ (v0 : (c : Dev Cert.InMemIdeal.nD) → Buf (Elt Ideal) ((c.tc : Thread Cert.InMemIdeal.nD Cert.InMemIdeal.τ).loc Cert.InMemIdeal.main_v0)),
      θ_run (Cert.InMemIdeal.defs (F := Ideal)) (onTc (τ := Cert.InMemIdeal.τ) (Cert.InMemIdeal.main (F := Ideal))) ⟨m, fun _ => 0, g⟩ (fun r => ∀ c : Dev Cert.InMemIdeal.nD,
          r.2.mem ((c.tc : Thread Cert.InMemIdeal.nD Cert.InMemIdeal.τ).loc Cert.InMemIdeal.main_v0) = v0 c
          ∧ r.2.mem ((c.tc : Thread Cert.InMemIdeal.nD Cert.InMemIdeal.τ).loc Cert.InMemIdeal.main_arg0) = m ((c.tc : Thread Cert.InMemIdeal.nD Cert.InMemIdeal.τ).loc Cert.InMemIdeal.main_arg0)
          ∧ r.2.mem ((c.tc : Thread Cert.InMemIdeal.nD Cert.InMemIdeal.τ).loc Cert.InMemIdeal.main_arg1) = m ((c.tc : Thread Cert.InMemIdeal.nD Cert.InMemIdeal.τ).loc Cert.InMemIdeal.main_arg1))
      ∧ θ_run (Cert.InMemReferenceIdeal.defs (F := Ideal)) (onTc (τ := Cert.InMemReferenceIdeal.τ) (Cert.InMemReferenceIdeal.main (F := Ideal))) ⟨m', fun _ => 0, g'⟩ (fun r => ∀ c : Dev Cert.InMemReferenceIdeal.nD,
          r.2.mem ((c.tc : Thread Cert.InMemReferenceIdeal.nD Cert.InMemReferenceIdeal.τ).loc Cert.InMemReferenceIdeal.main_v2) = v0 c
          ∧ r.2.mem ((c.tc : Thread Cert.InMemReferenceIdeal.nD Cert.InMemReferenceIdeal.τ).loc Cert.InMemReferenceIdeal.main_arg0) = m' ((c.tc : Thread Cert.InMemReferenceIdeal.nD Cert.InMemReferenceIdeal.τ).loc Cert.InMemReferenceIdeal.main_arg0)
          ∧ r.2.mem ((c.tc : Thread Cert.InMemReferenceIdeal.nD Cert.InMemReferenceIdeal.τ).loc Cert.InMemReferenceIdeal.main_arg1) = m' ((c.tc : Thread Cert.InMemReferenceIdeal.nD Cert.InMemReferenceIdeal.τ).loc Cert.InMemReferenceIdeal.main_arg1))

def preserves_QkvWeight_QkvWeightIdeal : Prop :=
  True

def algebraic_QkvWeightIdeal_QkvWeightReferenceIdeal [hQkvWeightIdeal : Cert.QkvWeightIdeal.Facts] [hQkvWeightReferenceIdeal : Cert.QkvWeightReferenceIdeal.Facts] : Prop :=
  ∀ (m : (ℓ : Loc Cert.QkvWeightIdeal.nD Cert.QkvWeightIdeal.τ Cert.QkvWeightIdeal.sig) → Buf (Elt Ideal) ℓ) (g : Dev Cert.QkvWeightIdeal.nD → PrngReg)
    (m' : (ℓ : Loc Cert.QkvWeightReferenceIdeal.nD Cert.QkvWeightReferenceIdeal.τ Cert.QkvWeightReferenceIdeal.sig) → Buf (Elt Ideal) ℓ) (g' : Dev Cert.QkvWeightReferenceIdeal.nD → PrngReg), Pre_QkvWeightIdeal m →
    (∀ c : Dev Cert.QkvWeightIdeal.nD,
      m' ((c.tc : Thread Cert.QkvWeightReferenceIdeal.nD Cert.QkvWeightReferenceIdeal.τ).loc Cert.QkvWeightReferenceIdeal.main_arg0) = m ((c.tc : Thread Cert.QkvWeightIdeal.nD Cert.QkvWeightIdeal.τ).loc Cert.QkvWeightIdeal.main_arg0)
      ∧ m' ((c.tc : Thread Cert.QkvWeightReferenceIdeal.nD Cert.QkvWeightReferenceIdeal.τ).loc Cert.QkvWeightReferenceIdeal.main_arg1) = m ((c.tc : Thread Cert.QkvWeightIdeal.nD Cert.QkvWeightIdeal.τ).loc Cert.QkvWeightIdeal.main_arg1)) →
    ∃ (v0 : (c : Dev Cert.QkvWeightIdeal.nD) → Buf (Elt Ideal) ((c.tc : Thread Cert.QkvWeightIdeal.nD Cert.QkvWeightIdeal.τ).loc Cert.QkvWeightIdeal.main_v0)),
      θ_run (Cert.QkvWeightIdeal.defs (F := Ideal)) (onTc (τ := Cert.QkvWeightIdeal.τ) (Cert.QkvWeightIdeal.main (F := Ideal))) ⟨m, fun _ => 0, g⟩ (fun r => ∀ c : Dev Cert.QkvWeightIdeal.nD,
          r.2.mem ((c.tc : Thread Cert.QkvWeightIdeal.nD Cert.QkvWeightIdeal.τ).loc Cert.QkvWeightIdeal.main_v0) = v0 c
          ∧ r.2.mem ((c.tc : Thread Cert.QkvWeightIdeal.nD Cert.QkvWeightIdeal.τ).loc Cert.QkvWeightIdeal.main_arg0) = m ((c.tc : Thread Cert.QkvWeightIdeal.nD Cert.QkvWeightIdeal.τ).loc Cert.QkvWeightIdeal.main_arg0)
          ∧ r.2.mem ((c.tc : Thread Cert.QkvWeightIdeal.nD Cert.QkvWeightIdeal.τ).loc Cert.QkvWeightIdeal.main_arg1) = m ((c.tc : Thread Cert.QkvWeightIdeal.nD Cert.QkvWeightIdeal.τ).loc Cert.QkvWeightIdeal.main_arg1))
      ∧ θ_run (Cert.QkvWeightReferenceIdeal.defs (F := Ideal)) (onTc (τ := Cert.QkvWeightReferenceIdeal.τ) (Cert.QkvWeightReferenceIdeal.main (F := Ideal))) ⟨m', fun _ => 0, g'⟩ (fun r => ∀ c : Dev Cert.QkvWeightReferenceIdeal.nD,
          r.2.mem ((c.tc : Thread Cert.QkvWeightReferenceIdeal.nD Cert.QkvWeightReferenceIdeal.τ).loc Cert.QkvWeightReferenceIdeal.main_v5) = v0 c
          ∧ r.2.mem ((c.tc : Thread Cert.QkvWeightReferenceIdeal.nD Cert.QkvWeightReferenceIdeal.τ).loc Cert.QkvWeightReferenceIdeal.main_arg0) = m' ((c.tc : Thread Cert.QkvWeightReferenceIdeal.nD Cert.QkvWeightReferenceIdeal.τ).loc Cert.QkvWeightReferenceIdeal.main_arg0)
          ∧ r.2.mem ((c.tc : Thread Cert.QkvWeightReferenceIdeal.nD Cert.QkvWeightReferenceIdeal.τ).loc Cert.QkvWeightReferenceIdeal.main_arg1) = m' ((c.tc : Thread Cert.QkvWeightReferenceIdeal.nD Cert.QkvWeightReferenceIdeal.τ).loc Cert.QkvWeightReferenceIdeal.main_arg1))

def preserves_QkvInput_QkvInputIdeal : Prop :=
  True

def algebraic_QkvInputIdeal_QkvInputReferenceIdeal [hQkvInputIdeal : Cert.QkvInputIdeal.Facts] [hQkvInputReferenceIdeal : Cert.QkvInputReferenceIdeal.Facts] : Prop :=
  ∀ (m : (ℓ : Loc Cert.QkvInputIdeal.nD Cert.QkvInputIdeal.τ Cert.QkvInputIdeal.sig) → Buf (Elt Ideal) ℓ) (g : Dev Cert.QkvInputIdeal.nD → PrngReg)
    (m' : (ℓ : Loc Cert.QkvInputReferenceIdeal.nD Cert.QkvInputReferenceIdeal.τ Cert.QkvInputReferenceIdeal.sig) → Buf (Elt Ideal) ℓ) (g' : Dev Cert.QkvInputReferenceIdeal.nD → PrngReg), Pre_QkvInputIdeal m →
    (∀ c : Dev Cert.QkvInputIdeal.nD,
      m' ((c.tc : Thread Cert.QkvInputReferenceIdeal.nD Cert.QkvInputReferenceIdeal.τ).loc Cert.QkvInputReferenceIdeal.main_arg0) = m ((c.tc : Thread Cert.QkvInputIdeal.nD Cert.QkvInputIdeal.τ).loc Cert.QkvInputIdeal.main_arg0)
      ∧ m' ((c.tc : Thread Cert.QkvInputReferenceIdeal.nD Cert.QkvInputReferenceIdeal.τ).loc Cert.QkvInputReferenceIdeal.main_arg1) = m ((c.tc : Thread Cert.QkvInputIdeal.nD Cert.QkvInputIdeal.τ).loc Cert.QkvInputIdeal.main_arg1)) →
    ∃ (v0 : (c : Dev Cert.QkvInputIdeal.nD) → Buf (Elt Ideal) ((c.tc : Thread Cert.QkvInputIdeal.nD Cert.QkvInputIdeal.τ).loc Cert.QkvInputIdeal.main_v0)),
      θ_run (Cert.QkvInputIdeal.defs (F := Ideal)) (onTc (τ := Cert.QkvInputIdeal.τ) (Cert.QkvInputIdeal.main (F := Ideal))) ⟨m, fun _ => 0, g⟩ (fun r => ∀ c : Dev Cert.QkvInputIdeal.nD,
          r.2.mem ((c.tc : Thread Cert.QkvInputIdeal.nD Cert.QkvInputIdeal.τ).loc Cert.QkvInputIdeal.main_v0) = v0 c
          ∧ r.2.mem ((c.tc : Thread Cert.QkvInputIdeal.nD Cert.QkvInputIdeal.τ).loc Cert.QkvInputIdeal.main_arg0) = m ((c.tc : Thread Cert.QkvInputIdeal.nD Cert.QkvInputIdeal.τ).loc Cert.QkvInputIdeal.main_arg0)
          ∧ r.2.mem ((c.tc : Thread Cert.QkvInputIdeal.nD Cert.QkvInputIdeal.τ).loc Cert.QkvInputIdeal.main_arg1) = m ((c.tc : Thread Cert.QkvInputIdeal.nD Cert.QkvInputIdeal.τ).loc Cert.QkvInputIdeal.main_arg1))
      ∧ θ_run (Cert.QkvInputReferenceIdeal.defs (F := Ideal)) (onTc (τ := Cert.QkvInputReferenceIdeal.τ) (Cert.QkvInputReferenceIdeal.main (F := Ideal))) ⟨m', fun _ => 0, g'⟩ (fun r => ∀ c : Dev Cert.QkvInputReferenceIdeal.nD,
          r.2.mem ((c.tc : Thread Cert.QkvInputReferenceIdeal.nD Cert.QkvInputReferenceIdeal.τ).loc Cert.QkvInputReferenceIdeal.main_v3) = v0 c
          ∧ r.2.mem ((c.tc : Thread Cert.QkvInputReferenceIdeal.nD Cert.QkvInputReferenceIdeal.τ).loc Cert.QkvInputReferenceIdeal.main_arg0) = m' ((c.tc : Thread Cert.QkvInputReferenceIdeal.nD Cert.QkvInputReferenceIdeal.τ).loc Cert.QkvInputReferenceIdeal.main_arg0)
          ∧ r.2.mem ((c.tc : Thread Cert.QkvInputReferenceIdeal.nD Cert.QkvInputReferenceIdeal.τ).loc Cert.QkvInputReferenceIdeal.main_arg1) = m' ((c.tc : Thread Cert.QkvInputReferenceIdeal.nD Cert.QkvInputReferenceIdeal.τ).loc Cert.QkvInputReferenceIdeal.main_arg1))

def preserves_QkvInputAdd_QkvInputAddIdeal : Prop :=
  True

def algebraic_QkvInputAddIdeal_QkvInputAddReferenceIdeal [hQkvInputAddIdeal : Cert.QkvInputAddIdeal.Facts] [hQkvInputAddReferenceIdeal : Cert.QkvInputAddReferenceIdeal.Facts] : Prop :=
  ∀ (m : (ℓ : Loc Cert.QkvInputAddIdeal.nD Cert.QkvInputAddIdeal.τ Cert.QkvInputAddIdeal.sig) → Buf (Elt Ideal) ℓ) (g : Dev Cert.QkvInputAddIdeal.nD → PrngReg)
    (m' : (ℓ : Loc Cert.QkvInputAddReferenceIdeal.nD Cert.QkvInputAddReferenceIdeal.τ Cert.QkvInputAddReferenceIdeal.sig) → Buf (Elt Ideal) ℓ) (g' : Dev Cert.QkvInputAddReferenceIdeal.nD → PrngReg), Pre_QkvInputAddIdeal m →
    (∀ c : Dev Cert.QkvInputAddIdeal.nD,
      m' ((c.tc : Thread Cert.QkvInputAddReferenceIdeal.nD Cert.QkvInputAddReferenceIdeal.τ).loc Cert.QkvInputAddReferenceIdeal.main_arg0) = m ((c.tc : Thread Cert.QkvInputAddIdeal.nD Cert.QkvInputAddIdeal.τ).loc Cert.QkvInputAddIdeal.main_arg0)
      ∧ m' ((c.tc : Thread Cert.QkvInputAddReferenceIdeal.nD Cert.QkvInputAddReferenceIdeal.τ).loc Cert.QkvInputAddReferenceIdeal.main_arg1) = m ((c.tc : Thread Cert.QkvInputAddIdeal.nD Cert.QkvInputAddIdeal.τ).loc Cert.QkvInputAddIdeal.main_arg1)
      ∧ m' ((c.tc : Thread Cert.QkvInputAddReferenceIdeal.nD Cert.QkvInputAddReferenceIdeal.τ).loc Cert.QkvInputAddReferenceIdeal.main_arg2) = m ((c.tc : Thread Cert.QkvInputAddIdeal.nD Cert.QkvInputAddIdeal.τ).loc Cert.QkvInputAddIdeal.main_arg2)) →
    ∃ (v0 : (c : Dev Cert.QkvInputAddIdeal.nD) → Buf (Elt Ideal) ((c.tc : Thread Cert.QkvInputAddIdeal.nD Cert.QkvInputAddIdeal.τ).loc Cert.QkvInputAddIdeal.main_v0)),
      θ_run (Cert.QkvInputAddIdeal.defs (F := Ideal)) (onTc (τ := Cert.QkvInputAddIdeal.τ) (Cert.QkvInputAddIdeal.main (F := Ideal))) ⟨m, fun _ => 0, g⟩ (fun r => ∀ c : Dev Cert.QkvInputAddIdeal.nD,
          r.2.mem ((c.tc : Thread Cert.QkvInputAddIdeal.nD Cert.QkvInputAddIdeal.τ).loc Cert.QkvInputAddIdeal.main_v0) = v0 c
          ∧ r.2.mem ((c.tc : Thread Cert.QkvInputAddIdeal.nD Cert.QkvInputAddIdeal.τ).loc Cert.QkvInputAddIdeal.main_arg0) = m ((c.tc : Thread Cert.QkvInputAddIdeal.nD Cert.QkvInputAddIdeal.τ).loc Cert.QkvInputAddIdeal.main_arg0)
          ∧ r.2.mem ((c.tc : Thread Cert.QkvInputAddIdeal.nD Cert.QkvInputAddIdeal.τ).loc Cert.QkvInputAddIdeal.main_arg1) = m ((c.tc : Thread Cert.QkvInputAddIdeal.nD Cert.QkvInputAddIdeal.τ).loc Cert.QkvInputAddIdeal.main_arg1)
          ∧ r.2.mem ((c.tc : Thread Cert.QkvInputAddIdeal.nD Cert.QkvInputAddIdeal.τ).loc Cert.QkvInputAddIdeal.main_arg2) = m ((c.tc : Thread Cert.QkvInputAddIdeal.nD Cert.QkvInputAddIdeal.τ).loc Cert.QkvInputAddIdeal.main_arg2))
      ∧ θ_run (Cert.QkvInputAddReferenceIdeal.defs (F := Ideal)) (onTc (τ := Cert.QkvInputAddReferenceIdeal.τ) (Cert.QkvInputAddReferenceIdeal.main (F := Ideal))) ⟨m', fun _ => 0, g'⟩ (fun r => ∀ c : Dev Cert.QkvInputAddReferenceIdeal.nD,
          r.2.mem ((c.tc : Thread Cert.QkvInputAddReferenceIdeal.nD Cert.QkvInputAddReferenceIdeal.τ).loc Cert.QkvInputAddReferenceIdeal.main_v4) = v0 c
          ∧ r.2.mem ((c.tc : Thread Cert.QkvInputAddReferenceIdeal.nD Cert.QkvInputAddReferenceIdeal.τ).loc Cert.QkvInputAddReferenceIdeal.main_arg0) = m' ((c.tc : Thread Cert.QkvInputAddReferenceIdeal.nD Cert.QkvInputAddReferenceIdeal.τ).loc Cert.QkvInputAddReferenceIdeal.main_arg0)
          ∧ r.2.mem ((c.tc : Thread Cert.QkvInputAddReferenceIdeal.nD Cert.QkvInputAddReferenceIdeal.τ).loc Cert.QkvInputAddReferenceIdeal.main_arg1) = m' ((c.tc : Thread Cert.QkvInputAddReferenceIdeal.nD Cert.QkvInputAddReferenceIdeal.τ).loc Cert.QkvInputAddReferenceIdeal.main_arg1)
          ∧ r.2.mem ((c.tc : Thread Cert.QkvInputAddReferenceIdeal.nD Cert.QkvInputAddReferenceIdeal.τ).loc Cert.QkvInputAddReferenceIdeal.main_arg2) = m' ((c.tc : Thread Cert.QkvInputAddReferenceIdeal.nD Cert.QkvInputAddReferenceIdeal.τ).loc Cert.QkvInputAddReferenceIdeal.main_arg2))

def preserves_GateWeight_GateWeightIdeal : Prop :=
  True

def algebraic_GateWeightIdeal_GateWeightReferenceIdeal [hGateWeightIdeal : Cert.GateWeightIdeal.Facts] [hGateWeightReferenceIdeal : Cert.GateWeightReferenceIdeal.Facts] : Prop :=
  ∀ (m : (ℓ : Loc Cert.GateWeightIdeal.nD Cert.GateWeightIdeal.τ Cert.GateWeightIdeal.sig) → Buf (Elt Ideal) ℓ) (g : Dev Cert.GateWeightIdeal.nD → PrngReg)
    (m' : (ℓ : Loc Cert.GateWeightReferenceIdeal.nD Cert.GateWeightReferenceIdeal.τ Cert.GateWeightReferenceIdeal.sig) → Buf (Elt Ideal) ℓ) (g' : Dev Cert.GateWeightReferenceIdeal.nD → PrngReg), Pre_GateWeightIdeal m →
    (∀ c : Dev Cert.GateWeightIdeal.nD,
      m' ((c.tc : Thread Cert.GateWeightReferenceIdeal.nD Cert.GateWeightReferenceIdeal.τ).loc Cert.GateWeightReferenceIdeal.main_arg0) = m ((c.tc : Thread Cert.GateWeightIdeal.nD Cert.GateWeightIdeal.τ).loc Cert.GateWeightIdeal.main_arg0)
      ∧ m' ((c.tc : Thread Cert.GateWeightReferenceIdeal.nD Cert.GateWeightReferenceIdeal.τ).loc Cert.GateWeightReferenceIdeal.main_arg1) = m ((c.tc : Thread Cert.GateWeightIdeal.nD Cert.GateWeightIdeal.τ).loc Cert.GateWeightIdeal.main_arg1)) →
    ∃ (v0 : (c : Dev Cert.GateWeightIdeal.nD) → Buf (Elt Ideal) ((c.tc : Thread Cert.GateWeightIdeal.nD Cert.GateWeightIdeal.τ).loc Cert.GateWeightIdeal.main_v0)),
      θ_run (Cert.GateWeightIdeal.defs (F := Ideal)) (onTc (τ := Cert.GateWeightIdeal.τ) (Cert.GateWeightIdeal.main (F := Ideal))) ⟨m, fun _ => 0, g⟩ (fun r => ∀ c : Dev Cert.GateWeightIdeal.nD,
          r.2.mem ((c.tc : Thread Cert.GateWeightIdeal.nD Cert.GateWeightIdeal.τ).loc Cert.GateWeightIdeal.main_v0) = v0 c
          ∧ r.2.mem ((c.tc : Thread Cert.GateWeightIdeal.nD Cert.GateWeightIdeal.τ).loc Cert.GateWeightIdeal.main_arg0) = m ((c.tc : Thread Cert.GateWeightIdeal.nD Cert.GateWeightIdeal.τ).loc Cert.GateWeightIdeal.main_arg0)
          ∧ r.2.mem ((c.tc : Thread Cert.GateWeightIdeal.nD Cert.GateWeightIdeal.τ).loc Cert.GateWeightIdeal.main_arg1) = m ((c.tc : Thread Cert.GateWeightIdeal.nD Cert.GateWeightIdeal.τ).loc Cert.GateWeightIdeal.main_arg1))
      ∧ θ_run (Cert.GateWeightReferenceIdeal.defs (F := Ideal)) (onTc (τ := Cert.GateWeightReferenceIdeal.τ) (Cert.GateWeightReferenceIdeal.main (F := Ideal))) ⟨m', fun _ => 0, g'⟩ (fun r => ∀ c : Dev Cert.GateWeightReferenceIdeal.nD,
          r.2.mem ((c.tc : Thread Cert.GateWeightReferenceIdeal.nD Cert.GateWeightReferenceIdeal.τ).loc Cert.GateWeightReferenceIdeal.main_v5) = v0 c
          ∧ r.2.mem ((c.tc : Thread Cert.GateWeightReferenceIdeal.nD Cert.GateWeightReferenceIdeal.τ).loc Cert.GateWeightReferenceIdeal.main_arg0) = m' ((c.tc : Thread Cert.GateWeightReferenceIdeal.nD Cert.GateWeightReferenceIdeal.τ).loc Cert.GateWeightReferenceIdeal.main_arg0)
          ∧ r.2.mem ((c.tc : Thread Cert.GateWeightReferenceIdeal.nD Cert.GateWeightReferenceIdeal.τ).loc Cert.GateWeightReferenceIdeal.main_arg1) = m' ((c.tc : Thread Cert.GateWeightReferenceIdeal.nD Cert.GateWeightReferenceIdeal.τ).loc Cert.GateWeightReferenceIdeal.main_arg1))

def preserves_GateInputAdd_GateInputAddIdeal : Prop :=
  True

def algebraic_GateInputAddIdeal_GateInputAddReferenceIdeal [hGateInputAddIdeal : Cert.GateInputAddIdeal.Facts] [hGateInputAddReferenceIdeal : Cert.GateInputAddReferenceIdeal.Facts] : Prop :=
  ∀ (m : (ℓ : Loc Cert.GateInputAddIdeal.nD Cert.GateInputAddIdeal.τ Cert.GateInputAddIdeal.sig) → Buf (Elt Ideal) ℓ) (g : Dev Cert.GateInputAddIdeal.nD → PrngReg)
    (m' : (ℓ : Loc Cert.GateInputAddReferenceIdeal.nD Cert.GateInputAddReferenceIdeal.τ Cert.GateInputAddReferenceIdeal.sig) → Buf (Elt Ideal) ℓ) (g' : Dev Cert.GateInputAddReferenceIdeal.nD → PrngReg), Pre_GateInputAddIdeal m →
    (∀ c : Dev Cert.GateInputAddIdeal.nD,
      m' ((c.tc : Thread Cert.GateInputAddReferenceIdeal.nD Cert.GateInputAddReferenceIdeal.τ).loc Cert.GateInputAddReferenceIdeal.main_arg0) = m ((c.tc : Thread Cert.GateInputAddIdeal.nD Cert.GateInputAddIdeal.τ).loc Cert.GateInputAddIdeal.main_arg0)
      ∧ m' ((c.tc : Thread Cert.GateInputAddReferenceIdeal.nD Cert.GateInputAddReferenceIdeal.τ).loc Cert.GateInputAddReferenceIdeal.main_arg1) = m ((c.tc : Thread Cert.GateInputAddIdeal.nD Cert.GateInputAddIdeal.τ).loc Cert.GateInputAddIdeal.main_arg1)
      ∧ m' ((c.tc : Thread Cert.GateInputAddReferenceIdeal.nD Cert.GateInputAddReferenceIdeal.τ).loc Cert.GateInputAddReferenceIdeal.main_arg2) = m ((c.tc : Thread Cert.GateInputAddIdeal.nD Cert.GateInputAddIdeal.τ).loc Cert.GateInputAddIdeal.main_arg2)) →
    ∃ (v0 : (c : Dev Cert.GateInputAddIdeal.nD) → Buf (Elt Ideal) ((c.tc : Thread Cert.GateInputAddIdeal.nD Cert.GateInputAddIdeal.τ).loc Cert.GateInputAddIdeal.main_v0)),
      θ_run (Cert.GateInputAddIdeal.defs (F := Ideal)) (onTc (τ := Cert.GateInputAddIdeal.τ) (Cert.GateInputAddIdeal.main (F := Ideal))) ⟨m, fun _ => 0, g⟩ (fun r => ∀ c : Dev Cert.GateInputAddIdeal.nD,
          r.2.mem ((c.tc : Thread Cert.GateInputAddIdeal.nD Cert.GateInputAddIdeal.τ).loc Cert.GateInputAddIdeal.main_v0) = v0 c
          ∧ r.2.mem ((c.tc : Thread Cert.GateInputAddIdeal.nD Cert.GateInputAddIdeal.τ).loc Cert.GateInputAddIdeal.main_arg0) = m ((c.tc : Thread Cert.GateInputAddIdeal.nD Cert.GateInputAddIdeal.τ).loc Cert.GateInputAddIdeal.main_arg0)
          ∧ r.2.mem ((c.tc : Thread Cert.GateInputAddIdeal.nD Cert.GateInputAddIdeal.τ).loc Cert.GateInputAddIdeal.main_arg1) = m ((c.tc : Thread Cert.GateInputAddIdeal.nD Cert.GateInputAddIdeal.τ).loc Cert.GateInputAddIdeal.main_arg1)
          ∧ r.2.mem ((c.tc : Thread Cert.GateInputAddIdeal.nD Cert.GateInputAddIdeal.τ).loc Cert.GateInputAddIdeal.main_arg2) = m ((c.tc : Thread Cert.GateInputAddIdeal.nD Cert.GateInputAddIdeal.τ).loc Cert.GateInputAddIdeal.main_arg2))
      ∧ θ_run (Cert.GateInputAddReferenceIdeal.defs (F := Ideal)) (onTc (τ := Cert.GateInputAddReferenceIdeal.τ) (Cert.GateInputAddReferenceIdeal.main (F := Ideal))) ⟨m', fun _ => 0, g'⟩ (fun r => ∀ c : Dev Cert.GateInputAddReferenceIdeal.nD,
          r.2.mem ((c.tc : Thread Cert.GateInputAddReferenceIdeal.nD Cert.GateInputAddReferenceIdeal.τ).loc Cert.GateInputAddReferenceIdeal.main_v4) = v0 c
          ∧ r.2.mem ((c.tc : Thread Cert.GateInputAddReferenceIdeal.nD Cert.GateInputAddReferenceIdeal.τ).loc Cert.GateInputAddReferenceIdeal.main_arg0) = m' ((c.tc : Thread Cert.GateInputAddReferenceIdeal.nD Cert.GateInputAddReferenceIdeal.τ).loc Cert.GateInputAddReferenceIdeal.main_arg0)
          ∧ r.2.mem ((c.tc : Thread Cert.GateInputAddReferenceIdeal.nD Cert.GateInputAddReferenceIdeal.τ).loc Cert.GateInputAddReferenceIdeal.main_arg1) = m' ((c.tc : Thread Cert.GateInputAddReferenceIdeal.nD Cert.GateInputAddReferenceIdeal.τ).loc Cert.GateInputAddReferenceIdeal.main_arg1)
          ∧ r.2.mem ((c.tc : Thread Cert.GateInputAddReferenceIdeal.nD Cert.GateInputAddReferenceIdeal.τ).loc Cert.GateInputAddReferenceIdeal.main_arg2) = m' ((c.tc : Thread Cert.GateInputAddReferenceIdeal.nD Cert.GateInputAddReferenceIdeal.τ).loc Cert.GateInputAddReferenceIdeal.main_arg2))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v2) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1))

def preserves_MemKvWeight_MemKvWeightIdeal : Prop :=
  True

def algebraic_MemKvWeightIdeal_MemKvWeightReferenceIdeal [hMemKvWeightIdeal : Cert.MemKvWeightIdeal.Facts] [hMemKvWeightReferenceIdeal : Cert.MemKvWeightReferenceIdeal.Facts] : Prop :=
  ∀ (m : (ℓ : Loc Cert.MemKvWeightIdeal.nD Cert.MemKvWeightIdeal.τ Cert.MemKvWeightIdeal.sig) → Buf (Elt Ideal) ℓ) (g : Dev Cert.MemKvWeightIdeal.nD → PrngReg)
    (m' : (ℓ : Loc Cert.MemKvWeightReferenceIdeal.nD Cert.MemKvWeightReferenceIdeal.τ Cert.MemKvWeightReferenceIdeal.sig) → Buf (Elt Ideal) ℓ) (g' : Dev Cert.MemKvWeightReferenceIdeal.nD → PrngReg), Pre_MemKvWeightIdeal m →
    (∀ c : Dev Cert.MemKvWeightIdeal.nD,
      m' ((c.tc : Thread Cert.MemKvWeightReferenceIdeal.nD Cert.MemKvWeightReferenceIdeal.τ).loc Cert.MemKvWeightReferenceIdeal.main_arg0) = m ((c.tc : Thread Cert.MemKvWeightIdeal.nD Cert.MemKvWeightIdeal.τ).loc Cert.MemKvWeightIdeal.main_arg0)
      ∧ m' ((c.tc : Thread Cert.MemKvWeightReferenceIdeal.nD Cert.MemKvWeightReferenceIdeal.τ).loc Cert.MemKvWeightReferenceIdeal.main_arg1) = m ((c.tc : Thread Cert.MemKvWeightIdeal.nD Cert.MemKvWeightIdeal.τ).loc Cert.MemKvWeightIdeal.main_arg1)) →
    ∃ (v0 : (c : Dev Cert.MemKvWeightIdeal.nD) → Buf (Elt Ideal) ((c.tc : Thread Cert.MemKvWeightIdeal.nD Cert.MemKvWeightIdeal.τ).loc Cert.MemKvWeightIdeal.main_v0)),
      θ_run (Cert.MemKvWeightIdeal.defs (F := Ideal)) (onTc (τ := Cert.MemKvWeightIdeal.τ) (Cert.MemKvWeightIdeal.main (F := Ideal))) ⟨m, fun _ => 0, g⟩ (fun r => ∀ c : Dev Cert.MemKvWeightIdeal.nD,
          r.2.mem ((c.tc : Thread Cert.MemKvWeightIdeal.nD Cert.MemKvWeightIdeal.τ).loc Cert.MemKvWeightIdeal.main_v0) = v0 c
          ∧ r.2.mem ((c.tc : Thread Cert.MemKvWeightIdeal.nD Cert.MemKvWeightIdeal.τ).loc Cert.MemKvWeightIdeal.main_arg0) = m ((c.tc : Thread Cert.MemKvWeightIdeal.nD Cert.MemKvWeightIdeal.τ).loc Cert.MemKvWeightIdeal.main_arg0)
          ∧ r.2.mem ((c.tc : Thread Cert.MemKvWeightIdeal.nD Cert.MemKvWeightIdeal.τ).loc Cert.MemKvWeightIdeal.main_arg1) = m ((c.tc : Thread Cert.MemKvWeightIdeal.nD Cert.MemKvWeightIdeal.τ).loc Cert.MemKvWeightIdeal.main_arg1))
      ∧ θ_run (Cert.MemKvWeightReferenceIdeal.defs (F := Ideal)) (onTc (τ := Cert.MemKvWeightReferenceIdeal.τ) (Cert.MemKvWeightReferenceIdeal.main (F := Ideal))) ⟨m', fun _ => 0, g'⟩ (fun r => ∀ c : Dev Cert.MemKvWeightReferenceIdeal.nD,
          r.2.mem ((c.tc : Thread Cert.MemKvWeightReferenceIdeal.nD Cert.MemKvWeightReferenceIdeal.τ).loc Cert.MemKvWeightReferenceIdeal.main_v5) = v0 c
          ∧ r.2.mem ((c.tc : Thread Cert.MemKvWeightReferenceIdeal.nD Cert.MemKvWeightReferenceIdeal.τ).loc Cert.MemKvWeightReferenceIdeal.main_arg0) = m' ((c.tc : Thread Cert.MemKvWeightReferenceIdeal.nD Cert.MemKvWeightReferenceIdeal.τ).loc Cert.MemKvWeightReferenceIdeal.main_arg0)
          ∧ r.2.mem ((c.tc : Thread Cert.MemKvWeightReferenceIdeal.nD Cert.MemKvWeightReferenceIdeal.τ).loc Cert.MemKvWeightReferenceIdeal.main_arg1) = m' ((c.tc : Thread Cert.MemKvWeightReferenceIdeal.nD Cert.MemKvWeightReferenceIdeal.τ).loc Cert.MemKvWeightReferenceIdeal.main_arg1))

def preserves_MemKvInput_MemKvInputIdeal : Prop :=
  True

def algebraic_MemKvInputIdeal_MemKvInputReferenceIdeal [hMemKvInputIdeal : Cert.MemKvInputIdeal.Facts] [hMemKvInputReferenceIdeal : Cert.MemKvInputReferenceIdeal.Facts] : Prop :=
  ∀ (m : (ℓ : Loc Cert.MemKvInputIdeal.nD Cert.MemKvInputIdeal.τ Cert.MemKvInputIdeal.sig) → Buf (Elt Ideal) ℓ) (g : Dev Cert.MemKvInputIdeal.nD → PrngReg)
    (m' : (ℓ : Loc Cert.MemKvInputReferenceIdeal.nD Cert.MemKvInputReferenceIdeal.τ Cert.MemKvInputReferenceIdeal.sig) → Buf (Elt Ideal) ℓ) (g' : Dev Cert.MemKvInputReferenceIdeal.nD → PrngReg), Pre_MemKvInputIdeal m →
    (∀ c : Dev Cert.MemKvInputIdeal.nD,
      m' ((c.tc : Thread Cert.MemKvInputReferenceIdeal.nD Cert.MemKvInputReferenceIdeal.τ).loc Cert.MemKvInputReferenceIdeal.main_arg0) = m ((c.tc : Thread Cert.MemKvInputIdeal.nD Cert.MemKvInputIdeal.τ).loc Cert.MemKvInputIdeal.main_arg0)
      ∧ m' ((c.tc : Thread Cert.MemKvInputReferenceIdeal.nD Cert.MemKvInputReferenceIdeal.τ).loc Cert.MemKvInputReferenceIdeal.main_arg1) = m ((c.tc : Thread Cert.MemKvInputIdeal.nD Cert.MemKvInputIdeal.τ).loc Cert.MemKvInputIdeal.main_arg1)) →
    ∃ (v0 : (c : Dev Cert.MemKvInputIdeal.nD) → Buf (Elt Ideal) ((c.tc : Thread Cert.MemKvInputIdeal.nD Cert.MemKvInputIdeal.τ).loc Cert.MemKvInputIdeal.main_v0)),
      θ_run (Cert.MemKvInputIdeal.defs (F := Ideal)) (onTc (τ := Cert.MemKvInputIdeal.τ) (Cert.MemKvInputIdeal.main (F := Ideal))) ⟨m, fun _ => 0, g⟩ (fun r => ∀ c : Dev Cert.MemKvInputIdeal.nD,
          r.2.mem ((c.tc : Thread Cert.MemKvInputIdeal.nD Cert.MemKvInputIdeal.τ).loc Cert.MemKvInputIdeal.main_v0) = v0 c
          ∧ r.2.mem ((c.tc : Thread Cert.MemKvInputIdeal.nD Cert.MemKvInputIdeal.τ).loc Cert.MemKvInputIdeal.main_arg0) = m ((c.tc : Thread Cert.MemKvInputIdeal.nD Cert.MemKvInputIdeal.τ).loc Cert.MemKvInputIdeal.main_arg0)
          ∧ r.2.mem ((c.tc : Thread Cert.MemKvInputIdeal.nD Cert.MemKvInputIdeal.τ).loc Cert.MemKvInputIdeal.main_arg1) = m ((c.tc : Thread Cert.MemKvInputIdeal.nD Cert.MemKvInputIdeal.τ).loc Cert.MemKvInputIdeal.main_arg1))
      ∧ θ_run (Cert.MemKvInputReferenceIdeal.defs (F := Ideal)) (onTc (τ := Cert.MemKvInputReferenceIdeal.τ) (Cert.MemKvInputReferenceIdeal.main (F := Ideal))) ⟨m', fun _ => 0, g'⟩ (fun r => ∀ c : Dev Cert.MemKvInputReferenceIdeal.nD,
          r.2.mem ((c.tc : Thread Cert.MemKvInputReferenceIdeal.nD Cert.MemKvInputReferenceIdeal.τ).loc Cert.MemKvInputReferenceIdeal.main_v3) = v0 c
          ∧ r.2.mem ((c.tc : Thread Cert.MemKvInputReferenceIdeal.nD Cert.MemKvInputReferenceIdeal.τ).loc Cert.MemKvInputReferenceIdeal.main_arg0) = m' ((c.tc : Thread Cert.MemKvInputReferenceIdeal.nD Cert.MemKvInputReferenceIdeal.τ).loc Cert.MemKvInputReferenceIdeal.main_arg0)
          ∧ r.2.mem ((c.tc : Thread Cert.MemKvInputReferenceIdeal.nD Cert.MemKvInputReferenceIdeal.τ).loc Cert.MemKvInputReferenceIdeal.main_arg1) = m' ((c.tc : Thread Cert.MemKvInputReferenceIdeal.nD Cert.MemKvInputReferenceIdeal.τ).loc Cert.MemKvInputReferenceIdeal.main_arg1))

def preserves_MemKvInputAdd_MemKvInputAddIdeal : Prop :=
  True

def algebraic_MemKvInputAddIdeal_MemKvInputAddReferenceIdeal [hMemKvInputAddIdeal : Cert.MemKvInputAddIdeal.Facts] [hMemKvInputAddReferenceIdeal : Cert.MemKvInputAddReferenceIdeal.Facts] : Prop :=
  ∀ (m : (ℓ : Loc Cert.MemKvInputAddIdeal.nD Cert.MemKvInputAddIdeal.τ Cert.MemKvInputAddIdeal.sig) → Buf (Elt Ideal) ℓ) (g : Dev Cert.MemKvInputAddIdeal.nD → PrngReg)
    (m' : (ℓ : Loc Cert.MemKvInputAddReferenceIdeal.nD Cert.MemKvInputAddReferenceIdeal.τ Cert.MemKvInputAddReferenceIdeal.sig) → Buf (Elt Ideal) ℓ) (g' : Dev Cert.MemKvInputAddReferenceIdeal.nD → PrngReg), Pre_MemKvInputAddIdeal m →
    (∀ c : Dev Cert.MemKvInputAddIdeal.nD,
      m' ((c.tc : Thread Cert.MemKvInputAddReferenceIdeal.nD Cert.MemKvInputAddReferenceIdeal.τ).loc Cert.MemKvInputAddReferenceIdeal.main_arg0) = m ((c.tc : Thread Cert.MemKvInputAddIdeal.nD Cert.MemKvInputAddIdeal.τ).loc Cert.MemKvInputAddIdeal.main_arg0)
      ∧ m' ((c.tc : Thread Cert.MemKvInputAddReferenceIdeal.nD Cert.MemKvInputAddReferenceIdeal.τ).loc Cert.MemKvInputAddReferenceIdeal.main_arg1) = m ((c.tc : Thread Cert.MemKvInputAddIdeal.nD Cert.MemKvInputAddIdeal.τ).loc Cert.MemKvInputAddIdeal.main_arg1)
      ∧ m' ((c.tc : Thread Cert.MemKvInputAddReferenceIdeal.nD Cert.MemKvInputAddReferenceIdeal.τ).loc Cert.MemKvInputAddReferenceIdeal.main_arg2) = m ((c.tc : Thread Cert.MemKvInputAddIdeal.nD Cert.MemKvInputAddIdeal.τ).loc Cert.MemKvInputAddIdeal.main_arg2)) →
    ∃ (v0 : (c : Dev Cert.MemKvInputAddIdeal.nD) → Buf (Elt Ideal) ((c.tc : Thread Cert.MemKvInputAddIdeal.nD Cert.MemKvInputAddIdeal.τ).loc Cert.MemKvInputAddIdeal.main_v0)),
      θ_run (Cert.MemKvInputAddIdeal.defs (F := Ideal)) (onTc (τ := Cert.MemKvInputAddIdeal.τ) (Cert.MemKvInputAddIdeal.main (F := Ideal))) ⟨m, fun _ => 0, g⟩ (fun r => ∀ c : Dev Cert.MemKvInputAddIdeal.nD,
          r.2.mem ((c.tc : Thread Cert.MemKvInputAddIdeal.nD Cert.MemKvInputAddIdeal.τ).loc Cert.MemKvInputAddIdeal.main_v0) = v0 c
          ∧ r.2.mem ((c.tc : Thread Cert.MemKvInputAddIdeal.nD Cert.MemKvInputAddIdeal.τ).loc Cert.MemKvInputAddIdeal.main_arg0) = m ((c.tc : Thread Cert.MemKvInputAddIdeal.nD Cert.MemKvInputAddIdeal.τ).loc Cert.MemKvInputAddIdeal.main_arg0)
          ∧ r.2.mem ((c.tc : Thread Cert.MemKvInputAddIdeal.nD Cert.MemKvInputAddIdeal.τ).loc Cert.MemKvInputAddIdeal.main_arg1) = m ((c.tc : Thread Cert.MemKvInputAddIdeal.nD Cert.MemKvInputAddIdeal.τ).loc Cert.MemKvInputAddIdeal.main_arg1)
          ∧ r.2.mem ((c.tc : Thread Cert.MemKvInputAddIdeal.nD Cert.MemKvInputAddIdeal.τ).loc Cert.MemKvInputAddIdeal.main_arg2) = m ((c.tc : Thread Cert.MemKvInputAddIdeal.nD Cert.MemKvInputAddIdeal.τ).loc Cert.MemKvInputAddIdeal.main_arg2))
      ∧ θ_run (Cert.MemKvInputAddReferenceIdeal.defs (F := Ideal)) (onTc (τ := Cert.MemKvInputAddReferenceIdeal.τ) (Cert.MemKvInputAddReferenceIdeal.main (F := Ideal))) ⟨m', fun _ => 0, g'⟩ (fun r => ∀ c : Dev Cert.MemKvInputAddReferenceIdeal.nD,
          r.2.mem ((c.tc : Thread Cert.MemKvInputAddReferenceIdeal.nD Cert.MemKvInputAddReferenceIdeal.τ).loc Cert.MemKvInputAddReferenceIdeal.main_v4) = v0 c
          ∧ r.2.mem ((c.tc : Thread Cert.MemKvInputAddReferenceIdeal.nD Cert.MemKvInputAddReferenceIdeal.τ).loc Cert.MemKvInputAddReferenceIdeal.main_arg0) = m' ((c.tc : Thread Cert.MemKvInputAddReferenceIdeal.nD Cert.MemKvInputAddReferenceIdeal.τ).loc Cert.MemKvInputAddReferenceIdeal.main_arg0)
          ∧ r.2.mem ((c.tc : Thread Cert.MemKvInputAddReferenceIdeal.nD Cert.MemKvInputAddReferenceIdeal.τ).loc Cert.MemKvInputAddReferenceIdeal.main_arg1) = m' ((c.tc : Thread Cert.MemKvInputAddReferenceIdeal.nD Cert.MemKvInputAddReferenceIdeal.τ).loc Cert.MemKvInputAddReferenceIdeal.main_arg1)
          ∧ r.2.mem ((c.tc : Thread Cert.MemKvInputAddReferenceIdeal.nD Cert.MemKvInputAddReferenceIdeal.τ).loc Cert.MemKvInputAddReferenceIdeal.main_arg2) = m' ((c.tc : Thread Cert.MemKvInputAddReferenceIdeal.nD Cert.MemKvInputAddReferenceIdeal.τ).loc Cert.MemKvInputAddReferenceIdeal.main_arg2))

def preserves_MemKv_MemKvIdeal : Prop :=
  True

def algebraic_MemKvIdeal_MemKvReferenceIdeal [hMemKvIdeal : Cert.MemKvIdeal.Facts] [hMemKvReferenceIdeal : Cert.MemKvReferenceIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvReferenceIdeal.nD Cert.MemKvReferenceIdeal.τ Cert.MemKvReferenceIdeal.sig) → Buf (Elt Ideal) ℓ) (g' : Dev Cert.MemKvReferenceIdeal.nD → PrngReg), Pre_MemKvIdeal m →
    (∀ c : Dev Cert.MemKvIdeal.nD,
      m' ((c.tc : Thread Cert.MemKvReferenceIdeal.nD Cert.MemKvReferenceIdeal.τ).loc Cert.MemKvReferenceIdeal.main_arg0) = m ((c.tc : Thread Cert.MemKvIdeal.nD Cert.MemKvIdeal.τ).loc Cert.MemKvIdeal.main_arg0)
      ∧ m' ((c.tc : Thread Cert.MemKvReferenceIdeal.nD Cert.MemKvReferenceIdeal.τ).loc Cert.MemKvReferenceIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v0)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvReferenceIdeal.defs (F := Ideal)) (onTc (τ := Cert.MemKvReferenceIdeal.τ) (Cert.MemKvReferenceIdeal.main (F := Ideal))) ⟨m', fun _ => 0, g'⟩ (fun r => ∀ c : Dev Cert.MemKvReferenceIdeal.nD,
          r.2.mem ((c.tc : Thread Cert.MemKvReferenceIdeal.nD Cert.MemKvReferenceIdeal.τ).loc Cert.MemKvReferenceIdeal.main_v2) = v0 c
          ∧ r.2.mem ((c.tc : Thread Cert.MemKvReferenceIdeal.nD Cert.MemKvReferenceIdeal.τ).loc Cert.MemKvReferenceIdeal.main_arg0) = m' ((c.tc : Thread Cert.MemKvReferenceIdeal.nD Cert.MemKvReferenceIdeal.τ).loc Cert.MemKvReferenceIdeal.main_arg0)
          ∧ r.2.mem ((c.tc : Thread Cert.MemKvReferenceIdeal.nD Cert.MemKvReferenceIdeal.τ).loc Cert.MemKvReferenceIdeal.main_arg1) = m' ((c.tc : Thread Cert.MemKvReferenceIdeal.nD Cert.MemKvReferenceIdeal.τ).loc Cert.MemKvReferenceIdeal.main_arg1))

def preserves_AdamNorms_AdamNormsIdeal : Prop :=
  True

def algebraic_AdamNormsIdeal_AdamNormsReferenceIdeal [hAdamNormsIdeal : Cert.AdamNormsIdeal.Facts] [hAdamNormsReferenceIdeal : Cert.AdamNormsReferenceIdeal.Facts] : Prop :=
  ∀ (m : (ℓ : Loc Cert.AdamNormsIdeal.nD Cert.AdamNormsIdeal.τ Cert.AdamNormsIdeal.sig) → Buf (Elt Ideal) ℓ) (g : Dev Cert.AdamNormsIdeal.nD → PrngReg)
    (m' : (ℓ : Loc Cert.AdamNormsReferenceIdeal.nD Cert.AdamNormsReferenceIdeal.τ Cert.AdamNormsReferenceIdeal.sig) → Buf (Elt Ideal) ℓ) (g' : Dev Cert.AdamNormsReferenceIdeal.nD → PrngReg), Pre_AdamNormsIdeal m →
    (∀ c : Dev Cert.AdamNormsIdeal.nD,
      m' ((c.tc : Thread Cert.AdamNormsReferenceIdeal.nD Cert.AdamNormsReferenceIdeal.τ).loc Cert.AdamNormsReferenceIdeal.main_arg0) = m ((c.tc : Thread Cert.AdamNormsIdeal.nD Cert.AdamNormsIdeal.τ).loc Cert.AdamNormsIdeal.main_arg0)
      ∧ m' ((c.tc : Thread Cert.AdamNormsReferenceIdeal.nD Cert.AdamNormsReferenceIdeal.τ).loc Cert.AdamNormsReferenceIdeal.main_arg1) = m ((c.tc : Thread Cert.AdamNormsIdeal.nD Cert.AdamNormsIdeal.τ).loc Cert.AdamNormsIdeal.main_arg1)
      ∧ m' ((c.tc : Thread Cert.AdamNormsReferenceIdeal.nD Cert.AdamNormsReferenceIdeal.τ).loc Cert.AdamNormsReferenceIdeal.main_arg2) = m ((c.tc : Thread Cert.AdamNormsIdeal.nD Cert.AdamNormsIdeal.τ).loc Cert.AdamNormsIdeal.main_arg2)
      ∧ m' ((c.tc : Thread Cert.AdamNormsReferenceIdeal.nD Cert.AdamNormsReferenceIdeal.τ).loc Cert.AdamNormsReferenceIdeal.main_arg3) = m ((c.tc : Thread Cert.AdamNormsIdeal.nD Cert.AdamNormsIdeal.τ).loc Cert.AdamNormsIdeal.main_arg3)) →
    ∃ (v0 : (c : Dev Cert.AdamNormsIdeal.nD) → Buf (Elt Ideal) ((c.tc : Thread Cert.AdamNormsIdeal.nD Cert.AdamNormsIdeal.τ).loc Cert.AdamNormsIdeal.main_v0_0)) (v1 : (c : Dev Cert.AdamNormsIdeal.nD) → Buf (Elt Ideal) ((c.tc : Thread Cert.AdamNormsIdeal.nD Cert.AdamNormsIdeal.τ).loc Cert.AdamNormsIdeal.main_v0_1)) (v2 : (c : Dev Cert.AdamNormsIdeal.nD) → Buf (Elt Ideal) ((c.tc : Thread Cert.AdamNormsIdeal.nD Cert.AdamNormsIdeal.τ).loc Cert.AdamNormsIdeal.main_v0_2)),
      θ_run (Cert.AdamNormsIdeal.defs (F := Ideal)) (onTc (τ := Cert.AdamNormsIdeal.τ) (Cert.AdamNormsIdeal.main (F := Ideal))) ⟨m, fun _ => 0, g⟩ (fun r => ∀ c : Dev Cert.AdamNormsIdeal.nD,
          r.2.mem ((c.tc : Thread Cert.AdamNormsIdeal.nD Cert.AdamNormsIdeal.τ).loc Cert.AdamNormsIdeal.main_v0_0) = v0 c
          ∧ r.2.mem ((c.tc : Thread Cert.AdamNormsIdeal.nD Cert.AdamNormsIdeal.τ).loc Cert.AdamNormsIdeal.main_v0_1) = v1 c
          ∧ r.2.mem ((c.tc : Thread Cert.AdamNormsIdeal.nD Cert.AdamNormsIdeal.τ).loc Cert.AdamNormsIdeal.main_v0_2) = v2 c
          ∧ r.2.mem ((c.tc : Thread Cert.AdamNormsIdeal.nD Cert.AdamNormsIdeal.τ).loc Cert.AdamNormsIdeal.main_arg0) = m ((c.tc : Thread Cert.AdamNormsIdeal.nD Cert.AdamNormsIdeal.τ).loc Cert.AdamNormsIdeal.main_arg0)
          ∧ r.2.mem ((c.tc : Thread Cert.AdamNormsIdeal.nD Cert.AdamNormsIdeal.τ).loc Cert.AdamNormsIdeal.main_arg1) = m ((c.tc : Thread Cert.AdamNormsIdeal.nD Cert.AdamNormsIdeal.τ).loc Cert.AdamNormsIdeal.main_arg1)
          ∧ r.2.mem ((c.tc : Thread Cert.AdamNormsIdeal.nD Cert.AdamNormsIdeal.τ).loc Cert.AdamNormsIdeal.main_arg2) = m ((c.tc : Thread Cert.AdamNormsIdeal.nD Cert.AdamNormsIdeal.τ).loc Cert.AdamNormsIdeal.main_arg2)
          ∧ r.2.mem ((c.tc : Thread Cert.AdamNormsIdeal.nD Cert.AdamNormsIdeal.τ).loc Cert.AdamNormsIdeal.main_arg3) = m ((c.tc : Thread Cert.AdamNormsIdeal.nD Cert.AdamNormsIdeal.τ).loc Cert.AdamNormsIdeal.main_arg3))
      ∧ θ_run (Cert.AdamNormsReferenceIdeal.defs (F := Ideal)) (onTc (τ := Cert.AdamNormsReferenceIdeal.τ) (Cert.AdamNormsReferenceIdeal.main (F := Ideal))) ⟨m', fun _ => 0, g'⟩ (fun r => ∀ c : Dev Cert.AdamNormsReferenceIdeal.nD,
          r.2.mem ((c.tc : Thread Cert.AdamNormsReferenceIdeal.nD Cert.AdamNormsReferenceIdeal.τ).loc Cert.AdamNormsReferenceIdeal.main_v23) = v0 c
          ∧ r.2.mem ((c.tc : Thread Cert.AdamNormsReferenceIdeal.nD Cert.AdamNormsReferenceIdeal.τ).loc Cert.AdamNormsReferenceIdeal.main_v4) = v1 c
          ∧ r.2.mem ((c.tc : Thread Cert.AdamNormsReferenceIdeal.nD Cert.AdamNormsReferenceIdeal.τ).loc Cert.AdamNormsReferenceIdeal.main_v10) = v2 c
          ∧ r.2.mem ((c.tc : Thread Cert.AdamNormsReferenceIdeal.nD Cert.AdamNormsReferenceIdeal.τ).loc Cert.AdamNormsReferenceIdeal.main_arg0) = m' ((c.tc : Thread Cert.AdamNormsReferenceIdeal.nD Cert.AdamNormsReferenceIdeal.τ).loc Cert.AdamNormsReferenceIdeal.main_arg0)
          ∧ r.2.mem ((c.tc : Thread Cert.AdamNormsReferenceIdeal.nD Cert.AdamNormsReferenceIdeal.τ).loc Cert.AdamNormsReferenceIdeal.main_arg1) = m' ((c.tc : Thread Cert.AdamNormsReferenceIdeal.nD Cert.AdamNormsReferenceIdeal.τ).loc Cert.AdamNormsReferenceIdeal.main_arg1)
          ∧ r.2.mem ((c.tc : Thread Cert.AdamNormsReferenceIdeal.nD Cert.AdamNormsReferenceIdeal.τ).loc Cert.AdamNormsReferenceIdeal.main_arg2) = m' ((c.tc : Thread Cert.AdamNormsReferenceIdeal.nD Cert.AdamNormsReferenceIdeal.τ).loc Cert.AdamNormsReferenceIdeal.main_arg2)
          ∧ r.2.mem ((c.tc : Thread Cert.AdamNormsReferenceIdeal.nD Cert.AdamNormsReferenceIdeal.τ).loc Cert.AdamNormsReferenceIdeal.main_arg3) = m' ((c.tc : Thread Cert.AdamNormsReferenceIdeal.nD Cert.AdamNormsReferenceIdeal.τ).loc Cert.AdamNormsReferenceIdeal.main_arg3))

def preserves_AdamInA_AdamInAIdeal : Prop :=
  True

def algebraic_AdamInAIdeal_AdamInAReferenceIdeal [hAdamInAIdeal : Cert.AdamInAIdeal.Facts] [hAdamInAReferenceIdeal : Cert.AdamInAReferenceIdeal.Facts] : Prop :=
  ∀ (m : (ℓ : Loc Cert.AdamInAIdeal.nD Cert.AdamInAIdeal.τ Cert.AdamInAIdeal.sig) → Buf (Elt Ideal) ℓ) (g : Dev Cert.AdamInAIdeal.nD → PrngReg)
    (m' : (ℓ : Loc Cert.AdamInAReferenceIdeal.nD Cert.AdamInAReferenceIdeal.τ Cert.AdamInAReferenceIdeal.sig) → Buf (Elt Ideal) ℓ) (g' : Dev Cert.AdamInAReferenceIdeal.nD → PrngReg), Pre_AdamInAIdeal m →
    (∀ c : Dev Cert.AdamInAIdeal.nD,
      m' ((c.tc : Thread Cert.AdamInAReferenceIdeal.nD Cert.AdamInAReferenceIdeal.τ).loc Cert.AdamInAReferenceIdeal.main_arg0) = m ((c.tc : Thread Cert.AdamInAIdeal.nD Cert.AdamInAIdeal.τ).loc Cert.AdamInAIdeal.main_arg0)
      ∧ m' ((c.tc : Thread Cert.AdamInAReferenceIdeal.nD Cert.AdamInAReferenceIdeal.τ).loc Cert.AdamInAReferenceIdeal.main_arg1) = m ((c.tc : Thread Cert.AdamInAIdeal.nD Cert.AdamInAIdeal.τ).loc Cert.AdamInAIdeal.main_arg1)
      ∧ m' ((c.tc : Thread Cert.AdamInAReferenceIdeal.nD Cert.AdamInAReferenceIdeal.τ).loc Cert.AdamInAReferenceIdeal.main_arg2) = m ((c.tc : Thread Cert.AdamInAIdeal.nD Cert.AdamInAIdeal.τ).loc Cert.AdamInAIdeal.main_arg2)
      ∧ m' ((c.tc : Thread Cert.AdamInAReferenceIdeal.nD Cert.AdamInAReferenceIdeal.τ).loc Cert.AdamInAReferenceIdeal.main_arg3) = m ((c.tc : Thread Cert.AdamInAIdeal.nD Cert.AdamInAIdeal.τ).loc Cert.AdamInAIdeal.main_arg3)) →
    ∃ (v0 : (c : Dev Cert.AdamInAIdeal.nD) → Buf (Elt Ideal) ((c.tc : Thread Cert.AdamInAIdeal.nD Cert.AdamInAIdeal.τ).loc Cert.AdamInAIdeal.main_v0_0)) (v1 : (c : Dev Cert.AdamInAIdeal.nD) → Buf (Elt Ideal) ((c.tc : Thread Cert.AdamInAIdeal.nD Cert.AdamInAIdeal.τ).loc Cert.AdamInAIdeal.main_v0_1)) (v2 : (c : Dev Cert.AdamInAIdeal.nD) → Buf (Elt Ideal) ((c.tc : Thread Cert.AdamInAIdeal.nD Cert.AdamInAIdeal.τ).loc Cert.AdamInAIdeal.main_v0_2)),
      θ_run (Cert.AdamInAIdeal.defs (F := Ideal)) (onTc (τ := Cert.AdamInAIdeal.τ) (Cert.AdamInAIdeal.main (F := Ideal))) ⟨m, fun _ => 0, g⟩ (fun r => ∀ c : Dev Cert.AdamInAIdeal.nD,
          r.2.mem ((c.tc : Thread Cert.AdamInAIdeal.nD Cert.AdamInAIdeal.τ).loc Cert.AdamInAIdeal.main_v0_0) = v0 c
          ∧ r.2.mem ((c.tc : Thread Cert.AdamInAIdeal.nD Cert.AdamInAIdeal.τ).loc Cert.AdamInAIdeal.main_v0_1) = v1 c
          ∧ r.2.mem ((c.tc : Thread Cert.AdamInAIdeal.nD Cert.AdamInAIdeal.τ).loc Cert.AdamInAIdeal.main_v0_2) = v2 c
          ∧ r.2.mem ((c.tc : Thread Cert.AdamInAIdeal.nD Cert.AdamInAIdeal.τ).loc Cert.AdamInAIdeal.main_arg0) = m ((c.tc : Thread Cert.AdamInAIdeal.nD Cert.AdamInAIdeal.τ).loc Cert.AdamInAIdeal.main_arg0)
          ∧ r.2.mem ((c.tc : Thread Cert.AdamInAIdeal.nD Cert.AdamInAIdeal.τ).loc Cert.AdamInAIdeal.main_arg1) = m ((c.tc : Thread Cert.AdamInAIdeal.nD Cert.AdamInAIdeal.τ).loc Cert.AdamInAIdeal.main_arg1)
          ∧ r.2.mem ((c.tc : Thread Cert.AdamInAIdeal.nD Cert.AdamInAIdeal.τ).loc Cert.AdamInAIdeal.main_arg2) = m ((c.tc : Thread Cert.AdamInAIdeal.nD Cert.AdamInAIdeal.τ).loc Cert.AdamInAIdeal.main_arg2)
          ∧ r.2.mem ((c.tc : Thread Cert.AdamInAIdeal.nD Cert.AdamInAIdeal.τ).loc Cert.AdamInAIdeal.main_arg3) = m ((c.tc : Thread Cert.AdamInAIdeal.nD Cert.AdamInAIdeal.τ).loc Cert.AdamInAIdeal.main_arg3))
      ∧ θ_run (Cert.AdamInAReferenceIdeal.defs (F := Ideal)) (onTc (τ := Cert.AdamInAReferenceIdeal.τ) (Cert.AdamInAReferenceIdeal.main (F := Ideal))) ⟨m', fun _ => 0, g'⟩ (fun r => ∀ c : Dev Cert.AdamInAReferenceIdeal.nD,
          r.2.mem ((c.tc : Thread Cert.AdamInAReferenceIdeal.nD Cert.AdamInAReferenceIdeal.τ).loc Cert.AdamInAReferenceIdeal.main_v23) = v0 c
          ∧ r.2.mem ((c.tc : Thread Cert.AdamInAReferenceIdeal.nD Cert.AdamInAReferenceIdeal.τ).loc Cert.AdamInAReferenceIdeal.main_v4) = v1 c
          ∧ r.2.mem ((c.tc : Thread Cert.AdamInAReferenceIdeal.nD Cert.AdamInAReferenceIdeal.τ).loc Cert.AdamInAReferenceIdeal.main_v10) = v2 c
          ∧ r.2.mem ((c.tc : Thread Cert.AdamInAReferenceIdeal.nD Cert.AdamInAReferenceIdeal.τ).loc Cert.AdamInAReferenceIdeal.main_arg0) = m' ((c.tc : Thread Cert.AdamInAReferenceIdeal.nD Cert.AdamInAReferenceIdeal.τ).loc Cert.AdamInAReferenceIdeal.main_arg0)
          ∧ r.2.mem ((c.tc : Thread Cert.AdamInAReferenceIdeal.nD Cert.AdamInAReferenceIdeal.τ).loc Cert.AdamInAReferenceIdeal.main_arg1) = m' ((c.tc : Thread Cert.AdamInAReferenceIdeal.nD Cert.AdamInAReferenceIdeal.τ).loc Cert.AdamInAReferenceIdeal.main_arg1)
          ∧ r.2.mem ((c.tc : Thread Cert.AdamInAReferenceIdeal.nD Cert.AdamInAReferenceIdeal.τ).loc Cert.AdamInAReferenceIdeal.main_arg2) = m' ((c.tc : Thread Cert.AdamInAReferenceIdeal.nD Cert.AdamInAReferenceIdeal.τ).loc Cert.AdamInAReferenceIdeal.main_arg2)
          ∧ r.2.mem ((c.tc : Thread Cert.AdamInAReferenceIdeal.nD Cert.AdamInAReferenceIdeal.τ).loc Cert.AdamInAReferenceIdeal.main_arg3) = m' ((c.tc : Thread Cert.AdamInAReferenceIdeal.nD Cert.AdamInAReferenceIdeal.τ).loc Cert.AdamInAReferenceIdeal.main_arg3))

def preserves_AdamGlu_AdamGluIdeal : Prop :=
  True

def algebraic_AdamGluIdeal_AdamGluReferenceIdeal [hAdamGluIdeal : Cert.AdamGluIdeal.Facts] [hAdamGluReferenceIdeal : Cert.AdamGluReferenceIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluReferenceIdeal.nD Cert.AdamGluReferenceIdeal.τ Cert.AdamGluReferenceIdeal.sig) → Buf (Elt Ideal) ℓ) (g' : Dev Cert.AdamGluReferenceIdeal.nD → PrngReg), Pre_AdamGluIdeal m →
    (∀ c : Dev Cert.AdamGluIdeal.nD,
      m' ((c.tc : Thread Cert.AdamGluReferenceIdeal.nD Cert.AdamGluReferenceIdeal.τ).loc Cert.AdamGluReferenceIdeal.main_arg0) = m ((c.tc : Thread Cert.AdamGluIdeal.nD Cert.AdamGluIdeal.τ).loc Cert.AdamGluIdeal.main_arg0)
      ∧ m' ((c.tc : Thread Cert.AdamGluReferenceIdeal.nD Cert.AdamGluReferenceIdeal.τ).loc Cert.AdamGluReferenceIdeal.main_arg1) = m ((c.tc : Thread Cert.AdamGluIdeal.nD Cert.AdamGluIdeal.τ).loc Cert.AdamGluIdeal.main_arg1)
      ∧ m' ((c.tc : Thread Cert.AdamGluReferenceIdeal.nD Cert.AdamGluReferenceIdeal.τ).loc Cert.AdamGluReferenceIdeal.main_arg2) = m ((c.tc : Thread Cert.AdamGluIdeal.nD Cert.AdamGluIdeal.τ).loc Cert.AdamGluIdeal.main_arg2)
      ∧ m' ((c.tc : Thread Cert.AdamGluReferenceIdeal.nD Cert.AdamGluReferenceIdeal.τ).loc Cert.AdamGluReferenceIdeal.main_arg3) = m ((c.tc : Thread Cert.AdamGluIdeal.nD Cert.AdamGluIdeal.τ).loc Cert.AdamGluIdeal.main_arg3)) →
    ∃ (v0 : (c : Dev Cert.AdamGluIdeal.nD) → Buf (Elt Ideal) ((c.tc : Thread Cert.AdamGluIdeal.nD Cert.AdamGluIdeal.τ).loc Cert.AdamGluIdeal.main_v0_0)) (v1 : (c : Dev Cert.AdamGluIdeal.nD) → Buf (Elt Ideal) ((c.tc : Thread Cert.AdamGluIdeal.nD Cert.AdamGluIdeal.τ).loc Cert.AdamGluIdeal.main_v0_1)) (v2 : (c : Dev Cert.AdamGluIdeal.nD) → Buf (Elt Ideal) ((c.tc : Thread Cert.AdamGluIdeal.nD Cert.AdamGluIdeal.τ).loc Cert.AdamGluIdeal.main_v0_2)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v0_0) = v0 c
          ∧ r.2.mem ((c.tc : Thread Cert.AdamGluIdeal.nD Cert.AdamGluIdeal.τ).loc Cert.AdamGluIdeal.main_v0_1) = v1 c
          ∧ r.2.mem ((c.tc : Thread Cert.AdamGluIdeal.nD Cert.AdamGluIdeal.τ).loc Cert.AdamGluIdeal.main_v0_2) = v2 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ θ_run (Cert.AdamGluReferenceIdeal.defs (F := Ideal)) (onTc (τ := Cert.AdamGluReferenceIdeal.τ) (Cert.AdamGluReferenceIdeal.main (F := Ideal))) ⟨m', fun _ => 0, g'⟩ (fun r => ∀ c : Dev Cert.AdamGluReferenceIdeal.nD,
          r.2.mem ((c.tc : Thread Cert.AdamGluReferenceIdeal.nD Cert.AdamGluReferenceIdeal.τ).loc Cert.AdamGluReferenceIdeal.main_v23) = v0 c
          ∧ r.2.mem ((c.tc : Thread Cert.AdamGluReferenceIdeal.nD Cert.AdamGluReferenceIdeal.τ).loc Cert.AdamGluReferenceIdeal.main_v4) = v1 c
          ∧ r.2.mem ((c.tc : Thread Cert.AdamGluReferenceIdeal.nD Cert.AdamGluReferenceIdeal.τ).loc Cert.AdamGluReferenceIdeal.main_v10) = v2 c
          ∧ r.2.mem ((c.tc : Thread Cert.AdamGluReferenceIdeal.nD Cert.AdamGluReferenceIdeal.τ).loc Cert.AdamGluReferenceIdeal.main_arg0) = m' ((c.tc : Thread Cert.AdamGluReferenceIdeal.nD Cert.AdamGluReferenceIdeal.τ).loc Cert.AdamGluReferenceIdeal.main_arg0)
          ∧ r.2.mem ((c.tc : Thread Cert.AdamGluReferenceIdeal.nD Cert.AdamGluReferenceIdeal.τ).loc Cert.AdamGluReferenceIdeal.main_arg1) = m' ((c.tc : Thread Cert.AdamGluReferenceIdeal.nD Cert.AdamGluReferenceIdeal.τ).loc Cert.AdamGluReferenceIdeal.main_arg1)
          ∧ r.2.mem ((c.tc : Thread Cert.AdamGluReferenceIdeal.nD Cert.AdamGluReferenceIdeal.τ).loc Cert.AdamGluReferenceIdeal.main_arg2) = m' ((c.tc : Thread Cert.AdamGluReferenceIdeal.nD Cert.AdamGluReferenceIdeal.τ).loc Cert.AdamGluReferenceIdeal.main_arg2)
          ∧ r.2.mem ((c.tc : Thread Cert.AdamGluReferenceIdeal.nD Cert.AdamGluReferenceIdeal.τ).loc Cert.AdamGluReferenceIdeal.main_arg3) = m' ((c.tc : Thread Cert.AdamGluReferenceIdeal.nD Cert.AdamGluReferenceIdeal.τ).loc Cert.AdamGluReferenceIdeal.main_arg3))

def preserves_AdamConv_AdamConvIdeal : Prop :=
  True

def algebraic_AdamConvIdeal_AdamConvReferenceIdeal [hAdamConvIdeal : Cert.AdamConvIdeal.Facts] [hAdamConvReferenceIdeal : Cert.AdamConvReferenceIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvReferenceIdeal.nD Cert.AdamConvReferenceIdeal.τ Cert.AdamConvReferenceIdeal.sig) → Buf (Elt Ideal) ℓ) (g' : Dev Cert.AdamConvReferenceIdeal.nD → PrngReg), Pre_AdamConvIdeal m →
    (∀ c : Dev Cert.AdamConvIdeal.nD,
      m' ((c.tc : Thread Cert.AdamConvReferenceIdeal.nD Cert.AdamConvReferenceIdeal.τ).loc Cert.AdamConvReferenceIdeal.main_arg0) = m ((c.tc : Thread Cert.AdamConvIdeal.nD Cert.AdamConvIdeal.τ).loc Cert.AdamConvIdeal.main_arg0)
      ∧ m' ((c.tc : Thread Cert.AdamConvReferenceIdeal.nD Cert.AdamConvReferenceIdeal.τ).loc Cert.AdamConvReferenceIdeal.main_arg1) = m ((c.tc : Thread Cert.AdamConvIdeal.nD Cert.AdamConvIdeal.τ).loc Cert.AdamConvIdeal.main_arg1)
      ∧ m' ((c.tc : Thread Cert.AdamConvReferenceIdeal.nD Cert.AdamConvReferenceIdeal.τ).loc Cert.AdamConvReferenceIdeal.main_arg2) = m ((c.tc : Thread Cert.AdamConvIdeal.nD Cert.AdamConvIdeal.τ).loc Cert.AdamConvIdeal.main_arg2)
      ∧ m' ((c.tc : Thread Cert.AdamConvReferenceIdeal.nD Cert.AdamConvReferenceIdeal.τ).loc Cert.AdamConvReferenceIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvReferenceIdeal.defs (F := Ideal)) (onTc (τ := Cert.AdamConvReferenceIdeal.τ) (Cert.AdamConvReferenceIdeal.main (F := Ideal))) ⟨m', fun _ => 0, g'⟩ (fun r => ∀ c : Dev Cert.AdamConvReferenceIdeal.nD,
          r.2.mem ((c.tc : Thread Cert.AdamConvReferenceIdeal.nD Cert.AdamConvReferenceIdeal.τ).loc Cert.AdamConvReferenceIdeal.main_v23) = v0 c
          ∧ r.2.mem ((c.tc : Thread Cert.AdamConvReferenceIdeal.nD Cert.AdamConvReferenceIdeal.τ).loc Cert.AdamConvReferenceIdeal.main_v4) = v1 c
          ∧ r.2.mem ((c.tc : Thread Cert.AdamConvReferenceIdeal.nD Cert.AdamConvReferenceIdeal.τ).loc Cert.AdamConvReferenceIdeal.main_v10) = v2 c
          ∧ r.2.mem ((c.tc : Thread Cert.AdamConvReferenceIdeal.nD Cert.AdamConvReferenceIdeal.τ).loc Cert.AdamConvReferenceIdeal.main_arg0) = m' ((c.tc : Thread Cert.AdamConvReferenceIdeal.nD Cert.AdamConvReferenceIdeal.τ).loc Cert.AdamConvReferenceIdeal.main_arg0)
          ∧ r.2.mem ((c.tc : Thread Cert.AdamConvReferenceIdeal.nD Cert.AdamConvReferenceIdeal.τ).loc Cert.AdamConvReferenceIdeal.main_arg1) = m' ((c.tc : Thread Cert.AdamConvReferenceIdeal.nD Cert.AdamConvReferenceIdeal.τ).loc Cert.AdamConvReferenceIdeal.main_arg1)
          ∧ r.2.mem ((c.tc : Thread Cert.AdamConvReferenceIdeal.nD Cert.AdamConvReferenceIdeal.τ).loc Cert.AdamConvReferenceIdeal.main_arg2) = m' ((c.tc : Thread Cert.AdamConvReferenceIdeal.nD Cert.AdamConvReferenceIdeal.τ).loc Cert.AdamConvReferenceIdeal.main_arg2)
          ∧ r.2.mem ((c.tc : Thread Cert.AdamConvReferenceIdeal.nD Cert.AdamConvReferenceIdeal.τ).loc Cert.AdamConvReferenceIdeal.main_arg3) = m' ((c.tc : Thread Cert.AdamConvReferenceIdeal.nD Cert.AdamConvReferenceIdeal.τ).loc Cert.AdamConvReferenceIdeal.main_arg3))

def preserves_AdamChannels_AdamChannelsIdeal : Prop :=
  True

def algebraic_AdamChannelsIdeal_AdamChannelsReferenceIdeal [hAdamChannelsIdeal : Cert.AdamChannelsIdeal.Facts] [hAdamChannelsReferenceIdeal : Cert.AdamChannelsReferenceIdeal.Facts] : Prop :=
  ∀ (m : (ℓ : Loc Cert.AdamChannelsIdeal.nD Cert.AdamChannelsIdeal.τ Cert.AdamChannelsIdeal.sig) → Buf (Elt Ideal) ℓ) (g : Dev Cert.AdamChannelsIdeal.nD → PrngReg)
    (m' : (ℓ : Loc Cert.AdamChannelsReferenceIdeal.nD Cert.AdamChannelsReferenceIdeal.τ Cert.AdamChannelsReferenceIdeal.sig) → Buf (Elt Ideal) ℓ) (g' : Dev Cert.AdamChannelsReferenceIdeal.nD → PrngReg), Pre_AdamChannelsIdeal m →
    (∀ c : Dev Cert.AdamChannelsIdeal.nD,
      m' ((c.tc : Thread Cert.AdamChannelsReferenceIdeal.nD Cert.AdamChannelsReferenceIdeal.τ).loc Cert.AdamChannelsReferenceIdeal.main_arg0) = m ((c.tc : Thread Cert.AdamChannelsIdeal.nD Cert.AdamChannelsIdeal.τ).loc Cert.AdamChannelsIdeal.main_arg0)
      ∧ m' ((c.tc : Thread Cert.AdamChannelsReferenceIdeal.nD Cert.AdamChannelsReferenceIdeal.τ).loc Cert.AdamChannelsReferenceIdeal.main_arg1) = m ((c.tc : Thread Cert.AdamChannelsIdeal.nD Cert.AdamChannelsIdeal.τ).loc Cert.AdamChannelsIdeal.main_arg1)
      ∧ m' ((c.tc : Thread Cert.AdamChannelsReferenceIdeal.nD Cert.AdamChannelsReferenceIdeal.τ).loc Cert.AdamChannelsReferenceIdeal.main_arg2) = m ((c.tc : Thread Cert.AdamChannelsIdeal.nD Cert.AdamChannelsIdeal.τ).loc Cert.AdamChannelsIdeal.main_arg2)
      ∧ m' ((c.tc : Thread Cert.AdamChannelsReferenceIdeal.nD Cert.AdamChannelsReferenceIdeal.τ).loc Cert.AdamChannelsReferenceIdeal.main_arg3) = m ((c.tc : Thread Cert.AdamChannelsIdeal.nD Cert.AdamChannelsIdeal.τ).loc Cert.AdamChannelsIdeal.main_arg3)) →
    ∃ (v0 : (c : Dev Cert.AdamChannelsIdeal.nD) → Buf (Elt Ideal) ((c.tc : Thread Cert.AdamChannelsIdeal.nD Cert.AdamChannelsIdeal.τ).loc Cert.AdamChannelsIdeal.main_v0_0)) (v1 : (c : Dev Cert.AdamChannelsIdeal.nD) → Buf (Elt Ideal) ((c.tc : Thread Cert.AdamChannelsIdeal.nD Cert.AdamChannelsIdeal.τ).loc Cert.AdamChannelsIdeal.main_v0_1)) (v2 : (c : Dev Cert.AdamChannelsIdeal.nD) → Buf (Elt Ideal) ((c.tc : Thread Cert.AdamChannelsIdeal.nD Cert.AdamChannelsIdeal.τ).loc Cert.AdamChannelsIdeal.main_v0_2)),
      θ_run (Cert.AdamChannelsIdeal.defs (F := Ideal)) (onTc (τ := Cert.AdamChannelsIdeal.τ) (Cert.AdamChannelsIdeal.main (F := Ideal))) ⟨m, fun _ => 0, g⟩ (fun r => ∀ c : Dev Cert.AdamChannelsIdeal.nD,
          r.2.mem ((c.tc : Thread Cert.AdamChannelsIdeal.nD Cert.AdamChannelsIdeal.τ).loc Cert.AdamChannelsIdeal.main_v0_0) = v0 c
          ∧ r.2.mem ((c.tc : Thread Cert.AdamChannelsIdeal.nD Cert.AdamChannelsIdeal.τ).loc Cert.AdamChannelsIdeal.main_v0_1) = v1 c
          ∧ r.2.mem ((c.tc : Thread Cert.AdamChannelsIdeal.nD Cert.AdamChannelsIdeal.τ).loc Cert.AdamChannelsIdeal.main_v0_2) = v2 c
          ∧ r.2.mem ((c.tc : Thread Cert.AdamChannelsIdeal.nD Cert.AdamChannelsIdeal.τ).loc Cert.AdamChannelsIdeal.main_arg0) = m ((c.tc : Thread Cert.AdamChannelsIdeal.nD Cert.AdamChannelsIdeal.τ).loc Cert.AdamChannelsIdeal.main_arg0)
          ∧ r.2.mem ((c.tc : Thread Cert.AdamChannelsIdeal.nD Cert.AdamChannelsIdeal.τ).loc Cert.AdamChannelsIdeal.main_arg1) = m ((c.tc : Thread Cert.AdamChannelsIdeal.nD Cert.AdamChannelsIdeal.τ).loc Cert.AdamChannelsIdeal.main_arg1)
          ∧ r.2.mem ((c.tc : Thread Cert.AdamChannelsIdeal.nD Cert.AdamChannelsIdeal.τ).loc Cert.AdamChannelsIdeal.main_arg2) = m ((c.tc : Thread Cert.AdamChannelsIdeal.nD Cert.AdamChannelsIdeal.τ).loc Cert.AdamChannelsIdeal.main_arg2)
          ∧ r.2.mem ((c.tc : Thread Cert.AdamChannelsIdeal.nD Cert.AdamChannelsIdeal.τ).loc Cert.AdamChannelsIdeal.main_arg3) = m ((c.tc : Thread Cert.AdamChannelsIdeal.nD Cert.AdamChannelsIdeal.τ).loc Cert.AdamChannelsIdeal.main_arg3))
      ∧ θ_run (Cert.AdamChannelsReferenceIdeal.defs (F := Ideal)) (onTc (τ := Cert.AdamChannelsReferenceIdeal.τ) (Cert.AdamChannelsReferenceIdeal.main (F := Ideal))) ⟨m', fun _ => 0, g'⟩ (fun r => ∀ c : Dev Cert.AdamChannelsReferenceIdeal.nD,
          r.2.mem ((c.tc : Thread Cert.AdamChannelsReferenceIdeal.nD Cert.AdamChannelsReferenceIdeal.τ).loc Cert.AdamChannelsReferenceIdeal.main_v23) = v0 c
          ∧ r.2.mem ((c.tc : Thread Cert.AdamChannelsReferenceIdeal.nD Cert.AdamChannelsReferenceIdeal.τ).loc Cert.AdamChannelsReferenceIdeal.main_v4) = v1 c
          ∧ r.2.mem ((c.tc : Thread Cert.AdamChannelsReferenceIdeal.nD Cert.AdamChannelsReferenceIdeal.τ).loc Cert.AdamChannelsReferenceIdeal.main_v10) = v2 c
          ∧ r.2.mem ((c.tc : Thread Cert.AdamChannelsReferenceIdeal.nD Cert.AdamChannelsReferenceIdeal.τ).loc Cert.AdamChannelsReferenceIdeal.main_arg0) = m' ((c.tc : Thread Cert.AdamChannelsReferenceIdeal.nD Cert.AdamChannelsReferenceIdeal.τ).loc Cert.AdamChannelsReferenceIdeal.main_arg0)
          ∧ r.2.mem ((c.tc : Thread Cert.AdamChannelsReferenceIdeal.nD Cert.AdamChannelsReferenceIdeal.τ).loc Cert.AdamChannelsReferenceIdeal.main_arg1) = m' ((c.tc : Thread Cert.AdamChannelsReferenceIdeal.nD Cert.AdamChannelsReferenceIdeal.τ).loc Cert.AdamChannelsReferenceIdeal.main_arg1)
          ∧ r.2.mem ((c.tc : Thread Cert.AdamChannelsReferenceIdeal.nD Cert.AdamChannelsReferenceIdeal.τ).loc Cert.AdamChannelsReferenceIdeal.main_arg2) = m' ((c.tc : Thread Cert.AdamChannelsReferenceIdeal.nD Cert.AdamChannelsReferenceIdeal.τ).loc Cert.AdamChannelsReferenceIdeal.main_arg2)
          ∧ r.2.mem ((c.tc : Thread Cert.AdamChannelsReferenceIdeal.nD Cert.AdamChannelsReferenceIdeal.τ).loc Cert.AdamChannelsReferenceIdeal.main_arg3) = m' ((c.tc : Thread Cert.AdamChannelsReferenceIdeal.nD Cert.AdamChannelsReferenceIdeal.τ).loc Cert.AdamChannelsReferenceIdeal.main_arg3))

def preserves_AdamGain_AdamGainIdeal : Prop :=
  True

def algebraic_AdamGainIdeal_AdamGainReferenceIdeal [hAdamGainIdeal : Cert.AdamGainIdeal.Facts] [hAdamGainReferenceIdeal : Cert.AdamGainReferenceIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg)
    (m' : (ℓ : Loc Cert.AdamGainReferenceIdeal.nD Cert.AdamGainReferenceIdeal.τ Cert.AdamGainReferenceIdeal.sig) → Buf (Elt Ideal) ℓ) (g' : Dev Cert.AdamGainReferenceIdeal.nD → PrngReg), Pre_AdamGainIdeal m →
    (∀ c : Dev Cert.AdamGainIdeal.nD,
      m' ((c.tc : Thread Cert.AdamGainReferenceIdeal.nD Cert.AdamGainReferenceIdeal.τ).loc Cert.AdamGainReferenceIdeal.main_arg0) = m ((c.tc : Thread Cert.AdamGainIdeal.nD Cert.AdamGainIdeal.τ).loc Cert.AdamGainIdeal.main_arg0)
      ∧ m' ((c.tc : Thread Cert.AdamGainReferenceIdeal.nD Cert.AdamGainReferenceIdeal.τ).loc Cert.AdamGainReferenceIdeal.main_arg1) = m ((c.tc : Thread Cert.AdamGainIdeal.nD Cert.AdamGainIdeal.τ).loc Cert.AdamGainIdeal.main_arg1)
      ∧ m' ((c.tc : Thread Cert.AdamGainReferenceIdeal.nD Cert.AdamGainReferenceIdeal.τ).loc Cert.AdamGainReferenceIdeal.main_arg2) = m ((c.tc : Thread Cert.AdamGainIdeal.nD Cert.AdamGainIdeal.τ).loc Cert.AdamGainIdeal.main_arg2)
      ∧ m' ((c.tc : Thread Cert.AdamGainReferenceIdeal.nD Cert.AdamGainReferenceIdeal.τ).loc Cert.AdamGainReferenceIdeal.main_arg3) = m ((c.tc : Thread Cert.AdamGainIdeal.nD Cert.AdamGainIdeal.τ).loc Cert.AdamGainIdeal.main_arg3)) →
    ∃ (v0 : (c : Dev Cert.AdamGainIdeal.nD) → Buf (Elt Ideal) ((c.tc : Thread Cert.AdamGainIdeal.nD Cert.AdamGainIdeal.τ).loc Cert.AdamGainIdeal.main_v0_0)) (v1 : (c : Dev Cert.AdamGainIdeal.nD) → Buf (Elt Ideal) ((c.tc : Thread Cert.AdamGainIdeal.nD Cert.AdamGainIdeal.τ).loc Cert.AdamGainIdeal.main_v0_1)) (v2 : (c : Dev Cert.AdamGainIdeal.nD) → Buf (Elt Ideal) ((c.tc : Thread Cert.AdamGainIdeal.nD Cert.AdamGainIdeal.τ).loc Cert.AdamGainIdeal.main_v0_2)),
      θ_run (Cert.AdamGainIdeal.defs (F := Ideal)) (onTc (τ := Cert.AdamGainIdeal.τ) (Cert.AdamGainIdeal.main (F := Ideal))) ⟨m, fun _ => 0, g⟩ (fun r => ∀ c : Dev Cert.AdamGainIdeal.nD,
          r.2.mem ((c.tc : Thread Cert.AdamGainIdeal.nD Cert.AdamGainIdeal.τ).loc Cert.AdamGainIdeal.main_v0_0) = v0 c
          ∧ r.2.mem ((c.tc : Thread Cert.AdamGainIdeal.nD Cert.AdamGainIdeal.τ).loc Cert.AdamGainIdeal.main_v0_1) = v1 c
          ∧ r.2.mem ((c.tc : Thread Cert.AdamGainIdeal.nD Cert.AdamGainIdeal.τ).loc Cert.AdamGainIdeal.main_v0_2) = v2 c
          ∧ r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
          ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
          ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
          ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3))
      ∧ θ_run (Cert.AdamGainReferenceIdeal.defs (F := Ideal)) (onTc (τ := Cert.AdamGainReferenceIdeal.τ) (Cert.AdamGainReferenceIdeal.main (F := Ideal))) ⟨m', fun _ => 0, g'⟩ (fun r => ∀ c : Dev Cert.AdamGainReferenceIdeal.nD,
          r.2.mem ((c.tc : Thread Cert.AdamGainReferenceIdeal.nD Cert.AdamGainReferenceIdeal.τ).loc Cert.AdamGainReferenceIdeal.main_v23) = v0 c
          ∧ r.2.mem ((c.tc : Thread Cert.AdamGainReferenceIdeal.nD Cert.AdamGainReferenceIdeal.τ).loc Cert.AdamGainReferenceIdeal.main_v4) = v1 c
          ∧ r.2.mem ((c.tc : Thread Cert.AdamGainReferenceIdeal.nD Cert.AdamGainReferenceIdeal.τ).loc Cert.AdamGainReferenceIdeal.main_v10) = v2 c
          ∧ r.2.mem ((c.tc : Thread Cert.AdamGainReferenceIdeal.nD Cert.AdamGainReferenceIdeal.τ).loc Cert.AdamGainReferenceIdeal.main_arg0) = m' ((c.tc : Thread Cert.AdamGainReferenceIdeal.nD Cert.AdamGainReferenceIdeal.τ).loc Cert.AdamGainReferenceIdeal.main_arg0)
          ∧ r.2.mem ((c.tc : Thread Cert.AdamGainReferenceIdeal.nD Cert.AdamGainReferenceIdeal.τ).loc Cert.AdamGainReferenceIdeal.main_arg1) = m' ((c.tc : Thread Cert.AdamGainReferenceIdeal.nD Cert.AdamGainReferenceIdeal.τ).loc Cert.AdamGainReferenceIdeal.main_arg1)
          ∧ r.2.mem ((c.tc : Thread Cert.AdamGainReferenceIdeal.nD Cert.AdamGainReferenceIdeal.τ).loc Cert.AdamGainReferenceIdeal.main_arg2) = m' ((c.tc : Thread Cert.AdamGainReferenceIdeal.nD Cert.AdamGainReferenceIdeal.τ).loc Cert.AdamGainReferenceIdeal.main_arg2)
          ∧ r.2.mem ((c.tc : Thread Cert.AdamGainReferenceIdeal.nD Cert.AdamGainReferenceIdeal.τ).loc Cert.AdamGainReferenceIdeal.main_arg3) = m' ((c.tc : Thread Cert.AdamGainReferenceIdeal.nD Cert.AdamGainReferenceIdeal.τ).loc Cert.AdamGainReferenceIdeal.main_arg3))

def preserves_AdamKvf_AdamKvfIdeal : Prop :=
  True

def algebraic_AdamKvfIdeal_AdamKvfReferenceIdeal [hAdamKvfIdeal : Cert.AdamKvfIdeal.Facts] [hAdamKvfReferenceIdeal : Cert.AdamKvfReferenceIdeal.Facts] : Prop :=
  ∀ (m : (ℓ : Loc Cert.AdamKvfIdeal.nD Cert.AdamKvfIdeal.τ Cert.AdamKvfIdeal.sig) → Buf (Elt Ideal) ℓ) (g : Dev Cert.AdamKvfIdeal.nD → PrngReg)
    (m' : (ℓ : Loc Cert.AdamKvfReferenceIdeal.nD Cert.AdamKvfReferenceIdeal.τ Cert.AdamKvfReferenceIdeal.sig) → Buf (Elt Ideal) ℓ) (g' : Dev Cert.AdamKvfReferenceIdeal.nD → PrngReg), Pre_AdamKvfIdeal m →
    (∀ c : Dev Cert.AdamKvfIdeal.nD,
      m' ((c.tc : Thread Cert.AdamKvfReferenceIdeal.nD Cert.AdamKvfReferenceIdeal.τ).loc Cert.AdamKvfReferenceIdeal.main_arg0) = m ((c.tc : Thread Cert.AdamKvfIdeal.nD Cert.AdamKvfIdeal.τ).loc Cert.AdamKvfIdeal.main_arg0)
      ∧ m' ((c.tc : Thread Cert.AdamKvfReferenceIdeal.nD Cert.AdamKvfReferenceIdeal.τ).loc Cert.AdamKvfReferenceIdeal.main_arg1) = m ((c.tc : Thread Cert.AdamKvfIdeal.nD Cert.AdamKvfIdeal.τ).loc Cert.AdamKvfIdeal.main_arg1)
      ∧ m' ((c.tc : Thread Cert.AdamKvfReferenceIdeal.nD Cert.AdamKvfReferenceIdeal.τ).loc Cert.AdamKvfReferenceIdeal.main_arg2) = m ((c.tc : Thread Cert.AdamKvfIdeal.nD Cert.AdamKvfIdeal.τ).loc Cert.AdamKvfIdeal.main_arg2)
      ∧ m' ((c.tc : Thread Cert.AdamKvfReferenceIdeal.nD Cert.AdamKvfReferenceIdeal.τ).loc Cert.AdamKvfReferenceIdeal.main_arg3) = m ((c.tc : Thread Cert.AdamKvfIdeal.nD Cert.AdamKvfIdeal.τ).loc Cert.AdamKvfIdeal.main_arg3)) →
    ∃ (v0 : (c : Dev Cert.AdamKvfIdeal.nD) → Buf (Elt Ideal) ((c.tc : Thread Cert.AdamKvfIdeal.nD Cert.AdamKvfIdeal.τ).loc Cert.AdamKvfIdeal.main_v0_0)) (v1 : (c : Dev Cert.AdamKvfIdeal.nD) → Buf (Elt Ideal) ((c.tc : Thread Cert.AdamKvfIdeal.nD Cert.AdamKvfIdeal.τ).loc Cert.AdamKvfIdeal.main_v0_1)) (v2 : (c : Dev Cert.AdamKvfIdeal.nD) → Buf (Elt Ideal) ((c.tc : Thread Cert.AdamKvfIdeal.nD Cert.AdamKvfIdeal.τ).loc Cert.AdamKvfIdeal.main_v0_2)),
      θ_run (Cert.AdamKvfIdeal.defs (F := Ideal)) (onTc (τ := Cert.AdamKvfIdeal.τ) (Cert.AdamKvfIdeal.main (F := Ideal))) ⟨m, fun _ => 0, g⟩ (fun r => ∀ c : Dev Cert.AdamKvfIdeal.nD,
          r.2.mem ((c.tc : Thread Cert.AdamKvfIdeal.nD Cert.AdamKvfIdeal.τ).loc Cert.AdamKvfIdeal.main_v0_0) = v0 c
          ∧ r.2.mem ((c.tc : Thread Cert.AdamKvfIdeal.nD Cert.AdamKvfIdeal.τ).loc Cert.AdamKvfIdeal.main_v0_1) = v1 c
          ∧ r.2.mem ((c.tc : Thread Cert.AdamKvfIdeal.nD Cert.AdamKvfIdeal.τ).loc Cert.AdamKvfIdeal.main_v0_2) = v2 c
          ∧ r.2.mem ((c.tc : Thread Cert.AdamKvfIdeal.nD Cert.AdamKvfIdeal.τ).loc Cert.AdamKvfIdeal.main_arg0) = m ((c.tc : Thread Cert.AdamKvfIdeal.nD Cert.AdamKvfIdeal.τ).loc Cert.AdamKvfIdeal.main_arg0)
          ∧ r.2.mem ((c.tc : Thread Cert.AdamKvfIdeal.nD Cert.AdamKvfIdeal.τ).loc Cert.AdamKvfIdeal.main_arg1) = m ((c.tc : Thread Cert.AdamKvfIdeal.nD Cert.AdamKvfIdeal.τ).loc Cert.AdamKvfIdeal.main_arg1)
          ∧ r.2.mem ((c.tc : Thread Cert.AdamKvfIdeal.nD Cert.AdamKvfIdeal.τ).loc Cert.AdamKvfIdeal.main_arg2) = m ((c.tc : Thread Cert.AdamKvfIdeal.nD Cert.AdamKvfIdeal.τ).loc Cert.AdamKvfIdeal.main_arg2)
          ∧ r.2.mem ((c.tc : Thread Cert.AdamKvfIdeal.nD Cert.AdamKvfIdeal.τ).loc Cert.AdamKvfIdeal.main_arg3) = m ((c.tc : Thread Cert.AdamKvfIdeal.nD Cert.AdamKvfIdeal.τ).loc Cert.AdamKvfIdeal.main_arg3))
      ∧ θ_run (Cert.AdamKvfReferenceIdeal.defs (F := Ideal)) (onTc (τ := Cert.AdamKvfReferenceIdeal.τ) (Cert.AdamKvfReferenceIdeal.main (F := Ideal))) ⟨m', fun _ => 0, g'⟩ (fun r => ∀ c : Dev Cert.AdamKvfReferenceIdeal.nD,
          r.2.mem ((c.tc : Thread Cert.AdamKvfReferenceIdeal.nD Cert.AdamKvfReferenceIdeal.τ).loc Cert.AdamKvfReferenceIdeal.main_v23) = v0 c
          ∧ r.2.mem ((c.tc : Thread Cert.AdamKvfReferenceIdeal.nD Cert.AdamKvfReferenceIdeal.τ).loc Cert.AdamKvfReferenceIdeal.main_v4) = v1 c
          ∧ r.2.mem ((c.tc : Thread Cert.AdamKvfReferenceIdeal.nD Cert.AdamKvfReferenceIdeal.τ).loc Cert.AdamKvfReferenceIdeal.main_v10) = v2 c
          ∧ r.2.mem ((c.tc : Thread Cert.AdamKvfReferenceIdeal.nD Cert.AdamKvfReferenceIdeal.τ).loc Cert.AdamKvfReferenceIdeal.main_arg0) = m' ((c.tc : Thread Cert.AdamKvfReferenceIdeal.nD Cert.AdamKvfReferenceIdeal.τ).loc Cert.AdamKvfReferenceIdeal.main_arg0)
          ∧ r.2.mem ((c.tc : Thread Cert.AdamKvfReferenceIdeal.nD Cert.AdamKvfReferenceIdeal.τ).loc Cert.AdamKvfReferenceIdeal.main_arg1) = m' ((c.tc : Thread Cert.AdamKvfReferenceIdeal.nD Cert.AdamKvfReferenceIdeal.τ).loc Cert.AdamKvfReferenceIdeal.main_arg1)
          ∧ r.2.mem ((c.tc : Thread Cert.AdamKvfReferenceIdeal.nD Cert.AdamKvfReferenceIdeal.τ).loc Cert.AdamKvfReferenceIdeal.main_arg2) = m' ((c.tc : Thread Cert.AdamKvfReferenceIdeal.nD Cert.AdamKvfReferenceIdeal.τ).loc Cert.AdamKvfReferenceIdeal.main_arg2)
          ∧ r.2.mem ((c.tc : Thread Cert.AdamKvfReferenceIdeal.nD Cert.AdamKvfReferenceIdeal.τ).loc Cert.AdamKvfReferenceIdeal.main_arg3) = m' ((c.tc : Thread Cert.AdamKvfReferenceIdeal.nD Cert.AdamKvfReferenceIdeal.τ).loc Cert.AdamKvfReferenceIdeal.main_arg3))

def preserves_AdamForget_AdamForgetIdeal : Prop :=
  True

def algebraic_AdamForgetIdeal_AdamForgetReferenceIdeal [hAdamForgetIdeal : Cert.AdamForgetIdeal.Facts] [hAdamForgetReferenceIdeal : Cert.AdamForgetReferenceIdeal.Facts] : Prop :=
  ∀ (m : (ℓ : Loc Cert.AdamForgetIdeal.nD Cert.AdamForgetIdeal.τ Cert.AdamForgetIdeal.sig) → Buf (Elt Ideal) ℓ) (g : Dev Cert.AdamForgetIdeal.nD → PrngReg)
    (m' : (ℓ : Loc Cert.AdamForgetReferenceIdeal.nD Cert.AdamForgetReferenceIdeal.τ Cert.AdamForgetReferenceIdeal.sig) → Buf (Elt Ideal) ℓ) (g' : Dev Cert.AdamForgetReferenceIdeal.nD → PrngReg), Pre_AdamForgetIdeal m →
    (∀ c : Dev Cert.AdamForgetIdeal.nD,
      m' ((c.tc : Thread Cert.AdamForgetReferenceIdeal.nD Cert.AdamForgetReferenceIdeal.τ).loc Cert.AdamForgetReferenceIdeal.main_arg0) = m ((c.tc : Thread Cert.AdamForgetIdeal.nD Cert.AdamForgetIdeal.τ).loc Cert.AdamForgetIdeal.main_arg0)
      ∧ m' ((c.tc : Thread Cert.AdamForgetReferenceIdeal.nD Cert.AdamForgetReferenceIdeal.τ).loc Cert.AdamForgetReferenceIdeal.main_arg1) = m ((c.tc : Thread Cert.AdamForgetIdeal.nD Cert.AdamForgetIdeal.τ).loc Cert.AdamForgetIdeal.main_arg1)
      ∧ m' ((c.tc : Thread Cert.AdamForgetReferenceIdeal.nD Cert.AdamForgetReferenceIdeal.τ).loc Cert.AdamForgetReferenceIdeal.main_arg2) = m ((c.tc : Thread Cert.AdamForgetIdeal.nD Cert.AdamForgetIdeal.τ).loc Cert.AdamForgetIdeal.main_arg2)
      ∧ m' ((c.tc : Thread Cert.AdamForgetReferenceIdeal.nD Cert.AdamForgetReferenceIdeal.τ).loc Cert.AdamForgetReferenceIdeal.main_arg3) = m ((c.tc : Thread Cert.AdamForgetIdeal.nD Cert.AdamForgetIdeal.τ).loc Cert.AdamForgetIdeal.main_arg3)) →
    ∃ (v0 : (c : Dev Cert.AdamForgetIdeal.nD) → Buf (Elt Ideal) ((c.tc : Thread Cert.AdamForgetIdeal.nD Cert.AdamForgetIdeal.τ).loc Cert.AdamForgetIdeal.main_v0_0)) (v1 : (c : Dev Cert.AdamForgetIdeal.nD) → Buf (Elt Ideal) ((c.tc : Thread Cert.AdamForgetIdeal.nD Cert.AdamForgetIdeal.τ).loc Cert.AdamForgetIdeal.main_v0_1)) (v2 : (c : Dev Cert.AdamForgetIdeal.nD) → Buf (Elt Ideal) ((c.tc : Thread Cert.AdamForgetIdeal.nD Cert.AdamForgetIdeal.τ).loc Cert.AdamForgetIdeal.main_v0_2)),
      θ_run (Cert.AdamForgetIdeal.defs (F := Ideal)) (onTc (τ := Cert.AdamForgetIdeal.τ) (Cert.AdamForgetIdeal.main (F := Ideal))) ⟨m, fun _ => 0, g⟩ (fun r => ∀ c : Dev Cert.AdamForgetIdeal.nD,
          r.2.mem ((c.tc : Thread Cert.AdamForgetIdeal.nD Cert.AdamForgetIdeal.τ).loc Cert.AdamForgetIdeal.main_v0_0) = v0 c
          ∧ r.2.mem ((c.tc : Thread Cert.AdamForgetIdeal.nD Cert.AdamForgetIdeal.τ).loc Cert.AdamForgetIdeal.main_v0_1) = v1 c
          ∧ r.2.mem ((c.tc : Thread Cert.AdamForgetIdeal.nD Cert.AdamForgetIdeal.τ).loc Cert.AdamForgetIdeal.main_v0_2) = v2 c
          ∧ r.2.mem ((c.tc : Thread Cert.AdamForgetIdeal.nD Cert.AdamForgetIdeal.τ).loc Cert.AdamForgetIdeal.main_arg0) = m ((c.tc : Thread Cert.AdamForgetIdeal.nD Cert.AdamForgetIdeal.τ).loc Cert.AdamForgetIdeal.main_arg0)
          ∧ r.2.mem ((c.tc : Thread Cert.AdamForgetIdeal.nD Cert.AdamForgetIdeal.τ).loc Cert.AdamForgetIdeal.main_arg1) = m ((c.tc : Thread Cert.AdamForgetIdeal.nD Cert.AdamForgetIdeal.τ).loc Cert.AdamForgetIdeal.main_arg1)
          ∧ r.2.mem ((c.tc : Thread Cert.AdamForgetIdeal.nD Cert.AdamForgetIdeal.τ).loc Cert.AdamForgetIdeal.main_arg2) = m ((c.tc : Thread Cert.AdamForgetIdeal.nD Cert.AdamForgetIdeal.τ).loc Cert.AdamForgetIdeal.main_arg2)
          ∧ r.2.mem ((c.tc : Thread Cert.AdamForgetIdeal.nD Cert.AdamForgetIdeal.τ).loc Cert.AdamForgetIdeal.main_arg3) = m ((c.tc : Thread Cert.AdamForgetIdeal.nD Cert.AdamForgetIdeal.τ).loc Cert.AdamForgetIdeal.main_arg3))
      ∧ θ_run (Cert.AdamForgetReferenceIdeal.defs (F := Ideal)) (onTc (τ := Cert.AdamForgetReferenceIdeal.τ) (Cert.AdamForgetReferenceIdeal.main (F := Ideal))) ⟨m', fun _ => 0, g'⟩ (fun r => ∀ c : Dev Cert.AdamForgetReferenceIdeal.nD,
          r.2.mem ((c.tc : Thread Cert.AdamForgetReferenceIdeal.nD Cert.AdamForgetReferenceIdeal.τ).loc Cert.AdamForgetReferenceIdeal.main_v23) = v0 c
          ∧ r.2.mem ((c.tc : Thread Cert.AdamForgetReferenceIdeal.nD Cert.AdamForgetReferenceIdeal.τ).loc Cert.AdamForgetReferenceIdeal.main_v4) = v1 c
          ∧ r.2.mem ((c.tc : Thread Cert.AdamForgetReferenceIdeal.nD Cert.AdamForgetReferenceIdeal.τ).loc Cert.AdamForgetReferenceIdeal.main_v10) = v2 c
          ∧ r.2.mem ((c.tc : Thread Cert.AdamForgetReferenceIdeal.nD Cert.AdamForgetReferenceIdeal.τ).loc Cert.AdamForgetReferenceIdeal.main_arg0) = m' ((c.tc : Thread Cert.AdamForgetReferenceIdeal.nD Cert.AdamForgetReferenceIdeal.τ).loc Cert.AdamForgetReferenceIdeal.main_arg0)
          ∧ r.2.mem ((c.tc : Thread Cert.AdamForgetReferenceIdeal.nD Cert.AdamForgetReferenceIdeal.τ).loc Cert.AdamForgetReferenceIdeal.main_arg1) = m' ((c.tc : Thread Cert.AdamForgetReferenceIdeal.nD Cert.AdamForgetReferenceIdeal.τ).loc Cert.AdamForgetReferenceIdeal.main_arg1)
          ∧ r.2.mem ((c.tc : Thread Cert.AdamForgetReferenceIdeal.nD Cert.AdamForgetReferenceIdeal.τ).loc Cert.AdamForgetReferenceIdeal.main_arg2) = m' ((c.tc : Thread Cert.AdamForgetReferenceIdeal.nD Cert.AdamForgetReferenceIdeal.τ).loc Cert.AdamForgetReferenceIdeal.main_arg2)
          ∧ r.2.mem ((c.tc : Thread Cert.AdamForgetReferenceIdeal.nD Cert.AdamForgetReferenceIdeal.τ).loc Cert.AdamForgetReferenceIdeal.main_arg3) = m' ((c.tc : Thread Cert.AdamForgetReferenceIdeal.nD Cert.AdamForgetReferenceIdeal.τ).loc Cert.AdamForgetReferenceIdeal.main_arg3))

def preserves_AdamInB_AdamInBIdeal : Prop :=
  True

def algebraic_AdamInBIdeal_AdamInBReferenceIdeal [hAdamInBIdeal : Cert.AdamInBIdeal.Facts] [hAdamInBReferenceIdeal : Cert.AdamInBReferenceIdeal.Facts] : Prop :=
  ∀ (m : (ℓ : Loc Cert.AdamInBIdeal.nD Cert.AdamInBIdeal.τ Cert.AdamInBIdeal.sig) → Buf (Elt Ideal) ℓ) (g : Dev Cert.AdamInBIdeal.nD → PrngReg)
    (m' : (ℓ : Loc Cert.AdamInBReferenceIdeal.nD Cert.AdamInBReferenceIdeal.τ Cert.AdamInBReferenceIdeal.sig) → Buf (Elt Ideal) ℓ) (g' : Dev Cert.AdamInBReferenceIdeal.nD → PrngReg), Pre_AdamInBIdeal m →
    (∀ c : Dev Cert.AdamInBIdeal.nD,
      m' ((c.tc : Thread Cert.AdamInBReferenceIdeal.nD Cert.AdamInBReferenceIdeal.τ).loc Cert.AdamInBReferenceIdeal.main_arg0) = m ((c.tc : Thread Cert.AdamInBIdeal.nD Cert.AdamInBIdeal.τ).loc Cert.AdamInBIdeal.main_arg0)
      ∧ m' ((c.tc : Thread Cert.AdamInBReferenceIdeal.nD Cert.AdamInBReferenceIdeal.τ).loc Cert.AdamInBReferenceIdeal.main_arg1) = m ((c.tc : Thread Cert.AdamInBIdeal.nD Cert.AdamInBIdeal.τ).loc Cert.AdamInBIdeal.main_arg1)
      ∧ m' ((c.tc : Thread Cert.AdamInBReferenceIdeal.nD Cert.AdamInBReferenceIdeal.τ).loc Cert.AdamInBReferenceIdeal.main_arg2) = m ((c.tc : Thread Cert.AdamInBIdeal.nD Cert.AdamInBIdeal.τ).loc Cert.AdamInBIdeal.main_arg2)
      ∧ m' ((c.tc : Thread Cert.AdamInBReferenceIdeal.nD Cert.AdamInBReferenceIdeal.τ).loc Cert.AdamInBReferenceIdeal.main_arg3) = m ((c.tc : Thread Cert.AdamInBIdeal.nD Cert.AdamInBIdeal.τ).loc Cert.AdamInBIdeal.main_arg3)) →
    ∃ (v0 : (c : Dev Cert.AdamInBIdeal.nD) → Buf (Elt Ideal) ((c.tc : Thread Cert.AdamInBIdeal.nD Cert.AdamInBIdeal.τ).loc Cert.AdamInBIdeal.main_v0_0)) (v1 : (c : Dev Cert.AdamInBIdeal.nD) → Buf (Elt Ideal) ((c.tc : Thread Cert.AdamInBIdeal.nD Cert.AdamInBIdeal.τ).loc Cert.AdamInBIdeal.main_v0_1)) (v2 : (c : Dev Cert.AdamInBIdeal.nD) → Buf (Elt Ideal) ((c.tc : Thread Cert.AdamInBIdeal.nD Cert.AdamInBIdeal.τ).loc Cert.AdamInBIdeal.main_v0_2)),
      θ_run (Cert.AdamInBIdeal.defs (F := Ideal)) (onTc (τ := Cert.AdamInBIdeal.τ) (Cert.AdamInBIdeal.main (F := Ideal))) ⟨m, fun _ => 0, g⟩ (fun r => ∀ c : Dev Cert.AdamInBIdeal.nD,
          r.2.mem ((c.tc : Thread Cert.AdamInBIdeal.nD Cert.AdamInBIdeal.τ).loc Cert.AdamInBIdeal.main_v0_0) = v0 c
          ∧ r.2.mem ((c.tc : Thread Cert.AdamInBIdeal.nD Cert.AdamInBIdeal.τ).loc Cert.AdamInBIdeal.main_v0_1) = v1 c
          ∧ r.2.mem ((c.tc : Thread Cert.AdamInBIdeal.nD Cert.AdamInBIdeal.τ).loc Cert.AdamInBIdeal.main_v0_2) = v2 c
          ∧ r.2.mem ((c.tc : Thread Cert.AdamInBIdeal.nD Cert.AdamInBIdeal.τ).loc Cert.AdamInBIdeal.main_arg0) = m ((c.tc : Thread Cert.AdamInBIdeal.nD Cert.AdamInBIdeal.τ).loc Cert.AdamInBIdeal.main_arg0)
          ∧ r.2.mem ((c.tc : Thread Cert.AdamInBIdeal.nD Cert.AdamInBIdeal.τ).loc Cert.AdamInBIdeal.main_arg1) = m ((c.tc : Thread Cert.AdamInBIdeal.nD Cert.AdamInBIdeal.τ).loc Cert.AdamInBIdeal.main_arg1)
          ∧ r.2.mem ((c.tc : Thread Cert.AdamInBIdeal.nD Cert.AdamInBIdeal.τ).loc Cert.AdamInBIdeal.main_arg2) = m ((c.tc : Thread Cert.AdamInBIdeal.nD Cert.AdamInBIdeal.τ).loc Cert.AdamInBIdeal.main_arg2)
          ∧ r.2.mem ((c.tc : Thread Cert.AdamInBIdeal.nD Cert.AdamInBIdeal.τ).loc Cert.AdamInBIdeal.main_arg3) = m ((c.tc : Thread Cert.AdamInBIdeal.nD Cert.AdamInBIdeal.τ).loc Cert.AdamInBIdeal.main_arg3))
      ∧ θ_run (Cert.AdamInBReferenceIdeal.defs (F := Ideal)) (onTc (τ := Cert.AdamInBReferenceIdeal.τ) (Cert.AdamInBReferenceIdeal.main (F := Ideal))) ⟨m', fun _ => 0, g'⟩ (fun r => ∀ c : Dev Cert.AdamInBReferenceIdeal.nD,
          r.2.mem ((c.tc : Thread Cert.AdamInBReferenceIdeal.nD Cert.AdamInBReferenceIdeal.τ).loc Cert.AdamInBReferenceIdeal.main_v23) = v0 c
          ∧ r.2.mem ((c.tc : Thread Cert.AdamInBReferenceIdeal.nD Cert.AdamInBReferenceIdeal.τ).loc Cert.AdamInBReferenceIdeal.main_v4) = v1 c
          ∧ r.2.mem ((c.tc : Thread Cert.AdamInBReferenceIdeal.nD Cert.AdamInBReferenceIdeal.τ).loc Cert.AdamInBReferenceIdeal.main_v10) = v2 c
          ∧ r.2.mem ((c.tc : Thread Cert.AdamInBReferenceIdeal.nD Cert.AdamInBReferenceIdeal.τ).loc Cert.AdamInBReferenceIdeal.main_arg0) = m' ((c.tc : Thread Cert.AdamInBReferenceIdeal.nD Cert.AdamInBReferenceIdeal.τ).loc Cert.AdamInBReferenceIdeal.main_arg0)
          ∧ r.2.mem ((c.tc : Thread Cert.AdamInBReferenceIdeal.nD Cert.AdamInBReferenceIdeal.τ).loc Cert.AdamInBReferenceIdeal.main_arg1) = m' ((c.tc : Thread Cert.AdamInBReferenceIdeal.nD Cert.AdamInBReferenceIdeal.τ).loc Cert.AdamInBReferenceIdeal.main_arg1)
          ∧ r.2.mem ((c.tc : Thread Cert.AdamInBReferenceIdeal.nD Cert.AdamInBReferenceIdeal.τ).loc Cert.AdamInBReferenceIdeal.main_arg2) = m' ((c.tc : Thread Cert.AdamInBReferenceIdeal.nD Cert.AdamInBReferenceIdeal.τ).loc Cert.AdamInBReferenceIdeal.main_arg2)
          ∧ r.2.mem ((c.tc : Thread Cert.AdamInBReferenceIdeal.nD Cert.AdamInBReferenceIdeal.τ).loc Cert.AdamInBReferenceIdeal.main_arg3) = m' ((c.tc : Thread Cert.AdamInBReferenceIdeal.nD Cert.AdamInBReferenceIdeal.τ).loc Cert.AdamInBReferenceIdeal.main_arg3))

def preserves_AdamMemKv_AdamMemKvIdeal : Prop :=
  True

def algebraic_AdamMemKvIdeal_AdamMemKvReferenceIdeal [hAdamMemKvIdeal : Cert.AdamMemKvIdeal.Facts] [hAdamMemKvReferenceIdeal : Cert.AdamMemKvReferenceIdeal.Facts] : Prop :=
  ∀ (m : (ℓ : Loc Cert.AdamMemKvIdeal.nD Cert.AdamMemKvIdeal.τ Cert.AdamMemKvIdeal.sig) → Buf (Elt Ideal) ℓ) (g : Dev Cert.AdamMemKvIdeal.nD → PrngReg)
    (m' : (ℓ : Loc Cert.AdamMemKvReferenceIdeal.nD Cert.AdamMemKvReferenceIdeal.τ Cert.AdamMemKvReferenceIdeal.sig) → Buf (Elt Ideal) ℓ) (g' : Dev Cert.AdamMemKvReferenceIdeal.nD → PrngReg), Pre_AdamMemKvIdeal m →
    (∀ c : Dev Cert.AdamMemKvIdeal.nD,
      m' ((c.tc : Thread Cert.AdamMemKvReferenceIdeal.nD Cert.AdamMemKvReferenceIdeal.τ).loc Cert.AdamMemKvReferenceIdeal.main_arg0) = m ((c.tc : Thread Cert.AdamMemKvIdeal.nD Cert.AdamMemKvIdeal.τ).loc Cert.AdamMemKvIdeal.main_arg0)
      ∧ m' ((c.tc : Thread Cert.AdamMemKvReferenceIdeal.nD Cert.AdamMemKvReferenceIdeal.τ).loc Cert.AdamMemKvReferenceIdeal.main_arg1) = m ((c.tc : Thread Cert.AdamMemKvIdeal.nD Cert.AdamMemKvIdeal.τ).loc Cert.AdamMemKvIdeal.main_arg1)
      ∧ m' ((c.tc : Thread Cert.AdamMemKvReferenceIdeal.nD Cert.AdamMemKvReferenceIdeal.τ).loc Cert.AdamMemKvReferenceIdeal.main_arg2) = m ((c.tc : Thread Cert.AdamMemKvIdeal.nD Cert.AdamMemKvIdeal.τ).loc Cert.AdamMemKvIdeal.main_arg2)
      ∧ m' ((c.tc : Thread Cert.AdamMemKvReferenceIdeal.nD Cert.AdamMemKvReferenceIdeal.τ).loc Cert.AdamMemKvReferenceIdeal.main_arg3) = m ((c.tc : Thread Cert.AdamMemKvIdeal.nD Cert.AdamMemKvIdeal.τ).loc Cert.AdamMemKvIdeal.main_arg3)) →
    ∃ (v0 : (c : Dev Cert.AdamMemKvIdeal.nD) → Buf (Elt Ideal) ((c.tc : Thread Cert.AdamMemKvIdeal.nD Cert.AdamMemKvIdeal.τ).loc Cert.AdamMemKvIdeal.main_v0_0)) (v1 : (c : Dev Cert.AdamMemKvIdeal.nD) → Buf (Elt Ideal) ((c.tc : Thread Cert.AdamMemKvIdeal.nD Cert.AdamMemKvIdeal.τ).loc Cert.AdamMemKvIdeal.main_v0_1)) (v2 : (c : Dev Cert.AdamMemKvIdeal.nD) → Buf (Elt Ideal) ((c.tc : Thread Cert.AdamMemKvIdeal.nD Cert.AdamMemKvIdeal.τ).loc Cert.AdamMemKvIdeal.main_v0_2)),
      θ_run (Cert.AdamMemKvIdeal.defs (F := Ideal)) (onTc (τ := Cert.AdamMemKvIdeal.τ) (Cert.AdamMemKvIdeal.main (F := Ideal))) ⟨m, fun _ => 0, g⟩ (fun r => ∀ c : Dev Cert.AdamMemKvIdeal.nD,
          r.2.mem ((c.tc : Thread Cert.AdamMemKvIdeal.nD Cert.AdamMemKvIdeal.τ).loc Cert.AdamMemKvIdeal.main_v0_0) = v0 c
          ∧ r.2.mem ((c.tc : Thread Cert.AdamMemKvIdeal.nD Cert.AdamMemKvIdeal.τ).loc Cert.AdamMemKvIdeal.main_v0_1) = v1 c
          ∧ r.2.mem ((c.tc : Thread Cert.AdamMemKvIdeal.nD Cert.AdamMemKvIdeal.τ).loc Cert.AdamMemKvIdeal.main_v0_2) = v2 c
          ∧ r.2.mem ((c.tc : Thread Cert.AdamMemKvIdeal.nD Cert.AdamMemKvIdeal.τ).loc Cert.AdamMemKvIdeal.main_arg0) = m ((c.tc : Thread Cert.AdamMemKvIdeal.nD Cert.AdamMemKvIdeal.τ).loc Cert.AdamMemKvIdeal.main_arg0)
          ∧ r.2.mem ((c.tc : Thread Cert.AdamMemKvIdeal.nD Cert.AdamMemKvIdeal.τ).loc Cert.AdamMemKvIdeal.main_arg1) = m ((c.tc : Thread Cert.AdamMemKvIdeal.nD Cert.AdamMemKvIdeal.τ).loc Cert.AdamMemKvIdeal.main_arg1)
          ∧ r.2.mem ((c.tc : Thread Cert.AdamMemKvIdeal.nD Cert.AdamMemKvIdeal.τ).loc Cert.AdamMemKvIdeal.main_arg2) = m ((c.tc : Thread Cert.AdamMemKvIdeal.nD Cert.AdamMemKvIdeal.τ).loc Cert.AdamMemKvIdeal.main_arg2)
          ∧ r.2.mem ((c.tc : Thread Cert.AdamMemKvIdeal.nD Cert.AdamMemKvIdeal.τ).loc Cert.AdamMemKvIdeal.main_arg3) = m ((c.tc : Thread Cert.AdamMemKvIdeal.nD Cert.AdamMemKvIdeal.τ).loc Cert.AdamMemKvIdeal.main_arg3))
      ∧ θ_run (Cert.AdamMemKvReferenceIdeal.defs (F := Ideal)) (onTc (τ := Cert.AdamMemKvReferenceIdeal.τ) (Cert.AdamMemKvReferenceIdeal.main (F := Ideal))) ⟨m', fun _ => 0, g'⟩ (fun r => ∀ c : Dev Cert.AdamMemKvReferenceIdeal.nD,
          r.2.mem ((c.tc : Thread Cert.AdamMemKvReferenceIdeal.nD Cert.AdamMemKvReferenceIdeal.τ).loc Cert.AdamMemKvReferenceIdeal.main_v23) = v0 c
          ∧ r.2.mem ((c.tc : Thread Cert.AdamMemKvReferenceIdeal.nD Cert.AdamMemKvReferenceIdeal.τ).loc Cert.AdamMemKvReferenceIdeal.main_v4) = v1 c
          ∧ r.2.mem ((c.tc : Thread Cert.AdamMemKvReferenceIdeal.nD Cert.AdamMemKvReferenceIdeal.τ).loc Cert.AdamMemKvReferenceIdeal.main_v10) = v2 c
          ∧ r.2.mem ((c.tc : Thread Cert.AdamMemKvReferenceIdeal.nD Cert.AdamMemKvReferenceIdeal.τ).loc Cert.AdamMemKvReferenceIdeal.main_arg0) = m' ((c.tc : Thread Cert.AdamMemKvReferenceIdeal.nD Cert.AdamMemKvReferenceIdeal.τ).loc Cert.AdamMemKvReferenceIdeal.main_arg0)
          ∧ r.2.mem ((c.tc : Thread Cert.AdamMemKvReferenceIdeal.nD Cert.AdamMemKvReferenceIdeal.τ).loc Cert.AdamMemKvReferenceIdeal.main_arg1) = m' ((c.tc : Thread Cert.AdamMemKvReferenceIdeal.nD Cert.AdamMemKvReferenceIdeal.τ).loc Cert.AdamMemKvReferenceIdeal.main_arg1)
          ∧ r.2.mem ((c.tc : Thread Cert.AdamMemKvReferenceIdeal.nD Cert.AdamMemKvReferenceIdeal.τ).loc Cert.AdamMemKvReferenceIdeal.main_arg2) = m' ((c.tc : Thread Cert.AdamMemKvReferenceIdeal.nD Cert.AdamMemKvReferenceIdeal.τ).loc Cert.AdamMemKvReferenceIdeal.main_arg2)
          ∧ r.2.mem ((c.tc : Thread Cert.AdamMemKvReferenceIdeal.nD Cert.AdamMemKvReferenceIdeal.τ).loc Cert.AdamMemKvReferenceIdeal.main_arg3) = m' ((c.tc : Thread Cert.AdamMemKvReferenceIdeal.nD Cert.AdamMemKvReferenceIdeal.τ).loc Cert.AdamMemKvReferenceIdeal.main_arg3))

def preserves_AdamOut_AdamOutIdeal : Prop :=
  True

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v23) = v0 c
          ∧ r.2.mem ((c.tc : Thread Cert.AdamOutReferenceIdeal.nD Cert.AdamOutReferenceIdeal.τ).loc Cert.AdamOutReferenceIdeal.main_v4) = v1 c
          ∧ r.2.mem ((c.tc : Thread Cert.AdamOutReferenceIdeal.nD Cert.AdamOutReferenceIdeal.τ).loc Cert.AdamOutReferenceIdeal.main_v10) = v2 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3))

def preserves_AdamUp_AdamUpIdeal : Prop :=
  True

def algebraic_AdamUpIdeal_AdamUpReferenceIdeal [hAdamUpIdeal : Cert.AdamUpIdeal.Facts] [hAdamUpReferenceIdeal : Cert.AdamUpReferenceIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpReferenceIdeal.nD Cert.AdamUpReferenceIdeal.τ Cert.AdamUpReferenceIdeal.sig) → Buf (Elt Ideal) ℓ) (g' : Dev Cert.AdamUpReferenceIdeal.nD → PrngReg), Pre_AdamUpIdeal m →
    (∀ c : Dev Cert.AdamUpIdeal.nD,
      m' ((c.tc : Thread Cert.AdamUpReferenceIdeal.nD Cert.AdamUpReferenceIdeal.τ).loc Cert.AdamUpReferenceIdeal.main_arg0) = m ((c.tc : Thread Cert.AdamUpIdeal.nD Cert.AdamUpIdeal.τ).loc Cert.AdamUpIdeal.main_arg0)
      ∧ m' ((c.tc : Thread Cert.AdamUpReferenceIdeal.nD Cert.AdamUpReferenceIdeal.τ).loc Cert.AdamUpReferenceIdeal.main_arg1) = m ((c.tc : Thread Cert.AdamUpIdeal.nD Cert.AdamUpIdeal.τ).loc Cert.AdamUpIdeal.main_arg1)
      ∧ m' ((c.tc : Thread Cert.AdamUpReferenceIdeal.nD Cert.AdamUpReferenceIdeal.τ).loc Cert.AdamUpReferenceIdeal.main_arg2) = m ((c.tc : Thread Cert.AdamUpIdeal.nD Cert.AdamUpIdeal.τ).loc Cert.AdamUpIdeal.main_arg2)
      ∧ m' ((c.tc : Thread Cert.AdamUpReferenceIdeal.nD Cert.AdamUpReferenceIdeal.τ).loc Cert.AdamUpReferenceIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpReferenceIdeal.defs (F := Ideal)) (onTc (τ := Cert.AdamUpReferenceIdeal.τ) (Cert.AdamUpReferenceIdeal.main (F := Ideal))) ⟨m', fun _ => 0, g'⟩ (fun r => ∀ c : Dev Cert.AdamUpReferenceIdeal.nD,
          r.2.mem ((c.tc : Thread Cert.AdamUpReferenceIdeal.nD Cert.AdamUpReferenceIdeal.τ).loc Cert.AdamUpReferenceIdeal.main_v23) = v0 c
          ∧ r.2.mem ((c.tc : Thread Cert.AdamUpReferenceIdeal.nD Cert.AdamUpReferenceIdeal.τ).loc Cert.AdamUpReferenceIdeal.main_v4) = v1 c
          ∧ r.2.mem ((c.tc : Thread Cert.AdamUpReferenceIdeal.nD Cert.AdamUpReferenceIdeal.τ).loc Cert.AdamUpReferenceIdeal.main_v10) = v2 c
          ∧ r.2.mem ((c.tc : Thread Cert.AdamUpReferenceIdeal.nD Cert.AdamUpReferenceIdeal.τ).loc Cert.AdamUpReferenceIdeal.main_arg0) = m' ((c.tc : Thread Cert.AdamUpReferenceIdeal.nD Cert.AdamUpReferenceIdeal.τ).loc Cert.AdamUpReferenceIdeal.main_arg0)
          ∧ r.2.mem ((c.tc : Thread Cert.AdamUpReferenceIdeal.nD Cert.AdamUpReferenceIdeal.τ).loc Cert.AdamUpReferenceIdeal.main_arg1) = m' ((c.tc : Thread Cert.AdamUpReferenceIdeal.nD Cert.AdamUpReferenceIdeal.τ).loc Cert.AdamUpReferenceIdeal.main_arg1)
          ∧ r.2.mem ((c.tc : Thread Cert.AdamUpReferenceIdeal.nD Cert.AdamUpReferenceIdeal.τ).loc Cert.AdamUpReferenceIdeal.main_arg2) = m' ((c.tc : Thread Cert.AdamUpReferenceIdeal.nD Cert.AdamUpReferenceIdeal.τ).loc Cert.AdamUpReferenceIdeal.main_arg2)
          ∧ r.2.mem ((c.tc : Thread Cert.AdamUpReferenceIdeal.nD Cert.AdamUpReferenceIdeal.τ).loc Cert.AdamUpReferenceIdeal.main_arg3) = m' ((c.tc : Thread Cert.AdamUpReferenceIdeal.nD Cert.AdamUpReferenceIdeal.τ).loc Cert.AdamUpReferenceIdeal.main_arg3))

def preserves_AdamFfnConv_AdamFfnConvIdeal : Prop :=
  True

def algebraic_AdamFfnConvIdeal_AdamFfnConvReferenceIdeal [hAdamFfnConvIdeal : Cert.AdamFfnConvIdeal.Facts] [hAdamFfnConvReferenceIdeal : Cert.AdamFfnConvReferenceIdeal.Facts] : Prop :=
  ∀ (m : (ℓ : Loc Cert.AdamFfnConvIdeal.nD Cert.AdamFfnConvIdeal.τ Cert.AdamFfnConvIdeal.sig) → Buf (Elt Ideal) ℓ) (g : Dev Cert.AdamFfnConvIdeal.nD → PrngReg)
    (m' : (ℓ : Loc Cert.AdamFfnConvReferenceIdeal.nD Cert.AdamFfnConvReferenceIdeal.τ Cert.AdamFfnConvReferenceIdeal.sig) → Buf (Elt Ideal) ℓ) (g' : Dev Cert.AdamFfnConvReferenceIdeal.nD → PrngReg), Pre_AdamFfnConvIdeal m →
    (∀ c : Dev Cert.AdamFfnConvIdeal.nD,
      m' ((c.tc : Thread Cert.AdamFfnConvReferenceIdeal.nD Cert.AdamFfnConvReferenceIdeal.τ).loc Cert.AdamFfnConvReferenceIdeal.main_arg0) = m ((c.tc : Thread Cert.AdamFfnConvIdeal.nD Cert.AdamFfnConvIdeal.τ).loc Cert.AdamFfnConvIdeal.main_arg0)
      ∧ m' ((c.tc : Thread Cert.AdamFfnConvReferenceIdeal.nD Cert.AdamFfnConvReferenceIdeal.τ).loc Cert.AdamFfnConvReferenceIdeal.main_arg1) = m ((c.tc : Thread Cert.AdamFfnConvIdeal.nD Cert.AdamFfnConvIdeal.τ).loc Cert.AdamFfnConvIdeal.main_arg1)
      ∧ m' ((c.tc : Thread Cert.AdamFfnConvReferenceIdeal.nD Cert.AdamFfnConvReferenceIdeal.τ).loc Cert.AdamFfnConvReferenceIdeal.main_arg2) = m ((c.tc : Thread Cert.AdamFfnConvIdeal.nD Cert.AdamFfnConvIdeal.τ).loc Cert.AdamFfnConvIdeal.main_arg2)
      ∧ m' ((c.tc : Thread Cert.AdamFfnConvReferenceIdeal.nD Cert.AdamFfnConvReferenceIdeal.τ).loc Cert.AdamFfnConvReferenceIdeal.main_arg3) = m ((c.tc : Thread Cert.AdamFfnConvIdeal.nD Cert.AdamFfnConvIdeal.τ).loc Cert.AdamFfnConvIdeal.main_arg3)) →
    ∃ (v0 : (c : Dev Cert.AdamFfnConvIdeal.nD) → Buf (Elt Ideal) ((c.tc : Thread Cert.AdamFfnConvIdeal.nD Cert.AdamFfnConvIdeal.τ).loc Cert.AdamFfnConvIdeal.main_v0_0)) (v1 : (c : Dev Cert.AdamFfnConvIdeal.nD) → Buf (Elt Ideal) ((c.tc : Thread Cert.AdamFfnConvIdeal.nD Cert.AdamFfnConvIdeal.τ).loc Cert.AdamFfnConvIdeal.main_v0_1)) (v2 : (c : Dev Cert.AdamFfnConvIdeal.nD) → Buf (Elt Ideal) ((c.tc : Thread Cert.AdamFfnConvIdeal.nD Cert.AdamFfnConvIdeal.τ).loc Cert.AdamFfnConvIdeal.main_v0_2)),
      θ_run (Cert.AdamFfnConvIdeal.defs (F := Ideal)) (onTc (τ := Cert.AdamFfnConvIdeal.τ) (Cert.AdamFfnConvIdeal.main (F := Ideal))) ⟨m, fun _ => 0, g⟩ (fun r => ∀ c : Dev Cert.AdamFfnConvIdeal.nD,
          r.2.mem ((c.tc : Thread Cert.AdamFfnConvIdeal.nD Cert.AdamFfnConvIdeal.τ).loc Cert.AdamFfnConvIdeal.main_v0_0) = v0 c
          ∧ r.2.mem ((c.tc : Thread Cert.AdamFfnConvIdeal.nD Cert.AdamFfnConvIdeal.τ).loc Cert.AdamFfnConvIdeal.main_v0_1) = v1 c
          ∧ r.2.mem ((c.tc : Thread Cert.AdamFfnConvIdeal.nD Cert.AdamFfnConvIdeal.τ).loc Cert.AdamFfnConvIdeal.main_v0_2) = v2 c
          ∧ r.2.mem ((c.tc : Thread Cert.AdamFfnConvIdeal.nD Cert.AdamFfnConvIdeal.τ).loc Cert.AdamFfnConvIdeal.main_arg0) = m ((c.tc : Thread Cert.AdamFfnConvIdeal.nD Cert.AdamFfnConvIdeal.τ).loc Cert.AdamFfnConvIdeal.main_arg0)
          ∧ r.2.mem ((c.tc : Thread Cert.AdamFfnConvIdeal.nD Cert.AdamFfnConvIdeal.τ).loc Cert.AdamFfnConvIdeal.main_arg1) = m ((c.tc : Thread Cert.AdamFfnConvIdeal.nD Cert.AdamFfnConvIdeal.τ).loc Cert.AdamFfnConvIdeal.main_arg1)
          ∧ r.2.mem ((c.tc : Thread Cert.AdamFfnConvIdeal.nD Cert.AdamFfnConvIdeal.τ).loc Cert.AdamFfnConvIdeal.main_arg2) = m ((c.tc : Thread Cert.AdamFfnConvIdeal.nD Cert.AdamFfnConvIdeal.τ).loc Cert.AdamFfnConvIdeal.main_arg2)
          ∧ r.2.mem ((c.tc : Thread Cert.AdamFfnConvIdeal.nD Cert.AdamFfnConvIdeal.τ).loc Cert.AdamFfnConvIdeal.main_arg3) = m ((c.tc : Thread Cert.AdamFfnConvIdeal.nD Cert.AdamFfnConvIdeal.τ).loc Cert.AdamFfnConvIdeal.main_arg3))
      ∧ θ_run (Cert.AdamFfnConvReferenceIdeal.defs (F := Ideal)) (onTc (τ := Cert.AdamFfnConvReferenceIdeal.τ) (Cert.AdamFfnConvReferenceIdeal.main (F := Ideal))) ⟨m', fun _ => 0, g'⟩ (fun r => ∀ c : Dev Cert.AdamFfnConvReferenceIdeal.nD,
          r.2.mem ((c.tc : Thread Cert.AdamFfnConvReferenceIdeal.nD Cert.AdamFfnConvReferenceIdeal.τ).loc Cert.AdamFfnConvReferenceIdeal.main_v23) = v0 c
          ∧ r.2.mem ((c.tc : Thread Cert.AdamFfnConvReferenceIdeal.nD Cert.AdamFfnConvReferenceIdeal.τ).loc Cert.AdamFfnConvReferenceIdeal.main_v4) = v1 c
          ∧ r.2.mem ((c.tc : Thread Cert.AdamFfnConvReferenceIdeal.nD Cert.AdamFfnConvReferenceIdeal.τ).loc Cert.AdamFfnConvReferenceIdeal.main_v10) = v2 c
          ∧ r.2.mem ((c.tc : Thread Cert.AdamFfnConvReferenceIdeal.nD Cert.AdamFfnConvReferenceIdeal.τ).loc Cert.AdamFfnConvReferenceIdeal.main_arg0) = m' ((c.tc : Thread Cert.AdamFfnConvReferenceIdeal.nD Cert.AdamFfnConvReferenceIdeal.τ).loc Cert.AdamFfnConvReferenceIdeal.main_arg0)
          ∧ r.2.mem ((c.tc : Thread Cert.AdamFfnConvReferenceIdeal.nD Cert.AdamFfnConvReferenceIdeal.τ).loc Cert.AdamFfnConvReferenceIdeal.main_arg1) = m' ((c.tc : Thread Cert.AdamFfnConvReferenceIdeal.nD Cert.AdamFfnConvReferenceIdeal.τ).loc Cert.AdamFfnConvReferenceIdeal.main_arg1)
          ∧ r.2.mem ((c.tc : Thread Cert.AdamFfnConvReferenceIdeal.nD Cert.AdamFfnConvReferenceIdeal.τ).loc Cert.AdamFfnConvReferenceIdeal.main_arg2) = m' ((c.tc : Thread Cert.AdamFfnConvReferenceIdeal.nD Cert.AdamFfnConvReferenceIdeal.τ).loc Cert.AdamFfnConvReferenceIdeal.main_arg2)
          ∧ r.2.mem ((c.tc : Thread Cert.AdamFfnConvReferenceIdeal.nD Cert.AdamFfnConvReferenceIdeal.τ).loc Cert.AdamFfnConvReferenceIdeal.main_arg3) = m' ((c.tc : Thread Cert.AdamFfnConvReferenceIdeal.nD Cert.AdamFfnConvReferenceIdeal.τ).loc Cert.AdamFfnConvReferenceIdeal.main_arg3))

def preserves_AdamFfnBias_AdamFfnBiasIdeal : Prop :=
  True

def algebraic_AdamFfnBiasIdeal_AdamFfnBiasReferenceIdeal [hAdamFfnBiasIdeal : Cert.AdamFfnBiasIdeal.Facts] [hAdamFfnBiasReferenceIdeal : Cert.AdamFfnBiasReferenceIdeal.Facts] : Prop :=
  ∀ (m : (ℓ : Loc Cert.AdamFfnBiasIdeal.nD Cert.AdamFfnBiasIdeal.τ Cert.AdamFfnBiasIdeal.sig) → Buf (Elt Ideal) ℓ) (g : Dev Cert.AdamFfnBiasIdeal.nD → PrngReg)
    (m' : (ℓ : Loc Cert.AdamFfnBiasReferenceIdeal.nD Cert.AdamFfnBiasReferenceIdeal.τ Cert.AdamFfnBiasReferenceIdeal.sig) → Buf (Elt Ideal) ℓ) (g' : Dev Cert.AdamFfnBiasReferenceIdeal.nD → PrngReg), Pre_AdamFfnBiasIdeal m →
    (∀ c : Dev Cert.AdamFfnBiasIdeal.nD,
      m' ((c.tc : Thread Cert.AdamFfnBiasReferenceIdeal.nD Cert.AdamFfnBiasReferenceIdeal.τ).loc Cert.AdamFfnBiasReferenceIdeal.main_arg0) = m ((c.tc : Thread Cert.AdamFfnBiasIdeal.nD Cert.AdamFfnBiasIdeal.τ).loc Cert.AdamFfnBiasIdeal.main_arg0)
      ∧ m' ((c.tc : Thread Cert.AdamFfnBiasReferenceIdeal.nD Cert.AdamFfnBiasReferenceIdeal.τ).loc Cert.AdamFfnBiasReferenceIdeal.main_arg1) = m ((c.tc : Thread Cert.AdamFfnBiasIdeal.nD Cert.AdamFfnBiasIdeal.τ).loc Cert.AdamFfnBiasIdeal.main_arg1)
      ∧ m' ((c.tc : Thread Cert.AdamFfnBiasReferenceIdeal.nD Cert.AdamFfnBiasReferenceIdeal.τ).loc Cert.AdamFfnBiasReferenceIdeal.main_arg2) = m ((c.tc : Thread Cert.AdamFfnBiasIdeal.nD Cert.AdamFfnBiasIdeal.τ).loc Cert.AdamFfnBiasIdeal.main_arg2)
      ∧ m' ((c.tc : Thread Cert.AdamFfnBiasReferenceIdeal.nD Cert.AdamFfnBiasReferenceIdeal.τ).loc Cert.AdamFfnBiasReferenceIdeal.main_arg3) = m ((c.tc : Thread Cert.AdamFfnBiasIdeal.nD Cert.AdamFfnBiasIdeal.τ).loc Cert.AdamFfnBiasIdeal.main_arg3)) →
    ∃ (v0 : (c : Dev Cert.AdamFfnBiasIdeal.nD) → Buf (Elt Ideal) ((c.tc : Thread Cert.AdamFfnBiasIdeal.nD Cert.AdamFfnBiasIdeal.τ).loc Cert.AdamFfnBiasIdeal.main_v0_0)) (v1 : (c : Dev Cert.AdamFfnBiasIdeal.nD) → Buf (Elt Ideal) ((c.tc : Thread Cert.AdamFfnBiasIdeal.nD Cert.AdamFfnBiasIdeal.τ).loc Cert.AdamFfnBiasIdeal.main_v0_1)) (v2 : (c : Dev Cert.AdamFfnBiasIdeal.nD) → Buf (Elt Ideal) ((c.tc : Thread Cert.AdamFfnBiasIdeal.nD Cert.AdamFfnBiasIdeal.τ).loc Cert.AdamFfnBiasIdeal.main_v0_2)),
      θ_run (Cert.AdamFfnBiasIdeal.defs (F := Ideal)) (onTc (τ := Cert.AdamFfnBiasIdeal.τ) (Cert.AdamFfnBiasIdeal.main (F := Ideal))) ⟨m, fun _ => 0, g⟩ (fun r => ∀ c : Dev Cert.AdamFfnBiasIdeal.nD,
          r.2.mem ((c.tc : Thread Cert.AdamFfnBiasIdeal.nD Cert.AdamFfnBiasIdeal.τ).loc Cert.AdamFfnBiasIdeal.main_v0_0) = v0 c
          ∧ r.2.mem ((c.tc : Thread Cert.AdamFfnBiasIdeal.nD Cert.AdamFfnBiasIdeal.τ).loc Cert.AdamFfnBiasIdeal.main_v0_1) = v1 c
          ∧ r.2.mem ((c.tc : Thread Cert.AdamFfnBiasIdeal.nD Cert.AdamFfnBiasIdeal.τ).loc Cert.AdamFfnBiasIdeal.main_v0_2) = v2 c
          ∧ r.2.mem ((c.tc : Thread Cert.AdamFfnBiasIdeal.nD Cert.AdamFfnBiasIdeal.τ).loc Cert.AdamFfnBiasIdeal.main_arg0) = m ((c.tc : Thread Cert.AdamFfnBiasIdeal.nD Cert.AdamFfnBiasIdeal.τ).loc Cert.AdamFfnBiasIdeal.main_arg0)
          ∧ r.2.mem ((c.tc : Thread Cert.AdamFfnBiasIdeal.nD Cert.AdamFfnBiasIdeal.τ).loc Cert.AdamFfnBiasIdeal.main_arg1) = m ((c.tc : Thread Cert.AdamFfnBiasIdeal.nD Cert.AdamFfnBiasIdeal.τ).loc Cert.AdamFfnBiasIdeal.main_arg1)
          ∧ r.2.mem ((c.tc : Thread Cert.AdamFfnBiasIdeal.nD Cert.AdamFfnBiasIdeal.τ).loc Cert.AdamFfnBiasIdeal.main_arg2) = m ((c.tc : Thread Cert.AdamFfnBiasIdeal.nD Cert.AdamFfnBiasIdeal.τ).loc Cert.AdamFfnBiasIdeal.main_arg2)
          ∧ r.2.mem ((c.tc : Thread Cert.AdamFfnBiasIdeal.nD Cert.AdamFfnBiasIdeal.τ).loc Cert.AdamFfnBiasIdeal.main_arg3) = m ((c.tc : Thread Cert.AdamFfnBiasIdeal.nD Cert.AdamFfnBiasIdeal.τ).loc Cert.AdamFfnBiasIdeal.main_arg3))
      ∧ θ_run (Cert.AdamFfnBiasReferenceIdeal.defs (F := Ideal)) (onTc (τ := Cert.AdamFfnBiasReferenceIdeal.τ) (Cert.AdamFfnBiasReferenceIdeal.main (F := Ideal))) ⟨m', fun _ => 0, g'⟩ (fun r => ∀ c : Dev Cert.AdamFfnBiasReferenceIdeal.nD,
          r.2.mem ((c.tc : Thread Cert.AdamFfnBiasReferenceIdeal.nD Cert.AdamFfnBiasReferenceIdeal.τ).loc Cert.AdamFfnBiasReferenceIdeal.main_v23) = v0 c
          ∧ r.2.mem ((c.tc : Thread Cert.AdamFfnBiasReferenceIdeal.nD Cert.AdamFfnBiasReferenceIdeal.τ).loc Cert.AdamFfnBiasReferenceIdeal.main_v4) = v1 c
          ∧ r.2.mem ((c.tc : Thread Cert.AdamFfnBiasReferenceIdeal.nD Cert.AdamFfnBiasReferenceIdeal.τ).loc Cert.AdamFfnBiasReferenceIdeal.main_v10) = v2 c
          ∧ r.2.mem ((c.tc : Thread Cert.AdamFfnBiasReferenceIdeal.nD Cert.AdamFfnBiasReferenceIdeal.τ).loc Cert.AdamFfnBiasReferenceIdeal.main_arg0) = m' ((c.tc : Thread Cert.AdamFfnBiasReferenceIdeal.nD Cert.AdamFfnBiasReferenceIdeal.τ).loc Cert.AdamFfnBiasReferenceIdeal.main_arg0)
          ∧ r.2.mem ((c.tc : Thread Cert.AdamFfnBiasReferenceIdeal.nD Cert.AdamFfnBiasReferenceIdeal.τ).loc Cert.AdamFfnBiasReferenceIdeal.main_arg1) = m' ((c.tc : Thread Cert.AdamFfnBiasReferenceIdeal.nD Cert.AdamFfnBiasReferenceIdeal.τ).loc Cert.AdamFfnBiasReferenceIdeal.main_arg1)
          ∧ r.2.mem ((c.tc : Thread Cert.AdamFfnBiasReferenceIdeal.nD Cert.AdamFfnBiasReferenceIdeal.τ).loc Cert.AdamFfnBiasReferenceIdeal.main_arg2) = m' ((c.tc : Thread Cert.AdamFfnBiasReferenceIdeal.nD Cert.AdamFfnBiasReferenceIdeal.τ).loc Cert.AdamFfnBiasReferenceIdeal.main_arg2)
          ∧ r.2.mem ((c.tc : Thread Cert.AdamFfnBiasReferenceIdeal.nD Cert.AdamFfnBiasReferenceIdeal.τ).loc Cert.AdamFfnBiasReferenceIdeal.main_arg3) = m' ((c.tc : Thread Cert.AdamFfnBiasReferenceIdeal.nD Cert.AdamFfnBiasReferenceIdeal.τ).loc Cert.AdamFfnBiasReferenceIdeal.main_arg3))

def preserves_AdamDown_AdamDownIdeal : Prop :=
  True

def algebraic_AdamDownIdeal_AdamDownReferenceIdeal [hAdamDownIdeal : Cert.AdamDownIdeal.Facts] [hAdamDownReferenceIdeal : Cert.AdamDownReferenceIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownReferenceIdeal.nD Cert.AdamDownReferenceIdeal.τ Cert.AdamDownReferenceIdeal.sig) → Buf (Elt Ideal) ℓ) (g' : Dev Cert.AdamDownReferenceIdeal.nD → PrngReg), Pre_AdamDownIdeal m →
    (∀ c : Dev Cert.AdamDownIdeal.nD,
      m' ((c.tc : Thread Cert.AdamDownReferenceIdeal.nD Cert.AdamDownReferenceIdeal.τ).loc Cert.AdamDownReferenceIdeal.main_arg0) = m ((c.tc : Thread Cert.AdamDownIdeal.nD Cert.AdamDownIdeal.τ).loc Cert.AdamDownIdeal.main_arg0)
      ∧ m' ((c.tc : Thread Cert.AdamDownReferenceIdeal.nD Cert.AdamDownReferenceIdeal.τ).loc Cert.AdamDownReferenceIdeal.main_arg1) = m ((c.tc : Thread Cert.AdamDownIdeal.nD Cert.AdamDownIdeal.τ).loc Cert.AdamDownIdeal.main_arg1)
      ∧ m' ((c.tc : Thread Cert.AdamDownReferenceIdeal.nD Cert.AdamDownReferenceIdeal.τ).loc Cert.AdamDownReferenceIdeal.main_arg2) = m ((c.tc : Thread Cert.AdamDownIdeal.nD Cert.AdamDownIdeal.τ).loc Cert.AdamDownIdeal.main_arg2)
      ∧ m' ((c.tc : Thread Cert.AdamDownReferenceIdeal.nD Cert.AdamDownReferenceIdeal.τ).loc Cert.AdamDownReferenceIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownReferenceIdeal.defs (F := Ideal)) (onTc (τ := Cert.AdamDownReferenceIdeal.τ) (Cert.AdamDownReferenceIdeal.main (F := Ideal))) ⟨m', fun _ => 0, g'⟩ (fun r => ∀ c : Dev Cert.AdamDownReferenceIdeal.nD,
          r.2.mem ((c.tc : Thread Cert.AdamDownReferenceIdeal.nD Cert.AdamDownReferenceIdeal.τ).loc Cert.AdamDownReferenceIdeal.main_v23) = v0 c
          ∧ r.2.mem ((c.tc : Thread Cert.AdamDownReferenceIdeal.nD Cert.AdamDownReferenceIdeal.τ).loc Cert.AdamDownReferenceIdeal.main_v4) = v1 c
          ∧ r.2.mem ((c.tc : Thread Cert.AdamDownReferenceIdeal.nD Cert.AdamDownReferenceIdeal.τ).loc Cert.AdamDownReferenceIdeal.main_v10) = v2 c
          ∧ r.2.mem ((c.tc : Thread Cert.AdamDownReferenceIdeal.nD Cert.AdamDownReferenceIdeal.τ).loc Cert.AdamDownReferenceIdeal.main_arg0) = m' ((c.tc : Thread Cert.AdamDownReferenceIdeal.nD Cert.AdamDownReferenceIdeal.τ).loc Cert.AdamDownReferenceIdeal.main_arg0)
          ∧ r.2.mem ((c.tc : Thread Cert.AdamDownReferenceIdeal.nD Cert.AdamDownReferenceIdeal.τ).loc Cert.AdamDownReferenceIdeal.main_arg1) = m' ((c.tc : Thread Cert.AdamDownReferenceIdeal.nD Cert.AdamDownReferenceIdeal.τ).loc Cert.AdamDownReferenceIdeal.main_arg1)
          ∧ r.2.mem ((c.tc : Thread Cert.AdamDownReferenceIdeal.nD Cert.AdamDownReferenceIdeal.τ).loc Cert.AdamDownReferenceIdeal.main_arg2) = m' ((c.tc : Thread Cert.AdamDownReferenceIdeal.nD Cert.AdamDownReferenceIdeal.τ).loc Cert.AdamDownReferenceIdeal.main_arg2)
          ∧ r.2.mem ((c.tc : Thread Cert.AdamDownReferenceIdeal.nD Cert.AdamDownReferenceIdeal.τ).loc Cert.AdamDownReferenceIdeal.main_arg3) = m' ((c.tc : Thread Cert.AdamDownReferenceIdeal.nD Cert.AdamDownReferenceIdeal.τ).loc Cert.AdamDownReferenceIdeal.main_arg3))

def Claim : Prop :=
  ∃ (hKernel : Cert.Kernel.Facts) (hKernelIdeal : Cert.KernelIdeal.Facts) (hReferenceIdeal : Cert.ReferenceIdeal.Facts) (hDownHidden : Cert.DownHidden.Facts) (hDownHiddenIdeal : Cert.DownHiddenIdeal.Facts) (hDownHiddenReferenceIdeal : Cert.DownHiddenReferenceIdeal.Facts) (hDownWeight : Cert.DownWeight.Facts) (hDownWeightIdeal : Cert.DownWeightIdeal.Facts) (hDownWeightReferenceIdeal : Cert.DownWeightReferenceIdeal.Facts) (hUpInput : Cert.UpInput.Facts) (hUpInputIdeal : Cert.UpInputIdeal.Facts) (hUpInputReferenceIdeal : Cert.UpInputReferenceIdeal.Facts) (hUpInputAdd : Cert.UpInputAdd.Facts) (hUpInputAddIdeal : Cert.UpInputAddIdeal.Facts) (hUpInputAddReferenceIdeal : Cert.UpInputAddReferenceIdeal.Facts) (hUpWeight : Cert.UpWeight.Facts) (hUpWeightIdeal : Cert.UpWeightIdeal.Facts) (hUpWeightReferenceIdeal : Cert.UpWeightReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hOutMixInput : Cert.OutMixInput.Facts) (hOutMixInputIdeal : Cert.OutMixInputIdeal.Facts) (hOutMixInputReferenceIdeal : Cert.OutMixInputReferenceIdeal.Facts) (hOutMemInput : Cert.OutMemInput.Facts) (hOutMemInputIdeal : Cert.OutMemInputIdeal.Facts) (hOutMemInputReferenceIdeal : Cert.OutMemInputReferenceIdeal.Facts) (hOutMixWeight : Cert.OutMixWeight.Facts) (hOutMixWeightIdeal : Cert.OutMixWeightIdeal.Facts) (hOutMixWeightReferenceIdeal : Cert.OutMixWeightReferenceIdeal.Facts) (hOutMemWeight : Cert.OutMemWeight.Facts) (hOutMemWeightIdeal : Cert.OutMemWeightIdeal.Facts) (hOutMemWeightReferenceIdeal : Cert.OutMemWeightReferenceIdeal.Facts) (hOutMix : Cert.OutMix.Facts) (hOutMixIdeal : Cert.OutMixIdeal.Facts) (hOutMixReferenceIdeal : Cert.OutMixReferenceIdeal.Facts) (hOutMem : Cert.OutMem.Facts) (hOutMemIdeal : Cert.OutMemIdeal.Facts) (hOutMemReferenceIdeal : Cert.OutMemReferenceIdeal.Facts) (hInWeight : Cert.InWeight.Facts) (hInWeightIdeal : Cert.InWeightIdeal.Facts) (hInWeightReferenceIdeal : Cert.InWeightReferenceIdeal.Facts) (hInMemWeight : Cert.InMemWeight.Facts) (hInMemWeightIdeal : Cert.InMemWeightIdeal.Facts) (hInMemWeightReferenceIdeal : Cert.InMemWeightReferenceIdeal.Facts) (hInInput : Cert.InInput.Facts) (hInInputIdeal : Cert.InInputIdeal.Facts) (hInInputReferenceIdeal : Cert.InInputReferenceIdeal.Facts) (hInInputAdd : Cert.InInputAdd.Facts) (hInInputAddIdeal : Cert.InInputAddIdeal.Facts) (hInInputAddReferenceIdeal : Cert.InInputAddReferenceIdeal.Facts) (hInMemInputAdd : Cert.InMemInputAdd.Facts) (hInMemInputAddIdeal : Cert.InMemInputAddIdeal.Facts) (hInMemInputAddReferenceIdeal : Cert.InMemInputAddReferenceIdeal.Facts) (hIn : Cert.In.Facts) (hInIdeal : Cert.InIdeal.Facts) (hInReferenceIdeal : Cert.InReferenceIdeal.Facts) (hInMem : Cert.InMem.Facts) (hInMemIdeal : Cert.InMemIdeal.Facts) (hInMemReferenceIdeal : Cert.InMemReferenceIdeal.Facts) (hQkvWeight : Cert.QkvWeight.Facts) (hQkvWeightIdeal : Cert.QkvWeightIdeal.Facts) (hQkvWeightReferenceIdeal : Cert.QkvWeightReferenceIdeal.Facts) (hQkvInput : Cert.QkvInput.Facts) (hQkvInputIdeal : Cert.QkvInputIdeal.Facts) (hQkvInputReferenceIdeal : Cert.QkvInputReferenceIdeal.Facts) (hQkvInputAdd : Cert.QkvInputAdd.Facts) (hQkvInputAddIdeal : Cert.QkvInputAddIdeal.Facts) (hQkvInputAddReferenceIdeal : Cert.QkvInputAddReferenceIdeal.Facts) (hGateWeight : Cert.GateWeight.Facts) (hGateWeightIdeal : Cert.GateWeightIdeal.Facts) (hGateWeightReferenceIdeal : Cert.GateWeightReferenceIdeal.Facts) (hGateInputAdd : Cert.GateInputAdd.Facts) (hGateInputAddIdeal : Cert.GateInputAddIdeal.Facts) (hGateInputAddReferenceIdeal : Cert.GateInputAddReferenceIdeal.Facts) (hGate : Cert.Gate.Facts) (hGateIdeal : Cert.GateIdeal.Facts) (hGateReferenceIdeal : Cert.GateReferenceIdeal.Facts) (hMemKvWeight : Cert.MemKvWeight.Facts) (hMemKvWeightIdeal : Cert.MemKvWeightIdeal.Facts) (hMemKvWeightReferenceIdeal : Cert.MemKvWeightReferenceIdeal.Facts) (hMemKvInput : Cert.MemKvInput.Facts) (hMemKvInputIdeal : Cert.MemKvInputIdeal.Facts) (hMemKvInputReferenceIdeal : Cert.MemKvInputReferenceIdeal.Facts) (hMemKvInputAdd : Cert.MemKvInputAdd.Facts) (hMemKvInputAddIdeal : Cert.MemKvInputAddIdeal.Facts) (hMemKvInputAddReferenceIdeal : Cert.MemKvInputAddReferenceIdeal.Facts) (hMemKv : Cert.MemKv.Facts) (hMemKvIdeal : Cert.MemKvIdeal.Facts) (hMemKvReferenceIdeal : Cert.MemKvReferenceIdeal.Facts) (hAdamNorms : Cert.AdamNorms.Facts) (hAdamNormsIdeal : Cert.AdamNormsIdeal.Facts) (hAdamNormsReferenceIdeal : Cert.AdamNormsReferenceIdeal.Facts) (hAdamInA : Cert.AdamInA.Facts) (hAdamInAIdeal : Cert.AdamInAIdeal.Facts) (hAdamInAReferenceIdeal : Cert.AdamInAReferenceIdeal.Facts) (hAdamGlu : Cert.AdamGlu.Facts) (hAdamGluIdeal : Cert.AdamGluIdeal.Facts) (hAdamGluReferenceIdeal : Cert.AdamGluReferenceIdeal.Facts) (hAdamConv : Cert.AdamConv.Facts) (hAdamConvIdeal : Cert.AdamConvIdeal.Facts) (hAdamConvReferenceIdeal : Cert.AdamConvReferenceIdeal.Facts) (hAdamChannels : Cert.AdamChannels.Facts) (hAdamChannelsIdeal : Cert.AdamChannelsIdeal.Facts) (hAdamChannelsReferenceIdeal : Cert.AdamChannelsReferenceIdeal.Facts) (hAdamGain : Cert.AdamGain.Facts) (hAdamGainIdeal : Cert.AdamGainIdeal.Facts) (hAdamGainReferenceIdeal : Cert.AdamGainReferenceIdeal.Facts) (hAdamKvf : Cert.AdamKvf.Facts) (hAdamKvfIdeal : Cert.AdamKvfIdeal.Facts) (hAdamKvfReferenceIdeal : Cert.AdamKvfReferenceIdeal.Facts) (hAdamForget : Cert.AdamForget.Facts) (hAdamForgetIdeal : Cert.AdamForgetIdeal.Facts) (hAdamForgetReferenceIdeal : Cert.AdamForgetReferenceIdeal.Facts) (hAdamInB : Cert.AdamInB.Facts) (hAdamInBIdeal : Cert.AdamInBIdeal.Facts) (hAdamInBReferenceIdeal : Cert.AdamInBReferenceIdeal.Facts) (hAdamMemKv : Cert.AdamMemKv.Facts) (hAdamMemKvIdeal : Cert.AdamMemKvIdeal.Facts) (hAdamMemKvReferenceIdeal : Cert.AdamMemKvReferenceIdeal.Facts) (hAdamOut : Cert.AdamOut.Facts) (hAdamOutIdeal : Cert.AdamOutIdeal.Facts) (hAdamOutReferenceIdeal : Cert.AdamOutReferenceIdeal.Facts) (hAdamUp : Cert.AdamUp.Facts) (hAdamUpIdeal : Cert.AdamUpIdeal.Facts) (hAdamUpReferenceIdeal : Cert.AdamUpReferenceIdeal.Facts) (hAdamFfnConv : Cert.AdamFfnConv.Facts) (hAdamFfnConvIdeal : Cert.AdamFfnConvIdeal.Facts) (hAdamFfnConvReferenceIdeal : Cert.AdamFfnConvReferenceIdeal.Facts) (hAdamFfnBias : Cert.AdamFfnBias.Facts) (hAdamFfnBiasIdeal : Cert.AdamFfnBiasIdeal.Facts) (hAdamFfnBiasReferenceIdeal : Cert.AdamFfnBiasReferenceIdeal.Facts) (hAdamDown : Cert.AdamDown.Facts) (hAdamDownIdeal : Cert.AdamDownIdeal.Facts) (hAdamDownReferenceIdeal : Cert.AdamDownReferenceIdeal.Facts) (hPre_finite : Cert.Pre_finite.Facts),
    quiescent_Kernel (hKernel := hKernel)
    ∧ quiescent_Kernel_pre_finite (hKernel := hKernel) (hPre_finite := hPre_finite)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownHidden (hDownHidden := hDownHidden)
    ∧ quiescent_DownHiddenIdeal (hDownHiddenIdeal := hDownHiddenIdeal)
    ∧ quiescent_DownHiddenReferenceIdeal (hDownHiddenReferenceIdeal := hDownHiddenReferenceIdeal)
    ∧ quiescent_DownWeight (hDownWeight := hDownWeight)
    ∧ quiescent_DownWeightIdeal (hDownWeightIdeal := hDownWeightIdeal)
    ∧ quiescent_DownWeightReferenceIdeal (hDownWeightReferenceIdeal := hDownWeightReferenceIdeal)
    ∧ quiescent_UpInput (hUpInput := hUpInput)
    ∧ quiescent_UpInputIdeal (hUpInputIdeal := hUpInputIdeal)
    ∧ quiescent_UpInputReferenceIdeal (hUpInputReferenceIdeal := hUpInputReferenceIdeal)
    ∧ quiescent_UpInputAdd (hUpInputAdd := hUpInputAdd)
    ∧ quiescent_UpInputAddIdeal (hUpInputAddIdeal := hUpInputAddIdeal)
    ∧ quiescent_UpInputAddReferenceIdeal (hUpInputAddReferenceIdeal := hUpInputAddReferenceIdeal)
    ∧ quiescent_UpWeight (hUpWeight := hUpWeight)
    ∧ quiescent_UpWeightIdeal (hUpWeightIdeal := hUpWeightIdeal)
    ∧ quiescent_UpWeightReferenceIdeal (hUpWeightReferenceIdeal := hUpWeightReferenceIdeal)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_OutMixInput (hOutMixInput := hOutMixInput)
    ∧ quiescent_OutMixInputIdeal (hOutMixInputIdeal := hOutMixInputIdeal)
    ∧ quiescent_OutMixInputReferenceIdeal (hOutMixInputReferenceIdeal := hOutMixInputReferenceIdeal)
    ∧ quiescent_OutMemInput (hOutMemInput := hOutMemInput)
    ∧ quiescent_OutMemInputIdeal (hOutMemInputIdeal := hOutMemInputIdeal)
    ∧ quiescent_OutMemInputReferenceIdeal (hOutMemInputReferenceIdeal := hOutMemInputReferenceIdeal)
    ∧ quiescent_OutMixWeight (hOutMixWeight := hOutMixWeight)
    ∧ quiescent_OutMixWeightIdeal (hOutMixWeightIdeal := hOutMixWeightIdeal)
    ∧ quiescent_OutMixWeightReferenceIdeal (hOutMixWeightReferenceIdeal := hOutMixWeightReferenceIdeal)
    ∧ quiescent_OutMemWeight (hOutMemWeight := hOutMemWeight)
    ∧ quiescent_OutMemWeightIdeal (hOutMemWeightIdeal := hOutMemWeightIdeal)
    ∧ quiescent_OutMemWeightReferenceIdeal (hOutMemWeightReferenceIdeal := hOutMemWeightReferenceIdeal)
    ∧ quiescent_OutMix (hOutMix := hOutMix)
    ∧ quiescent_OutMixIdeal (hOutMixIdeal := hOutMixIdeal)
    ∧ quiescent_OutMixReferenceIdeal (hOutMixReferenceIdeal := hOutMixReferenceIdeal)
    ∧ quiescent_OutMem (hOutMem := hOutMem)
    ∧ quiescent_OutMemIdeal (hOutMemIdeal := hOutMemIdeal)
    ∧ quiescent_OutMemReferenceIdeal (hOutMemReferenceIdeal := hOutMemReferenceIdeal)
    ∧ quiescent_InWeight (hInWeight := hInWeight)
    ∧ quiescent_InWeightIdeal (hInWeightIdeal := hInWeightIdeal)
    ∧ quiescent_InWeightReferenceIdeal (hInWeightReferenceIdeal := hInWeightReferenceIdeal)
    ∧ quiescent_InMemWeight (hInMemWeight := hInMemWeight)
    ∧ quiescent_InMemWeightIdeal (hInMemWeightIdeal := hInMemWeightIdeal)
    ∧ quiescent_InMemWeightReferenceIdeal (hInMemWeightReferenceIdeal := hInMemWeightReferenceIdeal)
    ∧ quiescent_InInput (hInInput := hInInput)
    ∧ quiescent_InInputIdeal (hInInputIdeal := hInInputIdeal)
    ∧ quiescent_InInputReferenceIdeal (hInInputReferenceIdeal := hInInputReferenceIdeal)
    ∧ quiescent_InInputAdd (hInInputAdd := hInInputAdd)
    ∧ quiescent_InInputAddIdeal (hInInputAddIdeal := hInInputAddIdeal)
    ∧ quiescent_InInputAddReferenceIdeal (hInInputAddReferenceIdeal := hInInputAddReferenceIdeal)
    ∧ quiescent_InMemInputAdd (hInMemInputAdd := hInMemInputAdd)
    ∧ quiescent_InMemInputAddIdeal (hInMemInputAddIdeal := hInMemInputAddIdeal)
    ∧ quiescent_InMemInputAddReferenceIdeal (hInMemInputAddReferenceIdeal := hInMemInputAddReferenceIdeal)
    ∧ quiescent_In (hIn := hIn)
    ∧ quiescent_InIdeal (hInIdeal := hInIdeal)
    ∧ quiescent_InReferenceIdeal (hInReferenceIdeal := hInReferenceIdeal)
    ∧ quiescent_InMem (hInMem := hInMem)
    ∧ quiescent_InMemIdeal (hInMemIdeal := hInMemIdeal)
    ∧ quiescent_InMemReferenceIdeal (hInMemReferenceIdeal := hInMemReferenceIdeal)
    ∧ quiescent_QkvWeight (hQkvWeight := hQkvWeight)
    ∧ quiescent_QkvWeightIdeal (hQkvWeightIdeal := hQkvWeightIdeal)
    ∧ quiescent_QkvWeightReferenceIdeal (hQkvWeightReferenceIdeal := hQkvWeightReferenceIdeal)
    ∧ quiescent_QkvInput (hQkvInput := hQkvInput)
    ∧ quiescent_QkvInputIdeal (hQkvInputIdeal := hQkvInputIdeal)
    ∧ quiescent_QkvInputReferenceIdeal (hQkvInputReferenceIdeal := hQkvInputReferenceIdeal)
    ∧ quiescent_QkvInputAdd (hQkvInputAdd := hQkvInputAdd)
    ∧ quiescent_QkvInputAddIdeal (hQkvInputAddIdeal := hQkvInputAddIdeal)
    ∧ quiescent_QkvInputAddReferenceIdeal (hQkvInputAddReferenceIdeal := hQkvInputAddReferenceIdeal)
    ∧ quiescent_GateWeight (hGateWeight := hGateWeight)
    ∧ quiescent_GateWeightIdeal (hGateWeightIdeal := hGateWeightIdeal)
    ∧ quiescent_GateWeightReferenceIdeal (hGateWeightReferenceIdeal := hGateWeightReferenceIdeal)
    ∧ quiescent_GateInputAdd (hGateInputAdd := hGateInputAdd)
    ∧ quiescent_GateInputAddIdeal (hGateInputAddIdeal := hGateInputAddIdeal)
    ∧ quiescent_GateInputAddReferenceIdeal (hGateInputAddReferenceIdeal := hGateInputAddReferenceIdeal)
    ∧ quiescent_Gate (hGate := hGate)
    ∧ quiescent_GateIdeal (hGateIdeal := hGateIdeal)
    ∧ quiescent_GateReferenceIdeal (hGateReferenceIdeal := hGateReferenceIdeal)
    ∧ quiescent_MemKvWeight (hMemKvWeight := hMemKvWeight)
    ∧ quiescent_MemKvWeightIdeal (hMemKvWeightIdeal := hMemKvWeightIdeal)
    ∧ quiescent_MemKvWeightReferenceIdeal (hMemKvWeightReferenceIdeal := hMemKvWeightReferenceIdeal)
    ∧ quiescent_MemKvInput (hMemKvInput := hMemKvInput)
    ∧ quiescent_MemKvInputIdeal (hMemKvInputIdeal := hMemKvInputIdeal)
    ∧ quiescent_MemKvInputReferenceIdeal (hMemKvInputReferenceIdeal := hMemKvInputReferenceIdeal)
    ∧ quiescent_MemKvInputAdd (hMemKvInputAdd := hMemKvInputAdd)
    ∧ quiescent_MemKvInputAddIdeal (hMemKvInputAddIdeal := hMemKvInputAddIdeal)
    ∧ quiescent_MemKvInputAddReferenceIdeal (hMemKvInputAddReferenceIdeal := hMemKvInputAddReferenceIdeal)
    ∧ quiescent_MemKv (hMemKv := hMemKv)
    ∧ quiescent_MemKvIdeal (hMemKvIdeal := hMemKvIdeal)
    ∧ quiescent_MemKvReferenceIdeal (hMemKvReferenceIdeal := hMemKvReferenceIdeal)
    ∧ quiescent_AdamNorms (hAdamNorms := hAdamNorms)
    ∧ quiescent_AdamNormsIdeal (hAdamNormsIdeal := hAdamNormsIdeal)
    ∧ quiescent_AdamNormsReferenceIdeal (hAdamNormsReferenceIdeal := hAdamNormsReferenceIdeal)
    ∧ quiescent_AdamInA (hAdamInA := hAdamInA)
    ∧ quiescent_AdamInAIdeal (hAdamInAIdeal := hAdamInAIdeal)
    ∧ quiescent_AdamInAReferenceIdeal (hAdamInAReferenceIdeal := hAdamInAReferenceIdeal)
    ∧ quiescent_AdamGlu (hAdamGlu := hAdamGlu)
    ∧ quiescent_AdamGluIdeal (hAdamGluIdeal := hAdamGluIdeal)
    ∧ quiescent_AdamGluReferenceIdeal (hAdamGluReferenceIdeal := hAdamGluReferenceIdeal)
    ∧ quiescent_AdamConv (hAdamConv := hAdamConv)
    ∧ quiescent_AdamConvIdeal (hAdamConvIdeal := hAdamConvIdeal)
    ∧ quiescent_AdamConvReferenceIdeal (hAdamConvReferenceIdeal := hAdamConvReferenceIdeal)
    ∧ quiescent_AdamChannels (hAdamChannels := hAdamChannels)
    ∧ quiescent_AdamChannelsIdeal (hAdamChannelsIdeal := hAdamChannelsIdeal)
    ∧ quiescent_AdamChannelsReferenceIdeal (hAdamChannelsReferenceIdeal := hAdamChannelsReferenceIdeal)
    ∧ quiescent_AdamGain (hAdamGain := hAdamGain)
    ∧ quiescent_AdamGainIdeal (hAdamGainIdeal := hAdamGainIdeal)
    ∧ quiescent_AdamGainReferenceIdeal (hAdamGainReferenceIdeal := hAdamGainReferenceIdeal)
    ∧ quiescent_AdamKvf (hAdamKvf := hAdamKvf)
    ∧ quiescent_AdamKvfIdeal (hAdamKvfIdeal := hAdamKvfIdeal)
    ∧ quiescent_AdamKvfReferenceIdeal (hAdamKvfReferenceIdeal := hAdamKvfReferenceIdeal)
    ∧ quiescent_AdamForget (hAdamForget := hAdamForget)
    ∧ quiescent_AdamForgetIdeal (hAdamForgetIdeal := hAdamForgetIdeal)
    ∧ quiescent_AdamForgetReferenceIdeal (hAdamForgetReferenceIdeal := hAdamForgetReferenceIdeal)
    ∧ quiescent_AdamInB (hAdamInB := hAdamInB)
    ∧ quiescent_AdamInBIdeal (hAdamInBIdeal := hAdamInBIdeal)
    ∧ quiescent_AdamInBReferenceIdeal (hAdamInBReferenceIdeal := hAdamInBReferenceIdeal)
    ∧ quiescent_AdamMemKv (hAdamMemKv := hAdamMemKv)
    ∧ quiescent_AdamMemKvIdeal (hAdamMemKvIdeal := hAdamMemKvIdeal)
    ∧ quiescent_AdamMemKvReferenceIdeal (hAdamMemKvReferenceIdeal := hAdamMemKvReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamUp (hAdamUp := hAdamUp)
    ∧ quiescent_AdamUpIdeal (hAdamUpIdeal := hAdamUpIdeal)
    ∧ quiescent_AdamUpReferenceIdeal (hAdamUpReferenceIdeal := hAdamUpReferenceIdeal)
    ∧ quiescent_AdamFfnConv (hAdamFfnConv := hAdamFfnConv)
    ∧ quiescent_AdamFfnConvIdeal (hAdamFfnConvIdeal := hAdamFfnConvIdeal)
    ∧ quiescent_AdamFfnConvReferenceIdeal (hAdamFfnConvReferenceIdeal := hAdamFfnConvReferenceIdeal)
    ∧ quiescent_AdamFfnBias (hAdamFfnBias := hAdamFfnBias)
    ∧ quiescent_AdamFfnBiasIdeal (hAdamFfnBiasIdeal := hAdamFfnBiasIdeal)
    ∧ quiescent_AdamFfnBiasReferenceIdeal (hAdamFfnBiasReferenceIdeal := hAdamFfnBiasReferenceIdeal)
    ∧ quiescent_AdamDown (hAdamDown := hAdamDown)
    ∧ quiescent_AdamDownIdeal (hAdamDownIdeal := hAdamDownIdeal)
    ∧ quiescent_AdamDownReferenceIdeal (hAdamDownReferenceIdeal := hAdamDownReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownHidden_DownHiddenIdeal
    ∧ algebraic_DownHiddenIdeal_DownHiddenReferenceIdeal (hDownHiddenIdeal := hDownHiddenIdeal) (hDownHiddenReferenceIdeal := hDownHiddenReferenceIdeal)
    ∧ preserves_DownWeight_DownWeightIdeal
    ∧ algebraic_DownWeightIdeal_DownWeightReferenceIdeal (hDownWeightIdeal := hDownWeightIdeal) (hDownWeightReferenceIdeal := hDownWeightReferenceIdeal)
    ∧ preserves_UpInput_UpInputIdeal
    ∧ algebraic_UpInputIdeal_UpInputReferenceIdeal (hUpInputIdeal := hUpInputIdeal) (hUpInputReferenceIdeal := hUpInputReferenceIdeal)
    ∧ preserves_UpInputAdd_UpInputAddIdeal
    ∧ algebraic_UpInputAddIdeal_UpInputAddReferenceIdeal (hUpInputAddIdeal := hUpInputAddIdeal) (hUpInputAddReferenceIdeal := hUpInputAddReferenceIdeal)
    ∧ preserves_UpWeight_UpWeightIdeal
    ∧ algebraic_UpWeightIdeal_UpWeightReferenceIdeal (hUpWeightIdeal := hUpWeightIdeal) (hUpWeightReferenceIdeal := hUpWeightReferenceIdeal)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_OutMixInput_OutMixInputIdeal
    ∧ algebraic_OutMixInputIdeal_OutMixInputReferenceIdeal (hOutMixInputIdeal := hOutMixInputIdeal) (hOutMixInputReferenceIdeal := hOutMixInputReferenceIdeal)
    ∧ preserves_OutMemInput_OutMemInputIdeal
    ∧ algebraic_OutMemInputIdeal_OutMemInputReferenceIdeal (hOutMemInputIdeal := hOutMemInputIdeal) (hOutMemInputReferenceIdeal := hOutMemInputReferenceIdeal)
    ∧ preserves_OutMixWeight_OutMixWeightIdeal
    ∧ algebraic_OutMixWeightIdeal_OutMixWeightReferenceIdeal (hOutMixWeightIdeal := hOutMixWeightIdeal) (hOutMixWeightReferenceIdeal := hOutMixWeightReferenceIdeal)
    ∧ preserves_OutMemWeight_OutMemWeightIdeal
    ∧ algebraic_OutMemWeightIdeal_OutMemWeightReferenceIdeal (hOutMemWeightIdeal := hOutMemWeightIdeal) (hOutMemWeightReferenceIdeal := hOutMemWeightReferenceIdeal)
    ∧ preserves_OutMix_OutMixIdeal
    ∧ algebraic_OutMixIdeal_OutMixReferenceIdeal (hOutMixIdeal := hOutMixIdeal) (hOutMixReferenceIdeal := hOutMixReferenceIdeal)
    ∧ preserves_OutMem_OutMemIdeal
    ∧ algebraic_OutMemIdeal_OutMemReferenceIdeal (hOutMemIdeal := hOutMemIdeal) (hOutMemReferenceIdeal := hOutMemReferenceIdeal)
    ∧ preserves_InWeight_InWeightIdeal
    ∧ algebraic_InWeightIdeal_InWeightReferenceIdeal (hInWeightIdeal := hInWeightIdeal) (hInWeightReferenceIdeal := hInWeightReferenceIdeal)
    ∧ preserves_InMemWeight_InMemWeightIdeal
    ∧ algebraic_InMemWeightIdeal_InMemWeightReferenceIdeal (hInMemWeightIdeal := hInMemWeightIdeal) (hInMemWeightReferenceIdeal := hInMemWeightReferenceIdeal)
    ∧ preserves_InInput_InInputIdeal
    ∧ algebraic_InInputIdeal_InInputReferenceIdeal (hInInputIdeal := hInInputIdeal) (hInInputReferenceIdeal := hInInputReferenceIdeal)
    ∧ preserves_InInputAdd_InInputAddIdeal
    ∧ algebraic_InInputAddIdeal_InInputAddReferenceIdeal (hInInputAddIdeal := hInInputAddIdeal) (hInInputAddReferenceIdeal := hInInputAddReferenceIdeal)
    ∧ preserves_InMemInputAdd_InMemInputAddIdeal
    ∧ algebraic_InMemInputAddIdeal_InMemInputAddReferenceIdeal (hInMemInputAddIdeal := hInMemInputAddIdeal) (hInMemInputAddReferenceIdeal := hInMemInputAddReferenceIdeal)
    ∧ preserves_In_InIdeal
    ∧ algebraic_InIdeal_InReferenceIdeal (hInIdeal := hInIdeal) (hInReferenceIdeal := hInReferenceIdeal)
    ∧ preserves_InMem_InMemIdeal
    ∧ algebraic_InMemIdeal_InMemReferenceIdeal (hInMemIdeal := hInMemIdeal) (hInMemReferenceIdeal := hInMemReferenceIdeal)
    ∧ preserves_QkvWeight_QkvWeightIdeal
    ∧ algebraic_QkvWeightIdeal_QkvWeightReferenceIdeal (hQkvWeightIdeal := hQkvWeightIdeal) (hQkvWeightReferenceIdeal := hQkvWeightReferenceIdeal)
    ∧ preserves_QkvInput_QkvInputIdeal
    ∧ algebraic_QkvInputIdeal_QkvInputReferenceIdeal (hQkvInputIdeal := hQkvInputIdeal) (hQkvInputReferenceIdeal := hQkvInputReferenceIdeal)
    ∧ preserves_QkvInputAdd_QkvInputAddIdeal
    ∧ algebraic_QkvInputAddIdeal_QkvInputAddReferenceIdeal (hQkvInputAddIdeal := hQkvInputAddIdeal) (hQkvInputAddReferenceIdeal := hQkvInputAddReferenceIdeal)
    ∧ preserves_GateWeight_GateWeightIdeal
    ∧ algebraic_GateWeightIdeal_GateWeightReferenceIdeal (hGateWeightIdeal := hGateWeightIdeal) (hGateWeightReferenceIdeal := hGateWeightReferenceIdeal)
    ∧ preserves_GateInputAdd_GateInputAddIdeal
    ∧ algebraic_GateInputAddIdeal_GateInputAddReferenceIdeal (hGateInputAddIdeal := hGateInputAddIdeal) (hGateInputAddReferenceIdeal := hGateInputAddReferenceIdeal)
    ∧ preserves_Gate_GateIdeal
    ∧ algebraic_GateIdeal_GateReferenceIdeal (hGateIdeal := hGateIdeal) (hGateReferenceIdeal := hGateReferenceIdeal)
    ∧ preserves_MemKvWeight_MemKvWeightIdeal
    ∧ algebraic_MemKvWeightIdeal_MemKvWeightReferenceIdeal (hMemKvWeightIdeal := hMemKvWeightIdeal) (hMemKvWeightReferenceIdeal := hMemKvWeightReferenceIdeal)
    ∧ preserves_MemKvInput_MemKvInputIdeal
    ∧ algebraic_MemKvInputIdeal_MemKvInputReferenceIdeal (hMemKvInputIdeal := hMemKvInputIdeal) (hMemKvInputReferenceIdeal := hMemKvInputReferenceIdeal)
    ∧ preserves_MemKvInputAdd_MemKvInputAddIdeal
    ∧ algebraic_MemKvInputAddIdeal_MemKvInputAddReferenceIdeal (hMemKvInputAddIdeal := hMemKvInputAddIdeal) (hMemKvInputAddReferenceIdeal := hMemKvInputAddReferenceIdeal)
    ∧ preserves_MemKv_MemKvIdeal
    ∧ algebraic_MemKvIdeal_MemKvReferenceIdeal (hMemKvIdeal := hMemKvIdeal) (hMemKvReferenceIdeal := hMemKvReferenceIdeal)
    ∧ preserves_AdamNorms_AdamNormsIdeal
    ∧ algebraic_AdamNormsIdeal_AdamNormsReferenceIdeal (hAdamNormsIdeal := hAdamNormsIdeal) (hAdamNormsReferenceIdeal := hAdamNormsReferenceIdeal)
    ∧ preserves_AdamInA_AdamInAIdeal
    ∧ algebraic_AdamInAIdeal_AdamInAReferenceIdeal (hAdamInAIdeal := hAdamInAIdeal) (hAdamInAReferenceIdeal := hAdamInAReferenceIdeal)
    ∧ preserves_AdamGlu_AdamGluIdeal
    ∧ algebraic_AdamGluIdeal_AdamGluReferenceIdeal (hAdamGluIdeal := hAdamGluIdeal) (hAdamGluReferenceIdeal := hAdamGluReferenceIdeal)
    ∧ preserves_AdamConv_AdamConvIdeal
    ∧ algebraic_AdamConvIdeal_AdamConvReferenceIdeal (hAdamConvIdeal := hAdamConvIdeal) (hAdamConvReferenceIdeal := hAdamConvReferenceIdeal)
    ∧ preserves_AdamChannels_AdamChannelsIdeal
    ∧ algebraic_AdamChannelsIdeal_AdamChannelsReferenceIdeal (hAdamChannelsIdeal := hAdamChannelsIdeal) (hAdamChannelsReferenceIdeal := hAdamChannelsReferenceIdeal)
    ∧ preserves_AdamGain_AdamGainIdeal
    ∧ algebraic_AdamGainIdeal_AdamGainReferenceIdeal (hAdamGainIdeal := hAdamGainIdeal) (hAdamGainReferenceIdeal := hAdamGainReferenceIdeal)
    ∧ preserves_AdamKvf_AdamKvfIdeal
    ∧ algebraic_AdamKvfIdeal_AdamKvfReferenceIdeal (hAdamKvfIdeal := hAdamKvfIdeal) (hAdamKvfReferenceIdeal := hAdamKvfReferenceIdeal)
    ∧ preserves_AdamForget_AdamForgetIdeal
    ∧ algebraic_AdamForgetIdeal_AdamForgetReferenceIdeal (hAdamForgetIdeal := hAdamForgetIdeal) (hAdamForgetReferenceIdeal := hAdamForgetReferenceIdeal)
    ∧ preserves_AdamInB_AdamInBIdeal
    ∧ algebraic_AdamInBIdeal_AdamInBReferenceIdeal (hAdamInBIdeal := hAdamInBIdeal) (hAdamInBReferenceIdeal := hAdamInBReferenceIdeal)
    ∧ preserves_AdamMemKv_AdamMemKvIdeal
    ∧ algebraic_AdamMemKvIdeal_AdamMemKvReferenceIdeal (hAdamMemKvIdeal := hAdamMemKvIdeal) (hAdamMemKvReferenceIdeal := hAdamMemKvReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamUp_AdamUpIdeal
    ∧ algebraic_AdamUpIdeal_AdamUpReferenceIdeal (hAdamUpIdeal := hAdamUpIdeal) (hAdamUpReferenceIdeal := hAdamUpReferenceIdeal)
    ∧ preserves_AdamFfnConv_AdamFfnConvIdeal
    ∧ algebraic_AdamFfnConvIdeal_AdamFfnConvReferenceIdeal (hAdamFfnConvIdeal := hAdamFfnConvIdeal) (hAdamFfnConvReferenceIdeal := hAdamFfnConvReferenceIdeal)
    ∧ preserves_AdamFfnBias_AdamFfnBiasIdeal
    ∧ algebraic_AdamFfnBiasIdeal_AdamFfnBiasReferenceIdeal (hAdamFfnBiasIdeal := hAdamFfnBiasIdeal) (hAdamFfnBiasReferenceIdeal := hAdamFfnBiasReferenceIdeal)
    ∧ preserves_AdamDown_AdamDownIdeal
    ∧ algebraic_AdamDownIdeal_AdamDownReferenceIdeal (hAdamDownIdeal := hAdamDownIdeal) (hAdamDownReferenceIdeal := hAdamDownReferenceIdeal)
-- ==== Pre_finite.lean ====
abbrev S2048x768 : Shape := ⟨2, ![2048, 768]⟩
abbrev S2048x128 : Shape := ⟨2, ![2048, 128]⟩
abbrev S_ : Shape := ⟨0, ![]⟩

class Facts : Prop where
  bcast_S_S2048x768 : S_.BroadcastsInDim S2048x768 (![] : Fin 0 → Fin S2048x768.rank)
  reducesTo_S2048x768_S_d0_1 : S2048x768.ReducesTo [0, 1] S_
  h_S_ : 0 < S_.numel
  bcast_S_S2048x128 : S_.BroadcastsInDim S2048x128 (![] : Fin 0 → Fin S2048x128.rank)
  reducesTo_S2048x128_S_d0_1 : S2048x128.ReducesTo [0, 1] S_

variable [Facts]

def fn_part1 {F : FTy → Type} [FloatOps F] (main_arg4 : FVec F S2048x768 .f32) (main_v13 : IVec S_ 1) (main_v16 : IVec S2048x128 1) : IVec S_ 1 :=
  let main_c_5 : IVec S_ 1 := constantI S_ 1 1#1
  let main_v17 : IVec S_ 1 := (fun x v => Host.reduce IntOp.andi x v reducesTo_S2048x128_S_d0_1 h_S_) main_v16 main_c_5
  let main_v18 : IVec S_ 1 := andi main_v13 main_v17
  let main_v19 : FVec F S2048x768 .f32 := Host.absf main_arg4
  let main_cst_6 : FVec F S_ .f32 := constant S_ .f32 0x7F800000#32
  let main_v20 : FVec F S2048x768 .f32 := broadcastInDim S2048x768 ![] bcast_S_S2048x768 main_cst_6
  let main_v21 : IVec S2048x768 1 := cmpf .olt main_v19 main_v20
  let main_c_7 : IVec S_ 1 := constantI S_ 1 1#1
  let main_v22 : IVec S_ 1 := (fun x v => Host.reduce IntOp.andi x v reducesTo_S2048x768_S_d0_1 h_S_) main_v21 main_c_7
  let main_v23 : IVec S_ 1 := andi main_v18 main_v22
  main_v23

def fn {F : FTy → Type} [FloatOps F] (main_arg0 : FVec F S2048x768 .f32) (main_arg1 : FVec F S2048x768 .f32) (main_arg2 : FVec F S2048x768 .f32) (main_arg3 : FVec F S2048x128 .f32) (main_arg4 : FVec F S2048x768 .f32) : IVec S_ 1 :=
  let main_v0 : FVec F S2048x768 .f32 := Host.absf main_arg0
  let main_cst : FVec F S_ .f32 := constant S_ .f32 0x7F800000#32
  let main_v1 : FVec F S2048x768 .f32 := broadcastInDim S2048x768 ![] bcast_S_S2048x768 main_cst
  let main_v2 : IVec S2048x768 1 := cmpf .olt main_v0 main_v1
  let main_c : IVec S_ 1 := constantI S_ 1 1#1
  let main_v3 : IVec S_ 1 := (fun x v => Host.reduce IntOp.andi x v reducesTo_S2048x768_S_d0_1 h_S_) main_v2 main_c
  let main_v4 : FVec F S2048x768 .f32 := Host.absf main_arg1
  let main_cst_0 : FVec F S_ .f32 := constant S_ .f32 0x7F800000#32
  let main_v5 : FVec F S2048x768 .f32 := broadcastInDim S2048x768 ![] bcast_S_S2048x768 main_cst_0
  let main_v6 : IVec S2048x768 1 := cmpf .olt main_v4 main_v5
  let main_c_1 : IVec S_ 1 := constantI S_ 1 1#1
  let main_v7 : IVec S_ 1 := (fun x v => Host.reduce IntOp.andi x v reducesTo_S2048x768_S_d0_1 h_S_) main_v6 main_c_1
  let main_v8 : IVec S_ 1 := andi main_v3 main_v7
  let main_v9 : FVec F S2048x768 .f32 := Host.absf main_arg2
  let main_cst_2 : FVec F S_ .f32 := constant S_ .f32 0x7F800000#32
  let main_v10 : FVec F S2048x768 .f32 := broadcastInDim S2048x768 ![] bcast_S_S2048x768 main_cst_2
  let main_v11 : IVec S2048x768 1 := cmpf .olt main_v9 main_v10
  let main_c_3 : IVec S_ 1 := constantI S_ 1 1#1
  let main_v12 : IVec S_ 1 := (fun x v => Host.reduce IntOp.andi x v reducesTo_S2048x768_S_d0_1 h_S_) main_v11 main_c_3
  let main_v13 : IVec S_ 1 := andi main_v8 main_v12
  let main_v14 : FVec F S2048x128 .f32 := Host.absf main_arg3
  let main_cst_4 : FVec F S_ .f32 := constant S_ .f32 0x7F800000#32
  let main_v15 : FVec F S2048x128 .f32 := broadcastInDim S2048x128 ![] bcast_S_S2048x128 main_cst_4
  let main_v16 : IVec S2048x128 1 := cmpf .olt main_v14 main_v15
  fn_part1 (F := F) main_arg4 main_v13 main_v16
-- ==== Kernel.lean ====
abbrev S2048x768 : Shape := ⟨2, ![2048, 768]⟩
abbrev S2048x128 : Shape := ⟨2, ![2048, 128]⟩
abbrev S2048x12 : Shape := ⟨2, ![2048, 12]⟩
abbrev S2048x12x64 : Shape := ⟨3, ![2048, 12, 64]⟩
abbrev S2048x6x128 : Shape := ⟨3, ![2048, 6, 128]⟩
abbrev S6x2048x128 : Shape := ⟨3, ![6, 2048, 128]⟩
abbrev S12x2048 : Shape := ⟨2, ![12, 2048]⟩
abbrev S6x2x8x256 : Shape := ⟨4, ![6, 2, 8, 256]⟩
abbrev S6x8x2x256 : Shape := ⟨4, ![6, 8, 2, 256]⟩
abbrev S_ : Shape := ⟨0, ![]⟩
abbrev S6x8x8x256 : Shape := ⟨4, ![6, 8, 8, 256]⟩
abbrev S12x2048x2048 : Shape := ⟨3, ![12, 2048, 2048]⟩
abbrev S12x2048x1 : Shape := ⟨3, ![12, 2048, 1]⟩
abbrev S12x1x2048 : Shape := ⟨3, ![12, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S12x64x2048 : Shape := ⟨3, ![12, 64, 2048]⟩
abbrev S512x128 : Shape := ⟨2, ![512, 128]⟩
abbrev S1x512x128 : Shape := ⟨3, ![1, 512, 128]⟩
abbrev S1x8x8x256 : Shape := ⟨4, ![1, 8, 8, 256]⟩
abbrev S1x2x8x256 : Shape := ⟨4, ![1, 2, 8, 256]⟩
abbrev S512x64 : Shape := ⟨2, ![512, 64]⟩
abbrev S1x512x1 : Shape := ⟨3, ![1, 512, 1]⟩
abbrev S512x1 : Shape := ⟨2, ![512, 1]⟩
abbrev S256x64 : Shape := ⟨2, ![256, 64]⟩
abbrev S512x256 : Shape := ⟨2, ![512, 256]⟩
abbrev S1x1x1x256 : Shape := ⟨4, ![1, 1, 1, 256]⟩
abbrev S1x256 : Shape := ⟨2, ![1, 256]⟩
abbrev S256 : Shape := ⟨1, ![256]⟩
abbrev S512 : Shape := ⟨1, ![512]⟩
abbrev S128x512 : Shape := ⟨2, ![128, 512]⟩
abbrev S1x512 : Shape := ⟨2, ![1, 512]⟩

abbrev nBuf : Space → Nat
  | .hbm => 77
  | .vmem => 26
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x128, .f32⟩
  | .hbm, ⟨4, _⟩ => ⟨S2048x768, .f32⟩
  | .hbm, ⟨5, _⟩ => ⟨S2048x12, .f32⟩
  | .hbm, ⟨6, _⟩ => ⟨S2048x12x64, .f32⟩
  | .hbm, ⟨7, _⟩ => ⟨S2048x768, .f32⟩
  | .hbm, ⟨8, _⟩ => ⟨S2048x6x128, .f32⟩
  | .hbm, ⟨9, _⟩ => ⟨S6x2048x128, .f32⟩
  | .hbm, ⟨10, _⟩ => ⟨S12x2048, .f32⟩
  | .hbm, ⟨11, _⟩ => ⟨S6x2x8x256, .f32⟩
  | .hbm, ⟨12, _⟩ => ⟨S6x8x2x256, .f32⟩
  | .hbm, ⟨13, _⟩ => ⟨S_, .i32⟩
  | .hbm, ⟨14, _⟩ => ⟨S_, .f32⟩
  | .hbm, ⟨15, _⟩ => ⟨S6x8x8x256, .f32⟩
  | .hbm, ⟨16, _⟩ => ⟨S2048x12x64, .f32⟩
  | .hbm, ⟨17, _⟩ => ⟨S2048x12x64, .f32⟩
  | .hbm, ⟨18, _⟩ => ⟨S2048x12x64, .f32⟩
  | .hbm, ⟨19, _⟩ => ⟨S2048x12, .f32⟩
  | .hbm, ⟨20, _⟩ => ⟨S12x2048, .f32⟩
  | .hbm, ⟨21, _⟩ => ⟨S12x2048x2048, .f32⟩
  | .hbm, ⟨22, _⟩ => ⟨S_, .f32⟩
  | .hbm, ⟨23, _⟩ => ⟨S12x2048x2048, .f32⟩
  | .hbm, ⟨24, _⟩ => ⟨S12x2048x2048, .f32⟩
  | .hbm, ⟨25, _⟩ => ⟨S12x2048x1, .f32⟩
  | .hbm, ⟨26, _⟩ => ⟨S12x2048x2048, .f32⟩
  | .hbm, ⟨27, _⟩ => ⟨S12x2048x2048, .f32⟩
  | .hbm, ⟨28, _⟩ => ⟨S12x1x2048, .f32⟩
  | .hbm, ⟨29, _⟩ => ⟨S12x2048x2048, .f32⟩
  | .hbm, ⟨30, _⟩ => ⟨S12x2048x2048, .f32⟩
  | .hbm, ⟨31, _⟩ => ⟨S2048, .i32⟩
  | .hbm, ⟨32, _⟩ => ⟨S1x2048, .i32⟩
  | .hbm, ⟨33, _⟩ => ⟨S2048x1, .i32⟩
  | .hbm, ⟨34, _⟩ => ⟨S2048x2048, .i32⟩
  | .hbm, ⟨35, _⟩ => ⟨S2048x2048, .i32⟩
  | .hbm, ⟨36, _⟩ => ⟨S2048x2048, .i1⟩
  | .hbm, ⟨37, _⟩ => ⟨S_, .f32⟩
  | .hbm, ⟨38, _⟩ => ⟨S_, .f32⟩
  | .hbm, ⟨39, _⟩ => ⟨S12x2048x2048, .i1⟩
  | .hbm, ⟨40, _⟩ => ⟨S12x2048x2048, .f32⟩
  | .hbm, ⟨41, _⟩ => ⟨S12x2048x2048, .f32⟩
  | .hbm, ⟨42, _⟩ => ⟨S_, .f32⟩
  | .hbm, ⟨43, _⟩ => ⟨S12x2048, .f32⟩
  | .hbm, ⟨44, _⟩ => ⟨S12x2048x1, .f32⟩
  | .hbm, ⟨45, _⟩ => ⟨S12x2048x2048, .f32⟩
  | .hbm, ⟨46, _⟩ => ⟨S12x2048x2048, .f32⟩
  | .hbm, ⟨47, _⟩ => ⟨S12x2048x2048, .f32⟩
  | .hbm, ⟨48, _⟩ => ⟨S_, .f32⟩
  | .hbm, ⟨49, _⟩ => ⟨S12x2048, .f32⟩
  | .hbm, ⟨50, _⟩ => ⟨S12x2048x1, .f32⟩
  | .hbm, ⟨51, _⟩ => ⟨S12x2048x2048, .f32⟩
  | .hbm, ⟨52, _⟩ => ⟨S12x2048x2048, .f32⟩
  | .hbm, ⟨53, _⟩ => ⟨S12x64x2048, .f32⟩
  | .hbm, ⟨54, _⟩ => ⟨S2048x12x64, .f32⟩
  | .hbm, ⟨55, _⟩ => ⟨S2048x12x64, .f32⟩
  | .hbm, ⟨56, _⟩ => ⟨S2048x12x64, .f32⟩
  | .hbm, ⟨57, _⟩ => ⟨S_, .f32⟩
  | .hbm, ⟨58, _⟩ => ⟨S2048x12, .f32⟩
  | .hbm, ⟨59, _⟩ => ⟨S12x2048, .f32⟩
  | .hbm, ⟨60, _⟩ => ⟨S12x2048, .f32⟩
  | .hbm, ⟨61, _⟩ => ⟨S12x2048, .f32⟩
  | .hbm, ⟨62, _⟩ => ⟨S6x2x8x256, .f32⟩
  | .hbm, ⟨63, _⟩ => ⟨S6x8x2x256, .f32⟩
  | .hbm, ⟨64, _⟩ => ⟨S_, .i32⟩
  | .hbm, ⟨65, _⟩ => ⟨S_, .f32⟩
  | .hbm, ⟨66, _⟩ => ⟨S6x8x8x256, .f32⟩
  | .hbm, ⟨67, _⟩ => ⟨S6x2x8x256, .f32⟩
  | .hbm, ⟨68, _⟩ => ⟨S6x8x2x256, .f32⟩
  | .hbm, ⟨69, _⟩ => ⟨S_, .i32⟩
  | .hbm, ⟨70, _⟩ => ⟨S_, .f32⟩
  | .hbm, ⟨71, _⟩ => ⟨S6x8x8x256, .f32⟩
  | .hbm, ⟨72, _⟩ => ⟨S2048x768, .f32⟩
  | .hbm, ⟨73, _⟩ => ⟨S2048x768, .f32⟩
  | .hbm, ⟨74, _⟩ => ⟨S2048x768, .f32⟩
  | .hbm, ⟨75, _⟩ => ⟨S6x8x8x256, .f32⟩
  | .hbm, ⟨76, _⟩ => ⟨S6x8x8x256, .f32⟩
  | .local _ .vmem, ⟨0, _⟩ => ⟨S2048x128, .f32⟩
  | .local _ .vmem, ⟨1, _⟩ => ⟨S2048x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x512x128, .f32⟩
  | .local _ .vmem, ⟨7, _⟩ => ⟨S1x512x128, .f32⟩
  | .local _ .vmem, ⟨8, _⟩ => ⟨S1x8x8x256, .f32⟩
  | .local _ .vmem, ⟨9, _⟩ => ⟨S1x8x8x256, .f32⟩
  | .local _ .vmem, ⟨10, _⟩ => ⟨S1x8x8x256, .f32⟩
  | .local _ .vmem, ⟨11, _⟩ => ⟨S1x8x8x256, .f32⟩
  | .local _ .vmem, ⟨12, _⟩ => ⟨S1x8x8x256, .f32⟩
  | .local _ .vmem, ⟨13, _⟩ => ⟨S1x8x8x256, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S1x2x8x256, .f32⟩
  | .local _ .vmem, ⟨23, _⟩ => ⟨S1x2x8x256, .f32⟩
  | .local _ .vmem, ⟨24, _⟩ => ⟨S1x8x8x256, .f32⟩
  | .local _ .vmem, ⟨25, _⟩ => ⟨S1x8x8x256, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_2 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_3 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c_4 : Ref sig .tc := ⟨.hbm, 64, rfl⟩
abbrev main_call2_v0 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_5 : Ref sig .tc := ⟨.hbm, 69, rfl⟩
abbrev main_call3_v0 : Ref sig .tc := ⟨.hbm, 70, rfl⟩
abbrev main_v52 : Ref sig .tc := ⟨.hbm, 71, rfl⟩
abbrev main_v53_0 : Ref sig .tc := ⟨.hbm, 72, rfl⟩
abbrev main_v53_1 : Ref sig .tc := ⟨.hbm, 73, rfl⟩
abbrev main_v53_2 : Ref sig .tc := ⟨.hbm, 74, rfl⟩
abbrev main_v53_3 : Ref sig .tc := ⟨.hbm, 75, rfl⟩
abbrev main_v53_4 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![6, 4], ![false, false]⟩

@[reducible] def k0_t1_loop (i : grid0.Coords) : Scf.Loop 32 :=
  let arg1 : BitVec 32 := BitVec.ofNat 32 (i 1).val
  let c512_i32 : BitVec 32 := 512#32
  let v18 : BitVec 32 := Scalar.muli arg1 c512_i32
  let c0_i32_15 : BitVec 32 := 0#32
  let v20 : BitVec 1 := Scalar.cmpi .sgt v18 c0_i32_15
  let v21 : BitVec 32 := Scalar.extui v20
  let c0_i32_16 : BitVec 32 := 0#32
  let v22 : BitVec 1 := Scalar.cmpi .slt v18 c0_i32_16
  let v23 : BitVec 32 := Scalar.extui v22
  let v24 : BitVec 32 := Scalar.subi v21 v23
  let c256_i32 : BitVec 32 := 256#32
  let c0_i32_17 : BitVec 32 := 0#32
  let v25 : BitVec 1 := Scalar.cmpi .sgt c256_i32 c0_i32_17
  let v26 : BitVec 32 := Scalar.extui v25
  let c0_i32_18 : BitVec 32 := 0#32
  let v27 : BitVec 1 := Scalar.cmpi .slt c256_i32 c0_i32_18
  let v28 : BitVec 32 := Scalar.extui v27
  let v29 : BitVec 32 := Scalar.subi v26 v28
  let v30 : BitVec 1 := Scalar.cmpi .ne v24 v29
  let v31 : BitVec 32 := Scalar.remsi v18 c256_i32
  let c0_i32_19 : BitVec 32 := 0#32
  let v32 : BitVec 1 := Scalar.cmpi .ne v31 c0_i32_19
  let v33 : BitVec 1 := Scalar.andi v30 v32
  let v19 : BitVec 32 := Scalar.divsi v18 c256_i32
  let c1_i32 : BitVec 32 := 1#32
  let v34 : BitVec 32 := Scalar.subi v19 c1_i32
  let v35 : BitVec 32 := Scalar.select v33 v34 v19
  let c8_i32 : BitVec 32 := 8#32
  let v36 : BitVec 32 := Scalar.subi c8_i32 v35
  let c1_i32_20 : BitVec 32 := 1#32
  let v38 : BitVec 32 := Scalar.divsi v36 c1_i32_20
  let v39 : BitVec 32 := Scalar.muli v38 c1_i32_20
  let v40 : BitVec 32 := Scalar.addi v35 v39
  let c1_i32_21 : BitVec 32 := 1#32
  ⟨v35, v40, c1_i32_21⟩
def k0_mult1 (i : grid0.Coords) (k0_t1 : Fin (k0_t1_loop i).trips) : BitVec 32 :=
  let arg1 : BitVec 32 := BitVec.ofNat 32 (i 1).val
  let c512_i32 : BitVec 32 := 512#32
  let v18 : BitVec 32 := Scalar.muli arg1 c512_i32
  let c0_i32_15 : BitVec 32 := 0#32
  let v20 : BitVec 1 := Scalar.cmpi .sgt v18 c0_i32_15
  let v21 : BitVec 32 := Scalar.extui v20
  let c0_i32_16 : BitVec 32 := 0#32
  let v22 : BitVec 1 := Scalar.cmpi .slt v18 c0_i32_16
  let v23 : BitVec 32 := Scalar.extui v22
  let v24 : BitVec 32 := Scalar.subi v21 v23
  let c256_i32 : BitVec 32 := 256#32
  let c0_i32_17 : BitVec 32 := 0#32
  let v25 : BitVec 1 := Scalar.cmpi .sgt c256_i32 c0_i32_17
  let v26 : BitVec 32 := Scalar.extui v25
  let c0_i32_18 : BitVec 32 := 0#32
  let v27 : BitVec 1 := Scalar.cmpi .slt c256_i32 c0_i32_18
  let v28 : BitVec 32 := Scalar.extui v27
  let v29 : BitVec 32 := Scalar.subi v26 v28
  let v30 : BitVec 1 := Scalar.cmpi .ne v24 v29
  let v31 : BitVec 32 := Scalar.remsi v18 c256_i32
  let c0_i32_19 : BitVec 32 := 0#32
  let v32 : BitVec 1 := Scalar.cmpi .ne v31 c0_i32_19
  let v33 : BitVec 1 := Scalar.andi v30 v32
  let v19 : BitVec 32 := Scalar.divsi v18 c256_i32
  let c1_i32 : BitVec 32 := 1#32
  let v34 : BitVec 32 := Scalar.subi v19 c1_i32
  let v35 : BitVec 32 := Scalar.select v33 v34 v19
  let c1_i32_21 : BitVec 32 := 1#32
  let arg15 : BitVec 32 := Scf.iv v35 c1_i32_21 k0_t1
  let c256_i32_55 : BitVec 32 := 256#32
  let v81 : BitVec 32 := Scalar.muli arg15 c256_i32_55
  v81
def k0_off1 (i : grid0.Coords) (k0_t1 : Fin (k0_t1_loop i).trips) : Fin 2 → Nat :=
  let arg1 : BitVec 32 := BitVec.ofNat 32 (i 1).val
  let c512_i32 : BitVec 32 := 512#32
  let v18 : BitVec 32 := Scalar.muli arg1 c512_i32
  let c0_i32_15 : BitVec 32 := 0#32
  let v20 : BitVec 1 := Scalar.cmpi .sgt v18 c0_i32_15
  let v21 : BitVec 32 := Scalar.extui v20
  let c0_i32_16 : BitVec 32 := 0#32
  let v22 : BitVec 1 := Scalar.cmpi .slt v18 c0_i32_16
  let v23 : BitVec 32 := Scalar.extui v22
  let v24 : BitVec 32 := Scalar.subi v21 v23
  let c256_i32 : BitVec 32 := 256#32
  let c0_i32_17 : BitVec 32 := 0#32
  let v25 : BitVec 1 := Scalar.cmpi .sgt c256_i32 c0_i32_17
  let v26 : BitVec 32 := Scalar.extui v25
  let c0_i32_18 : BitVec 32 := 0#32
  let v27 : BitVec 1 := Scalar.cmpi .slt c256_i32 c0_i32_18
  let v28 : BitVec 32 := Scalar.extui v27
  let v29 : BitVec 32 := Scalar.subi v26 v28
  let v30 : BitVec 1 := Scalar.cmpi .ne v24 v29
  let v31 : BitVec 32 := Scalar.remsi v18 c256_i32
  let c0_i32_19 : BitVec 32 := 0#32
  let v32 : BitVec 1 := Scalar.cmpi .ne v31 c0_i32_19
  let v33 : BitVec 1 := Scalar.andi v30 v32
  let v19 : BitVec 32 := Scalar.divsi v18 c256_i32
  let c1_i32 : BitVec 32 := 1#32
  let v34 : BitVec 32 := Scalar.subi v19 c1_i32
  let v35 : BitVec 32 := Scalar.select v33 v34 v19
  let c1_i32_21 : BitVec 32 := 1#32
  let arg15 : BitVec 32 := Scf.iv v35 c1_i32_21 k0_t1
  let c256_i32_55 : BitVec 32 := 256#32
  let v81 : BitVec 32 := Scalar.muli arg15 c256_i32_55
  let v82 : BitVec 32 := v81
  let v83 : Index := Scalar.indexCast v82
  let c0_56 : Index := 0#32
  ![v83.toNat, 0]
def k0_off2 (i : grid0.Coords) (k0_t1 : Fin (k0_t1_loop i).trips) : Fin 4 → Nat :=
  let c0_60 : Index := 0#32
  let arg1 : BitVec 32 := BitVec.ofNat 32 (i 1).val
  let c512_i32 : BitVec 32 := 512#32
  let v18 : BitVec 32 := Scalar.muli arg1 c512_i32
  let c0_i32_15 : BitVec 32 := 0#32
  let v20 : BitVec 1 := Scalar.cmpi .sgt v18 c0_i32_15
  let v21 : BitVec 32 := Scalar.extui v20
  let c0_i32_16 : BitVec 32 := 0#32
  let v22 : BitVec 1 := Scalar.cmpi .slt v18 c0_i32_16
  let v23 : BitVec 32 := Scalar.extui v22
  let v24 : BitVec 32 := Scalar.subi v21 v23
  let c256_i32 : BitVec 32 := 256#32
  let c0_i32_17 : BitVec 32 := 0#32
  let v25 : BitVec 1 := Scalar.cmpi .sgt c256_i32 c0_i32_17
  let v26 : BitVec 32 := Scalar.extui v25
  let c0_i32_18 : BitVec 32 := 0#32
  let v27 : BitVec 1 := Scalar.cmpi .slt c256_i32 c0_i32_18
  let v28 : BitVec 32 := Scalar.extui v27
  let v29 : BitVec 32 := Scalar.subi v26 v28
  let v30 : BitVec 1 := Scalar.cmpi .ne v24 v29
  let v31 : BitVec 32 := Scalar.remsi v18 c256_i32
  let c0_i32_19 : BitVec 32 := 0#32
  let v32 : BitVec 1 := Scalar.cmpi .ne v31 c0_i32_19
  let v33 : BitVec 1 := Scalar.andi v30 v32
  let v19 : BitVec 32 := Scalar.divsi v18 c256_i32
  let c1_i32 : BitVec 32 := 1#32
  let v34 : BitVec 32 := Scalar.subi v19 c1_i32
  let v35 : BitVec 32 := Scalar.select v33 v34 v19
  let c1_i32_21 : BitVec 32 := 1#32
  let arg15 : BitVec 32 := Scf.iv v35 c1_i32_21 k0_t1
  let v91 : Index := Scalar.indexCast arg15
  let c0_61 : Index := 0#32
  let c0_62 : Index := 0#32
  ![0, v91.toNat, 0, 0]
def k0_off3 (i : grid0.Coords) (k0_t1 : Fin (k0_t1_loop i).trips) : Fin 2 → Nat :=
  let arg1 : BitVec 32 := BitVec.ofNat 32 (i 1).val
  let c512_i32 : BitVec 32 := 512#32
  let v18 : BitVec 32 := Scalar.muli arg1 c512_i32
  let c0_i32_15 : BitVec 32 := 0#32
  let v20 : BitVec 1 := Scalar.cmpi .sgt v18 c0_i32_15
  let v21 : BitVec 32 := Scalar.extui v20
  let c0_i32_16 : BitVec 32 := 0#32
  let v22 : BitVec 1 := Scalar.cmpi .slt v18 c0_i32_16
  let v23 : BitVec 32 := Scalar.extui v22
  let v24 : BitVec 32 := Scalar.subi v21 v23
  let c256_i32 : BitVec 32 := 256#32
  let c0_i32_17 : BitVec 32 := 0#32
  let v25 : BitVec 1 := Scalar.cmpi .sgt c256_i32 c0_i32_17
  let v26 : BitVec 32 := Scalar.extui v25
  let c0_i32_18 : BitVec 32 := 0#32
  let v27 : BitVec 1 := Scalar.cmpi .slt c256_i32 c0_i32_18
  let v28 : BitVec 32 := Scalar.extui v27
  let v29 : BitVec 32 := Scalar.subi v26 v28
  let v30 : BitVec 1 := Scalar.cmpi .ne v24 v29
  let v31 : BitVec 32 := Scalar.remsi v18 c256_i32
  let c0_i32_19 : BitVec 32 := 0#32
  let v32 : BitVec 1 := Scalar.cmpi .ne v31 c0_i32_19
  let v33 : BitVec 1 := Scalar.andi v30 v32
  let v19 : BitVec 32 := Scalar.divsi v18 c256_i32
  let c1_i32 : BitVec 32 := 1#32
  let v34 : BitVec 32 := Scalar.subi v19 c1_i32
  let v35 : BitVec 32 := Scalar.select v33 v34 v19
  let c1_i32_21 : BitVec 32 := 1#32
  let arg15 : BitVec 32 := Scf.iv v35 c1_i32_21 k0_t1
  let c256_i32_55 : BitVec 32 := 256#32
  let v81 : BitVec 32 := Scalar.muli arg15 c256_i32_55
  let v82 : BitVec 32 := v81
  let v156 : Index := Scalar.indexCast v82
  let c64_87 : Index := 64#32
  ![v156.toNat, 64]
def k0_off4 (i : grid0.Coords) (k0_t1 : Fin (k0_t1_loop i).trips) : Fin 4 → Nat :=
  let c0_91 : Index := 0#32
  let arg1 : BitVec 32 := BitVec.ofNat 32 (i 1).val
  let c512_i32 : BitVec 32 := 512#32
  let v18 : BitVec 32 := Scalar.muli arg1 c512_i32
  let c0_i32_15 : BitVec 32 := 0#32
  let v20 : BitVec 1 := Scalar.cmpi .sgt v18 c0_i32_15
  let v21 : BitVec 32 := Scalar.extui v20
  let c0_i32_16 : BitVec 32 := 0#32
  let v22 : BitVec 1 := Scalar.cmpi .slt v18 c0_i32_16
  let v23 : BitVec 32 := Scalar.extui v22
  let v24 : BitVec 32 := Scalar.subi v21 v23
  let c256_i32 : BitVec 32 := 256#32
  let c0_i32_17 : BitVec 32 := 0#32
  let v25 : BitVec 1 := Scalar.cmpi .sgt c256_i32 c0_i32_17
  let v26 : BitVec 32 := Scalar.extui v25
  let c0_i32_18 : BitVec 32 := 0#32
  let v27 : BitVec 1 := Scalar.cmpi .slt c256_i32 c0_i32_18
  let v28 : BitVec 32 := Scalar.extui v27
  let v29 : BitVec 32 := Scalar.subi v26 v28
  let v30 : BitVec 1 := Scalar.cmpi .ne v24 v29
  let v31 : BitVec 32 := Scalar.remsi v18 c256_i32
  let c0_i32_19 : BitVec 32 := 0#32
  let v32 : BitVec 1 := Scalar.cmpi .ne v31 c0_i32_19
  let v33 : BitVec 1 := Scalar.andi v30 v32
  let v19 : BitVec 32 := Scalar.divsi v18 c256_i32
  let c1_i32 : BitVec 32 := 1#32
  let v34 : BitVec 32 := Scalar.subi v19 c1_i32
  let v35 : BitVec 32 := Scalar.select v33 v34 v19
  let c1_i32_21 : BitVec 32 := 1#32
  let arg15 : BitVec 32 := Scf.iv v35 c1_i32_21 k0_t1
  let v164 : Index := Scalar.indexCast arg15
  let c1_92 : Index := 1#32
  let c0_93 : Index := 0#32
  ![0, v164.toNat, 1, 0]
@[reducible] def k0_t2_loop (i : grid0.Coords) : Scf.Loop 32 :=
  let arg1 : BitVec 32 := BitVec.ofNat 32 (i 1).val
  let c512_i32 : BitVec 32 := 512#32
  let v18 : BitVec 32 := Scalar.muli arg1 c512_i32
  let c0_i32_15 : BitVec 32 := 0#32
  let v20 : BitVec 1 := Scalar.cmpi .sgt v18 c0_i32_15
  let v21 : BitVec 32 := Scalar.extui v20
  let c0_i32_16 : BitVec 32 := 0#32
  let v22 : BitVec 1 := Scalar.cmpi .slt v18 c0_i32_16
  let v23 : BitVec 32 := Scalar.extui v22
  let v24 : BitVec 32 := Scalar.subi v21 v23
  let c256_i32 : BitVec 32 := 256#32
  let c0_i32_17 : BitVec 32 := 0#32
  let v25 : BitVec 1 := Scalar.cmpi .sgt c256_i32 c0_i32_17
  let v26 : BitVec 32 := Scalar.extui v25
  let c0_i32_18 : BitVec 32 := 0#32
  let v27 : BitVec 1 := Scalar.cmpi .slt c256_i32 c0_i32_18
  let v28 : BitVec 32 := Scalar.extui v27
  let v29 : BitVec 32 := Scalar.subi v26 v28
  let v30 : BitVec 1 := Scalar.cmpi .ne v24 v29
  let v31 : BitVec 32 := Scalar.remsi v18 c256_i32
  let c0_i32_19 : BitVec 32 := 0#32
  let v32 : BitVec 1 := Scalar.cmpi .ne v31 c0_i32_19
  let v33 : BitVec 1 := Scalar.andi v30 v32
  let v19 : BitVec 32 := Scalar.divsi v18 c256_i32
  let c1_i32 : BitVec 32 := 1#32
  let v34 : BitVec 32 := Scalar.subi v19 c1_i32
  let v35 : BitVec 32 := Scalar.select v33 v34 v19
  let c8_i32 : BitVec 32 := 8#32
  let v36 : BitVec 32 := Scalar.subi c8_i32 v35
  let c1_i32_20 : BitVec 32 := 1#32
  let v38 : BitVec 32 := Scalar.divsi v36 c1_i32_20
  let v39 : BitVec 32 := Scalar.muli v38 c1_i32_20
  let v40 : BitVec 32 := Scalar.addi v35 v39
  let v37 : BitVec 32 := Scalar.addi v35 v36
  let c1_i32_22 : BitVec 32 := 1#32
  ⟨v40, v37, c1_i32_22⟩
def k0_mult2 (i : grid0.Coords) (k0_t2 : Fin (k0_t2_loop i).trips) : BitVec 32 :=
  let arg1 : BitVec 32 := BitVec.ofNat 32 (i 1).val
  let c512_i32 : BitVec 32 := 512#32
  let v18 : BitVec 32 := Scalar.muli arg1 c512_i32
  let c0_i32_15 : BitVec 32 := 0#32
  let v20 : BitVec 1 := Scalar.cmpi .sgt v18 c0_i32_15
  let v21 : BitVec 32 := Scalar.extui v20
  let c0_i32_16 : BitVec 32 := 0#32
  let v22 : BitVec 1 := Scalar.cmpi .slt v18 c0_i32_16
  let v23 : BitVec 32 := Scalar.extui v22
  let v24 : BitVec 32 := Scalar.subi v21 v23
  let c256_i32 : BitVec 32 := 256#32
  let c0_i32_17 : BitVec 32 := 0#32
  let v25 : BitVec 1 := Scalar.cmpi .sgt c256_i32 c0_i32_17
  let v26 : BitVec 32 := Scalar.extui v25
  let c0_i32_18 : BitVec 32 := 0#32
  let v27 : BitVec 1 := Scalar.cmpi .slt c256_i32 c0_i32_18
  let v28 : BitVec 32 := Scalar.extui v27
  let v29 : BitVec 32 := Scalar.subi v26 v28
  let v30 : BitVec 1 := Scalar.cmpi .ne v24 v29
  let v31 : BitVec 32 := Scalar.remsi v18 c256_i32
  let c0_i32_19 : BitVec 32 := 0#32
  let v32 : BitVec 1 := Scalar.cmpi .ne v31 c0_i32_19
  let v33 : BitVec 1 := Scalar.andi v30 v32
  let v19 : BitVec 32 := Scalar.divsi v18 c256_i32
  let c1_i32 : BitVec 32 := 1#32
  let v34 : BitVec 32 := Scalar.subi v19 c1_i32
  let v35 : BitVec 32 := Scalar.select v33 v34 v19
  let c8_i32 : BitVec 32 := 8#32
  let v36 : BitVec 32 := Scalar.subi c8_i32 v35
  let c1_i32_20 : BitVec 32 := 1#32
  let v38 : BitVec 32 := Scalar.divsi v36 c1_i32_20
  let v39 : BitVec 32 := Scalar.muli v38 c1_i32_20
  let v40 : BitVec 32 := Scalar.addi v35 v39
  let c1_i32_22 : BitVec 32 := 1#32
  let arg15 : BitVec 32 := Scf.iv v40 c1_i32_22 k0_t2
  let c256_i32_55 : BitVec 32 := 256#32
  let v81 : BitVec 32 := Scalar.muli arg15 c256_i32_55
  v81
def k0_off5 (i : grid0.Coords) (k0_t2 : Fin (k0_t2_loop i).trips) : Fin 2 → Nat :=
  let arg1 : BitVec 32 := BitVec.ofNat 32 (i 1).val
  let c512_i32 : BitVec 32 := 512#32
  let v18 : BitVec 32 := Scalar.muli arg1 c512_i32
  let c0_i32_15 : BitVec 32 := 0#32
  let v20 : BitVec 1 := Scalar.cmpi .sgt v18 c0_i32_15
  let v21 : BitVec 32 := Scalar.extui v20
  let c0_i32_16 : BitVec 32 := 0#32
  let v22 : BitVec 1 := Scalar.cmpi .slt v18 c0_i32_16
  let v23 : BitVec 32 := Scalar.extui v22
  let v24 : BitVec 32 := Scalar.subi v21 v23
  let c256_i32 : BitVec 32 := 256#32
  let c0_i32_17 : BitVec 32 := 0#32
  let v25 : BitVec 1 := Scalar.cmpi .sgt c256_i32 c0_i32_17
  let v26 : BitVec 32 := Scalar.extui v25
  let c0_i32_18 : BitVec 32 := 0#32
  let v27 : BitVec 1 := Scalar.cmpi .slt c256_i32 c0_i32_18
  let v28 : BitVec 32 := Scalar.extui v27
  let v29 : BitVec 32 := Scalar.subi v26 v28
  let v30 : BitVec 1 := Scalar.cmpi .ne v24 v29
  let v31 : BitVec 32 := Scalar.remsi v18 c256_i32
  let c0_i32_19 : BitVec 32 := 0#32
  let v32 : BitVec 1 := Scalar.cmpi .ne v31 c0_i32_19
  let v33 : BitVec 1 := Scalar.andi v30 v32
  let v19 : BitVec 32 := Scalar.divsi v18 c256_i32
  let c1_i32 : BitVec 32 := 1#32
  let v34 : BitVec 32 := Scalar.subi v19 c1_i32
  let v35 : BitVec 32 := Scalar.select v33 v34 v19
  let c8_i32 : BitVec 32 := 8#32
  let v36 : BitVec 32 := Scalar.subi c8_i32 v35
  let c1_i32_20 : BitVec 32 := 1#32
  let v38 : BitVec 32 := Scalar.divsi v36 c1_i32_20
  let v39 : BitVec 32 := Scalar.muli v38 c1_i32_20
  let v40 : BitVec 32 := Scalar.addi v35 v39
  let c1_i32_22 : BitVec 32 := 1#32
  let arg15 : BitVec 32 := Scf.iv v40 c1_i32_22 k0_t2
  let c256_i32_55 : BitVec 32 := 256#32
  let v81 : BitVec 32 := Scalar.muli arg15 c256_i32_55
  let v82 : BitVec 32 := v81
  let v83 : Index := Scalar.indexCast v82
  let c0_56 : Index := 0#32
  ![v83.toNat, 0]
def k0_off6 (i : grid0.Coords) (k0_t2 : Fin (k0_t2_loop i).trips) : Fin 4 → Nat :=
  let c0_60 : Index := 0#32
  let arg1 : BitVec 32 := BitVec.ofNat 32 (i 1).val
  let c512_i32 : BitVec 32 := 512#32
  let v18 : BitVec 32 := Scalar.muli arg1 c512_i32
  let c0_i32_15 : BitVec 32 := 0#32
  let v20 : BitVec 1 := Scalar.cmpi .sgt v18 c0_i32_15
  let v21 : BitVec 32 := Scalar.extui v20
  let c0_i32_16 : BitVec 32 := 0#32
  let v22 : BitVec 1 := Scalar.cmpi .slt v18 c0_i32_16
  let v23 : BitVec 32 := Scalar.extui v22
  let v24 : BitVec 32 := Scalar.subi v21 v23
  let c256_i32 : BitVec 32 := 256#32
  let c0_i32_17 : BitVec 32 := 0#32
  let v25 : BitVec 1 := Scalar.cmpi .sgt c256_i32 c0_i32_17
  let v26 : BitVec 32 := Scalar.extui v25
  let c0_i32_18 : BitVec 32 := 0#32
  let v27 : BitVec 1 := Scalar.cmpi .slt c256_i32 c0_i32_18
  let v28 : BitVec 32 := Scalar.extui v27
  let v29 : BitVec 32 := Scalar.subi v26 v28
  let v30 : BitVec 1 := Scalar.cmpi .ne v24 v29
  let v31 : BitVec 32 := Scalar.remsi v18 c256_i32
  let c0_i32_19 : BitVec 32 := 0#32
  let v32 : BitVec 1 := Scalar.cmpi .ne v31 c0_i32_19
  let v33 : BitVec 1 := Scalar.andi v30 v32
  let v19 : BitVec 32 := Scalar.divsi v18 c256_i32
  let c1_i32 : BitVec 32 := 1#32
  let v34 : BitVec 32 := Scalar.subi v19 c1_i32
  let v35 : BitVec 32 := Scalar.select v33 v34 v19
  let c8_i32 : BitVec 32 := 8#32
  let v36 : BitVec 32 := Scalar.subi c8_i32 v35
  let c1_i32_20 : BitVec 32 := 1#32
  let v38 : BitVec 32 := Scalar.divsi v36 c1_i32_20
  let v39 : BitVec 32 := Scalar.muli v38 c1_i32_20
  let v40 : BitVec 32 := Scalar.addi v35 v39
  let c1_i32_22 : BitVec 32 := 1#32
  let arg15 : BitVec 32 := Scf.iv v40 c1_i32_22 k0_t2
  let v91 : Index := Scalar.indexCast arg15
  let c0_61 : Index := 0#32
  let c0_62 : Index := 0#32
  ![0, v91.toNat, 0, 0]
def k0_off7 (i : grid0.Coords) (k0_t2 : Fin (k0_t2_loop i).trips) : Fin 2 → Nat :=
  let arg1 : BitVec 32 := BitVec.ofNat 32 (i 1).val
  let c512_i32 : BitVec 32 := 512#32
  let v18 : BitVec 32 := Scalar.muli arg1 c512_i32
  let c0_i32_15 : BitVec 32 := 0#32
  let v20 : BitVec 1 := Scalar.cmpi .sgt v18 c0_i32_15
  let v21 : BitVec 32 := Scalar.extui v20
  let c0_i32_16 : BitVec 32 := 0#32
  let v22 : BitVec 1 := Scalar.cmpi .slt v18 c0_i32_16
  let v23 : BitVec 32 := Scalar.extui v22
  let v24 : BitVec 32 := Scalar.subi v21 v23
  let c256_i32 : BitVec 32 := 256#32
  let c0_i32_17 : BitVec 32 := 0#32
  let v25 : BitVec 1 := Scalar.cmpi .sgt c256_i32 c0_i32_17
  let v26 : BitVec 32 := Scalar.extui v25
  let c0_i32_18 : BitVec 32 := 0#32
  let v27 : BitVec 1 := Scalar.cmpi .slt c256_i32 c0_i32_18
  let v28 : BitVec 32 := Scalar.extui v27
  let v29 : BitVec 32 := Scalar.subi v26 v28
  let v30 : BitVec 1 := Scalar.cmpi .ne v24 v29
  let v31 : BitVec 32 := Scalar.remsi v18 c256_i32
  let c0_i32_19 : BitVec 32 := 0#32
  let v32 : BitVec 1 := Scalar.cmpi .ne v31 c0_i32_19
  let v33 : BitVec 1 := Scalar.andi v30 v32
  let v19 : BitVec 32 := Scalar.divsi v18 c256_i32
  let c1_i32 : BitVec 32 := 1#32
  let v34 : BitVec 32 := Scalar.subi v19 c1_i32
  let v35 : BitVec 32 := Scalar.select v33 v34 v19
  let c8_i32 : BitVec 32 := 8#32
  let v36 : BitVec 32 := Scalar.subi c8_i32 v35
  let c1_i32_20 : BitVec 32 := 1#32
  let v38 : BitVec 32 := Scalar.divsi v36 c1_i32_20
  let v39 : BitVec 32 := Scalar.muli v38 c1_i32_20
  let v40 : BitVec 32 := Scalar.addi v35 v39
  let c1_i32_22 : BitVec 32 := 1#32
  let arg15 : BitVec 32 := Scf.iv v40 c1_i32_22 k0_t2
  let c256_i32_55 : BitVec 32 := 256#32
  let v81 : BitVec 32 := Scalar.muli arg15 c256_i32_55
  let v82 : BitVec 32 := v81
  let v156 : Index := Scalar.indexCast v82
  let c64_87 : Index := 64#32
  ![v156.toNat, 64]
def k0_off8 (i : grid0.Coords) (k0_t2 : Fin (k0_t2_loop i).trips) : Fin 4 → Nat :=
  let c0_91 : Index := 0#32
  let arg1 : BitVec 32 := BitVec.ofNat 32 (i 1).val
  let c512_i32 : BitVec 32 := 512#32
  let v18 : BitVec 32 := Scalar.muli arg1 c512_i32
  let c0_i32_15 : BitVec 32 := 0#32
  let v20 : BitVec 1 := Scalar.cmpi .sgt v18 c0_i32_15
  let v21 : BitVec 32 := Scalar.extui v20
  let c0_i32_16 : BitVec 32 := 0#32
  let v22 : BitVec 1 := Scalar.cmpi .slt v18 c0_i32_16
  let v23 : BitVec 32 := Scalar.extui v22
  let v24 : BitVec 32 := Scalar.subi v21 v23
  let c256_i32 : BitVec 32 := 256#32
  let c0_i32_17 : BitVec 32 := 0#32
  let v25 : BitVec 1 := Scalar.cmpi .sgt c256_i32 c0_i32_17
  let v26 : BitVec 32 := Scalar.extui v25
  let c0_i32_18 : BitVec 32 := 0#32
  let v27 : BitVec 1 := Scalar.cmpi .slt c256_i32 c0_i32_18
  let v28 : BitVec 32 := Scalar.extui v27
  let v29 : BitVec 32 := Scalar.subi v26 v28
  let v30 : BitVec 1 := Scalar.cmpi .ne v24 v29
  let v31 : BitVec 32 := Scalar.remsi v18 c256_i32
  let c0_i32_19 : BitVec 32 := 0#32
  let v32 : BitVec 1 := Scalar.cmpi .ne v31 c0_i32_19
  let v33 : BitVec 1 := Scalar.andi v30 v32
  let v19 : BitVec 32 := Scalar.divsi v18 c256_i32
  let c1_i32 : BitVec 32 := 1#32
  let v34 : BitVec 32 := Scalar.subi v19 c1_i32
  let v35 : BitVec 32 := Scalar.select v33 v34 v19
  let c8_i32 : BitVec 32 := 8#32
  let v36 : BitVec 32 := Scalar.subi c8_i32 v35
  let c1_i32_20 : BitVec 32 := 1#32
  let v38 : BitVec 32 := Scalar.divsi v36 c1_i32_20
  let v39 : BitVec 32 := Scalar.muli v38 c1_i32_20
  let v40 : BitVec 32 := Scalar.addi v35 v39
  let c1_i32_22 : BitVec 32 := 1#32
  let arg15 : BitVec 32 := Scf.iv v40 c1_i32_22 k0_t2
  let v164 : Index := Scalar.indexCast arg15
  let c1_92 : Index := 1#32
  let c0_93 : Index := 0#32
  ![0, v164.toNat, 1, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x8x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x8x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S2048x768 : Shape := ⟨2, ![2048, 768]⟩
abbrev S2048x128 : Shape := ⟨2, ![2048, 128]⟩
abbrev S2048x12 : Shape := ⟨2, ![2048, 12]⟩
abbrev S2048x12x64 : Shape := ⟨3, ![2048, 12, 64]⟩
abbrev S12x2048x2048 : Shape := ⟨3, ![12, 2048, 2048]⟩
abbrev S_ : Shape := ⟨0, ![]⟩
abbrev S12x2048 : Shape := ⟨2, ![12, 2048]⟩
abbrev S12x2048x1 : Shape := ⟨3, ![12, 2048, 1]⟩
abbrev S12x1x2048 : Shape := ⟨3, ![12, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S12x64x2048 : Shape := ⟨3, ![12, 64, 2048]⟩
abbrev S12x2048x64 : Shape := ⟨3, ![12, 2048, 64]⟩
abbrev S6x2x8x256 : Shape := ⟨4, ![6, 2, 8, 256]⟩
abbrev S6x8x2x256 : Shape := ⟨4, ![6, 8, 2, 256]⟩
abbrev S6x8x8x256 : Shape := ⟨4, ![6, 8, 8, 256]⟩

abbrev nBuf : Space → Nat
  | .hbm => 132
  | .vmem => 0
  | .smem => 0
  | _ => 0

abbrev hbmTy0_0 (i : Nat) : BufTy := match i % 128 with
  | 0 => ⟨S2048x768, .f32⟩
  | 1 => ⟨S2048x768, .f32⟩
  | 2 => ⟨S2048x768, .f32⟩
  | 3 => ⟨S2048x128, .f32⟩
  | 4 => ⟨S2048x768, .f32⟩
  | 5 => ⟨S2048x12, .f32⟩
  | 6 => ⟨S2048x12x64, .f32⟩
  | 7 => ⟨S2048x12x64, .f32⟩
  | 8 => ⟨S2048x12x64, .f32⟩
  | 9 => ⟨S12x2048x2048, .f32⟩
  | 10 => ⟨S_, .f32⟩
  | 11 => ⟨S12x2048x2048, .f32⟩
  | 12 => ⟨S12x2048x2048, .f32⟩
  | 13 => ⟨S12x2048, .f32⟩
  | 14 => ⟨S12x2048x1, .f32⟩
  | 15 => ⟨S12x2048x2048, .f32⟩
  | 16 => ⟨S12x2048x2048, .f32⟩
  | 17 => ⟨S12x2048, .f32⟩
  | 18 => ⟨S12x1x2048, .f32⟩
  | 19 => ⟨S12x2048x2048, .f32⟩
  | 20 => ⟨S12x2048x2048, .f32⟩
  | 21 => ⟨S2048, .i32⟩
  | 22 => ⟨S1x2048, .i32⟩
  | 23 => ⟨S2048x1, .i32⟩
  | 24 => ⟨S2048x2048, .i32⟩
  | 25 => ⟨S2048x2048, .i32⟩
  | 26 => ⟨S2048x2048, .i1⟩
  | 27 => ⟨S_, .f32⟩
  | 28 => ⟨S_, .f32⟩
  | 29 => ⟨S12x2048x2048, .i1⟩
  | 30 => ⟨S12x2048x2048, .f32⟩
  | 31 => ⟨S12x2048x2048, .f32⟩
  | 32 => ⟨S_, .f32⟩
  | 33 => ⟨S12x2048x2048, .f32⟩
  | 34 => ⟨S_, .f32⟩
  | 35 => ⟨S12x2048, .f32⟩
  | 36 => ⟨S12x2048x1, .f32⟩
  | 37 => ⟨S12x2048x2048, .f32⟩
  | 38 => ⟨S12x2048x2048, .i1⟩
  | 39 => ⟨S12x2048x2048, .f32⟩
  | 40 => ⟨S_, .f32⟩
  | 41 => ⟨S12x2048, .f32⟩
  | 42 => ⟨S_, .f32⟩
  | 43 => ⟨S12x2048, .f32⟩
  | 44 => ⟨S12x2048, .f32⟩
  | 45 => ⟨S_, .f32⟩
  | 46 => ⟨S12x2048, .f32⟩
  | 47 => ⟨S12x2048, .i1⟩
  | 48 => ⟨S_, .f32⟩
  | 49 => ⟨S12x2048, .f32⟩
  | 50 => ⟨S12x2048, .i1⟩
  | 51 => ⟨S_, .f32⟩
  | 52 => ⟨S12x2048, .f32⟩
  | 53 => ⟨S_, .f32⟩
  | 54 => ⟨S12x2048, .f32⟩
  | 55 => ⟨S_, .f32⟩
  | 56 => ⟨S12x2048, .f32⟩
  | 57 => ⟨S12x2048, .f32⟩
  | 58 => ⟨S12x2048, .f32⟩
  | 59 => ⟨S12x2048x1, .f32⟩
  | 60 => ⟨S12x2048x2048, .f32⟩
  | 61 => ⟨S12x2048x2048, .f32⟩
  | 62 => ⟨S12x2048x2048, .f32⟩
  | 63 => ⟨S_, .f32⟩
  | 64 => ⟨S12x2048, .f32⟩
  | 65 => ⟨S12x2048x1, .f32⟩
  | 66 => ⟨S12x2048x2048, .f32⟩
  | 67 => ⟨S12x2048x2048, .f32⟩
  | 68 => ⟨S12x2048x1, .f32⟩
  | 69 => ⟨S_, .f32⟩
  | 70 => ⟨S12x2048x1, .f32⟩
  | 71 => ⟨S12x2048x1, .f32⟩
  | 72 => ⟨S12x64x2048, .f32⟩
  | 73 => ⟨S2048x12x64, .f32⟩
  | 74 => ⟨S2048x768, .f32⟩
  | 75 => ⟨S2048x12x64, .f32⟩
  | 76 => ⟨S12x64x2048, .f32⟩
  | 77 => ⟨S12x2048x2048, .f32⟩
  | 78 => ⟨S12x64x2048, .f32⟩
  | 79 => ⟨S2048x12x64, .f32⟩
  | 80 => ⟨S12x2048x2048, .f32⟩
  | 81 => ⟨S12x2048x2048, .f32⟩
  | 82 => ⟨S12x2048x2048, .f32⟩
  | 83 => ⟨S_, .f32⟩
  | 84 => ⟨S12x2048, .f32⟩
  | 85 => ⟨S12x2048x1, .f32⟩
  | 86 => ⟨S12x2048x1, .f32⟩
  | 87 => ⟨S12x2048x2048, .f32⟩
  | 88 => ⟨S12x2048x2048, .f32⟩
  | 89 => ⟨S_, .f32⟩
  | 90 => ⟨S12x2048, .f32⟩
  | 91 => ⟨S12x2048x2048, .f32⟩
  | 92 => ⟨S12x2048x2048, .f32⟩
  | 93 => ⟨S12x2048x2048, .f32⟩
  | 94 => ⟨S_, .f32⟩
  | 95 => ⟨S12x2048x2048, .f32⟩
  | 96 => ⟨S12x2048x2048, .f32⟩
  | 97 => ⟨S12x2048x2048, .f32⟩
  | 98 => ⟨S_, .f32⟩
  | 99 => ⟨S12x2048, .f32⟩
  | 100 => ⟨S12x1x2048, .f32⟩
  | 101 => ⟨S_, .f32⟩
  | 102 => ⟨S12x2048, .f32⟩
  | 103 => ⟨S2048x12, .f32⟩
  | 104 => ⟨S_, .f32⟩
  | 105 => ⟨S12x2048, .f32⟩
  | 106 => ⟨S12x2048x1, .f32⟩
  | 107 => ⟨S_, .f32⟩
  | 108 => ⟨S12x2048, .f32⟩
  | 109 => ⟨S2048x12, .f32⟩
  | 110 => ⟨S_, .f32⟩
  | 111 => ⟨S12x2048x2048, .f32⟩
  | 112 => ⟨S12x2048x2048, .f32⟩
  | 113 => ⟨S12x2048x64, .f32⟩
  | 114 => ⟨S2048x12x64, .f32⟩
  | 115 => ⟨S12x2048x64, .f32⟩
  | 116 => ⟨S2048x12x64, .f32⟩
  | 117 => ⟨S2048x768, .f32⟩
  | 118 => ⟨S2048x768, .f32⟩
  | 119 => ⟨S2048x768, .f32⟩
  | 120 => ⟨S12x2048, .f32⟩
  | 121 => ⟨S6x2x8x256, .f32⟩
  | 122 => ⟨S6x8x2x256, .f32⟩
  | 123 => ⟨S_, .i32⟩
  | 124 => ⟨S_, .f32⟩
  | 125 => ⟨S6x8x8x256, .f32⟩
  | 126 => ⟨S12x2048, .f32⟩
  | 127 => ⟨S6x2x8x256, .f32⟩
  | _ => ⟨S2048x768, .f32⟩

abbrev hbmTy0_1 (i : Nat) : BufTy := match i % 128 with
  | 0 => ⟨S6x8x2x256, .f32⟩
  | 1 => ⟨S_, .i32⟩
  | 2 => ⟨S_, .f32⟩
  | 3 => ⟨S6x8x8x256, .f32⟩
  | _ => ⟨S2048x768, .f32⟩

abbrev hbmTy (i : Nat) : BufTy := match i / 128 with
  | 0 => hbmTy0_0 i
  | 1 => hbmTy0_1 i
  | _ => ⟨S2048x768, .f32⟩

abbrev bufTy : (tb : Table) → Fin (tcTables nBuf tb) → BufTy
  | .hbm, ⟨i, _⟩ => hbmTy i
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_call0_v0 : Ref sig .tc := ⟨.hbm, 28, rfl⟩
abbrev main_v21_1 : Ref sig .tc := ⟨.hbm, 29, rfl⟩
abbrev main_call0_v2 : Ref sig .tc := ⟨.hbm, 30, rfl⟩
abbrev main_v21_0 : Ref sig .tc := ⟨.hbm, 31, rfl⟩
abbrev main_call0_cst : Ref sig .tc := ⟨.hbm, 32, rfl⟩
abbrev main_v21_2 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_call1_cst : Ref sig .tc := ⟨.hbm, 94, rfl⟩
abbrev main_call1_v0 : Ref sig .tc := ⟨.hbm, 95, rfl⟩
abbrev main_v70 : Ref sig .tc := ⟨.hbm, 96, rfl⟩
abbrev main_v71 : Ref sig .tc := ⟨.hbm, 97, rfl⟩
abbrev main_cst_13 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_cst_16 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_c : Ref sig .tc := ⟨.hbm, 123, rfl⟩
abbrev main_call2_v0 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_c_18 : Ref sig .tc := ⟨.hbm, 129, rfl⟩
abbrev main_call3_v0 : Ref sig .tc := ⟨.hbm, 130, rfl⟩
abbrev main_v96 : Ref sig .tc := ⟨.hbm, 131, rfl⟩

abbrev nD : Nat := 1
abbrev τ : Topo := Topo.v7x

variable {F : FTy → Type} [FloatOps F]
-- ==== DownHidden.lean ====
abbrev S2048x1024 : Shape := ⟨2, ![2048, 1024]⟩
abbrev S2816x1024 : Shape := ⟨2, ![2816, 1024]⟩
abbrev S2048x2816 : Shape := ⟨2, ![2048, 2816]⟩
abbrev S512x1024 : Shape := ⟨2, ![512, 1024]⟩
abbrev S512x2816 : Shape := ⟨2, ![512, 2816]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x2816, .f32⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .f32⟩
  | .local _ .vmem, ⟨4, _⟩ => ⟨S512x2816, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownHiddenIdeal.lean ====
abbrev S2048x1024 : Shape := ⟨2, ![2048, 1024]⟩
abbrev S2816x1024 : Shape := ⟨2, ![2816, 1024]⟩
abbrev S2048x2816 : Shape := ⟨2, ![2048, 2816]⟩
abbrev S512x1024 : Shape := ⟨2, ![512, 1024]⟩
abbrev S512x2816 : Shape := ⟨2, ![512, 2816]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x2816, .f32⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .f32⟩
  | .local _ .vmem, ⟨4, _⟩ => ⟨S512x2816, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownHiddenReferenceIdeal.lean ====
abbrev S2048x1024 : Shape := ⟨2, ![2048, 1024]⟩
abbrev S2816x1024 : Shape := ⟨2, ![2816, 1024]⟩
abbrev S_ : Shape := ⟨0, ![]⟩
abbrev S2048x2816 : Shape := ⟨2, ![2048, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S_, .f32⟩
  | .hbm, ⟨3, _⟩ => ⟨S2048x2816, .f32⟩
  | .hbm, ⟨4, _⟩ => ⟨S2816x1024, .f32⟩
  | .hbm, ⟨5, _⟩ => ⟨S2048x1024, .f32⟩
  | .hbm, ⟨6, _⟩ => ⟨S2048x1024, .f32⟩
  | .hbm, ⟨7, _⟩ => ⟨S2048x2816, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownWeight.lean ====
abbrev S2048x2816 : Shape := ⟨2, ![2048, 2816]⟩
abbrev S2048x1024 : Shape := ⟨2, ![2048, 1024]⟩
abbrev S2816x1024 : Shape := ⟨2, ![2816, 1024]⟩
abbrev S2048x1408 : Shape := ⟨2, ![2048, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S1408x1024, .bf16⟩
  | .local _ .vmem, ⟨4, _⟩ => ⟨S1408x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownWeightIdeal.lean ====
abbrev S2048x2816 : Shape := ⟨2, ![2048, 2816]⟩
abbrev S2048x1024 : Shape := ⟨2, ![2048, 1024]⟩
abbrev S2816x1024 : Shape := ⟨2, ![2816, 1024]⟩
abbrev S2048x1408 : Shape := ⟨2, ![2048, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S1408x1024, .bf16⟩
  | .local _ .vmem, ⟨4, _⟩ => ⟨S1408x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownWeightReferenceIdeal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S_, .f32⟩
  | .hbm, ⟨3, _⟩ => ⟨S2816x1024, .f32⟩
  | .hbm, ⟨4, _⟩ => ⟨S2048x2816, .f32⟩
  | .hbm, ⟨5, _⟩ => ⟨S2048x1024, .f32⟩
  | .hbm, ⟨6, _⟩ => ⟨S2048x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpInput.lean ====
abbrev S2048x2816 : Shape := ⟨2, ![2048, 2816]⟩
abbrev S1024x2816 : Shape := ⟨2, ![1024, 2816]⟩
abbrev S2048x1024 : Shape := ⟨2, ![2048, 1024]⟩
abbrev S512x2816 : Shape := ⟨2, ![512, 2816]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S1024x2816, .bf16⟩
  | .hbm, ⟨2, _⟩ => ⟨S2048x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S512x1024, .f32⟩
  | .local _ .vmem, ⟨4, _⟩ => ⟨S512x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpInputIdeal.lean ====
abbrev S2048x2816 : Shape := ⟨2, ![2048, 2816]⟩
abbrev S1024x2816 : Shape := ⟨2, ![1024, 2816]⟩
abbrev S2048x1024 : Shape := ⟨2, ![2048, 1024]⟩
abbrev S512x2816 : Shape := ⟨2, ![512, 2816]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S1024x2816, .bf16⟩
  | .hbm, ⟨2, _⟩ => ⟨S2048x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S512x1024, .f32⟩
  | .local _ .vmem, ⟨4, _⟩ => ⟨S512x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpInputReferenceIdeal.lean ====
abbrev S2048x2816 : Shape := ⟨2, ![2048, 2816]⟩
abbrev S1024x2816 : Shape := ⟨2, ![1024, 2816]⟩
abbrev S_ : Shape := ⟨0, ![]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S1024x2816, .bf16⟩
  | .hbm, ⟨2, _⟩ => ⟨S_, .f32⟩
  | .hbm, ⟨3, _⟩ => ⟨S2048x1024, .f32⟩
  | .hbm, ⟨4, _⟩ => ⟨S1024x2816, .f32⟩
  | .hbm, ⟨5, _⟩ => ⟨S2048x2816, .f32⟩
  | .hbm, ⟨6, _⟩ => ⟨S2048x2816, .f32⟩
  | .hbm, ⟨7, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpInputAdd.lean ====
abbrev S2048x2816 : Shape := ⟨2, ![2048, 2816]⟩
abbrev S1024x2816 : Shape := ⟨2, ![1024, 2816]⟩
abbrev S2048x1024 : Shape := ⟨2, ![2048, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S1024x2816, .bf16⟩
  | .hbm, ⟨2, _⟩ => ⟨S2048x1024, .f32⟩
  | .hbm, ⟨3, _⟩ => ⟨S2048x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpInputAddIdeal.lean ====
abbrev S2048x2816 : Shape := ⟨2, ![2048, 2816]⟩
abbrev S1024x2816 : Shape := ⟨2, ![1024, 2816]⟩
abbrev S2048x1024 : Shape := ⟨2, ![2048, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S1024x2816, .bf16⟩
  | .hbm, ⟨2, _⟩ => ⟨S2048x1024, .f32⟩
  | .hbm, ⟨3, _⟩ => ⟨S2048x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpInputAddReferenceIdeal.lean ====
abbrev S2048x2816 : Shape := ⟨2, ![2048, 2816]⟩
abbrev S1024x2816 : Shape := ⟨2, ![1024, 2816]⟩
abbrev S2048x1024 : Shape := ⟨2, ![2048, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S1024x2816, .bf16⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S1024x2816, .f32⟩
  | .hbm, ⟨6, _⟩ => ⟨S2048x2816, .f32⟩
  | .hbm, ⟨7, _⟩ => ⟨S2048x2816, .f32⟩
  | .hbm, ⟨8, _⟩ => ⟨S2048x1024, .f32⟩
  | .hbm, ⟨9, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== UpWeight.lean ====
abbrev S2048x1024 : Shape := ⟨2, ![2048, 1024]⟩
abbrev S2048x2816 : Shape := ⟨2, ![2048, 2816]⟩
abbrev S1024x2816 : Shape := ⟨2, ![1024, 2816]⟩
abbrev S2048x1408 : Shape := ⟨2, ![2048, 1408]⟩
abbrev S1024x1408 : Shape := ⟨2, ![1024, 1408]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x2816, .bf16⟩
  | .hbm, ⟨2, _⟩ => ⟨S1024x2816, .bf16⟩
  | .local _ .vmem, ⟨0, _⟩ => ⟨S2048x1024, .bf16⟩
  | .local _ .vmem, ⟨1, _⟩ => ⟨S2048x1408, .bf16⟩
  | .local _ .vmem, ⟨2, _⟩ => ⟨S2048x1408, .bf16⟩
  | .local _ .vmem, ⟨3, _⟩ => ⟨S1024x1408, .bf16⟩
  | .local _ .vmem, ⟨4, _⟩ => ⟨S1024x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpWeightIdeal.lean ====
abbrev S2048x1024 : Shape := ⟨2, ![2048, 1024]⟩
abbrev S2048x2816 : Shape := ⟨2, ![2048, 2816]⟩
abbrev S1024x2816 : Shape := ⟨2, ![1024, 2816]⟩
abbrev S2048x1408 : Shape := ⟨2, ![2048, 1408]⟩
abbrev S1024x1408 : Shape := ⟨2, ![1024, 1408]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x2816, .bf16⟩
  | .hbm, ⟨2, _⟩ => ⟨S1024x2816, .bf16⟩
  | .local _ .vmem, ⟨0, _⟩ => ⟨S2048x1024, .bf16⟩
  | .local _ .vmem, ⟨1, _⟩ => ⟨S2048x1408, .bf16⟩
  | .local _ .vmem, ⟨2, _⟩ => ⟨S2048x1408, .bf16⟩
  | .local _ .vmem, ⟨3, _⟩ => ⟨S1024x1408, .bf16⟩
  | .local _ .vmem, ⟨4, _⟩ => ⟨S1024x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpWeightReferenceIdeal.lean ====
abbrev S2048x1024 : Shape := ⟨2, ![2048, 1024]⟩
abbrev S2048x2816 : Shape := ⟨2, ![2048, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2816, .bf16⟩
  | .hbm, ⟨2, _⟩ => ⟨S_, .f32⟩
  | .hbm, ⟨3, _⟩ => ⟨S1024x2816, .f32⟩
  | .hbm, ⟨4, _⟩ => ⟨S2048x1024, .f32⟩
  | .hbm, ⟨5, _⟩ => ⟨S2048x2816, .f32⟩
  | .hbm, ⟨6, _⟩ => ⟨S2048x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Up.lean ====
abbrev S2048x1024 : Shape := ⟨2, ![2048, 1024]⟩
abbrev S1024x2816 : Shape := ⟨2, ![1024, 2816]⟩
abbrev S2048x2816 : Shape := ⟨2, ![2048, 2816]⟩
abbrev S512x1024 : Shape := ⟨2, ![512, 1024]⟩
abbrev S512x2816 : Shape := ⟨2, ![512, 2816]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x2816, .bf16⟩
  | .hbm, ⟨2, _⟩ => ⟨S2048x2816, .f32⟩
  | .local _ .vmem, ⟨0, _⟩ => ⟨S512x1024, .bf16⟩
  | .local _ .vmem, ⟨1, _⟩ => ⟨S512x1024, .bf16⟩
  | .local _ .vmem, ⟨2, _⟩ => ⟨S1024x2816, .bf16⟩
  | .local _ .vmem, ⟨3, _⟩ => ⟨S512x2816, .f32⟩
  | .local _ .vmem, ⟨4, _⟩ => ⟨S512x2816, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpIdeal.lean ====
abbrev S2048x1024 : Shape := ⟨2, ![2048, 1024]⟩
abbrev S1024x2816 : Shape := ⟨2, ![1024, 2816]⟩
abbrev S2048x2816 : Shape := ⟨2, ![2048, 2816]⟩
abbrev S512x1024 : Shape := ⟨2, ![512, 1024]⟩
abbrev S512x2816 : Shape := ⟨2, ![512, 2816]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x2816, .bf16⟩
  | .hbm, ⟨2, _⟩ => ⟨S2048x2816, .f32⟩
  | .local _ .vmem, ⟨0, _⟩ => ⟨S512x1024, .bf16⟩
  | .local _ .vmem, ⟨1, _⟩ => ⟨S512x1024, .bf16⟩
  | .local _ .vmem, ⟨2, _⟩ => ⟨S1024x2816, .bf16⟩
  | .local _ .vmem, ⟨3, _⟩ => ⟨S512x2816, .f32⟩
  | .local _ .vmem, ⟨4, _⟩ => ⟨S512x2816, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpReferenceIdeal.lean ====
abbrev S2048x1024 : Shape := ⟨2, ![2048, 1024]⟩
abbrev S1024x2816 : Shape := ⟨2, ![1024, 2816]⟩
abbrev S2048x2816 : Shape := ⟨2, ![2048, 2816]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x2816, .bf16⟩
  | .hbm, ⟨2, _⟩ => ⟨S2048x1024, .f32⟩
  | .hbm, ⟨3, _⟩ => ⟨S1024x2816, .f32⟩
  | .hbm, ⟨4, _⟩ => ⟨S2048x2816, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Down.lean ====
abbrev S2048x2816 : Shape := ⟨2, ![2048, 2816]⟩
abbrev S2816x1024 : Shape := ⟨2, ![2816, 1024]⟩
abbrev S2048x1024 : Shape := ⟨2, ![2048, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownIdeal.lean ====
abbrev S2048x2816 : Shape := ⟨2, ![2048, 2816]⟩
abbrev S2816x1024 : Shape := ⟨2, ![2816, 1024]⟩
abbrev S2048x1024 : Shape := ⟨2, ![2048, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownReferenceIdeal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x2816, .f32⟩
  | .hbm, ⟨4, _⟩ => ⟨S2816x1024, .f32⟩
  | .hbm, ⟨5, _⟩ => ⟨S2048x1024, .f32⟩
  | .hbm, ⟨6, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutMixInput.lean ====
abbrev S2048x1024 : Shape := ⟨2, ![2048, 1024]⟩
abbrev S768x1024 : Shape := ⟨2, ![768, 1024]⟩
abbrev S2048x768 : Shape := ⟨2, ![2048, 768]⟩
abbrev S512x1024 : Shape := ⟨2, ![512, 1024]⟩
abbrev S512x768 : Shape := ⟨2, ![512, 768]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S768x1024, .bf16⟩
  | .hbm, ⟨2, _⟩ => ⟨S2048x768, .f32⟩
  | .local _ .vmem, ⟨0, _⟩ => ⟨S512x1024, .bf16⟩
  | .local _ .vmem, ⟨1, _⟩ => ⟨S512x1024, .bf16⟩
  | .local _ .vmem, ⟨2, _⟩ => ⟨S768x1024, .bf16⟩
  | .local _ .vmem, ⟨3, _⟩ => ⟨S512x768, .f32⟩
  | .local _ .vmem, ⟨4, _⟩ => ⟨S512x768, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutMixInputIdeal.lean ====
abbrev S2048x1024 : Shape := ⟨2, ![2048, 1024]⟩
abbrev S768x1024 : Shape := ⟨2, ![768, 1024]⟩
abbrev S2048x768 : Shape := ⟨2, ![2048, 768]⟩
abbrev S512x1024 : Shape := ⟨2, ![512, 1024]⟩
abbrev S512x768 : Shape := ⟨2, ![512, 768]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S768x1024, .bf16⟩
  | .hbm, ⟨2, _⟩ => ⟨S2048x768, .f32⟩
  | .local _ .vmem, ⟨0, _⟩ => ⟨S512x1024, .bf16⟩
  | .local _ .vmem, ⟨1, _⟩ => ⟨S512x1024, .bf16⟩
  | .local _ .vmem, ⟨2, _⟩ => ⟨S768x1024, .bf16⟩
  | .local _ .vmem, ⟨3, _⟩ => ⟨S512x768, .f32⟩
  | .local _ .vmem, ⟨4, _⟩ => ⟨S512x768, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutMixInputReferenceIdeal.lean ====
abbrev S2048x1024 : Shape := ⟨2, ![2048, 1024]⟩
abbrev S768x1024 : Shape := ⟨2, ![768, 1024]⟩
abbrev S_ : Shape := ⟨0, ![]⟩
abbrev S2048x768 : Shape := ⟨2, ![2048, 768]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S768x1024, .bf16⟩
  | .hbm, ⟨2, _⟩ => ⟨S_, .f32⟩
  | .hbm, ⟨3, _⟩ => ⟨S2048x768, .f32⟩
  | .hbm, ⟨4, _⟩ => ⟨S768x1024, .f32⟩
  | .hbm, ⟨5, _⟩ => ⟨S2048x1024, .f32⟩
  | .hbm, ⟨6, _⟩ => ⟨S2048x1024, .f32⟩
  | .hbm, ⟨7, _⟩ => ⟨S2048x768, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutMemInput.lean ====
abbrev S2048x1024 : Shape := ⟨2, ![2048, 1024]⟩
abbrev S256x1024 : Shape := ⟨2, ![256, 1024]⟩
abbrev S2048x256 : Shape := ⟨2, ![2048, 256]⟩
abbrev S512x1024 : Shape := ⟨2, ![512, 1024]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S256x1024, .bf16⟩
  | .hbm, ⟨2, _⟩ => ⟨S2048x256, .f32⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S512x256, .f32⟩
  | .local _ .vmem, ⟨4, _⟩ => ⟨S512x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutMemInputIdeal.lean ====
abbrev S2048x1024 : Shape := ⟨2, ![2048, 1024]⟩
abbrev S256x1024 : Shape := ⟨2, ![256, 1024]⟩
abbrev S2048x256 : Shape := ⟨2, ![2048, 256]⟩
abbrev S512x1024 : Shape := ⟨2, ![512, 1024]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S256x1024, .bf16⟩
  | .hbm, ⟨2, _⟩ => ⟨S2048x256, .f32⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S512x256, .f32⟩
  | .local _ .vmem, ⟨4, _⟩ => ⟨S512x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutMemInputReferenceIdeal.lean ====
abbrev S2048x1024 : Shape := ⟨2, ![2048, 1024]⟩
abbrev S256x1024 : Shape := ⟨2, ![256, 1024]⟩
abbrev S_ : Shape := ⟨0, ![]⟩
abbrev S2048x256 : Shape := ⟨2, ![2048, 256]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S256x1024, .bf16⟩
  | .hbm, ⟨2, _⟩ => ⟨S_, .f32⟩
  | .hbm, ⟨3, _⟩ => ⟨S2048x256, .f32⟩
  | .hbm, ⟨4, _⟩ => ⟨S256x1024, .f32⟩
  | .hbm, ⟨5, _⟩ => ⟨S2048x1024, .f32⟩
  | .hbm, ⟨6, _⟩ => ⟨S2048x1024, .f32⟩
  | .hbm, ⟨7, _⟩ => ⟨S2048x256, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutMixWeight.lean ====
abbrev S2048x768 : Shape := ⟨2, ![2048, 768]⟩
abbrev S2048x1024 : Shape := ⟨2, ![2048, 1024]⟩
abbrev S768x1024 : Shape := ⟨2, ![768, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x768, .bf16⟩
  | .hbm, ⟨1, _⟩ => ⟨S2048x1024, .bf16⟩
  | .hbm, ⟨2, _⟩ => ⟨S768x1024, .bf16⟩
  | .local _ .vmem, ⟨0, _⟩ => ⟨S2048x768, .bf16⟩
  | .local _ .vmem, ⟨1, _⟩ => ⟨S2048x1024, .bf16⟩
  | .local _ .vmem, ⟨2, _⟩ => ⟨S768x1024, .bf16⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== OutMixWeightIdeal.lean ====
abbrev S2048x768 : Shape := ⟨2, ![2048, 768]⟩
abbrev S2048x1024 : Shape := ⟨2, ![2048, 1024]⟩
abbrev S768x1024 : Shape := ⟨2, ![768, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x768, .bf16⟩
  | .hbm, ⟨1, _⟩ => ⟨S2048x1024, .bf16⟩
  | .hbm, ⟨2, _⟩ => ⟨S768x1024, .bf16⟩
  | .local _ .vmem, ⟨0, _⟩ => ⟨S2048x768, .bf16⟩
  | .local _ .vmem, ⟨1, _⟩ => ⟨S2048x1024, .bf16⟩
  | .local _ .vmem, ⟨2, _⟩ => ⟨S768x1024, .bf16⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== OutMixWeightReferenceIdeal.lean ====
abbrev S2048x768 : Shape := ⟨2, ![2048, 768]⟩
abbrev S2048x1024 : Shape := ⟨2, ![2048, 1024]⟩
abbrev S_ : Shape := ⟨0, ![]⟩
abbrev S768x1024 : Shape := ⟨2, ![768, 1024]⟩
abbrev S1024x768 : Shape := ⟨2, ![1024, 768]⟩

abbrev nBuf : Space → Nat
  | .hbm => 10
  | .vmem => 0
  | .smem => 0
  | _ => 0

abbrev bufTy : (tb : Table) → Fin (tcTables nBuf tb) → BufTy
  | .hbm, ⟨0, _⟩ => ⟨S2048x768, .bf16⟩
  | .hbm, ⟨1, _⟩ => ⟨S2048x1024, .bf16⟩
  | .hbm, ⟨2, _⟩ => ⟨S_, .f32⟩
  | .hbm, ⟨3, _⟩ => ⟨S768x1024, .f32⟩
  | .hbm, ⟨4, _⟩ => ⟨S2048x768, .f32⟩
  | .hbm, ⟨5, _⟩ => ⟨S2048x1024, .f32⟩
  | .hbm, ⟨6, _⟩ => ⟨S2048x1024, .f32⟩
  | .hbm, ⟨7, _⟩ => ⟨S1024x768, .f32⟩
  | .hbm, ⟨8, _⟩ => ⟨S768x1024, .f32⟩
  | .hbm, ⟨9, _⟩ => ⟨S768x1024, .bf16⟩
  | _, _ => ⟨S2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutMemWeight.lean ====
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x256, .bf16⟩
  | .hbm, ⟨1, _⟩ => ⟨S2048x1024, .bf16⟩
  | .hbm, ⟨2, _⟩ => ⟨S256x1024, .bf16⟩
  | .local _ .vmem, ⟨0, _⟩ => ⟨S2048x256, .bf16⟩
  | .local _ .vmem, ⟨1, _⟩ => ⟨S2048x1024, .bf16⟩
  | .local _ .vmem, ⟨2, _⟩ => ⟨S256x1024, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== OutMemWeightIdeal.lean ====
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x256, .bf16⟩
  | .hbm, ⟨1, _⟩ => ⟨S2048x1024, .bf16⟩
  | .hbm, ⟨2, _⟩ => ⟨S256x1024, .bf16⟩
  | .local _ .vmem, ⟨0, _⟩ => ⟨S2048x256, .bf16⟩
  | .local _ .vmem, ⟨1, _⟩ => ⟨S2048x1024, .bf16⟩
  | .local _ .vmem, ⟨2, _⟩ => ⟨S256x1024, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== OutMemWeightReferenceIdeal.lean ====
abbrev S2048x256 : Shape := ⟨2, ![2048, 256]⟩
abbrev S2048x1024 : Shape := ⟨2, ![2048, 1024]⟩
abbrev S_ : Shape := ⟨0, ![]⟩
abbrev S256x1024 : Shape := ⟨2, ![256, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S2048x1024, .bf16⟩
  | .hbm, ⟨2, _⟩ => ⟨S_, .f32⟩
  | .hbm, ⟨3, _⟩ => ⟨S256x1024, .f32⟩
  | .hbm, ⟨4, _⟩ => ⟨S2048x256, .f32⟩
  | .hbm, ⟨5, _⟩ => ⟨S2048x1024, .f32⟩
  | .hbm, ⟨6, _⟩ => ⟨S2048x1024, .f32⟩
  | .hbm, ⟨7, _⟩ => ⟨S1024x256, .f32⟩
  | .hbm, ⟨8, _⟩ => ⟨S256x1024, .f32⟩
  | .hbm, ⟨9, _⟩ => ⟨S256x1024, .bf16⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutMix.lean ====
abbrev S2048x768 : Shape := ⟨2, ![2048, 768]⟩
abbrev S768x1024 : Shape := ⟨2, ![768, 1024]⟩
abbrev S2048x1024 : Shape := ⟨2, ![2048, 1024]⟩
abbrev S512x768 : Shape := ⟨2, ![512, 768]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x768, .bf16⟩
  | .hbm, ⟨1, _⟩ => ⟨S768x1024, .bf16⟩
  | .hbm, ⟨2, _⟩ => ⟨S2048x1024, .f32⟩
  | .hbm, ⟨3, _⟩ => ⟨S2048x1024, .f32⟩
  | .local _ .vmem, ⟨0, _⟩ => ⟨S512x768, .bf16⟩
  | .local _ .vmem, ⟨1, _⟩ => ⟨S512x768, .bf16⟩
  | .local _ .vmem, ⟨2, _⟩ => ⟨S768x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutMixIdeal.lean ====
abbrev S2048x768 : Shape := ⟨2, ![2048, 768]⟩
abbrev S768x1024 : Shape := ⟨2, ![768, 1024]⟩
abbrev S2048x1024 : Shape := ⟨2, ![2048, 1024]⟩
abbrev S512x768 : Shape := ⟨2, ![512, 768]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x768, .bf16⟩
  | .hbm, ⟨1, _⟩ => ⟨S768x1024, .bf16⟩
  | .hbm, ⟨2, _⟩ => ⟨S2048x1024, .f32⟩
  | .hbm, ⟨3, _⟩ => ⟨S2048x1024, .f32⟩
  | .local _ .vmem, ⟨0, _⟩ => ⟨S512x768, .bf16⟩
  | .local _ .vmem, ⟨1, _⟩ => ⟨S512x768, .bf16⟩
  | .local _ .vmem, ⟨2, _⟩ => ⟨S768x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutMixReferenceIdeal.lean ====
abbrev S2048x768 : Shape := ⟨2, ![2048, 768]⟩
abbrev S768x1024 : Shape := ⟨2, ![768, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x768, .bf16⟩
  | .hbm, ⟨1, _⟩ => ⟨S768x1024, .bf16⟩
  | .hbm, ⟨2, _⟩ => ⟨S2048x1024, .f32⟩
  | .hbm, ⟨3, _⟩ => ⟨S2048x768, .f32⟩
  | .hbm, ⟨4, _⟩ => ⟨S768x1024, .f32⟩
  | .hbm, ⟨5, _⟩ => ⟨S2048x1024, .f32⟩
  | .hbm, ⟨6, _⟩ => ⟨S2048x1024, .f32⟩
  | _, _ => ⟨S2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutMem.lean ====
abbrev S2048x256 : Shape := ⟨2, ![2048, 256]⟩
abbrev S256x1024 : Shape := ⟨2, ![256, 1024]⟩
abbrev S2048x1024 : Shape := ⟨2, ![2048, 1024]⟩
abbrev S512x256 : Shape := ⟨2, ![512, 256]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x256, .bf16⟩
  | .hbm, ⟨1, _⟩ => ⟨S256x1024, .bf16⟩
  | .hbm, ⟨2, _⟩ => ⟨S2048x1024, .f32⟩
  | .hbm, ⟨3, _⟩ => ⟨S2048x1024, .f32⟩
  | .local _ .vmem, ⟨0, _⟩ => ⟨S512x256, .bf16⟩
  | .local _ .vmem, ⟨1, _⟩ => ⟨S512x256, .bf16⟩
  | .local _ .vmem, ⟨2, _⟩ => ⟨S256x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutMemReferenceIdeal.lean ====
abbrev S2048x256 : Shape := ⟨2, ![2048, 256]⟩
abbrev S256x1024 : Shape := ⟨2, ![256, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S256x1024, .bf16⟩
  | .hbm, ⟨2, _⟩ => ⟨S2048x1024, .f32⟩
  | .hbm, ⟨3, _⟩ => ⟨S2048x256, .f32⟩
  | .hbm, ⟨4, _⟩ => ⟨S256x1024, .f32⟩
  | .hbm, ⟨5, _⟩ => ⟨S2048x1024, .f32⟩
  | .hbm, ⟨6, _⟩ => ⟨S2048x1024, .f32⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InWeight.lean ====
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x768, .bf16⟩
  | .hbm, ⟨2, _⟩ => ⟨S1024x768, .bf16⟩
  | .local _ .vmem, ⟨0, _⟩ => ⟨S2048x1024, .bf16⟩
  | .local _ .vmem, ⟨1, _⟩ => ⟨S2048x768, .bf16⟩
  | .local _ .vmem, ⟨2, _⟩ => ⟨S1024x768, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== InWeightIdeal.lean ====
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x768, .bf16⟩
  | .hbm, ⟨2, _⟩ => ⟨S1024x768, .bf16⟩
  | .local _ .vmem, ⟨0, _⟩ => ⟨S2048x1024, .bf16⟩
  | .local _ .vmem, ⟨1, _⟩ => ⟨S2048x768, .bf16⟩
  | .local _ .vmem, ⟨2, _⟩ => ⟨S1024x768, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== InWeightReferenceIdeal.lean ====
abbrev S2048x1024 : Shape := ⟨2, ![2048, 1024]⟩
abbrev S2048x768 : Shape := ⟨2, ![2048, 768]⟩
abbrev S_ : Shape := ⟨0, ![]⟩
abbrev S1024x768 : Shape := ⟨2, ![1024, 768]⟩
abbrev S768x1024 : Shape := ⟨2, ![768, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x768, .bf16⟩
  | .hbm, ⟨2, _⟩ => ⟨S_, .f32⟩
  | .hbm, ⟨3, _⟩ => ⟨S1024x768, .f32⟩
  | .hbm, ⟨4, _⟩ => ⟨S2048x1024, .f32⟩
  | .hbm, ⟨5, _⟩ => ⟨S2048x768, .f32⟩
  | .hbm, ⟨6, _⟩ => ⟨S2048x768, .f32⟩
  | .hbm, ⟨7, _⟩ => ⟨S768x1024, .f32⟩
  | .hbm, ⟨8, _⟩ => ⟨S1024x768, .f32⟩
  | .hbm, ⟨9, _⟩ => ⟨S1024x768, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InMemWeight.lean ====
abbrev S2048x1024 : Shape := ⟨2, ![2048, 1024]⟩
abbrev S2048x256 : Shape := ⟨2, ![2048, 256]⟩
abbrev S1024x256 : Shape := ⟨2, ![1024, 256]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x256, .bf16⟩
  | .hbm, ⟨2, _⟩ => ⟨S1024x256, .bf16⟩
  | .local _ .vmem, ⟨0, _⟩ => ⟨S2048x1024, .bf16⟩
  | .local _ .vmem, ⟨1, _⟩ => ⟨S2048x256, .bf16⟩
  | .local _ .vmem, ⟨2, _⟩ => ⟨S1024x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== InMemWeightIdeal.lean ====
abbrev S2048x1024 : Shape := ⟨2, ![2048, 1024]⟩
abbrev S2048x256 : Shape := ⟨2, ![2048, 256]⟩
abbrev S1024x256 : Shape := ⟨2, ![1024, 256]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x256, .bf16⟩
  | .hbm, ⟨2, _⟩ => ⟨S1024x256, .bf16⟩
  | .local _ .vmem, ⟨0, _⟩ => ⟨S2048x1024, .bf16⟩
  | .local _ .vmem, ⟨1, _⟩ => ⟨S2048x256, .bf16⟩
  | .local _ .vmem, ⟨2, _⟩ => ⟨S1024x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== InMemWeightReferenceIdeal.lean ====
abbrev S2048x1024 : Shape := ⟨2, ![2048, 1024]⟩
abbrev S2048x256 : Shape := ⟨2, ![2048, 256]⟩
abbrev S_ : Shape := ⟨0, ![]⟩
abbrev S1024x256 : Shape := ⟨2, ![1024, 256]⟩
abbrev S256x1024 : Shape := ⟨2, ![256, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x256, .bf16⟩
  | .hbm, ⟨2, _⟩ => ⟨S_, .f32⟩
  | .hbm, ⟨3, _⟩ => ⟨S1024x256, .f32⟩
  | .hbm, ⟨4, _⟩ => ⟨S2048x1024, .f32⟩
  | .hbm, ⟨5, _⟩ => ⟨S2048x256, .f32⟩
  | .hbm, ⟨6, _⟩ => ⟨S2048x256, .f32⟩
  | .hbm, ⟨7, _⟩ => ⟨S256x1024, .f32⟩
  | .hbm, ⟨8, _⟩ => ⟨S1024x256, .f32⟩
  | .hbm, ⟨9, _⟩ => ⟨S1024x256, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InInput.lean ====
abbrev S2048x768 : Shape := ⟨2, ![2048, 768]⟩
abbrev S1024x768 : Shape := ⟨2, ![1024, 768]⟩
abbrev S2048x1024 : Shape := ⟨2, ![2048, 1024]⟩
abbrev S512x768 : Shape := ⟨2, ![512, 768]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x768, .bf16⟩
  | .hbm, ⟨1, _⟩ => ⟨S1024x768, .bf16⟩
  | .hbm, ⟨2, _⟩ => ⟨S2048x1024, .f32⟩
  | .local _ .vmem, ⟨0, _⟩ => ⟨S512x768, .bf16⟩
  | .local _ .vmem, ⟨1, _⟩ => ⟨S512x768, .bf16⟩
  | .local _ .vmem, ⟨2, _⟩ => ⟨S1024x768, .bf16⟩
  | .local _ .vmem, ⟨3, _⟩ => ⟨S512x1024, .f32⟩
  | .local _ .vmem, ⟨4, _⟩ => ⟨S512x1024, .f32⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InInputIdeal.lean ====
abbrev S2048x768 : Shape := ⟨2, ![2048, 768]⟩
abbrev S1024x768 : Shape := ⟨2, ![1024, 768]⟩
abbrev S2048x1024 : Shape := ⟨2, ![2048, 1024]⟩
abbrev S512x768 : Shape := ⟨2, ![512, 768]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x768, .bf16⟩
  | .hbm, ⟨1, _⟩ => ⟨S1024x768, .bf16⟩
  | .hbm, ⟨2, _⟩ => ⟨S2048x1024, .f32⟩
  | .local _ .vmem, ⟨0, _⟩ => ⟨S512x768, .bf16⟩
  | .local _ .vmem, ⟨1, _⟩ => ⟨S512x768, .bf16⟩
  | .local _ .vmem, ⟨2, _⟩ => ⟨S1024x768, .bf16⟩
  | .local _ .vmem, ⟨3, _⟩ => ⟨S512x1024, .f32⟩
  | .local _ .vmem, ⟨4, _⟩ => ⟨S512x1024, .f32⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InInputReferenceIdeal.lean ====
abbrev S2048x768 : Shape := ⟨2, ![2048, 768]⟩
abbrev S1024x768 : Shape := ⟨2, ![1024, 768]⟩
abbrev S_ : Shape := ⟨0, ![]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x768, .bf16⟩
  | .hbm, ⟨1, _⟩ => ⟨S1024x768, .bf16⟩
  | .hbm, ⟨2, _⟩ => ⟨S_, .f32⟩
  | .hbm, ⟨3, _⟩ => ⟨S2048x1024, .f32⟩
  | .hbm, ⟨4, _⟩ => ⟨S1024x768, .f32⟩
  | .hbm, ⟨5, _⟩ => ⟨S2048x768, .f32⟩
  | .hbm, ⟨6, _⟩ => ⟨S2048x768, .f32⟩
  | .hbm, ⟨7, _⟩ => ⟨S2048x1024, .f32⟩
  | _, _ => ⟨S2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InInputAdd.lean ====
abbrev S2048x768 : Shape := ⟨2, ![2048, 768]⟩
abbrev S1024x768 : Shape := ⟨2, ![1024, 768]⟩
abbrev S2048x1024 : Shape := ⟨2, ![2048, 1024]⟩
abbrev S512x768 : Shape := ⟨2, ![512, 768]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x768, .bf16⟩
  | .hbm, ⟨1, _⟩ => ⟨S1024x768, .bf16⟩
  | .hbm, ⟨2, _⟩ => ⟨S2048x1024, .f32⟩
  | .hbm, ⟨3, _⟩ => ⟨S2048x1024, .f32⟩
  | .local _ .vmem, ⟨0, _⟩ => ⟨S512x768, .bf16⟩
  | .local _ .vmem, ⟨1, _⟩ => ⟨S512x768, .bf16⟩
  | .local _ .vmem, ⟨2, _⟩ => ⟨S1024x768, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InInputAddIdeal.lean ====
abbrev S2048x768 : Shape := ⟨2, ![2048, 768]⟩
abbrev S1024x768 : Shape := ⟨2, ![1024, 768]⟩
abbrev S2048x1024 : Shape := ⟨2, ![2048, 1024]⟩
abbrev S512x768 : Shape := ⟨2, ![512, 768]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x768, .bf16⟩
  | .hbm, ⟨1, _⟩ => ⟨S1024x768, .bf16⟩
  | .hbm, ⟨2, _⟩ => ⟨S2048x1024, .f32⟩
  | .hbm, ⟨3, _⟩ => ⟨S2048x1024, .f32⟩
  | .local _ .vmem, ⟨0, _⟩ => ⟨S512x768, .bf16⟩
  | .local _ .vmem, ⟨1, _⟩ => ⟨S512x768, .bf16⟩
  | .local _ .vmem, ⟨2, _⟩ => ⟨S1024x768, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InInputAddReferenceIdeal.lean ====
abbrev S2048x768 : Shape := ⟨2, ![2048, 768]⟩
abbrev S1024x768 : Shape := ⟨2, ![1024, 768]⟩
abbrev S2048x1024 : Shape := ⟨2, ![2048, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x768, .bf16⟩
  | .hbm, ⟨1, _⟩ => ⟨S1024x768, .bf16⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S1024x768, .f32⟩
  | .hbm, ⟨6, _⟩ => ⟨S2048x768, .f32⟩
  | .hbm, ⟨7, _⟩ => ⟨S2048x768, .f32⟩
  | .hbm, ⟨8, _⟩ => ⟨S2048x1024, .f32⟩
  | .hbm, ⟨9, _⟩ => ⟨S2048x1024, .f32⟩
  | _, _ => ⟨S2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== InMemInputAdd.lean ====
abbrev S2048x256 : Shape := ⟨2, ![2048, 256]⟩
abbrev S1024x256 : Shape := ⟨2, ![1024, 256]⟩
abbrev S2048x1024 : Shape := ⟨2, ![2048, 1024]⟩
abbrev S512x256 : Shape := ⟨2, ![512, 256]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x256, .bf16⟩
  | .hbm, ⟨1, _⟩ => ⟨S1024x256, .bf16⟩
  | .hbm, ⟨2, _⟩ => ⟨S2048x1024, .f32⟩
  | .hbm, ⟨3, _⟩ => ⟨S2048x1024, .f32⟩
  | .local _ .vmem, ⟨0, _⟩ => ⟨S512x256, .bf16⟩
  | .local _ .vmem, ⟨1, _⟩ => ⟨S512x256, .bf16⟩
  | .local _ .vmem, ⟨2, _⟩ => ⟨S1024x256, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InMemInputAddIdeal.lean ====
abbrev S2048x256 : Shape := ⟨2, ![2048, 256]⟩
abbrev S1024x256 : Shape := ⟨2, ![1024, 256]⟩
abbrev S2048x1024 : Shape := ⟨2, ![2048, 1024]⟩
abbrev S512x256 : Shape := ⟨2, ![512, 256]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x256, .bf16⟩
  | .hbm, ⟨1, _⟩ => ⟨S1024x256, .bf16⟩
  | .hbm, ⟨2, _⟩ => ⟨S2048x1024, .f32⟩
  | .hbm, ⟨3, _⟩ => ⟨S2048x1024, .f32⟩
  | .local _ .vmem, ⟨0, _⟩ => ⟨S512x256, .bf16⟩
  | .local _ .vmem, ⟨1, _⟩ => ⟨S512x256, .bf16⟩
  | .local _ .vmem, ⟨2, _⟩ => ⟨S1024x256, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InMemInputAddReferenceIdeal.lean ====
abbrev S2048x256 : Shape := ⟨2, ![2048, 256]⟩
abbrev S1024x256 : Shape := ⟨2, ![1024, 256]⟩
abbrev S2048x1024 : Shape := ⟨2, ![2048, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S1024x256, .bf16⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S1024x256, .f32⟩
  | .hbm, ⟨6, _⟩ => ⟨S2048x256, .f32⟩
  | .hbm, ⟨7, _⟩ => ⟨S2048x256, .f32⟩
  | .hbm, ⟨8, _⟩ => ⟨S2048x1024, .f32⟩
  | .hbm, ⟨9, _⟩ => ⟨S2048x1024, .f32⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== In.lean ====
abbrev S2048x1024 : Shape := ⟨2, ![2048, 1024]⟩
abbrev S1024x768 : Shape := ⟨2, ![1024, 768]⟩
abbrev S2048x768 : Shape := ⟨2, ![2048, 768]⟩
abbrev S512x1024 : Shape := ⟨2, ![512, 1024]⟩
abbrev S512x768 : Shape := ⟨2, ![512, 768]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x768, .bf16⟩
  | .hbm, ⟨2, _⟩ => ⟨S2048x768, .f32⟩
  | .local _ .vmem, ⟨0, _⟩ => ⟨S512x1024, .bf16⟩
  | .local _ .vmem, ⟨1, _⟩ => ⟨S512x1024, .bf16⟩
  | .local _ .vmem, ⟨2, _⟩ => ⟨S1024x768, .bf16⟩
  | .local _ .vmem, ⟨3, _⟩ => ⟨S512x768, .f32⟩
  | .local _ .vmem, ⟨4, _⟩ => ⟨S512x768, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InIdeal.lean ====
abbrev S2048x1024 : Shape := ⟨2, ![2048, 1024]⟩
abbrev S1024x768 : Shape := ⟨2, ![1024, 768]⟩
abbrev S2048x768 : Shape := ⟨2, ![2048, 768]⟩
abbrev S512x1024 : Shape := ⟨2, ![512, 1024]⟩
abbrev S512x768 : Shape := ⟨2, ![512, 768]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x768, .bf16⟩
  | .hbm, ⟨2, _⟩ => ⟨S2048x768, .f32⟩
  | .local _ .vmem, ⟨0, _⟩ => ⟨S512x1024, .bf16⟩
  | .local _ .vmem, ⟨1, _⟩ => ⟨S512x1024, .bf16⟩
  | .local _ .vmem, ⟨2, _⟩ => ⟨S1024x768, .bf16⟩
  | .local _ .vmem, ⟨3, _⟩ => ⟨S512x768, .f32⟩
  | .local _ .vmem, ⟨4, _⟩ => ⟨S512x768, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InReferenceIdeal.lean ====
abbrev S2048x1024 : Shape := ⟨2, ![2048, 1024]⟩
abbrev S1024x768 : Shape := ⟨2, ![1024, 768]⟩
abbrev S2048x768 : Shape := ⟨2, ![2048, 768]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x768, .bf16⟩
  | .hbm, ⟨2, _⟩ => ⟨S2048x1024, .f32⟩
  | .hbm, ⟨3, _⟩ => ⟨S1024x768, .f32⟩
  | .hbm, ⟨4, _⟩ => ⟨S2048x768, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InMem.lean ====
abbrev S2048x1024 : Shape := ⟨2, ![2048, 1024]⟩
abbrev S1024x256 : Shape := ⟨2, ![1024, 256]⟩
abbrev S2048x256 : Shape := ⟨2, ![2048, 256]⟩
abbrev S512x1024 : Shape := ⟨2, ![512, 1024]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x256, .bf16⟩
  | .hbm, ⟨2, _⟩ => ⟨S2048x256, .f32⟩
  | .local _ .vmem, ⟨0, _⟩ => ⟨S512x1024, .bf16⟩
  | .local _ .vmem, ⟨1, _⟩ => ⟨S512x1024, .bf16⟩
  | .local _ .vmem, ⟨2, _⟩ => ⟨S1024x256, .bf16⟩
  | .local _ .vmem, ⟨3, _⟩ => ⟨S512x256, .f32⟩
  | .local _ .vmem, ⟨4, _⟩ => ⟨S512x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InMemIdeal.lean ====
abbrev S2048x1024 : Shape := ⟨2, ![2048, 1024]⟩
abbrev S1024x256 : Shape := ⟨2, ![1024, 256]⟩
abbrev S2048x256 : Shape := ⟨2, ![2048, 256]⟩
abbrev S512x1024 : Shape := ⟨2, ![512, 1024]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x256, .bf16⟩
  | .hbm, ⟨2, _⟩ => ⟨S2048x256, .f32⟩
  | .local _ .vmem, ⟨0, _⟩ => ⟨S512x1024, .bf16⟩
  | .local _ .vmem, ⟨1, _⟩ => ⟨S512x1024, .bf16⟩
  | .local _ .vmem, ⟨2, _⟩ => ⟨S1024x256, .bf16⟩
  | .local _ .vmem, ⟨3, _⟩ => ⟨S512x256, .f32⟩
  | .local _ .vmem, ⟨4, _⟩ => ⟨S512x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InMemReferenceIdeal.lean ====
abbrev S2048x1024 : Shape := ⟨2, ![2048, 1024]⟩
abbrev S1024x256 : Shape := ⟨2, ![1024, 256]⟩
abbrev S2048x256 : Shape := ⟨2, ![2048, 256]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x256, .bf16⟩
  | .hbm, ⟨2, _⟩ => ⟨S2048x1024, .f32⟩
  | .hbm, ⟨3, _⟩ => ⟨S1024x256, .f32⟩
  | .hbm, ⟨4, _⟩ => ⟨S2048x256, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== QkvWeight.lean ====
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x768, .f32⟩
  | .hbm, ⟨2, _⟩ => ⟨S1024x768, .bf16⟩
  | .local _ .vmem, ⟨0, _⟩ => ⟨S2048x1024, .bf16⟩
  | .local _ .vmem, ⟨1, _⟩ => ⟨S2048x768, .f32⟩
  | .local _ .vmem, ⟨2, _⟩ => ⟨S1024x768, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== QkvWeightIdeal.lean ====
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x768, .f32⟩
  | .hbm, ⟨2, _⟩ => ⟨S1024x768, .bf16⟩
  | .local _ .vmem, ⟨0, _⟩ => ⟨S2048x1024, .bf16⟩
  | .local _ .vmem, ⟨1, _⟩ => ⟨S2048x768, .f32⟩
  | .local _ .vmem, ⟨2, _⟩ => ⟨S1024x768, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== QkvWeightReferenceIdeal.lean ====
abbrev S2048x1024 : Shape := ⟨2, ![2048, 1024]⟩
abbrev S2048x768 : Shape := ⟨2, ![2048, 768]⟩
abbrev S_ : Shape := ⟨0, ![]⟩
abbrev S1024x768 : Shape := ⟨2, ![1024, 768]⟩
abbrev S768x1024 : Shape := ⟨2, ![768, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x768, .f32⟩
  | .hbm, ⟨2, _⟩ => ⟨S_, .f32⟩
  | .hbm, ⟨3, _⟩ => ⟨S1024x768, .f32⟩
  | .hbm, ⟨4, _⟩ => ⟨S2048x1024, .f32⟩
  | .hbm, ⟨5, _⟩ => ⟨S2048x768, .f32⟩
  | .hbm, ⟨6, _⟩ => ⟨S768x1024, .f32⟩
  | .hbm, ⟨7, _⟩ => ⟨S1024x768, .f32⟩
  | .hbm, ⟨8, _⟩ => ⟨S1024x768, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== QkvInput.lean ====
abbrev S2048x768 : Shape := ⟨2, ![2048, 768]⟩
abbrev S1024x768 : Shape := ⟨2, ![1024, 768]⟩
abbrev S2048x1024 : Shape := ⟨2, ![2048, 1024]⟩
abbrev S512x768 : Shape := ⟨2, ![512, 768]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x768, .f32⟩
  | .hbm, ⟨1, _⟩ => ⟨S1024x768, .bf16⟩
  | .hbm, ⟨2, _⟩ => ⟨S2048x1024, .f32⟩
  | .local _ .vmem, ⟨0, _⟩ => ⟨S512x768, .f32⟩
  | .local _ .vmem, ⟨1, _⟩ => ⟨S512x768, .f32⟩
  | .local _ .vmem, ⟨2, _⟩ => ⟨S1024x768, .bf16⟩
  | .local _ .vmem, ⟨3, _⟩ => ⟨S512x1024, .f32⟩
  | .local _ .vmem, ⟨4, _⟩ => ⟨S512x1024, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvInputIdeal.lean ====
abbrev S2048x768 : Shape := ⟨2, ![2048, 768]⟩
abbrev S1024x768 : Shape := ⟨2, ![1024, 768]⟩
abbrev S2048x1024 : Shape := ⟨2, ![2048, 1024]⟩
abbrev S512x768 : Shape := ⟨2, ![512, 768]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x768, .f32⟩
  | .hbm, ⟨1, _⟩ => ⟨S1024x768, .bf16⟩
  | .hbm, ⟨2, _⟩ => ⟨S2048x1024, .f32⟩
  | .local _ .vmem, ⟨0, _⟩ => ⟨S512x768, .f32⟩
  | .local _ .vmem, ⟨1, _⟩ => ⟨S512x768, .f32⟩
  | .local _ .vmem, ⟨2, _⟩ => ⟨S1024x768, .bf16⟩
  | .local _ .vmem, ⟨3, _⟩ => ⟨S512x1024, .f32⟩
  | .local _ .vmem, ⟨4, _⟩ => ⟨S512x1024, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvInputReferenceIdeal.lean ====
abbrev S2048x768 : Shape := ⟨2, ![2048, 768]⟩
abbrev S1024x768 : Shape := ⟨2, ![1024, 768]⟩
abbrev S_ : Shape := ⟨0, ![]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S1024x768, .bf16⟩
  | .hbm, ⟨2, _⟩ => ⟨S_, .f32⟩
  | .hbm, ⟨3, _⟩ => ⟨S2048x1024, .f32⟩
  | .hbm, ⟨4, _⟩ => ⟨S1024x768, .f32⟩
  | .hbm, ⟨5, _⟩ => ⟨S2048x768, .f32⟩
  | .hbm, ⟨6, _⟩ => ⟨S2048x1024, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== QkvInputAdd.lean ====
abbrev S2048x768 : Shape := ⟨2, ![2048, 768]⟩
abbrev S1024x768 : Shape := ⟨2, ![1024, 768]⟩
abbrev S2048x1024 : Shape := ⟨2, ![2048, 1024]⟩
abbrev S512x768 : Shape := ⟨2, ![512, 768]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x768, .f32⟩
  | .hbm, ⟨1, _⟩ => ⟨S1024x768, .bf16⟩
  | .hbm, ⟨2, _⟩ => ⟨S2048x1024, .f32⟩
  | .hbm, ⟨3, _⟩ => ⟨S2048x1024, .f32⟩
  | .local _ .vmem, ⟨0, _⟩ => ⟨S512x768, .f32⟩
  | .local _ .vmem, ⟨1, _⟩ => ⟨S512x768, .f32⟩
  | .local _ .vmem, ⟨2, _⟩ => ⟨S1024x768, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QkvInputAddIdeal.lean ====
abbrev S2048x768 : Shape := ⟨2, ![2048, 768]⟩
abbrev S1024x768 : Shape := ⟨2, ![1024, 768]⟩
abbrev S2048x1024 : Shape := ⟨2, ![2048, 1024]⟩
abbrev S512x768 : Shape := ⟨2, ![512, 768]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x768, .f32⟩
  | .hbm, ⟨1, _⟩ => ⟨S1024x768, .bf16⟩
  | .hbm, ⟨2, _⟩ => ⟨S2048x1024, .f32⟩
  | .hbm, ⟨3, _⟩ => ⟨S2048x1024, .f32⟩
  | .local _ .vmem, ⟨0, _⟩ => ⟨S512x768, .f32⟩
  | .local _ .vmem, ⟨1, _⟩ => ⟨S512x768, .f32⟩
  | .local _ .vmem, ⟨2, _⟩ => ⟨S1024x768, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QkvInputAddReferenceIdeal.lean ====
abbrev S2048x768 : Shape := ⟨2, ![2048, 768]⟩
abbrev S1024x768 : Shape := ⟨2, ![1024, 768]⟩
abbrev S2048x1024 : Shape := ⟨2, ![2048, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S1024x768, .bf16⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S1024x768, .f32⟩
  | .hbm, ⟨6, _⟩ => ⟨S2048x768, .f32⟩
  | .hbm, ⟨7, _⟩ => ⟨S2048x1024, .f32⟩
  | .hbm, ⟨8, _⟩ => ⟨S2048x1024, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== GateWeight.lean ====
abbrev S2048x1024 : Shape := ⟨2, ![2048, 1024]⟩
abbrev S2048x128 : Shape := ⟨2, ![2048, 128]⟩
abbrev S1024x128 : Shape := ⟨2, ![1024, 128]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x128, .f32⟩
  | .hbm, ⟨2, _⟩ => ⟨S1024x128, .bf16⟩
  | .local _ .vmem, ⟨0, _⟩ => ⟨S2048x1024, .bf16⟩
  | .local _ .vmem, ⟨1, _⟩ => ⟨S2048x128, .f32⟩
  | .local _ .vmem, ⟨2, _⟩ => ⟨S1024x128, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== GateWeightIdeal.lean ====
abbrev S2048x1024 : Shape := ⟨2, ![2048, 1024]⟩
abbrev S2048x128 : Shape := ⟨2, ![2048, 128]⟩
abbrev S1024x128 : Shape := ⟨2, ![1024, 128]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x128, .f32⟩
  | .hbm, ⟨2, _⟩ => ⟨S1024x128, .bf16⟩
  | .local _ .vmem, ⟨0, _⟩ => ⟨S2048x1024, .bf16⟩
  | .local _ .vmem, ⟨1, _⟩ => ⟨S2048x128, .f32⟩
  | .local _ .vmem, ⟨2, _⟩ => ⟨S1024x128, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== GateWeightReferenceIdeal.lean ====
abbrev S2048x1024 : Shape := ⟨2, ![2048, 1024]⟩
abbrev S2048x128 : Shape := ⟨2, ![2048, 128]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x128, .f32⟩
  | .hbm, ⟨2, _⟩ => ⟨S_, .f32⟩
  | .hbm, ⟨3, _⟩ => ⟨S1024x128, .f32⟩
  | .hbm, ⟨4, _⟩ => ⟨S2048x1024, .f32⟩
  | .hbm, ⟨5, _⟩ => ⟨S2048x128, .f32⟩
  | .hbm, ⟨6, _⟩ => ⟨S128x1024, .f32⟩
  | .hbm, ⟨7, _⟩ => ⟨S1024x128, .f32⟩
  | .hbm, ⟨8, _⟩ => ⟨S1024x128, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GateInputAdd.lean ====
abbrev S2048x128 : Shape := ⟨2, ![2048, 128]⟩
abbrev S1024x128 : Shape := ⟨2, ![1024, 128]⟩
abbrev S2048x1024 : Shape := ⟨2, ![2048, 1024]⟩
abbrev S512x128 : Shape := ⟨2, ![512, 128]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x128, .f32⟩
  | .hbm, ⟨1, _⟩ => ⟨S1024x128, .bf16⟩
  | .hbm, ⟨2, _⟩ => ⟨S2048x1024, .f32⟩
  | .hbm, ⟨3, _⟩ => ⟨S2048x1024, .f32⟩
  | .local _ .vmem, ⟨0, _⟩ => ⟨S512x128, .f32⟩
  | .local _ .vmem, ⟨1, _⟩ => ⟨S512x128, .f32⟩
  | .local _ .vmem, ⟨2, _⟩ => ⟨S1024x128, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateInputAddIdeal.lean ====
abbrev S2048x128 : Shape := ⟨2, ![2048, 128]⟩
abbrev S1024x128 : Shape := ⟨2, ![1024, 128]⟩
abbrev S2048x1024 : Shape := ⟨2, ![2048, 1024]⟩
abbrev S512x128 : Shape := ⟨2, ![512, 128]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x128, .f32⟩
  | .hbm, ⟨1, _⟩ => ⟨S1024x128, .bf16⟩
  | .hbm, ⟨2, _⟩ => ⟨S2048x1024, .f32⟩
  | .hbm, ⟨3, _⟩ => ⟨S2048x1024, .f32⟩
  | .local _ .vmem, ⟨0, _⟩ => ⟨S512x128, .f32⟩
  | .local _ .vmem, ⟨1, _⟩ => ⟨S512x128, .f32⟩
  | .local _ .vmem, ⟨2, _⟩ => ⟨S1024x128, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateInputAddReferenceIdeal.lean ====
abbrev S2048x128 : Shape := ⟨2, ![2048, 128]⟩
abbrev S1024x128 : Shape := ⟨2, ![1024, 128]⟩
abbrev S2048x1024 : Shape := ⟨2, ![2048, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S1024x128, .bf16⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S1024x128, .f32⟩
  | .hbm, ⟨6, _⟩ => ⟨S2048x128, .f32⟩
  | .hbm, ⟨7, _⟩ => ⟨S2048x1024, .f32⟩
  | .hbm, ⟨8, _⟩ => ⟨S2048x1024, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Gate.lean ====
abbrev S2048x1024 : Shape := ⟨2, ![2048, 1024]⟩
abbrev S1024x128 : Shape := ⟨2, ![1024, 128]⟩
abbrev S2048x128 : Shape := ⟨2, ![2048, 128]⟩
abbrev S512x1024 : Shape := ⟨2, ![512, 1024]⟩
abbrev S512x128 : Shape := ⟨2, ![512, 128]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x128, .bf16⟩
  | .hbm, ⟨2, _⟩ => ⟨S2048x128, .f32⟩
  | .local _ .vmem, ⟨0, _⟩ => ⟨S512x1024, .bf16⟩
  | .local _ .vmem, ⟨1, _⟩ => ⟨S512x1024, .bf16⟩
  | .local _ .vmem, ⟨2, _⟩ => ⟨S1024x128, .bf16⟩
  | .local _ .vmem, ⟨3, _⟩ => ⟨S512x128, .f32⟩
  | .local _ .vmem, ⟨4, _⟩ => ⟨S512x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateIdeal.lean ====
abbrev S2048x1024 : Shape := ⟨2, ![2048, 1024]⟩
abbrev S1024x128 : Shape := ⟨2, ![1024, 128]⟩
abbrev S2048x128 : Shape := ⟨2, ![2048, 128]⟩
abbrev S512x1024 : Shape := ⟨2, ![512, 1024]⟩
abbrev S512x128 : Shape := ⟨2, ![512, 128]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x128, .bf16⟩
  | .hbm, ⟨2, _⟩ => ⟨S2048x128, .f32⟩
  | .local _ .vmem, ⟨0, _⟩ => ⟨S512x1024, .bf16⟩
  | .local _ .vmem, ⟨1, _⟩ => ⟨S512x1024, .bf16⟩
  | .local _ .vmem, ⟨2, _⟩ => ⟨S1024x128, .bf16⟩
  | .local _ .vmem, ⟨3, _⟩ => ⟨S512x128, .f32⟩
  | .local _ .vmem, ⟨4, _⟩ => ⟨S512x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateReferenceIdeal.lean ====
abbrev S2048x1024 : Shape := ⟨2, ![2048, 1024]⟩
abbrev S1024x128 : Shape := ⟨2, ![1024, 128]⟩
abbrev S2048x128 : Shape := ⟨2, ![2048, 128]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x128, .bf16⟩
  | .hbm, ⟨2, _⟩ => ⟨S2048x1024, .f32⟩
  | .hbm, ⟨3, _⟩ => ⟨S1024x128, .f32⟩
  | .hbm, ⟨4, _⟩ => ⟨S2048x128, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MemKvWeight.lean ====
abbrev S256x1024 : Shape := ⟨2, ![256, 1024]⟩
abbrev S256x256 : Shape := ⟨2, ![256, 256]⟩
abbrev S1024x256 : Shape := ⟨2, ![1024, 256]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S256x256, .f32⟩
  | .hbm, ⟨2, _⟩ => ⟨S1024x256, .bf16⟩
  | .local _ .vmem, ⟨0, _⟩ => ⟨S256x1024, .bf16⟩
  | .local _ .vmem, ⟨1, _⟩ => ⟨S256x256, .f32⟩
  | .local _ .vmem, ⟨2, _⟩ => ⟨S1024x256, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== MemKvWeightReferenceIdeal.lean ====
abbrev S256x1024 : Shape := ⟨2, ![256, 1024]⟩
abbrev S256x256 : Shape := ⟨2, ![256, 256]⟩
abbrev S_ : Shape := ⟨0, ![]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x256, .f32⟩
  | .hbm, ⟨2, _⟩ => ⟨S_, .f32⟩
  | .hbm, ⟨3, _⟩ => ⟨S1024x256, .f32⟩
  | .hbm, ⟨4, _⟩ => ⟨S256x1024, .f32⟩
  | .hbm, ⟨5, _⟩ => ⟨S256x256, .f32⟩
  | .hbm, ⟨6, _⟩ => ⟨S256x1024, .f32⟩
  | .hbm, ⟨7, _⟩ => ⟨S1024x256, .f32⟩
  | .hbm, ⟨8, _⟩ => ⟨S1024x256, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MemKvInput.lean ====
abbrev S256x256 : Shape := ⟨2, ![256, 256]⟩
abbrev S1024x256 : Shape := ⟨2, ![1024, 256]⟩
abbrev S256x1024 : Shape := ⟨2, ![256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x256, .f32⟩
  | .hbm, ⟨1, _⟩ => ⟨S1024x256, .bf16⟩
  | .hbm, ⟨2, _⟩ => ⟨S256x1024, .f32⟩
  | .local _ .vmem, ⟨0, _⟩ => ⟨S256x256, .f32⟩
  | .local _ .vmem, ⟨1, _⟩ => ⟨S1024x256, .bf16⟩
  | .local _ .vmem, ⟨2, _⟩ => ⟨S256x1024, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== MemKvInputReferenceIdeal.lean ====
abbrev S256x256 : Shape := ⟨2, ![256, 256]⟩
abbrev S1024x256 : Shape := ⟨2, ![1024, 256]⟩
abbrev S_ : Shape := ⟨0, ![]⟩
abbrev S256x1024 : Shape := ⟨2, ![256, 1024]⟩

abbrev nBuf : Space → Nat
  | .hbm => 7
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S1024x256, .bf16⟩
  | .hbm, ⟨2, _⟩ => ⟨S_, .f32⟩
  | .hbm, ⟨3, _⟩ => ⟨S256x1024, .f32⟩
  | .hbm, ⟨4, _⟩ => ⟨S1024x256, .f32⟩
  | .hbm, ⟨5, _⟩ => ⟨S256x256, .f32⟩
  | .hbm, ⟨6, _⟩ => ⟨S256x1024, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MemKvInputAdd.lean ====
abbrev S256x256 : Shape := ⟨2, ![256, 256]⟩
abbrev S1024x256 : Shape := ⟨2, ![1024, 256]⟩
abbrev S256x1024 : Shape := ⟨2, ![256, 1024]⟩

abbrev nBuf : Space → Nat
  | .hbm => 4
  | .vmem => 4
  | .smem => 0
  | _ => 0

abbrev bufTy : (tb : Table) → Fin (tcTables nBuf tb) → BufTy
  | .hbm, ⟨0, _⟩ => ⟨S256x256, .f32⟩
  | .hbm, ⟨1, _⟩ => ⟨S1024x256, .bf16⟩
  | .hbm, ⟨2, _⟩ => ⟨S256x1024, .f32⟩
  | .hbm, ⟨3, _⟩ => ⟨S256x1024, .f32⟩
  | .local _ .vmem, ⟨0, _⟩ => ⟨S256x256, .f32⟩
  | .local _ .vmem, ⟨1, _⟩ => ⟨S1024x256, .bf16⟩
  | .local _ .vmem, ⟨2, _⟩ => ⟨S256x1024, .f32⟩
  | .local _ .vmem, ⟨3, _⟩ => ⟨S256x1024, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== MemKvInputAddReferenceIdeal.lean ====
abbrev S256x256 : Shape := ⟨2, ![256, 256]⟩
abbrev S1024x256 : Shape := ⟨2, ![1024, 256]⟩
abbrev S256x1024 : Shape := ⟨2, ![256, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S1024x256, .bf16⟩
  | .hbm, ⟨2, _⟩ => ⟨S256x1024, .f32⟩
  | .hbm, ⟨3, _⟩ => ⟨S_, .f32⟩
  | .hbm, ⟨4, _⟩ => ⟨S256x1024, .f32⟩
  | .hbm, ⟨5, _⟩ => ⟨S1024x256, .f32⟩
  | .hbm, ⟨6, _⟩ => ⟨S256x256, .f32⟩
  | .hbm, ⟨7, _⟩ => ⟨S256x1024, .f32⟩
  | .hbm, ⟨8, _⟩ => ⟨S256x1024, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== MemKv.lean ====
abbrev S256x1024 : Shape := ⟨2, ![256, 1024]⟩
abbrev S1024x256 : Shape := ⟨2, ![1024, 256]⟩
abbrev S256x256 : Shape := ⟨2, ![256, 256]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x256, .bf16⟩
  | .hbm, ⟨2, _⟩ => ⟨S256x256, .f32⟩
  | .local _ .vmem, ⟨0, _⟩ => ⟨S256x1024, .bf16⟩
  | .local _ .vmem, ⟨1, _⟩ => ⟨S1024x256, .bf16⟩
  | .local _ .vmem, ⟨2, _⟩ => ⟨S256x256, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== MemKvReferenceIdeal.lean ====
abbrev S256x1024 : Shape := ⟨2, ![256, 1024]⟩
abbrev S1024x256 : Shape := ⟨2, ![1024, 256]⟩
abbrev S256x256 : Shape := ⟨2, ![256, 256]⟩

abbrev nBuf : Space → Nat
  | .hbm => 5
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x256, .bf16⟩
  | .hbm, ⟨2, _⟩ => ⟨S256x1024, .f32⟩
  | .hbm, ⟨3, _⟩ => ⟨S1024x256, .f32⟩
  | .hbm, ⟨4, _⟩ => ⟨S256x256, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AdamNorms.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormsIdeal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormsReferenceIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamInA.lean ====
abbrev S2048x448 : Shape := ⟨2, ![2048, 448]⟩
abbrev S1024x448 : Shape := ⟨2, ![1024, 448]⟩

abbrev nBuf : Space → Nat
  | .hbm => 7
  | .vmem => 14
  | .smem => 0
  | _ => 0

abbrev bufTy : (tb : Table) → Fin (tcTables nBuf tb) → BufTy
  | .hbm, ⟨0, _⟩ => ⟨S2048x448, .f32⟩
  | .hbm, ⟨1, _⟩ => ⟨S2048x448, .f32⟩
  | .hbm, ⟨2, _⟩ => ⟨S2048x448, .f32⟩
  | .hbm, ⟨3, _⟩ => ⟨S2048x448, .f32⟩
  | .hbm, ⟨4, _⟩ => ⟨S2048x448, .f32⟩
  | .hbm, ⟨5, _⟩ => ⟨S2048x448, .f32⟩
  | .hbm, ⟨6, _⟩ => ⟨S2048x448, .f32⟩
  | .local _ .vmem, ⟨0, _⟩ => ⟨S1024x448, .f32⟩
  | .local _ .vmem, ⟨1, _⟩ => ⟨S1024x448, .f32⟩
  | .local _ .vmem, ⟨2, _⟩ => ⟨S1024x448, .f32⟩
  | .local _ .vmem, ⟨3, _⟩ => ⟨S1024x448, .f32⟩
  | .local _ .vmem, ⟨4, _⟩ => ⟨S1024x448, .f32⟩
  | .local _ .vmem, ⟨5, _⟩ => ⟨S1024x448, .f32⟩
  | .local _ .vmem, ⟨6, _⟩ => ⟨S1024x448, .f32⟩
  | .local _ .vmem, ⟨7, _⟩ => ⟨S1024x448, .f32⟩
  | .local _ .vmem, ⟨8, _⟩ => ⟨S1024x448, .f32⟩
  | .local _ .vmem, ⟨9, _⟩ => ⟨S1024x448, .f32⟩
  | .local _ .vmem, ⟨10, _⟩ => ⟨S1024x448, .f32⟩
  | .local _ .vmem, ⟨11, _⟩ => ⟨S1024x448, .f32⟩
  | .local _ .vmem, ⟨12, _⟩ => ⟨S1024x448, .f32⟩
  | .local _ .vmem, ⟨13, _⟩ => ⟨S1024x448, .f32⟩
  | _, _ => ⟨S2048x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x448 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x448 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x448 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x448 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x448 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x448 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x448 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInAIdeal.lean ====
abbrev S2048x448 : Shape := ⟨2, ![2048, 448]⟩
abbrev S1024x448 : Shape := ⟨2, ![1024, 448]⟩

abbrev nBuf : Space → Nat
  | .hbm => 7
  | .vmem => 14
  | .smem => 0
  | _ => 0

abbrev bufTy : (tb : Table) → Fin (tcTables nBuf tb) → BufTy
  | .hbm, ⟨0, _⟩ => ⟨S2048x448, .f32⟩
  | .hbm, ⟨1, _⟩ => ⟨S2048x448, .f32⟩
  | .hbm, ⟨2, _⟩ => ⟨S2048x448, .f32⟩
  | .hbm, ⟨3, _⟩ => ⟨S2048x448, .f32⟩
  | .hbm, ⟨4, _⟩ => ⟨S2048x448, .f32⟩
  | .hbm, ⟨5, _⟩ => ⟨S2048x448, .f32⟩
  | .hbm, ⟨6, _⟩ => ⟨S2048x448, .f32⟩
  | .local _ .vmem, ⟨0, _⟩ => ⟨S1024x448, .f32⟩
  | .local _ .vmem, ⟨1, _⟩ => ⟨S1024x448, .f32⟩
  | .local _ .vmem, ⟨2, _⟩ => ⟨S1024x448, .f32⟩
  | .local _ .vmem, ⟨3, _⟩ => ⟨S1024x448, .f32⟩
  | .local _ .vmem, ⟨4, _⟩ => ⟨S1024x448, .f32⟩
  | .local _ .vmem, ⟨5, _⟩ => ⟨S1024x448, .f32⟩
  | .local _ .vmem, ⟨6, _⟩ => ⟨S1024x448, .f32⟩
  | .local _ .vmem, ⟨7, _⟩ => ⟨S1024x448, .f32⟩
  | .local _ .vmem, ⟨8, _⟩ => ⟨S1024x448, .f32⟩
  | .local _ .vmem, ⟨9, _⟩ => ⟨S1024x448, .f32⟩
  | .local _ .vmem, ⟨10, _⟩ => ⟨S1024x448, .f32⟩
  | .local _ .vmem, ⟨11, _⟩ => ⟨S1024x448, .f32⟩
  | .local _ .vmem, ⟨12, _⟩ => ⟨S1024x448, .f32⟩
  | .local _ .vmem, ⟨13, _⟩ => ⟨S1024x448, .f32⟩
  | _, _ => ⟨S2048x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x448 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x448 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x448 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x448 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x448 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x448 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x448 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInAReferenceIdeal.lean ====
abbrev S2048x448 : Shape := ⟨2, ![2048, 448]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x448, .f32⟩
  | .hbm, ⟨1, _⟩ => ⟨S2048x448, .f32⟩
  | .hbm, ⟨2, _⟩ => ⟨S2048x448, .f32⟩
  | .hbm, ⟨3, _⟩ => ⟨S2048x448, .f32⟩
  | .hbm, ⟨4, _⟩ => ⟨S_, .f32⟩
  | .hbm, ⟨5, _⟩ => ⟨S2048x448, .f32⟩
  | .hbm, ⟨6, _⟩ => ⟨S2048x448, .f32⟩
  | .hbm, ⟨7, _⟩ => ⟨S_, .f32⟩
  | .hbm, ⟨8, _⟩ => ⟨S2048x448, .f32⟩
  | .hbm, ⟨9, _⟩ => ⟨S2048x448, .f32⟩
  | .hbm, ⟨10, _⟩ => ⟨S2048x448, .f32⟩
  | .hbm, ⟨11, _⟩ => ⟨S_, .f32⟩
  | .hbm, ⟨12, _⟩ => ⟨S2048x448, .f32⟩
  | .hbm, ⟨13, _⟩ => ⟨S2048x448, .f32⟩
  | .hbm, ⟨14, _⟩ => ⟨S2048x448, .f32⟩
  | .hbm, ⟨15, _⟩ => ⟨S_, .f32⟩
  | .hbm, ⟨16, _⟩ => ⟨S2048x448, .f32⟩
  | .hbm, ⟨17, _⟩ => ⟨S2048x448, .f32⟩
  | .hbm, ⟨18, _⟩ => ⟨S2048x448, .f32⟩
  | .hbm, ⟨19, _⟩ => ⟨S_, .f32⟩
  | .hbm, ⟨20, _⟩ => ⟨S2048x448, .f32⟩
  | .hbm, ⟨21, _⟩ => ⟨S2048x448, .f32⟩
  | .hbm, ⟨22, _⟩ => ⟨S_, .f32⟩
  | .hbm, ⟨23, _⟩ => ⟨S2048x448, .f32⟩
  | .hbm, ⟨24, _⟩ => ⟨S2048x448, .f32⟩
  | .hbm, ⟨25, _⟩ => ⟨S2048x448, .f32⟩
  | .hbm, ⟨26, _⟩ => ⟨S_, .f32⟩
  | .hbm, ⟨27, _⟩ => ⟨S2048x448, .f32⟩
  | .hbm, ⟨28, _⟩ => ⟨S2048x448, .f32⟩
  | .hbm, ⟨29, _⟩ => ⟨S2048x448, .f32⟩
  | .hbm, ⟨30, _⟩ => ⟨S_, .f32⟩
  | .hbm, ⟨31, _⟩ => ⟨S2048x448, .f32⟩
  | .hbm, ⟨32, _⟩ => ⟨S2048x448, .f32⟩
  | .hbm, ⟨33, _⟩ => ⟨S2048x448, .f32⟩
  | .hbm, ⟨34, _⟩ => ⟨S_, .f32⟩
  | .hbm, ⟨35, _⟩ => ⟨S2048x448, .f32⟩
  | .hbm, ⟨36, _⟩ => ⟨S2048x448, .f32⟩
  | _, _ => ⟨S2048x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGlu.lean ====
abbrev S2x384 : Shape := ⟨2, ![2, 384]⟩

abbrev nBuf : Space → Nat
  | .hbm => 7
  | .vmem => 7
  | .smem => 0
  | _ => 0

abbrev bufTy : (tb : Table) → Fin (tcTables nBuf tb) → BufTy
  | .hbm, ⟨0, _⟩ => ⟨S2x384, .f32⟩
  | .hbm, ⟨1, _⟩ => ⟨S2x384, .f32⟩
  | .hbm, ⟨2, _⟩ => ⟨S2x384, .f32⟩
  | .hbm, ⟨3, _⟩ => ⟨S2x384, .f32⟩
  | .hbm, ⟨4, _⟩ => ⟨S2x384, .f32⟩
  | .hbm, ⟨5, _⟩ => ⟨S2x384, .f32⟩
  | .hbm, ⟨6, _⟩ => ⟨S2x384, .f32⟩
  | .local _ .vmem, ⟨0, _⟩ => ⟨S2x384, .f32⟩
  | .local _ .vmem, ⟨1, _⟩ => ⟨S2x384, .f32⟩
  | .local _ .vmem, ⟨2, _⟩ => ⟨S2x384, .f32⟩
  | .local _ .vmem, ⟨3, _⟩ => ⟨S2x384, .f32⟩
  | .local _ .vmem, ⟨4, _⟩ => ⟨S2x384, .f32⟩
  | .local _ .vmem, ⟨5, _⟩ => ⟨S2x384, .f32⟩
  | .local _ .vmem, ⟨6, _⟩ => ⟨S2x384, .f32⟩
  | _, _ => ⟨S2x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGluIdeal.lean ====
abbrev S2x384 : Shape := ⟨2, ![2, 384]⟩

abbrev nBuf : Space → Nat
  | .hbm => 7
  | .vmem => 7
  | .smem => 0
  | _ => 0

abbrev bufTy : (tb : Table) → Fin (tcTables nBuf tb) → BufTy
  | .hbm, ⟨0, _⟩ => ⟨S2x384, .f32⟩
  | .hbm, ⟨1, _⟩ => ⟨S2x384, .f32⟩
  | .hbm, ⟨2, _⟩ => ⟨S2x384, .f32⟩
  | .hbm, ⟨3, _⟩ => ⟨S2x384, .f32⟩
  | .hbm, ⟨4, _⟩ => ⟨S2x384, .f32⟩
  | .hbm, ⟨5, _⟩ => ⟨S2x384, .f32⟩
  | .hbm, ⟨6, _⟩ => ⟨S2x384, .f32⟩
  | .local _ .vmem, ⟨0, _⟩ => ⟨S2x384, .f32⟩
  | .local _ .vmem, ⟨1, _⟩ => ⟨S2x384, .f32⟩
  | .local _ .vmem, ⟨2, _⟩ => ⟨S2x384, .f32⟩
  | .local _ .vmem, ⟨3, _⟩ => ⟨S2x384, .f32⟩
  | .local _ .vmem, ⟨4, _⟩ => ⟨S2x384, .f32⟩
  | .local _ .vmem, ⟨5, _⟩ => ⟨S2x384, .f32⟩
  | .local _ .vmem, ⟨6, _⟩ => ⟨S2x384, .f32⟩
  | _, _ => ⟨S2x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGluReferenceIdeal.lean ====
abbrev S2x384 : Shape := ⟨2, ![2, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x384, .f32⟩
  | .hbm, ⟨1, _⟩ => ⟨S2x384, .f32⟩
  | .hbm, ⟨2, _⟩ => ⟨S2x384, .f32⟩
  | .hbm, ⟨3, _⟩ => ⟨S2x384, .f32⟩
  | .hbm, ⟨4, _⟩ => ⟨S_, .f32⟩
  | .hbm, ⟨5, _⟩ => ⟨S2x384, .f32⟩
  | .hbm, ⟨6, _⟩ => ⟨S2x384, .f32⟩
  | .hbm, ⟨7, _⟩ => ⟨S_, .f32⟩
  | .hbm, ⟨8, _⟩ => ⟨S2x384, .f32⟩
  | .hbm, ⟨9, _⟩ => ⟨S2x384, .f32⟩
  | .hbm, ⟨10, _⟩ => ⟨S2x384, .f32⟩
  | .hbm, ⟨11, _⟩ => ⟨S_, .f32⟩
  | .hbm, ⟨12, _⟩ => ⟨S2x384, .f32⟩
  | .hbm, ⟨13, _⟩ => ⟨S2x384, .f32⟩
  | .hbm, ⟨14, _⟩ => ⟨S2x384, .f32⟩
  | .hbm, ⟨15, _⟩ => ⟨S_, .f32⟩
  | .hbm, ⟨16, _⟩ => ⟨S2x384, .f32⟩
  | .hbm, ⟨17, _⟩ => ⟨S2x384, .f32⟩
  | .hbm, ⟨18, _⟩ => ⟨S2x384, .f32⟩
  | .hbm, ⟨19, _⟩ => ⟨S_, .f32⟩
  | .hbm, ⟨20, _⟩ => ⟨S2x384, .f32⟩
  | .hbm, ⟨21, _⟩ => ⟨S2x384, .f32⟩
  | .hbm, ⟨22, _⟩ => ⟨S_, .f32⟩
  | .hbm, ⟨23, _⟩ => ⟨S2x384, .f32⟩
  | .hbm, ⟨24, _⟩ => ⟨S2x384, .f32⟩
  | .hbm, ⟨25, _⟩ => ⟨S2x384, .f32⟩
  | .hbm, ⟨26, _⟩ => ⟨S_, .f32⟩
  | .hbm, ⟨27, _⟩ => ⟨S2x384, .f32⟩
  | .hbm, ⟨28, _⟩ => ⟨S2x384, .f32⟩
  | .hbm, ⟨29, _⟩ => ⟨S2x384, .f32⟩
  | .hbm, ⟨30, _⟩ => ⟨S_, .f32⟩
  | .hbm, ⟨31, _⟩ => ⟨S2x384, .f32⟩
  | .hbm, ⟨32, _⟩ => ⟨S2x384, .f32⟩
  | .hbm, ⟨33, _⟩ => ⟨S2x384, .f32⟩
  | .hbm, ⟨34, _⟩ => ⟨S_, .f32⟩
  | .hbm, ⟨35, _⟩ => ⟨S2x384, .f32⟩
  | .hbm, ⟨36, _⟩ => ⟨S2x384, .f32⟩
  | _, _ => ⟨S2x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConv.lean ====
abbrev S62x192 : Shape := ⟨2, ![62, 192]⟩

abbrev nBuf : Space → Nat
  | .hbm => 7
  | .vmem => 7
  | .smem => 0
  | _ => 0

abbrev bufTy : (tb : Table) → Fin (tcTables nBuf tb) → BufTy
  | .hbm, ⟨0, _⟩ => ⟨S62x192, .f32⟩
  | .hbm, ⟨1, _⟩ => ⟨S62x192, .f32⟩
  | .hbm, ⟨2, _⟩ => ⟨S62x192, .f32⟩
  | .hbm, ⟨3, _⟩ => ⟨S62x192, .f32⟩
  | .hbm, ⟨4, _⟩ => ⟨S62x192, .f32⟩
  | .hbm, ⟨5, _⟩ => ⟨S62x192, .f32⟩
  | .hbm, ⟨6, _⟩ => ⟨S62x192, .f32⟩
  | .local _ .vmem, ⟨0, _⟩ => ⟨S62x192, .f32⟩
  | .local _ .vmem, ⟨1, _⟩ => ⟨S62x192, .f32⟩
  | .local _ .vmem, ⟨2, _⟩ => ⟨S62x192, .f32⟩
  | .local _ .vmem, ⟨3, _⟩ => ⟨S62x192, .f32⟩
  | .local _ .vmem, ⟨4, _⟩ => ⟨S62x192, .f32⟩
  | .local _ .vmem, ⟨5, _⟩ => ⟨S62x192, .f32⟩
  | .local _ .vmem, ⟨6, _⟩ => ⟨S62x192, .f32⟩
  | _, _ => ⟨S62x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvIdeal.lean ====
abbrev S62x192 : Shape := ⟨2, ![62, 192]⟩

abbrev nBuf : Space → Nat
  | .hbm => 7
  | .vmem => 7
  | .smem => 0
  | _ => 0

abbrev bufTy : (tb : Table) → Fin (tcTables nBuf tb) → BufTy
  | .hbm, ⟨0, _⟩ => ⟨S62x192, .f32⟩
  | .hbm, ⟨1, _⟩ => ⟨S62x192, .f32⟩
  | .hbm, ⟨2, _⟩ => ⟨S62x192, .f32⟩
  | .hbm, ⟨3, _⟩ => ⟨S62x192, .f32⟩
  | .hbm, ⟨4, _⟩ => ⟨S62x192, .f32⟩
  | .hbm, ⟨5, _⟩ => ⟨S62x192, .f32⟩
  | .hbm, ⟨6, _⟩ => ⟨S62x192, .f32⟩
  | .local _ .vmem, ⟨0, _⟩ => ⟨S62x192, .f32⟩
  | .local _ .vmem, ⟨1, _⟩ => ⟨S62x192, .f32⟩
  | .local _ .vmem, ⟨2, _⟩ => ⟨S62x192, .f32⟩
  | .local _ .vmem, ⟨3, _⟩ => ⟨S62x192, .f32⟩
  | .local _ .vmem, ⟨4, _⟩ => ⟨S62x192, .f32⟩
  | .local _ .vmem, ⟨5, _⟩ => ⟨S62x192, .f32⟩
  | .local _ .vmem, ⟨6, _⟩ => ⟨S62x192, .f32⟩
  | _, _ => ⟨S62x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvReferenceIdeal.lean ====
abbrev S62x192 : Shape := ⟨2, ![62, 192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S62x192, .f32⟩
  | .hbm, ⟨1, _⟩ => ⟨S62x192, .f32⟩
  | .hbm, ⟨2, _⟩ => ⟨S62x192, .f32⟩
  | .hbm, ⟨3, _⟩ => ⟨S62x192, .f32⟩
  | .hbm, ⟨4, _⟩ => ⟨S_, .f32⟩
  | .hbm, ⟨5, _⟩ => ⟨S62x192, .f32⟩
  | .hbm, ⟨6, _⟩ => ⟨S62x192, .f32⟩
  | .hbm, ⟨7, _⟩ => ⟨S_, .f32⟩
  | .hbm, ⟨8, _⟩ => ⟨S62x192, .f32⟩
  | .hbm, ⟨9, _⟩ => ⟨S62x192, .f32⟩
  | .hbm, ⟨10, _⟩ => ⟨S62x192, .f32⟩
  | .hbm, ⟨11, _⟩ => ⟨S_, .f32⟩
  | .hbm, ⟨12, _⟩ => ⟨S62x192, .f32⟩
  | .hbm, ⟨13, _⟩ => ⟨S62x192, .f32⟩
  | .hbm, ⟨14, _⟩ => ⟨S62x192, .f32⟩
  | .hbm, ⟨15, _⟩ => ⟨S_, .f32⟩
  | .hbm, ⟨16, _⟩ => ⟨S62x192, .f32⟩
  | .hbm, ⟨17, _⟩ => ⟨S62x192, .f32⟩
  | .hbm, ⟨18, _⟩ => ⟨S62x192, .f32⟩
  | .hbm, ⟨19, _⟩ => ⟨S_, .f32⟩
  | .hbm, ⟨20, _⟩ => ⟨S62x192, .f32⟩
  | .hbm, ⟨21, _⟩ => ⟨S62x192, .f32⟩
  | .hbm, ⟨22, _⟩ => ⟨S_, .f32⟩
  | .hbm, ⟨23, _⟩ => ⟨S62x192, .f32⟩
  | .hbm, ⟨24, _⟩ => ⟨S62x192, .f32⟩
  | .hbm, ⟨25, _⟩ => ⟨S62x192, .f32⟩
  | .hbm, ⟨26, _⟩ => ⟨S_, .f32⟩
  | .hbm, ⟨27, _⟩ => ⟨S62x192, .f32⟩
  | .hbm, ⟨28, _⟩ => ⟨S62x192, .f32⟩
  | .hbm, ⟨29, _⟩ => ⟨S62x192, .f32⟩
  | .hbm, ⟨30, _⟩ => ⟨S_, .f32⟩
  | .hbm, ⟨31, _⟩ => ⟨S62x192, .f32⟩
  | .hbm, ⟨32, _⟩ => ⟨S62x192, .f32⟩
  | .hbm, ⟨33, _⟩ => ⟨S62x192, .f32⟩
  | .hbm, ⟨34, _⟩ => ⟨S_, .f32⟩
  | .hbm, ⟨35, _⟩ => ⟨S62x192, .f32⟩
  | .hbm, ⟨36, _⟩ => ⟨S62x192, .f32⟩
  | _, _ => ⟨S62x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamChannels.lean ====
abbrev S2x192 : Shape := ⟨2, ![2, 192]⟩

abbrev nBuf : Space → Nat
  | .hbm => 7
  | .vmem => 7
  | .smem => 0
  | _ => 0

abbrev bufTy : (tb : Table) → Fin (tcTables nBuf tb) → BufTy
  | .hbm, ⟨0, _⟩ => ⟨S2x192, .f32⟩
  | .hbm, ⟨1, _⟩ => ⟨S2x192, .f32⟩
  | .hbm, ⟨2, _⟩ => ⟨S2x192, .f32⟩
  | .hbm, ⟨3, _⟩ => ⟨S2x192, .f32⟩
  | .hbm, ⟨4, _⟩ => ⟨S2x192, .f32⟩
  | .hbm, ⟨5, _⟩ => ⟨S2x192, .f32⟩
  | .hbm, ⟨6, _⟩ => ⟨S2x192, .f32⟩
  | .local _ .vmem, ⟨0, _⟩ => ⟨S2x192, .f32⟩
  | .local _ .vmem, ⟨1, _⟩ => ⟨S2x192, .f32⟩
  | .local _ .vmem, ⟨2, _⟩ => ⟨S2x192, .f32⟩
  | .local _ .vmem, ⟨3, _⟩ => ⟨S2x192, .f32⟩
  | .local _ .vmem, ⟨4, _⟩ => ⟨S2x192, .f32⟩
  | .local _ .vmem, ⟨5, _⟩ => ⟨S2x192, .f32⟩
  | .local _ .vmem, ⟨6, _⟩ => ⟨S2x192, .f32⟩
  | _, _ => ⟨S2x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamChannelsIdeal.lean ====
abbrev S2x192 : Shape := ⟨2, ![2, 192]⟩

abbrev nBuf : Space → Nat
  | .hbm => 7
  | .vmem => 7
  | .smem => 0
  | _ => 0

abbrev bufTy : (tb : Table) → Fin (tcTables nBuf tb) → BufTy
  | .hbm, ⟨0, _⟩ => ⟨S2x192, .f32⟩
  | .hbm, ⟨1, _⟩ => ⟨S2x192, .f32⟩
  | .hbm, ⟨2, _⟩ => ⟨S2x192, .f32⟩
  | .hbm, ⟨3, _⟩ => ⟨S2x192, .f32⟩
  | .hbm, ⟨4, _⟩ => ⟨S2x192, .f32⟩
  | .hbm, ⟨5, _⟩ => ⟨S2x192, .f32⟩
  | .hbm, ⟨6, _⟩ => ⟨S2x192, .f32⟩
  | .local _ .vmem, ⟨0, _⟩ => ⟨S2x192, .f32⟩
  | .local _ .vmem, ⟨1, _⟩ => ⟨S2x192, .f32⟩
  | .local _ .vmem, ⟨2, _⟩ => ⟨S2x192, .f32⟩
  | .local _ .vmem, ⟨3, _⟩ => ⟨S2x192, .f32⟩
  | .local _ .vmem, ⟨4, _⟩ => ⟨S2x192, .f32⟩
  | .local _ .vmem, ⟨5, _⟩ => ⟨S2x192, .f32⟩
  | .local _ .vmem, ⟨6, _⟩ => ⟨S2x192, .f32⟩
  | _, _ => ⟨S2x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamChannelsReferenceIdeal.lean ====
abbrev S2x192 : Shape := ⟨2, ![2, 192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x192, .f32⟩
  | .hbm, ⟨1, _⟩ => ⟨S2x192, .f32⟩
  | .hbm, ⟨2, _⟩ => ⟨S2x192, .f32⟩
  | .hbm, ⟨3, _⟩ => ⟨S2x192, .f32⟩
  | .hbm, ⟨4, _⟩ => ⟨S_, .f32⟩
  | .hbm, ⟨5, _⟩ => ⟨S2x192, .f32⟩
  | .hbm, ⟨6, _⟩ => ⟨S2x192, .f32⟩
  | .hbm, ⟨7, _⟩ => ⟨S_, .f32⟩
  | .hbm, ⟨8, _⟩ => ⟨S2x192, .f32⟩
  | .hbm, ⟨9, _⟩ => ⟨S2x192, .f32⟩
  | .hbm, ⟨10, _⟩ => ⟨S2x192, .f32⟩
  | .hbm, ⟨11, _⟩ => ⟨S_, .f32⟩
  | .hbm, ⟨12, _⟩ => ⟨S2x192, .f32⟩
  | .hbm, ⟨13, _⟩ => ⟨S2x192, .f32⟩
  | .hbm, ⟨14, _⟩ => ⟨S2x192, .f32⟩
  | .hbm, ⟨15, _⟩ => ⟨S_, .f32⟩
  | .hbm, ⟨16, _⟩ => ⟨S2x192, .f32⟩
  | .hbm, ⟨17, _⟩ => ⟨S2x192, .f32⟩
  | .hbm, ⟨18, _⟩ => ⟨S2x192, .f32⟩
  | .hbm, ⟨19, _⟩ => ⟨S_, .f32⟩
  | .hbm, ⟨20, _⟩ => ⟨S2x192, .f32⟩
  | .hbm, ⟨21, _⟩ => ⟨S2x192, .f32⟩
  | .hbm, ⟨22, _⟩ => ⟨S_, .f32⟩
  | .hbm, ⟨23, _⟩ => ⟨S2x192, .f32⟩
  | .hbm, ⟨24, _⟩ => ⟨S2x192, .f32⟩
  | .hbm, ⟨25, _⟩ => ⟨S2x192, .f32⟩
  | .hbm, ⟨26, _⟩ => ⟨S_, .f32⟩
  | .hbm, ⟨27, _⟩ => ⟨S2x192, .f32⟩
  | .hbm, ⟨28, _⟩ => ⟨S2x192, .f32⟩
  | .hbm, ⟨29, _⟩ => ⟨S2x192, .f32⟩
  | .hbm, ⟨30, _⟩ => ⟨S_, .f32⟩
  | .hbm, ⟨31, _⟩ => ⟨S2x192, .f32⟩
  | .hbm, ⟨32, _⟩ => ⟨S2x192, .f32⟩
  | .hbm, ⟨33, _⟩ => ⟨S2x192, .f32⟩
  | .hbm, ⟨34, _⟩ => ⟨S_, .f32⟩
  | .hbm, ⟨35, _⟩ => ⟨S2x192, .f32⟩
  | .hbm, ⟨36, _⟩ => ⟨S2x192, .f32⟩
  | _, _ => ⟨S2x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGain.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGainIdeal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGainReferenceIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamKvf.lean ====
abbrev S1024x387 : Shape := ⟨2, ![1024, 387]⟩

abbrev nBuf : Space → Nat
  | .hbm => 7
  | .vmem => 7
  | .smem => 0
  | _ => 0

abbrev bufTy : (tb : Table) → Fin (tcTables nBuf tb) → BufTy
  | .hbm, ⟨0, _⟩ => ⟨S1024x387, .f32⟩
  | .hbm, ⟨1, _⟩ => ⟨S1024x387, .f32⟩
  | .hbm, ⟨2, _⟩ => ⟨S1024x387, .f32⟩
  | .hbm, ⟨3, _⟩ => ⟨S1024x387, .f32⟩
  | .hbm, ⟨4, _⟩ => ⟨S1024x387, .f32⟩
  | .hbm, ⟨5, _⟩ => ⟨S1024x387, .f32⟩
  | .hbm, ⟨6, _⟩ => ⟨S1024x387, .f32⟩
  | .local _ .vmem, ⟨0, _⟩ => ⟨S1024x387, .f32⟩
  | .local _ .vmem, ⟨1, _⟩ => ⟨S1024x387, .f32⟩
  | .local _ .vmem, ⟨2, _⟩ => ⟨S1024x387, .f32⟩
  | .local _ .vmem, ⟨3, _⟩ => ⟨S1024x387, .f32⟩
  | .local _ .vmem, ⟨4, _⟩ => ⟨S1024x387, .f32⟩
  | .local _ .vmem, ⟨5, _⟩ => ⟨S1024x387, .f32⟩
  | .local _ .vmem, ⟨6, _⟩ => ⟨S1024x387, .f32⟩
  | _, _ => ⟨S1024x387, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x387 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x387 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x387 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x387 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x387 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x387 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x387 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamKvfIdeal.lean ====
abbrev S1024x387 : Shape := ⟨2, ![1024, 387]⟩

abbrev nBuf : Space → Nat
  | .hbm => 7
  | .vmem => 7
  | .smem => 0
  | _ => 0

abbrev bufTy : (tb : Table) → Fin (tcTables nBuf tb) → BufTy
  | .hbm, ⟨0, _⟩ => ⟨S1024x387, .f32⟩
  | .hbm, ⟨1, _⟩ => ⟨S1024x387, .f32⟩
  | .hbm, ⟨2, _⟩ => ⟨S1024x387, .f32⟩
  | .hbm, ⟨3, _⟩ => ⟨S1024x387, .f32⟩
  | .hbm, ⟨4, _⟩ => ⟨S1024x387, .f32⟩
  | .hbm, ⟨5, _⟩ => ⟨S1024x387, .f32⟩
  | .hbm, ⟨6, _⟩ => ⟨S1024x387, .f32⟩
  | .local _ .vmem, ⟨0, _⟩ => ⟨S1024x387, .f32⟩
  | .local _ .vmem, ⟨1, _⟩ => ⟨S1024x387, .f32⟩
  | .local _ .vmem, ⟨2, _⟩ => ⟨S1024x387, .f32⟩
  | .local _ .vmem, ⟨3, _⟩ => ⟨S1024x387, .f32⟩
  | .local _ .vmem, ⟨4, _⟩ => ⟨S1024x387, .f32⟩
  | .local _ .vmem, ⟨5, _⟩ => ⟨S1024x387, .f32⟩
  | .local _ .vmem, ⟨6, _⟩ => ⟨S1024x387, .f32⟩
  | _, _ => ⟨S1024x387, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x387 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x387 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x387 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x387 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x387 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x387 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x387 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamKvfReferenceIdeal.lean ====
abbrev S1024x387 : Shape := ⟨2, ![1024, 387]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x387, .f32⟩
  | .hbm, ⟨1, _⟩ => ⟨S1024x387, .f32⟩
  | .hbm, ⟨2, _⟩ => ⟨S1024x387, .f32⟩
  | .hbm, ⟨3, _⟩ => ⟨S1024x387, .f32⟩
  | .hbm, ⟨4, _⟩ => ⟨S_, .f32⟩
  | .hbm, ⟨5, _⟩ => ⟨S1024x387, .f32⟩
  | .hbm, ⟨6, _⟩ => ⟨S1024x387, .f32⟩
  | .hbm, ⟨7, _⟩ => ⟨S_, .f32⟩
  | .hbm, ⟨8, _⟩ => ⟨S1024x387, .f32⟩
  | .hbm, ⟨9, _⟩ => ⟨S1024x387, .f32⟩
  | .hbm, ⟨10, _⟩ => ⟨S1024x387, .f32⟩
  | .hbm, ⟨11, _⟩ => ⟨S_, .f32⟩
  | .hbm, ⟨12, _⟩ => ⟨S1024x387, .f32⟩
  | .hbm, ⟨13, _⟩ => ⟨S1024x387, .f32⟩
  | .hbm, ⟨14, _⟩ => ⟨S1024x387, .f32⟩
  | .hbm, ⟨15, _⟩ => ⟨S_, .f32⟩
  | .hbm, ⟨16, _⟩ => ⟨S1024x387, .f32⟩
  | .hbm, ⟨17, _⟩ => ⟨S1024x387, .f32⟩
  | .hbm, ⟨18, _⟩ => ⟨S1024x387, .f32⟩
  | .hbm, ⟨19, _⟩ => ⟨S_, .f32⟩
  | .hbm, ⟨20, _⟩ => ⟨S1024x387, .f32⟩
  | .hbm, ⟨21, _⟩ => ⟨S1024x387, .f32⟩
  | .hbm, ⟨22, _⟩ => ⟨S_, .f32⟩
  | .hbm, ⟨23, _⟩ => ⟨S1024x387, .f32⟩
  | .hbm, ⟨24, _⟩ => ⟨S1024x387, .f32⟩
  | .hbm, ⟨25, _⟩ => ⟨S1024x387, .f32⟩
  | .hbm, ⟨26, _⟩ => ⟨S_, .f32⟩
  | .hbm, ⟨27, _⟩ => ⟨S1024x387, .f32⟩
  | .hbm, ⟨28, _⟩ => ⟨S1024x387, .f32⟩
  | .hbm, ⟨29, _⟩ => ⟨S1024x387, .f32⟩
  | .hbm, ⟨30, _⟩ => ⟨S_, .f32⟩
  | .hbm, ⟨31, _⟩ => ⟨S1024x387, .f32⟩
  | .hbm, ⟨32, _⟩ => ⟨S1024x387, .f32⟩
  | .hbm, ⟨33, _⟩ => ⟨S1024x387, .f32⟩
  | .hbm, ⟨34, _⟩ => ⟨S_, .f32⟩
  | .hbm, ⟨35, _⟩ => ⟨S1024x387, .f32⟩
  | .hbm, ⟨36, _⟩ => ⟨S1024x387, .f32⟩
  | _, _ => ⟨S1024x387, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamForget.lean ====
abbrev S1x12 : Shape := ⟨2, ![1, 12]⟩

abbrev nBuf : Space → Nat
  | .hbm => 7
  | .vmem => 7
  | .smem => 0
  | _ => 0

abbrev bufTy : (tb : Table) → Fin (tcTables nBuf tb) → BufTy
  | .hbm, ⟨0, _⟩ => ⟨S1x12, .f32⟩
  | .hbm, ⟨1, _⟩ => ⟨S1x12, .f32⟩
  | .hbm, ⟨2, _⟩ => ⟨S1x12, .f32⟩
  | .hbm, ⟨3, _⟩ => ⟨S1x12, .f32⟩
  | .hbm, ⟨4, _⟩ => ⟨S1x12, .f32⟩
  | .hbm, ⟨5, _⟩ => ⟨S1x12, .f32⟩
  | .hbm, ⟨6, _⟩ => ⟨S1x12, .f32⟩
  | .local _ .vmem, ⟨0, _⟩ => ⟨S1x12, .f32⟩
  | .local _ .vmem, ⟨1, _⟩ => ⟨S1x12, .f32⟩
  | .local _ .vmem, ⟨2, _⟩ => ⟨S1x12, .f32⟩
  | .local _ .vmem, ⟨3, _⟩ => ⟨S1x12, .f32⟩
  | .local _ .vmem, ⟨4, _⟩ => ⟨S1x12, .f32⟩
  | .local _ .vmem, ⟨5, _⟩ => ⟨S1x12, .f32⟩
  | .local _ .vmem, ⟨6, _⟩ => ⟨S1x12, .f32⟩
  | _, _ => ⟨S1x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x12 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x12 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamForgetIdeal.lean ====
abbrev S1x12 : Shape := ⟨2, ![1, 12]⟩

abbrev nBuf : Space → Nat
  | .hbm => 7
  | .vmem => 7
  | .smem => 0
  | _ => 0

abbrev bufTy : (tb : Table) → Fin (tcTables nBuf tb) → BufTy
  | .hbm, ⟨0, _⟩ => ⟨S1x12, .f32⟩
  | .hbm, ⟨1, _⟩ => ⟨S1x12, .f32⟩
  | .hbm, ⟨2, _⟩ => ⟨S1x12, .f32⟩
  | .hbm, ⟨3, _⟩ => ⟨S1x12, .f32⟩
  | .hbm, ⟨4, _⟩ => ⟨S1x12, .f32⟩
  | .hbm, ⟨5, _⟩ => ⟨S1x12, .f32⟩
  | .hbm, ⟨6, _⟩ => ⟨S1x12, .f32⟩
  | .local _ .vmem, ⟨0, _⟩ => ⟨S1x12, .f32⟩
  | .local _ .vmem, ⟨1, _⟩ => ⟨S1x12, .f32⟩
  | .local _ .vmem, ⟨2, _⟩ => ⟨S1x12, .f32⟩
  | .local _ .vmem, ⟨3, _⟩ => ⟨S1x12, .f32⟩
  | .local _ .vmem, ⟨4, _⟩ => ⟨S1x12, .f32⟩
  | .local _ .vmem, ⟨5, _⟩ => ⟨S1x12, .f32⟩
  | .local _ .vmem, ⟨6, _⟩ => ⟨S1x12, .f32⟩
  | _, _ => ⟨S1x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x12 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x12 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamForgetReferenceIdeal.lean ====
abbrev S1x12 : Shape := ⟨2, ![1, 12]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x12, .f32⟩
  | .hbm, ⟨1, _⟩ => ⟨S1x12, .f32⟩
  | .hbm, ⟨2, _⟩ => ⟨S1x12, .f32⟩
  | .hbm, ⟨3, _⟩ => ⟨S1x12, .f32⟩
  | .hbm, ⟨4, _⟩ => ⟨S_, .f32⟩
  | .hbm, ⟨5, _⟩ => ⟨S1x12, .f32⟩
  | .hbm, ⟨6, _⟩ => ⟨S1x12, .f32⟩
  | .hbm, ⟨7, _⟩ => ⟨S_, .f32⟩
  | .hbm, ⟨8, _⟩ => ⟨S1x12, .f32⟩
  | .hbm, ⟨9, _⟩ => ⟨S1x12, .f32⟩
  | .hbm, ⟨10, _⟩ => ⟨S1x12, .f32⟩
  | .hbm, ⟨11, _⟩ => ⟨S_, .f32⟩
  | .hbm, ⟨12, _⟩ => ⟨S1x12, .f32⟩
  | .hbm, ⟨13, _⟩ => ⟨S1x12, .f32⟩
  | .hbm, ⟨14, _⟩ => ⟨S1x12, .f32⟩
  | .hbm, ⟨15, _⟩ => ⟨S_, .f32⟩
  | .hbm, ⟨16, _⟩ => ⟨S1x12, .f32⟩
  | .hbm, ⟨17, _⟩ => ⟨S1x12, .f32⟩
  | .hbm, ⟨18, _⟩ => ⟨S1x12, .f32⟩
  | .hbm, ⟨19, _⟩ => ⟨S_, .f32⟩
  | .hbm, ⟨20, _⟩ => ⟨S1x12, .f32⟩
  | .hbm, ⟨21, _⟩ => ⟨S1x12, .f32⟩
  | .hbm, ⟨22, _⟩ => ⟨S_, .f32⟩
  | .hbm, ⟨23, _⟩ => ⟨S1x12, .f32⟩
  | .hbm, ⟨24, _⟩ => ⟨S1x12, .f32⟩
  | .hbm, ⟨25, _⟩ => ⟨S1x12, .f32⟩
  | .hbm, ⟨26, _⟩ => ⟨S_, .f32⟩
  | .hbm, ⟨27, _⟩ => ⟨S1x12, .f32⟩
  | .hbm, ⟨28, _⟩ => ⟨S1x12, .f32⟩
  | .hbm, ⟨29, _⟩ => ⟨S1x12, .f32⟩
  | .hbm, ⟨30, _⟩ => ⟨S_, .f32⟩
  | .hbm, ⟨31, _⟩ => ⟨S1x12, .f32⟩
  | .hbm, ⟨32, _⟩ => ⟨S1x12, .f32⟩
  | .hbm, ⟨33, _⟩ => ⟨S1x12, .f32⟩
  | .hbm, ⟨34, _⟩ => ⟨S_, .f32⟩
  | .hbm, ⟨35, _⟩ => ⟨S1x12, .f32⟩
  | .hbm, ⟨36, _⟩ => ⟨S1x12, .f32⟩
  | _, _ => ⟨S1x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamInB.lean ====
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamInBIdeal.lean ====
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamInBReferenceIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMemKv.lean ====
abbrev S1024x512 : Shape := ⟨2, ![1024, 512]⟩

abbrev nBuf : Space → Nat
  | .hbm => 7
  | .vmem => 7
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamMemKvIdeal.lean ====
abbrev S1024x512 : Shape := ⟨2, ![1024, 512]⟩

abbrev nBuf : Space → Nat
  | .hbm => 7
  | .vmem => 7
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamMemKvReferenceIdeal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S1024x1024 : Shape := ⟨2, ![1024, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutIdeal.lean ====
abbrev S1024x1024 : Shape := ⟨2, ![1024, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutReferenceIdeal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S4096x1408 : Shape := ⟨2, ![4096, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpIdeal.lean ====
abbrev S4096x1408 : Shape := ⟨2, ![4096, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpReferenceIdeal.lean ====
abbrev S4096x1408 : Shape := ⟨2, ![4096, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S_, .f32⟩
  | .hbm, ⟨5, _⟩ => ⟨S4096x1408, .f32⟩
  | .hbm, ⟨6, _⟩ => ⟨S4096x1408, .f32⟩
  | .hbm, ⟨7, _⟩ => ⟨S_, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S_, .f32⟩
  | .hbm, ⟨12, _⟩ => ⟨S4096x1408, .f32⟩
  | .hbm, ⟨13, _⟩ => ⟨S4096x1408, .f32⟩
  | .hbm, ⟨14, _⟩ => ⟨S4096x1408, .f32⟩
  | .hbm, ⟨15, _⟩ => ⟨S_, .f32⟩
  | .hbm, ⟨16, _⟩ => ⟨S4096x1408, .f32⟩
  | .hbm, ⟨17, _⟩ => ⟨S4096x1408, .f32⟩
  | .hbm, ⟨18, _⟩ => ⟨S4096x1408, .f32⟩
  | .hbm, ⟨19, _⟩ => ⟨S_, .f32⟩
  | .hbm, ⟨20, _⟩ => ⟨S4096x1408, .f32⟩
  | .hbm, ⟨21, _⟩ => ⟨S4096x1408, .f32⟩
  | .hbm, ⟨22, _⟩ => ⟨S_, .f32⟩
  | .hbm, ⟨23, _⟩ => ⟨S4096x1408, .f32⟩
  | .hbm, ⟨24, _⟩ => ⟨S4096x1408, .f32⟩
  | .hbm, ⟨25, _⟩ => ⟨S4096x1408, .f32⟩
  | .hbm, ⟨26, _⟩ => ⟨S_, .f32⟩
  | .hbm, ⟨27, _⟩ => ⟨S4096x1408, .f32⟩
  | .hbm, ⟨28, _⟩ => ⟨S4096x1408, .f32⟩
  | .hbm, ⟨29, _⟩ => ⟨S4096x1408, .f32⟩
  | .hbm, ⟨30, _⟩ => ⟨S_, .f32⟩
  | .hbm, ⟨31, _⟩ => ⟨S4096x1408, .f32⟩
  | .hbm, ⟨32, _⟩ => ⟨S4096x1408, .f32⟩
  | .hbm, ⟨33, _⟩ => ⟨S4096x1408, .f32⟩
  | .hbm, ⟨34, _⟩ => ⟨S_, .f32⟩
  | .hbm, ⟨35, _⟩ => ⟨S4096x1408, .f32⟩
  | .hbm, ⟨36, _⟩ => ⟨S4096x1408, .f32⟩
  | _, _ => ⟨S4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfnConv.lean ====
abbrev S12x1408 : Shape := ⟨2, ![12, 1408]⟩

abbrev nBuf : Space → Nat
  | .hbm => 7
  | .vmem => 7
  | .smem => 0
  | _ => 0

abbrev bufTy : (tb : Table) → Fin (tcTables nBuf tb) → BufTy
  | .hbm, ⟨0, _⟩ => ⟨S12x1408, .f32⟩
  | .hbm, ⟨1, _⟩ => ⟨S12x1408, .f32⟩
  | .hbm, ⟨2, _⟩ => ⟨S12x1408, .f32⟩
  | .hbm, ⟨3, _⟩ => ⟨S12x1408, .f32⟩
  | .hbm, ⟨4, _⟩ => ⟨S12x1408, .f32⟩
  | .hbm, ⟨5, _⟩ => ⟨S12x1408, .f32⟩
  | .hbm, ⟨6, _⟩ => ⟨S12x1408, .f32⟩
  | .local _ .vmem, ⟨0, _⟩ => ⟨S12x1408, .f32⟩
  | .local _ .vmem, ⟨1, _⟩ => ⟨S12x1408, .f32⟩
  | .local _ .vmem, ⟨2, _⟩ => ⟨S12x1408, .f32⟩
  | .local _ .vmem, ⟨3, _⟩ => ⟨S12x1408, .f32⟩
  | .local _ .vmem, ⟨4, _⟩ => ⟨S12x1408, .f32⟩
  | .local _ .vmem, ⟨5, _⟩ => ⟨S12x1408, .f32⟩
  | .local _ .vmem, ⟨6, _⟩ => ⟨S12x1408, .f32⟩
  | _, _ => ⟨S12x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamFfnConvIdeal.lean ====
abbrev S12x1408 : Shape := ⟨2, ![12, 1408]⟩

abbrev nBuf : Space → Nat
  | .hbm => 7
  | .vmem => 7
  | .smem => 0
  | _ => 0

abbrev bufTy : (tb : Table) → Fin (tcTables nBuf tb) → BufTy
  | .hbm, ⟨0, _⟩ => ⟨S12x1408, .f32⟩
  | .hbm, ⟨1, _⟩ => ⟨S12x1408, .f32⟩
  | .hbm, ⟨2, _⟩ => ⟨S12x1408, .f32⟩
  | .hbm, ⟨3, _⟩ => ⟨S12x1408, .f32⟩
  | .hbm, ⟨4, _⟩ => ⟨S12x1408, .f32⟩
  | .hbm, ⟨5, _⟩ => ⟨S12x1408, .f32⟩
  | .hbm, ⟨6, _⟩ => ⟨S12x1408, .f32⟩
  | .local _ .vmem, ⟨0, _⟩ => ⟨S12x1408, .f32⟩
  | .local _ .vmem, ⟨1, _⟩ => ⟨S12x1408, .f32⟩
  | .local _ .vmem, ⟨2, _⟩ => ⟨S12x1408, .f32⟩
  | .local _ .vmem, ⟨3, _⟩ => ⟨S12x1408, .f32⟩
  | .local _ .vmem, ⟨4, _⟩ => ⟨S12x1408, .f32⟩
  | .local _ .vmem, ⟨5, _⟩ => ⟨S12x1408, .f32⟩
  | .local _ .vmem, ⟨6, _⟩ => ⟨S12x1408, .f32⟩
  | _, _ => ⟨S12x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamFfnConvReferenceIdeal.lean ====
abbrev S12x1408 : Shape := ⟨2, ![12, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S12x1408, .f32⟩
  | .hbm, ⟨1, _⟩ => ⟨S12x1408, .f32⟩
  | .hbm, ⟨2, _⟩ => ⟨S12x1408, .f32⟩
  | .hbm, ⟨3, _⟩ => ⟨S12x1408, .f32⟩
  | .hbm, ⟨4, _⟩ => ⟨S_, .f32⟩
  | .hbm, ⟨5, _⟩ => ⟨S12x1408, .f32⟩
  | .hbm, ⟨6, _⟩ => ⟨S12x1408, .f32⟩
  | .hbm, ⟨7, _⟩ => ⟨S_, .f32⟩
  | .hbm, ⟨8, _⟩ => ⟨S12x1408, .f32⟩
  | .hbm, ⟨9, _⟩ => ⟨S12x1408, .f32⟩
  | .hbm, ⟨10, _⟩ => ⟨S12x1408, .f32⟩
  | .hbm, ⟨11, _⟩ => ⟨S_, .f32⟩
  | .hbm, ⟨12, _⟩ => ⟨S12x1408, .f32⟩
  | .hbm, ⟨13, _⟩ => ⟨S12x1408, .f32⟩
  | .hbm, ⟨14, _⟩ => ⟨S12x1408, .f32⟩
  | .hbm, ⟨15, _⟩ => ⟨S_, .f32⟩
  | .hbm, ⟨16, _⟩ => ⟨S12x1408, .f32⟩
  | .hbm, ⟨17, _⟩ => ⟨S12x1408, .f32⟩
  | .hbm, ⟨18, _⟩ => ⟨S12x1408, .f32⟩
  | .hbm, ⟨19, _⟩ => ⟨S_, .f32⟩
  | .hbm, ⟨20, _⟩ => ⟨S12x1408, .f32⟩
  | .hbm, ⟨21, _⟩ => ⟨S12x1408, .f32⟩
  | .hbm, ⟨22, _⟩ => ⟨S_, .f32⟩
  | .hbm, ⟨23, _⟩ => ⟨S12x1408, .f32⟩
  | .hbm, ⟨24, _⟩ => ⟨S12x1408, .f32⟩
  | .hbm, ⟨25, _⟩ => ⟨S12x1408, .f32⟩
  | .hbm, ⟨26, _⟩ => ⟨S_, .f32⟩
  | .hbm, ⟨27, _⟩ => ⟨S12x1408, .f32⟩
  | .hbm, ⟨28, _⟩ => ⟨S12x1408, .f32⟩
  | .hbm, ⟨29, _⟩ => ⟨S12x1408, .f32⟩
  | .hbm, ⟨30, _⟩ => ⟨S_, .f32⟩
  | .hbm, ⟨31, _⟩ => ⟨S12x1408, .f32⟩
  | .hbm, ⟨32, _⟩ => ⟨S12x1408, .f32⟩
  | .hbm, ⟨33, _⟩ => ⟨S12x1408, .f32⟩
  | .hbm, ⟨34, _⟩ => ⟨S_, .f32⟩
  | .hbm, ⟨35, _⟩ => ⟨S12x1408, .f32⟩
  | .hbm, ⟨36, _⟩ => ⟨S12x1408, .f32⟩
  | _, _ => ⟨S12x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfnBias.lean ====
abbrev S4x5632 : Shape := ⟨2, ![4, 5632]⟩

abbrev nBuf : Space → Nat
  | .hbm => 7
  | .vmem => 7
  | .smem => 0
  | _ => 0

abbrev bufTy : (tb : Table) → Fin (tcTables nBuf tb) → BufTy
  | .hbm, ⟨0, _⟩ => ⟨S4x5632, .f32⟩
  | .hbm, ⟨1, _⟩ => ⟨S4x5632, .f32⟩
  | .hbm, ⟨2, _⟩ => ⟨S4x5632, .f32⟩
  | .hbm, ⟨3, _⟩ => ⟨S4x5632, .f32⟩
  | .hbm, ⟨4, _⟩ => ⟨S4x5632, .f32⟩
  | .hbm, ⟨5, _⟩ => ⟨S4x5632, .f32⟩
  | .hbm, ⟨6, _⟩ => ⟨S4x5632, .f32⟩
  | .local _ .vmem, ⟨0, _⟩ => ⟨S4x5632, .f32⟩
  | .local _ .vmem, ⟨1, _⟩ => ⟨S4x5632, .f32⟩
  | .local _ .vmem, ⟨2, _⟩ => ⟨S4x5632, .f32⟩
  | .local _ .vmem, ⟨3, _⟩ => ⟨S4x5632, .f32⟩
  | .local _ .vmem, ⟨4, _⟩ => ⟨S4x5632, .f32⟩
  | .local _ .vmem, ⟨5, _⟩ => ⟨S4x5632, .f32⟩
  | .local _ .vmem, ⟨6, _⟩ => ⟨S4x5632, .f32⟩
  | _, _ => ⟨S4x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamFfnBiasIdeal.lean ====
abbrev S4x5632 : Shape := ⟨2, ![4, 5632]⟩

abbrev nBuf : Space → Nat
  | .hbm => 7
  | .vmem => 7
  | .smem => 0
  | _ => 0

abbrev bufTy : (tb : Table) → Fin (tcTables nBuf tb) → BufTy
  | .hbm, ⟨0, _⟩ => ⟨S4x5632, .f32⟩
  | .hbm, ⟨1, _⟩ => ⟨S4x5632, .f32⟩
  | .hbm, ⟨2, _⟩ => ⟨S4x5632, .f32⟩
  | .hbm, ⟨3, _⟩ => ⟨S4x5632, .f32⟩
  | .hbm, ⟨4, _⟩ => ⟨S4x5632, .f32⟩
  | .hbm, ⟨5, _⟩ => ⟨S4x5632, .f32⟩
  | .hbm, ⟨6, _⟩ => ⟨S4x5632, .f32⟩
  | .local _ .vmem, ⟨0, _⟩ => ⟨S4x5632, .f32⟩
  | .local _ .vmem, ⟨1, _⟩ => ⟨S4x5632, .f32⟩
  | .local _ .vmem, ⟨2, _⟩ => ⟨S4x5632, .f32⟩
  | .local _ .vmem, ⟨3, _⟩ => ⟨S4x5632, .f32⟩
  | .local _ .vmem, ⟨4, _⟩ => ⟨S4x5632, .f32⟩
  | .local _ .vmem, ⟨5, _⟩ => ⟨S4x5632, .f32⟩
  | .local _ .vmem, ⟨6, _⟩ => ⟨S4x5632, .f32⟩
  | _, _ => ⟨S4x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamFfnBiasReferenceIdeal.lean ====
abbrev S4x5632 : Shape := ⟨2, ![4, 5632]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x5632, .f32⟩
  | .hbm, ⟨1, _⟩ => ⟨S4x5632, .f32⟩
  | .hbm, ⟨2, _⟩ => ⟨S4x5632, .f32⟩
  | .hbm, ⟨3, _⟩ => ⟨S4x5632, .f32⟩
  | .hbm, ⟨4, _⟩ => ⟨S_, .f32⟩
  | .hbm, ⟨5, _⟩ => ⟨S4x5632, .f32⟩
  | .hbm, ⟨6, _⟩ => ⟨S4x5632, .f32⟩
  | .hbm, ⟨7, _⟩ => ⟨S_, .f32⟩
  | .hbm, ⟨8, _⟩ => ⟨S4x5632, .f32⟩
  | .hbm, ⟨9, _⟩ => ⟨S4x5632, .f32⟩
  | .hbm, ⟨10, _⟩ => ⟨S4x5632, .f32⟩
  | .hbm, ⟨11, _⟩ => ⟨S_, .f32⟩
  | .hbm, ⟨12, _⟩ => ⟨S4x5632, .f32⟩
  | .hbm, ⟨13, _⟩ => ⟨S4x5632, .f32⟩
  | .hbm, ⟨14, _⟩ => ⟨S4x5632, .f32⟩
  | .hbm, ⟨15, _⟩ => ⟨S_, .f32⟩
  | .hbm, ⟨16, _⟩ => ⟨S4x5632, .f32⟩
  | .hbm, ⟨17, _⟩ => ⟨S4x5632, .f32⟩
  | .hbm, ⟨18, _⟩ => ⟨S4x5632, .f32⟩
  | .hbm, ⟨19, _⟩ => ⟨S_, .f32⟩
  | .hbm, ⟨20, _⟩ => ⟨S4x5632, .f32⟩
  | .hbm, ⟨21, _⟩ => ⟨S4x5632, .f32⟩
  | .hbm, ⟨22, _⟩ => ⟨S_, .f32⟩
  | .hbm, ⟨23, _⟩ => ⟨S4x5632, .f32⟩
  | .hbm, ⟨24, _⟩ => ⟨S4x5632, .f32⟩
  | .hbm, ⟨25, _⟩ => ⟨S4x5632, .f32⟩
  | .hbm, ⟨26, _⟩ => ⟨S_, .f32⟩
  | .hbm, ⟨27, _⟩ => ⟨S4x5632, .f32⟩
  | .hbm, ⟨28, _⟩ => ⟨S4x5632, .f32⟩
  | .hbm, ⟨29, _⟩ => ⟨S4x5632, .f32⟩
  | .hbm, ⟨30, _⟩ => ⟨S_, .f32⟩
  | .hbm, ⟨31, _⟩ => ⟨S4x5632, .f32⟩
  | .hbm, ⟨32, _⟩ => ⟨S4x5632, .f32⟩
  | .hbm, ⟨33, _⟩ => ⟨S4x5632, .f32⟩
  | .hbm, ⟨34, _⟩ => ⟨S_, .f32⟩
  | .hbm, ⟨35, _⟩ => ⟨S4x5632, .f32⟩
  | .hbm, ⟨36, _⟩ => ⟨S4x5632, .f32⟩
  | _, _ => ⟨S4x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S2816x1024 : Shape := ⟨2, ![2816, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownReferenceIdeal.lean ====
abbrev S2816x1024 : Shape := ⟨2, ![2816, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S_, .f32⟩
  | .hbm, ⟨5, _⟩ => ⟨S2816x1024, .f32⟩
  | .hbm, ⟨6, _⟩ => ⟨S2816x1024, .f32⟩
  | .hbm, ⟨7, _⟩ => ⟨S_, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S_, .f32⟩
  | .hbm, ⟨12, _⟩ => ⟨S2816x1024, .f32⟩
  | .hbm, ⟨13, _⟩ => ⟨S2816x1024, .f32⟩
  | .hbm, ⟨14, _⟩ => ⟨S2816x1024, .f32⟩
  | .hbm, ⟨15, _⟩ => ⟨S_, .f32⟩
  | .hbm, ⟨16, _⟩ => ⟨S2816x1024, .f32⟩
  | .hbm, ⟨17, _⟩ => ⟨S2816x1024, .f32⟩
  | .hbm, ⟨18, _⟩ => ⟨S2816x1024, .f32⟩
  | .hbm, ⟨19, _⟩ => ⟨S_, .f32⟩
  | .hbm, ⟨20, _⟩ => ⟨S2816x1024, .f32⟩
  | .hbm, ⟨21, _⟩ => ⟨S2816x1024, .f32⟩
  | .hbm, ⟨22, _⟩ => ⟨S_, .f32⟩
  | .hbm, ⟨23, _⟩ => ⟨S2816x1024, .f32⟩
  | .hbm, ⟨24, _⟩ => ⟨S2816x1024, .f32⟩
  | .hbm, ⟨25, _⟩ => ⟨S2816x1024, .f32⟩
  | .hbm, ⟨26, _⟩ => ⟨S_, .f32⟩
  | .hbm, ⟨27, _⟩ => ⟨S2816x1024, .f32⟩
  | .hbm, ⟨28, _⟩ => ⟨S2816x1024, .f32⟩
  | .hbm, ⟨29, _⟩ => ⟨S2816x1024, .f32⟩
  | .hbm, ⟨30, _⟩ => ⟨S_, .f32⟩
  | .hbm, ⟨31, _⟩ => ⟨S2816x1024, .f32⟩
  | .hbm, ⟨32, _⟩ => ⟨S2816x1024, .f32⟩
  | .hbm, ⟨33, _⟩ => ⟨S2816x1024, .f32⟩
  | .hbm, ⟨34, _⟩ => ⟨S_, .f32⟩
  | .hbm, ⟨35, _⟩ => ⟨S2816x1024, .f32⟩
  | .hbm, ⟨36, _⟩ => ⟨S2816x1024, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Body.lean ====
/- One run of the kernel's body at a grid point, and the run of the whole program: what each point leaves in the five
   output blocks, stated through the pieces the body's run finds. -/
module

public import proofs.«01_k».proof.Proof.Gen.KernelIdeal.Frame.RunA
public import proofs.«01_k».proof.Proof.Gen.KernelIdeal.Frame.RunB
public import Idealize.ShloMosaic.Lib.Claim

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section generic
variable (c : Dev nD) (i : grid0.Coords) (arg2 : Memref sig .tc .vmem S2048x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1x512x128 .f32) (harg5 : arg5.IsWhole) (arg6 : Memref sig .tc .vmem S1x8x8x256 .f32) (harg6 : arg6.IsWhole) (arg7 : Memref sig .tc .vmem S1x8x8x256 .f32) (harg7 : arg7.IsWhole) (arg8 : Memref sig .tc .vmem S1x8x8x256 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S1x2x8x256 .f32) (harg13 : arg13.IsWhole) (arg14 : Memref sig .tc .vmem S1x8x8x256 .f32) (harg14 : arg14.IsWhole)
  (x0 : Vec F S2048x128 .f32) (x1 : Vec F S512x128 .f32) (x2 : Vec F S512x128 .f32) (x3 : Vec F S1x512x128 .f32) (x4 : Vec F S1x8x8x256 .f32) (x5 : Vec F S1x8x8x256 .f32) (x6 : Vec F S1x8x8x256 .f32) (x7 : Vec F S2048x128 .f32) (xo8 : Vec F S2048x128 .f32) (xo12 : Vec F S1x8x8x256 .f32)

/-- The five output blocks after the body where the key-tile coordinate is zero. -/
@[irreducible] def caseA (hc0 : cond0_0 i) : Vec F S2048x128 .f32 × Vec F S512x128 .f32 × Vec F S512x128 .f32 × Vec F S1x2x8x256 .f32 × Vec F S1x8x8x256 .f32 :=
  (VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1),
   VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1),
   VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1),
   VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.1),
   VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.2.1))

/-- The five output blocks after the body at a later key tile: the query gradient's and the query row sums' blocks are
    continued from what they held. -/
@[irreducible] def caseB (hc0 : ¬cond0_0 i) : Vec F S2048x128 .f32 × Vec F S512x128 .f32 × Vec F S512x128 .f32 × Vec F S1x2x8x256 .f32 × Vec F S1x8x8x256 .f32 :=
  (arg10.view.read (Elt F) (arg10.view.writes (Elt F) (harg10.unread xo8) (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo8 xo12).1),
   VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo8 xo12).2.1),
   VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo8 xo12).2.2.1),
   VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo8 xo12).2.2.2.1),
   arg14.view.read (Elt F) (arg14.view.writes (Elt F) (harg14.unread xo12) (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo8 xo12).2.2.2.2.1))

theorem coverA8 (hc0 : cond0_0 i) (y : S2048x128.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1 (by sl_whole_mem) y

theorem coverA9 (hc0 : cond0_0 i) (y : S512x128.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1 S512x64.size (by sl_kernel_rfl) y

theorem coverA10 (hc0 : cond0_0 i) (y : S512x128.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1 S512x64.size (by sl_kernel_rfl) y

theorem coverA11 (hc0 : cond0_0 i) (y : S1x2x8x256.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.1 ![1, 1, 1, 256] (by sl_kernel_rfl) y

theorem coverA12 (hc0 : cond0_0 i) (y : S1x8x8x256.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.2.1 (by sl_whole_mem) y

theorem coverB9 (hc0 : ¬cond0_0 i) (y : S512x128.Idx) : ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo8 xo12).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo8 xo12).2.1 S512x64.size (by sl_kernel_rfl) y

theorem coverB10 (hc0 : ¬cond0_0 i) (y : S512x128.Idx) : ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo8 xo12).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo8 xo12).2.2.1 S512x64.size (by sl_kernel_rfl) y

theorem coverB11 (hc0 : ¬cond0_0 i) (y : S1x2x8x256.Idx) : ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo8 xo12).2.2.2.1, y ∈ pc.1.set :=
  View.cover_of_tiledBy (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo8 xo12).2.2.2.1 ![1, 1, 1, 256] (by sl_kernel_rfl) y

/-- The body run, case A. -/
theorem tripleA (hc0 : cond0_0 i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (caseA c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0).1 ∗ owns (c : Thread nD τ) arg11 fullShare (caseA c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0).2.1 ∗ owns (c : Thread nD τ) arg12 fullShare (caseA c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0).2.2.1 ∗ owns (c : Thread nD τ) arg13 fullShare (caseA c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0).2.2.2.1 ∗ owns (c : Thread nD τ) arg14 fullShare (caseA c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0).2.2.2.2) -∗ K ⟨⟩))
      ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14) K := by
  unfold caseA
  dsimp only
  iintro ⟨H0, H1, H2, H3, H4, H5, H6, H7, H8, H9, H10, H11, H12, Hk⟩
  iapply ((kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H0, H1, H2, H3, H4, H5, H6, H7, ⟨%e8, H8⟩, ⟨%e9, H9⟩, ⟨%e10, H10⟩, ⟨%e11, H11⟩, ⟨%e12, H12⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (coverA8 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0)
  isplitl [H9]
  · unfold owns; iexists _; isplitr
    swap; · iexact H9
    ipureintro; exact View.read_writes_of_cover _ _ _ _ _ (coverA9 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0)
  isplitl [H10]
  · unfold owns; iexists _; isplitr
    swap; · iexact H10
    ipureintro; exact View.read_writes_of_cover _ _ _ _ _ (coverA10 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0)
  isplitl [H11]
  · unfold owns; iexists _; isplitr
    swap; · iexact H11
    ipureintro; exact View.read_writes_of_cover _ _ _ _ _ (coverA11 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0)
  unfold owns; iexists _; isplitr
  swap; · iexact H12
  ipureintro; exact View.read_writes_of_cover _ _ _ _ _ (coverA12 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0)

/-- The body run, case B. -/
theorem tripleB (hc0 : ¬cond0_0 i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xo12
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (caseB c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo8 xo12 hc0).1 ∗ owns (c : Thread nD τ) arg11 fullShare (caseB c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo8 xo12 hc0).2.1 ∗ owns (c : Thread nD τ) arg12 fullShare (caseB c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo8 xo12 hc0).2.2.1 ∗ owns (c : Thread nD τ) arg13 fullShare (caseB c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo8 xo12 hc0).2.2.2.1 ∗ owns (c : Thread nD τ) arg14 fullShare (caseB c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo8 xo12 hc0).2.2.2.2) -∗ K ⟨⟩))
      ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14) K := by
  unfold caseB
  dsimp only
  iintro ⟨H0, H1, H2, H3, H4, H5, H6, H7, H8, H9, H10, H11, H12, Hk⟩
  iapply ((kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo8 xo12).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H0, H1, H2, H3, H4, H5, H6, H7, H8, ⟨%e9, H9⟩, ⟨%e10, H10⟩, ⟨%e11, H11⟩, H12⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; rfl
  isplitl [H9]
  · unfold owns; iexists _; isplitr
    swap; · iexact H9
    ipureintro; exact View.read_writes_of_cover _ _ _ _ _ (coverB9 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo8 xo12 hc0)
  isplitl [H10]
  · unfold owns; iexists _; isplitr
    swap; · iexact H10
    ipureintro; exact View.read_writes_of_cover _ _ _ _ _ (coverB10 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo8 xo12 hc0)
  isplitl [H11]
  · unfold owns; iexists _; isplitr
    swap; · iexact H11
    ipureintro; exact View.read_writes_of_cover _ _ _ _ _ (coverB11 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo8 xo12 hc0)
  unfold owns; iexists _; isplitr
  swap; · iexact H12
  ipureintro; rfl

end generic

variable (m : (ℓ : Loc nD τ sig) → Buf (Elt F) ℓ) (ρ : Dev nD → PrngReg)

/-- The blocks after point `t`, where the key tile is the first. -/
def ptA (c : Dev nD) (t : Fin cfg0.N) (h0 : t.val % 4 = 0) : Vec F S2048x128 .f32 × Vec F S512x128 .f32 × Vec F S512x128 .f32 × Vec F S1x2x8x256 .f32 × Vec F S1x8x8x256 .f32 :=
  caseA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) ((hcond0_0 t).mpr h0)

/-- The blocks after point `t` at a later key tile, from what the point before left. -/
def ptB (c : Dev nD) (t : Fin cfg0.N) (h0 : ¬t.val % 4 = 0) (xo8 : Vec F S2048x128 .f32) (xo12 : Vec F S1x8x8x256 .f32) : Vec F S2048x128 .f32 × Vec F S512x128 .f32 × Vec F S512x128 .f32 × Vec F S1x2x8x256 .f32 × Vec F S1x8x8x256 .f32 :=
  caseB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) xo8 xo12 (fun h => h0 ((hcond0_0 t).mp h))

/-- The blocks after each point, point by point. -/
def outs (c : Dev nD) : (n : ℕ) → n < cfg0.N → Vec F S2048x128 .f32 × Vec F S512x128 .f32 × Vec F S512x128 .f32 × Vec F S1x2x8x256 .f32 × Vec F S1x8x8x256 .f32
  | 0, hn => ptA m c ⟨0, hn⟩ (Nat.zero_mod _)
  | n + 1, hn =>
    if h0 : (n + 1) % 4 = 0 then ptA m c ⟨n + 1, hn⟩ h0
    else ptB m c ⟨n + 1, hn⟩ h0 (outs c n (Nat.lt_of_succ_lt hn)).1 (outs c n (Nat.lt_of_succ_lt hn)).2.2.2.2

/-- What the point before left. -/
abbrev prev (c : Dev nD) (t : Fin cfg0.N) : Vec F S2048x128 .f32 × Vec F S512x128 .f32 × Vec F S512x128 .f32 × Vec F S1x2x8x256 .f32 × Vec F S1x8x8x256 .f32 :=
  outs m c (t.val - 1) (Nat.lt_of_le_of_lt (Nat.sub_le _ _) t.isLt)

theorem outs_A (c : Dev nD) (t : Fin cfg0.N) (h0 : t.val % 4 = 0) : outs m c t.val t.isLt = ptA m c t h0 := by
  obtain ⟨n, hn⟩ := t
  cases n with
  | zero => rfl
  | succ n => exact (dif_pos h0).trans rfl

theorem outs_B (c : Dev nD) (t : Fin cfg0.N) (h0 : ¬t.val % 4 = 0) :
    outs m c t.val t.isLt = ptB m c t h0 (prev m c t).1 (prev m c t).2.2.2.2 := by
  obtain ⟨n, hn⟩ := t
  cases n with
  | zero => exact absurd (Nat.zero_mod _) h0
  | succ n => exact (dif_neg h0).trans rfl

/-- The proof data of the pipeline: inputs at their blocks, outputs at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outs m c t.val t.isLt).1
    | ⟨9, _⟩ => (outs m c t.val t.isLt).2.1
    | ⟨10, _⟩ => (outs m c t.val t.isLt).2.2.1
    | ⟨11, _⟩ => (outs m c t.val t.isLt).2.2.2.1
    | ⟨12, _⟩ => (outs m c t.val t.isLt).2.2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = (outs m c t.val t.isLt).1 := by dsimp only [dats]
theorem after9 (c : Dev nD) (t : Fin cfg0.N) : (dats m 0 c).after 9 t = (outs m c t.val t.isLt).2.1 := by dsimp only [dats]
theorem after10 (c : Dev nD) (t : Fin cfg0.N) : (dats m 0 c).after 10 t = (outs m c t.val t.isLt).2.2.1 := by dsimp only [dats]
theorem after11 (c : Dev nD) (t : Fin cfg0.N) : (dats m 0 c).after 11 t = (outs m c t.val t.isLt).2.2.2.1 := by dsimp only [dats]
theorem after12 (c : Dev nD) (t : Fin cfg0.N) : (dats m 0 c).after 12 t = (outs m c t.val t.isLt).2.2.2.2 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

theorem before8_B (c : Dev nD) (t : Fin cfg0.N) (h0 : ¬t.val % 4 = 0) (d) : (dats m 0 c).before 8 t d = (prev m c t).1 := by
  have hN : t.val < 24 := lt_of_lt_of_eq t.isLt (show cfg0.N = 24 from N_0)
  rw [Dat.before_out_kept _ 8 rfl t (by omega) (Bool.eq_false_iff.mpr fun h => by have := (flush0_8 _).mp h; dsimp only at this; omega)
    (fun _ => rfl) (fun _ _ => rfl)]
  dsimp only [dats]

theorem before12_B (c : Dev nD) (t : Fin cfg0.N) (h0 : ¬t.val % 4 = 0) (d) : (dats m 0 c).before 12 t d = (prev m c t).2.2.2.2 := by
  have hN : t.val < 24 := lt_of_lt_of_eq t.isLt (show cfg0.N = 24 from N_0)
  rw [Dat.before_out_kept _ 12 rfl t (by omega) (Bool.eq_false_iff.mpr fun h => by have := (flush0_12 _).mp h; dsimp only at this; omega)
    (fun _ => rfl) (fun _ _ => rfl)]
  dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12]
  by_cases h0 : t.val % 4 = 0
  · rw [outs_A m c t h0]
    unfold ptA
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (tripleA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) ((hcond0_0 t).mpr h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [outs_B m c t h0]
    simp only [before8_B m c t h0, before12_B m c t h0]
    unfold ptB
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (tripleB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (prev m c t).1 (prev m c t).2.2.2.2 (fun h => h0 ((hcond0_0 t).mp h)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

-- the launch theorem's implicit arguments are found by unification, which looks under plain definitions here
set_option backward.isDefEq.respectTransparency.types false in
/-- The run, with every counter at zero at the end. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_post : θ_run defs (onTc (τ := τ) (main (F := F))) (s₀ m ρ) (Pipeline.FramePost cfgs (dats m) 0 (V m)) :=
  (θ_run defs _ _).mono (fun _ h => h.1) (run_quiet m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_post m ρ)) ((θ_run defs _ _).mono (fun _ h => h.2) (run_quiet m ρ))

end Cert.KernelIdeal.Own
-- ==== Proof.Pay.lean ====
/- What each step of the backward body computes, read at an index: with operands that hold real numbers, each named
   value of the body is the real number that the formula says. -/
module

public import proofs.«01_k».proof.Proof.Gen.KernelIdeal.Loops
public import Idealize.ShloMosaic.Lib.Pipeline.Value
public import Idealize.ShloMosaic.Lib.Pointwise

@[expose] public section

set_option maxRecDepth 16384

noncomputable section

namespace Cert.KernelIdeal.Hand

open Cert.KernelIdeal Cert.KernelIdeal.Gen Idealize.ShloMosaic Idealize.ShloMosaic.TcCoe Idealize.SL.Sem
  Idealize.ShloMosaic.Tactic

/-- The scale of the scores, one eighth. -/
theorem eighth : Ideal.ofBits .f32 0x3E000000#32 = (((1 : ℝ) / 8 : ℝ) : EReal) := by
  simp [Ideal.ofBits, Ideal.ieee, -EReal.coe_mul]; norm_num

/-- A finite sum of real numbers is that sum among the extended reals. -/
theorem coe_sum' {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The order of two small words is the order of the numbers they hold. -/
theorem sle_nat {m n : ℕ} (hm : m < 2 ^ 31) (hn : n < 2 ^ 31) :
    IntOp.cmpi CmpIPredicate.sle (BitVec.ofNat 32 m) (BitVec.ofNat 32 n) = if m ≤ n then 1#1 else 0#1 := by
  have e : ∀ x : ℕ, x < 2 ^ 31 → (BitVec.ofNat 32 x).toInt = (x : ℤ) := fun x hx => by
    rw [BitVec.toInt_eq_toNat_of_lt (by rw [BitVec.toNat_ofNat]; omega), BitVec.toNat_ofNat, Nat.mod_eq_of_lt (by omega)]
  simp only [IntOp.cmpi, BitVec.sle, e m hm, e n hn, Nat.cast_le]
  by_cases h : m ≤ n <;> simp [h]

/-- A masked score less a row's log-sum, under the exponential: zero above the diagonal. -/
theorem masked_exp {kj ib a b : ℕ} (hkj : kj < 4) (hib : ib < 8) (ha : a < 512) (hb : b < 256) (x l : ℝ) :
    Ideal.exp
      (Scalar.select
          (IntOp.cmpi CmpIPredicate.sle (IntOp.addi (Scalar.muli (BitVec.ofNat 32 kj) 512#32) (BitVec.ofNat 32 a))
            (IntOp.addi (Scalar.muli (BitVec.ofNat 32 ib) 256#32) (BitVec.ofNat 32 b)))
          (x : EReal) (Named.named (F := Ideal) (φ := .f32) κ "mask" 0xF149F2CA#32) - (l : EReal))
      = ((if 512 * kj + a ≤ 256 * ib + b then Real.exp (x - l) else 0 : ℝ) : EReal) := by
  have e1 : IntOp.addi (Scalar.muli (BitVec.ofNat 32 kj) 512#32) (BitVec.ofNat 32 a) = BitVec.ofNat 32 (512 * kj + a) := by
    apply BitVec.eq_of_toNat_eq
    simp only [IntOp.addi, Scalar.muli, IntOp.muli, BitVec.toNat_add, BitVec.toNat_mul, BitVec.toNat_ofNat]; omega
  have e2 : IntOp.addi (Scalar.muli (BitVec.ofNat 32 ib) 256#32) (BitVec.ofNat 32 b) = BitVec.ofNat 32 (256 * ib + b) := by
    apply BitVec.eq_of_toNat_eq
    simp only [IntOp.addi, Scalar.muli, IntOp.muli, BitVec.toNat_add, BitVec.toNat_mul, BitVec.toNat_ofNat]; omega
  have e3 : Named.named (F := Ideal) (φ := .f32) κ "mask" 0xF149F2CA#32 = (⊥ : EReal) := rfl
  rw [e1, e2, sle_nat (by omega) (by omega), e3]
  by_cases h : 512 * kj + a ≤ 256 * ib + b
  · rw [if_pos h, if_pos h]
    show Ideal.exp ((x : EReal) - (l : EReal)) = _
    rw [← EReal.coe_sub]; rfl
  · rw [if_neg h, if_neg h]
    show Ideal.exp ((⊥ : EReal) - (l : EReal)) = _
    rw [sub_eq_add_neg, EReal.bot_add]; rfl

section
variable {K Q V O P E S : ℕ → ℕ → ℝ} {cc cr ls dl X : ℕ → ℝ} {A : ℕ → ℕ → ℝ} {kj ib : ℕ}

theorem pay5_val (i : grid0.Coords) (arg1 : BitVec 32)
    (v4 : FVec Ideal S512x64 .bf16) (v12 : FVec Ideal S512x1 .f32) (v35 : BitVec 32) (k : Fin (k0_t1_loop i).trips)
    (v84 : FVec Ideal S256x64 .f32) (v92 v110 : FVec Ideal S1x1x1x256 .f32)
    (h1 : arg1 = BitVec.ofNat 32 kj) (hkj : kj < 4) (h2 : Scf.iv v35 1#32 (k : ℕ) = BitVec.ofNat 32 ib) (hib : ib < 8)
    (hK : ∀ a b, v4 (ix2 a b) = ((K a b : ℝ) : EReal)) (hQ : ∀ a b, v84 (ix2 a b) = ((Q a b : ℝ) : EReal))
    (hcc : ∀ a, v12 (ix2 a 0) = ((cc a : ℝ) : EReal)) (hcr : ∀ b, v92 (ix4 0 0 0 b) = ((cr b : ℝ) : EReal))
    (hls : ∀ b, v110 (ix4 0 0 0 b) = ((ls b : ℝ) : EReal)) (a : Fin 512) (b : Fin 256) :
    k0_pay5 (F := Ideal) i arg1 v4 v12 v35 1#32 k v84 v92 v110 (ix2 a b)
      = ((if 512 * kj + (a : ℕ) ≤ 256 * ib + (b : ℕ) then
          Real.exp ((∑ d : Fin 64, K a d * Q b d) * (1 / 8) + cr b - cc a - ls b) else 0 : ℝ) : EReal) := by
  unfold k0_pay5
  dsimp only
  rw [h1, h2]
  pointwise [k0_pay4]
  simp only [hK, hQ, hcc, hcr, hls, eighth, ← EReal.coe_mul, coe_sum', ← EReal.coe_add, ← EReal.coe_sub]
  exact masked_exp hkj hib a.isLt b.isLt _ _

theorem pay15_val (arg1 arg15 : BitVec 32) (v14 : FVec Ideal S512x1 .f32) (v161 : FVec Ideal S512x256 .f32) (cst : Ideal .f32)
    (v165 v183 : FVec Ideal S1x1x1x256 .f32)
    (h1 : arg1 = BitVec.ofNat 32 kj) (hkj : kj < 4) (h2 : arg15 = BitVec.ofNat 32 ib) (hib : ib < 8)
    (hc : cst = (((1 : ℝ) / 8 : ℝ) : EReal)) (hS : ∀ a b, v161 (ix2 a b) = ((S a b : ℝ) : EReal))
    (hcc : ∀ a, v14 (ix2 a 0) = ((cc a : ℝ) : EReal)) (hcr : ∀ b, v165 (ix4 0 0 0 b) = ((cr b : ℝ) : EReal))
    (hls : ∀ b, v183 (ix4 0 0 0 b) = ((ls b : ℝ) : EReal)) (a : Fin 512) (b : Fin 256) :
    k0_pay15 (F := Ideal) arg1 v14 arg15 v161 cst v165 v183 (ix2 a b)
      = ((if 512 * kj + (a : ℕ) ≤ 256 * ib + (b : ℕ) then
          Real.exp (S a b * (1 / 8) + cr b - cc a - ls b) else 0 : ℝ) : EReal) := by
  unfold k0_pay15
  dsimp only
  rw [h1, h2]
  pointwise []
  simp only [hS, hcc, hcr, hls, hc, ← EReal.coe_mul, ← EReal.coe_add, ← EReal.coe_sub]
  exact masked_exp hkj hib a.isLt b.isLt _ _

theorem pay6_val (v8 : FVec Ideal S512x64 .bf16) (v87 : FVec Ideal S256x64 .f32) (v118 : FVec Ideal S1x1x1x256 .f32)
    (hV : ∀ a b, v8 (ix2 a b) = ((V a b : ℝ) : EReal)) (hO : ∀ a b, v87 (ix2 a b) = ((O a b : ℝ) : EReal)) (hdl : ∀ b, v118 (ix4 0 0 0 b) = ((dl b : ℝ) : EReal))
    (a : Fin 512) (b : Fin 256) :
    k0_pay6 (F := Ideal) v8 v87 v118 (ix2 a b)
      = (((∑ d : Fin 64, V a d * O b d) - dl b : ℝ) : EReal) := by
  unfold k0_pay6
  pointwise []
  simp only [hV, hO, hdl, eighth, ← EReal.coe_mul, coe_sum', ← EReal.coe_add, ← EReal.coe_sub]

theorem pay8_val (v4 : FVec Ideal S512x64 .bf16) (v114 v121 : FVec Ideal S512x256 .f32) (xa : FVec Ideal S256x64 .f32)
    (hK : ∀ a b, v4 (ix2 a b) = ((K a b : ℝ) : EReal)) (hP : ∀ a b, v114 (ix2 a b) = ((P a b : ℝ) : EReal)) (hE : ∀ a b, v121 (ix2 a b) = ((E a b : ℝ) : EReal))
    (hA : ∀ a b, xa (ix2 a b) = ((A a b : ℝ) : EReal))
    (b : Fin 256) (d : Fin 64) :
    k0_pay8 (F := Ideal) v4 v114 v121 xa (ix2 b d)
      = ((A b d + (∑ a : Fin 512, P a b * E a b * K a d) * (1 / 8) : ℝ) : EReal) := by
  unfold k0_pay8
  pointwise [k0_pay7]
  simp only [hK, hP, hE, hA, eighth, ← EReal.coe_mul, coe_sum', ← EReal.coe_add, ← EReal.coe_sub]

theorem pay9_val (v114 v121 : FVec Ideal S512x256 .f32) (xr : FVec Ideal S1x1x1x256 .f32)
    (hP : ∀ a b, v114 (ix2 a b) = ((P a b : ℝ) : EReal)) (hE : ∀ a b, v121 (ix2 a b) = ((E a b : ℝ) : EReal))
    (hX : ∀ b, xr (ix4 0 0 0 b) = ((X b : ℝ) : EReal))
    (b : Fin 256) :
    k0_pay9 (F := Ideal) v114 v121 xr (ix4 0 0 0 b)
      = ((X b + ∑ a : Fin 512, P a b * E a b : ℝ) : EReal) := by
  unfold k0_pay9
  pointwise [k0_pay7]
  simp only [hP, hE, hX, eighth, ← EReal.coe_mul, coe_sum', ← EReal.coe_add, ← EReal.coe_sub]

theorem pay10_val (xa : FVec Ideal S512x64 .f32) (v85 : FVec Ideal S256x64 .bf16) (v114 v121 : FVec Ideal S512x256 .f32)
    (hQ : ∀ a b, v85 (ix2 a b) = ((Q a b : ℝ) : EReal)) (hP : ∀ a b, v114 (ix2 a b) = ((P a b : ℝ) : EReal)) (hE : ∀ a b, v121 (ix2 a b) = ((E a b : ℝ) : EReal))
    (hA : ∀ a b, xa (ix2 a b) = ((A a b : ℝ) : EReal))
    (a : Fin 512) (d : Fin 64) :
    k0_pay10 (F := Ideal) xa v85 v114 v121 (ix2 a d)
      = ((A a d + (∑ b : Fin 256, P a b * E a b * Q b d) * (1 / 8) : ℝ) : EReal) := by
  unfold k0_pay10
  pointwise [k0_pay7]
  simp only [hQ, hP, hE, hA, eighth, ← EReal.coe_mul, coe_sum', ← EReal.coe_add, ← EReal.coe_sub]

theorem pay11_val (xa : FVec Ideal S512x64 .f32) (v87 : FVec Ideal S256x64 .f32) (v114 : FVec Ideal S512x256 .f32)
    (hO : ∀ a b, v87 (ix2 a b) = ((O a b : ℝ) : EReal)) (hP : ∀ a b, v114 (ix2 a b) = ((P a b : ℝ) : EReal))
    (hA : ∀ a b, xa (ix2 a b) = ((A a b : ℝ) : EReal))
    (a : Fin 512) (d : Fin 64) :
    k0_pay11 (F := Ideal) xa v87 v114 (ix2 a d)
      = ((A a d + ∑ b : Fin 256, P a b * O b d : ℝ) : EReal) := by
  unfold k0_pay11
  pointwise [k0_pay7]
  simp only [hO, hP, hA, eighth, ← EReal.coe_mul, coe_sum', ← EReal.coe_add, ← EReal.coe_sub]

theorem pay12_val (xa : FVec Ideal S512x128 .f32) (v114 v121 : FVec Ideal S512x256 .f32)
    (hP : ∀ a b, v114 (ix2 a b) = ((P a b : ℝ) : EReal)) (hE : ∀ a b, v121 (ix2 a b) = ((E a b : ℝ) : EReal))
    (hA : ∀ a b, xa (ix2 a b) = ((A a b : ℝ) : EReal))
    (a : Fin 512) (c : Fin 128) :
    k0_pay12 (F := Ideal) xa v114 v121 (ix2 a c)
      = ((A a c + (P a c * E a c + P a (128 + c) * E a (128 + c)) : ℝ) : EReal) := by
  unfold k0_pay12
  pointwise [k0_pay7]
  simp only [hP, hE, hA, eighth, ← EReal.coe_mul, coe_sum', ← EReal.coe_add, ← EReal.coe_sub]

theorem pay14_val (v4 : FVec Ideal S512x64 .bf16) (v84 : FVec Ideal S256x64 .f32)
    (hK : ∀ a b, v4 (ix2 a b) = ((K a b : ℝ) : EReal)) (hQ : ∀ a b, v84 (ix2 a b) = ((Q a b : ℝ) : EReal))
    (a : Fin 512) (b : Fin 256) :
    k0_pay14 (F := Ideal) v4 v84 (ix2 a b)
      = ((∑ d : Fin 64, K a d * Q b d : ℝ) : EReal) := by
  unfold k0_pay14
  pointwise [k0_pay13]
  simp only [hK, hQ, eighth, ← EReal.coe_mul, coe_sum', ← EReal.coe_add, ← EReal.coe_sub]

theorem pay16_val (arg1 : BitVec 32) (v10 : FVec Ideal S512x64 .bf16) (v14 : FVec Ideal S512x1 .f32) (arg15 : BitVec 32) (v87 : FVec Ideal S256x64 .f32) (v161 : FVec Ideal S512x256 .f32) (cst : Ideal .f32) (v165 v183 v191 : FVec Ideal S1x1x1x256 .f32)
    (hV : ∀ a b, v10 (ix2 a b) = ((V a b : ℝ) : EReal)) (hO : ∀ a b, v87 (ix2 a b) = ((O a b : ℝ) : EReal)) (hdl : ∀ b, v191 (ix4 0 0 0 b) = ((dl b : ℝ) : EReal))
    (hP : ∀ a b, k0_pay15 (F := Ideal) arg1 v14 arg15 v161 cst v165 v183 (ix2 a b) = ((P a b : ℝ) : EReal))
    (a : Fin 512) (b : Fin 256) :
    k0_pay16 (F := Ideal) arg1 v10 v14 arg15 v87 v161 cst v165 v183 v191 (ix2 a b)
      = ((P a b * ((∑ d : Fin 64, V a d * O b d) - dl b) : ℝ) : EReal) := by
  unfold k0_pay16
  pointwise []
  simp only [hV, hO, hdl, hP, eighth, ← EReal.coe_mul, coe_sum', ← EReal.coe_add, ← EReal.coe_sub]

theorem pay17_val (arg1 : BitVec 32) (v4 v10 : FVec Ideal S512x64 .bf16) (v14 : FVec Ideal S512x1 .f32) (arg15 : BitVec 32) (v87 : FVec Ideal S256x64 .f32) (v161 : FVec Ideal S512x256 .f32) (cst : Ideal .f32) (v165 v183 v191 : FVec Ideal S1x1x1x256 .f32) (xa : FVec Ideal S256x64 .f32)
    (hK : ∀ a b, v4 (ix2 a b) = ((K a b : ℝ) : EReal))
    (hS : ∀ a b, k0_pay16 (F := Ideal) arg1 v10 v14 arg15 v87 v161 cst v165 v183 v191 (ix2 a b) = ((S a b : ℝ) : EReal))
    (hA : ∀ a b, xa (ix2 a b) = ((A a b : ℝ) : EReal))
    (b : Fin 256) (d : Fin 64) :
    k0_pay17 (F := Ideal) arg1 v4 v10 v14 arg15 v87 v161 cst v165 v183 v191 xa (ix2 b d)
      = ((A b d + (∑ a : Fin 512, S a b * K a d) * (1 / 8) : ℝ) : EReal) := by
  unfold k0_pay17
  pointwise []
  simp only [hK, hS, hA, eighth, ← EReal.coe_mul, coe_sum', ← EReal.coe_add, ← EReal.coe_sub]

theorem pay43_val (v195 : FVec Ideal S512x256 .f32) (xr : FVec Ideal S1x1x1x256 .f32)
    (hS : ∀ a b, v195 (ix2 a b) = ((S a b : ℝ) : EReal))
    (hX : ∀ b, xr (ix4 0 0 0 b) = ((X b : ℝ) : EReal))
    (b : Fin 256) :
    k0_pay43 (F := Ideal) v195 xr (ix4 0 0 0 b)
      = ((X b + ∑ a : Fin 512, S a b : ℝ) : EReal) := by
  unfold k0_pay43
  pointwise []
  simp only [hS, hX, eighth, ← EReal.coe_mul, coe_sum', ← EReal.coe_add, ← EReal.coe_sub]

theorem pay44_val (xa : FVec Ideal S512x64 .f32) (v85 : FVec Ideal S256x64 .bf16) (v195 : FVec Ideal S512x256 .f32)
    (hQ : ∀ a b, v85 (ix2 a b) = ((Q a b : ℝ) : EReal)) (hS : ∀ a b, v195 (ix2 a b) = ((S a b : ℝ) : EReal))
    (hA : ∀ a b, xa (ix2 a b) = ((A a b : ℝ) : EReal))
    (a : Fin 512) (d : Fin 64) :
    k0_pay44 (F := Ideal) xa v85 v195 (ix2 a d)
      = ((A a d + (∑ b : Fin 256, S a b * Q b d) * (1 / 8) : ℝ) : EReal) := by
  unfold k0_pay44
  pointwise []
  simp only [hQ, hS, hA, eighth, ← EReal.coe_mul, coe_sum', ← EReal.coe_add, ← EReal.coe_sub]

theorem pay45_val (xa : FVec Ideal S512x64 .f32) (v87 : FVec Ideal S256x64 .f32) (v114 : FVec Ideal S512x256 .f32)
    (hO : ∀ a b, v87 (ix2 a b) = ((O a b : ℝ) : EReal)) (hP : ∀ a b, v114 (ix2 a b) = ((P a b : ℝ) : EReal))
    (hA : ∀ a b, xa (ix2 a b) = ((A a b : ℝ) : EReal))
    (a : Fin 512) (d : Fin 64) :
    k0_pay45 (F := Ideal) xa v87 v114 (ix2 a d)
      = ((A a d + ∑ b : Fin 256, P a b * O b d : ℝ) : EReal) := by
  unfold k0_pay45
  pointwise []
  simp only [hO, hP, hA, eighth, ← EReal.coe_mul, coe_sum', ← EReal.coe_add, ← EReal.coe_sub]

theorem pay46_val (xa : FVec Ideal S512x128 .f32) (v195 : FVec Ideal S512x256 .f32)
    (hS : ∀ a b, v195 (ix2 a b) = ((S a b : ℝ) : EReal))
    (hA : ∀ a b, xa (ix2 a b) = ((A a b : ℝ) : EReal))
    (a : Fin 512) (c : Fin 128) :
    k0_pay46 (F := Ideal) xa v195 (ix2 a c)
      = ((A a c + (S a c + S a (128 + c)) : ℝ) : EReal) := by
  unfold k0_pay46
  pointwise []
  simp only [hS, hA, eighth, ← EReal.coe_mul, coe_sum', ← EReal.coe_add, ← EReal.coe_sub]

theorem pay2_val (xa : FVec Ideal S512x128 .f32)
    (hA : ∀ a b, xa (ix2 a b) = ((A a b : ℝ) : EReal))
    (b : Fin 256) :
    k0_pay2 (F := Ideal) xa (ix4 0 0 0 b)
      = ((-∑ c : Fin 128, A b c : ℝ) : EReal) := by
  unfold k0_pay2
  pointwise [k0_pay1]
  simp only [hA, eighth, ← EReal.coe_mul, coe_sum', ← EReal.coe_add, ← EReal.coe_sub]
  norm_num [EReal.coe_neg]

theorem pay3_val (xa : FVec Ideal S512x128 .f32)
    (hA : ∀ a b, xa (ix2 a b) = ((A a b : ℝ) : EReal))
    (b : Fin 256) :
    k0_pay3 (F := Ideal) xa (ix4 0 0 0 b)
      = ((-∑ c : Fin 128, A (256 + b) c : ℝ) : EReal) := by
  unfold k0_pay3
  pointwise [k0_pay1]
  simp only [hA, eighth, ← EReal.coe_mul, coe_sum', ← EReal.coe_add, ← EReal.coe_sub]
  norm_num [EReal.coe_neg]

theorem pay53_val (xa : FVec Ideal S512x128 .f32)
    (hA : ∀ a b, xa (ix2 a b) = ((A a b : ℝ) : EReal))
    (b : Fin 256) :
    k0_pay53 (F := Ideal) xa (ix4 0 0 0 b)
      = ((-∑ c : Fin 128, A b c : ℝ) : EReal) := by
  unfold k0_pay53
  pointwise [k0_pay52]
  simp only [hA, eighth, ← EReal.coe_mul, coe_sum', ← EReal.coe_add, ← EReal.coe_sub]
  norm_num [EReal.coe_neg]

theorem pay54_val (xa : FVec Ideal S512x128 .f32)
    (hA : ∀ a b, xa (ix2 a b) = ((A a b : ℝ) : EReal))
    (b : Fin 256) :
    k0_pay54 (F := Ideal) xa (ix4 0 0 0 b)
      = ((-∑ c : Fin 128, A (256 + b) c : ℝ) : EReal) := by
  unfold k0_pay54
  pointwise [k0_pay52]
  simp only [hA, eighth, ← EReal.coe_mul, coe_sum', ← EReal.coe_add, ← EReal.coe_sub]
  norm_num [EReal.coe_neg]

end

end Cert.KernelIdeal.Hand
-- ==== Proof.Trip.lean ====
/- One trip of the loop over query blocks: what it carries on and what it stores, in the body's own named values. -/
module

public import proofs.«01_k».proof.Proof.Pay

@[expose] public section

set_option maxRecDepth 16384

noncomputable section

namespace Cert.KernelIdeal.Hand

open Cert.KernelIdeal Cert.KernelIdeal.Gen Idealize.ShloMosaic Idealize.ShloMosaic.TcCoe Idealize.SL.Sem
  Idealize.ShloMosaic.Tactic

variable {F : FTy → Type} [FloatOps F] [Named F]

section
variable (i : grid0.Coords) (k : Fin (k0_t1_loop i).trips)

/-- A query block's columns of the pair's first head. -/
abbrev rd1 (m : Memref sig .tc .vmem S2048x128 .f32) (X : BufTy.Contents (Elt F) m.view.ty) : FVec F S256x64 .f32 :=
  View.readAt (Elt F) m.view (Rect.unit (s := S2048x128) (k0_off1 i k) S256x64.size (k0_off1_inb i k)).toLoadRect X
/-- A query block's columns of the pair's second head. -/
abbrev rd3 (m : Memref sig .tc .vmem S2048x128 .f32) (X : BufTy.Contents (Elt F) m.view.ty) : FVec F S256x64 .f32 :=
  View.readAt (Elt F) m.view (Rect.unit (s := S2048x128) (k0_off3 i k) S256x64.size (k0_off3_inb i k)).toLoadRect X
/-- A query block's row of the pair's first head. -/
abbrev rd2 (m : Memref sig .tc .vmem S1x8x8x256 .f32) (X : BufTy.Contents (Elt F) m.view.ty) : FVec F S1x1x1x256 .f32 :=
  View.readAt (Elt F) m.view (Rect.unit (s := S1x8x8x256) (k0_off2 i k) S1x1x1x256.size (k0_off2_inb i k)).toLoadRect X
/-- A query block's row of the pair's second head. -/
abbrev rd4 (m : Memref sig .tc .vmem S1x8x8x256 .f32) (X : BufTy.Contents (Elt F) m.view.ty) : FVec F S1x1x1x256 .f32 :=
  View.readAt (Elt F) m.view (Rect.unit (s := S1x8x8x256) (k0_off4 i k) S1x1x1x256.size (k0_off4_inb i k)).toLoadRect X
end

section
variable (𝒱 : Variants) (c : Dev nD) (bd : Option 𝒱.V) (i : grid0.Coords) (arg2 : Memref sig .tc .vmem S2048x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1x512x128 .f32) (harg5 : arg5.IsWhole) (arg6 : Memref sig .tc .vmem S1x8x8x256 .f32) (harg6 : arg6.IsWhole) (arg7 : Memref sig .tc .vmem S1x8x8x256 .f32) (harg7 : arg7.IsWhole) (arg8 : Memref sig .tc .vmem S1x8x8x256 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S1x2x8x256 .f32) (harg13 : arg13.IsWhole) (arg14 : Memref sig .tc .vmem S1x8x8x256 .f32) (harg14 : arg14.IsWhole) (arg1 : BitVec 32) (v4 : FVec F S512x64 .bf16) (v6 : FVec F S512x64 .bf16) (v8 : FVec F S512x64 .bf16) (v10 : FVec F S512x64 .bf16) (v12 : FVec F S512x1 .f32) (v14 : FVec F S512x1 .f32) (v15 : FVec F S512x64 .f32) (v16 : FVec F S512x64 .f32) (v17 : FVec F S512x128 .f32) (v19 : BitVec 32) (v30 : BitVec 1) (v31 : BitVec 32) (v35 : BitVec 32) (X_arg2 : BufTy.Contents (Elt F) arg2.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty)
  (k : Fin (k0_t1_loop i).trips) (acc : FVec F S512x64 .f32 × FVec F S512x64 .f32 × FVec F S512x128 .f32 × FVec F S512x64 .f32 × FVec F S512x64 .f32 × FVec F S512x128 .f32) (f10 : BufTy.Contents (Elt F) arg10.view.ty) (f14 : BufTy.Contents (Elt F) arg14.view.ty)

/-- The first head's weights at a trip. -/
def tP0 : FVec F S512x256 .f32 := k0_pay5 i arg1 v4 v12 v35 1#32 k (rd1 i k arg2 X_arg2) (rd2 i k arg6 X_arg6) (rd2 i k arg8 X_arg8)
/-- The first head's weight gradients less the row sums. -/
def tE0 : FVec F S512x256 .f32 := k0_pay6 v8 (rd1 i k arg9 X_arg9) (rd2 i k arg7 X_arg7)
/-- The second head's weights at a trip. -/
def tP1 : FVec F S512x256 .f32 := k0_pay15 arg1 v14 (Scf.iv v35 1#32 (k : ℕ)) (k0_pay14 v6 (rd3 i k arg2 X_arg2)) (Scalar.ofBits .f32 0x3E000000#32) (rd4 i k arg6 X_arg6) (rd4 i k arg8 X_arg8)
/-- The second head's score gradients at a trip. -/
def tS1 : FVec F S512x256 .f32 := k0_pay16 arg1 v10 v14 (Scf.iv v35 1#32 (k : ℕ)) (rd3 i k arg9 X_arg9) (k0_pay14 v6 (rd3 i k arg2 X_arg2)) (Scalar.ofBits .f32 0x3E000000#32) (rd4 i k arg6 X_arg6) (rd4 i k arg8 X_arg8) (rd4 i k arg7 X_arg7)

theorem tripR_eq : tripR_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 v4 v6 v8 v10 v12 v14 v15 v16 v17 v19 v30 v31 v35 X_arg2 X_arg6 X_arg7 X_arg8 X_arg9 k acc f10 f14
    = (k0_pay10 acc.1 (k0_pay4 (rd1 i k arg2 X_arg2)) (tP0 i arg2 arg6 arg8 arg1 v4 v12 v35 X_arg2 X_arg6 X_arg8 k) (tE0 i arg7 arg9 v8 X_arg7 X_arg9 k),
       k0_pay11 acc.2.1 (rd1 i k arg9 X_arg9) (tP0 i arg2 arg6 arg8 arg1 v4 v12 v35 X_arg2 X_arg6 X_arg8 k),
       k0_pay12 acc.2.2.1 (tP0 i arg2 arg6 arg8 arg1 v4 v12 v35 X_arg2 X_arg6 X_arg8 k) (tE0 i arg7 arg9 v8 X_arg7 X_arg9 k),
       k0_pay44 acc.2.2.2.1 (k0_pay13 (rd3 i k arg2 X_arg2)) (tS1 i arg2 arg6 arg7 arg8 arg9 arg1 v6 v10 v14 v35 X_arg2 X_arg6 X_arg7 X_arg8 X_arg9 k),
       k0_pay45 acc.2.2.2.2.1 (rd3 i k arg9 X_arg9) (tP1 i arg2 arg6 arg8 arg1 v6 v14 v35 X_arg2 X_arg6 X_arg8 k),
       k0_pay46 acc.2.2.2.2.2 (tS1 i arg2 arg6 arg7 arg8 arg9 arg1 v6 v10 v14 v35 X_arg2 X_arg6 X_arg7 X_arg8 X_arg9 k)) := by
  unfold tripR_k0_t1 trip_k0_t1
  rfl

theorem tripL_eq : tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 v4 v6 v8 v10 v12 v14 v15 v16 v17 v19 v30 v31 v35 X_arg2 X_arg6 X_arg7 X_arg8 X_arg9 k acc f10 f14
    = ([⟨Rect.unit (s := S2048x128) (k0_off3 i k) S256x64.size (k0_off3_inb i k),
          k0_pay17 arg1 v6 v10 v14 (Scf.iv v35 1#32 (k : ℕ)) (rd3 i k arg9 X_arg9) (k0_pay14 v6 (rd3 i k arg2 X_arg2)) (Scalar.ofBits .f32 0x3E000000#32) (rd4 i k arg6 X_arg6) (rd4 i k arg8 X_arg8) (rd4 i k arg7 X_arg7) (rd3 i k arg10 f10)⟩,
        ⟨Rect.unit (s := S2048x128) (k0_off1 i k) S256x64.size (k0_off1_inb i k),
          k0_pay8 v4 (tP0 i arg2 arg6 arg8 arg1 v4 v12 v35 X_arg2 X_arg6 X_arg8 k) (tE0 i arg7 arg9 v8 X_arg7 X_arg9 k) (rd1 i k arg10 f10)⟩],
       [⟨Rect.unit (s := S1x8x8x256) (k0_off4 i k) S1x1x1x256.size (k0_off4_inb i k),
          k0_pay43 (tS1 i arg2 arg6 arg7 arg8 arg9 arg1 v6 v10 v14 v35 X_arg2 X_arg6 X_arg7 X_arg8 X_arg9 k) (rd4 i k arg14 f14)⟩,
        ⟨Rect.unit (s := S1x8x8x256) (k0_off2 i k) S1x1x1x256.size (k0_off2_inb i k),
          k0_pay9 (tP0 i arg2 arg6 arg8 arg1 v4 v12 v35 X_arg2 X_arg6 X_arg8 k) (tE0 i arg7 arg9 v8 X_arg7 X_arg9 k) (rd2 i k arg14 f14)⟩]) := by
  unfold tripL_k0_t1 trip_k0_t1
  rfl
end

end Cert.KernelIdeal.Hand
-- ==== Proof.Loop.lean ====
/- The loop over query blocks: what it carries and what the two accumulated blocks hold after any number of trips. -/
module

public import proofs.«01_k».proof.Proof.Trip

@[expose] public section

set_option maxRecDepth 16384

noncomputable section

namespace Cert.KernelIdeal.Hand

open Cert.KernelIdeal Cert.KernelIdeal.Gen Idealize.ShloMosaic Idealize.ShloMosaic.TcCoe Idealize.SL.Sem
  Idealize.ShloMosaic.Tactic

/-- The real numbers behind the arguments: queries, keys, values and output gradients by row and column; the cumulated
    gates, the rows' log-sums and the rows' gradient sums by head and row. -/
structure Nums where
  Q : ℕ → ℕ → ℝ
  K : ℕ → ℕ → ℝ
  V : ℕ → ℕ → ℝ
  O : ℕ → ℕ → ℝ
  C : ℕ → ℕ → ℝ
  L : ℕ → ℕ → ℝ
  D : ℕ → ℕ → ℝ

/-- The weight of key `s` for query `t` under head `h`. -/
def Nums.P (N : Nums) (h t s : ℕ) : ℝ :=
  if s ≤ t then Real.exp ((∑ d : Fin 64, N.K s (64 * h + d) * N.Q t (64 * h + d)) * (1 / 8) + N.C h t - N.C h s - N.L h t)
  else 0
/-- The gradient of the score of key `s` for query `t` under head `h`. -/
def Nums.G (N : Nums) (h t s : ℕ) : ℝ :=
  N.P h t s * ((∑ d : Fin 64, N.V s (64 * h + d) * N.O t (64 * h + d)) - N.D h t)

/-- What the key tile `kj` adds to the gradient of query row `r`, at column `c` of head pair `hp`. -/
def Nums.qC (N : Nums) (hp kj r c : ℕ) : ℝ :=
  (∑ a : Fin 512, N.G (2 * hp + c / 64) r (512 * kj + a) * N.K (512 * kj + a) (128 * hp + c)) * (1 / 8)
/-- What the key tile `kj` adds to the gate gradient of query row `r` under head `h`. -/
def Nums.rC (N : Nums) (h kj r : ℕ) : ℝ := ∑ a : Fin 512, N.G h r (512 * kj + a)
/-- The gradient of key `a` of the tile after `n` query blocks. -/
def Nums.kC (N : Nums) (h kj n a d : ℕ) : ℝ :=
  ∑ x ∈ Finset.range n, (∑ b : Fin 256, N.G h (512 * kj + 256 * x + b) (512 * kj + a) * N.Q (512 * kj + 256 * x + b) (64 * h + d)) * (1 / 8)
/-- The gradient of value `a` of the tile after `n` query blocks. -/
def Nums.vC (N : Nums) (h kj n a d : ℕ) : ℝ :=
  ∑ x ∈ Finset.range n, ∑ b : Fin 256, N.P h (512 * kj + 256 * x + b) (512 * kj + a) * N.O (512 * kj + 256 * x + b) (64 * h + d)
/-- The folded sum of the score gradients of key `a` of the tile after `n` query blocks. -/
def Nums.fC (N : Nums) (h kj n a c : ℕ) : ℝ :=
  ∑ x ∈ Finset.range n, (N.G h (512 * kj + 256 * x + c) (512 * kj + a) + N.G h (512 * kj + 256 * x + (128 + c)) (512 * kj + a))

theorem trip_lt : ∀ (i : grid0.Coords) (k : Fin (k0_t1_loop i).trips), 2 * (i 1).val + k.val < 8 := by decide +kernel

section
variable (i : grid0.Coords) (k : Fin (k0_t1_loop i).trips)

theorem rd1_apply (m : Memref sig .tc .vmem S2048x128 .f32) (X : BufTy.Contents (Elt Ideal) m.view.ty) (b : Fin 256) (d : Fin 64)
    (h : 512 * (i 1).val + 256 * k.val + b.val < 2048) (h' : d.val < 128) :
    rd1 (F := Ideal) i k m X (ix2 b d) = m.view.read (Elt Ideal) X (ix2 ⟨512 * (i 1).val + 256 * k.val + b.val, h⟩ ⟨d.val, h'⟩) := by
  unfold rd1
  rw [View.readAt_apply]
  congr 1
  funext a
  refine Fin.ext ?_
  match a with
  | ⟨0, _⟩ => show k0_off1 i k 0 + 1 * b.val = _; rw [k0_off1_eq]; show 512 * (i 1).val + 256 * k.val + 1 * b.val = 512 * (i 1).val + 256 * k.val + b.val; omega
  | ⟨1, _⟩ => show k0_off1 i k 1 + 1 * d.val = _; rw [k0_off1_eq]; show 0 + 1 * d.val = d.val; omega

theorem rd3_apply (m : Memref sig .tc .vmem S2048x128 .f32) (X : BufTy.Contents (Elt Ideal) m.view.ty) (b : Fin 256) (d : Fin 64)
    (h : 512 * (i 1).val + 256 * k.val + b.val < 2048) (h' : 64 + d.val < 128) :
    rd3 (F := Ideal) i k m X (ix2 b d) = m.view.read (Elt Ideal) X (ix2 ⟨512 * (i 1).val + 256 * k.val + b.val, h⟩ ⟨64 + d.val, h'⟩) := by
  unfold rd3
  rw [View.readAt_apply]
  congr 1
  funext a
  refine Fin.ext ?_
  match a with
  | ⟨0, _⟩ => show k0_off3 i k 0 + 1 * b.val = _; rw [k0_off3_eq]; show 512 * (i 1).val + 256 * k.val + 1 * b.val = 512 * (i 1).val + 256 * k.val + b.val; omega
  | ⟨1, _⟩ => show k0_off3 i k 1 + 1 * d.val = _; rw [k0_off3_eq]; show 64 + 1 * d.val = 64 + d.val; omega

theorem rd2_apply (m : Memref sig .tc .vmem S1x8x8x256 .f32) (X : BufTy.Contents (Elt Ideal) m.view.ty) (b : Fin 256)
    (h : 2 * (i 1).val + k.val < 8) :
    rd2 (F := Ideal) i k m X (ix4 0 0 0 b) = m.view.read (Elt Ideal) X (ix4 0 ⟨2 * (i 1).val + k.val, h⟩ 0 b) := by
  unfold rd2
  rw [View.readAt_apply]
  congr 1
  funext a
  refine Fin.ext ?_
  match a with
  | ⟨0, _⟩ => show k0_off2 i k 0 + 1 * 0 = _; rw [k0_off2_eq]; rfl
  | ⟨1, _⟩ => show k0_off2 i k 1 + 1 * 0 = _; rw [k0_off2_eq]; show 2 * (i 1).val + k.val + 0 = _; rfl
  | ⟨2, _⟩ => show k0_off2 i k 2 + 1 * 0 = _; rw [k0_off2_eq]; rfl
  | ⟨3, _⟩ => show k0_off2 i k 3 + 1 * b.val = _; rw [k0_off2_eq]; show 0 + 1 * b.val = b.val; omega

theorem rd4_apply (m : Memref sig .tc .vmem S1x8x8x256 .f32) (X : BufTy.Contents (Elt Ideal) m.view.ty) (b : Fin 256)
    (h : 2 * (i 1).val + k.val < 8) :
    rd4 (F := Ideal) i k m X (ix4 0 0 0 b) = m.view.read (Elt Ideal) X (ix4 0 ⟨2 * (i 1).val + k.val, h⟩ 1 b) := by
  unfold rd4
  rw [View.readAt_apply]
  congr 1
  funext a
  refine Fin.ext ?_
  match a with
  | ⟨0, _⟩ => show k0_off4 i k 0 + 1 * 0 = _; rw [k0_off4_eq]; rfl
  | ⟨1, _⟩ => show k0_off4 i k 1 + 1 * 0 = _; rw [k0_off4_eq]; show 2 * (i 1).val + k.val + 0 = _; rfl
  | ⟨2, _⟩ => show k0_off4 i k 2 + 1 * 0 = _; rw [k0_off4_eq]; rfl
  | ⟨3, _⟩ => show k0_off4 i k 3 + 1 * b.val = _; rw [k0_off4_eq]; show 0 + 1 * b.val = b.val; omega
end

end Cert.KernelIdeal.Hand
-- ==== Proof.Score.lean ====
/- The scores of the attention and their exponentials, as the host lines compute them: real numbers on and below the
   diagonal, −∞ above it, and a real number as each row's greatest score. -/
module

public import proofs.«01_k».proof.Proof.Loop
public import proofs.«01_k».proof.Proof.Gen.ReferenceIdeal.Read

@[expose] public section

set_option maxRecDepth 16384

noncomputable section

namespace Cert.KernelIdeal.Hand

open Cert.KernelIdeal Cert.KernelIdeal.Gen Idealize.ShloMosaic Idealize.ShloMosaic.TcCoe Idealize.SL.Sem
  Idealize.ShloMosaic.Tactic
open Cert.ReferenceIdeal.Read

/-- The score of key `s` for query `t` under head `h`. -/
def Nums.S (N : Nums) (h t s : ℕ) : ℝ :=
  (∑ d : Fin 64, N.K s (64 * h + d) * N.Q t (64 * h + d)) * (1 / 8) + N.C h t - N.C h s
/-- The sum of the exponentials of a query's scores. -/
def Nums.Z (N : Nums) (h t : ℕ) : ℝ := ∑ s : Fin 2048, if s.val ≤ t then Real.exp (N.S h t s) else 0
/-- The attention weights. -/
def Nums.W (N : Nums) (h t s : ℕ) : ℝ := if s ≤ t then Real.exp (N.S h t s) / N.Z h t else 0
/-- The gradient of the attention weight of key `s` for query `t`. -/
def Nums.J (N : Nums) (h t s : ℕ) : ℝ := ∑ d : Fin 64, N.O t (64 * h + d) * N.V s (64 * h + d)

theorem Nums.Z_pos (N : Nums) (h t : ℕ) : 0 < N.Z h t := by
  unfold Nums.Z
  refine Finset.sum_pos' (fun s _ => ?_) ⟨0, Finset.mem_univ _, ?_⟩
  · split_ifs
    · exact (Real.exp_pos _).le
    · exact le_refl _
  · have h0 : ((0 : Fin 2048).val ≤ t) := Nat.zero_le _
    rw [if_pos h0]
    exact Real.exp_pos _

/-- The saved rows are the attention's: the logarithm of the sum of the exponentials, and the row sums of the output
    times its gradient. -/
structure Nums.Saved (N : Nums) : Prop where
  L : ∀ h t, N.L h t = Real.log (N.Z h t)
  D : ∀ h t, N.D h t = ∑ d : Fin 64, (∑ s : Fin 2048, N.W h t s * N.V s (64 * h + d)) * N.O t (64 * h + d)

theorem Nums.P_eq {N : Nums} (hs : N.Saved) (h t s : ℕ) : N.P h t s = N.W h t s := by
  unfold Nums.P Nums.W
  split_ifs
  · rw [hs.L, Real.exp_sub, Real.exp_log (N.Z_pos h t)]; rfl
  · rfl
theorem Nums.D_eq {N : Nums} (hs : N.Saved) (h t : ℕ) : N.D h t = ∑ s : Fin 2048, N.W h t s * N.J h t s := by
  rw [hs.D]
  simp only [Nums.J, Finset.sum_mul, Finset.mul_sum]
  rw [Finset.sum_comm]
  exact Finset.sum_congr rfl fun s _ => Finset.sum_congr rfl fun d _ => by ring
theorem Nums.G_eq {N : Nums} (hs : N.Saved) (h t s : ℕ) :
    N.G h t s = N.W h t s * (N.J h t s - ∑ s' : Fin 2048, N.W h t s' * N.J h t s') := by
  unfold Nums.G
  rw [N.P_eq hs, N.D_eq hs]
  simp only [Nums.J, mul_comm]

/-- The five arguments hold these real numbers. -/
structure Args (N : Nums) (x0 x1 x2 : FVec Ideal S2048x768 .f32) (x3 : FVec Ideal S2048x128 .f32) (x4 : FVec Ideal S2048x768 .f32) :
    Prop where
  q : ∀ (r : Fin 2048) (x : Fin 768), x0 (ix2 r x) = ((N.Q r x : ℝ) : EReal)
  k : ∀ (r : Fin 2048) (x : Fin 768), x1 (ix2 r x) = ((N.K r x : ℝ) : EReal)
  v : ∀ (r : Fin 2048) (x : Fin 768), x2 (ix2 r x) = ((N.V r x : ℝ) : EReal)
  c : ∀ (r : Fin 2048) (h : Fin 128), x3 (ix2 r h) = ((N.C h r : ℝ) : EReal)
  o : ∀ (r : Fin 2048) (x : Fin 768), x4 (ix2 r x) = ((N.O r x : ℝ) : EReal)

theorem neg_inf : Ideal.ofBits .f32 0xFF800000#32 = (⊥ : EReal) := by simp [Ideal.ofBits, Ideal.ieee]
theorem zero_word : Ideal.ofBits .f32 0x00000000#32 = (0 : EReal) := by simp [Ideal.ofBits, Ideal.ieee]
theorem one_word : Ideal.ofBits .f32 0x3F800000#32 = ((1 : ℝ) : EReal) := by
  simp [Ideal.ofBits, Ideal.ieee, -EReal.coe_mul, -EReal.coe_one]; norm_num

section
variable {N : Nums} {x0 x1 x2 x4 : FVec Ideal S2048x768 .f32} {x3 : FVec Ideal S2048x128 .f32}

theorem score_dot (A : Args N x0 x1 x2 x3 x4) (h : Fin 12) (t s : Fin 2048) :
    val_main_v4 (F := Ideal) x0 x1 (ix3 h t s)
      = ((∑ d : Fin 64, N.K s (64 * h + d) * N.Q t (64 * h + d) : ℝ) : EReal) := by
  pointwise [val_main_v4, val_main_v1, val_main_v2]
  simp only [A.q, A.k, ← EReal.coe_mul, coe_sum', Nat.mul_comm h.val 64, mul_comm (N.Q _ _)]
theorem gate_t (A : Args N x0 x1 x2 x3 x4) (h : Fin 12) (t s : Fin 2048) :
    val_main_v9 (F := Ideal) x3 (ix3 h t s) = ((N.C h t : ℝ) : EReal) := by
  pointwise [val_main_v9, val_main_v8, val_main_v7, val_main_v0]
  simp only [A.c]
theorem gate_s (A : Args N x0 x1 x2 x3 x4) (h : Fin 12) (t s : Fin 2048) :
    val_main_v13 (F := Ideal) x3 (ix3 h t s) = ((N.C h s : ℝ) : EReal) := by
  pointwise [val_main_v13, val_main_v12, val_main_v11, val_main_v0]
  simp only [A.c]
theorem score (A : Args N x0 x1 x2 x3 x4) (h : Fin 12) (t s : Fin 2048) :
    val_main_v14 (F := Ideal) x0 x1 x3 (ix3 h t s) = ((N.S h t s : ℝ) : EReal) := by
  pointwise [val_main_v14, val_main_v10, val_main_v6, val_main_v5, val_main_cst]
  simp only [score_dot A, gate_t A, gate_s A, eighth, ← EReal.coe_mul, ← EReal.coe_add, ← EReal.coe_sub]
  rfl
theorem mask (h : Fin 12) (t s : Fin 2048) :
    val_main_v21_1 (F := Ideal) (ix3 h t s) = if s.val ≤ t.val then 1#1 else 0#1 := by
  pointwise [val_main_v21_1, val_main_v20, val_main_v18, val_main_v19, val_main_v16, val_main_v17, val_main_v15]
  exact sle_nat (by omega) (by omega)
theorem masked (A : Args N x0 x1 x2 x3 x4) (h : Fin 12) (t s : Fin 2048) :
    val_main_v21_0 (F := Ideal) x0 x1 x3 (ix3 h t s) = if s.val ≤ t.val then ((N.S h t s : ℝ) : EReal) else ⊥ := by
  pointwise [val_main_v21_0, val_main_call0_v2]
  simp only [mask, score A]
  split_ifs
  · rfl
  · pointwise [val_main_call0_cst]
    exact neg_inf

/-- The greatest of finitely many numbers below ∞, not all −∞, is a real number. -/
theorem greatest {n : ℕ} (f : Fin n → EReal) (k : Fin n) (hk : f k ≠ ⊥) (hf : ∀ i, f i ≠ ⊤) :
    ∃ M : ℝ, (Finset.univ : Finset (Fin n)).fold max ⊥ f = (M : EReal) := by
  have e : (Finset.univ : Finset (Fin n)).fold max ⊥ f = Finset.univ.sup f := rfl
  rw [e]
  refine ⟨(Finset.univ.sup f).toReal, (EReal.coe_toReal ?_ ?_).symm⟩
  · exact ((Finset.sup_lt_iff bot_lt_top).mpr fun i _ => lt_top_iff_ne_top.mpr (hf i)).ne
  · exact fun h0 => hk (le_bot_iff.mp (h0 ▸ Finset.le_sup (f := f) (Finset.mem_univ k)))

/-- The greatest entry along the last axis. -/
theorem reduce_last (x : FVec Ideal S12x2048x2048 .f32) (b : FVec Ideal S_ .f32) (hb : b (Shape.Idx.first Cert.ReferenceIdeal.Gen.h_S_) = (⊥ : EReal))
    (h : Fin 12) (t : Fin 2048) :
    Host.reduce (FloatOps.maximumf (F := Ideal) (φ := .f32)) x b Cert.ReferenceIdeal.Gen.reducesTo_S12x2048x2048_S12x2048_d2
        Cert.ReferenceIdeal.Gen.h_S_ (ix2 h t)
      = (Finset.univ : Finset (Fin 2048)).fold max (⊥ : EReal) fun s => (x (ix3 h t s) : EReal) := by
  have hr : S12x2048x2048.Reduces [2] S12x2048 := by decide
  have hl : ∀ s : Fin 2048, hr.lift (ix2 h t) s = ix3 h t s := fun s => by
    funext a; match a with
    | ⟨0, _⟩ => rfl
    | ⟨1, _⟩ => rfl
    | ⟨2, _⟩ => rfl
  have e := Host.reduce_eq_fold_single (max : EReal → EReal → EReal) x b
    Cert.ReferenceIdeal.Gen.reducesTo_S12x2048x2048_S12x2048_d2 hr Cert.ReferenceIdeal.Gen.h_S_ (ix2 h t)
  rw [hb] at e
  refine e.trans ?_
  exact congrArg (fun f => (Finset.univ : Finset (Fin 2048)).fold max (⊥ : EReal) f) (funext fun s => congrArg x (hl s))

/-- The greatest score of query `t` under head `h`. -/
def top (x0 x1 : FVec Ideal S2048x768 .f32) (x3 : FVec Ideal S2048x128 .f32) (h : Fin 12) (t : Fin 2048) : ℝ :=
  EReal.toReal (val_main_v22 (F := Ideal) x0 x1 x3 (ix2 h t))
theorem top_real (A : Args N x0 x1 x2 x3 x4) (h : Fin 12) (t : Fin 2048) :
    ∃ M : ℝ, val_main_v22 (F := Ideal) x0 x1 x3 (ix2 h t) = (M : EReal) := by
  unfold val_main_v22
  rw [reduce_last _ _ neg_inf]
  refine greatest _ 0 ?_ fun s => ?_
  · have h0 : (0 : Fin 2048).val ≤ t.val := Nat.zero_le _
    rw [masked A, if_pos h0]
    exact EReal.coe_ne_bot _
  · rw [masked A]
    split_ifs
    · exact EReal.coe_ne_top _
    · exact bot_ne_top
theorem top_eq (A : Args N x0 x1 x2 x3 x4) (h : Fin 12) (t : Fin 2048) :
    val_main_v22 (F := Ideal) x0 x1 x3 (ix2 h t) = ((top x0 x1 x3 h t : ℝ) : EReal) := by
  obtain ⟨M, hM⟩ := top_real A h t
  unfold top
  rw [hM, EReal.toReal_coe]

/-- A masked score less a real number, under the exponential. -/
theorem exp_masked (N : Nums) (h t s : ℕ) (M : ℝ) :
    Ideal.exp ((if s ≤ t then ((N.S h t s : ℝ) : EReal) else ⊥) - (M : EReal))
      = ((if s ≤ t then Real.exp (N.S h t s - M) else 0 : ℝ) : EReal) := by
  split_ifs
  · rw [← EReal.coe_sub]; rfl
  · rw [sub_eq_add_neg, EReal.bot_add]; rfl
/-- The sum of the shifted exponentials. -/
theorem sum_shift (N : Nums) (h t : ℕ) (M : ℝ) :
    (∑ s : Fin 2048, if s.val ≤ t then Real.exp (N.S h t s - M) else 0) = N.Z h t / Real.exp M := by
  unfold Nums.Z
  rw [Finset.sum_div]
  exact Finset.sum_congr rfl fun s _ => by split_ifs <;> simp [Real.exp_sub]
/-- Division of real numbers by one that is not zero. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]
theorem weight (N : Nums) (h t s : ℕ) (M : ℝ) :
    (if s ≤ t then Real.exp (N.S h t s - M) else 0) / (N.Z h t / Real.exp M) = N.W h t s := by
  unfold Nums.W
  have := (N.Z_pos h t).ne'
  have := (Real.exp_pos M).ne'
  split_ifs
  · rw [Real.exp_sub]; field_simp
  · simp
end

end Cert.KernelIdeal.Hand
-- ==== Proof.Fin.lean ====
/- The precondition: every entry of the five arguments is a real number. From it the real numbers the arguments hold,
   with the saved rows computed from them. -/
module

public import proofs.«01_k».proof.Proof.Score
public import proofs.«01_k».proof.Pre_finite
public import Idealize.ShloMosaic.Lib.ReduceAll

@[expose] public section

set_option maxRecDepth 16384

noncomputable section

namespace Cert.KernelIdeal.Hand

open Cert.KernelIdeal Idealize.ShloMosaic Idealize.ShloMosaic.TcCoe Idealize.SL.Sem

instance finFacts : Cert.Pre_finite.Facts where
  bcast_S_S2048x768 := by decide
  reducesTo_S2048x768_S_d0_1 := by decide
  h_S_ := by decide
  bcast_S_S2048x128 := by decide
  reducesTo_S2048x128_S_d0_1 := by decide

theorem pos_inf : Ideal.ofBits .f32 0x7F800000#32 = (⊤ : EReal) := by simp [Ideal.ofBits, Ideal.ieee]

/-- A number whose absolute value is below +∞ is a real number. -/
theorem real_of_abs (x : EReal) (h : max x (-x) < ⊤) : x = ((x.toReal : ℝ) : EReal) := by
  refine (EReal.coe_toReal ?_ ?_).symm
  · rintro rfl; simp at h
  · rintro rfl; simp at h

instance : Subsingleton Cert.Pre_finite.S_.Idx := ⟨fun a b => funext fun i => i.elim0⟩

/-- The test of one array: every entry's absolute value is below +∞. -/
abbrev all {s : Shape} (x : FVec Ideal s .f32) (hb : Cert.Pre_finite.S_.BroadcastsInDim s (![] : Fin 0 → Fin s.rank))
    {axes : List (Fin s.rank)} (hr : s.ReducesTo axes Cert.Pre_finite.S_) (h0 : 0 < Cert.Pre_finite.S_.numel) : IVec Cert.Pre_finite.S_ 1 :=
  Host.reduce IntOp.andi (cmpf .olt (Host.absf x) (broadcastInDim s ![] hb (constant Cert.Pre_finite.S_ .f32 0x7F800000#32)))
    (constantI Cert.Pre_finite.S_ 1 1#1) hr h0

/-- The test of one array, read at an entry. -/
theorem real_of_all {s : Shape} (x : FVec Ideal s .f32) (hb : Cert.Pre_finite.S_.BroadcastsInDim s (![] : Fin 0 → Fin s.rank))
    {axes : List (Fin s.rank)} (hr : s.ReducesTo axes Cert.Pre_finite.S_) (h0 : 0 < Cert.Pre_finite.S_.numel) (j : Cert.Pre_finite.S_.Idx)
    (e : all x hb hr h0 j = 1#1) (i : s.Idx) : x i = (((x i).toReal : ℝ) : EReal) := by
  have h := Host.reduce_andi_all _ _ hr h0 j e i
  have h' : BitVec.ofBool (decide (max (x i) (-(x i)) < Ideal.ofBits .f32 0x7F800000#32)) = 1#1 := h
  rw [pos_inf] at h'
  refine real_of_abs _ ?_
  by_contra hc
  rw [decide_eq_false hc] at h'
  exact absurd h' (by decide)

section
variable (x0 x1 x2 : FVec Ideal S2048x768 .f32) (x3 : FVec Ideal S2048x128 .f32) (x4 : FVec Ideal S2048x768 .f32)

/-- The five tests taken apart. -/
theorem parts (j : Cert.Pre_finite.S_.Idx) (hb : Cert.Pre_finite.S_.BroadcastsInDim S2048x768 (![] : Fin 0 → Fin S2048x768.rank))
    (hb' : Cert.Pre_finite.S_.BroadcastsInDim S2048x128 (![] : Fin 0 → Fin S2048x128.rank))
    (hr : S2048x768.ReducesTo [0, 1] Cert.Pre_finite.S_) (hr' : S2048x128.ReducesTo [0, 1] Cert.Pre_finite.S_)
    (h0 : 0 < Cert.Pre_finite.S_.numel)
    (e : andi (andi (andi (andi (all x0 hb hr h0) (all x1 hb hr h0)) (all x2 hb hr h0)) (all x3 hb' hr' h0)) (all x4 hb hr h0) j
      = 1#1) :
    (∀ i, x0 i = (((x0 i).toReal : ℝ) : EReal)) ∧ (∀ i, x1 i = (((x1 i).toReal : ℝ) : EReal))
    ∧ (∀ i, x2 i = (((x2 i).toReal : ℝ) : EReal)) ∧ (∀ i, x3 i = (((x3 i).toReal : ℝ) : EReal))
    ∧ (∀ i, x4 i = (((x4 i).toReal : ℝ) : EReal)) := by
  have e : IntOp.andi (IntOp.andi (IntOp.andi (IntOp.andi (all x0 hb hr h0 j) (all x1 hb hr h0 j)) (all x2 hb hr h0 j))
    (all x3 hb' hr' h0 j)) (all x4 hb hr h0 j) = 1#1 := e
  simp only [IntOp.andi_eq_one] at e
  exact ⟨real_of_all x0 _ _ _ j e.1.1.1.1, real_of_all x1 _ _ _ j e.1.1.1.2, real_of_all x2 _ _ _ j e.1.1.2,
    real_of_all x3 _ _ _ j e.1.2, real_of_all x4 _ _ _ j e.2⟩

/-- The precondition at the entries. -/
theorem finite_entries (h : Cert.Pre_finite.fn (F := Ideal) x0 x1 x2 x3 x4 = fun _ => 1#1) :
    (∀ i, x0 i = (((x0 i).toReal : ℝ) : EReal)) ∧ (∀ i, x1 i = (((x1 i).toReal : ℝ) : EReal))
    ∧ (∀ i, x2 i = (((x2 i).toReal : ℝ) : EReal)) ∧ (∀ i, x3 i = (((x3 i).toReal : ℝ) : EReal))
    ∧ (∀ i, x4 i = (((x4 i).toReal : ℝ) : EReal)) := by
  have j : Cert.Pre_finite.S_.Idx := fun i => i.elim0
  have e := congrFun h j
  exact parts x0 x1 x2 x3 x4 j _ _ _ _ _ e

/-- The real number at a row and a column of a wide array, zero outside it. -/
def wide (x : FVec Ideal S2048x768 .f32) (r c : ℕ) : ℝ :=
  if h : r < 2048 ∧ c < 768 then EReal.toReal (x (ix2 (⟨r, h.1⟩ : Fin 2048) (⟨c, h.2⟩ : Fin 768))) else 0
/-- The same of the array of cumulated gates. -/
def gates (x : FVec Ideal S2048x128 .f32) (h r : ℕ) : ℝ :=
  if hh : r < 2048 ∧ h < 128 then EReal.toReal (x (ix2 (⟨r, hh.1⟩ : Fin 2048) (⟨h, hh.2⟩ : Fin 128))) else 0

/-- The arguments' numbers, without the saved rows. -/
def plain : Nums := ⟨wide x0, wide x1, wide x2, wide x4, gates x3, fun _ _ => 0, fun _ _ => 0⟩
/-- The arguments' numbers with the saved rows the attention has at them. -/
def nums : Nums :=
  let N := plain x0 x1 x2 x3 x4
  ⟨N.Q, N.K, N.V, N.O, N.C, fun h t => Real.log (N.Z h t),
    fun h t => ∑ d : Fin 64, (∑ s : Fin 2048, N.W h t s * N.V s (64 * h + d)) * N.O t (64 * h + d)⟩

theorem nums_saved : (nums x0 x1 x2 x3 x4).Saved := ⟨fun _ _ => rfl, fun _ _ => rfl⟩

theorem wide_eq (x : FVec Ideal S2048x768 .f32) (hx : ∀ i, x i = (((x i).toReal : ℝ) : EReal)) (r : Fin 2048) (c : Fin 768) :
    x (ix2 r c) = ((wide x r c : ℝ) : EReal) := by
  unfold wide; rw [dif_pos ⟨r.isLt, c.isLt⟩]; exact hx _
theorem gates_eq (x : FVec Ideal S2048x128 .f32) (hx : ∀ i, x i = (((x i).toReal : ℝ) : EReal)) (r : Fin 2048) (h : Fin 128) :
    x (ix2 r h) = ((gates x h r : ℝ) : EReal) := by
  unfold gates; rw [dif_pos ⟨r.isLt, h.isLt⟩]; exact hx _

theorem nums_args (h : Cert.Pre_finite.fn (F := Ideal) x0 x1 x2 x3 x4 = fun _ => 1#1) :
    Args (nums x0 x1 x2 x3 x4) x0 x1 x2 x3 x4 := by
  obtain ⟨h0, h1, h2, h3, h4⟩ := finite_entries x0 x1 x2 x3 x4 h
  exact ⟨wide_eq x0 h0, wide_eq x1 h1, wide_eq x2 h2, gates_eq x3 h3, wide_eq x4 h4⟩

theorem exists_nums (h : Cert.Pre_finite.fn (F := Ideal) x0 x1 x2 x3 x4 = fun _ => 1#1) :
    ∃ N : Nums, N.Saved ∧ Args N x0 x1 x2 x3 x4 := ⟨_, nums_saved x0 x1 x2 x3 x4, nums_args x0 x1 x2 x3 x4 h⟩

end

end Cert.KernelIdeal.Hand

end
-- ==== Proof.Inv.lean ====
/- The loop over query blocks, by induction on the trips: with operands that hold real numbers, the carried values and
   the two accumulated blocks are the partial sums of the formulas. -/
module

public import proofs.«01_k».proof.Proof.Loop
public import Idealize.ShloMosaic.Lib.WritesUnit

@[expose] public section

set_option maxRecDepth 16384

noncomputable section

namespace Cert.KernelIdeal.Hand

open Cert.KernelIdeal Cert.KernelIdeal.Gen Idealize.ShloMosaic Idealize.ShloMosaic.TcCoe Idealize.SL.Sem
  Idealize.ShloMosaic.Tactic

/-- What the operands of the loop hold at head pair `hp` and the grid point `i`. -/
structure Held (N : Nums) (hp : ℕ) (i : grid0.Coords) (arg2 : Memref sig .tc .vmem S2048x128 .f32) (arg6 : Memref sig .tc .vmem S1x8x8x256 .f32) (arg7 : Memref sig .tc .vmem S1x8x8x256 .f32) (arg8 : Memref sig .tc .vmem S1x8x8x256 .f32) (arg9 : Memref sig .tc .vmem S2048x128 .f32) (arg1 : BitVec 32)
    (v4 v6 v8 v10 : FVec Ideal S512x64 .bf16) (v12 v14 : FVec Ideal S512x1 .f32) (v35 : BitVec 32)
    (X_arg2 : BufTy.Contents (Elt Ideal) arg2.view.ty) (X_arg6 : BufTy.Contents (Elt Ideal) arg6.view.ty)
    (X_arg7 : BufTy.Contents (Elt Ideal) arg7.view.ty) (X_arg8 : BufTy.Contents (Elt Ideal) arg8.view.ty)
    (X_arg9 : BufTy.Contents (Elt Ideal) arg9.view.ty) : Prop where
  h1 : arg1 = BitVec.ofNat 32 (i 1).val
  hkj : (i 1).val < 4
  h35 : ∀ k : Fin (k0_t1_loop i).trips, Scf.iv v35 1#32 (k : ℕ) = BitVec.ofNat 32 (2 * (i 1).val + k.val)
  h4 : ∀ a d, v4 (ix2 a d) = ((N.K (512 * (i 1).val + a) (64 * (2 * hp) + d) : ℝ) : EReal)
  h6 : ∀ a d, v6 (ix2 a d) = ((N.K (512 * (i 1).val + a) (64 * (2 * hp + 1) + d) : ℝ) : EReal)
  h8 : ∀ a d, v8 (ix2 a d) = ((N.V (512 * (i 1).val + a) (64 * (2 * hp) + d) : ℝ) : EReal)
  h10 : ∀ a d, v10 (ix2 a d) = ((N.V (512 * (i 1).val + a) (64 * (2 * hp + 1) + d) : ℝ) : EReal)
  h12 : ∀ a, v12 (ix2 a 0) = ((N.C (2 * hp) (512 * (i 1).val + a) : ℝ) : EReal)
  h14 : ∀ a, v14 (ix2 a 0) = ((N.C (2 * hp + 1) (512 * (i 1).val + a) : ℝ) : EReal)
  x2 : ∀ r c, arg2.view.read (Elt Ideal) X_arg2 (ix2 r c) = ((N.Q r (128 * hp + c) : ℝ) : EReal)
  x9 : ∀ r c, arg9.view.read (Elt Ideal) X_arg9 (ix2 r c) = ((N.O r (128 * hp + c) : ℝ) : EReal)
  x6 : ∀ (j e : Fin 8) (b : Fin 256), e.val < 2 → arg6.view.read (Elt Ideal) X_arg6 (ix4 0 j e b) = ((N.C (2 * hp + e) (256 * j + b) : ℝ) : EReal)
  x7 : ∀ (j e : Fin 8) (b : Fin 256), e.val < 2 → arg7.view.read (Elt Ideal) X_arg7 (ix4 0 j e b) = ((N.D (2 * hp + e) (256 * j + b) : ℝ) : EReal)
  x8 : ∀ (j e : Fin 8) (b : Fin 256), e.val < 2 → arg8.view.read (Elt Ideal) X_arg8 (ix4 0 j e b) = ((N.L (2 * hp + e) (256 * j + b) : ℝ) : EReal)

section
variable {N : Nums} {hp : ℕ} {𝒱 : Variants} {c : Dev nD} {bd : Option 𝒱.V} {i : grid0.Coords} {arg2 : Memref sig .tc .vmem S2048x128 .f32} {harg2 : arg2.IsWhole} {arg3 : Memref sig .tc .vmem S512x128 .f32} {harg3 : arg3.IsWhole} {arg4 : Memref sig .tc .vmem S512x128 .f32} {harg4 : arg4.IsWhole} {arg5 : Memref sig .tc .vmem S1x512x128 .f32} {harg5 : arg5.IsWhole} {arg6 : Memref sig .tc .vmem S1x8x8x256 .f32} {harg6 : arg6.IsWhole} {arg7 : Memref sig .tc .vmem S1x8x8x256 .f32} {harg7 : arg7.IsWhole} {arg8 : Memref sig .tc .vmem S1x8x8x256 .f32} {harg8 : arg8.IsWhole} {arg9 : Memref sig .tc .vmem S2048x128 .f32} {harg9 : arg9.IsWhole} {arg10 : Memref sig .tc .vmem S2048x128 .f32} {harg10 : arg10.IsWhole} {arg11 : Memref sig .tc .vmem S512x128 .f32} {harg11 : arg11.IsWhole} {arg12 : Memref sig .tc .vmem S512x128 .f32} {harg12 : arg12.IsWhole} {arg13 : Memref sig .tc .vmem S1x2x8x256 .f32} {harg13 : arg13.IsWhole} {arg14 : Memref sig .tc .vmem S1x8x8x256 .f32} {harg14 : arg14.IsWhole} {arg1 : BitVec 32} {v4 : FVec Ideal S512x64 .bf16} {v6 : FVec Ideal S512x64 .bf16} {v8 : FVec Ideal S512x64 .bf16} {v10 : FVec Ideal S512x64 .bf16} {v12 : FVec Ideal S512x1 .f32} {v14 : FVec Ideal S512x1 .f32} {v15 : FVec Ideal S512x64 .f32} {v16 : FVec Ideal S512x64 .f32} {v17 : FVec Ideal S512x128 .f32} {v19 : BitVec 32} {v30 : BitVec 1} {v31 : BitVec 32} {v35 : BitVec 32} {X_arg2 : BufTy.Contents (Elt Ideal) arg2.view.ty} {X_arg6 : BufTy.Contents (Elt Ideal) arg6.view.ty} {X_arg7 : BufTy.Contents (Elt Ideal) arg7.view.ty} {X_arg8 : BufTy.Contents (Elt Ideal) arg8.view.ty} {X_arg9 : BufTy.Contents (Elt Ideal) arg9.view.ty}
  (k : Fin (k0_t1_loop i).trips) (H : Held N hp i arg2 arg6 arg7 arg8 arg9 arg1 v4 v6 v8 v10 v12 v14 v35 X_arg2 X_arg6 X_arg7 X_arg8 X_arg9)
include H

theorem ld2_0 (b : Fin 256) (d : Fin 64) : rd1 (F := Ideal) i k arg2 X_arg2 (ix2 b d)
    = ((N.Q (512 * (i 1).val + 256 * k.val + b) (64 * (2 * hp) + d) : ℝ) : EReal) := by
  have := trip_lt i k
  rw [rd1_apply i k arg2 X_arg2 b d (by omega) (by omega), H.x2]
  congr 2; show 128 * hp + d.val = _; omega
theorem ld2_1 (b : Fin 256) (d : Fin 64) : rd3 (F := Ideal) i k arg2 X_arg2 (ix2 b d)
    = ((N.Q (512 * (i 1).val + 256 * k.val + b) (64 * (2 * hp + 1) + d) : ℝ) : EReal) := by
  have := trip_lt i k
  rw [rd3_apply i k arg2 X_arg2 b d (by omega) (by omega), H.x2]
  congr 2; show 128 * hp + (64 + d.val) = _; omega
theorem ld9_0 (b : Fin 256) (d : Fin 64) : rd1 (F := Ideal) i k arg9 X_arg9 (ix2 b d)
    = ((N.O (512 * (i 1).val + 256 * k.val + b) (64 * (2 * hp) + d) : ℝ) : EReal) := by
  have := trip_lt i k
  rw [rd1_apply i k arg9 X_arg9 b d (by omega) (by omega), H.x9]
  congr 2; show 128 * hp + d.val = _; omega
theorem ld9_1 (b : Fin 256) (d : Fin 64) : rd3 (F := Ideal) i k arg9 X_arg9 (ix2 b d)
    = ((N.O (512 * (i 1).val + 256 * k.val + b) (64 * (2 * hp + 1) + d) : ℝ) : EReal) := by
  have := trip_lt i k
  rw [rd3_apply i k arg9 X_arg9 b d (by omega) (by omega), H.x9]
  congr 2; show 128 * hp + (64 + d.val) = _; omega
theorem ld6_0 (b : Fin 256) : rd2 (F := Ideal) i k arg6 X_arg6 (ix4 0 0 0 b)
    = ((N.C (2 * hp) (512 * (i 1).val + 256 * k.val + b) : ℝ) : EReal) := by
  have := trip_lt i k
  rw [rd2_apply i k arg6 X_arg6 b this, H.x6 _ _ _ (by decide)]
  congr 2; show 256 * (2 * (i 1).val + k.val) + b.val = _; omega
theorem ld6_1 (b : Fin 256) : rd4 (F := Ideal) i k arg6 X_arg6 (ix4 0 0 0 b)
    = ((N.C (2 * hp + 1) (512 * (i 1).val + 256 * k.val + b) : ℝ) : EReal) := by
  have := trip_lt i k
  rw [rd4_apply i k arg6 X_arg6 b this, H.x6 _ _ _ (by decide)]
  congr 2; show 256 * (2 * (i 1).val + k.val) + b.val = _; omega
theorem ld7_0 (b : Fin 256) : rd2 (F := Ideal) i k arg7 X_arg7 (ix4 0 0 0 b)
    = ((N.D (2 * hp) (512 * (i 1).val + 256 * k.val + b) : ℝ) : EReal) := by
  have := trip_lt i k
  rw [rd2_apply i k arg7 X_arg7 b this, H.x7 _ _ _ (by decide)]
  congr 2; show 256 * (2 * (i 1).val + k.val) + b.val = _; omega
theorem ld7_1 (b : Fin 256) : rd4 (F := Ideal) i k arg7 X_arg7 (ix4 0 0 0 b)
    = ((N.D (2 * hp + 1) (512 * (i 1).val + 256 * k.val + b) : ℝ) : EReal) := by
  have := trip_lt i k
  rw [rd4_apply i k arg7 X_arg7 b this, H.x7 _ _ _ (by decide)]
  congr 2; show 256 * (2 * (i 1).val + k.val) + b.val = _; omega
theorem ld8_0 (b : Fin 256) : rd2 (F := Ideal) i k arg8 X_arg8 (ix4 0 0 0 b)
    = ((N.L (2 * hp) (512 * (i 1).val + 256 * k.val + b) : ℝ) : EReal) := by
  have := trip_lt i k
  rw [rd2_apply i k arg8 X_arg8 b this, H.x8 _ _ _ (by decide)]
  congr 2; show 256 * (2 * (i 1).val + k.val) + b.val = _; omega
theorem ld8_1 (b : Fin 256) : rd4 (F := Ideal) i k arg8 X_arg8 (ix4 0 0 0 b)
    = ((N.L (2 * hp + 1) (512 * (i 1).val + 256 * k.val + b) : ℝ) : EReal) := by
  have := trip_lt i k
  rw [rd4_apply i k arg8 X_arg8 b this, H.x8 _ _ _ (by decide)]
  congr 2; show 256 * (2 * (i 1).val + k.val) + b.val = _; omega

theorem tP0_val (a : Fin 512) (b : Fin 256) : tP0 (F := Ideal) i arg2 arg6 arg8 arg1 v4 v12 v35 X_arg2 X_arg6 X_arg8 k (ix2 a b)
    = ((N.P (2 * hp) (512 * (i 1).val + 256 * k.val + b) (512 * (i 1).val + a) : ℝ) : EReal) := by
  unfold tP0 Nums.P
  rw [pay5_val (K := fun a d => N.K (512 * (i 1).val + a) (64 * (2 * hp) + d))
    (Q := fun b d => N.Q (512 * (i 1).val + 256 * k.val + b) (64 * (2 * hp) + d))
    (cc := fun a => N.C (2 * hp) (512 * (i 1).val + a)) (cr := fun b => N.C (2 * hp) (512 * (i 1).val + 256 * k.val + b))
    (ls := fun b => N.L (2 * hp) (512 * (i 1).val + 256 * k.val + b)) (kj := (i 1).val) (ib := 2 * (i 1).val + k.val)
    i arg1 v4 v12 v35 k _ _ _ H.h1 H.hkj (H.h35 k) (trip_lt i k) H.h4 (ld2_0 k H) H.h12 (ld6_0 k H) (ld8_0 k H) a b]
  congr 1
  refine if_congr ?_ rfl rfl
  constructor <;> intro h <;> omega

theorem tE0_val (a : Fin 512) (b : Fin 256) : tE0 (F := Ideal) i arg7 arg9 v8 X_arg7 X_arg9 k (ix2 a b)
    = (((∑ d : Fin 64, N.V (512 * (i 1).val + a) (64 * (2 * hp) + d) * N.O (512 * (i 1).val + 256 * k.val + b) (64 * (2 * hp) + d))
        - N.D (2 * hp) (512 * (i 1).val + 256 * k.val + b) : ℝ) : EReal) := by
  unfold tE0
  exact pay6_val (V := fun a d => N.V (512 * (i 1).val + a) (64 * (2 * hp) + d))
    (O := fun b d => N.O (512 * (i 1).val + 256 * k.val + b) (64 * (2 * hp) + d))
    (dl := fun b => N.D (2 * hp) (512 * (i 1).val + 256 * k.val + b)) v8 _ _ H.h8 (ld9_0 k H) (ld7_0 k H) a b

theorem tP1_val (a : Fin 512) (b : Fin 256) : tP1 (F := Ideal) i arg2 arg6 arg8 arg1 v6 v14 v35 X_arg2 X_arg6 X_arg8 k (ix2 a b)
    = ((N.P (2 * hp + 1) (512 * (i 1).val + 256 * k.val + b) (512 * (i 1).val + a) : ℝ) : EReal) := by
  unfold tP1 Nums.P
  refine (pay15_val (S := fun a b => ∑ d : Fin 64, N.K (512 * (i 1).val + a) (64 * (2 * hp + 1) + d) * N.Q (512 * (i 1).val + 256 * k.val + b) (64 * (2 * hp + 1) + d))
    (cc := fun a => N.C (2 * hp + 1) (512 * (i 1).val + a)) (cr := fun b => N.C (2 * hp + 1) (512 * (i 1).val + 256 * k.val + b))
    (ls := fun b => N.L (2 * hp + 1) (512 * (i 1).val + 256 * k.val + b)) (kj := (i 1).val) (ib := 2 * (i 1).val + k.val)
    arg1 _ v14 _ _ _ _ H.h1 H.hkj (H.h35 k) (trip_lt i k) eighth
    (pay14_val (K := fun a d => N.K (512 * (i 1).val + a) (64 * (2 * hp + 1) + d))
      (Q := fun b d => N.Q (512 * (i 1).val + 256 * k.val + b) (64 * (2 * hp + 1) + d)) v6 _ H.h6 (ld2_1 k H))
    H.h14 (ld6_1 k H) (ld8_1 k H) a b).trans ?_
  congr 1
  refine if_congr ?_ rfl rfl
  constructor <;> intro h <;> omega

theorem tS1_val (a : Fin 512) (b : Fin 256) : tS1 (F := Ideal) i arg2 arg6 arg7 arg8 arg9 arg1 v6 v10 v14 v35 X_arg2 X_arg6 X_arg7 X_arg8 X_arg9 k (ix2 a b)
    = ((N.G (2 * hp + 1) (512 * (i 1).val + 256 * k.val + b) (512 * (i 1).val + a) : ℝ) : EReal) := by
  unfold tS1 Nums.G
  exact pay16_val (P := fun a b => N.P (2 * hp + 1) (512 * (i 1).val + 256 * k.val + b) (512 * (i 1).val + a))
    (V := fun a d => N.V (512 * (i 1).val + a) (64 * (2 * hp + 1) + d))
    (O := fun b d => N.O (512 * (i 1).val + 256 * k.val + b) (64 * (2 * hp + 1) + d))
    (dl := fun b => N.D (2 * hp + 1) (512 * (i 1).val + 256 * k.val + b)) arg1 v10 v14 _ _ _ _ _ _ _ H.h10 (ld9_1 k H) (ld7_1 k H)
    (tP1_val k H) a b
end

/-- What the loop carries and what the accumulated blocks hold after `n` trips, entered at contents `Xq` and `Xr`. -/
structure Inv (N : Nums) (hp kj n : ℕ) (Xq : ℕ → ℕ → ℝ) (Xr : ℕ → ℕ → ℕ → ℝ) (acc : FVec Ideal S512x64 .f32 × FVec Ideal S512x64 .f32 × FVec Ideal S512x128 .f32 × FVec Ideal S512x64 .f32 × FVec Ideal S512x64 .f32 × FVec Ideal S512x128 .f32) (q : FVec Ideal S2048x128 .f32)
    (r : FVec Ideal S1x8x8x256 .f32) : Prop where
  k0 : ∀ a d, acc.1 (ix2 a d) = ((N.kC (2 * hp) kj n a d : ℝ) : EReal)
  v0 : ∀ a d, acc.2.1 (ix2 a d) = ((N.vC (2 * hp) kj n a d : ℝ) : EReal)
  f0 : ∀ a d, acc.2.2.1 (ix2 a d) = ((N.fC (2 * hp) kj n a d : ℝ) : EReal)
  k1 : ∀ a d, acc.2.2.2.1 (ix2 a d) = ((N.kC (2 * hp + 1) kj n a d : ℝ) : EReal)
  v1 : ∀ a d, acc.2.2.2.2.1 (ix2 a d) = ((N.vC (2 * hp + 1) kj n a d : ℝ) : EReal)
  f1 : ∀ a d, acc.2.2.2.2.2 (ix2 a d) = ((N.fC (2 * hp + 1) kj n a d : ℝ) : EReal)
  q : ∀ (x : Fin 2048) (c : Fin 128), q (ix2 x c)
    = ((Xq x c + (if 512 * kj ≤ x.val ∧ x.val < 512 * kj + 256 * n then N.qC hp kj x c else 0) : ℝ) : EReal)
  r : ∀ (j e : Fin 8) (b : Fin 256), r (ix4 0 j e b)
    = ((Xr j e b + (if e.val < 2 ∧ 2 * kj ≤ j.val ∧ j.val < 2 * kj + n then N.rC (2 * hp + e) kj (256 * j + b) else 0) : ℝ) : EReal)

section
variable {N : Nums} {hp : ℕ} (𝒱 : Variants) (c : Dev nD) (bd : Option 𝒱.V) (i : grid0.Coords) (arg2 : Memref sig .tc .vmem S2048x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1x512x128 .f32) (harg5 : arg5.IsWhole) (arg6 : Memref sig .tc .vmem S1x8x8x256 .f32) (harg6 : arg6.IsWhole) (arg7 : Memref sig .tc .vmem S1x8x8x256 .f32) (harg7 : arg7.IsWhole) (arg8 : Memref sig .tc .vmem S1x8x8x256 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S1x2x8x256 .f32) (harg13 : arg13.IsWhole) (arg14 : Memref sig .tc .vmem S1x8x8x256 .f32) (harg14 : arg14.IsWhole) (arg1 : BitVec 32) (v4 : FVec Ideal S512x64 .bf16) (v6 : FVec Ideal S512x64 .bf16) (v8 : FVec Ideal S512x64 .bf16) (v10 : FVec Ideal S512x64 .bf16) (v12 : FVec Ideal S512x1 .f32) (v14 : FVec Ideal S512x1 .f32) (v15 : FVec Ideal S512x64 .f32) (v16 : FVec Ideal S512x64 .f32) (v17 : FVec Ideal S512x128 .f32) (v19 : BitVec 32) (v30 : BitVec 1) (v31 : BitVec 32) (v35 : BitVec 32) (X_arg2 : BufTy.Contents (Elt Ideal) arg2.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty)
  (G10 : BufTy.Contents (Elt Ideal) arg10.view.ty) (G14 : BufTy.Contents (Elt Ideal) arg14.view.ty) (init : FVec Ideal S512x64 .f32 × FVec Ideal S512x64 .f32 × FVec Ideal S512x128 .f32 × FVec Ideal S512x64 .f32 × FVec Ideal S512x64 .f32 × FVec Ideal S512x128 .f32)
  {Xq : ℕ → ℕ → ℝ} {Xr : ℕ → ℕ → ℕ → ℝ}
  (H : Held N hp i arg2 arg6 arg7 arg8 arg9 arg1 v4 v6 v8 v10 v12 v14 v35 X_arg2 X_arg6 X_arg7 X_arg8 X_arg9)
  (z0 : ∀ x, init.1 x = 0) (z1 : ∀ x, init.2.1 x = 0) (z2 : ∀ x, init.2.2.1 x = 0) (z3 : ∀ x, init.2.2.2.1 x = 0)
  (z4 : ∀ x, init.2.2.2.2.1 x = 0) (z5 : ∀ x, init.2.2.2.2.2 x = 0)
  (hq : ∀ x c, arg10.view.read (Elt Ideal) G10 (ix2 x c) = ((Xq x c : ℝ) : EReal))
  (hr : ∀ (j e : Fin 8) (b : Fin 256), arg14.view.read (Elt Ideal) G14 (ix4 0 j e b) = ((Xr j e b : ℝ) : EReal))
include H z0 z1 z2 z3 z4 z5 hq hr

set_option maxHeartbeats 4000000 in
theorem inv_all : ∀ m : ℕ, m ≤ (k0_t1_loop i).trips →
    Inv N hp (i 1).val m Xq Xr (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v4 v6 v8 v10 v12 v14 v15 v16 v17 v19 v30 v31 v35 X_arg2 X_arg6 X_arg7 X_arg8 X_arg9 G10 G14 init m).1 (arg10.view.read (Elt Ideal) (arg10.view.writes (Elt Ideal) G10 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v4 v6 v8 v10 v12 v14 v15 v16 v17 v19 v30 v31 v35 X_arg2 X_arg6 X_arg7 X_arg8 X_arg9 G10 G14 init m).2.1))
      (arg14.view.read (Elt Ideal) (arg14.view.writes (Elt Ideal) G14 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v4 v6 v8 v10 v12 v14 v15 v16 v17 v19 v30 v31 v35 X_arg2 X_arg6 X_arg7 X_arg8 X_arg9 G10 G14 init m).2.2)) := by
  intro m
  induction m with
  | zero =>
    intro _
    have e : st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v4 v6 v8 v10 v12 v14 v15 v16 v17 v19 v30 v31 v35 X_arg2 X_arg6 X_arg7 X_arg8 X_arg9 G10 G14 init 0 = (init, [], []) := rfl
    rw [e]
    refine ⟨?_, ?_, ?_, ?_, ?_, ?_, ?_, ?_⟩
    · intro a d; rw [z0]; simp [Nums.kC]
    · intro a d; rw [z1]; simp [Nums.vC]
    · intro a d; rw [z2]; simp [Nums.fC]
    · intro a d; rw [z3]; simp [Nums.kC]
    · intro a d; rw [z4]; simp [Nums.vC]
    · intro a d; rw [z5]; simp [Nums.fC]
    · intro x c
      rw [View.writes_nil, hq, if_neg (by omega), add_zero]
    · intro j e b
      rw [View.writes_nil, hr, if_neg (by omega), add_zero]
  | succ m ih =>
    intro hm
    obtain ⟨a0, a1, a2, a3, a4, a5, a6, a7⟩ := ih (by omega)
    have ek := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v4 v6 v8 v10 v12 v14 v15 v16 v17 v19 v30 v31 v35 X_arg2 X_arg6 X_arg7 X_arg8 X_arg9 G10 G14 init ⟨m, hm⟩
    rw [tripR_eq, tripL_eq] at ek
    generalize hst : st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v4 v6 v8 v10 v12 v14 v15 v16 v17 v19 v30 v31 v35 X_arg2 X_arg6 X_arg7 X_arg8 X_arg9 G10 G14 init m = prev at a0 a1 a2 a3 a4 a5 a6 a7 ek
    rw [show (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v4 v6 v8 v10 v12 v14 v15 v16 v17 v19 v30 v31 v35 X_arg2 X_arg6 X_arg7 X_arg8 X_arg9 G10 G14 init (m + 1)) = _ from ek]
    have hlt := trip_lt i ⟨m, hm⟩
    have hlt' : 2 * (i 1).val + m < 8 := hlt
    have hP0 := tP0_val (⟨m, hm⟩ : Fin (k0_t1_loop i).trips) H
    have hE0 := tE0_val (⟨m, hm⟩ : Fin (k0_t1_loop i).trips) H
    have hP1 := tP1_val (⟨m, hm⟩ : Fin (k0_t1_loop i).trips) H
    have hS1 := tS1_val (⟨m, hm⟩ : Fin (k0_t1_loop i).trips) H
    have hQ0 := ld2_0 (⟨m, hm⟩ : Fin (k0_t1_loop i).trips) H
    have hQ1 := ld2_1 (⟨m, hm⟩ : Fin (k0_t1_loop i).trips) H
    have hO0 := ld9_0 (⟨m, hm⟩ : Fin (k0_t1_loop i).trips) H
    have hO1 := ld9_1 (⟨m, hm⟩ : Fin (k0_t1_loop i).trips) H
    refine ⟨?_, ?_, ?_, ?_, ?_, ?_, ?_, ?_⟩
    · intro a d
      refine (pay10_val (A := fun a d => N.kC (2 * hp) (i 1).val m a d)
        (P := fun a b => N.P (2 * hp) (512 * (i 1).val + 256 * m + b) (512 * (i 1).val + a))
        (E := fun a b => (∑ d : Fin 64, N.V (512 * (i 1).val + a) (64 * (2 * hp) + d) * N.O (512 * (i 1).val + 256 * m + b) (64 * (2 * hp) + d)) - N.D (2 * hp) (512 * (i 1).val + 256 * m + b))
        (Q := fun b d => N.Q (512 * (i 1).val + 256 * m + b) (64 * (2 * hp) + d)) _ _ _ _ hQ0 hP0 hE0 a0 a d).trans ?_
      congr 1
      rw [Nums.kC, Nums.kC, Finset.sum_range_succ]
      rfl
    · intro a d
      refine (pay11_val (A := fun a d => N.vC (2 * hp) (i 1).val m a d)
        (P := fun a b => N.P (2 * hp) (512 * (i 1).val + 256 * m + b) (512 * (i 1).val + a))
        (O := fun b d => N.O (512 * (i 1).val + 256 * m + b) (64 * (2 * hp) + d)) _ _ _ hO0 hP0 a1 a d).trans ?_
      congr 1
      rw [Nums.vC, Nums.vC, Finset.sum_range_succ]
    · intro a d
      refine (pay12_val (A := fun a d => N.fC (2 * hp) (i 1).val m a d)
        (P := fun a b => N.P (2 * hp) (512 * (i 1).val + 256 * m + b) (512 * (i 1).val + a))
        (E := fun a b => (∑ d : Fin 64, N.V (512 * (i 1).val + a) (64 * (2 * hp) + d) * N.O (512 * (i 1).val + 256 * m + b) (64 * (2 * hp) + d)) - N.D (2 * hp) (512 * (i 1).val + 256 * m + b))
        _ _ _ hP0 hE0 a2 a d).trans ?_
      congr 1
      rw [Nums.fC, Nums.fC, Finset.sum_range_succ]
      rfl
    · intro a d
      refine (pay44_val (A := fun a d => N.kC (2 * hp + 1) (i 1).val m a d)
        (S := fun a b => N.G (2 * hp + 1) (512 * (i 1).val + 256 * m + b) (512 * (i 1).val + a))
        (Q := fun b d => N.Q (512 * (i 1).val + 256 * m + b) (64 * (2 * hp + 1) + d)) _ _ _ hQ1 hS1 a3 a d).trans ?_
      congr 1
      rw [Nums.kC, Nums.kC, Finset.sum_range_succ]
    · intro a d
      refine (pay45_val (A := fun a d => N.vC (2 * hp + 1) (i 1).val m a d)
        (P := fun a b => N.P (2 * hp + 1) (512 * (i 1).val + 256 * m + b) (512 * (i 1).val + a))
        (O := fun b d => N.O (512 * (i 1).val + 256 * m + b) (64 * (2 * hp + 1) + d)) _ _ _ hO1 hP1 a4 a d).trans ?_
      congr 1
      rw [Nums.vC, Nums.vC, Finset.sum_range_succ]
    · intro a d
      refine (pay46_val (A := fun a d => N.fC (2 * hp + 1) (i 1).val m a d)
        (S := fun a b => N.G (2 * hp + 1) (512 * (i 1).val + 256 * m + b) (512 * (i 1).val + a))
        _ _ hS1 a5 a d).trans ?_
      congr 1
      rw [Nums.fC, Nums.fC, Finset.sum_range_succ]
    · intro x c
      have old : ∀ (x : Fin 2048) (c : Fin 128), 512 * (i 1).val + 256 * m ≤ x.val →
          arg10.view.read (Elt Ideal) (arg10.view.writes (Elt Ideal) G10 prev.2.1) (ix2 x c) = ((Xq x c : ℝ) : EReal) := by
        intro x c hx
        rw [a6, if_neg (by omega), add_zero]
      show arg10.view.read (Elt Ideal) (arg10.view.writes (Elt Ideal) G10 (_ :: _ :: prev.2.1)) (ix2 x c) = _
      by_cases hx : 512 * (i 1).val + 256 * m ≤ x.val ∧ x.val < 512 * (i 1).val + 256 * m + 256
      · rw [if_pos (by omega)]
        by_cases hc : 64 ≤ c.val
        · refine (View.read_writes_cons_unit_of_mem arg10.view _ (k0_off3_inb i ⟨m, hm⟩) _ _ (ix2 x c)
            (ix2 ⟨x.val - (512 * (i 1).val + 256 * m), by omega⟩ ⟨c.val - 64, by omega⟩) (k0_off3_eq i ⟨m, hm⟩) (fun a => ?_)).trans ?_
          · match a with
            | ⟨0, _⟩ => show x.val = 512 * (i 1).val + 256 * m + (x.val - (512 * (i 1).val + 256 * m)); omega
            | ⟨1, _⟩ => show c.val = 64 + (c.val - 64); omega
          · refine (pay17_val (A := fun b d => Xq (512 * (i 1).val + 256 * m + b) (64 + d))
              (S := fun a b => N.G (2 * hp + 1) (512 * (i 1).val + 256 * m + b) (512 * (i 1).val + a))
              (K := fun a d => N.K (512 * (i 1).val + a) (64 * (2 * hp + 1) + d)) arg1 v6 v10 v14 _ _ _ _ _ _ _ _ H.h6 hS1 (fun b d => ?_)
              ⟨x.val - (512 * (i 1).val + 256 * m), by omega⟩ ⟨c.val - 64, by omega⟩).trans ?_
            · rw [rd3_apply i ⟨m, hm⟩ arg10 _ b d (by show 512 * (i 1).val + 256 * m + b.val < 2048; omega) (by omega), old]
              show 512 * (i 1).val + 256 * m ≤ 512 * (i 1).val + 256 * m + b.val
              omega
            · congr 1
              unfold Nums.qC
              dsimp only
              rw [show 512 * (i 1).val + 256 * m + (x.val - (512 * (i 1).val + 256 * m)) = x.val by omega,
                show 64 + (c.val - 64) = c.val by omega, show c.val / 64 = 1 by omega]
              congr 2
              refine Finset.sum_congr rfl fun a _ => ?_
              rw [show 64 * (2 * hp + 1) + (c.val - 64) = 128 * hp + c.val by omega]
        · refine (View.read_writes_cons_unit_of_not_mem arg10.view _ (k0_off3_inb i ⟨m, hm⟩) _ _ (ix2 x c) (k0_off3_eq i ⟨m, hm⟩) 1
            (.inl (by show c.val < 64; omega))).trans ?_
          refine (View.read_writes_cons_unit_of_mem arg10.view _ (k0_off1_inb i ⟨m, hm⟩) _ _ (ix2 x c)
            (ix2 ⟨x.val - (512 * (i 1).val + 256 * m), by omega⟩ ⟨c.val, by omega⟩) (k0_off1_eq i ⟨m, hm⟩) (fun a => ?_)).trans ?_
          · match a with
            | ⟨0, _⟩ => show x.val = 512 * (i 1).val + 256 * m + (x.val - (512 * (i 1).val + 256 * m)); omega
            | ⟨1, _⟩ => show c.val = 0 + c.val; omega
          · refine (pay8_val (A := fun b d => Xq (512 * (i 1).val + 256 * m + b) d)
              (P := fun a b => N.P (2 * hp) (512 * (i 1).val + 256 * m + b) (512 * (i 1).val + a))
              (E := fun a b => (∑ d : Fin 64, N.V (512 * (i 1).val + a) (64 * (2 * hp) + d) * N.O (512 * (i 1).val + 256 * m + b) (64 * (2 * hp) + d)) - N.D (2 * hp) (512 * (i 1).val + 256 * m + b))
              (K := fun a d => N.K (512 * (i 1).val + a) (64 * (2 * hp) + d)) v4 _ _ _ H.h4 hP0 hE0 (fun b d => ?_)
              ⟨x.val - (512 * (i 1).val + 256 * m), by omega⟩ ⟨c.val, by omega⟩).trans ?_
            · rw [rd1_apply i ⟨m, hm⟩ arg10 _ b d (by show 512 * (i 1).val + 256 * m + b.val < 2048; omega) (by omega), old]
              show 512 * (i 1).val + 256 * m ≤ 512 * (i 1).val + 256 * m + b.val
              omega
            · congr 1
              unfold Nums.qC Nums.G
              dsimp only
              rw [show 512 * (i 1).val + 256 * m + (x.val - (512 * (i 1).val + 256 * m)) = x.val by omega,
                show c.val / 64 = 0 by omega]
              congr 2
              refine Finset.sum_congr rfl fun a _ => ?_
              rw [show 64 * (2 * hp) + c.val = 128 * hp + c.val by omega, show 2 * hp + 0 = 2 * hp from rfl]
      · refine (View.read_writes_cons_unit_of_not_mem arg10.view _ (k0_off3_inb i ⟨m, hm⟩) _ _ (ix2 x c) (k0_off3_eq i ⟨m, hm⟩) 0
          (by show x.val < 512 * (i 1).val + 256 * m ∨ 512 * (i 1).val + 256 * m + 256 ≤ x.val; omega)).trans ?_
        refine (View.read_writes_cons_unit_of_not_mem arg10.view _ (k0_off1_inb i ⟨m, hm⟩) _ _ (ix2 x c) (k0_off1_eq i ⟨m, hm⟩) 0
          (by show x.val < 512 * (i 1).val + 256 * m ∨ 512 * (i 1).val + 256 * m + 256 ≤ x.val; omega)).trans ?_
        rw [a6]
        congr 2
        refine if_congr ?_ rfl rfl
        constructor <;> intro h <;> omega
    · intro j e b
      have old : ∀ (e : Fin 8) (b : Fin 256),
          arg14.view.read (Elt Ideal) (arg14.view.writes (Elt Ideal) G14 prev.2.2) (ix4 0 ⟨2 * (i 1).val + m, hlt'⟩ e b)
            = ((Xr (2 * (i 1).val + m) e b : ℝ) : EReal) := by
        intro e b
        rw [a7, if_neg (by show ¬(_ ∧ _ ∧ 2 * (i 1).val + m < _); omega), add_zero]
      show arg14.view.read (Elt Ideal) (arg14.view.writes (Elt Ideal) G14 (_ :: _ :: prev.2.2)) (ix4 0 j e b) = _
      by_cases hj : j.val = 2 * (i 1).val + m
      · by_cases he1 : e.val = 1
        · rw [if_pos (by omega)]
          refine (View.read_writes_cons_unit_of_mem arg14.view _ (k0_off4_inb i ⟨m, hm⟩) _ _ (ix4 0 j e b)
            (ix4 0 0 0 b) (k0_off4_eq i ⟨m, hm⟩) (fun a => ?_)).trans ?_
          · match a with
            | ⟨0, _⟩ => rfl
            | ⟨1, _⟩ => show j.val = 2 * (i 1).val + m + 0; omega
            | ⟨2, _⟩ => show e.val = 1 + 0; omega
            | ⟨3, _⟩ => show b.val = 0 + b.val; omega
          · refine (pay43_val (X := fun b => Xr (2 * (i 1).val + m) 1 b)
              (S := fun a b => N.G (2 * hp + 1) (512 * (i 1).val + 256 * m + b) (512 * (i 1).val + a)) _ _ hS1 (fun b => ?_) b).trans ?_
            · rw [rd4_apply i ⟨m, hm⟩ arg14 _ b hlt', old]; rfl
            · congr 1
              unfold Nums.rC
              dsimp only
              rw [he1, hj, show 256 * (2 * (i 1).val + m) + b.val = 512 * (i 1).val + 256 * m + b.val by omega]
        · refine (View.read_writes_cons_unit_of_not_mem arg14.view _ (k0_off4_inb i ⟨m, hm⟩) _ _ (ix4 0 j e b) (k0_off4_eq i ⟨m, hm⟩) 2
            (by show e.val < 1 ∨ 1 + 1 ≤ e.val; omega)).trans ?_
          by_cases he0 : e.val = 0
          · rw [if_pos (by omega)]
            refine (View.read_writes_cons_unit_of_mem arg14.view _ (k0_off2_inb i ⟨m, hm⟩) _ _ (ix4 0 j e b)
              (ix4 0 0 0 b) (k0_off2_eq i ⟨m, hm⟩) (fun a => ?_)).trans ?_
            · match a with
              | ⟨0, _⟩ => rfl
              | ⟨1, _⟩ => show j.val = 2 * (i 1).val + m + 0; omega
              | ⟨2, _⟩ => show e.val = 0 + 0; omega
              | ⟨3, _⟩ => show b.val = 0 + b.val; omega
            · refine (pay9_val (X := fun b => Xr (2 * (i 1).val + m) 0 b)
                (P := fun a b => N.P (2 * hp) (512 * (i 1).val + 256 * m + b) (512 * (i 1).val + a))
                (E := fun a b => (∑ d : Fin 64, N.V (512 * (i 1).val + a) (64 * (2 * hp) + d) * N.O (512 * (i 1).val + 256 * m + b) (64 * (2 * hp) + d)) - N.D (2 * hp) (512 * (i 1).val + 256 * m + b))
                _ _ _ hP0 hE0 (fun b => ?_) b).trans ?_
              · rw [rd2_apply i ⟨m, hm⟩ arg14 _ b hlt', old]; rfl
              · congr 1
                unfold Nums.rC Nums.G
                dsimp only
                rw [he0, hj, show 256 * (2 * (i 1).val + m) + b.val = 512 * (i 1).val + 256 * m + b.val by omega]
                rfl
          · refine (View.read_writes_cons_unit_of_not_mem arg14.view _ (k0_off2_inb i ⟨m, hm⟩) _ _ (ix4 0 j e b) (k0_off2_eq i ⟨m, hm⟩) 2
              (by show e.val < 0 ∨ 0 + 1 ≤ e.val; omega)).trans ?_
            rw [a7, if_neg (by omega), if_neg (by omega)]
      · refine (View.read_writes_cons_unit_of_not_mem arg14.view _ (k0_off4_inb i ⟨m, hm⟩) _ _ (ix4 0 j e b) (k0_off4_eq i ⟨m, hm⟩) 1
          (by show j.val < 2 * (i 1).val + m ∨ 2 * (i 1).val + m + 1 ≤ j.val; omega)).trans ?_
        refine (View.read_writes_cons_unit_of_not_mem arg14.view _ (k0_off2_inb i ⟨m, hm⟩) _ _ (ix4 0 j e b) (k0_off2_eq i ⟨m, hm⟩) 1
          (by show j.val < 2 * (i 1).val + m ∨ 2 * (i 1).val + m + 1 ≤ j.val; omega)).trans ?_
        rw [a7]
        congr 2
        refine if_congr ?_ rfl rfl
        constructor <;> intro h <;> omega
end

end Cert.KernelIdeal.Hand
-- ==== Proof.Point.lean ====
/- One grid point of the backward kernel: the five blocks that the body leaves, read at an index, from the state of its
   loop over the query blocks. -/
module

public import proofs.«01_k».proof.Proof.Inv
public import proofs.«01_k».proof.Proof.Body

@[expose] public section

set_option maxRecDepth 16384

noncomputable section

namespace Cert.KernelIdeal.Hand

open Cert.KernelIdeal Cert.KernelIdeal.Gen Idealize.ShloMosaic Idealize.ShloMosaic.TcCoe Idealize.SL.Sem
  Idealize.ShloMosaic.Tactic

/-- The unmasked part of the loop starts where the masked part ends: it makes no trip. -/
theorem no_second (i : grid0.Coords) : (k0_t2_loop i).trips = 0 := by revert i; decide +kernel
/-- Key tile `kj` meets the query blocks from `2 kj` on. -/
theorem trips_first (i : grid0.Coords) : (k0_t1_loop i).trips = 8 - 2 * (i 1).val := by revert i; decide +kernel
/-- The counter of trip `k`. -/
theorem counter (i : grid0.Coords) (k : Fin (k0_t1_loop i).trips) :
    Scf.iv (kernelRun0_A.sl.v35 i) 1#32 (k : ℕ) = BitVec.ofNat 32 (2 * (i 1).val + k.val) := by
  revert i; decide +kernel

section forms
variable {F : FTy → Type} [FloatOps F] [Named F]
variable (c : Dev nD) (i : grid0.Coords) (arg2 : Memref sig .tc .vmem S2048x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1x512x128 .f32) (harg5 : arg5.IsWhole) (arg6 : Memref sig .tc .vmem S1x8x8x256 .f32) (harg6 : arg6.IsWhole) (arg7 : Memref sig .tc .vmem S1x8x8x256 .f32) (harg7 : arg7.IsWhole) (arg8 : Memref sig .tc .vmem S1x8x8x256 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S1x2x8x256 .f32) (harg13 : arg13.IsWhole) (arg14 : Memref sig .tc .vmem S1x8x8x256 .f32) (harg14 : arg14.IsWhole)
  (x0 : Vec F S2048x128 .f32) (x1 : Vec F S512x128 .f32) (x2 : Vec F S512x128 .f32) (x3 : Vec F S1x512x128 .f32) (x4 : Vec F S1x8x8x256 .f32) (x5 : Vec F S1x8x8x256 .f32) (x6 : Vec F S1x8x8x256 .f32) (x7 : Vec F S2048x128 .f32)

/-- The state of the loop over the query blocks after its last trip, with windows 8 and 12 holding `G10` and `G14`
    where the loop begins. -/
def lastSt (G10 : BufTy.Contents (Elt F) arg10.view.ty) (G14 : BufTy.Contents (Elt F) arg14.view.ty) :=
  st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_A.sl.r (F := F) c arg3 harg3 x1) (kernelRun0_A.sl.r_1 (F := F) c arg3 harg3 x1) (kernelRun0_A.sl.r_2 (F := F) c arg4 harg4 x2) (kernelRun0_A.sl.r_3 (F := F) c arg4 harg4 x2) (kernelRun0_A.sl.r_4 (F := F) c arg5 harg5 x3) (kernelRun0_A.sl.r_5 (F := F) c arg5 harg5 x3) k0_pay40 k0_pay41 k0_pay42 (kernelRun0_A.sl.v19 i) (kernelRun0_A.sl.v30 i) (kernelRun0_A.sl.v31 i) (kernelRun0_A.sl.v35 i) (harg2.unread x0) (harg6.unread x4) (harg7.unread x5) (harg8.unread x6) (harg9.unread x7) G10 G14 (k0_pay40, k0_pay41, k0_pay42, k0_pay40, k0_pay41, k0_pay42) (k0_t1_loop i).trips
/-- The piece of zeros that the first key tile writes to window 8. -/
def zq : List (View.Piece (Elt F) S2048x128 .f32) := [⟨Rect.unit ![0, 0] S2048x128.size inb_S2048x128_S2048x128_0_0, k0_pay32⟩]
/-- The piece of zeros that the first key tile writes to window 12. -/
def zr : List (View.Piece (Elt F) S1x8x8x256 .f32) := [⟨Rect.unit ![0, 0, 0, 0] S1x8x8x256.size inb_S1x8x8x256_S1x8x8x256_0_0_0_0, k0_pay33⟩]
/-- The pieces of a key or value gradient's block: its two heads side by side. -/
def twoHeads (u w : FVec F S512x64 .f32) : List (View.Piece (Elt F) S512x128 .f32) :=
  [⟨Rect.unit ![0, 64] S512x64.size inb_S512x128_S512x64_0_64, w⟩, ⟨Rect.unit ![0, 0] S512x64.size inb_S512x128_S512x64_0_0, u⟩]
/-- The pieces of the key sums' block: two rows of keys for each head over zeros. -/
def keyRows (u w : FVec F S512x128 .f32) : List (View.Piece (Elt F) S1x2x8x256 .f32) :=
  [⟨Rect.unit ![0, 1, 1, 0] S1x1x1x256.size inb_S1x2x8x256_S1x1x1x256_0_1_1_0, k0_pay3 w⟩,
   ⟨Rect.unit ![0, 0, 1, 0] S1x1x1x256.size inb_S1x2x8x256_S1x1x1x256_0_0_1_0, k0_pay2 w⟩,
   ⟨Rect.unit ![0, 1, 0, 0] S1x1x1x256.size inb_S1x2x8x256_S1x1x1x256_0_1_0_0, k0_pay54 u⟩,
   ⟨Rect.unit ![0, 0, 0, 0] S1x1x1x256.size inb_S1x2x8x256_S1x1x1x256_0_0_0_0, k0_pay53 u⟩,
   ⟨Rect.unit ![0, 0, 0, 0] S1x2x8x256.size inb_S1x2x8x256_S1x2x8x256_0_0_0_0, k0_pay51⟩]

/-- The state of the second loop after its last trip. -/
abbrev second (G10 : BufTy.Contents (Elt F) arg10.view.ty) (G14 : BufTy.Contents (Elt F) arg14.view.ty)
    (init : FVec F S512x64 .f32 × FVec F S512x64 .f32 × FVec F S512x128 .f32 × FVec F S512x64 .f32 × FVec F S512x64 .f32 × FVec F S512x128 .f32) :=
  st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_A.sl.r (F := F) c arg3 harg3 x1) (kernelRun0_A.sl.r_1 (F := F) c arg3 harg3 x1) (kernelRun0_A.sl.r_2 (F := F) c arg4 harg4 x2) (kernelRun0_A.sl.r_3 (F := F) c arg4 harg4 x2) (kernelRun0_A.sl.r_4 (F := F) c arg5 harg5 x3) (kernelRun0_A.sl.r_5 (F := F) c arg5 harg5 x3) k0_pay40 k0_pay41 k0_pay42 (kernelRun0_A.sl.v19 i) (kernelRun0_A.sl.v30 i) (kernelRun0_A.sl.v31 i) (kernelRun0_A.sl.v40 i) (harg2.unread x0) (harg6.unread x4) (harg7.unread x5) (harg8.unread x6) (harg9.unread x7) G10 G14 init (k0_t2_loop i).trips
theorem second_eq (G10 : BufTy.Contents (Elt F) arg10.view.ty) (G14 : BufTy.Contents (Elt F) arg14.view.ty)
    (init : FVec F S512x64 .f32 × FVec F S512x64 .f32 × FVec F S512x128 .f32 × FVec F S512x64 .f32 × FVec F S512x64 .f32 × FVec F S512x128 .f32) :
    second c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 G10 G14 init = (init, [], []) := by
  unfold second; rw [no_second]; rfl
attribute [local irreducible] st_k0_t1 st_k0_t2
theorem formA0 (hc0 : cond0_0 i) :
    (kernelRun0_A (F := F) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1 = (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (arg10.view.writes (Elt F) arg10.view.junk zq) (arg14.view.writes (Elt F) arg14.view.junk zr)).2.1 ++ zq := by
  unfold kernelRun0_A; dsimp only
  show (second c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 _ _ (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (arg10.view.writes (Elt F) arg10.view.junk zq) (arg14.view.writes (Elt F) arg14.view.junk zr)).1).2.1 ++ ((lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (arg10.view.writes (Elt F) arg10.view.junk zq) (arg14.view.writes (Elt F) arg14.view.junk zr)).2.1 ++ zq) = _
  rw [second_eq]; rfl
theorem formA1 (hc0 : cond0_0 i) :
    (kernelRun0_A (F := F) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1 = twoHeads (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (arg10.view.writes (Elt F) arg10.view.junk zq) (arg14.view.writes (Elt F) arg14.view.junk zr)).1.1 (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (arg10.view.writes (Elt F) arg10.view.junk zq) (arg14.view.writes (Elt F) arg14.view.junk zr)).1.2.2.2.1 := by
  unfold kernelRun0_A; dsimp only
  show twoHeads (second c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 _ _ (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (arg10.view.writes (Elt F) arg10.view.junk zq) (arg14.view.writes (Elt F) arg14.view.junk zr)).1).1.1 (second c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 _ _ (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (arg10.view.writes (Elt F) arg10.view.junk zq) (arg14.view.writes (Elt F) arg14.view.junk zr)).1).1.2.2.2.1 = _
  rw [second_eq]
theorem formA2 (hc0 : cond0_0 i) :
    (kernelRun0_A (F := F) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1 = twoHeads (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (arg10.view.writes (Elt F) arg10.view.junk zq) (arg14.view.writes (Elt F) arg14.view.junk zr)).1.2.1 (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (arg10.view.writes (Elt F) arg10.view.junk zq) (arg14.view.writes (Elt F) arg14.view.junk zr)).1.2.2.2.2.1 := by
  unfold kernelRun0_A; dsimp only
  show twoHeads (second c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 _ _ (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (arg10.view.writes (Elt F) arg10.view.junk zq) (arg14.view.writes (Elt F) arg14.view.junk zr)).1).1.2.1 (second c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 _ _ (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (arg10.view.writes (Elt F) arg10.view.junk zq) (arg14.view.writes (Elt F) arg14.view.junk zr)).1).1.2.2.2.2.1 = _
  rw [second_eq]
theorem formA3 (hc0 : cond0_0 i) :
    (kernelRun0_A (F := F) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.1 = keyRows (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (arg10.view.writes (Elt F) arg10.view.junk zq) (arg14.view.writes (Elt F) arg14.view.junk zr)).1.2.2.1 (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (arg10.view.writes (Elt F) arg10.view.junk zq) (arg14.view.writes (Elt F) arg14.view.junk zr)).1.2.2.2.2.2 := by
  unfold kernelRun0_A; dsimp only
  show keyRows (second c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 _ _ (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (arg10.view.writes (Elt F) arg10.view.junk zq) (arg14.view.writes (Elt F) arg14.view.junk zr)).1).1.2.2.1 (second c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 _ _ (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (arg10.view.writes (Elt F) arg10.view.junk zq) (arg14.view.writes (Elt F) arg14.view.junk zr)).1).1.2.2.2.2.2 = _
  rw [second_eq]
theorem formA4 (hc0 : cond0_0 i) :
    (kernelRun0_A (F := F) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.2.1 = (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (arg10.view.writes (Elt F) arg10.view.junk zq) (arg14.view.writes (Elt F) arg14.view.junk zr)).2.2 ++ zr := by
  unfold kernelRun0_A; dsimp only
  show (second c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 _ _ (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (arg10.view.writes (Elt F) arg10.view.junk zq) (arg14.view.writes (Elt F) arg14.view.junk zr)).1).2.2 ++ ((lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (arg10.view.writes (Elt F) arg10.view.junk zq) (arg14.view.writes (Elt F) arg14.view.junk zr)).2.2 ++ zr) = _
  rw [second_eq]; rfl
theorem formB0 (hc0 : ¬cond0_0 i) (xo8 : Vec F S2048x128 .f32) (xo12 : Vec F S1x8x8x256 .f32) :
    (kernelRun0_B (F := F) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo8 xo12).1 = (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (harg10.unread xo8) (harg14.unread xo12)).2.1 := by
  unfold kernelRun0_B; dsimp only
  show (second c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 _ _ (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (harg10.unread xo8) (harg14.unread xo12)).1).2.1 ++ ((lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (harg10.unread xo8) (harg14.unread xo12)).2.1) = _
  rw [second_eq]; rfl
theorem formB1 (hc0 : ¬cond0_0 i) (xo8 : Vec F S2048x128 .f32) (xo12 : Vec F S1x8x8x256 .f32) :
    (kernelRun0_B (F := F) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo8 xo12).2.1 = twoHeads (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (harg10.unread xo8) (harg14.unread xo12)).1.1 (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (harg10.unread xo8) (harg14.unread xo12)).1.2.2.2.1 := by
  unfold kernelRun0_B; dsimp only
  show twoHeads (second c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 _ _ (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (harg10.unread xo8) (harg14.unread xo12)).1).1.1 (second c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 _ _ (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (harg10.unread xo8) (harg14.unread xo12)).1).1.2.2.2.1 = _
  rw [second_eq]
theorem formB2 (hc0 : ¬cond0_0 i) (xo8 : Vec F S2048x128 .f32) (xo12 : Vec F S1x8x8x256 .f32) :
    (kernelRun0_B (F := F) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo8 xo12).2.2.1 = twoHeads (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (harg10.unread xo8) (harg14.unread xo12)).1.2.1 (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (harg10.unread xo8) (harg14.unread xo12)).1.2.2.2.2.1 := by
  unfold kernelRun0_B; dsimp only
  show twoHeads (second c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 _ _ (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (harg10.unread xo8) (harg14.unread xo12)).1).1.2.1 (second c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 _ _ (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (harg10.unread xo8) (harg14.unread xo12)).1).1.2.2.2.2.1 = _
  rw [second_eq]
theorem formB3 (hc0 : ¬cond0_0 i) (xo8 : Vec F S2048x128 .f32) (xo12 : Vec F S1x8x8x256 .f32) :
    (kernelRun0_B (F := F) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo8 xo12).2.2.2.1 = keyRows (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (harg10.unread xo8) (harg14.unread xo12)).1.2.2.1 (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (harg10.unread xo8) (harg14.unread xo12)).1.2.2.2.2.2 := by
  unfold kernelRun0_B; dsimp only
  show keyRows (second c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 _ _ (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (harg10.unread xo8) (harg14.unread xo12)).1).1.2.2.1 (second c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 _ _ (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (harg10.unread xo8) (harg14.unread xo12)).1).1.2.2.2.2.2 = _
  rw [second_eq]
theorem formB4 (hc0 : ¬cond0_0 i) (xo8 : Vec F S2048x128 .f32) (xo12 : Vec F S1x8x8x256 .f32) :
    (kernelRun0_B (F := F) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo8 xo12).2.2.2.2.1 = (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (harg10.unread xo8) (harg14.unread xo12)).2.2 := by
  unfold kernelRun0_B; dsimp only
  show (second c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 _ _ (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (harg10.unread xo8) (harg14.unread xo12)).1).2.2 ++ ((lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (harg10.unread xo8) (harg14.unread xo12)).2.2) = _
  rw [second_eq]; rfl
attribute [irreducible] lastSt
end forms

/-- What the eight input blocks of head pair `hp` and key tile `kj` hold. -/
structure Blk (N : Nums) (hp kj : ℕ) (x0 : Vec Ideal S2048x128 .f32) (x1 : Vec Ideal S512x128 .f32) (x2 : Vec Ideal S512x128 .f32) (x3 : Vec Ideal S1x512x128 .f32) (x4 : Vec Ideal S1x8x8x256 .f32) (x5 : Vec Ideal S1x8x8x256 .f32) (x6 : Vec Ideal S1x8x8x256 .f32) (x7 : Vec Ideal S2048x128 .f32) : Prop where
  b0 : ∀ r c, x0 (ix2 r c) = ((N.Q r (128 * hp + c) : ℝ) : EReal)
  b1 : ∀ a c, x1 (ix2 a c) = ((N.K (512 * kj + a) (128 * hp + c) : ℝ) : EReal)
  b2 : ∀ a c, x2 (ix2 a c) = ((N.V (512 * kj + a) (128 * hp + c) : ℝ) : EReal)
  b3 : ∀ a c, x3 (ix3 0 a c) = ((N.C (2 * hp + c / 64) (512 * kj + a) : ℝ) : EReal)
  b4 : ∀ (j e : Fin 8) (b : Fin 256), e.val < 2 → x4 (ix4 0 j e b) = ((N.C (2 * hp + e) (256 * j + b) : ℝ) : EReal)
  b5 : ∀ (j e : Fin 8) (b : Fin 256), e.val < 2 → x5 (ix4 0 j e b) = ((N.D (2 * hp + e) (256 * j + b) : ℝ) : EReal)
  b6 : ∀ (j e : Fin 8) (b : Fin 256), e.val < 2 → x6 (ix4 0 j e b) = ((N.L (2 * hp + e) (256 * j + b) : ℝ) : EReal)
  b7 : ∀ r c, x7 (ix2 r c) = ((N.O r (128 * hp + c) : ℝ) : EReal)

/-- A load of 64 columns from column `o` of a 512×128 block, read at an index. -/
theorem half_apply (m : Memref sig .tc .vmem S512x128 .f32) (hm : m.IsWhole) (x : Vec Ideal S512x128 .f32) (o : ℕ)
    (inb : ∀ a, (![0, o] : Fin 2 → ℕ) a + S512x64.size a ≤ S512x128.size a) (a : Fin 512) (d : Fin 64) (h : o + d.val < 128) :
    View.readAt (Elt Ideal) m.view (Rect.unit (s := S512x128) ![0, o] S512x64.size inb).toLoadRect (hm.unread x) (ix2 a d)
      = x (ix2 a ⟨o + d.val, h⟩) := by
  rw [View.readAt_apply, Memref.IsWhole.read_unread]
  congr 1
  funext z
  refine Fin.ext ?_
  match z with
  | ⟨0, _⟩ => show 0 + 1 * a.val = a.val; omega
  | ⟨1, _⟩ => show o + 1 * d.val = o + d.val; omega
/-- A load of column `o` from a 1×512×128 block, read at an index. -/
theorem col_apply (m : Memref sig .tc .vmem S1x512x128 .f32) (hm : m.IsWhole) (x : Vec Ideal S1x512x128 .f32) (o : ℕ)
    (inb : ∀ a, (![0, 0, o] : Fin 3 → ℕ) a + S1x512x1.size a ≤ S1x512x128.size a) (a : Fin 512) (h : o < 128) :
    View.readAt (Elt Ideal) m.view (Rect.unit (s := S1x512x128) ![0, 0, o] S1x512x1.size inb).toLoadRect (hm.unread x) (ix3 0 a 0)
      = x (ix3 0 a ⟨o, h⟩) := by
  rw [View.readAt_apply, Memref.IsWhole.read_unread]
  congr 1
  funext z
  refine Fin.ext ?_
  match z with
  | ⟨0, _⟩ => show 0 + 1 * 0 = 0; rfl
  | ⟨1, _⟩ => show 0 + 1 * a.val = a.val; omega
  | ⟨2, _⟩ => show o + 1 * 0 = o; omega

theorem zero_val : Ideal.ofBits .f32 0x00000000#32 = ((0 : ℝ) : EReal) := by
  simp [Ideal.ofBits, Ideal.ieee]
theorem pay40_val (x : S512x64.Idx) : k0_pay40 (F := Ideal) x = 0 := zero_val.trans rfl
theorem pay41_val (x : S512x64.Idx) : k0_pay41 (F := Ideal) x = 0 := zero_val.trans rfl
theorem pay42_val (x : S512x128.Idx) : k0_pay42 (F := Ideal) x = 0 := zero_val.trans rfl
theorem pay32_val (a : Fin 2048) (d : Fin 128) : k0_pay32 (F := Ideal) (ix2 a d) = ((0 : ℝ) : EReal) := zero_val
theorem pay33_val (j e : Fin 8) (b : Fin 256) : k0_pay33 (F := Ideal) (ix4 0 j e b) = ((0 : ℝ) : EReal) := zero_val
theorem pay51_val (j : Fin 2) (e : Fin 8) (b : Fin 256) : k0_pay51 (F := Ideal) (ix4 0 j e b) = ((0 : ℝ) : EReal) := zero_val
theorem pay38_apply (w : FVec Ideal S1x512x1 .f32) (a : Fin 512) : k0_pay38 (F := Ideal) w (ix2 a 0) = w (ix3 0 a 0) := by
  pointwise [k0_pay38]
theorem pay39_apply (w : FVec Ideal S1x512x1 .f32) (a : Fin 512) : k0_pay39 (F := Ideal) w (ix2 a 0) = w (ix3 0 a 0) := by
  pointwise [k0_pay39]

section vals
variable {N : Nums} {hp : ℕ} {c : Dev nD} {i : grid0.Coords} {arg2 : Memref sig .tc .vmem S2048x128 .f32} {harg2 : arg2.IsWhole} {arg3 : Memref sig .tc .vmem S512x128 .f32} {harg3 : arg3.IsWhole} {arg4 : Memref sig .tc .vmem S512x128 .f32} {harg4 : arg4.IsWhole} {arg5 : Memref sig .tc .vmem S1x512x128 .f32} {harg5 : arg5.IsWhole} {arg6 : Memref sig .tc .vmem S1x8x8x256 .f32} {harg6 : arg6.IsWhole} {arg7 : Memref sig .tc .vmem S1x8x8x256 .f32} {harg7 : arg7.IsWhole} {arg8 : Memref sig .tc .vmem S1x8x8x256 .f32} {harg8 : arg8.IsWhole} {arg9 : Memref sig .tc .vmem S2048x128 .f32} {harg9 : arg9.IsWhole} {arg10 : Memref sig .tc .vmem S2048x128 .f32} {harg10 : arg10.IsWhole} {arg11 : Memref sig .tc .vmem S512x128 .f32} {harg11 : arg11.IsWhole} {arg12 : Memref sig .tc .vmem S512x128 .f32} {harg12 : arg12.IsWhole} {arg13 : Memref sig .tc .vmem S1x2x8x256 .f32} {harg13 : arg13.IsWhole} {arg14 : Memref sig .tc .vmem S1x8x8x256 .f32} {harg14 : arg14.IsWhole}
  {x0 : Vec Ideal S2048x128 .f32} {x1 : Vec Ideal S512x128 .f32} {x2 : Vec Ideal S512x128 .f32} {x3 : Vec Ideal S1x512x128 .f32} {x4 : Vec Ideal S1x8x8x256 .f32} {x5 : Vec Ideal S1x8x8x256 .f32} {x6 : Vec Ideal S1x8x8x256 .f32} {x7 : Vec Ideal S2048x128 .f32}
  (B : Blk N hp (i 1).val x0 x1 x2 x3 x4 x5 x6 x7)
include B

theorem held : Held N hp i arg2 arg6 arg7 arg8 arg9 (BitVec.ofNat 32 (i 1).val) (kernelRun0_A.sl.r (F := Ideal) c arg3 harg3 x1) (kernelRun0_A.sl.r_1 (F := Ideal) c arg3 harg3 x1) (kernelRun0_A.sl.r_2 (F := Ideal) c arg4 harg4 x2) (kernelRun0_A.sl.r_3 (F := Ideal) c arg4 harg4 x2) (kernelRun0_A.sl.r_4 (F := Ideal) c arg5 harg5 x3) (kernelRun0_A.sl.r_5 (F := Ideal) c arg5 harg5 x3)
    (kernelRun0_A.sl.v35 i) (harg2.unread x0) (harg6.unread x4) (harg7.unread x5) (harg8.unread x6) (harg9.unread x7) where
  h1 := rfl
  hkj := (i 1).isLt
  h35 := counter i
  h4 a d := (half_apply arg3 harg3 x1 0 _ a d (by omega)).trans ((B.b1 _ _).trans (by congr 2; show 128 * hp + (0 + d.val) = _; omega))
  h6 a d := (half_apply arg3 harg3 x1 64 _ a d (by omega)).trans ((B.b1 _ _).trans (by congr 2; show 128 * hp + (64 + d.val) = _; omega))
  h8 a d := (half_apply arg4 harg4 x2 0 _ a d (by omega)).trans ((B.b2 _ _).trans (by congr 2; show 128 * hp + (0 + d.val) = _; omega))
  h10 a d := (half_apply arg4 harg4 x2 64 _ a d (by omega)).trans ((B.b2 _ _).trans (by congr 2; show 128 * hp + (64 + d.val) = _; omega))
  h12 a := (pay38_apply _ a).trans ((col_apply arg5 harg5 x3 0 _ a (by omega)).trans (B.b3 _ _))
  h14 a := (pay39_apply _ a).trans ((col_apply arg5 harg5 x3 64 _ a (by omega)).trans (B.b3 _ _))
  x2 r c := by rw [Memref.IsWhole.read_unread]; exact B.b0 r c
  x9 r c := by rw [Memref.IsWhole.read_unread]; exact B.b7 r c
  x6 j e b he := by rw [Memref.IsWhole.read_unread]; exact B.b4 j e b he
  x7 j e b he := by rw [Memref.IsWhole.read_unread]; exact B.b5 j e b he
  x8 j e b he := by rw [Memref.IsWhole.read_unread]; exact B.b6 j e b he

end vals
/-- The loop's state after its last trip, by the invariant. -/
theorem last_inv {N : Nums} {hp : ℕ} (c : Dev nD) (i : grid0.Coords) (arg2 : Memref sig .tc .vmem S2048x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1x512x128 .f32) (harg5 : arg5.IsWhole) (arg6 : Memref sig .tc .vmem S1x8x8x256 .f32) (harg6 : arg6.IsWhole) (arg7 : Memref sig .tc .vmem S1x8x8x256 .f32) (harg7 : arg7.IsWhole) (arg8 : Memref sig .tc .vmem S1x8x8x256 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S1x2x8x256 .f32) (harg13 : arg13.IsWhole) (arg14 : Memref sig .tc .vmem S1x8x8x256 .f32) (harg14 : arg14.IsWhole) (x0 : Vec Ideal S2048x128 .f32) (x1 : Vec Ideal S512x128 .f32) (x2 : Vec Ideal S512x128 .f32) (x3 : Vec Ideal S1x512x128 .f32) (x4 : Vec Ideal S1x8x8x256 .f32) (x5 : Vec Ideal S1x8x8x256 .f32) (x6 : Vec Ideal S1x8x8x256 .f32) (x7 : Vec Ideal S2048x128 .f32) (B : Blk N hp (i 1).val x0 x1 x2 x3 x4 x5 x6 x7) (G10 : BufTy.Contents (Elt Ideal) arg10.view.ty) (G14 : BufTy.Contents (Elt Ideal) arg14.view.ty) (Xq : ℕ → ℕ → ℝ) (Xr : ℕ → ℕ → ℕ → ℝ)
    (hq : ∀ (x : Fin 2048) (c : Fin 128), arg10.view.read (Elt Ideal) G10 (ix2 x c) = ((Xq x c : ℝ) : EReal))
    (hr : ∀ (j e : Fin 8) (b : Fin 256), arg14.view.read (Elt Ideal) G14 (ix4 0 j e b) = ((Xr j e b : ℝ) : EReal)) :
    Inv N hp (i 1).val (8 - 2 * (i 1).val) Xq Xr (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 G10 G14).1
      (arg10.view.read (Elt Ideal) (arg10.view.writes (Elt Ideal) G10 (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 G10 G14).2.1))
      (arg14.view.read (Elt Ideal) (arg14.view.writes (Elt Ideal) G14 (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 G10 G14).2.2)) := by
  have h := inv_all Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_A.sl.r (F := Ideal) c arg3 harg3 x1) (kernelRun0_A.sl.r_1 (F := Ideal) c arg3 harg3 x1) (kernelRun0_A.sl.r_2 (F := Ideal) c arg4 harg4 x2) (kernelRun0_A.sl.r_3 (F := Ideal) c arg4 harg4 x2) (kernelRun0_A.sl.r_4 (F := Ideal) c arg5 harg5 x3) (kernelRun0_A.sl.r_5 (F := Ideal) c arg5 harg5 x3) k0_pay40 k0_pay41 k0_pay42 (kernelRun0_A.sl.v19 i) (kernelRun0_A.sl.v30 i) (kernelRun0_A.sl.v31 i) (kernelRun0_A.sl.v35 i)
    (harg2.unread x0) (harg6.unread x4) (harg7.unread x5) (harg8.unread x6) (harg9.unread x7) G10 G14 (k0_pay40, k0_pay41, k0_pay42, k0_pay40, k0_pay41, k0_pay42)
    (held B) pay40_val pay41_val pay42_val pay40_val pay41_val pay42_val hq hr (k0_t1_loop i).trips le_rfl
  rw [← trips_first i]
  unfold lastSt
  exact h
end Cert.KernelIdeal.Hand
-- ==== Proof.Out.lean ====
/- The five output blocks of one grid point, read at an index, in real numbers. -/
module

public import proofs.«01_k».proof.Proof.Point

@[expose] public section

set_option maxRecDepth 16384

noncomputable section

namespace Cert.KernelIdeal.Hand

open Cert.KernelIdeal Cert.KernelIdeal.Gen Idealize.ShloMosaic Idealize.ShloMosaic.TcCoe Idealize.SL.Sem
  Idealize.ShloMosaic.Tactic

section forms
variable {F : FTy → Type} [FloatOps F] [Named F]
variable (c : Dev nD) (i : grid0.Coords) (arg2 : Memref sig .tc .vmem S2048x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1x512x128 .f32) (harg5 : arg5.IsWhole) (arg6 : Memref sig .tc .vmem S1x8x8x256 .f32) (harg6 : arg6.IsWhole) (arg7 : Memref sig .tc .vmem S1x8x8x256 .f32) (harg7 : arg7.IsWhole) (arg8 : Memref sig .tc .vmem S1x8x8x256 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S1x2x8x256 .f32) (harg13 : arg13.IsWhole) (arg14 : Memref sig .tc .vmem S1x8x8x256 .f32) (harg14 : arg14.IsWhole)
  (x0 : Vec F S2048x128 .f32) (x1 : Vec F S512x128 .f32) (x2 : Vec F S512x128 .f32) (x3 : Vec F S1x512x128 .f32) (x4 : Vec F S1x8x8x256 .f32) (x5 : Vec F S1x8x8x256 .f32) (x6 : Vec F S1x8x8x256 .f32) (x7 : Vec F S2048x128 .f32)

theorem caseA_0 (hc0 : cond0_0 i) : (Own.caseA (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0).1
    = arg10.view.read (Elt F) (arg10.view.writes (Elt F) (arg10.view.writes (Elt F) arg10.view.junk zq) (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (arg10.view.writes (Elt F) arg10.view.junk zq) (arg14.view.writes (Elt F) arg14.view.junk zr)).2.1) := by
  unfold Own.caseA
  refine (View.read_writes_of_cover VO0_8 VO0_8.junk arg10.view arg10.view.junk _ (Own.coverA8 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0)).trans ?_
  refine (congrArg (fun L => arg10.view.read (Elt F) (arg10.view.writes (Elt F) arg10.view.junk L)) (formA0 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0)).trans ?_
  exact congrArg (arg10.view.read (Elt F)) (View.writes_append ..)
theorem caseA_1 (hc0 : cond0_0 i) : (Own.caseA (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0).2.1
    = VO0_9.read (Elt F) (VO0_9.writes (Elt F) VO0_9.junk (twoHeads (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (arg10.view.writes (Elt F) arg10.view.junk zq) (arg14.view.writes (Elt F) arg14.view.junk zr)).1.1 (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (arg10.view.writes (Elt F) arg10.view.junk zq) (arg14.view.writes (Elt F) arg14.view.junk zr)).1.2.2.2.1)) := by
  unfold Own.caseA
  exact congrArg (fun L => VO0_9.read (Elt F) (VO0_9.writes (Elt F) VO0_9.junk L)) (formA1 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0)
theorem caseA_2 (hc0 : cond0_0 i) : (Own.caseA (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0).2.2.1
    = VO0_10.read (Elt F) (VO0_10.writes (Elt F) VO0_10.junk (twoHeads (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (arg10.view.writes (Elt F) arg10.view.junk zq) (arg14.view.writes (Elt F) arg14.view.junk zr)).1.2.1 (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (arg10.view.writes (Elt F) arg10.view.junk zq) (arg14.view.writes (Elt F) arg14.view.junk zr)).1.2.2.2.2.1)) := by
  unfold Own.caseA
  exact congrArg (fun L => VO0_10.read (Elt F) (VO0_10.writes (Elt F) VO0_10.junk L)) (formA2 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0)
theorem caseA_3 (hc0 : cond0_0 i) : (Own.caseA (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0).2.2.2.1
    = VO0_11.read (Elt F) (VO0_11.writes (Elt F) VO0_11.junk (keyRows (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (arg10.view.writes (Elt F) arg10.view.junk zq) (arg14.view.writes (Elt F) arg14.view.junk zr)).1.2.2.1 (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (arg10.view.writes (Elt F) arg10.view.junk zq) (arg14.view.writes (Elt F) arg14.view.junk zr)).1.2.2.2.2.2)) := by
  unfold Own.caseA
  dsimp only
  exact congrArg (fun L => VO0_11.read (Elt F) (VO0_11.writes (Elt F) VO0_11.junk L)) (formA3 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0)
theorem caseA_4 (hc0 : cond0_0 i) : (Own.caseA (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0).2.2.2.2
    = arg14.view.read (Elt F) (arg14.view.writes (Elt F) (arg14.view.writes (Elt F) arg14.view.junk zr) (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (arg10.view.writes (Elt F) arg10.view.junk zq) (arg14.view.writes (Elt F) arg14.view.junk zr)).2.2) := by
  unfold Own.caseA
  refine (View.read_writes_of_cover VO0_12 VO0_12.junk arg14.view arg14.view.junk _ (Own.coverA12 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0)).trans ?_
  refine (congrArg (fun L => arg14.view.read (Elt F) (arg14.view.writes (Elt F) arg14.view.junk L)) (formA4 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0)).trans ?_
  exact congrArg (arg14.view.read (Elt F)) (View.writes_append ..)
theorem caseB_0 (hc0 : ¬cond0_0 i) (xo8 : Vec F S2048x128 .f32) (xo12 : Vec F S1x8x8x256 .f32) : (Own.caseB (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo8 xo12 hc0).1
    = arg10.view.read (Elt F) (arg10.view.writes (Elt F) (harg10.unread xo8) (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (harg10.unread xo8) (harg14.unread xo12)).2.1) := by
  unfold Own.caseB
  exact congrArg (fun L => arg10.view.read (Elt F) (arg10.view.writes (Elt F) (harg10.unread xo8) L)) (formB0 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0 xo8 xo12)
theorem caseB_1 (hc0 : ¬cond0_0 i) (xo8 : Vec F S2048x128 .f32) (xo12 : Vec F S1x8x8x256 .f32) : (Own.caseB (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo8 xo12 hc0).2.1
    = VO0_9.read (Elt F) (VO0_9.writes (Elt F) VO0_9.junk (twoHeads (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (harg10.unread xo8) (harg14.unread xo12)).1.1 (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (harg10.unread xo8) (harg14.unread xo12)).1.2.2.2.1)) := by
  unfold Own.caseB
  exact congrArg (fun L => VO0_9.read (Elt F) (VO0_9.writes (Elt F) VO0_9.junk L)) (formB1 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0 xo8 xo12)
theorem caseB_2 (hc0 : ¬cond0_0 i) (xo8 : Vec F S2048x128 .f32) (xo12 : Vec F S1x8x8x256 .f32) : (Own.caseB (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo8 xo12 hc0).2.2.1
    = VO0_10.read (Elt F) (VO0_10.writes (Elt F) VO0_10.junk (twoHeads (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (harg10.unread xo8) (harg14.unread xo12)).1.2.1 (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (harg10.unread xo8) (harg14.unread xo12)).1.2.2.2.2.1)) := by
  unfold Own.caseB
  exact congrArg (fun L => VO0_10.read (Elt F) (VO0_10.writes (Elt F) VO0_10.junk L)) (formB2 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0 xo8 xo12)
theorem caseB_3 (hc0 : ¬cond0_0 i) (xo8 : Vec F S2048x128 .f32) (xo12 : Vec F S1x8x8x256 .f32) : (Own.caseB (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo8 xo12 hc0).2.2.2.1
    = VO0_11.read (Elt F) (VO0_11.writes (Elt F) VO0_11.junk (keyRows (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (harg10.unread xo8) (harg14.unread xo12)).1.2.2.1 (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (harg10.unread xo8) (harg14.unread xo12)).1.2.2.2.2.2)) := by
  unfold Own.caseB
  dsimp only
  exact congrArg (fun L => VO0_11.read (Elt F) (VO0_11.writes (Elt F) VO0_11.junk L)) (formB3 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0 xo8 xo12)
theorem caseB_4 (hc0 : ¬cond0_0 i) (xo8 : Vec F S2048x128 .f32) (xo12 : Vec F S1x8x8x256 .f32) : (Own.caseB (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo8 xo12 hc0).2.2.2.2
    = arg14.view.read (Elt F) (arg14.view.writes (Elt F) (harg14.unread xo12) (lastSt c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (harg10.unread xo8) (harg14.unread xo12)).2.2) := by
  unfold Own.caseB
  exact congrArg (fun L => arg14.view.read (Elt F) (arg14.view.writes (Elt F) (harg14.unread xo12) L)) (formB4 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0 xo8 xo12)
end forms

/-- What the five blocks hold after the body of key tile `kj`, for windows 8 and 12 over what they held. -/
structure Out (N : Nums) (hp kj : ℕ) (Xq : ℕ → ℕ → ℝ) (Xr : ℕ → ℕ → ℕ → ℝ)
    (o : Vec Ideal S2048x128 .f32 × Vec Ideal S512x128 .f32 × Vec Ideal S512x128 .f32 × Vec Ideal S1x2x8x256 .f32 × Vec Ideal S1x8x8x256 .f32) : Prop where
  q : ∀ (x : Fin 2048) (c : Fin 128), o.1 (ix2 x c) = ((Xq x c + (if 512 * kj ≤ x.val then N.qC hp kj x c else 0) : ℝ) : EReal)
  k : ∀ (a : Fin 512) (c : Fin 128), o.2.1 (ix2 a c) = ((N.kC (2 * hp + c / 64) kj (8 - 2 * kj) a (c % 64) : ℝ) : EReal)
  v : ∀ (a : Fin 512) (c : Fin 128), o.2.2.1 (ix2 a c) = ((N.vC (2 * hp + c / 64) kj (8 - 2 * kj) a (c % 64) : ℝ) : EReal)
  s : ∀ (j : Fin 2) (e : Fin 8) (b : Fin 256), o.2.2.2.1 (ix4 0 j e b)
    = ((if e.val < 2 then -∑ z : Fin 128, N.fC (2 * hp + e) kj (8 - 2 * kj) (256 * j + b) z else 0 : ℝ) : EReal)
  r : ∀ (j e : Fin 8) (b : Fin 256), o.2.2.2.2 (ix4 0 j e b)
    = ((Xr j e b + (if e.val < 2 ∧ 2 * kj ≤ j.val then N.rC (2 * hp + e) kj (256 * j + b) else 0) : ℝ) : EReal)

/-- Two heads side by side, read at an index. -/
theorem twoHeads_read (v : View sig .tc .vmem S512x128 .f32) (f : v.ty.Contents (Elt Ideal)) (u w : FVec Ideal S512x64 .f32) (R : ℕ → ℕ → ℕ → ℝ)
    (hu : ∀ (a : Fin 512) (d : Fin 64), u (ix2 a d) = ((R 0 a d : ℝ) : EReal)) (hw : ∀ (a : Fin 512) (d : Fin 64), w (ix2 a d) = ((R 1 a d : ℝ) : EReal))
    (a : Fin 512) (c : Fin 128) :
    v.read (Elt Ideal) (v.writes (Elt Ideal) f (twoHeads (F := Ideal) u w)) (ix2 a c) = ((R (c.val / 64) a (c.val % 64) : ℝ) : EReal) := by
  unfold twoHeads
  by_cases hc : c.val < 64
  · refine (View.read_writes_cons_unit_of_not_mem v _ inb_S512x128_S512x64_0_64 _ _ (ix2 a c) rfl 1 (Or.inl hc)).trans ?_
    refine (View.read_writes_cons_unit_of_mem v _ inb_S512x128_S512x64_0_0 _ _ (ix2 a c) (ix2 a ⟨c.val, hc⟩) rfl ?_).trans ?_
    · intro z
      match z with
      | ⟨0, _⟩ => show a.val = 0 + a.val; omega
      | ⟨1, _⟩ => show c.val = 0 + c.val; omega
    · rw [hu, show c.val / 64 = 0 by omega, show c.val % 64 = c.val by omega]
  · refine (View.read_writes_cons_unit_of_mem v _ inb_S512x128_S512x64_0_64 _ _ (ix2 a c) (ix2 a ⟨c.val - 64, by omega⟩) rfl ?_).trans ?_
    · intro z
      match z with
      | ⟨0, _⟩ => show a.val = 0 + a.val; omega
      | ⟨1, _⟩ => show c.val = 64 + (c.val - 64); omega
    · rw [hw, show c.val / 64 = 1 by omega, show c.val % 64 = c.val - 64 by omega]

/-- One row of 256 keys at tile half `p` and head row `q`, read at an index it holds. -/
theorem row_mem (v : View sig .tc .vmem S1x2x8x256 .f32) (f : v.ty.Contents (Elt Ideal)) (p q : ℕ)
    (inb : ∀ a, (![0, p, q, 0] : Fin S1x2x8x256.rank → ℕ) a + S1x1x1x256.size a ≤ S1x2x8x256.size a)
    (w : FVec Ideal S1x1x1x256 .f32) (L : List (View.Piece (Elt Ideal) S1x2x8x256 .f32)) (j : Fin 2) (e : Fin 8) (b : Fin 256)
    (hj : j.val = p) (he : e.val = q) :
    v.read (Elt Ideal) (v.writes (Elt Ideal) f (⟨Rect.unit (s := S1x2x8x256) ![0, p, q, 0] S1x1x1x256.size inb, w⟩ :: L)) (ix4 0 j e b)
      = w (ix4 0 0 0 b) := by
  refine View.read_writes_cons_unit_of_mem v _ inb _ _ (ix4 0 j e b) (ix4 0 0 0 b) rfl ?_
  intro z
  match z with
  | ⟨0, _⟩ => rfl
  | ⟨1, _⟩ => show j.val = p + 0; omega
  | ⟨2, _⟩ => show e.val = q + 0; omega
  | ⟨3, _⟩ => show b.val = 0 + b.val; omega
/-- The same row read at an index it doesn't hold. -/
theorem row_skip (v : View sig .tc .vmem S1x2x8x256 .f32) (f : v.ty.Contents (Elt Ideal)) (p q : ℕ)
    (inb : ∀ a, (![0, p, q, 0] : Fin S1x2x8x256.rank → ℕ) a + S1x1x1x256.size a ≤ S1x2x8x256.size a)
    (w : FVec Ideal S1x1x1x256 .f32) (L : List (View.Piece (Elt Ideal) S1x2x8x256 .f32)) (j : Fin 2) (e : Fin 8) (b : Fin 256)
    (h : j.val ≠ p ∨ e.val ≠ q) :
    v.read (Elt Ideal) (v.writes (Elt Ideal) f (⟨Rect.unit (s := S1x2x8x256) ![0, p, q, 0] S1x1x1x256.size inb, w⟩ :: L)) (ix4 0 j e b)
      = v.read (Elt Ideal) (v.writes (Elt Ideal) f L) (ix4 0 j e b) := by
  rcases h with h | h
  · refine View.read_writes_cons_unit_of_not_mem v _ inb _ _ (ix4 0 j e b) rfl 1 ?_
    show j.val < p ∨ p + 1 ≤ j.val
    omega
  · refine View.read_writes_cons_unit_of_not_mem v _ inb _ _ (ix4 0 j e b) rfl 2 ?_
    show e.val < q ∨ q + 1 ≤ e.val
    omega

/-- The key sums' block, read at an index. -/
theorem keyRows_read (v : View sig .tc .vmem S1x2x8x256 .f32) (f : v.ty.Contents (Elt Ideal)) (u w : FVec Ideal S512x128 .f32) (R : ℕ → ℕ → ℕ → ℝ)
    (hu : ∀ (a : Fin 512) (d : Fin 128), u (ix2 a d) = ((R 0 a d : ℝ) : EReal)) (hw : ∀ (a : Fin 512) (d : Fin 128), w (ix2 a d) = ((R 1 a d : ℝ) : EReal))
    (j : Fin 2) (e : Fin 8) (b : Fin 256) :
    v.read (Elt Ideal) (v.writes (Elt Ideal) f (keyRows (F := Ideal) u w)) (ix4 0 j e b)
      = ((if e.val < 2 then -∑ z : Fin 128, R e (256 * j + b) z else 0 : ℝ) : EReal) := by
  unfold keyRows
  by_cases he1 : e.val = 1
  · rw [if_pos (by omega)]
    by_cases hj : j.val = 1
    · rw [row_mem v f 1 1 _ _ _ j e b hj he1, pay3_val (A := fun a b => R 1 a b) w hw b, hj, he1]
    · rw [row_skip v f 1 1 _ _ _ j e b (Or.inl hj), row_mem v f 0 1 _ _ _ j e b (by omega) he1, pay2_val (A := fun a b => R 1 a b) w hw b, he1,
        show 256 * j.val + b.val = b.val by omega]
  · rw [row_skip v f 1 1 _ _ _ j e b (Or.inr he1), row_skip v f 0 1 _ _ _ j e b (Or.inr he1)]
    by_cases he0 : e.val = 0
    · rw [if_pos (by omega)]
      by_cases hj : j.val = 1
      · rw [row_mem v f 1 0 _ _ _ j e b hj he0, pay54_val (A := fun a b => R 0 a b) u hu b, hj, he0]
      · rw [row_skip v f 1 0 _ _ _ j e b (Or.inl hj), row_mem v f 0 0 _ _ _ j e b (by omega) he0, pay53_val (A := fun a b => R 0 a b) u hu b, he0,
          show 256 * j.val + b.val = b.val by omega]
    · rw [row_skip v f 1 0 _ _ _ j e b (Or.inr he0), row_skip v f 0 0 _ _ _ j e b (Or.inr he0), if_neg (by omega)]
      refine (View.read_writes_cons_unit_of_mem v _ inb_S1x2x8x256_S1x2x8x256_0_0_0_0 _ _ (ix4 0 j e b) (ix4 0 j e b) rfl ?_).trans (pay51_val j e b)
      intro z
      match z with
      | ⟨0, _⟩ => rfl
      | ⟨1, _⟩ => show j.val = 0 + j.val; omega
      | ⟨2, _⟩ => show e.val = 0 + e.val; omega
      | ⟨3, _⟩ => show b.val = 0 + b.val; omega

theorem zq_read (v : View sig .tc .vmem S2048x128 .f32) (f : v.ty.Contents (Elt Ideal)) (x : Fin 2048) (c : Fin 128) :
    v.read (Elt Ideal) (v.writes (Elt Ideal) f (zq (F := Ideal))) (ix2 x c) = ((0 : ℝ) : EReal) := by
  unfold zq
  refine (View.read_writes_cons_unit_of_mem v _ inb_S2048x128_S2048x128_0_0 _ _ (ix2 x c) (ix2 x c) rfl ?_).trans (pay32_val x c)
  intro z
  match z with
  | ⟨0, _⟩ => show x.val = 0 + x.val; omega
  | ⟨1, _⟩ => show c.val = 0 + c.val; omega
theorem zr_read (v : View sig .tc .vmem S1x8x8x256 .f32) (f : v.ty.Contents (Elt Ideal)) (j e : Fin 8) (b : Fin 256) :
    v.read (Elt Ideal) (v.writes (Elt Ideal) f (zr (F := Ideal))) (ix4 0 j e b) = ((0 : ℝ) : EReal) := by
  unfold zr
  refine (View.read_writes_cons_unit_of_mem v _ inb_S1x8x8x256_S1x8x8x256_0_0_0_0 _ _ (ix4 0 j e b) (ix4 0 j e b) rfl ?_).trans (pay33_val j e b)
  intro z
  match z with
  | ⟨0, _⟩ => rfl
  | ⟨1, _⟩ => show j.val = 0 + j.val; omega
  | ⟨2, _⟩ => show e.val = 0 + e.val; omega
  | ⟨3, _⟩ => show b.val = 0 + b.val; omega

section vals
variable {N : Nums} {hp : ℕ}

/-- The five blocks after the body, where the key-tile coordinate is zero. -/
theorem outA (c : Dev nD) (i : grid0.Coords) (arg2 : Memref sig .tc .vmem S2048x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1x512x128 .f32) (harg5 : arg5.IsWhole) (arg6 : Memref sig .tc .vmem S1x8x8x256 .f32) (harg6 : arg6.IsWhole) (arg7 : Memref sig .tc .vmem S1x8x8x256 .f32) (harg7 : arg7.IsWhole) (arg8 : Memref sig .tc .vmem S1x8x8x256 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S1x2x8x256 .f32) (harg13 : arg13.IsWhole) (arg14 : Memref sig .tc .vmem S1x8x8x256 .f32) (harg14 : arg14.IsWhole) (x0 : Vec Ideal S2048x128 .f32) (x1 : Vec Ideal S512x128 .f32) (x2 : Vec Ideal S512x128 .f32) (x3 : Vec Ideal S1x512x128 .f32) (x4 : Vec Ideal S1x8x8x256 .f32) (x5 : Vec Ideal S1x8x8x256 .f32) (x6 : Vec Ideal S1x8x8x256 .f32) (x7 : Vec Ideal S2048x128 .f32) (B : Blk N hp (i 1).val x0 x1 x2 x3 x4 x5 x6 x7) (hc0 : cond0_0 i) :
    Out N hp (i 1).val (fun _ _ => 0) (fun _ _ _ => 0) (Own.caseA c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0) := by
  have I := last_inv c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 B (arg10.view.writes (Elt Ideal) arg10.view.junk zq) (arg14.view.writes (Elt Ideal) arg14.view.junk zr) (fun _ _ => 0) (fun _ _ _ => 0) (zq_read arg10.view _) (zr_read arg14.view _)
  have h4 : (i 1).val < 4 := (i 1).isLt
  refine ⟨fun x z => (congrFun (caseA_0 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0) (ix2 x z)).trans ((I.q x z).trans ?_),
    fun a z => (congrFun (caseA_1 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0) (ix2 a z)).trans
      (twoHeads_read VO0_9 _ _ _ (fun z a d => N.kC (2 * hp + z) (i 1).val (8 - 2 * (i 1).val) a d) I.k0 I.k1 a z),
    fun a z => (congrFun (caseA_2 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0) (ix2 a z)).trans
      (twoHeads_read VO0_10 _ _ _ (fun z a d => N.vC (2 * hp + z) (i 1).val (8 - 2 * (i 1).val) a d) I.v0 I.v1 a z),
    fun j e b => (congrFun (caseA_3 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0) (ix4 0 j e b)).trans
      (keyRows_read VO0_11 _ _ _ (fun z a d => N.fC (2 * hp + z) (i 1).val (8 - 2 * (i 1).val) a d) I.f0 I.f1 j e b),
    fun j e b => (congrFun (caseA_4 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0) (ix4 0 j e b)).trans ((I.r j e b).trans ?_)⟩
  · congr 2
    exact if_congr ⟨fun h => h.1, fun h => ⟨h, by omega⟩⟩ rfl rfl
  · congr 2
    exact if_congr ⟨fun h => ⟨h.1, h.2.1⟩, fun h => ⟨h.1, h.2, by omega⟩⟩ rfl rfl

/-- The five blocks after the body, where the key-tile coordinate is not zero. -/
theorem outB (c : Dev nD) (i : grid0.Coords) (arg2 : Memref sig .tc .vmem S2048x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1x512x128 .f32) (harg5 : arg5.IsWhole) (arg6 : Memref sig .tc .vmem S1x8x8x256 .f32) (harg6 : arg6.IsWhole) (arg7 : Memref sig .tc .vmem S1x8x8x256 .f32) (harg7 : arg7.IsWhole) (arg8 : Memref sig .tc .vmem S1x8x8x256 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S1x2x8x256 .f32) (harg13 : arg13.IsWhole) (arg14 : Memref sig .tc .vmem S1x8x8x256 .f32) (harg14 : arg14.IsWhole) (x0 : Vec Ideal S2048x128 .f32) (x1 : Vec Ideal S512x128 .f32) (x2 : Vec Ideal S512x128 .f32) (x3 : Vec Ideal S1x512x128 .f32) (x4 : Vec Ideal S1x8x8x256 .f32) (x5 : Vec Ideal S1x8x8x256 .f32) (x6 : Vec Ideal S1x8x8x256 .f32) (x7 : Vec Ideal S2048x128 .f32) (B : Blk N hp (i 1).val x0 x1 x2 x3 x4 x5 x6 x7) (hc0 : ¬cond0_0 i) (xo8 : Vec Ideal S2048x128 .f32) (xo12 : Vec Ideal S1x8x8x256 .f32) (Xq : ℕ → ℕ → ℝ) (Xr : ℕ → ℕ → ℕ → ℝ)
    (hq : ∀ (x : Fin 2048) (c : Fin 128), xo8 (ix2 x c) = ((Xq x c : ℝ) : EReal))
    (hr : ∀ (j e : Fin 8) (b : Fin 256), xo12 (ix4 0 j e b) = ((Xr j e b : ℝ) : EReal)) :
    Out N hp (i 1).val Xq Xr (Own.caseB c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo8 xo12 hc0) := by
  have I := last_inv c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 B (harg10.unread xo8) (harg14.unread xo12) Xq Xr (fun x c => by rw [Memref.IsWhole.read_unread]; exact hq x c) (fun j e b => by rw [Memref.IsWhole.read_unread]; exact hr j e b)
  have h4 : (i 1).val < 4 := (i 1).isLt
  refine ⟨fun x z => (congrFun (caseB_0 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0 xo8 xo12) (ix2 x z)).trans ((I.q x z).trans ?_),
    fun a z => (congrFun (caseB_1 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0 xo8 xo12) (ix2 a z)).trans
      (twoHeads_read VO0_9 _ _ _ (fun z a d => N.kC (2 * hp + z) (i 1).val (8 - 2 * (i 1).val) a d) I.k0 I.k1 a z),
    fun a z => (congrFun (caseB_2 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0 xo8 xo12) (ix2 a z)).trans
      (twoHeads_read VO0_10 _ _ _ (fun z a d => N.vC (2 * hp + z) (i 1).val (8 - 2 * (i 1).val) a d) I.v0 I.v1 a z),
    fun j e b => (congrFun (caseB_3 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0 xo8 xo12) (ix4 0 j e b)).trans
      (keyRows_read VO0_11 _ _ _ (fun z a d => N.fC (2 * hp + z) (i 1).val (8 - 2 * (i 1).val) a d) I.f0 I.f1 j e b),
    fun j e b => (congrFun (caseB_4 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0 xo8 xo12) (ix4 0 j e b)).trans ((I.r j e b).trans ?_)⟩
  · congr 2
    exact if_congr ⟨fun h => h.1, fun h => ⟨h, by omega⟩⟩ rfl rfl
  · congr 2
    exact if_congr ⟨fun h => ⟨h.1, h.2.1⟩, fun h => ⟨h.1, h.2, by omega⟩⟩ rfl rfl
end vals
end Cert.KernelIdeal.Hand
-- ==== Proof.Arr.lean ====
/- The kernel's blocks laid in the arrays: what every grid point reads, the chain of blocks along the key tiles, and the
   five result arrays after the run, as sums over the tiles. -/
module

public import proofs.«01_k».proof.Proof.Out

@[expose] public section

set_option maxRecDepth 16384

noncomputable section

namespace Cert.KernelIdeal.Hand

open Cert.KernelIdeal Cert.KernelIdeal.Gen Idealize.ShloMosaic Idealize.ShloMosaic.TcCoe Idealize.SL.Sem
  Idealize.ShloMosaic.Tactic Pipeline

theorem lt24 (t : Fin cfg0.N) : t.val < 24 := t.isLt
theorem coord1 : ∀ t : Fin cfg0.N, (grid0.coords t 1).val = t.val % 4 := by decide +kernel
theorem index0 : ∀ t : Fin cfg0.N, win0_0.index t 0 = 0 ∧ win0_0.index t 1 = t.val / 4 := by decide +kernel
theorem emb0 (t : Fin cfg0.N) (y0 : Fin 2048) (y1 : Fin 128) : ((cfg0.win 0).blk t).view.emb (ix2 y0 y1)
    = ix2 y0 ⟨128 * (t.val / 4) + y1.val, by have := lt24 t; omega⟩ := by
  have h := index0 t
  funext a
  refine Fin.ext ?_
  refine (Window.rect_emb_val win0_0 t (ix2 y0 y1) a).trans ?_
  match a with
  | ⟨0, _⟩ => show win0_0.index t 0 * 2048 + y0.val = y0.val; rw [h.1]; omega
  | ⟨1, _⟩ => show win0_0.index t 1 * 128 + y1.val = 128 * (t.val / 4) + y1.val; rw [h.2]; omega
theorem index1 : ∀ t : Fin cfg0.N, win0_1.index t 0 = t.val % 4 ∧ win0_1.index t 1 = t.val / 4 := by decide +kernel
theorem emb1 (t : Fin cfg0.N) (y0 : Fin 512) (y1 : Fin 128) : ((cfg0.win 1).blk t).view.emb (ix2 y0 y1)
    = ix2 ⟨512 * (t.val % 4) + y0.val, by have := lt24 t; omega⟩ ⟨128 * (t.val / 4) + y1.val, by have := lt24 t; omega⟩ := by
  have h := index1 t
  funext a
  refine Fin.ext ?_
  refine (Window.rect_emb_val win0_1 t (ix2 y0 y1) a).trans ?_
  match a with
  | ⟨0, _⟩ => show win0_1.index t 0 * 512 + y0.val = 512 * (t.val % 4) + y0.val; rw [h.1]; omega
  | ⟨1, _⟩ => show win0_1.index t 1 * 128 + y1.val = 128 * (t.val / 4) + y1.val; rw [h.2]; omega
theorem index2 : ∀ t : Fin cfg0.N, win0_2.index t 0 = t.val % 4 ∧ win0_2.index t 1 = t.val / 4 := by decide +kernel
theorem emb2 (t : Fin cfg0.N) (y0 : Fin 512) (y1 : Fin 128) : ((cfg0.win 2).blk t).view.emb (ix2 y0 y1)
    = ix2 ⟨512 * (t.val % 4) + y0.val, by have := lt24 t; omega⟩ ⟨128 * (t.val / 4) + y1.val, by have := lt24 t; omega⟩ := by
  have h := index2 t
  funext a
  refine Fin.ext ?_
  refine (Window.rect_emb_val win0_2 t (ix2 y0 y1) a).trans ?_
  match a with
  | ⟨0, _⟩ => show win0_2.index t 0 * 512 + y0.val = 512 * (t.val % 4) + y0.val; rw [h.1]; omega
  | ⟨1, _⟩ => show win0_2.index t 1 * 128 + y1.val = 128 * (t.val / 4) + y1.val; rw [h.2]; omega
theorem index3 : ∀ t : Fin cfg0.N, win0_3.index t 0 = t.val / 4 ∧ win0_3.index t 1 = t.val % 4 ∧ win0_3.index t 2 = 0 := by decide +kernel
theorem emb3 (t : Fin cfg0.N) (y0 : Fin 1) (y1 : Fin 512) (y2 : Fin 128) : ((cfg0.win 3).blk t).view.emb (ix3 y0 y1 y2)
    = ix3 ⟨t.val / 4, by have := lt24 t; omega⟩ ⟨512 * (t.val % 4) + y1.val, by have := lt24 t; omega⟩ y2 := by
  have h := index3 t
  funext a
  refine Fin.ext ?_
  refine (Window.rect_emb_val win0_3 t (ix3 y0 y1 y2) a).trans ?_
  match a with
  | ⟨0, _⟩ => show win0_3.index t 0 * 1 + y0.val = t.val / 4; rw [h.1]; omega
  | ⟨1, _⟩ => show win0_3.index t 1 * 512 + y1.val = 512 * (t.val % 4) + y1.val; rw [h.2.1]; omega
  | ⟨2, _⟩ => show win0_3.index t 2 * 128 + y2.val = y2.val; rw [h.2.2]; omega
theorem index4 : ∀ t : Fin cfg0.N, win0_4.index t 0 = t.val / 4 ∧ win0_4.index t 1 = 0 ∧ win0_4.index t 2 = 0 ∧ win0_4.index t 3 = 0 := by decide +kernel
theorem emb4 (t : Fin cfg0.N) (y0 : Fin 1) (y1 : Fin 8) (y2 : Fin 8) (y3 : Fin 256) : ((cfg0.win 4).blk t).view.emb (ix4 y0 y1 y2 y3)
    = ix4 ⟨t.val / 4, by have := lt24 t; omega⟩ y1 y2 y3 := by
  have h := index4 t
  funext a
  refine Fin.ext ?_
  refine (Window.rect_emb_val win0_4 t (ix4 y0 y1 y2 y3) a).trans ?_
  match a with
  | ⟨0, _⟩ => show win0_4.index t 0 * 1 + y0.val = t.val / 4; rw [h.1]; omega
  | ⟨1, _⟩ => show win0_4.index t 1 * 8 + y1.val = y1.val; rw [h.2.1]; omega
  | ⟨2, _⟩ => show win0_4.index t 2 * 8 + y2.val = y2.val; rw [h.2.2.1]; omega
  | ⟨3, _⟩ => show win0_4.index t 3 * 256 + y3.val = y3.val; rw [h.2.2.2]; omega
theorem index5 : ∀ t : Fin cfg0.N, win0_5.index t 0 = t.val / 4 ∧ win0_5.index t 1 = 0 ∧ win0_5.index t 2 = 0 ∧ win0_5.index t 3 = 0 := by decide +kernel
theorem emb5 (t : Fin cfg0.N) (y0 : Fin 1) (y1 : Fin 8) (y2 : Fin 8) (y3 : Fin 256) : ((cfg0.win 5).blk t).view.emb (ix4 y0 y1 y2 y3)
    = ix4 ⟨t.val / 4, by have := lt24 t; omega⟩ y1 y2 y3 := by
  have h := index5 t
  funext a
  refine Fin.ext ?_
  refine (Window.rect_emb_val win0_5 t (ix4 y0 y1 y2 y3) a).trans ?_
  match a with
  | ⟨0, _⟩ => show win0_5.index t 0 * 1 + y0.val = t.val / 4; rw [h.1]; omega
  | ⟨1, _⟩ => show win0_5.index t 1 * 8 + y1.val = y1.val; rw [h.2.1]; omega
  | ⟨2, _⟩ => show win0_5.index t 2 * 8 + y2.val = y2.val; rw [h.2.2.1]; omega
  | ⟨3, _⟩ => show win0_5.index t 3 * 256 + y3.val = y3.val; rw [h.2.2.2]; omega
theorem index6 : ∀ t : Fin cfg0.N, win0_6.index t 0 = t.val / 4 ∧ win0_6.index t 1 = 0 ∧ win0_6.index t 2 = 0 ∧ win0_6.index t 3 = 0 := by decide +kernel
theorem emb6 (t : Fin cfg0.N) (y0 : Fin 1) (y1 : Fin 8) (y2 : Fin 8) (y3 : Fin 256) : ((cfg0.win 6).blk t).view.emb (ix4 y0 y1 y2 y3)
    = ix4 ⟨t.val / 4, by have := lt24 t; omega⟩ y1 y2 y3 := by
  have h := index6 t
  funext a
  refine Fin.ext ?_
  refine (Window.rect_emb_val win0_6 t (ix4 y0 y1 y2 y3) a).trans ?_
  match a with
  | ⟨0, _⟩ => show win0_6.index t 0 * 1 + y0.val = t.val / 4; rw [h.1]; omega
  | ⟨1, _⟩ => show win0_6.index t 1 * 8 + y1.val = y1.val; rw [h.2.1]; omega
  | ⟨2, _⟩ => show win0_6.index t 2 * 8 + y2.val = y2.val; rw [h.2.2.1]; omega
  | ⟨3, _⟩ => show win0_6.index t 3 * 256 + y3.val = y3.val; rw [h.2.2.2]; omega
theorem index7 : ∀ t : Fin cfg0.N, win0_7.index t 0 = 0 ∧ win0_7.index t 1 = t.val / 4 := by decide +kernel
theorem emb7 (t : Fin cfg0.N) (y0 : Fin 2048) (y1 : Fin 128) : ((cfg0.win 7).blk t).view.emb (ix2 y0 y1)
    = ix2 y0 ⟨128 * (t.val / 4) + y1.val, by have := lt24 t; omega⟩ := by
  have h := index7 t
  funext a
  refine Fin.ext ?_
  refine (Window.rect_emb_val win0_7 t (ix2 y0 y1) a).trans ?_
  match a with
  | ⟨0, _⟩ => show win0_7.index t 0 * 2048 + y0.val = y0.val; rw [h.1]; omega
  | ⟨1, _⟩ => show win0_7.index t 1 * 128 + y1.val = 128 * (t.val / 4) + y1.val; rw [h.2]; omega
theorem index8 : ∀ t : Fin cfg0.N, win0_8.index t 0 = 0 ∧ win0_8.index t 1 = t.val / 4 := by decide +kernel
theorem emb8 (t : Fin cfg0.N) (y0 : Fin 2048) (y1 : Fin 128) : ((cfg0.win 8).blk t).view.emb (ix2 y0 y1)
    = ix2 y0 ⟨128 * (t.val / 4) + y1.val, by have := lt24 t; omega⟩ := by
  have h := index8 t
  funext a
  refine Fin.ext ?_
  refine (Window.rect_emb_val win0_8 t (ix2 y0 y1) a).trans ?_
  match a with
  | ⟨0, _⟩ => show win0_8.index t 0 * 2048 + y0.val = y0.val; rw [h.1]; omega
  | ⟨1, _⟩ => show win0_8.index t 1 * 128 + y1.val = 128 * (t.val / 4) + y1.val; rw [h.2]; omega
theorem index9 : ∀ t : Fin cfg0.N, win0_9.index t 0 = t.val % 4 ∧ win0_9.index t 1 = t.val / 4 := by decide +kernel
theorem emb9 (t : Fin cfg0.N) (y0 : Fin 512) (y1 : Fin 128) : ((cfg0.win 9).blk t).view.emb (ix2 y0 y1)
    = ix2 ⟨512 * (t.val % 4) + y0.val, by have := lt24 t; omega⟩ ⟨128 * (t.val / 4) + y1.val, by have := lt24 t; omega⟩ := by
  have h := index9 t
  funext a
  refine Fin.ext ?_
  refine (Window.rect_emb_val win0_9 t (ix2 y0 y1) a).trans ?_
  match a with
  | ⟨0, _⟩ => show win0_9.index t 0 * 512 + y0.val = 512 * (t.val % 4) + y0.val; rw [h.1]; omega
  | ⟨1, _⟩ => show win0_9.index t 1 * 128 + y1.val = 128 * (t.val / 4) + y1.val; rw [h.2]; omega
theorem index10 : ∀ t : Fin cfg0.N, win0_10.index t 0 = t.val % 4 ∧ win0_10.index t 1 = t.val / 4 := by decide +kernel
theorem emb10 (t : Fin cfg0.N) (y0 : Fin 512) (y1 : Fin 128) : ((cfg0.win 10).blk t).view.emb (ix2 y0 y1)
    = ix2 ⟨512 * (t.val % 4) + y0.val, by have := lt24 t; omega⟩ ⟨128 * (t.val / 4) + y1.val, by have := lt24 t; omega⟩ := by
  have h := index10 t
  funext a
  refine Fin.ext ?_
  refine (Window.rect_emb_val win0_10 t (ix2 y0 y1) a).trans ?_
  match a with
  | ⟨0, _⟩ => show win0_10.index t 0 * 512 + y0.val = 512 * (t.val % 4) + y0.val; rw [h.1]; omega
  | ⟨1, _⟩ => show win0_10.index t 1 * 128 + y1.val = 128 * (t.val / 4) + y1.val; rw [h.2]; omega
theorem index11 : ∀ t : Fin cfg0.N, win0_11.index t 0 = t.val / 4 ∧ win0_11.index t 1 = t.val % 4 ∧ win0_11.index t 2 = 0 ∧ win0_11.index t 3 = 0 := by decide +kernel
theorem emb11 (t : Fin cfg0.N) (y0 : Fin 1) (y1 : Fin 2) (y2 : Fin 8) (y3 : Fin 256) : ((cfg0.win 11).blk t).view.emb (ix4 y0 y1 y2 y3)
    = ix4 ⟨t.val / 4, by have := lt24 t; omega⟩ ⟨2 * (t.val % 4) + y1.val, by have := lt24 t; omega⟩ y2 y3 := by
  have h := index11 t
  funext a
  refine Fin.ext ?_
  refine (Window.rect_emb_val win0_11 t (ix4 y0 y1 y2 y3) a).trans ?_
  match a with
  | ⟨0, _⟩ => show win0_11.index t 0 * 1 + y0.val = t.val / 4; rw [h.1]; omega
  | ⟨1, _⟩ => show win0_11.index t 1 * 2 + y1.val = 2 * (t.val % 4) + y1.val; rw [h.2.1]; omega
  | ⟨2, _⟩ => show win0_11.index t 2 * 8 + y2.val = y2.val; rw [h.2.2.1]; omega
  | ⟨3, _⟩ => show win0_11.index t 3 * 256 + y3.val = y3.val; rw [h.2.2.2]; omega
theorem index12 : ∀ t : Fin cfg0.N, win0_12.index t 0 = t.val / 4 ∧ win0_12.index t 1 = 0 ∧ win0_12.index t 2 = 0 ∧ win0_12.index t 3 = 0 := by decide +kernel
theorem emb12 (t : Fin cfg0.N) (y0 : Fin 1) (y1 : Fin 8) (y2 : Fin 8) (y3 : Fin 256) : ((cfg0.win 12).blk t).view.emb (ix4 y0 y1 y2 y3)
    = ix4 ⟨t.val / 4, by have := lt24 t; omega⟩ y1 y2 y3 := by
  have h := index12 t
  funext a
  refine Fin.ext ?_
  refine (Window.rect_emb_val win0_12 t (ix4 y0 y1 y2 y3) a).trans ?_
  match a with
  | ⟨0, _⟩ => show win0_12.index t 0 * 1 + y0.val = t.val / 4; rw [h.1]; omega
  | ⟨1, _⟩ => show win0_12.index t 1 * 8 + y1.val = y1.val; rw [h.2.1]; omega
  | ⟨2, _⟩ => show win0_12.index t 2 * 8 + y2.val = y2.val; rw [h.2.2.1]; omega
  | ⟨3, _⟩ => show win0_12.index t 3 * 256 + y3.val = y3.val; rw [h.2.2.2]; omega

variable {N : Nums} (m : (l : Loc nD τ sig) → Buf (Elt Ideal) l) (c : Dev nD)

/-- What the arrays hold as the kernel finds them: the rows of `N`, in the kernel's layouts. -/
structure Arr (N : Nums) : Prop where
  a0 : ∀ (r : Fin 2048) (x : Fin 768), (V (F := Ideal) m c main_arg0 : FVec Ideal S2048x768 .f32) (ix2 r x) = ((N.Q r x : ℝ) : EReal)
  a1 : ∀ (r : Fin 2048) (x : Fin 768), (V (F := Ideal) m c main_arg1 : FVec Ideal S2048x768 .f32) (ix2 r x) = ((N.K r x : ℝ) : EReal)
  a2 : ∀ (r : Fin 2048) (x : Fin 768), (V (F := Ideal) m c main_arg2 : FVec Ideal S2048x768 .f32) (ix2 r x) = ((N.V r x : ℝ) : EReal)
  a3 : ∀ (h : Fin 6) (r : Fin 2048) (x : Fin 128), (V (F := Ideal) m c main_v4 : FVec Ideal S6x2048x128 .f32) (ix3 h r x) = ((N.C (2 * h + x / 64) r : ℝ) : EReal)
  a4 : ∀ (h : Fin 6) (j e : Fin 8) (b : Fin 256), e.val < 2 → (V (F := Ideal) m c main_v8 : FVec Ideal S6x8x8x256 .f32) (ix4 h j e b) = ((N.C (2 * h + e) (256 * j + b) : ℝ) : EReal)
  a5 : ∀ (h : Fin 6) (j e : Fin 8) (b : Fin 256), e.val < 2 → (V (F := Ideal) m c main_v49 : FVec Ideal S6x8x8x256 .f32) (ix4 h j e b) = ((N.D (2 * h + e) (256 * j + b) : ℝ) : EReal)
  a6 : ∀ (h : Fin 6) (j e : Fin 8) (b : Fin 256), e.val < 2 → (V (F := Ideal) m c main_v52 : FVec Ideal S6x8x8x256 .f32) (ix4 h j e b) = ((N.L (2 * h + e) (256 * j + b) : ℝ) : EReal)
  a7 : ∀ (r : Fin 2048) (x : Fin 768), (V (F := Ideal) m c main_arg4 : FVec Ideal S2048x768 .f32) (ix2 r x) = ((N.O r x : ℝ) : EReal)

theorem in0 (t : Fin cfg0.N) (y0 : Fin 2048) (y1 : Fin 128) : (iblk m c 0 t : FVec Ideal S2048x128 .f32) (ix2 y0 y1)
    = (V (F := Ideal) m c main_arg0 : FVec Ideal S2048x768 .f32) (ix2 y0 ⟨128 * (t.val / 4) + y1.val, by have := lt24 t; omega⟩) := by
  unfold iblk
  rw [← emb0]
  rfl
theorem in1 (t : Fin cfg0.N) (y0 : Fin 512) (y1 : Fin 128) : (iblk m c 1 t : FVec Ideal S512x128 .f32) (ix2 y0 y1)
    = (V (F := Ideal) m c main_arg1 : FVec Ideal S2048x768 .f32) (ix2 ⟨512 * (t.val % 4) + y0.val, by have := lt24 t; omega⟩ ⟨128 * (t.val / 4) + y1.val, by have := lt24 t; omega⟩) := by
  unfold iblk
  rw [← emb1]
  rfl
theorem in2 (t : Fin cfg0.N) (y0 : Fin 512) (y1 : Fin 128) : (iblk m c 2 t : FVec Ideal S512x128 .f32) (ix2 y0 y1)
    = (V (F := Ideal) m c main_arg2 : FVec Ideal S2048x768 .f32) (ix2 ⟨512 * (t.val % 4) + y0.val, by have := lt24 t; omega⟩ ⟨128 * (t.val / 4) + y1.val, by have := lt24 t; omega⟩) := by
  unfold iblk
  rw [← emb2]
  rfl
theorem in3 (t : Fin cfg0.N) (y0 : Fin 1) (y1 : Fin 512) (y2 : Fin 128) : (iblk m c 3 t : FVec Ideal S1x512x128 .f32) (ix3 y0 y1 y2)
    = (V (F := Ideal) m c main_v4 : FVec Ideal S6x2048x128 .f32) (ix3 ⟨t.val / 4, by have := lt24 t; omega⟩ ⟨512 * (t.val % 4) + y1.val, by have := lt24 t; omega⟩ y2) := by
  unfold iblk
  rw [← emb3]
  rfl
theorem in4 (t : Fin cfg0.N) (y0 : Fin 1) (y1 : Fin 8) (y2 : Fin 8) (y3 : Fin 256) : (iblk m c 4 t : FVec Ideal S1x8x8x256 .f32) (ix4 y0 y1 y2 y3)
    = (V (F := Ideal) m c main_v8 : FVec Ideal S6x8x8x256 .f32) (ix4 ⟨t.val / 4, by have := lt24 t; omega⟩ y1 y2 y3) := by
  unfold iblk
  rw [← emb4]
  rfl
theorem in5 (t : Fin cfg0.N) (y0 : Fin 1) (y1 : Fin 8) (y2 : Fin 8) (y3 : Fin 256) : (iblk m c 5 t : FVec Ideal S1x8x8x256 .f32) (ix4 y0 y1 y2 y3)
    = (V (F := Ideal) m c main_v49 : FVec Ideal S6x8x8x256 .f32) (ix4 ⟨t.val / 4, by have := lt24 t; omega⟩ y1 y2 y3) := by
  unfold iblk
  rw [← emb5]
  rfl
theorem in6 (t : Fin cfg0.N) (y0 : Fin 1) (y1 : Fin 8) (y2 : Fin 8) (y3 : Fin 256) : (iblk m c 6 t : FVec Ideal S1x8x8x256 .f32) (ix4 y0 y1 y2 y3)
    = (V (F := Ideal) m c main_v52 : FVec Ideal S6x8x8x256 .f32) (ix4 ⟨t.val / 4, by have := lt24 t; omega⟩ y1 y2 y3) := by
  unfold iblk
  rw [← emb6]
  rfl
theorem in7 (t : Fin cfg0.N) (y0 : Fin 2048) (y1 : Fin 128) : (iblk m c 7 t : FVec Ideal S2048x128 .f32) (ix2 y0 y1)
    = (V (F := Ideal) m c main_arg4 : FVec Ideal S2048x768 .f32) (ix2 y0 ⟨128 * (t.val / 4) + y1.val, by have := lt24 t; omega⟩) := by
  unfold iblk
  rw [← emb7]
  rfl

/-- The eight blocks of point `t`. -/
theorem blk_at (A : Arr m c N) (t : Fin cfg0.N) : Blk N (t.val / 4) (grid0.coords t 1).val (iblk m c 0 t) (iblk m c 1 t) (iblk m c 2 t) (iblk m c 3 t)
    (iblk m c 4 t) (iblk m c 5 t) (iblk m c 6 t) (iblk m c 7 t) := by
  rw [coord1]
  refine ⟨?_, ?_, ?_, ?_, ?_, ?_, ?_, ?_⟩
  · intro r d; exact (in0 m c t r d).trans (A.a0 _ _)
  · intro r d; exact (in1 m c t r d).trans (A.a1 _ _)
  · intro r d; exact (in2 m c t r d).trans (A.a2 _ _)
  · intro r d; exact (in3 m c t 0 r d).trans (A.a3 _ _ _)
  · intro j e b he; exact (in4 m c t 0 j e b).trans (A.a4 _ _ _ _ he)
  · intro j e b he; exact (in5 m c t 0 j e b).trans (A.a5 _ _ _ _ he)
  · intro j e b he; exact (in6 m c t 0 j e b).trans (A.a6 _ _ _ _ he)
  · intro r d; exact (in7 m c t r d).trans (A.a7 _ _)

/-- The query gradient's block of head pair `hp` after `n` key tiles. -/
def accQ (N : Nums) (hp n x c : ℕ) : ℝ := ∑ k ∈ Finset.range n, if 512 * k ≤ x then N.qC hp k x c else 0
/-- The query row sums' block of head pair `hp` after `n` key tiles. -/
def accR (N : Nums) (hp n j e b : ℕ) : ℝ :=
  ∑ k ∈ Finset.range n, if e < 2 ∧ 2 * k ≤ j then N.rC (2 * hp + e) k (256 * j + b) else 0

theorem outs_first (A : Arr m c N) (t : Fin cfg0.N) (h0 : t.val % 4 = 0) :
    Out N (t.val / 4) (t.val % 4) (fun _ _ => 0) (fun _ _ _ => 0) (Own.outs m c t.val t.isLt) := by
  rw [Own.outs_A m c t h0, ← coord1 t]
  unfold Own.ptA
  exact outA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (blk_at m c A t) ((hcond0_0 t).mpr h0)

theorem outs_next (A : Arr m c N) (t : Fin cfg0.N) (h0 : ¬t.val % 4 = 0) (Xq : ℕ → ℕ → ℝ) (Xr : ℕ → ℕ → ℕ → ℝ)
    (hq : ∀ (x : Fin 2048) (z : Fin 128), (Own.prev m c t).1 (ix2 x z) = ((Xq x z : ℝ) : EReal))
    (hr : ∀ (j e : Fin 8) (b : Fin 256), (Own.prev m c t).2.2.2.2 (ix4 0 j e b) = ((Xr j e b : ℝ) : EReal)) :
    Out N (t.val / 4) (t.val % 4) Xq Xr (Own.outs m c t.val t.isLt) := by
  rw [Own.outs_B m c t h0, ← coord1 t]
  unfold Own.ptB
  exact outB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (blk_at m c A t) (fun h => h0 ((hcond0_0 t).mp h)) _ _ Xq Xr hq hr

/-- The five blocks after point `n`: the query gradient's and the query sums' hold the key tiles so far. -/
theorem outs_val (A : Arr m c N) : ∀ (n : ℕ) (hn : n < cfg0.N),
    Out N (n / 4) (n % 4) (accQ N (n / 4) (n % 4)) (accR N (n / 4) (n % 4)) (Own.outs m c n hn) := by
  intro n
  induction n with
  | zero =>
    intro hn
    have h := outs_first m c A ⟨0, hn⟩ rfl
    refine ⟨fun x z => (h.q x z).trans ?_, h.k, h.v, h.s, fun j e b => (h.r j e b).trans ?_⟩
    · simp [accQ]
    · simp [accR]
  | succ n ih =>
    intro hn
    by_cases h0 : (n + 1) % 4 = 0
    · have h := outs_first m c A ⟨n + 1, hn⟩ h0
      refine ⟨fun x z => (h.q x z).trans ?_, h.k, h.v, h.s, fun j e b => (h.r j e b).trans ?_⟩
      · rw [h0]; simp [accQ]
      · rw [h0]; simp [accR]
    · have hp := ih (Nat.lt_of_succ_lt hn)
      have e1 : (n + 1) / 4 = n / 4 := by omega
      have e2 : (n + 1) % 4 = n % 4 + 1 := by omega
      refine outs_next m c A ⟨n + 1, hn⟩ h0 _ _ (fun x z => (hp.q x z).trans ?_) (fun j e b => (hp.r j e b).trans ?_)
      · show _ = ((accQ N ((n + 1) / 4) ((n + 1) % 4) x z : ℝ) : EReal)
        rw [e1, e2]; unfold accQ; rw [Finset.sum_range_succ]
      · show _ = ((accR N ((n + 1) / 4) ((n + 1) % 4) j e b : ℝ) : EReal)
        rw [e1, e2]; unfold accR; rw [Finset.sum_range_succ]

/-! ## The arrays after the run -/

/-- The gradient of query row `r` at column `x`, by key tiles. -/
def fQ (N : Nums) (r x : ℕ) : ℝ := accQ N (x / 128) 4 r (x % 128)
/-- The gradient of key row `r` at column `x`, by query blocks. -/
def fK (N : Nums) (r x : ℕ) : ℝ := N.kC (x / 64) (r / 512) (8 - 2 * (r / 512)) (r % 512) (x % 64)
/-- The gradient of value row `r` at column `x`, by query blocks. -/
def fV (N : Nums) (r x : ℕ) : ℝ := N.vC (x / 64) (r / 512) (8 - 2 * (r / 512)) (r % 512) (x % 64)
/-- The key side of the gate gradient for head pair `h`, at block `j`, row `e`, lane `b`. -/
def fS (N : Nums) (h j e b : ℕ) : ℝ :=
  if e < 2 then -∑ z : Fin 128, N.fC (2 * h + e) (j / 2) (8 - 2 * (j / 2)) (256 * (j % 2) + b) z else 0
/-- The query side of the gate gradient for head pair `h`, at block `j`, row `e`, lane `b`. -/
def fR (N : Nums) (h j e b : ℕ) : ℝ := accR N h 4 j e b

theorem flushed8 (A : Arr m c N) (t : Fin cfg0.N) (hf : (cfg0.win 8).flush t = true) (y0 : Fin 2048) (y1 : Fin 128) :
    ((Own.outs m c t.val t.isLt).1 : FVec Ideal S2048x128 .f32) (ix2 y0 y1) = ((fQ N y0.val (128 * (t.val / 4) + y1.val) : ℝ) : EReal) := by
  have h3 : t.val % 4 = 3 := (flush0_8 t).mp hf
  have h24 := lt24 t
  refine ((outs_val m c A t.val t.isLt).q y0 y1).trans ?_
  unfold fQ
  rw [show (128 * (t.val / 4) + y1.val) / 128 = t.val / 4 by omega, show (128 * (t.val / 4) + y1.val) % 128 = y1.val by omega, h3]
  unfold accQ
  rw [Finset.sum_range_succ _ 3]
/-- Result 0 after the run. -/
theorem arr8 (A : Arr m c N) (r : Fin 2048) (x : Fin 768) :
    ((Own.dats m 0 c).arrAt 8 cfg0.N : FVec Ideal S2048x768 .f32) (ix2 r x) = ((fQ N r x : ℝ) : EReal) := by
  have hlt : 4 * (x.val / 128) + 3 < cfg0.N := by show 4 * (x.val / 128) + 3 < 24; omega
  refine (Own.dats m 0 c).arrAt_forall_of_flushed 8 (fun i v => (v : EReal) = ((fQ N (i 0).val (i 1).val : ℝ) : EReal)) ?_ cfg0.N ⟨4 * (x.val / 128) + 3, hlt⟩ (ix2 r x) hlt ((flush0_8 _).mpr (by show (4 * (x.val / 128) + 3) % 4 = 3; omega)) ?_
  · intro t hf y
    obtain ⟨y0, y1, rfl⟩ : ∃ (y0 : Fin 2048) (y1 : Fin 128), y = ix2 y0 y1 := ⟨y 0, y 1, eq_ix2 y⟩
    show (fun (i : S2048x768.Idx) => ((Own.outs m c t.val t.isLt).1 : FVec Ideal S2048x128 .f32) (ix2 y0 y1) = ((fQ N (i 0).val (i 1).val : ℝ) : EReal)) (((cfg0.win 8).blk t).view.emb (ix2 y0 y1))
    rw [emb8]
    exact flushed8 m c A t hf y0 y1
  · refine Finset.mem_map.mpr ⟨ix2 r ⟨x.val % 128, by omega⟩, Finset.mem_univ _, (emb8 ⟨4 * (x.val / 128) + 3, hlt⟩ r ⟨x.val % 128, by omega⟩).trans ?_⟩
    refine funext fun a => Fin.ext ?_
    match a with
    | ⟨0, _⟩ => show r.val = r.val; omega
    | ⟨1, _⟩ => show 128 * ((4 * (x.val / 128) + 3) / 4) + x.val % 128 = x.val; omega

theorem flushed9 (A : Arr m c N) (t : Fin cfg0.N) (hf : (cfg0.win 9).flush t = true) (y0 : Fin 512) (y1 : Fin 128) :
    ((Own.outs m c t.val t.isLt).2.1 : FVec Ideal S512x128 .f32) (ix2 y0 y1) = ((fK N (512 * (t.val % 4) + y0.val) (128 * (t.val / 4) + y1.val) : ℝ) : EReal) := by
  have h24 := lt24 t
  refine ((outs_val m c A t.val t.isLt).k y0 y1).trans ?_
  unfold fK
  rw [show (128 * (t.val / 4) + y1.val) / 64 = 2 * (t.val / 4) + y1.val / 64 by omega, show (128 * (t.val / 4) + y1.val) % 64 = y1.val % 64 by omega,
    show (512 * (t.val % 4) + y0.val) / 512 = t.val % 4 by omega, show (512 * (t.val % 4) + y0.val) % 512 = y0.val by omega]
/-- Result 1 after the run. -/
theorem arr9 (A : Arr m c N) (r : Fin 2048) (x : Fin 768) :
    ((Own.dats m 0 c).arrAt 9 cfg0.N : FVec Ideal S2048x768 .f32) (ix2 r x) = ((fK N r x : ℝ) : EReal) := by
  have hlt : 4 * (x.val / 128) + r.val / 512 < cfg0.N := by show 4 * (x.val / 128) + r.val / 512 < 24; omega
  refine (Own.dats m 0 c).arrAt_forall_of_flushed 9 (fun i v => (v : EReal) = ((fK N (i 0).val (i 1).val : ℝ) : EReal)) ?_ cfg0.N ⟨4 * (x.val / 128) + r.val / 512, hlt⟩ (ix2 r x) hlt (flush0_9 _) ?_
  · intro t hf y
    obtain ⟨y0, y1, rfl⟩ : ∃ (y0 : Fin 512) (y1 : Fin 128), y = ix2 y0 y1 := ⟨y 0, y 1, eq_ix2 y⟩
    show (fun (i : S2048x768.Idx) => ((Own.outs m c t.val t.isLt).2.1 : FVec Ideal S512x128 .f32) (ix2 y0 y1) = ((fK N (i 0).val (i 1).val : ℝ) : EReal)) (((cfg0.win 9).blk t).view.emb (ix2 y0 y1))
    rw [emb9]
    exact flushed9 m c A t hf y0 y1
  · refine Finset.mem_map.mpr ⟨ix2 ⟨r.val % 512, by omega⟩ ⟨x.val % 128, by omega⟩, Finset.mem_univ _, (emb9 ⟨4 * (x.val / 128) + r.val / 512, hlt⟩ ⟨r.val % 512, by omega⟩ ⟨x.val % 128, by omega⟩).trans ?_⟩
    refine funext fun a => Fin.ext ?_
    match a with
    | ⟨0, _⟩ => show 512 * ((4 * (x.val / 128) + r.val / 512) % 4) + r.val % 512 = r.val; omega
    | ⟨1, _⟩ => show 128 * ((4 * (x.val / 128) + r.val / 512) / 4) + x.val % 128 = x.val; omega

theorem flushed10 (A : Arr m c N) (t : Fin cfg0.N) (hf : (cfg0.win 10).flush t = true) (y0 : Fin 512) (y1 : Fin 128) :
    ((Own.outs m c t.val t.isLt).2.2.1 : FVec Ideal S512x128 .f32) (ix2 y0 y1) = ((fV N (512 * (t.val % 4) + y0.val) (128 * (t.val / 4) + y1.val) : ℝ) : EReal) := by
  have h24 := lt24 t
  refine ((outs_val m c A t.val t.isLt).v y0 y1).trans ?_
  unfold fV
  rw [show (128 * (t.val / 4) + y1.val) / 64 = 2 * (t.val / 4) + y1.val / 64 by omega, show (128 * (t.val / 4) + y1.val) % 64 = y1.val % 64 by omega,
    show (512 * (t.val % 4) + y0.val) / 512 = t.val % 4 by omega, show (512 * (t.val % 4) + y0.val) % 512 = y0.val by omega]
/-- Result 2 after the run. -/
theorem arr10 (A : Arr m c N) (r : Fin 2048) (x : Fin 768) :
    ((Own.dats m 0 c).arrAt 10 cfg0.N : FVec Ideal S2048x768 .f32) (ix2 r x) = ((fV N r x : ℝ) : EReal) := by
  have hlt : 4 * (x.val / 128) + r.val / 512 < cfg0.N := by show 4 * (x.val / 128) + r.val / 512 < 24; omega
  refine (Own.dats m 0 c).arrAt_forall_of_flushed 10 (fun i v => (v : EReal) = ((fV N (i 0).val (i 1).val : ℝ) : EReal)) ?_ cfg0.N ⟨4 * (x.val / 128) + r.val / 512, hlt⟩ (ix2 r x) hlt (flush0_10 _) ?_
  · intro t hf y
    obtain ⟨y0, y1, rfl⟩ : ∃ (y0 : Fin 512) (y1 : Fin 128), y = ix2 y0 y1 := ⟨y 0, y 1, eq_ix2 y⟩
    show (fun (i : S2048x768.Idx) => ((Own.outs m c t.val t.isLt).2.2.1 : FVec Ideal S512x128 .f32) (ix2 y0 y1) = ((fV N (i 0).val (i 1).val : ℝ) : EReal)) (((cfg0.win 10).blk t).view.emb (ix2 y0 y1))
    rw [emb10]
    exact flushed10 m c A t hf y0 y1
  · refine Finset.mem_map.mpr ⟨ix2 ⟨r.val % 512, by omega⟩ ⟨x.val % 128, by omega⟩, Finset.mem_univ _, (emb10 ⟨4 * (x.val / 128) + r.val / 512, hlt⟩ ⟨r.val % 512, by omega⟩ ⟨x.val % 128, by omega⟩).trans ?_⟩
    refine funext fun a => Fin.ext ?_
    match a with
    | ⟨0, _⟩ => show 512 * ((4 * (x.val / 128) + r.val / 512) % 4) + r.val % 512 = r.val; omega
    | ⟨1, _⟩ => show 128 * ((4 * (x.val / 128) + r.val / 512) / 4) + x.val % 128 = x.val; omega

theorem flushed11 (A : Arr m c N) (t : Fin cfg0.N) (hf : (cfg0.win 11).flush t = true) (y0 : Fin 1) (y1 : Fin 2) (y2 : Fin 8) (y3 : Fin 256) :
    ((Own.outs m c t.val t.isLt).2.2.2.1 : FVec Ideal S1x2x8x256 .f32) (ix4 y0 y1 y2 y3) = ((fS N (t.val / 4) (2 * (t.val % 4) + y1.val) y2.val y3.val : ℝ) : EReal) := by
  have h24 := lt24 t
  have hz := y0.isLt
  refine (congrArg ((Own.outs m c t.val t.isLt).2.2.2.1 : FVec Ideal S1x2x8x256 .f32) (congrArg (ix4 · y1 y2 y3) (show y0 = 0 by omega))).trans (((outs_val m c A t.val t.isLt).s y1 y2 y3).trans ?_)
  unfold fS
  rw [show (2 * (t.val % 4) + y1.val) / 2 = t.val % 4 by omega, show (2 * (t.val % 4) + y1.val) % 2 = y1.val by omega]
/-- Result 3 after the run. -/
theorem arr11 (A : Arr m c N) (h : Fin 6) (j : Fin 8) (e : Fin 8) (b : Fin 256) :
    ((Own.dats m 0 c).arrAt 11 cfg0.N : FVec Ideal S6x8x8x256 .f32) (ix4 h j e b) = ((fS N h j e b : ℝ) : EReal) := by
  have hlt : 4 * h.val + j.val / 2 < cfg0.N := by show 4 * h.val + j.val / 2 < 24; omega
  refine (Own.dats m 0 c).arrAt_forall_of_flushed 11 (fun i v => (v : EReal) = ((fS N (i 0).val (i 1).val (i 2).val (i 3).val : ℝ) : EReal)) ?_ cfg0.N ⟨4 * h.val + j.val / 2, hlt⟩ (ix4 h j e b) hlt (flush0_11 _) ?_
  · intro t hf y
    obtain ⟨y0, y1, y2, y3, rfl⟩ : ∃ (y0 : Fin 1) (y1 : Fin 2) (y2 : Fin 8) (y3 : Fin 256), y = ix4 y0 y1 y2 y3 := ⟨y 0, y 1, y 2, y 3, eq_ix4 y⟩
    show (fun (i : S6x8x8x256.Idx) => ((Own.outs m c t.val t.isLt).2.2.2.1 : FVec Ideal S1x2x8x256 .f32) (ix4 y0 y1 y2 y3) = ((fS N (i 0).val (i 1).val (i 2).val (i 3).val : ℝ) : EReal)) (((cfg0.win 11).blk t).view.emb (ix4 y0 y1 y2 y3))
    rw [emb11]
    exact flushed11 m c A t hf y0 y1 y2 y3
  · refine Finset.mem_map.mpr ⟨ix4 0 ⟨j.val % 2, by omega⟩ e b, Finset.mem_univ _, (emb11 ⟨4 * h.val + j.val / 2, hlt⟩ 0 ⟨j.val % 2, by omega⟩ e b).trans ?_⟩
    refine funext fun a => Fin.ext ?_
    match a with
    | ⟨0, _⟩ => show (4 * h.val + j.val / 2) / 4 = h.val; omega
    | ⟨1, _⟩ => show 2 * ((4 * h.val + j.val / 2) % 4) + j.val % 2 = j.val; omega
    | ⟨2, _⟩ => show e.val = e.val; omega
    | ⟨3, _⟩ => show b.val = b.val; omega

theorem flushed12 (A : Arr m c N) (t : Fin cfg0.N) (hf : (cfg0.win 12).flush t = true) (y0 : Fin 1) (y1 : Fin 8) (y2 : Fin 8) (y3 : Fin 256) :
    ((Own.outs m c t.val t.isLt).2.2.2.2 : FVec Ideal S1x8x8x256 .f32) (ix4 y0 y1 y2 y3) = ((fR N (t.val / 4) y1.val y2.val y3.val : ℝ) : EReal) := by
  have h3 : t.val % 4 = 3 := (flush0_12 t).mp hf
  have h24 := lt24 t
  have hz := y0.isLt
  refine (congrArg ((Own.outs m c t.val t.isLt).2.2.2.2 : FVec Ideal S1x8x8x256 .f32) (congrArg (ix4 · y1 y2 y3) (show y0 = 0 by omega))).trans (((outs_val m c A t.val t.isLt).r y1 y2 y3).trans ?_)
  unfold fR
  rw [h3]
  unfold accR
  rw [Finset.sum_range_succ _ 3]
/-- Result 4 after the run. -/
theorem arr12 (A : Arr m c N) (h : Fin 6) (j : Fin 8) (e : Fin 8) (b : Fin 256) :
    ((Own.dats m 0 c).arrAt 12 cfg0.N : FVec Ideal S6x8x8x256 .f32) (ix4 h j e b) = ((fR N h j e b : ℝ) : EReal) := by
  have hlt : 4 * h.val + 3 < cfg0.N := by show 4 * h.val + 3 < 24; omega
  refine (Own.dats m 0 c).arrAt_forall_of_flushed 12 (fun i v => (v : EReal) = ((fR N (i 0).val (i 1).val (i 2).val (i 3).val : ℝ) : EReal)) ?_ cfg0.N ⟨4 * h.val + 3, hlt⟩ (ix4 h j e b) hlt ((flush0_12 _).mpr (by show (4 * h.val + 3) % 4 = 3; omega)) ?_
  · intro t hf y
    obtain ⟨y0, y1, y2, y3, rfl⟩ : ∃ (y0 : Fin 1) (y1 : Fin 8) (y2 : Fin 8) (y3 : Fin 256), y = ix4 y0 y1 y2 y3 := ⟨y 0, y 1, y 2, y 3, eq_ix4 y⟩
    show (fun (i : S6x8x8x256.Idx) => ((Own.outs m c t.val t.isLt).2.2.2.2 : FVec Ideal S1x8x8x256 .f32) (ix4 y0 y1 y2 y3) = ((fR N (i 0).val (i 1).val (i 2).val (i 3).val : ℝ) : EReal)) (((cfg0.win 12).blk t).view.emb (ix4 y0 y1 y2 y3))
    rw [emb12]
    exact flushed12 m c A t hf y0 y1 y2 y3
  · refine Finset.mem_map.mpr ⟨ix4 0 j e b, Finset.mem_univ _, (emb12 ⟨4 * h.val + 3, hlt⟩ 0 j e b).trans ?_⟩
    refine funext fun a => Fin.ext ?_
    match a with
    | ⟨0, _⟩ => show (4 * h.val + 3) / 4 = h.val; omega
    | ⟨1, _⟩ => show j.val = j.val; omega
    | ⟨2, _⟩ => show e.val = e.val; omega
    | ⟨3, _⟩ => show b.val = b.val; omega
end Cert.KernelIdeal.Hand
-- ==== Proof.Host.lean ====
/- The arrays that the host lines before the call leave for it: the gate's sums as columns and as rows, the log-sums and
   the row sums, with the real numbers they hold. -/
module

public import proofs.«01_k».proof.Proof.Arr
public import proofs.«01_k».proof.Proof.Score

@[expose] public section

set_option maxRecDepth 16384

noncomputable section

namespace Cert.KernelIdeal.Hand

open Cert.KernelIdeal Cert.KernelIdeal.Gen Idealize.ShloMosaic Idealize.ShloMosaic.TcCoe Idealize.SL.Sem
  Idealize.ShloMosaic.Tactic
open Cert.ReferenceIdeal.Read

/-- The gate's sums as the kernel's columns hold them. -/
def cols (x3 : FVec Ideal S2048x128 .f32) : FVec Ideal S6x2048x128 .f32 :=
  transpose S6x2048x128 [1, 0, 2]
    (shapeCast S2048x6x128 (shapeCast S2048x768
      (broadcastInDim S2048x12x64 ![0, 1] bcast_S2048x12_S2048x12x64_0_1 (extractStridedSlice S2048x12 ![0, 0] x3 slices_S2048x128_S2048x12_0_0))
      shapeCasts_S2048x12x64_S2048x768) shapeCasts_S2048x768_S2048x6x128) transposes_S2048x6x128_S6x2048x128_1_0_2
/-- Numbers over (head, position) as the kernel's rows hold them. -/
def rows (y : FVec Ideal S12x2048 .f32) : FVec Ideal S6x8x8x256 .f32 :=
  pad S6x8x8x256 ![0, 0, 0, 0] ![0, 0, 6, 0] ![0, 0, 0, 0]
    (transpose S6x8x2x256 [0, 2, 1, 3] (shapeCast S6x2x8x256 y shapeCasts_S12x2048_S6x2x8x256)
      transposes_S6x2x8x256_S6x8x2x256_0_2_1_3)
    (sitofp .f32 (constantI S_ 32 0#32)) pads_S6x8x2x256_S6x8x8x256_000_000_060_000 h_S_

section
variable (x0 x1 x2 x4 : FVec Ideal S2048x768 .f32) (x3 : FVec Ideal S2048x128 .f32)
/-- One number per row, spread over the row. -/
def spread (y : FVec Ideal S12x2048 .f32) : FVec Ideal S12x2048x2048 .f32 :=
  broadcastInDim S12x2048x2048 ![0, 1, 2] bcast_S12x2048x1_S12x2048x2048_0_1_2
    (broadcastInDim S12x2048x1 ![0, 1] bcast_S12x2048_S12x2048x1_0_1 y)
/-- The exponentials of the shifted scores. -/
def expo : FVec Ideal S12x2048x2048 .f32 :=
  Host.exp (subf (val_main_v21_0 (F := Ideal) x0 x1 x3) (spread (val_main_v22 (F := Ideal) x0 x1 x3)))
/-- Their sums. -/
def total : FVec Ideal S12x2048 .f32 :=
  Host.reduceAdd (expo x0 x1 x3) (constant S_ .f32 0x00000000#32) reducesTo_S12x2048x2048_S12x2048_d2 h_S_
/-- The weights. -/
def weights : FVec Ideal S12x2048x2048 .f32 := Host.divf (expo x0 x1 x3) (spread (total x0 x1 x3))
/-- The attention's output. -/
def output : FVec Ideal S2048x12x64 .f32 :=
  transpose S2048x12x64 [2, 0, 1]
    (Host.dotGeneral (φ₁ := .f32) (φ₂ := .f32) dot_S2048x12x64_S12x2048x2048_S12x64x2048_0_2_2_1_1_0 none
      (val_main_v3 (F := Ideal) x2 : FVec Ideal S2048x12x64 .f32) (weights x0 x1 x3))
    transposes_S12x64x2048_S2048x12x64_2_0_1
/-- The row sums of the output times its gradient. -/
def rowSums : FVec Ideal S12x2048 .f32 :=
  transpose S12x2048 [1, 0]
    (Host.reduceAdd (mulf (output x0 x1 x2 x3) (val_main_v53 (F := Ideal) x4)) (constant S_ .f32 0x00000000#32)
      reducesTo_S2048x12x64_S2048x12_d2 h_S_)
    transposes_S2048x12_S12x2048_1_0
/-- The log-sums. -/
def logSums : FVec Ideal S12x2048 .f32 := addf (val_main_v22 (F := Ideal) x0 x1 x3) (Host.log (total x0 x1 x3))
end

section
variable (m : (l : Loc nD τ sig) → Buf (Elt Ideal) l) (c : Dev nD)

theorem v4_eq : (V (F := Ideal) m c main_v4 : FVec Ideal S6x2048x128 .f32)
    = cols (m ((c.tc : Thread nD τ).loc main_arg3)) := by
  simp only [V, hostOps0, hostOps0_1, hostOps0_2, hostOps0_3, hostOps0_4, hostOps0_5, hostOps0_6, hostOps0_7, List.flatten_cons,
    List.flatten_nil, List.append_nil, List.cons_append, List.nil_append, StableHlo.TRef.binary, StableHlo.TRef.nullary,
    StableHlo.TRef.ternary, StableHlo.TRef.unary, StableHlo.TRef.toBuf, StableHlo.TRef.ofBuf, cast_eq]
  after_results_simp <;> rfl

theorem v8_eq : (V (F := Ideal) m c main_v8 : FVec Ideal S6x8x8x256 .f32)
    = rows (val_main_v7 (F := Ideal) (m ((c.tc : Thread nD τ).loc main_arg3))) := by
  simp only [V, hostOps0, hostOps0_1, hostOps0_2, hostOps0_3, hostOps0_4, hostOps0_5, hostOps0_6, hostOps0_7, List.flatten_cons,
    List.flatten_nil, List.append_nil, List.cons_append, List.nil_append, StableHlo.TRef.binary, StableHlo.TRef.nullary,
    StableHlo.TRef.ternary, StableHlo.TRef.unary, StableHlo.TRef.toBuf, StableHlo.TRef.ofBuf, cast_eq]
  after_results_simp <;> rfl

theorem v49_eq : (V (F := Ideal) m c main_v49 : FVec Ideal S6x8x8x256 .f32)
    = rows (rowSums (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg3))) := by
  simp only [V, hostOps0, hostOps0_1, hostOps0_2, hostOps0_3, hostOps0_4, hostOps0_5, hostOps0_6, hostOps0_7, List.flatten_cons,
    List.flatten_nil, List.append_nil, List.cons_append, List.nil_append, StableHlo.TRef.binary, StableHlo.TRef.nullary,
    StableHlo.TRef.ternary, StableHlo.TRef.unary, StableHlo.TRef.toBuf, StableHlo.TRef.ofBuf, cast_eq]
  after_results_simp <;> rfl

theorem v52_eq : (V (F := Ideal) m c main_v52 : FVec Ideal S6x8x8x256 .f32)
    = rows (logSums (m ((c.tc : Thread nD τ).loc main_arg0)) (m ((c.tc : Thread nD τ).loc main_arg1)) (m ((c.tc : Thread nD τ).loc main_arg3))) := by
  simp only [V, hostOps0, hostOps0_1, hostOps0_2, hostOps0_3, hostOps0_4, hostOps0_5, hostOps0_6, hostOps0_7, List.flatten_cons,
    List.flatten_nil, List.append_nil, List.cons_append, List.nil_append, StableHlo.TRef.binary, StableHlo.TRef.nullary,
    StableHlo.TRef.ternary, StableHlo.TRef.unary, StableHlo.TRef.toBuf, StableHlo.TRef.ofBuf, cast_eq]
  after_results_simp <;> rfl
end

section
variable {N : Nums} {x0 x1 x2 x4 : FVec Ideal S2048x768 .f32} {x3 : FVec Ideal S2048x128 .f32}

theorem cols_apply (A : Args N x0 x1 x2 x3 x4) (h : Fin 6) (r : Fin 2048) (x : Fin 128) :
    cols x3 (ix3 h r x) = ((N.C (2 * h + x / 64) r : ℝ) : EReal) := by
  pointwise [cols]
  simp only [A.c]
  congr 2; omega
theorem rows_apply (y : FVec Ideal S12x2048 .f32) (h : Fin 6) (j e : Fin 8) (b : Fin 256) (he : e.val < 2) :
    rows y (ix4 h j e b) = y (ix2 ⟨2 * h.val + e.val, by omega⟩ ⟨256 * j.val + b.val, by omega⟩) := by
  pointwise [rows]
  rw [dif_pos he]
  simp only [Nat.mul_comm h.val 2, Nat.mul_comm j.val 256]
theorem gate_apply (A : Args N x0 x1 x2 x3 x4) (h : Fin 12) (t : Fin 2048) :
    val_main_v7 (F := Ideal) x3 (ix2 h t) = ((N.C h t : ℝ) : EReal) := by
  pointwise [val_main_v7, val_main_v0]
  simp only [A.c]
theorem expo_apply (A : Args N x0 x1 x2 x3 x4) (h : Fin 12) (t s : Fin 2048) :
    expo x0 x1 x3 (ix3 h t s) = ((if s.val ≤ t.val then Real.exp (N.S h t s - top x0 x1 x3 h t) else 0 : ℝ) : EReal) := by
  rw [← exp_masked, ← masked A, ← top_eq A]
  pointwise [expo, spread]
theorem total_apply (A : Args N x0 x1 x2 x3 x4) (h : Fin 12) (t : Fin 2048) :
    total x0 x1 x3 (ix2 h t) = ((N.Z h t / Real.exp (top x0 x1 x3 h t) : ℝ) : EReal) := by
  rw [← sum_shift, ← coe_sum']
  pointwise [total]
  simp only [expo_apply A, zero_word, zero_add]
theorem weights_apply (A : Args N x0 x1 x2 x3 x4) (h : Fin 12) (t s : Fin 2048) :
    weights x0 x1 x3 (ix3 h t s) = ((N.W h t s : ℝ) : EReal) := by
  pointwise [weights, spread]
  rw [expo_apply A, total_apply A, div_coe _ _ (div_pos (N.Z_pos _ _) (Real.exp_pos _)).ne', weight]
theorem output_apply (A : Args N x0 x1 x2 x3 x4) (t : Fin 2048) (h : Fin 12) (d : Fin 64) :
    output x0 x1 x2 x3 (ix3 t h d) = ((∑ s : Fin 2048, N.W h t s * N.V s (64 * h + d) : ℝ) : EReal) := by
  pointwise [output, val_main_v3]
  simp only [weights_apply A, A.v, ← EReal.coe_mul, coe_sum', Nat.mul_comm h.val 64, mul_comm (N.W _ _ _)]
theorem rowSums_apply (A : Args N x0 x1 x2 x3 x4) (hs : N.Saved) (h : Fin 12) (t : Fin 2048) :
    rowSums x0 x1 x2 x4 x3 (ix2 h t) = ((N.D h t : ℝ) : EReal) := by
  pointwise [rowSums, val_main_v53]
  simp only [output_apply A, A.o, zero_word, zero_add, ← EReal.coe_mul, coe_sum', Nat.mul_comm h.val 64]
  rw [hs.D]
theorem add_log (y z : FVec Ideal S12x2048 .f32) (i : S12x2048.Idx) : addf y (Host.log z) i = (y i : EReal) + Ideal.log (z i) := rfl
theorem logSums_apply (A : Args N x0 x1 x2 x3 x4) (hs : N.Saved) (h : Fin 12) (t : Fin 2048) :
    logSums x0 x1 x3 (ix2 h t) = ((N.L h t : ℝ) : EReal) := by
  unfold logSums
  rw [add_log, total_apply A, top_eq A, hs.L]
  have e : ∀ r : ℝ, 0 < r → Ideal.log (r : EReal) = ((Real.log r : ℝ) : EReal) := fun r hr => by
    show (if r ≤ 0 then (⊥ : EReal) else ((Real.log r : ℝ) : EReal)) = _
    rw [if_neg (not_le.mpr hr)]
  rw [e _ (div_pos (N.Z_pos _ _) (Real.exp_pos _)), ← EReal.coe_add,
    Real.log_div (N.Z_pos _ _).ne' (Real.exp_pos _).ne', Real.log_exp, add_sub_cancel]
end

/-- The arrays that the call reads, when the arguments hold real numbers. -/
theorem arrays {N : Nums} (m : (l : Loc nD τ sig) → Buf (Elt Ideal) l) (c : Dev nD) (hs : N.Saved)
    (A : Args N (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4))) : Arr m c N where
  a0 r x := (congrFun (V_main_arg0 m c) _).trans (A.q r x)
  a1 r x := (congrFun (V_main_arg1 m c) _).trans (A.k r x)
  a2 r x := (congrFun (V_main_arg2 m c) _).trans (A.v r x)
  a3 h r x := (congrFun (v4_eq m c) _).trans (cols_apply A h r x)
  a4 h j e b he := (congrFun (v8_eq m c) _).trans ((rows_apply _ h j e b he).trans (gate_apply A _ _))
  a5 h j e b he := (congrFun (v49_eq m c) _).trans ((rows_apply _ h j e b he).trans (rowSums_apply A hs _ _))
  a6 h j e b he := (congrFun (v52_eq m c) _).trans ((rows_apply _ h j e b he).trans (logSums_apply A hs _ _))
  a7 r x := (congrFun (V_main_arg4 m c) _).trans (A.o r x)

end Cert.KernelIdeal.Hand
-- ==== Proof.Sums.lean ====
/- The sums over the tiles as sums over all the positions: a score's gradient is zero above the diagonal, so the tiles
   that the kernel skips add nothing. -/
module

public import proofs.«01_k».proof.Proof.Arr

@[expose] public section

noncomputable section

namespace Cert.KernelIdeal.Hand

/-- A sum over tiles of equal length is the sum over all. -/
theorem sum_tiles (b n : ℕ) (f : ℕ → ℝ) :
    ∑ k ∈ Finset.range n, ∑ a : Fin b, f (b * k + a) = ∑ s ∈ Finset.range (b * n), f s := by
  induction n with
  | zero => simp
  | succ n ih =>
    rw [Finset.sum_range_succ, ih, Nat.mul_succ, Finset.sum_range_add, Fin.sum_univ_eq_sum_range (fun a => f (b * n + a)) b]
/-- The same from a position on, when nothing before it counts. -/
theorem sum_after (p b n : ℕ) (f : ℕ → ℝ) (h0 : ∀ t < p, f t = 0) :
    ∑ k ∈ Finset.range n, ∑ a : Fin b, f (p + b * k + a) = ∑ s ∈ Finset.range (p + b * n), f s := by
  rw [Finset.sum_range_add, Finset.sum_eq_zero (fun t ht => h0 t (Finset.mem_range.mp ht)), zero_add,
    ← sum_tiles b n fun s => f (p + s)]
  simp only [Nat.add_assoc]
/-- A sum over two halves. -/
theorem sum_halves (f : ℕ → ℝ) : ∑ z : Fin 128, (f z + f (128 + z)) = ∑ b : Fin 256, f b := by
  rw [Fin.sum_univ_eq_sum_range (fun z => f z + f (128 + z)) 128, Fin.sum_univ_eq_sum_range f 256, Finset.sum_add_distrib,
    Finset.sum_range_add f 128 128]

variable (N : Nums)

theorem Nums.P_zero (h t s : ℕ) (hs : t < s) : N.P h t s = 0 := by
  unfold Nums.P
  rw [if_neg (by omega)]
theorem Nums.G_zero (h t s : ℕ) (hs : t < s) : N.G h t s = 0 := by
  unfold Nums.G
  rw [N.P_zero h t s hs, zero_mul]

theorem fQ_eq (r x : ℕ) :
    fQ N r x = (∑ s ∈ Finset.range 2048, N.G (x / 64) r s * N.K s x) * (1 / 8) := by
  unfold fQ accQ
  have e := sum_tiles 512 4 fun s => N.G (x / 64) r s * N.K s x
  rw [show (2048 : ℕ) = 512 * 4 from rfl, ← e, Finset.sum_mul]
  refine Finset.sum_congr rfl fun k _ => ?_
  unfold Nums.qC
  rw [show 2 * (x / 128) + x % 128 / 64 = x / 64 by omega, show 128 * (x / 128) + x % 128 = x by omega]
  split_ifs with h
  · rfl
  · rw [Finset.sum_eq_zero fun a _ => by rw [N.G_zero _ _ _ (by omega), zero_mul], zero_mul]
theorem fK_eq (s x : ℕ) (hs : s < 2048) :
    fK N s x = (∑ t ∈ Finset.range 2048, N.G (x / 64) t s * N.Q t x) * (1 / 8) := by
  unfold fK Nums.kC
  rw [← Finset.sum_mul, show 512 * (s / 512) + s % 512 = s by omega, show 64 * (x / 64) + x % 64 = x by omega]
  have e := sum_after (512 * (s / 512)) 256 (8 - 2 * (s / 512)) (fun t => N.G (x / 64) t s * N.Q t x)
    (fun t ht => by rw [N.G_zero _ _ _ (by omega), zero_mul])
  rw [show 512 * (s / 512) + 256 * (8 - 2 * (s / 512)) = 2048 by omega] at e
  rw [← e]
theorem fV_eq (s x : ℕ) (hs : s < 2048) : fV N s x = ∑ t ∈ Finset.range 2048, N.P (x / 64) t s * N.O t x := by
  unfold fV Nums.vC
  rw [show 512 * (s / 512) + s % 512 = s by omega, show 64 * (x / 64) + x % 64 = x by omega]
  have e := sum_after (512 * (s / 512)) 256 (8 - 2 * (s / 512)) (fun t => N.P (x / 64) t s * N.O t x)
    (fun t ht => by rw [N.P_zero _ _ _ (by omega), zero_mul])
  rw [show 512 * (s / 512) + 256 * (8 - 2 * (s / 512)) = 2048 by omega] at e
  rw [← e]
theorem fS_eq (h j e b : ℕ) (hj : j < 8) (hb : b < 256) :
    fS N h j e b = if e < 2 then -∑ t ∈ Finset.range 2048, N.G (2 * h + e) t (256 * j + b) else 0 := by
  unfold fS Nums.fC
  split_ifs
  · rw [Finset.sum_comm, show 512 * (j / 2) + (256 * (j % 2) + b) = 256 * j + b by omega]
    have e1 := sum_after (512 * (j / 2)) 256 (8 - 2 * (j / 2)) (fun t => N.G (2 * h + e) t (256 * j + b))
      (fun t ht => N.G_zero _ _ _ (by omega))
    rw [show 512 * (j / 2) + 256 * (8 - 2 * (j / 2)) = 2048 by omega] at e1
    rw [← e1]
    refine congrArg Neg.neg (Finset.sum_congr rfl fun k _ => ?_)
    exact sum_halves fun z => N.G (2 * h + e) (512 * (j / 2) + 256 * k + z) (256 * j + b)
  · rfl
theorem fR_eq (h j e b : ℕ) (hb : b < 256) :
    fR N h j e b = if e < 2 then ∑ s ∈ Finset.range 2048, N.G (2 * h + e) (256 * j + b) s else 0 := by
  unfold fR accR
  split_ifs with he
  · have e1 := sum_tiles 512 4 fun s => N.G (2 * h + e) (256 * j + b) s
    rw [show (2048 : ℕ) = 512 * 4 from rfl, ← e1]
    refine Finset.sum_congr rfl fun k _ => ?_
    unfold Nums.rC
    split_ifs with hk
    · rfl
    · exact (Finset.sum_eq_zero fun a _ => N.G_zero _ _ _ (by omega)).symm
  · exact Finset.sum_eq_zero fun k _ => if_neg fun hk => he hk.1

end Cert.KernelIdeal.Hand
-- ==== Proof.Ref.lean ====
/- The reference's five results as sums over all the positions. -/
module

public import proofs.«01_k».proof.Proof.Score

@[expose] public section

set_option maxRecDepth 16384

noncomputable section

namespace Cert.KernelIdeal.Hand

open Cert.KernelIdeal Cert.KernelIdeal.Gen Idealize.ShloMosaic Idealize.ShloMosaic.TcCoe Idealize.SL.Sem
  Idealize.ShloMosaic.Tactic
open Cert.ReferenceIdeal.Read

/-- The gradient of the scores. -/
def Nums.T (N : Nums) (h t s : ℕ) : ℝ := N.W h t s * (N.J h t s - ∑ s' : Fin 2048, N.W h t s' * N.J h t s')

/-- The softmax's gradient, as the quotient rule writes it. -/
theorem quotient_rule (N : Nums) (h t s : ℕ) (M : ℝ) :
    (N.J h t s / (N.Z h t / Real.exp M)
        + -∑ s' : Fin 2048, N.J h t s' * (1 / (N.Z h t / Real.exp M * (N.Z h t / Real.exp M)))
            * (if s'.val ≤ t then Real.exp (N.S h t s' - M) else 0))
      * (if s ≤ t then Real.exp (N.S h t s - M) else 0) = N.T h t s := by
  have hz : N.Z h t / Real.exp M ≠ 0 := (div_pos (N.Z_pos h t) (Real.exp_pos M)).ne'
  have hw : ∀ s : ℕ, (if s ≤ t then Real.exp (N.S h t s - M) else 0) = N.W h t s * (N.Z h t / Real.exp M) := fun s => by
    rw [← weight N h t s M, div_mul_cancel₀ _ hz]
  unfold Nums.T
  simp only [hw]
  generalize N.Z h t / Real.exp M = z at hz
  have e : ∀ s' : Fin 2048, N.J h t s' * (1 / (z * z)) * (N.W h t s' * z) = N.W h t s' * N.J h t s' * (1 / z) := fun s' => by
    field_simp
  simp only [e, ← Finset.sum_mul]
  field_simp
  ring

section
variable {N : Nums} {x0 x1 x2 x4 : FVec Ideal S2048x768 .f32} {x3 : FVec Ideal S2048x128 .f32}

theorem greater (y z : FVec Ideal S12x2048 .f32) (i : S12x2048.Idx) : maximumf y z i = max (y i : EReal) (z i) := rfl
theorem least (i : S12x2048.Idx) : val_main_v28 (F := Ideal) i = (⊥ : EReal) := by
  unfold val_main_v28 val_main_cst_3
  exact neg_inf
theorem clamp_apply (A : Args N x0 x1 x2 x3 x4) (h : Fin 12) (t : Fin 2048) :
    val_main_v29 (F := Ideal) x0 x1 x3 (ix2 h t) = ((top x0 x1 x3 h t : ℝ) : EReal) := by
  unfold val_main_v29
  rw [greater, top_eq A, least]
  exact max_bot_left _
theorem e_apply (A : Args N x0 x1 x2 x3 x4) (h : Fin 12) (t s : Fin 2048) :
    val_main_v42 (F := Ideal) x0 x1 x3 (ix3 h t s)
      = ((if s.val ≤ t.val then Real.exp (N.S h t s - top x0 x1 x3 h t) else 0 : ℝ) : EReal) := by
  rw [← exp_masked, ← masked A, ← clamp_apply A]
  pointwise [val_main_v42, val_main_v41, val_main_v40, val_main_v39]
theorem sum_apply (A : Args N x0 x1 x2 x3 x4) (h : Fin 12) (t : Fin 2048) :
    val_main_v43 (F := Ideal) x0 x1 x3 (ix2 h t) = ((N.Z h t / Real.exp (top x0 x1 x3 h t) : ℝ) : EReal) := by
  rw [← sum_shift, ← coe_sum']
  pointwise [val_main_v43, val_main_cst_9]
  simp only [e_apply A, zero_word, zero_add]
theorem p_apply (A : Args N x0 x1 x2 x3 x4) (h : Fin 12) (t s : Fin 2048) :
    val_main_v46 (F := Ideal) x0 x1 x3 (ix3 h t s) = ((N.W h t s : ℝ) : EReal) := by
  pointwise [val_main_v46, val_main_v45, val_main_v44]
  rw [e_apply A, sum_apply A, div_coe _ _ (div_pos (N.Z_pos _ _) (Real.exp_pos _)).ne', weight]
theorem dp_apply (A : Args N x0 x1 x2 x3 x4) (h : Fin 12) (t s : Fin 2048) :
    val_main_v55 (F := Ideal) x2 x4 (ix3 h t s) = ((N.J h t s : ℝ) : EReal) := by
  pointwise [val_main_v55, val_main_v54, val_main_v53, val_main_v3]
  simp only [A.v, A.o, ← EReal.coe_mul, coe_sum', Nat.mul_comm h.val 64]
  rfl
theorem sq_apply (A : Args N x0 x1 x2 x3 x4) (h : Fin 12) (t : Fin 2048) (z : Fin 1) :
    val_main_v49 (F := Ideal) x0 x1 x3 (ix3 h t z)
      = ((1 / (N.Z h t / Real.exp (top x0 x1 x3 h t) * (N.Z h t / Real.exp (top x0 x1 x3 h t))) : ℝ) : EReal) := by
  have hz := (div_pos (N.Z_pos h t) (Real.exp_pos (top x0 x1 x3 h t))).ne'
  pointwise [val_main_v49, val_main_v48, val_main_cst_10, val_main_v47, val_main_v44]
  rw [sum_apply A, ← EReal.coe_mul, ← EReal.coe_one, div_coe _ _ (mul_ne_zero hz hz)]
theorem back_apply (A : Args N x0 x1 x2 x3 x4) (h : Fin 12) (t : Fin 2048) :
    val_main_v66 (F := Ideal) x0 x1 x2 x3 x4 (ix2 h t)
      = ((-∑ s' : Fin 2048, N.J h t s' * (1 / (N.Z h t / Real.exp (top x0 x1 x3 h t) * (N.Z h t / Real.exp (top x0 x1 x3 h t))))
            * (if s'.val ≤ t.val then Real.exp (N.S h t s' - top x0 x1 x3 h t) else 0) : ℝ) : EReal) := by
  pointwise [val_main_v66, val_main_cst_12, val_main_v63, val_main_v62, val_main_v61, val_main_cst_11, val_main_v60,
    val_main_v59, val_main_v58]
  simp only [dp_apply A, sq_apply A, e_apply A, zero_word, zero_add, ← EReal.coe_mul, coe_sum', ← EReal.coe_neg,
    Fin.sum_univ_one]
theorem ds_apply (A : Args N x0 x1 x2 x3 x4) (h : Fin 12) (t s : Fin 2048) :
    val_main_v70 (F := Ideal) x0 x1 x2 x3 x4 (ix3 h t s) = ((N.T h t s : ℝ) : EReal) := by
  have e : val_main_v69 (F := Ideal) x0 x1 x2 x3 x4 (ix3 h t s) = ((N.T h t s : ℝ) : EReal) := by
    pointwise [val_main_v69, val_main_v68, val_main_v67, val_main_v65, val_main_v64, val_main_v44]
    rw [dp_apply A, sum_apply A, back_apply A, e_apply A, div_coe _ _ (div_pos (N.Z_pos _ _) (Real.exp_pos _)).ne',
      ← EReal.coe_add, ← EReal.coe_mul, quotient_rule]
  pointwise [val_main_v70, val_main_call1_v0, val_main_call1_cst]
  rw [mask, e]
  split_ifs with hs
  · rfl
  · rw [show N.T h t s = 0 by unfold Nums.T Nums.W; rw [if_neg hs, zero_mul]]
    rfl

theorem ref_q (A : Args N x0 x1 x2 x3 x4) (r : Fin 2048) (x : Fin 768) :
    val_main_v88 (F := Ideal) x0 x1 x2 x3 x4 (ix2 r x)
      = (((∑ s : Fin 2048, N.T (x.val / 64) r s * N.K s x) * (1 / 8) : ℝ) : EReal) := by
  pointwise [val_main_v88, val_main_v85, val_main_v84, val_main_v81, val_main_v80, val_main_cst_17, val_main_v2]
  simp only [ds_apply A, A.k, eighth, ← EReal.coe_mul, coe_sum', Finset.sum_mul]
  refine congrArg _ (Finset.sum_congr rfl fun s _ => ?_)
  ring
theorem ref_k (A : Args N x0 x1 x2 x3 x4) (s : Fin 2048) (x : Fin 768) :
    val_main_v87 (F := Ideal) x0 x1 x2 x3 x4 (ix2 s x)
      = (((∑ t : Fin 2048, N.T (x.val / 64) t s * N.Q t x) * (1 / 8) : ℝ) : EReal) := by
  pointwise [val_main_v87, val_main_v83, val_main_v82, val_main_v81, val_main_v80, val_main_cst_17, val_main_v1]
  simp only [ds_apply A, A.q, eighth, ← EReal.coe_mul, coe_sum', Finset.sum_mul]
  refine congrArg _ (Finset.sum_congr rfl fun s _ => ?_)
  ring
theorem ref_v (A : Args N x0 x1 x2 x3 x4) (s : Fin 2048) (x : Fin 768) :
    val_main_v86 (F := Ideal) x0 x1 x3 x4 (ix2 s x)
      = ((∑ t : Fin 2048, N.W (x.val / 64) t s * N.O t x : ℝ) : EReal) := by
  pointwise [val_main_v86, val_main_v57, val_main_v56, val_main_v54, val_main_v53]
  simp only [p_apply A, A.o, ← EReal.coe_mul, coe_sum']
  refine congrArg _ (Finset.sum_congr rfl fun s _ => ?_)
  ring
theorem key_side (A : Args N x0 x1 x2 x3 x4) (h : Fin 12) (s : Fin 2048) :
    val_main_v74 (F := Ideal) x0 x1 x2 x3 x4 (ix2 h s) = ((-∑ t : Fin 2048, N.T h t s : ℝ) : EReal) := by
  pointwise [val_main_v74, val_main_cst_14, val_main_v73, val_main_v72, val_main_cst_13, val_main_v71]
  simp only [ds_apply A, zero_word, zero_add, ← EReal.coe_neg, coe_sum', Finset.sum_neg_distrib, Fin.sum_univ_one]
theorem query_side (A : Args N x0 x1 x2 x3 x4) (h : Fin 12) (t : Fin 2048) :
    val_main_v78 (F := Ideal) x0 x1 x2 x3 x4 (ix2 h t) = ((∑ s : Fin 2048, N.T h t s : ℝ) : EReal) := by
  pointwise [val_main_v78, val_main_cst_16, val_main_v77, val_main_v76, val_main_cst_15]
  simp only [ds_apply A, zero_word, zero_add, coe_sum', Fin.sum_univ_one]
/-- The value that fills the rows past a pair's two heads. -/
theorem filler (i : S_.Idx) : sitofp (F := Ideal) .f32 (constantI S_ 32 0#32) i = (0 : EReal) := by
  show ((((0#32 : BitVec 32).toInt : ℤ) : ℝ) : EReal) = 0
  simp
theorem ref_s (A : Args N x0 x1 x2 x3 x4) (h : Fin 6) (j e : Fin 8) (b : Fin 256) :
    val_main_v92 (F := Ideal) x0 x1 x2 x3 x4 (ix4 h j e b)
      = ((if e.val < 2 then -∑ t : Fin 2048, N.T (2 * h + e) t (256 * j + b) else 0 : ℝ) : EReal) := by
  pointwise [val_main_v92, val_main_v91, val_main_v90, val_main_v89, val_main_v75]
  split_ifs
  · rw [key_side A]
    simp only [Nat.mul_comm h.val 2, Nat.mul_comm j.val 256]
  · exact filler _
theorem ref_t (A : Args N x0 x1 x2 x3 x4) (h : Fin 6) (j e : Fin 8) (b : Fin 256) :
    val_main_v96 (F := Ideal) x0 x1 x2 x3 x4 (ix4 h j e b)
      = ((if e.val < 2 then ∑ s : Fin 2048, N.T (2 * h + e) (256 * j + b) s else 0 : ℝ) : EReal) := by
  pointwise [val_main_v96, val_main_v95, val_main_v94, val_main_v93, val_main_v79]
  split_ifs
  · rw [query_side A]
    simp only [Nat.mul_comm h.val 2, Nat.mul_comm j.val 256]
  · exact filler _
end

end Cert.KernelIdeal.Hand
-- ==== Proof.Value.lean ====
/- The five arrays the kernel returns are the reference's five, entry by entry. -/
module

public import proofs.«01_k».proof.Proof.Host
public import proofs.«01_k».proof.Proof.Sums
public import proofs.«01_k».proof.Proof.Ref

@[expose] public section

set_option maxRecDepth 16384

noncomputable section

namespace Cert.KernelIdeal.Hand

open Cert.KernelIdeal Cert.KernelIdeal.Gen Idealize.ShloMosaic Idealize.ShloMosaic.TcCoe Idealize.SL.Sem
open Cert.ReferenceIdeal.Read

theorem Nums.G_eq_T {N : Nums} (hs : N.Saved) (h t s : ℕ) : N.G h t s = N.T h t s := N.G_eq hs h t s

section
variable {N : Nums} (m : (l : Loc nD τ sig) → Buf (Elt Ideal) l) (c : Dev nD)
  {x0 x1 x2 x4 : FVec Ideal S2048x768 .f32} {x3 : FVec Ideal S2048x128 .f32}

theorem value8 (hs : N.Saved) (A : Args N x0 x1 x2 x3 x4) (R : Arr m c N) :
    ((Own.dats m 0 c).arrAt 8 cfg0.N : FVec Ideal S2048x768 .f32) = val_main_v88 (F := Ideal) x0 x1 x2 x3 x4 := by
  funext y
  rw [eq_ix2 y]
  refine (arr8 m c R (y 0) (y 1)).trans (Eq.trans ?_ (ref_q A (y 0) (y 1)).symm)
  rw [fQ_eq]
  simp only [N.G_eq_T hs, Finset.sum_range]

theorem value9 (hs : N.Saved) (A : Args N x0 x1 x2 x3 x4) (R : Arr m c N) :
    ((Own.dats m 0 c).arrAt 9 cfg0.N : FVec Ideal S2048x768 .f32) = val_main_v87 (F := Ideal) x0 x1 x2 x3 x4 := by
  funext y
  rw [eq_ix2 y]
  refine (arr9 m c R (y 0) (y 1)).trans (Eq.trans ?_ (ref_k A (y 0) (y 1)).symm)
  rw [fK_eq N _ _ (y 0).isLt]
  simp only [N.G_eq_T hs, Finset.sum_range]

theorem value10 (hs : N.Saved) (A : Args N x0 x1 x2 x3 x4) (R : Arr m c N) :
    ((Own.dats m 0 c).arrAt 10 cfg0.N : FVec Ideal S2048x768 .f32) = val_main_v86 (F := Ideal) x0 x1 x3 x4 := by
  funext y
  rw [eq_ix2 y]
  refine (arr10 m c R (y 0) (y 1)).trans (Eq.trans ?_ (ref_v A (y 0) (y 1)).symm)
  rw [fV_eq N _ _ (y 0).isLt]
  simp only [N.P_eq hs, Finset.sum_range]

theorem value11 (hs : N.Saved) (A : Args N x0 x1 x2 x3 x4) (R : Arr m c N) :
    ((Own.dats m 0 c).arrAt 11 cfg0.N : FVec Ideal S6x8x8x256 .f32) = val_main_v92 (F := Ideal) x0 x1 x2 x3 x4 := by
  funext y
  rw [eq_ix4 y]
  refine (arr11 m c R (y 0) (y 1) (y 2) (y 3)).trans (Eq.trans ?_ (ref_s A (y 0) (y 1) (y 2) (y 3)).symm)
  rw [fS_eq N _ _ _ _ (y 1).isLt (y 3).isLt]
  simp only [N.G_eq_T hs, Finset.sum_range]

theorem value12 (hs : N.Saved) (A : Args N x0 x1 x2 x3 x4) (R : Arr m c N) :
    ((Own.dats m 0 c).arrAt 12 cfg0.N : FVec Ideal S6x8x8x256 .f32) = val_main_v96 (F := Ideal) x0 x1 x2 x3 x4 := by
  funext y
  rw [eq_ix4 y]
  refine (arr12 m c R (y 0) (y 1) (y 2) (y 3)).trans (Eq.trans ?_ (ref_t A (y 0) (y 1) (y 2) (y 3)).symm)
  rw [fR_eq N _ _ _ _ (y 3).isLt]
  simp only [N.G_eq_T hs, Finset.sum_range]

end

end Cert.KernelIdeal.Hand

end
-- ==== Proof.Prod.lean ====
/- What the products of the step share: where the elements of two windows' blocks lie in their arrays, and two indices
   of a matrix that agree on both axes. -/
module

public import Idealize.ShloMosaic.Lib.Pipeline.ValueKit
public import Idealize.ShloMosaic.Lib.Pipeline.Value
public import Idealize.ShloMosaic.Lib.Pointwise

@[expose] public section

namespace Cert.Prod

open Idealize.ShloMosaic Pipeline

/-- Two indices of a matrix are the same when they agree on both axes. -/
theorem ext2 {n0 n1 : ℕ} {f g : (⟨2, ![n0, n1]⟩ : Shape).Idx} (h0 : (f 0).val = (g 0).val) (h1 : (f 1).val = (g 1).val) :
    f = g := by
  funext a
  match a with
  | ⟨0, _⟩ => exact Fin.ext h0
  | ⟨1, _⟩ => exact Fin.ext h1

/-- Two windows with the same block index and block size on an axis put equal coordinates at the same place. -/
theorem emb_same {sig : RefSig} {G : Grid} (w v : Window sig G) (t : Fin G.N) (a : Fin w.shape.rank) (b : Fin v.shape.rank)
    (h : w.index t a = v.index t b) (y : (w.xblock (G.coords t)).Idx) (z : (v.xblock (G.coords t)).Idx)
    (hs : w.size a = v.size b) (hy : (y a : ℕ) = z b)
    (hw : w.kind = .blocked := by first | rfl | decide) (hv : v.kind = .blocked := by first | rfl | decide) :
    ((w.rect t).emb y a : ℕ) = (v.rect t).emb z b := by
  rw [w.rect_emb_val t y a hw, v.rect_emb_val t z b hv, h, hs, hy]

/-- Two sums of products are the same when their factors are. -/
theorem sum_mul {n : ℕ} {a b f g : Fin n → EReal} (ha : ∀ k, a k = f k) (hb : ∀ k, b k = g k) :
    ∑ k, a k * b k = ∑ k, f k * g k :=
  Finset.sum_congr rfl fun k _ => by rw [ha k, hb k]

/-- The same with the factors on the right in the other order. -/
theorem sum_mul_swap {n : ℕ} {a b f g : Fin n → EReal} (ha : ∀ k, a k = f k) (hb : ∀ k, b k = g k) :
    ∑ k, a k * b k = ∑ k, g k * f k :=
  (sum_mul ha hb).trans (Finset.sum_congr rfl fun k _ => mul_comm _ _)

/-- A product and an added entry, the entry written on either side. -/
theorem add_swap {a b x y : EReal} (hx : x = y) (ha : a = b) : a + x = y + b := by
  rw [hx, ha, add_comm]

end Cert.Prod

end
-- ==== Proof.DownHidden.lean ====
/- The product DownHidden: the gradient of the ConvFFN's hidden values from the gradient of its output.
   What a block of it computes, what the array holds, and that this is what the reference computes. -/
module

public import proofs.«01_k».proof.Proof.Gen.DownHiddenIdeal.Value
public import proofs.«01_k».proof.Proof.Gen.DownHiddenReferenceIdeal.Read
public import proofs.«01_k».proof.Proof.Gen.DownHiddenReferenceIdeal.Run
public import proofs.«01_k».proof.Proof.Prod
public import proofs.«01_k».proof.Defs

@[expose] public section

set_option maxRecDepth 16384

noncomputable section

namespace Cert.DownHiddenIdeal.Hand

open Cert.DownHiddenIdeal Cert.DownHiddenIdeal.Gen Idealize.ShloMosaic Idealize.ShloMosaic.TcCoe Idealize.SL.Sem Pipeline
open Cert.DownHiddenReferenceIdeal.Read (val_main_v4 val_main_v4_apply lidx_main_v4 ridx_main_v4)

/-- An entry of the body's block: a row of the first block against a row of the second. -/
theorem out_apply (x0 : FVec Ideal S512x1024 .bf16) (x1 : FVec Ideal S2816x1024 .bf16) (p : Fin 512) (q : Fin 2816) :
    out0_2 (F := Ideal) x0 x1 (ix2 p q) = ∑ k : Fin 1024, (x0 (ix2 p k) * x1 (ix2 q k) : EReal) := by
  unfold out0_2
  rw [View.canon_unit_zero (by decide), View.ld_unit_zero (by decide), View.ld_unit_zero (by decide)]
  pointwise [k0_pay1]

/-- Which block of each array a grid point takes. -/
theorem blocks : ∀ t : Fin cfg0.N, win0_0.index t 0 = win0_2.index t 0 ∧ win0_0.index t 1 = 0
    ∧ win0_1.index t 0 = win0_2.index t 1 ∧ win0_1.index t 1 = 0 := by decide +kernel

theorem covers : (cfg0.win 2).Covers := by decide +kernel

variable (m : (l : Loc nD τ sig) → Buf (Elt Ideal) l) (c : Dev nD)

/-- What a grid point computes is the reference's product at the block's place. -/
theorem block_apply (t : Fin cfg0.N) (y : S512x2816.Idx) :
    out0_2 (F := Ideal) (iblk m c 0 t) (iblk m c 1 t) y
      = val_main_v4 (F := Ideal) (V m c main_arg0) (V m c main_arg1) ((win0_2.rect t).emb y) := by
  obtain ⟨p, q, rfl⟩ : ∃ (p : Fin 512) (q : Fin 2816), y = ix2 p q := ⟨y 0, y 1, eq_ix2 y⟩
  obtain ⟨r, x, s, z⟩ := blocks t
  rw [out_apply, val_main_v4_apply]
  exact Prod.sum_mul (fun k => congrArg (V m c main_arg0) (Prod.ext2 (f := (win0_0.rect t).emb (ix2 p k)) (g := lidx_main_v4 ((win0_2.rect t).emb (ix2 p q)) k)
      (Prod.emb_same win0_0 win0_2 t 0 0 r (ix2 p k) (ix2 p q) rfl rfl)
      (win0_0.rect_emb_val_of_index_zero t 1 x (ix2 p k))))
    (fun k => congrArg (V m c main_arg1) (Prod.ext2 (f := (win0_1.rect t).emb (ix2 q k)) (g := ridx_main_v4 ((win0_2.rect t).emb (ix2 p q)) k)
      (Prod.emb_same win0_1 win0_2 t 0 1 s (ix2 q k) (ix2 p q) rfl rfl)
      (win0_1.rect_emb_val_of_index_zero t 1 z (ix2 q k))))

/-- The returned array is the reference's, from the same arguments. -/
theorem value : (dats m 0 c).arrAt 2 cfg0.N
    = val_main_v4 (F := Ideal) (m ((c.tc : Thread nD τ).loc main_arg0)) (m ((c.tc : Thread nD τ).loc main_arg1)) := by
  rw [← V_main_arg0 m c, ← V_main_arg1 m c]
  refine (dats m 0 c).arrAt_eq_of_covers 2 _ covers fun t _ y => ?_
  rw [cast_eq, after0_2]
  exact block_apply m c t y

/-- The reference leaves its arguments as they were, and it has no semaphore. -/
theorem reference_frame : Cert.quiescent_DownHiddenReferenceIdeal (hDownHiddenReferenceIdeal := Cert.DownHiddenReferenceIdeal.Gen.facts) :=
  fun m ρ _ => (θ_run (Cert.DownHiddenReferenceIdeal.defs (F := Ideal)) _ _).mono
    (fun r h => ⟨fun c => (h c).2, sem_eq_zero_of_no_sems (by decide) r.2⟩) (Cert.DownHiddenReferenceIdeal.Value.run m ρ)

/-- From equal arguments the call and its reference return the same array. -/
theorem agree : Cert.algebraic_DownHiddenIdeal_DownHiddenReferenceIdeal (hDownHiddenIdeal := Cert.DownHiddenIdeal.Gen.facts)
    (hDownHiddenReferenceIdeal := Cert.DownHiddenReferenceIdeal.Gen.facts) := by
  intro m ρ m' ρ' _ hag
  refine ⟨_, Value.run_blocks m ρ, ?_⟩
  refine (θ_run (Cert.DownHiddenReferenceIdeal.defs (F := Ideal)) _ _).mono (fun r h c => ?_) (Cert.DownHiddenReferenceIdeal.Value.run m' ρ')
  obtain ⟨h0, ha⟩ := h c
  obtain ⟨g0, g1⟩ := hag c
  rw [Cert.DownHiddenReferenceIdeal.Read.val_main_v4_eq, g0, g1] at h0
  exact ⟨h0.trans (value m c).symm, ha⟩

end Cert.DownHiddenIdeal.Hand

end
-- ==== Proof.DownWeight.lean ====
/- The product DownWeight: the gradient of the ConvFFN's second matrix.
   What a block of it computes, what the array holds, and that this is what the reference computes. -/
module

public import proofs.«01_k».proof.Proof.Gen.DownWeightIdeal.Value
public import proofs.«01_k».proof.Proof.Gen.DownWeightReferenceIdeal.Read
public import proofs.«01_k».proof.Proof.Gen.DownWeightReferenceIdeal.Run
public import proofs.«01_k».proof.Proof.Prod
public import proofs.«01_k».proof.Defs

@[expose] public section

set_option maxRecDepth 16384

noncomputable section

namespace Cert.DownWeightIdeal.Hand

open Cert.DownWeightIdeal Cert.DownWeightIdeal.Gen Idealize.ShloMosaic Idealize.ShloMosaic.TcCoe Idealize.SL.Sem Pipeline
open Cert.DownWeightReferenceIdeal.Read (val_main_v6 val_main_v6_apply val_main_v5_apply idx_main_v5 val_main_v4_apply lidx_main_v4 ridx_main_v4)

/-- An entry of the body's block: a column of the first block against a column of the second. -/
theorem out_apply (x0 : FVec Ideal S2048x1408 .bf16) (x1 : FVec Ideal S2048x1024 .bf16) (p : Fin 1408) (q : Fin 1024) :
    out0_2 (F := Ideal) x0 x1 (ix2 p q) = ∑ k : Fin 2048, (x0 (ix2 k p) * x1 (ix2 k q) : EReal) := by
  unfold out0_2
  rw [View.canon_unit_zero (by decide), View.ld_unit_zero (by decide), View.ld_unit_zero (by decide)]
  pointwise [k0_pay1]

/-- Which block of each array a grid point takes. -/
theorem blocks : ∀ t : Fin cfg0.N, win0_0.index t 1 = win0_2.index t 0 ∧ win0_0.index t 0 = 0
    ∧ win0_1.index t 1 = win0_2.index t 1 ∧ win0_1.index t 0 = 0 := by decide +kernel

theorem covers : (cfg0.win 2).Covers := by decide +kernel

variable (m : (l : Loc nD τ sig) → Buf (Elt Ideal) l) (c : Dev nD)

/-- What a grid point computes is the reference's product at the block's place. -/
theorem block_apply (t : Fin cfg0.N) (y : S1408x1024.Idx) :
    out0_2 (F := Ideal) (iblk m c 0 t) (iblk m c 1 t) y
      = val_main_v6 (F := Ideal) (V m c main_arg0) (V m c main_arg1) ((win0_2.rect t).emb y) := by
  obtain ⟨p, q, rfl⟩ : ∃ (p : Fin 1408) (q : Fin 1024), y = ix2 p q := ⟨y 0, y 1, eq_ix2 y⟩
  obtain ⟨r, x, s, z⟩ := blocks t
  rw [out_apply, val_main_v6_apply, val_main_v5_apply, val_main_v4_apply]
  exact Prod.sum_mul_swap (fun k => congrArg (V m c main_arg0) (Prod.ext2 (f := (win0_0.rect t).emb (ix2 k p)) (g := ridx_main_v4 (idx_main_v5 ((win0_2.rect t).emb (ix2 p q))) k)
      (win0_0.rect_emb_val_of_index_zero t 0 x (ix2 k p))
      (Prod.emb_same win0_0 win0_2 t 1 0 r (ix2 k p) (ix2 p q) rfl rfl)))
    (fun k => congrArg (V m c main_arg1) (Prod.ext2 (f := (win0_1.rect t).emb (ix2 k q)) (g := lidx_main_v4 (idx_main_v5 ((win0_2.rect t).emb (ix2 p q))) k)
      (win0_1.rect_emb_val_of_index_zero t 0 z (ix2 k q))
      (Prod.emb_same win0_1 win0_2 t 1 1 s (ix2 k q) (ix2 p q) rfl rfl)))

/-- The returned array is the reference's, from the same arguments. -/
theorem value : (dats m 0 c).arrAt 2 cfg0.N
    = val_main_v6 (F := Ideal) (m ((c.tc : Thread nD τ).loc main_arg0)) (m ((c.tc : Thread nD τ).loc main_arg1)) := by
  rw [← V_main_arg0 m c, ← V_main_arg1 m c]
  refine (dats m 0 c).arrAt_eq_of_covers 2 _ covers fun t _ y => ?_
  rw [cast_eq, after0_2]
  exact block_apply m c t y

/-- The reference leaves its arguments as they were, and it has no semaphore. -/
theorem reference_frame : Cert.quiescent_DownWeightReferenceIdeal (hDownWeightReferenceIdeal := Cert.DownWeightReferenceIdeal.Gen.facts) :=
  fun m ρ _ => (θ_run (Cert.DownWeightReferenceIdeal.defs (F := Ideal)) _ _).mono
    (fun r h => ⟨fun c => (h c).2, sem_eq_zero_of_no_sems (by decide) r.2⟩) (Cert.DownWeightReferenceIdeal.Value.run m ρ)

/-- From equal arguments the call and its reference return the same array. -/
theorem agree : Cert.algebraic_DownWeightIdeal_DownWeightReferenceIdeal (hDownWeightIdeal := Cert.DownWeightIdeal.Gen.facts)
    (hDownWeightReferenceIdeal := Cert.DownWeightReferenceIdeal.Gen.facts) := by
  intro m ρ m' ρ' _ hag
  refine ⟨_, Value.run_blocks m ρ, ?_⟩
  refine (θ_run (Cert.DownWeightReferenceIdeal.defs (F := Ideal)) _ _).mono (fun r h c => ?_) (Cert.DownWeightReferenceIdeal.Value.run m' ρ')
  obtain ⟨h0, ha⟩ := h c
  obtain ⟨g0, g1⟩ := hag c
  rw [Cert.DownWeightReferenceIdeal.Read.val_main_v6_eq, g0, g1] at h0
  exact ⟨h0.trans (value m c).symm, ha⟩

end Cert.DownWeightIdeal.Hand

end
-- ==== Proof.UpInput.lean ====
/- The product UpInput: the gradient of the ConvFFN's input from one half of its hidden values.
   What a block of it computes, what the array holds, and that this is what the reference computes. -/
module

public import proofs.«01_k».proof.Proof.Gen.UpInputIdeal.Value
public import proofs.«01_k».proof.Proof.Gen.UpInputReferenceIdeal.Read
public import proofs.«01_k».proof.Proof.Gen.UpInputReferenceIdeal.Run
public import proofs.«01_k».proof.Proof.Prod
public import proofs.«01_k».proof.Defs

@[expose] public section

set_option maxRecDepth 16384

noncomputable section

namespace Cert.UpInputIdeal.Hand

open Cert.UpInputIdeal Cert.UpInputIdeal.Gen Idealize.ShloMosaic Idealize.ShloMosaic.TcCoe Idealize.SL.Sem Pipeline
open Cert.UpInputReferenceIdeal.Read (val_main_v4 val_main_v4_apply lidx_main_v4 ridx_main_v4)

/-- An entry of the body's block: a row of the first block against a row of the second. -/
theorem out_apply (x0 : FVec Ideal S512x2816 .bf16) (x1 : FVec Ideal S1024x2816 .bf16) (p : Fin 512) (q : Fin 1024) :
    out0_2 (F := Ideal) x0 x1 (ix2 p q) = ∑ k : Fin 2816, (x0 (ix2 p k) * x1 (ix2 q k) : EReal) := by
  unfold out0_2
  rw [View.canon_unit_zero (by decide), View.ld_unit_zero (by decide), View.ld_unit_zero (by decide)]
  pointwise [k0_pay1]

/-- Which block of each array a grid point takes. -/
theorem blocks : ∀ t : Fin cfg0.N, win0_0.index t 0 = win0_2.index t 0 ∧ win0_0.index t 1 = 0
    ∧ win0_1.index t 0 = win0_2.index t 1 ∧ win0_1.index t 1 = 0 := by decide +kernel

theorem covers : (cfg0.win 2).Covers := by decide +kernel

variable (m : (l : Loc nD τ sig) → Buf (Elt Ideal) l) (c : Dev nD)

/-- What a grid point computes is the reference's product at the block's place. -/
theorem block_apply (t : Fin cfg0.N) (y : S512x1024.Idx) :
    out0_2 (F := Ideal) (iblk m c 0 t) (iblk m c 1 t) y
      = val_main_v4 (F := Ideal) (V m c main_arg0) (V m c main_arg1) ((win0_2.rect t).emb y) := by
  obtain ⟨p, q, rfl⟩ : ∃ (p : Fin 512) (q : Fin 1024), y = ix2 p q := ⟨y 0, y 1, eq_ix2 y⟩
  obtain ⟨r, x, s, z⟩ := blocks t
  rw [out_apply, val_main_v4_apply]
  exact Prod.sum_mul (fun k => congrArg (V m c main_arg0) (Prod.ext2 (f := (win0_0.rect t).emb (ix2 p k)) (g := lidx_main_v4 ((win0_2.rect t).emb (ix2 p q)) k)
      (Prod.emb_same win0_0 win0_2 t 0 0 r (ix2 p k) (ix2 p q) rfl rfl)
      (win0_0.rect_emb_val_of_index_zero t 1 x (ix2 p k))))
    (fun k => congrArg (V m c main_arg1) (Prod.ext2 (f := (win0_1.rect t).emb (ix2 q k)) (g := ridx_main_v4 ((win0_2.rect t).emb (ix2 p q)) k)
      (Prod.emb_same win0_1 win0_2 t 0 1 s (ix2 q k) (ix2 p q) rfl rfl)
      (win0_1.rect_emb_val_of_index_zero t 1 z (ix2 q k))))

/-- The returned array is the reference's, from the same arguments. -/
theorem value : (dats m 0 c).arrAt 2 cfg0.N
    = val_main_v4 (F := Ideal) (m ((c.tc : Thread nD τ).loc main_arg0)) (m ((c.tc : Thread nD τ).loc main_arg1)) := by
  rw [← V_main_arg0 m c, ← V_main_arg1 m c]
  refine (dats m 0 c).arrAt_eq_of_covers 2 _ covers fun t _ y => ?_
  rw [cast_eq, after0_2]
  exact block_apply m c t y

/-- The reference leaves its arguments as they were, and it has no semaphore. -/
theorem reference_frame : Cert.quiescent_UpInputReferenceIdeal (hUpInputReferenceIdeal := Cert.UpInputReferenceIdeal.Gen.facts) :=
  fun m ρ _ => (θ_run (Cert.UpInputReferenceIdeal.defs (F := Ideal)) _ _).mono
    (fun r h => ⟨fun c => (h c).2, sem_eq_zero_of_no_sems (by decide) r.2⟩) (Cert.UpInputReferenceIdeal.Value.run m ρ)

/-- From equal arguments the call and its reference return the same array. -/
theorem agree : Cert.algebraic_UpInputIdeal_UpInputReferenceIdeal (hUpInputIdeal := Cert.UpInputIdeal.Gen.facts)
    (hUpInputReferenceIdeal := Cert.UpInputReferenceIdeal.Gen.facts) := by
  intro m ρ m' ρ' _ hag
  refine ⟨_, Value.run_blocks m ρ, ?_⟩
  refine (θ_run (Cert.UpInputReferenceIdeal.defs (F := Ideal)) _ _).mono (fun r h c => ?_) (Cert.UpInputReferenceIdeal.Value.run m' ρ')
  obtain ⟨h0, ha⟩ := h c
  obtain ⟨g0, g1⟩ := hag c
  rw [Cert.UpInputReferenceIdeal.Read.val_main_v4_eq, g0, g1] at h0
  exact ⟨h0.trans (value m c).symm, ha⟩

end Cert.UpInputIdeal.Hand

end
-- ==== Proof.UpInputAdd.lean ====
/- The product UpInputAdd: the gradient of the ConvFFN's input from one half of its hidden values, added to that from the other half.
   What a block of it computes, what the array holds, and that this is what the reference computes. -/
module

public import proofs.«01_k».proof.Proof.Gen.UpInputAddIdeal.Value
public import proofs.«01_k».proof.Proof.Gen.UpInputAddReferenceIdeal.Read
public import proofs.«01_k».proof.Proof.Gen.UpInputAddReferenceIdeal.Run
public import proofs.«01_k».proof.Proof.Prod
public import proofs.«01_k».proof.Defs

@[expose] public section

set_option maxRecDepth 16384

noncomputable section

namespace Cert.UpInputAddIdeal.Hand

open Cert.UpInputAddIdeal Cert.UpInputAddIdeal.Gen Idealize.ShloMosaic Idealize.ShloMosaic.TcCoe Idealize.SL.Sem Pipeline
open Cert.UpInputAddReferenceIdeal.Read (val_main_v5 val_main_v5_apply val_main_v4_apply lidx_main_v4 ridx_main_v4)

/-- An entry of the body's block: a row of the first block against a row of the second, and the entry of the added block. -/
theorem out_apply (x0 : FVec Ideal S512x2816 .bf16) (x1 : FVec Ideal S1024x2816 .bf16) (x2 : FVec Ideal S512x1024 .f32) (p : Fin 512) (q : Fin 1024) :
    out0_3 (F := Ideal) x0 x1 x2 (ix2 p q) = ((∑ k : Fin 2816, (x0 (ix2 p k) * x1 (ix2 q k) : EReal)) + x2 (ix2 p q) : EReal) := by
  unfold out0_3
  rw [View.canon_unit_zero (by decide), View.ld_unit_zero (by decide), View.ld_unit_zero (by decide), View.ld_unit_zero (by decide)]
  pointwise [k0_pay1]

/-- Which block of each array a grid point takes. -/
theorem blocks : ∀ t : Fin cfg0.N, win0_0.index t 0 = win0_3.index t 0 ∧ win0_0.index t 1 = 0
    ∧ win0_1.index t 0 = win0_3.index t 1 ∧ win0_1.index t 1 = 0
    ∧ win0_2.index t = win0_3.index t := by decide +kernel

theorem covers : (cfg0.win 3).Covers := by decide +kernel

variable (m : (l : Loc nD τ sig) → Buf (Elt Ideal) l) (c : Dev nD)

/-- What a grid point computes is the reference's product at the block's place. -/
theorem block_apply (t : Fin cfg0.N) (y : S512x1024.Idx) :
    out0_3 (F := Ideal) (iblk m c 0 t) (iblk m c 1 t) (iblk m c 2 t) y
      = val_main_v5 (F := Ideal) (V m c main_arg0) (V m c main_arg1) (V m c main_arg2) ((win0_3.rect t).emb y) := by
  obtain ⟨p, q, rfl⟩ : ∃ (p : Fin 512) (q : Fin 1024), y = ix2 p q := ⟨y 0, y 1, eq_ix2 y⟩
  obtain ⟨r, x, s, z, w⟩ := blocks t
  rw [out_apply, val_main_v5_apply, val_main_v4_apply]
  have e : (win0_2.rect t).emb (ix2 p q) = (win0_3.rect t).emb (ix2 p q) :=
    Prod.ext2 (Prod.emb_same win0_2 win0_3 t 0 0 (congrFun w 0) (ix2 p q) (ix2 p q) rfl rfl)
      (Prod.emb_same win0_2 win0_3 t 1 1 (congrFun w 1) (ix2 p q) (ix2 p q) rfl rfl)
  exact Prod.add_swap (congrArg (V m c main_arg2) e) (Prod.sum_mul (fun k => congrArg (V m c main_arg0) (Prod.ext2 (f := (win0_0.rect t).emb (ix2 p k)) (g := lidx_main_v4 ((win0_3.rect t).emb (ix2 p q)) k)
      (Prod.emb_same win0_0 win0_3 t 0 0 r (ix2 p k) (ix2 p q) rfl rfl)
      (win0_0.rect_emb_val_of_index_zero t 1 x (ix2 p k))))
    (fun k => congrArg (V m c main_arg1) (Prod.ext2 (f := (win0_1.rect t).emb (ix2 q k)) (g := ridx_main_v4 ((win0_3.rect t).emb (ix2 p q)) k)
      (Prod.emb_same win0_1 win0_3 t 0 1 s (ix2 q k) (ix2 p q) rfl rfl)
      (win0_1.rect_emb_val_of_index_zero t 1 z (ix2 q k)))))

/-- The returned array is the reference's, from the same arguments. -/
theorem value : (dats m 0 c).arrAt 3 cfg0.N
    = val_main_v5 (F := Ideal) (m ((c.tc : Thread nD τ).loc main_arg0)) (m ((c.tc : Thread nD τ).loc main_arg1)) (m ((c.tc : Thread nD τ).loc main_arg2)) := by
  rw [← V_main_arg0 m c, ← V_main_arg1 m c, ← V_main_arg2 m c]
  refine (dats m 0 c).arrAt_eq_of_covers 3 _ covers fun t _ y => ?_
  rw [cast_eq, after0_3]
  exact block_apply m c t y

/-- The reference leaves its arguments as they were, and it has no semaphore. -/
theorem reference_frame : Cert.quiescent_UpInputAddReferenceIdeal (hUpInputAddReferenceIdeal := Cert.UpInputAddReferenceIdeal.Gen.facts) :=
  fun m ρ _ => (θ_run (Cert.UpInputAddReferenceIdeal.defs (F := Ideal)) _ _).mono
    (fun r h => ⟨fun c => (h c).2, sem_eq_zero_of_no_sems (by decide) r.2⟩) (Cert.UpInputAddReferenceIdeal.Value.run m ρ)

/-- From equal arguments the call and its reference return the same array. -/
theorem agree : Cert.algebraic_UpInputAddIdeal_UpInputAddReferenceIdeal (hUpInputAddIdeal := Cert.UpInputAddIdeal.Gen.facts)
    (hUpInputAddReferenceIdeal := Cert.UpInputAddReferenceIdeal.Gen.facts) := by
  intro m ρ m' ρ' _ hag
  refine ⟨_, Value.run_blocks m ρ, ?_⟩
  refine (θ_run (Cert.UpInputAddReferenceIdeal.defs (F := Ideal)) _ _).mono (fun r h c => ?_) (Cert.UpInputAddReferenceIdeal.Value.run m' ρ')
  obtain ⟨h0, ha⟩ := h c
  obtain ⟨g0, g1, g2⟩ := hag c
  rw [Cert.UpInputAddReferenceIdeal.Read.val_main_v5_eq, g0, g1, g2] at h0
  exact ⟨h0.trans (value m c).symm, ha⟩

end Cert.UpInputAddIdeal.Hand

end
-- ==== Proof.UpWeight.lean ====
/- The product UpWeight: the gradient of one half of the ConvFFN's first matrix.
   What a block of it computes, what the array holds, and that this is what the reference computes. -/
module

public import proofs.«01_k».proof.Proof.Gen.UpWeightIdeal.Value
public import proofs.«01_k».proof.Proof.Gen.UpWeightReferenceIdeal.Read
public import proofs.«01_k».proof.Proof.Gen.UpWeightReferenceIdeal.Run
public import proofs.«01_k».proof.Proof.Prod
public import proofs.«01_k».proof.Defs

@[expose] public section

set_option maxRecDepth 16384

noncomputable section

namespace Cert.UpWeightIdeal.Hand

open Cert.UpWeightIdeal Cert.UpWeightIdeal.Gen Idealize.ShloMosaic Idealize.ShloMosaic.TcCoe Idealize.SL.Sem Pipeline
open Cert.UpWeightReferenceIdeal.Read (val_main_v6 val_main_v6_apply val_main_v5_apply idx_main_v5 val_main_v4_apply lidx_main_v4 ridx_main_v4)

/-- An entry of the body's block: a column of the first block against a column of the second. -/
theorem out_apply (x0 : FVec Ideal S2048x1024 .bf16) (x1 : FVec Ideal S2048x1408 .bf16) (p : Fin 1024) (q : Fin 1408) :
    out0_2 (F := Ideal) x0 x1 (ix2 p q) = ∑ k : Fin 2048, (x0 (ix2 k p) * x1 (ix2 k q) : EReal) := by
  unfold out0_2
  rw [View.canon_unit_zero (by decide), View.ld_unit_zero (by decide), View.ld_unit_zero (by decide)]
  pointwise [k0_pay1]

/-- Which block of each array a grid point takes. -/
theorem blocks : ∀ t : Fin cfg0.N, win0_0.index t 1 = win0_2.index t 0 ∧ win0_0.index t 0 = 0
    ∧ win0_1.index t 1 = win0_2.index t 1 ∧ win0_1.index t 0 = 0 := by decide +kernel

theorem covers : (cfg0.win 2).Covers := by decide +kernel

variable (m : (l : Loc nD τ sig) → Buf (Elt Ideal) l) (c : Dev nD)

/-- What a grid point computes is the reference's product at the block's place. -/
theorem block_apply (t : Fin cfg0.N) (y : S1024x1408.Idx) :
    out0_2 (F := Ideal) (iblk m c 0 t) (iblk m c 1 t) y
      = val_main_v6 (F := Ideal) (V m c main_arg0) (V m c main_arg1) ((win0_2.rect t).emb y) := by
  obtain ⟨p, q, rfl⟩ : ∃ (p : Fin 1024) (q : Fin 1408), y = ix2 p q := ⟨y 0, y 1, eq_ix2 y⟩
  obtain ⟨r, x, s, z⟩ := blocks t
  rw [out_apply, val_main_v6_apply, val_main_v5_apply, val_main_v4_apply]
  exact Prod.sum_mul_swap (fun k => congrArg (V m c main_arg0) (Prod.ext2 (f := (win0_0.rect t).emb (ix2 k p)) (g := ridx_main_v4 (idx_main_v5 ((win0_2.rect t).emb (ix2 p q))) k)
      (win0_0.rect_emb_val_of_index_zero t 0 x (ix2 k p))
      (Prod.emb_same win0_0 win0_2 t 1 0 r (ix2 k p) (ix2 p q) rfl rfl)))
    (fun k => congrArg (V m c main_arg1) (Prod.ext2 (f := (win0_1.rect t).emb (ix2 k q)) (g := lidx_main_v4 (idx_main_v5 ((win0_2.rect t).emb (ix2 p q))) k)
      (win0_1.rect_emb_val_of_index_zero t 0 z (ix2 k q))
      (Prod.emb_same win0_1 win0_2 t 1 1 s (ix2 k q) (ix2 p q) rfl rfl)))

/-- The returned array is the reference's, from the same arguments. -/
theorem value : (dats m 0 c).arrAt 2 cfg0.N
    = val_main_v6 (F := Ideal) (m ((c.tc : Thread nD τ).loc main_arg0)) (m ((c.tc : Thread nD τ).loc main_arg1)) := by
  rw [← V_main_arg0 m c, ← V_main_arg1 m c]
  refine (dats m 0 c).arrAt_eq_of_covers 2 _ covers fun t _ y => ?_
  rw [cast_eq, after0_2]
  exact block_apply m c t y

/-- The reference leaves its arguments as they were, and it has no semaphore. -/
theorem reference_frame : Cert.quiescent_UpWeightReferenceIdeal (hUpWeightReferenceIdeal := Cert.UpWeightReferenceIdeal.Gen.facts) :=
  fun m ρ _ => (θ_run (Cert.UpWeightReferenceIdeal.defs (F := Ideal)) _ _).mono
    (fun r h => ⟨fun c => (h c).2, sem_eq_zero_of_no_sems (by decide) r.2⟩) (Cert.UpWeightReferenceIdeal.Value.run m ρ)

/-- From equal arguments the call and its reference return the same array. -/
theorem agree : Cert.algebraic_UpWeightIdeal_UpWeightReferenceIdeal (hUpWeightIdeal := Cert.UpWeightIdeal.Gen.facts)
    (hUpWeightReferenceIdeal := Cert.UpWeightReferenceIdeal.Gen.facts) := by
  intro m ρ m' ρ' _ hag
  refine ⟨_, Value.run_blocks m ρ, ?_⟩
  refine (θ_run (Cert.UpWeightReferenceIdeal.defs (F := Ideal)) _ _).mono (fun r h c => ?_) (Cert.UpWeightReferenceIdeal.Value.run m' ρ')
  obtain ⟨h0, ha⟩ := h c
  obtain ⟨g0, g1⟩ := hag c
  rw [Cert.UpWeightReferenceIdeal.Read.val_main_v6_eq, g0, g1] at h0
  exact ⟨h0.trans (value m c).symm, ha⟩

end Cert.UpWeightIdeal.Hand

end
-- ==== Proof.Up.lean ====
/- The product Up: one half of the ConvFFN's hidden values from its input.
   What a block of it computes, what the array holds, and that this is what the reference computes. -/
module

public import proofs.«01_k».proof.Proof.Gen.UpIdeal.Value
public import proofs.«01_k».proof.Proof.Gen.UpReferenceIdeal.Read
public import proofs.«01_k».proof.Proof.Gen.UpReferenceIdeal.Run
public import proofs.«01_k».proof.Proof.Prod
public import proofs.«01_k».proof.Defs

@[expose] public section

set_option maxRecDepth 16384

noncomputable section

namespace Cert.UpIdeal.Hand

open Cert.UpIdeal Cert.UpIdeal.Gen Idealize.ShloMosaic Idealize.ShloMosaic.TcCoe Idealize.SL.Sem Pipeline
open Cert.UpReferenceIdeal.Read (val_main_v2 val_main_v2_apply lidx_main_v2 ridx_main_v2)

/-- An entry of the body's block: a row of the first block against a column of the second. -/
theorem out_apply (x0 : FVec Ideal S512x1024 .bf16) (x1 : FVec Ideal S1024x2816 .bf16) (p : Fin 512) (q : Fin 2816) :
    out0_2 (F := Ideal) x0 x1 (ix2 p q) = ∑ k : Fin 1024, (x0 (ix2 p k) * x1 (ix2 k q) : EReal) := by
  unfold out0_2
  rw [View.canon_unit_zero (by decide), View.ld_unit_zero (by decide), View.ld_unit_zero (by decide)]
  pointwise [k0_pay1]

/-- Which block of each array a grid point takes. -/
theorem blocks : ∀ t : Fin cfg0.N, win0_0.index t 0 = win0_2.index t 0 ∧ win0_0.index t 1 = 0
    ∧ win0_1.index t 1 = win0_2.index t 1 ∧ win0_1.index t 0 = 0 := by decide +kernel

theorem covers : (cfg0.win 2).Covers := by decide +kernel

variable (m : (l : Loc nD τ sig) → Buf (Elt Ideal) l) (c : Dev nD)

/-- What a grid point computes is the reference's product at the block's place. -/
theorem block_apply (t : Fin cfg0.N) (y : S512x2816.Idx) :
    out0_2 (F := Ideal) (iblk m c 0 t) (iblk m c 1 t) y
      = val_main_v2 (F := Ideal) (V m c main_arg0) (V m c main_arg1) ((win0_2.rect t).emb y) := by
  obtain ⟨p, q, rfl⟩ : ∃ (p : Fin 512) (q : Fin 2816), y = ix2 p q := ⟨y 0, y 1, eq_ix2 y⟩
  obtain ⟨r, x, s, z⟩ := blocks t
  rw [out_apply, val_main_v2_apply]
  exact Prod.sum_mul (fun k => congrArg (V m c main_arg0) (Prod.ext2 (f := (win0_0.rect t).emb (ix2 p k)) (g := lidx_main_v2 ((win0_2.rect t).emb (ix2 p q)) k)
      (Prod.emb_same win0_0 win0_2 t 0 0 r (ix2 p k) (ix2 p q) rfl rfl)
      (win0_0.rect_emb_val_of_index_zero t 1 x (ix2 p k))))
    (fun k => congrArg (V m c main_arg1) (Prod.ext2 (f := (win0_1.rect t).emb (ix2 k q)) (g := ridx_main_v2 ((win0_2.rect t).emb (ix2 p q)) k)
      (win0_1.rect_emb_val_of_index_zero t 0 z (ix2 k q))
      (Prod.emb_same win0_1 win0_2 t 1 1 s (ix2 k q) (ix2 p q) rfl rfl)))

/-- The returned array is the reference's, from the same arguments. -/
theorem value : (dats m 0 c).arrAt 2 cfg0.N
    = val_main_v2 (F := Ideal) (m ((c.tc : Thread nD τ).loc main_arg0)) (m ((c.tc : Thread nD τ).loc main_arg1)) := by
  rw [← V_main_arg0 m c, ← V_main_arg1 m c]
  refine (dats m 0 c).arrAt_eq_of_covers 2 _ covers fun t _ y => ?_
  rw [cast_eq, after0_2]
  exact block_apply m c t y

/-- The reference leaves its arguments as they were, and it has no semaphore. -/
theorem reference_frame : Cert.quiescent_UpReferenceIdeal (hUpReferenceIdeal := Cert.UpReferenceIdeal.Gen.facts) :=
  fun m ρ _ => (θ_run (Cert.UpReferenceIdeal.defs (F := Ideal)) _ _).mono
    (fun r h => ⟨fun c => (h c).2, sem_eq_zero_of_no_sems (by decide) r.2⟩) (Cert.UpReferenceIdeal.Value.run m ρ)

/-- From equal arguments the call and its reference return the same array. -/
theorem agree : Cert.algebraic_UpIdeal_UpReferenceIdeal (hUpIdeal := Cert.UpIdeal.Gen.facts)
    (hUpReferenceIdeal := Cert.UpReferenceIdeal.Gen.facts) := by
  intro m ρ m' ρ' _ hag
  refine ⟨_, Value.run_blocks m ρ, ?_⟩
  refine (θ_run (Cert.UpReferenceIdeal.defs (F := Ideal)) _ _).mono (fun r h c => ?_) (Cert.UpReferenceIdeal.Value.run m' ρ')
  obtain ⟨h0, ha⟩ := h c
  obtain ⟨g0, g1⟩ := hag c
  rw [Cert.UpReferenceIdeal.Read.val_main_v2_eq, g0, g1] at h0
  exact ⟨h0.trans (value m c).symm, ha⟩

end Cert.UpIdeal.Hand

end
-- ==== Proof.Down.lean ====
/- The product Down: the ConvFFN's output from its hidden values, added to the residual.
   What a block of it computes, what the array holds, and that this is what the reference computes. -/
module

public import proofs.«01_k».proof.Proof.Gen.DownIdeal.Value
public import proofs.«01_k».proof.Proof.Gen.DownReferenceIdeal.Read
public import proofs.«01_k».proof.Proof.Gen.DownReferenceIdeal.Run
public import proofs.«01_k».proof.Proof.Prod
public import proofs.«01_k».proof.Defs

@[expose] public section

set_option maxRecDepth 16384

noncomputable section

namespace Cert.DownIdeal.Hand

open Cert.DownIdeal Cert.DownIdeal.Gen Idealize.ShloMosaic Idealize.ShloMosaic.TcCoe Idealize.SL.Sem Pipeline
open Cert.DownReferenceIdeal.Read (val_main_v3 val_main_v3_apply val_main_v2_apply lidx_main_v2 ridx_main_v2)

/-- An entry of the body's block: a row of the first block against a column of the second, and the entry of the added block. -/
theorem out_apply (x0 : FVec Ideal S512x2816 .bf16) (x1 : FVec Ideal S2816x1024 .bf16) (x2 : FVec Ideal S512x1024 .f32) (p : Fin 512) (q : Fin 1024) :
    out0_3 (F := Ideal) x0 x1 x2 (ix2 p q) = ((∑ k : Fin 2816, (x0 (ix2 p k) * x1 (ix2 k q) : EReal)) + x2 (ix2 p q) : EReal) := by
  unfold out0_3
  rw [View.canon_unit_zero (by decide), View.ld_unit_zero (by decide), View.ld_unit_zero (by decide), View.ld_unit_zero (by decide)]
  pointwise [k0_pay1]

/-- Which block of each array a grid point takes. -/
theorem blocks : ∀ t : Fin cfg0.N, win0_0.index t 0 = win0_3.index t 0 ∧ win0_0.index t 1 = 0
    ∧ win0_1.index t 1 = win0_3.index t 1 ∧ win0_1.index t 0 = 0
    ∧ win0_2.index t = win0_3.index t := by decide +kernel

theorem covers : (cfg0.win 3).Covers := by decide +kernel

variable (m : (l : Loc nD τ sig) → Buf (Elt Ideal) l) (c : Dev nD)

/-- What a grid point computes is the reference's product at the block's place. -/
theorem block_apply (t : Fin cfg0.N) (y : S512x1024.Idx) :
    out0_3 (F := Ideal) (iblk m c 0 t) (iblk m c 1 t) (iblk m c 2 t) y
      = val_main_v3 (F := Ideal) (V m c main_arg0) (V m c main_arg1) (V m c main_arg2) ((win0_3.rect t).emb y) := by
  obtain ⟨p, q, rfl⟩ : ∃ (p : Fin 512) (q : Fin 1024), y = ix2 p q := ⟨y 0, y 1, eq_ix2 y⟩
  obtain ⟨r, x, s, z, w⟩ := blocks t
  rw [out_apply, val_main_v3_apply, val_main_v2_apply]
  have e : (win0_2.rect t).emb (ix2 p q) = (win0_3.rect t).emb (ix2 p q) :=
    Prod.ext2 (Prod.emb_same win0_2 win0_3 t 0 0 (congrFun w 0) (ix2 p q) (ix2 p q) rfl rfl)
      (Prod.emb_same win0_2 win0_3 t 1 1 (congrFun w 1) (ix2 p q) (ix2 p q) rfl rfl)
  exact Prod.add_swap (congrArg (V m c main_arg2) e) (Prod.sum_mul (fun k => congrArg (V m c main_arg0) (Prod.ext2 (f := (win0_0.rect t).emb (ix2 p k)) (g := lidx_main_v2 ((win0_3.rect t).emb (ix2 p q)) k)
      (Prod.emb_same win0_0 win0_3 t 0 0 r (ix2 p k) (ix2 p q) rfl rfl)
      (win0_0.rect_emb_val_of_index_zero t 1 x (ix2 p k))))
    (fun k => congrArg (V m c main_arg1) (Prod.ext2 (f := (win0_1.rect t).emb (ix2 k q)) (g := ridx_main_v2 ((win0_3.rect t).emb (ix2 p q)) k)
      (win0_1.rect_emb_val_of_index_zero t 0 z (ix2 k q))
      (Prod.emb_same win0_1 win0_3 t 1 1 s (ix2 k q) (ix2 p q) rfl rfl))))

/-- The returned array is the reference's, from the same arguments. -/
theorem value : (dats m 0 c).arrAt 3 cfg0.N
    = val_main_v3 (F := Ideal) (m ((c.tc : Thread nD τ).loc main_arg0)) (m ((c.tc : Thread nD τ).loc main_arg1)) (m ((c.tc : Thread nD τ).loc main_arg2)) := by
  rw [← V_main_arg0 m c, ← V_main_arg1 m c, ← V_main_arg2 m c]
  refine (dats m 0 c).arrAt_eq_of_covers 3 _ covers fun t _ y => ?_
  rw [cast_eq, after0_3]
  exact block_apply m c t y

/-- The reference leaves its arguments as they were, and it has no semaphore. -/
theorem reference_frame : Cert.quiescent_DownReferenceIdeal (hDownReferenceIdeal := Cert.DownReferenceIdeal.Gen.facts) :=
  fun m ρ _ => (θ_run (Cert.DownReferenceIdeal.defs (F := Ideal)) _ _).mono
    (fun r h => ⟨fun c => (h c).2, sem_eq_zero_of_no_sems (by decide) r.2⟩) (Cert.DownReferenceIdeal.Value.run m ρ)

/-- From equal arguments the call and its reference return the same array. -/
theorem agree : Cert.algebraic_DownIdeal_DownReferenceIdeal (hDownIdeal := Cert.DownIdeal.Gen.facts)
    (hDownReferenceIdeal := Cert.DownReferenceIdeal.Gen.facts) := by
  intro m ρ m' ρ' _ hag
  refine ⟨_, Value.run_blocks m ρ, ?_⟩
  refine (θ_run (Cert.DownReferenceIdeal.defs (F := Ideal)) _ _).mono (fun r h c => ?_) (Cert.DownReferenceIdeal.Value.run m' ρ')
  obtain ⟨h0, ha⟩ := h c
  obtain ⟨g0, g1, g2⟩ := hag c
  rw [Cert.DownReferenceIdeal.Read.val_main_v3_eq, g0, g1, g2] at h0
  exact ⟨h0.trans (value m c).symm, ha⟩

end Cert.DownIdeal.Hand

end
-- ==== Proof.OutMixInput.lean ====
/- The product OutMixInput: the gradient of a layer's mixed values through the output projection.
   What a block of it computes, what the array holds, and that this is what the reference computes. -/
module

public import proofs.«01_k».proof.Proof.Gen.OutMixInputIdeal.Value
public import proofs.«01_k».proof.Proof.Gen.OutMixInputReferenceIdeal.Read
public import proofs.«01_k».proof.Proof.Gen.OutMixInputReferenceIdeal.Run
public import proofs.«01_k».proof.Proof.Prod
public import proofs.«01_k».proof.Defs

@[expose] public section

set_option maxRecDepth 16384

noncomputable section

namespace Cert.OutMixInputIdeal.Hand

open Cert.OutMixInputIdeal Cert.OutMixInputIdeal.Gen Idealize.ShloMosaic Idealize.ShloMosaic.TcCoe Idealize.SL.Sem Pipeline
open Cert.OutMixInputReferenceIdeal.Read (val_main_v4 val_main_v4_apply lidx_main_v4 ridx_main_v4)

/-- An entry of the body's block: a row of the first block against a row of the second. -/
theorem out_apply (x0 : FVec Ideal S512x1024 .bf16) (x1 : FVec Ideal S768x1024 .bf16) (p : Fin 512) (q : Fin 768) :
    out0_2 (F := Ideal) x0 x1 (ix2 p q) = ∑ k : Fin 1024, (x0 (ix2 p k) * x1 (ix2 q k) : EReal) := by
  unfold out0_2
  rw [View.canon_unit_zero (by decide), View.ld_unit_zero (by decide), View.ld_unit_zero (by decide)]
  pointwise [k0_pay1]

/-- Which block of each array a grid point takes. -/
theorem blocks : ∀ t : Fin cfg0.N, win0_0.index t 0 = win0_2.index t 0 ∧ win0_0.index t 1 = 0
    ∧ win0_1.index t 0 = win0_2.index t 1 ∧ win0_1.index t 1 = 0 := by decide +kernel

theorem covers : (cfg0.win 2).Covers := by decide +kernel

variable (m : (l : Loc nD τ sig) → Buf (Elt Ideal) l) (c : Dev nD)

/-- What a grid point computes is the reference's product at the block's place. -/
theorem block_apply (t : Fin cfg0.N) (y : S512x768.Idx) :
    out0_2 (F := Ideal) (iblk m c 0 t) (iblk m c 1 t) y
      = val_main_v4 (F := Ideal) (V m c main_arg0) (V m c main_arg1) ((win0_2.rect t).emb y) := by
  obtain ⟨p, q, rfl⟩ : ∃ (p : Fin 512) (q : Fin 768), y = ix2 p q := ⟨y 0, y 1, eq_ix2 y⟩
  obtain ⟨r, x, s, z⟩ := blocks t
  rw [out_apply, val_main_v4_apply]
  exact Prod.sum_mul (fun k => congrArg (V m c main_arg0) (Prod.ext2 (f := (win0_0.rect t).emb (ix2 p k)) (g := lidx_main_v4 ((win0_2.rect t).emb (ix2 p q)) k)
      (Prod.emb_same win0_0 win0_2 t 0 0 r (ix2 p k) (ix2 p q) rfl rfl)
      (win0_0.rect_emb_val_of_index_zero t 1 x (ix2 p k))))
    (fun k => congrArg (V m c main_arg1) (Prod.ext2 (f := (win0_1.rect t).emb (ix2 q k)) (g := ridx_main_v4 ((win0_2.rect t).emb (ix2 p q)) k)
      (Prod.emb_same win0_1 win0_2 t 0 1 s (ix2 q k) (ix2 p q) rfl rfl)
      (win0_1.rect_emb_val_of_index_zero t 1 z (ix2 q k))))

/-- The returned array is the reference's, from the same arguments. -/
theorem value : (dats m 0 c).arrAt 2 cfg0.N
    = val_main_v4 (F := Ideal) (m ((c.tc : Thread nD τ).loc main_arg0)) (m ((c.tc : Thread nD τ).loc main_arg1)) := by
  rw [← V_main_arg0 m c, ← V_main_arg1 m c]
  refine (dats m 0 c).arrAt_eq_of_covers 2 _ covers fun t _ y => ?_
  rw [cast_eq, after0_2]
  exact block_apply m c t y

/-- The reference leaves its arguments as they were, and it has no semaphore. -/
theorem reference_frame : Cert.quiescent_OutMixInputReferenceIdeal (hOutMixInputReferenceIdeal := Cert.OutMixInputReferenceIdeal.Gen.facts) :=
  fun m ρ _ => (θ_run (Cert.OutMixInputReferenceIdeal.defs (F := Ideal)) _ _).mono
    (fun r h => ⟨fun c => (h c).2, sem_eq_zero_of_no_sems (by decide) r.2⟩) (Cert.OutMixInputReferenceIdeal.Value.run m ρ)

/-- From equal arguments the call and its reference return the same array. -/
theorem agree : Cert.algebraic_OutMixInputIdeal_OutMixInputReferenceIdeal (hOutMixInputIdeal := Cert.OutMixInputIdeal.Gen.facts)
    (hOutMixInputReferenceIdeal := Cert.OutMixInputReferenceIdeal.Gen.facts) := by
  intro m ρ m' ρ' _ hag
  refine ⟨_, Value.run_blocks m ρ, ?_⟩
  refine (θ_run (Cert.OutMixInputReferenceIdeal.defs (F := Ideal)) _ _).mono (fun r h c => ?_) (Cert.OutMixInputReferenceIdeal.Value.run m' ρ')
  obtain ⟨h0, ha⟩ := h c
  obtain ⟨g0, g1⟩ := hag c
  rw [Cert.OutMixInputReferenceIdeal.Read.val_main_v4_eq, g0, g1] at h0
  exact ⟨h0.trans (value m c).symm, ha⟩

end Cert.OutMixInputIdeal.Hand

end
-- ==== Proof.OutMemInput.lean ====
/- The product OutMemInput: the gradient of a layer's memory attention through the output projection.
   What a block of it computes, what the array holds, and that this is what the reference computes. -/
module

public import proofs.«01_k».proof.Proof.Gen.OutMemInputIdeal.Value
public import proofs.«01_k».proof.Proof.Gen.OutMemInputReferenceIdeal.Read
public import proofs.«01_k».proof.Proof.Gen.OutMemInputReferenceIdeal.Run
public import proofs.«01_k».proof.Proof.Prod
public import proofs.«01_k».proof.Defs

@[expose] public section

set_option maxRecDepth 16384

noncomputable section

namespace Cert.OutMemInputIdeal.Hand

open Cert.OutMemInputIdeal Cert.OutMemInputIdeal.Gen Idealize.ShloMosaic Idealize.ShloMosaic.TcCoe Idealize.SL.Sem Pipeline
open Cert.OutMemInputReferenceIdeal.Read (val_main_v4 val_main_v4_apply lidx_main_v4 ridx_main_v4)

/-- An entry of the body's block: a row of the first block against a row of the second. -/
theorem out_apply (x0 : FVec Ideal S512x1024 .bf16) (x1 : FVec Ideal S256x1024 .bf16) (p : Fin 512) (q : Fin 256) :
    out0_2 (F := Ideal) x0 x1 (ix2 p q) = ∑ k : Fin 1024, (x0 (ix2 p k) * x1 (ix2 q k) : EReal) := by
  unfold out0_2
  rw [View.canon_unit_zero (by decide), View.ld_unit_zero (by decide), View.ld_unit_zero (by decide)]
  pointwise [k0_pay1]

/-- Which block of each array a grid point takes. -/
theorem blocks : ∀ t : Fin cfg0.N, win0_0.index t 0 = win0_2.index t 0 ∧ win0_0.index t 1 = 0
    ∧ win0_1.index t 0 = win0_2.index t 1 ∧ win0_1.index t 1 = 0 := by decide +kernel

theorem covers : (cfg0.win 2).Covers := by decide +kernel

variable (m : (l : Loc nD τ sig) → Buf (Elt Ideal) l) (c : Dev nD)

/-- What a grid point computes is the reference's product at the block's place. -/
theorem block_apply (t : Fin cfg0.N) (y : S512x256.Idx) :
    out0_2 (F := Ideal) (iblk m c 0 t) (iblk m c 1 t) y
      = val_main_v4 (F := Ideal) (V m c main_arg0) (V m c main_arg1) ((win0_2.rect t).emb y) := by
  obtain ⟨p, q, rfl⟩ : ∃ (p : Fin 512) (q : Fin 256), y = ix2 p q := ⟨y 0, y 1, eq_ix2 y⟩
  obtain ⟨r, x, s, z⟩ := blocks t
  rw [out_apply, val_main_v4_apply]
  exact Prod.sum_mul (fun k => congrArg (V m c main_arg0) (Prod.ext2 (f := (win0_0.rect t).emb (ix2 p k)) (g := lidx_main_v4 ((win0_2.rect t).emb (ix2 p q)) k)
      (Prod.emb_same win0_0 win0_2 t 0 0 r (ix2 p k) (ix2 p q) rfl rfl)
      (win0_0.rect_emb_val_of_index_zero t 1 x (ix2 p k))))
    (fun k => congrArg (V m c main_arg1) (Prod.ext2 (f := (win0_1.rect t).emb (ix2 q k)) (g := ridx_main_v4 ((win0_2.rect t).emb (ix2 p q)) k)
      (Prod.emb_same win0_1 win0_2 t 0 1 s (ix2 q k) (ix2 p q) rfl rfl)
      (win0_1.rect_emb_val_of_index_zero t 1 z (ix2 q k))))

/-- The returned array is the reference's, from the same arguments. -/
theorem value : (dats m 0 c).arrAt 2 cfg0.N
    = val_main_v4 (F := Ideal) (m ((c.tc : Thread nD τ).loc main_arg0)) (m ((c.tc : Thread nD τ).loc main_arg1)) := by
  rw [← V_main_arg0 m c, ← V_main_arg1 m c]
  refine (dats m 0 c).arrAt_eq_of_covers 2 _ covers fun t _ y => ?_
  rw [cast_eq, after0_2]
  exact block_apply m c t y

/-- The reference leaves its arguments as they were, and it has no semaphore. -/
theorem reference_frame : Cert.quiescent_OutMemInputReferenceIdeal (hOutMemInputReferenceIdeal := Cert.OutMemInputReferenceIdeal.Gen.facts) :=
  fun m ρ _ => (θ_run (Cert.OutMemInputReferenceIdeal.defs (F := Ideal)) _ _).mono
    (fun r h => ⟨fun c => (h c).2, sem_eq_zero_of_no_sems (by decide) r.2⟩) (Cert.OutMemInputReferenceIdeal.Value.run m ρ)

/-- From equal arguments the call and its reference return the same array. -/
theorem agree : Cert.algebraic_OutMemInputIdeal_OutMemInputReferenceIdeal (hOutMemInputIdeal := Cert.OutMemInputIdeal.Gen.facts)
    (hOutMemInputReferenceIdeal := Cert.OutMemInputReferenceIdeal.Gen.facts) := by
  intro m ρ m' ρ' _ hag
  refine ⟨_, Value.run_blocks m ρ, ?_⟩
  refine (θ_run (Cert.OutMemInputReferenceIdeal.defs (F := Ideal)) _ _).mono (fun r h c => ?_) (Cert.OutMemInputReferenceIdeal.Value.run m' ρ')
  obtain ⟨h0, ha⟩ := h c
  obtain ⟨g0, g1⟩ := hag c
  rw [Cert.OutMemInputReferenceIdeal.Read.val_main_v4_eq, g0, g1] at h0
  exact ⟨h0.trans (value m c).symm, ha⟩

end Cert.OutMemInputIdeal.Hand

end
-- ==== Proof.OutMixWeight.lean ====
/- The product OutMixWeight: the gradient of the output projection's rows for the mixed values.
   What a block of it computes, what the array holds, and that this is what the reference computes. -/
module

public import proofs.«01_k».proof.Proof.Gen.OutMixWeightIdeal.Value
public import proofs.«01_k».proof.Proof.Gen.OutMixWeightReferenceIdeal.Read
public import proofs.«01_k».proof.Proof.Gen.OutMixWeightReferenceIdeal.Run
public import proofs.«01_k».proof.Proof.Prod
public import proofs.«01_k».proof.Defs

@[expose] public section

set_option maxRecDepth 16384

noncomputable section

namespace Cert.OutMixWeightIdeal.Hand

open Cert.OutMixWeightIdeal Cert.OutMixWeightIdeal.Gen Idealize.ShloMosaic Idealize.ShloMosaic.TcCoe Idealize.SL.Sem Pipeline
open Cert.OutMixWeightReferenceIdeal.Read (val_main_v6 val_main_v6_apply val_main_v5_apply idx_main_v5 val_main_v4_apply lidx_main_v4 ridx_main_v4)

/-- An entry of the body's block: a column of the first block against a column of the second. -/
theorem out_apply (x0 : FVec Ideal S2048x768 .bf16) (x1 : FVec Ideal S2048x1024 .bf16) (p : Fin 768) (q : Fin 1024) :
    out0_2 (F := Ideal) x0 x1 (ix2 p q) = ∑ k : Fin 2048, (x0 (ix2 k p) * x1 (ix2 k q) : EReal) := by
  unfold out0_2
  rw [View.canon_unit_zero (by decide), View.ld_unit_zero (by decide), View.ld_unit_zero (by decide)]
  pointwise [k0_pay1]

/-- Which block of each array a grid point takes. -/
theorem blocks : ∀ t : Fin cfg0.N, win0_0.index t 1 = win0_2.index t 0 ∧ win0_0.index t 0 = 0
    ∧ win0_1.index t 1 = win0_2.index t 1 ∧ win0_1.index t 0 = 0 := by decide +kernel

theorem covers : (cfg0.win 2).Covers := by decide +kernel

variable (m : (l : Loc nD τ sig) → Buf (Elt Ideal) l) (c : Dev nD)

/-- What a grid point computes is the reference's product at the block's place. -/
theorem block_apply (t : Fin cfg0.N) (y : S768x1024.Idx) :
    out0_2 (F := Ideal) (iblk m c 0 t) (iblk m c 1 t) y
      = val_main_v6 (F := Ideal) (V m c main_arg0) (V m c main_arg1) ((win0_2.rect t).emb y) := by
  obtain ⟨p, q, rfl⟩ : ∃ (p : Fin 768) (q : Fin 1024), y = ix2 p q := ⟨y 0, y 1, eq_ix2 y⟩
  obtain ⟨r, x, s, z⟩ := blocks t
  rw [out_apply, val_main_v6_apply, val_main_v5_apply, val_main_v4_apply]
  exact Prod.sum_mul_swap (fun k => congrArg (V m c main_arg0) (Prod.ext2 (f := (win0_0.rect t).emb (ix2 k p)) (g := ridx_main_v4 (idx_main_v5 ((win0_2.rect t).emb (ix2 p q))) k)
      (win0_0.rect_emb_val_of_index_zero t 0 x (ix2 k p))
      (Prod.emb_same win0_0 win0_2 t 1 0 r (ix2 k p) (ix2 p q) rfl rfl)))
    (fun k => congrArg (V m c main_arg1) (Prod.ext2 (f := (win0_1.rect t).emb (ix2 k q)) (g := lidx_main_v4 (idx_main_v5 ((win0_2.rect t).emb (ix2 p q))) k)
      (win0_1.rect_emb_val_of_index_zero t 0 z (ix2 k q))
      (Prod.emb_same win0_1 win0_2 t 1 1 s (ix2 k q) (ix2 p q) rfl rfl)))

/-- The returned array is the reference's, from the same arguments. -/
theorem value : (dats m 0 c).arrAt 2 cfg0.N
    = val_main_v6 (F := Ideal) (m ((c.tc : Thread nD τ).loc main_arg0)) (m ((c.tc : Thread nD τ).loc main_arg1)) := by
  rw [← V_main_arg0 m c, ← V_main_arg1 m c]
  refine (dats m 0 c).arrAt_eq_of_covers 2 _ covers fun t _ y => ?_
  rw [cast_eq, after0_2]
  exact block_apply m c t y

/-- The reference leaves its arguments as they were, and it has no semaphore. -/
theorem reference_frame : Cert.quiescent_OutMixWeightReferenceIdeal (hOutMixWeightReferenceIdeal := Cert.OutMixWeightReferenceIdeal.Gen.facts) :=
  fun m ρ _ => (θ_run (Cert.OutMixWeightReferenceIdeal.defs (F := Ideal)) _ _).mono
    (fun r h => ⟨fun c => (h c).2, sem_eq_zero_of_no_sems (by decide) r.2⟩) (Cert.OutMixWeightReferenceIdeal.Value.run m ρ)

/-- From equal arguments the call and its reference return the same array. -/
theorem agree : Cert.algebraic_OutMixWeightIdeal_OutMixWeightReferenceIdeal (hOutMixWeightIdeal := Cert.OutMixWeightIdeal.Gen.facts)
    (hOutMixWeightReferenceIdeal := Cert.OutMixWeightReferenceIdeal.Gen.facts) := by
  intro m ρ m' ρ' _ hag
  refine ⟨_, Value.run_blocks m ρ, ?_⟩
  refine (θ_run (Cert.OutMixWeightReferenceIdeal.defs (F := Ideal)) _ _).mono (fun r h c => ?_) (Cert.OutMixWeightReferenceIdeal.Value.run m' ρ')
  obtain ⟨h0, ha⟩ := h c
  obtain ⟨g0, g1⟩ := hag c
  rw [Cert.OutMixWeightReferenceIdeal.Read.val_main_v6_eq, g0, g1] at h0
  exact ⟨h0.trans (value m c).symm, ha⟩

end Cert.OutMixWeightIdeal.Hand

end
-- ==== Proof.OutMemWeight.lean ====
/- The product OutMemWeight: the gradient of the output projection's rows for the memory attention.
   What a block of it computes, what the array holds, and that this is what the reference computes. -/
module

public import proofs.«01_k».proof.Proof.Gen.OutMemWeightIdeal.Value
public import proofs.«01_k».proof.Proof.Gen.OutMemWeightReferenceIdeal.Read
public import proofs.«01_k».proof.Proof.Gen.OutMemWeightReferenceIdeal.Run
public import proofs.«01_k».proof.Proof.Prod
public import proofs.«01_k».proof.Defs

@[expose] public section

set_option maxRecDepth 16384

noncomputable section

namespace Cert.OutMemWeightIdeal.Hand

open Cert.OutMemWeightIdeal Cert.OutMemWeightIdeal.Gen Idealize.ShloMosaic Idealize.ShloMosaic.TcCoe Idealize.SL.Sem Pipeline
open Cert.OutMemWeightReferenceIdeal.Read (val_main_v6 val_main_v6_apply val_main_v5_apply idx_main_v5 val_main_v4_apply lidx_main_v4 ridx_main_v4)

/-- An entry of the body's block: a column of the first block against a column of the second. -/
theorem out_apply (x0 : FVec Ideal S2048x256 .bf16) (x1 : FVec Ideal S2048x1024 .bf16) (p : Fin 256) (q : Fin 1024) :
    out0_2 (F := Ideal) x0 x1 (ix2 p q) = ∑ k : Fin 2048, (x0 (ix2 k p) * x1 (ix2 k q) : EReal) := by
  unfold out0_2
  rw [View.canon_unit_zero (by decide), View.ld_unit_zero (by decide), View.ld_unit_zero (by decide)]
  pointwise [k0_pay1]

/-- Which block of each array a grid point takes. -/
theorem blocks : ∀ t : Fin cfg0.N, win0_0.index t 1 = win0_2.index t 0 ∧ win0_0.index t 0 = 0
    ∧ win0_1.index t 1 = win0_2.index t 1 ∧ win0_1.index t 0 = 0 := by decide +kernel

theorem covers : (cfg0.win 2).Covers := by decide +kernel

variable (m : (l : Loc nD τ sig) → Buf (Elt Ideal) l) (c : Dev nD)

/-- What a grid point computes is the reference's product at the block's place. -/
theorem block_apply (t : Fin cfg0.N) (y : S256x1024.Idx) :
    out0_2 (F := Ideal) (iblk m c 0 t) (iblk m c 1 t) y
      = val_main_v6 (F := Ideal) (V m c main_arg0) (V m c main_arg1) ((win0_2.rect t).emb y) := by
  obtain ⟨p, q, rfl⟩ : ∃ (p : Fin 256) (q : Fin 1024), y = ix2 p q := ⟨y 0, y 1, eq_ix2 y⟩
  obtain ⟨r, x, s, z⟩ := blocks t
  rw [out_apply, val_main_v6_apply, val_main_v5_apply, val_main_v4_apply]
  exact Prod.sum_mul_swap (fun k => congrArg (V m c main_arg0) (Prod.ext2 (f := (win0_0.rect t).emb (ix2 k p)) (g := ridx_main_v4 (idx_main_v5 ((win0_2.rect t).emb (ix2 p q))) k)
      (win0_0.rect_emb_val_of_index_zero t 0 x (ix2 k p))
      (Prod.emb_same win0_0 win0_2 t 1 0 r (ix2 k p) (ix2 p q) rfl rfl)))
    (fun k => congrArg (V m c main_arg1) (Prod.ext2 (f := (win0_1.rect t).emb (ix2 k q)) (g := lidx_main_v4 (idx_main_v5 ((win0_2.rect t).emb (ix2 p q))) k)
      (win0_1.rect_emb_val_of_index_zero t 0 z (ix2 k q))
      (Prod.emb_same win0_1 win0_2 t 1 1 s (ix2 k q) (ix2 p q) rfl rfl)))

/-- The returned array is the reference's, from the same arguments. -/
theorem value : (dats m 0 c).arrAt 2 cfg0.N
    = val_main_v6 (F := Ideal) (m ((c.tc : Thread nD τ).loc main_arg0)) (m ((c.tc : Thread nD τ).loc main_arg1)) := by
  rw [← V_main_arg0 m c, ← V_main_arg1 m c]
  refine (dats m 0 c).arrAt_eq_of_covers 2 _ covers fun t _ y => ?_
  rw [cast_eq, after0_2]
  exact block_apply m c t y

/-- The reference leaves its arguments as they were, and it has no semaphore. -/
theorem reference_frame : Cert.quiescent_OutMemWeightReferenceIdeal (hOutMemWeightReferenceIdeal := Cert.OutMemWeightReferenceIdeal.Gen.facts) :=
  fun m ρ _ => (θ_run (Cert.OutMemWeightReferenceIdeal.defs (F := Ideal)) _ _).mono
    (fun r h => ⟨fun c => (h c).2, sem_eq_zero_of_no_sems (by decide) r.2⟩) (Cert.OutMemWeightReferenceIdeal.Value.run m ρ)

/-- From equal arguments the call and its reference return the same array. -/
theorem agree : Cert.algebraic_OutMemWeightIdeal_OutMemWeightReferenceIdeal (hOutMemWeightIdeal := Cert.OutMemWeightIdeal.Gen.facts)
    (hOutMemWeightReferenceIdeal := Cert.OutMemWeightReferenceIdeal.Gen.facts) := by
  intro m ρ m' ρ' _ hag
  refine ⟨_, Value.run_blocks m ρ, ?_⟩
  refine (θ_run (Cert.OutMemWeightReferenceIdeal.defs (F := Ideal)) _ _).mono (fun r h c => ?_) (Cert.OutMemWeightReferenceIdeal.Value.run m' ρ')
  obtain ⟨h0, ha⟩ := h c
  obtain ⟨g0, g1⟩ := hag c
  rw [Cert.OutMemWeightReferenceIdeal.Read.val_main_v6_eq, g0, g1] at h0
  exact ⟨h0.trans (value m c).symm, ha⟩

end Cert.OutMemWeightIdeal.Hand

end
-- ==== Proof.OutMix.lean ====
/- The product OutMix: the output projection of the mixed values, added to the residual.
   What a block of it computes, what the array holds, and that this is what the reference computes. -/
module

public import proofs.«01_k».proof.Proof.Gen.OutMixIdeal.Value
public import proofs.«01_k».proof.Proof.Gen.OutMixReferenceIdeal.Read
public import proofs.«01_k».proof.Proof.Gen.OutMixReferenceIdeal.Run
public import proofs.«01_k».proof.Proof.Prod
public import proofs.«01_k».proof.Defs

@[expose] public section

set_option maxRecDepth 16384

noncomputable section

namespace Cert.OutMixIdeal.Hand

open Cert.OutMixIdeal Cert.OutMixIdeal.Gen Idealize.ShloMosaic Idealize.ShloMosaic.TcCoe Idealize.SL.Sem Pipeline
open Cert.OutMixReferenceIdeal.Read (val_main_v3 val_main_v3_apply val_main_v2_apply lidx_main_v2 ridx_main_v2)

/-- An entry of the body's block: a row of the first block against a column of the second, and the entry of the added block. -/
theorem out_apply (x0 : FVec Ideal S512x768 .bf16) (x1 : FVec Ideal S768x1024 .bf16) (x2 : FVec Ideal S512x1024 .f32) (p : Fin 512) (q : Fin 1024) :
    out0_3 (F := Ideal) x0 x1 x2 (ix2 p q) = ((∑ k : Fin 768, (x0 (ix2 p k) * x1 (ix2 k q) : EReal)) + x2 (ix2 p q) : EReal) := by
  unfold out0_3
  rw [View.canon_unit_zero (by decide), View.ld_unit_zero (by decide), View.ld_unit_zero (by decide), View.ld_unit_zero (by decide)]
  pointwise [k0_pay1]

/-- Which block of each array a grid point takes. -/
theorem blocks : ∀ t : Fin cfg0.N, win0_0.index t 0 = win0_3.index t 0 ∧ win0_0.index t 1 = 0
    ∧ win0_1.index t 1 = win0_3.index t 1 ∧ win0_1.index t 0 = 0
    ∧ win0_2.index t = win0_3.index t := by decide +kernel

theorem covers : (cfg0.win 3).Covers := by decide +kernel

variable (m : (l : Loc nD τ sig) → Buf (Elt Ideal) l) (c : Dev nD)

/-- What a grid point computes is the reference's product at the block's place. -/
theorem block_apply (t : Fin cfg0.N) (y : S512x1024.Idx) :
    out0_3 (F := Ideal) (iblk m c 0 t) (iblk m c 1 t) (iblk m c 2 t) y
      = val_main_v3 (F := Ideal) (V m c main_arg0) (V m c main_arg1) (V m c main_arg2) ((win0_3.rect t).emb y) := by
  obtain ⟨p, q, rfl⟩ : ∃ (p : Fin 512) (q : Fin 1024), y = ix2 p q := ⟨y 0, y 1, eq_ix2 y⟩
  obtain ⟨r, x, s, z, w⟩ := blocks t
  rw [out_apply, val_main_v3_apply, val_main_v2_apply]
  have e : (win0_2.rect t).emb (ix2 p q) = (win0_3.rect t).emb (ix2 p q) :=
    Prod.ext2 (Prod.emb_same win0_2 win0_3 t 0 0 (congrFun w 0) (ix2 p q) (ix2 p q) rfl rfl)
      (Prod.emb_same win0_2 win0_3 t 1 1 (congrFun w 1) (ix2 p q) (ix2 p q) rfl rfl)
  exact Prod.add_swap (congrArg (V m c main_arg2) e) (Prod.sum_mul (fun k => congrArg (V m c main_arg0) (Prod.ext2 (f := (win0_0.rect t).emb (ix2 p k)) (g := lidx_main_v2 ((win0_3.rect t).emb (ix2 p q)) k)
      (Prod.emb_same win0_0 win0_3 t 0 0 r (ix2 p k) (ix2 p q) rfl rfl)
      (win0_0.rect_emb_val_of_index_zero t 1 x (ix2 p k))))
    (fun k => congrArg (V m c main_arg1) (Prod.ext2 (f := (win0_1.rect t).emb (ix2 k q)) (g := ridx_main_v2 ((win0_3.rect t).emb (ix2 p q)) k)
      (win0_1.rect_emb_val_of_index_zero t 0 z (ix2 k q))
      (Prod.emb_same win0_1 win0_3 t 1 1 s (ix2 k q) (ix2 p q) rfl rfl))))

/-- The returned array is the reference's, from the same arguments. -/
theorem value : (dats m 0 c).arrAt 3 cfg0.N
    = val_main_v3 (F := Ideal) (m ((c.tc : Thread nD τ).loc main_arg0)) (m ((c.tc : Thread nD τ).loc main_arg1)) (m ((c.tc : Thread nD τ).loc main_arg2)) := by
  rw [← V_main_arg0 m c, ← V_main_arg1 m c, ← V_main_arg2 m c]
  refine (dats m 0 c).arrAt_eq_of_covers 3 _ covers fun t _ y => ?_
  rw [cast_eq, after0_3]
  exact block_apply m c t y

/-- The reference leaves its arguments as they were, and it has no semaphore. -/
theorem reference_frame : Cert.quiescent_OutMixReferenceIdeal (hOutMixReferenceIdeal := Cert.OutMixReferenceIdeal.Gen.facts) :=
  fun m ρ _ => (θ_run (Cert.OutMixReferenceIdeal.defs (F := Ideal)) _ _).mono
    (fun r h => ⟨fun c => (h c).2, sem_eq_zero_of_no_sems (by decide) r.2⟩) (Cert.OutMixReferenceIdeal.Value.run m ρ)

/-- From equal arguments the call and its reference return the same array. -/
theorem agree : Cert.algebraic_OutMixIdeal_OutMixReferenceIdeal (hOutMixIdeal := Cert.OutMixIdeal.Gen.facts)
    (hOutMixReferenceIdeal := Cert.OutMixReferenceIdeal.Gen.facts) := by
  intro m ρ m' ρ' _ hag
  refine ⟨_, Value.run_blocks m ρ, ?_⟩
  refine (θ_run (Cert.OutMixReferenceIdeal.defs (F := Ideal)) _ _).mono (fun r h c => ?_) (Cert.OutMixReferenceIdeal.Value.run m' ρ')
  obtain ⟨h0, ha⟩ := h c
  obtain ⟨g0, g1, g2⟩ := hag c
  rw [Cert.OutMixReferenceIdeal.Read.val_main_v3_eq, g0, g1, g2] at h0
  exact ⟨h0.trans (value m c).symm, ha⟩

end Cert.OutMixIdeal.Hand

end
-- ==== Proof.OutMem.lean ====
/- The product OutMem: the output projection of the memory attention, added to the residual.
   What a block of it computes, what the array holds, and that this is what the reference computes. -/
module

public import proofs.«01_k».proof.Proof.Gen.OutMemIdeal.Value
public import proofs.«01_k».proof.Proof.Gen.OutMemReferenceIdeal.Read
public import proofs.«01_k».proof.Proof.Gen.OutMemReferenceIdeal.Run
public import proofs.«01_k».proof.Proof.Prod
public import proofs.«01_k».proof.Defs

@[expose] public section

set_option maxRecDepth 16384

noncomputable section

namespace Cert.OutMemIdeal.Hand

open Cert.OutMemIdeal Cert.OutMemIdeal.Gen Idealize.ShloMosaic Idealize.ShloMosaic.TcCoe Idealize.SL.Sem Pipeline
open Cert.OutMemReferenceIdeal.Read (val_main_v3 val_main_v3_apply val_main_v2_apply lidx_main_v2 ridx_main_v2)

/-- An entry of the body's block: a row of the first block against a column of the second, and the entry of the added block. -/
theorem out_apply (x0 : FVec Ideal S512x256 .bf16) (x1 : FVec Ideal S256x1024 .bf16) (x2 : FVec Ideal S512x1024 .f32) (p : Fin 512) (q : Fin 1024) :
    out0_3 (F := Ideal) x0 x1 x2 (ix2 p q) = ((∑ k : Fin 256, (x0 (ix2 p k) * x1 (ix2 k q) : EReal)) + x2 (ix2 p q) : EReal) := by
  unfold out0_3
  rw [View.canon_unit_zero (by decide), View.ld_unit_zero (by decide), View.ld_unit_zero (by decide), View.ld_unit_zero (by decide)]
  pointwise [k0_pay1]

/-- Which block of each array a grid point takes. -/
theorem blocks : ∀ t : Fin cfg0.N, win0_0.index t 0 = win0_3.index t 0 ∧ win0_0.index t 1 = 0
    ∧ win0_1.index t 1 = win0_3.index t 1 ∧ win0_1.index t 0 = 0
    ∧ win0_2.index t = win0_3.index t := by decide +kernel

theorem covers : (cfg0.win 3).Covers := by decide +kernel

variable (m : (l : Loc nD τ sig) → Buf (Elt Ideal) l) (c : Dev nD)

/-- What a grid point computes is the reference's product at the block's place. -/
theorem block_apply (t : Fin cfg0.N) (y : S512x1024.Idx) :
    out0_3 (F := Ideal) (iblk m c 0 t) (iblk m c 1 t) (iblk m c 2 t) y
      = val_main_v3 (F := Ideal) (V m c main_arg0) (V m c main_arg1) (V m c main_arg2) ((win0_3.rect t).emb y) := by
  obtain ⟨p, q, rfl⟩ : ∃ (p : Fin 512) (q : Fin 1024), y = ix2 p q := ⟨y 0, y 1, eq_ix2 y⟩
  obtain ⟨r, x, s, z, w⟩ := blocks t
  rw [out_apply, val_main_v3_apply, val_main_v2_apply]
  have e : (win0_2.rect t).emb (ix2 p q) = (win0_3.rect t).emb (ix2 p q) :=
    Prod.ext2 (Prod.emb_same win0_2 win0_3 t 0 0 (congrFun w 0) (ix2 p q) (ix2 p q) rfl rfl)
      (Prod.emb_same win0_2 win0_3 t 1 1 (congrFun w 1) (ix2 p q) (ix2 p q) rfl rfl)
  exact Prod.add_swap (congrArg (V m c main_arg2) e) (Prod.sum_mul (fun k => congrArg (V m c main_arg0) (Prod.ext2 (f := (win0_0.rect t).emb (ix2 p k)) (g := lidx_main_v2 ((win0_3.rect t).emb (ix2 p q)) k)
      (Prod.emb_same win0_0 win0_3 t 0 0 r (ix2 p k) (ix2 p q) rfl rfl)
      (win0_0.rect_emb_val_of_index_zero t 1 x (ix2 p k))))
    (fun k => congrArg (V m c main_arg1) (Prod.ext2 (f := (win0_1.rect t).emb (ix2 k q)) (g := ridx_main_v2 ((win0_3.rect t).emb (ix2 p q)) k)
      (win0_1.rect_emb_val_of_index_zero t 0 z (ix2 k q))
      (Prod.emb_same win0_1 win0_3 t 1 1 s (ix2 k q) (ix2 p q) rfl rfl))))

/-- The returned array is the reference's, from the same arguments. -/
theorem value : (dats m 0 c).arrAt 3 cfg0.N
    = val_main_v3 (F := Ideal) (m ((c.tc : Thread nD τ).loc main_arg0)) (m ((c.tc : Thread nD τ).loc main_arg1)) (m ((c.tc : Thread nD τ).loc main_arg2)) := by
  rw [← V_main_arg0 m c, ← V_main_arg1 m c, ← V_main_arg2 m c]
  refine (dats m 0 c).arrAt_eq_of_covers 3 _ covers fun t _ y => ?_
  rw [cast_eq, after0_3]
  exact block_apply m c t y

/-- The reference leaves its arguments as they were, and it has no semaphore. -/
theorem reference_frame : Cert.quiescent_OutMemReferenceIdeal (hOutMemReferenceIdeal := Cert.OutMemReferenceIdeal.Gen.facts) :=
  fun m ρ _ => (θ_run (Cert.OutMemReferenceIdeal.defs (F := Ideal)) _ _).mono
    (fun r h => ⟨fun c => (h c).2, sem_eq_zero_of_no_sems (by decide) r.2⟩) (Cert.OutMemReferenceIdeal.Value.run m ρ)

/-- From equal arguments the call and its reference return the same array. -/
theorem agree : Cert.algebraic_OutMemIdeal_OutMemReferenceIdeal (hOutMemIdeal := Cert.OutMemIdeal.Gen.facts)
    (hOutMemReferenceIdeal := Cert.OutMemReferenceIdeal.Gen.facts) := by
  intro m ρ m' ρ' _ hag
  refine ⟨_, Value.run_blocks m ρ, ?_⟩
  refine (θ_run (Cert.OutMemReferenceIdeal.defs (F := Ideal)) _ _).mono (fun r h c => ?_) (Cert.OutMemReferenceIdeal.Value.run m' ρ')
  obtain ⟨h0, ha⟩ := h c
  obtain ⟨g0, g1, g2⟩ := hag c
  rw [Cert.OutMemReferenceIdeal.Read.val_main_v3_eq, g0, g1, g2] at h0
  exact ⟨h0.trans (value m c).symm, ha⟩

end Cert.OutMemIdeal.Hand

end
-- ==== Proof.InWeight.lean ====
/- The product InWeight: the gradient of the input projection's columns for the convolution or for its gate.
   What a block of it computes, what the array holds, and that this is what the reference computes. -/
module

public import proofs.«01_k».proof.Proof.Gen.InWeightIdeal.Value
public import proofs.«01_k».proof.Proof.Gen.InWeightReferenceIdeal.Read
public import proofs.«01_k».proof.Proof.Gen.InWeightReferenceIdeal.Run
public import proofs.«01_k».proof.Proof.Prod
public import proofs.«01_k».proof.Defs

@[expose] public section

set_option maxRecDepth 16384

noncomputable section

namespace Cert.InWeightIdeal.Hand

open Cert.InWeightIdeal Cert.InWeightIdeal.Gen Idealize.ShloMosaic Idealize.ShloMosaic.TcCoe Idealize.SL.Sem Pipeline
open Cert.InWeightReferenceIdeal.Read (val_main_v6 val_main_v6_apply val_main_v5_apply idx_main_v5 val_main_v4_apply lidx_main_v4 ridx_main_v4)

/-- An entry of the body's block: a column of the first block against a column of the second. -/
theorem out_apply (x0 : FVec Ideal S2048x1024 .bf16) (x1 : FVec Ideal S2048x768 .bf16) (p : Fin 1024) (q : Fin 768) :
    out0_2 (F := Ideal) x0 x1 (ix2 p q) = ∑ k : Fin 2048, (x0 (ix2 k p) * x1 (ix2 k q) : EReal) := by
  unfold out0_2
  rw [View.canon_unit_zero (by decide), View.ld_unit_zero (by decide), View.ld_unit_zero (by decide)]
  pointwise [k0_pay1]

/-- Which block of each array a grid point takes. -/
theorem blocks : ∀ t : Fin cfg0.N, win0_0.index t 1 = win0_2.index t 0 ∧ win0_0.index t 0 = 0
    ∧ win0_1.index t 1 = win0_2.index t 1 ∧ win0_1.index t 0 = 0 := by decide +kernel

theorem covers : (cfg0.win 2).Covers := by decide +kernel

variable (m : (l : Loc nD τ sig) → Buf (Elt Ideal) l) (c : Dev nD)

/-- What a grid point computes is the reference's product at the block's place. -/
theorem block_apply (t : Fin cfg0.N) (y : S1024x768.Idx) :
    out0_2 (F := Ideal) (iblk m c 0 t) (iblk m c 1 t) y
      = val_main_v6 (F := Ideal) (V m c main_arg0) (V m c main_arg1) ((win0_2.rect t).emb y) := by
  obtain ⟨p, q, rfl⟩ : ∃ (p : Fin 1024) (q : Fin 768), y = ix2 p q := ⟨y 0, y 1, eq_ix2 y⟩
  obtain ⟨r, x, s, z⟩ := blocks t
  rw [out_apply, val_main_v6_apply, val_main_v5_apply, val_main_v4_apply]
  exact Prod.sum_mul_swap (fun k => congrArg (V m c main_arg0) (Prod.ext2 (f := (win0_0.rect t).emb (ix2 k p)) (g := ridx_main_v4 (idx_main_v5 ((win0_2.rect t).emb (ix2 p q))) k)
      (win0_0.rect_emb_val_of_index_zero t 0 x (ix2 k p))
      (Prod.emb_same win0_0 win0_2 t 1 0 r (ix2 k p) (ix2 p q) rfl rfl)))
    (fun k => congrArg (V m c main_arg1) (Prod.ext2 (f := (win0_1.rect t).emb (ix2 k q)) (g := lidx_main_v4 (idx_main_v5 ((win0_2.rect t).emb (ix2 p q))) k)
      (win0_1.rect_emb_val_of_index_zero t 0 z (ix2 k q))
      (Prod.emb_same win0_1 win0_2 t 1 1 s (ix2 k q) (ix2 p q) rfl rfl)))

/-- The returned array is the reference's, from the same arguments. -/
theorem value : (dats m 0 c).arrAt 2 cfg0.N
    = val_main_v6 (F := Ideal) (m ((c.tc : Thread nD τ).loc main_arg0)) (m ((c.tc : Thread nD τ).loc main_arg1)) := by
  rw [← V_main_arg0 m c, ← V_main_arg1 m c]
  refine (dats m 0 c).arrAt_eq_of_covers 2 _ covers fun t _ y => ?_
  rw [cast_eq, after0_2]
  exact block_apply m c t y

/-- The reference leaves its arguments as they were, and it has no semaphore. -/
theorem reference_frame : Cert.quiescent_InWeightReferenceIdeal (hInWeightReferenceIdeal := Cert.InWeightReferenceIdeal.Gen.facts) :=
  fun m ρ _ => (θ_run (Cert.InWeightReferenceIdeal.defs (F := Ideal)) _ _).mono
    (fun r h => ⟨fun c => (h c).2, sem_eq_zero_of_no_sems (by decide) r.2⟩) (Cert.InWeightReferenceIdeal.Value.run m ρ)

/-- From equal arguments the call and its reference return the same array. -/
theorem agree : Cert.algebraic_InWeightIdeal_InWeightReferenceIdeal (hInWeightIdeal := Cert.InWeightIdeal.Gen.facts)
    (hInWeightReferenceIdeal := Cert.InWeightReferenceIdeal.Gen.facts) := by
  intro m ρ m' ρ' _ hag
  refine ⟨_, Value.run_blocks m ρ, ?_⟩
  refine (θ_run (Cert.InWeightReferenceIdeal.defs (F := Ideal)) _ _).mono (fun r h c => ?_) (Cert.InWeightReferenceIdeal.Value.run m' ρ')
  obtain ⟨h0, ha⟩ := h c
  obtain ⟨g0, g1⟩ := hag c
  rw [Cert.InWeightReferenceIdeal.Read.val_main_v6_eq, g0, g1] at h0
  exact ⟨h0.trans (value m c).symm, ha⟩

end Cert.InWeightIdeal.Hand

end
-- ==== Proof.InMemWeight.lean ====
/- The product InMemWeight: the gradient of the input projection's columns for the memory attention's queries.
   What a block of it computes, what the array holds, and that this is what the reference computes. -/
module

public import proofs.«01_k».proof.Proof.Gen.InMemWeightIdeal.Value
public import proofs.«01_k».proof.Proof.Gen.InMemWeightReferenceIdeal.Read
public import proofs.«01_k».proof.Proof.Gen.InMemWeightReferenceIdeal.Run
public import proofs.«01_k».proof.Proof.Prod
public import proofs.«01_k».proof.Defs

@[expose] public section

set_option maxRecDepth 16384

noncomputable section

namespace Cert.InMemWeightIdeal.Hand

open Cert.InMemWeightIdeal Cert.InMemWeightIdeal.Gen Idealize.ShloMosaic Idealize.ShloMosaic.TcCoe Idealize.SL.Sem Pipeline
open Cert.InMemWeightReferenceIdeal.Read (val_main_v6 val_main_v6_apply val_main_v5_apply idx_main_v5 val_main_v4_apply lidx_main_v4 ridx_main_v4)

/-- An entry of the body's block: a column of the first block against a column of the second. -/
theorem out_apply (x0 : FVec Ideal S2048x1024 .bf16) (x1 : FVec Ideal S2048x256 .bf16) (p : Fin 1024) (q : Fin 256) :
    out0_2 (F := Ideal) x0 x1 (ix2 p q) = ∑ k : Fin 2048, (x0 (ix2 k p) * x1 (ix2 k q) : EReal) := by
  unfold out0_2
  rw [View.canon_unit_zero (by decide), View.ld_unit_zero (by decide), View.ld_unit_zero (by decide)]
  pointwise [k0_pay1]

/-- Which block of each array a grid point takes. -/
theorem blocks : ∀ t : Fin cfg0.N, win0_0.index t 1 = win0_2.index t 0 ∧ win0_0.index t 0 = 0
    ∧ win0_1.index t 1 = win0_2.index t 1 ∧ win0_1.index t 0 = 0 := by decide +kernel

theorem covers : (cfg0.win 2).Covers := by decide +kernel

variable (m : (l : Loc nD τ sig) → Buf (Elt Ideal) l) (c : Dev nD)

/-- What a grid point computes is the reference's product at the block's place. -/
theorem block_apply (t : Fin cfg0.N) (y : S1024x256.Idx) :
    out0_2 (F := Ideal) (iblk m c 0 t) (iblk m c 1 t) y
      = val_main_v6 (F := Ideal) (V m c main_arg0) (V m c main_arg1) ((win0_2.rect t).emb y) := by
  obtain ⟨p, q, rfl⟩ : ∃ (p : Fin 1024) (q : Fin 256), y = ix2 p q := ⟨y 0, y 1, eq_ix2 y⟩
  obtain ⟨r, x, s, z⟩ := blocks t
  rw [out_apply, val_main_v6_apply, val_main_v5_apply, val_main_v4_apply]
  exact Prod.sum_mul_swap (fun k => congrArg (V m c main_arg0) (Prod.ext2 (f := (win0_0.rect t).emb (ix2 k p)) (g := ridx_main_v4 (idx_main_v5 ((win0_2.rect t).emb (ix2 p q))) k)
      (win0_0.rect_emb_val_of_index_zero t 0 x (ix2 k p))
      (Prod.emb_same win0_0 win0_2 t 1 0 r (ix2 k p) (ix2 p q) rfl rfl)))
    (fun k => congrArg (V m c main_arg1) (Prod.ext2 (f := (win0_1.rect t).emb (ix2 k q)) (g := lidx_main_v4 (idx_main_v5 ((win0_2.rect t).emb (ix2 p q))) k)
      (win0_1.rect_emb_val_of_index_zero t 0 z (ix2 k q))
      (Prod.emb_same win0_1 win0_2 t 1 1 s (ix2 k q) (ix2 p q) rfl rfl)))

/-- The returned array is the reference's, from the same arguments. -/
theorem value : (dats m 0 c).arrAt 2 cfg0.N
    = val_main_v6 (F := Ideal) (m ((c.tc : Thread nD τ).loc main_arg0)) (m ((c.tc : Thread nD τ).loc main_arg1)) := by
  rw [← V_main_arg0 m c, ← V_main_arg1 m c]
  refine (dats m 0 c).arrAt_eq_of_covers 2 _ covers fun t _ y => ?_
  rw [cast_eq, after0_2]
  exact block_apply m c t y

/-- The reference leaves its arguments as they were, and it has no semaphore. -/
theorem reference_frame : Cert.quiescent_InMemWeightReferenceIdeal (hInMemWeightReferenceIdeal := Cert.InMemWeightReferenceIdeal.Gen.facts) :=
  fun m ρ _ => (θ_run (Cert.InMemWeightReferenceIdeal.defs (F := Ideal)) _ _).mono
    (fun r h => ⟨fun c => (h c).2, sem_eq_zero_of_no_sems (by decide) r.2⟩) (Cert.InMemWeightReferenceIdeal.Value.run m ρ)

/-- From equal arguments the call and its reference return the same array. -/
theorem agree : Cert.algebraic_InMemWeightIdeal_InMemWeightReferenceIdeal (hInMemWeightIdeal := Cert.InMemWeightIdeal.Gen.facts)
    (hInMemWeightReferenceIdeal := Cert.InMemWeightReferenceIdeal.Gen.facts) := by
  intro m ρ m' ρ' _ hag
  refine ⟨_, Value.run_blocks m ρ, ?_⟩
  refine (θ_run (Cert.InMemWeightReferenceIdeal.defs (F := Ideal)) _ _).mono (fun r h c => ?_) (Cert.InMemWeightReferenceIdeal.Value.run m' ρ')
  obtain ⟨h0, ha⟩ := h c
  obtain ⟨g0, g1⟩ := hag c
  rw [Cert.InMemWeightReferenceIdeal.Read.val_main_v6_eq, g0, g1] at h0
  exact ⟨h0.trans (value m c).symm, ha⟩

end Cert.InMemWeightIdeal.Hand

end
-- ==== Proof.InInput.lean ====
/- The product InInput: the gradient of a layer's input through the columns for the convolution.
   What a block of it computes, what the array holds, and that this is what the reference computes. -/
module

public import proofs.«01_k».proof.Proof.Gen.InInputIdeal.Value
public import proofs.«01_k».proof.Proof.Gen.InInputReferenceIdeal.Read
public import proofs.«01_k».proof.Proof.Gen.InInputReferenceIdeal.Run
public import proofs.«01_k».proof.Proof.Prod
public import proofs.«01_k».proof.Defs

@[expose] public section

set_option maxRecDepth 16384

noncomputable section

namespace Cert.InInputIdeal.Hand

open Cert.InInputIdeal Cert.InInputIdeal.Gen Idealize.ShloMosaic Idealize.ShloMosaic.TcCoe Idealize.SL.Sem Pipeline
open Cert.InInputReferenceIdeal.Read (val_main_v4 val_main_v4_apply lidx_main_v4 ridx_main_v4)

/-- An entry of the body's block: a row of the first block against a row of the second. -/
theorem out_apply (x0 : FVec Ideal S512x768 .bf16) (x1 : FVec Ideal S1024x768 .bf16) (p : Fin 512) (q : Fin 1024) :
    out0_2 (F := Ideal) x0 x1 (ix2 p q) = ∑ k : Fin 768, (x0 (ix2 p k) * x1 (ix2 q k) : EReal) := by
  unfold out0_2
  rw [View.canon_unit_zero (by decide), View.ld_unit_zero (by decide), View.ld_unit_zero (by decide)]
  pointwise [k0_pay1]

/-- Which block of each array a grid point takes. -/
theorem blocks : ∀ t : Fin cfg0.N, win0_0.index t 0 = win0_2.index t 0 ∧ win0_0.index t 1 = 0
    ∧ win0_1.index t 0 = win0_2.index t 1 ∧ win0_1.index t 1 = 0 := by decide +kernel

theorem covers : (cfg0.win 2).Covers := by decide +kernel

variable (m : (l : Loc nD τ sig) → Buf (Elt Ideal) l) (c : Dev nD)

/-- What a grid point computes is the reference's product at the block's place. -/
theorem block_apply (t : Fin cfg0.N) (y : S512x1024.Idx) :
    out0_2 (F := Ideal) (iblk m c 0 t) (iblk m c 1 t) y
      = val_main_v4 (F := Ideal) (V m c main_arg0) (V m c main_arg1) ((win0_2.rect t).emb y) := by
  obtain ⟨p, q, rfl⟩ : ∃ (p : Fin 512) (q : Fin 1024), y = ix2 p q := ⟨y 0, y 1, eq_ix2 y⟩
  obtain ⟨r, x, s, z⟩ := blocks t
  rw [out_apply, val_main_v4_apply]
  exact Prod.sum_mul (fun k => congrArg (V m c main_arg0) (Prod.ext2 (f := (win0_0.rect t).emb (ix2 p k)) (g := lidx_main_v4 ((win0_2.rect t).emb (ix2 p q)) k)
      (Prod.emb_same win0_0 win0_2 t 0 0 r (ix2 p k) (ix2 p q) rfl rfl)
      (win0_0.rect_emb_val_of_index_zero t 1 x (ix2 p k))))
    (fun k => congrArg (V m c main_arg1) (Prod.ext2 (f := (win0_1.rect t).emb (ix2 q k)) (g := ridx_main_v4 ((win0_2.rect t).emb (ix2 p q)) k)
      (Prod.emb_same win0_1 win0_2 t 0 1 s (ix2 q k) (ix2 p q) rfl rfl)
      (win0_1.rect_emb_val_of_index_zero t 1 z (ix2 q k))))

/-- The returned array is the reference's, from the same arguments. -/
theorem value : (dats m 0 c).arrAt 2 cfg0.N
    = val_main_v4 (F := Ideal) (m ((c.tc : Thread nD τ).loc main_arg0)) (m ((c.tc : Thread nD τ).loc main_arg1)) := by
  rw [← V_main_arg0 m c, ← V_main_arg1 m c]
  refine (dats m 0 c).arrAt_eq_of_covers 2 _ covers fun t _ y => ?_
  rw [cast_eq, after0_2]
  exact block_apply m c t y

/-- The reference leaves its arguments as they were, and it has no semaphore. -/
theorem reference_frame : Cert.quiescent_InInputReferenceIdeal (hInInputReferenceIdeal := Cert.InInputReferenceIdeal.Gen.facts) :=
  fun m ρ _ => (θ_run (Cert.InInputReferenceIdeal.defs (F := Ideal)) _ _).mono
    (fun r h => ⟨fun c => (h c).2, sem_eq_zero_of_no_sems (by decide) r.2⟩) (Cert.InInputReferenceIdeal.Value.run m ρ)

/-- From equal arguments the call and its reference return the same array. -/
theorem agree : Cert.algebraic_InInputIdeal_InInputReferenceIdeal (hInInputIdeal := Cert.InInputIdeal.Gen.facts)
    (hInInputReferenceIdeal := Cert.InInputReferenceIdeal.Gen.facts) := by
  intro m ρ m' ρ' _ hag
  refine ⟨_, Value.run_blocks m ρ, ?_⟩
  refine (θ_run (Cert.InInputReferenceIdeal.defs (F := Ideal)) _ _).mono (fun r h c => ?_) (Cert.InInputReferenceIdeal.Value.run m' ρ')
  obtain ⟨h0, ha⟩ := h c
  obtain ⟨g0, g1⟩ := hag c
  rw [Cert.InInputReferenceIdeal.Read.val_main_v4_eq, g0, g1] at h0
  exact ⟨h0.trans (value m c).symm, ha⟩

end Cert.InInputIdeal.Hand

end
-- ==== Proof.InInputAdd.lean ====
/- The product InInputAdd: the gradient of a layer's input through the columns for the convolution's gate, added to what came before.
   What a block of it computes, what the array holds, and that this is what the reference computes. -/
module

public import proofs.«01_k».proof.Proof.Gen.InInputAddIdeal.Value
public import proofs.«01_k».proof.Proof.Gen.InInputAddReferenceIdeal.Read
public import proofs.«01_k».proof.Proof.Gen.InInputAddReferenceIdeal.Run
public import proofs.«01_k».proof.Proof.Prod
public import proofs.«01_k».proof.Defs

@[expose] public section

set_option maxRecDepth 16384

noncomputable section

namespace Cert.InInputAddIdeal.Hand

open Cert.InInputAddIdeal Cert.InInputAddIdeal.Gen Idealize.ShloMosaic Idealize.ShloMosaic.TcCoe Idealize.SL.Sem Pipeline
open Cert.InInputAddReferenceIdeal.Read (val_main_v5 val_main_v5_apply val_main_v4_apply lidx_main_v4 ridx_main_v4)

/-- An entry of the body's block: a row of the first block against a row of the second, and the entry of the added block. -/
theorem out_apply (x0 : FVec Ideal S512x768 .bf16) (x1 : FVec Ideal S1024x768 .bf16) (x2 : FVec Ideal S512x1024 .f32) (p : Fin 512) (q : Fin 1024) :
    out0_3 (F := Ideal) x0 x1 x2 (ix2 p q) = ((∑ k : Fin 768, (x0 (ix2 p k) * x1 (ix2 q k) : EReal)) + x2 (ix2 p q) : EReal) := by
  unfold out0_3
  rw [View.canon_unit_zero (by decide), View.ld_unit_zero (by decide), View.ld_unit_zero (by decide), View.ld_unit_zero (by decide)]
  pointwise [k0_pay1]

/-- Which block of each array a grid point takes. -/
theorem blocks : ∀ t : Fin cfg0.N, win0_0.index t 0 = win0_3.index t 0 ∧ win0_0.index t 1 = 0
    ∧ win0_1.index t 0 = win0_3.index t 1 ∧ win0_1.index t 1 = 0
    ∧ win0_2.index t = win0_3.index t := by decide +kernel

theorem covers : (cfg0.win 3).Covers := by decide +kernel

variable (m : (l : Loc nD τ sig) → Buf (Elt Ideal) l) (c : Dev nD)

/-- What a grid point computes is the reference's product at the block's place. -/
theorem block_apply (t : Fin cfg0.N) (y : S512x1024.Idx) :
    out0_3 (F := Ideal) (iblk m c 0 t) (iblk m c 1 t) (iblk m c 2 t) y
      = val_main_v5 (F := Ideal) (V m c main_arg0) (V m c main_arg1) (V m c main_arg2) ((win0_3.rect t).emb y) := by
  obtain ⟨p, q, rfl⟩ : ∃ (p : Fin 512) (q : Fin 1024), y = ix2 p q := ⟨y 0, y 1, eq_ix2 y⟩
  obtain ⟨r, x, s, z, w⟩ := blocks t
  rw [out_apply, val_main_v5_apply, val_main_v4_apply]
  have e : (win0_2.rect t).emb (ix2 p q) = (win0_3.rect t).emb (ix2 p q) :=
    Prod.ext2 (Prod.emb_same win0_2 win0_3 t 0 0 (congrFun w 0) (ix2 p q) (ix2 p q) rfl rfl)
      (Prod.emb_same win0_2 win0_3 t 1 1 (congrFun w 1) (ix2 p q) (ix2 p q) rfl rfl)
  exact Prod.add_swap (congrArg (V m c main_arg2) e) (Prod.sum_mul (fun k => congrArg (V m c main_arg0) (Prod.ext2 (f := (win0_0.rect t).emb (ix2 p k)) (g := lidx_main_v4 ((win0_3.rect t).emb (ix2 p q)) k)
      (Prod.emb_same win0_0 win0_3 t 0 0 r (ix2 p k) (ix2 p q) rfl rfl)
      (win0_0.rect_emb_val_of_index_zero t 1 x (ix2 p k))))
    (fun k => congrArg (V m c main_arg1) (Prod.ext2 (f := (win0_1.rect t).emb (ix2 q k)) (g := ridx_main_v4 ((win0_3.rect t).emb (ix2 p q)) k)
      (Prod.emb_same win0_1 win0_3 t 0 1 s (ix2 q k) (ix2 p q) rfl rfl)
      (win0_1.rect_emb_val_of_index_zero t 1 z (ix2 q k)))))

/-- The returned array is the reference's, from the same arguments. -/
theorem value : (dats m 0 c).arrAt 3 cfg0.N
    = val_main_v5 (F := Ideal) (m ((c.tc : Thread nD τ).loc main_arg0)) (m ((c.tc : Thread nD τ).loc main_arg1)) (m ((c.tc : Thread nD τ).loc main_arg2)) := by
  rw [← V_main_arg0 m c, ← V_main_arg1 m c, ← V_main_arg2 m c]
  refine (dats m 0 c).arrAt_eq_of_covers 3 _ covers fun t _ y => ?_
  rw [cast_eq, after0_3]
  exact block_apply m c t y

/-- The reference leaves its arguments as they were, and it has no semaphore. -/
theorem reference_frame : Cert.quiescent_InInputAddReferenceIdeal (hInInputAddReferenceIdeal := Cert.InInputAddReferenceIdeal.Gen.facts) :=
  fun m ρ _ => (θ_run (Cert.InInputAddReferenceIdeal.defs (F := Ideal)) _ _).mono
    (fun r h => ⟨fun c => (h c).2, sem_eq_zero_of_no_sems (by decide) r.2⟩) (Cert.InInputAddReferenceIdeal.Value.run m ρ)

/-- From equal arguments the call and its reference return the same array. -/
theorem agree : Cert.algebraic_InInputAddIdeal_InInputAddReferenceIdeal (hInInputAddIdeal := Cert.InInputAddIdeal.Gen.facts)
    (hInInputAddReferenceIdeal := Cert.InInputAddReferenceIdeal.Gen.facts) := by
  intro m ρ m' ρ' _ hag
  refine ⟨_, Value.run_blocks m ρ, ?_⟩
  refine (θ_run (Cert.InInputAddReferenceIdeal.defs (F := Ideal)) _ _).mono (fun r h c => ?_) (Cert.InInputAddReferenceIdeal.Value.run m' ρ')
  obtain ⟨h0, ha⟩ := h c
  obtain ⟨g0, g1, g2⟩ := hag c
  rw [Cert.InInputAddReferenceIdeal.Read.val_main_v5_eq, g0, g1, g2] at h0
  exact ⟨h0.trans (value m c).symm, ha⟩

end Cert.InInputAddIdeal.Hand

end
-- ==== Proof.InMemInputAdd.lean ====
/- The product InMemInputAdd: the gradient of a layer's input through the memory attention's queries, added to what came before.
   What a block of it computes, what the array holds, and that this is what the reference computes. -/
module

public import proofs.«01_k».proof.Proof.Gen.InMemInputAddIdeal.Value
public import proofs.«01_k».proof.Proof.Gen.InMemInputAddReferenceIdeal.Read
public import proofs.«01_k».proof.Proof.Gen.InMemInputAddReferenceIdeal.Run
public import proofs.«01_k».proof.Proof.Prod
public import proofs.«01_k».proof.Defs

@[expose] public section

set_option maxRecDepth 16384

noncomputable section

namespace Cert.InMemInputAddIdeal.Hand

open Cert.InMemInputAddIdeal Cert.InMemInputAddIdeal.Gen Idealize.ShloMosaic Idealize.ShloMosaic.TcCoe Idealize.SL.Sem Pipeline
open Cert.InMemInputAddReferenceIdeal.Read (val_main_v5 val_main_v5_apply val_main_v4_apply lidx_main_v4 ridx_main_v4)

/-- An entry of the body's block: a row of the first block against a row of the second, and the entry of the added block. -/
theorem out_apply (x0 : FVec Ideal S512x256 .bf16) (x1 : FVec Ideal S1024x256 .bf16) (x2 : FVec Ideal S512x1024 .f32) (p : Fin 512) (q : Fin 1024) :
    out0_3 (F := Ideal) x0 x1 x2 (ix2 p q) = ((∑ k : Fin 256, (x0 (ix2 p k) * x1 (ix2 q k) : EReal)) + x2 (ix2 p q) : EReal) := by
  unfold out0_3
  rw [View.canon_unit_zero (by decide), View.ld_unit_zero (by decide), View.ld_unit_zero (by decide), View.ld_unit_zero (by decide)]
  pointwise [k0_pay1]

/-- Which block of each array a grid point takes. -/
theorem blocks : ∀ t : Fin cfg0.N, win0_0.index t 0 = win0_3.index t 0 ∧ win0_0.index t 1 = 0
    ∧ win0_1.index t 0 = win0_3.index t 1 ∧ win0_1.index t 1 = 0
    ∧ win0_2.index t = win0_3.index t := by decide +kernel

theorem covers : (cfg0.win 3).Covers := by decide +kernel

variable (m : (l : Loc nD τ sig) → Buf (Elt Ideal) l) (c : Dev nD)

/-- What a grid point computes is the reference's product at the block's place. -/
theorem block_apply (t : Fin cfg0.N) (y : S512x1024.Idx) :
    out0_3 (F := Ideal) (iblk m c 0 t) (iblk m c 1 t) (iblk m c 2 t) y
      = val_main_v5 (F := Ideal) (V m c main_arg0) (V m c main_arg1) (V m c main_arg2) ((win0_3.rect t).emb y) := by
  obtain ⟨p, q, rfl⟩ : ∃ (p : Fin 512) (q : Fin 1024), y = ix2 p q := ⟨y 0, y 1, eq_ix2 y⟩
  obtain ⟨r, x, s, z, w⟩ := blocks t
  rw [out_apply, val_main_v5_apply, val_main_v4_apply]
  have e : (win0_2.rect t).emb (ix2 p q) = (win0_3.rect t).emb (ix2 p q) :=
    Prod.ext2 (Prod.emb_same win0_2 win0_3 t 0 0 (congrFun w 0) (ix2 p q) (ix2 p q) rfl rfl)
      (Prod.emb_same win0_2 win0_3 t 1 1 (congrFun w 1) (ix2 p q) (ix2 p q) rfl rfl)
  exact Prod.add_swap (congrArg (V m c main_arg2) e) (Prod.sum_mul (fun k => congrArg (V m c main_arg0) (Prod.ext2 (f := (win0_0.rect t).emb (ix2 p k)) (g := lidx_main_v4 ((win0_3.rect t).emb (ix2 p q)) k)
      (Prod.emb_same win0_0 win0_3 t 0 0 r (ix2 p k) (ix2 p q) rfl rfl)
      (win0_0.rect_emb_val_of_index_zero t 1 x (ix2 p k))))
    (fun k => congrArg (V m c main_arg1) (Prod.ext2 (f := (win0_1.rect t).emb (ix2 q k)) (g := ridx_main_v4 ((win0_3.rect t).emb (ix2 p q)) k)
      (Prod.emb_same win0_1 win0_3 t 0 1 s (ix2 q k) (ix2 p q) rfl rfl)
      (win0_1.rect_emb_val_of_index_zero t 1 z (ix2 q k)))))

/-- The returned array is the reference's, from the same arguments. -/
theorem value : (dats m 0 c).arrAt 3 cfg0.N
    = val_main_v5 (F := Ideal) (m ((c.tc : Thread nD τ).loc main_arg0)) (m ((c.tc : Thread nD τ).loc main_arg1)) (m ((c.tc : Thread nD τ).loc main_arg2)) := by
  rw [← V_main_arg0 m c, ← V_main_arg1 m c, ← V_main_arg2 m c]
  refine (dats m 0 c).arrAt_eq_of_covers 3 _ covers fun t _ y => ?_
  rw [cast_eq, after0_3]
  exact block_apply m c t y

/-- The reference leaves its arguments as they were, and it has no semaphore. -/
theorem reference_frame : Cert.quiescent_InMemInputAddReferenceIdeal (hInMemInputAddReferenceIdeal := Cert.InMemInputAddReferenceIdeal.Gen.facts) :=
  fun m ρ _ => (θ_run (Cert.InMemInputAddReferenceIdeal.defs (F := Ideal)) _ _).mono
    (fun r h => ⟨fun c => (h c).2, sem_eq_zero_of_no_sems (by decide) r.2⟩) (Cert.InMemInputAddReferenceIdeal.Value.run m ρ)

/-- From equal arguments the call and its reference return the same array. -/
theorem agree : Cert.algebraic_InMemInputAddIdeal_InMemInputAddReferenceIdeal (hInMemInputAddIdeal := Cert.InMemInputAddIdeal.Gen.facts)
    (hInMemInputAddReferenceIdeal := Cert.InMemInputAddReferenceIdeal.Gen.facts) := by
  intro m ρ m' ρ' _ hag
  refine ⟨_, Value.run_blocks m ρ, ?_⟩
  refine (θ_run (Cert.InMemInputAddReferenceIdeal.defs (F := Ideal)) _ _).mono (fun r h c => ?_) (Cert.InMemInputAddReferenceIdeal.Value.run m' ρ')
  obtain ⟨h0, ha⟩ := h c
  obtain ⟨g0, g1, g2⟩ := hag c
  rw [Cert.InMemInputAddReferenceIdeal.Read.val_main_v5_eq, g0, g1, g2] at h0
  exact ⟨h0.trans (value m c).symm, ha⟩

end Cert.InMemInputAddIdeal.Hand

end
-- ==== Proof.In.lean ====
/- The product In: an input projection of the width of the mixer.
   What a block of it computes, what the array holds, and that this is what the reference computes. -/
module

public import proofs.«01_k».proof.Proof.Gen.InIdeal.Value
public import proofs.«01_k».proof.Proof.Gen.InReferenceIdeal.Read
public import proofs.«01_k».proof.Proof.Gen.InReferenceIdeal.Run
public import proofs.«01_k».proof.Proof.Prod
public import proofs.«01_k».proof.Defs

@[expose] public section

set_option maxRecDepth 16384

noncomputable section

namespace Cert.InIdeal.Hand

open Cert.InIdeal Cert.InIdeal.Gen Idealize.ShloMosaic Idealize.ShloMosaic.TcCoe Idealize.SL.Sem Pipeline
open Cert.InReferenceIdeal.Read (val_main_v2 val_main_v2_apply lidx_main_v2 ridx_main_v2)

/-- An entry of the body's block: a row of the first block against a column of the second. -/
theorem out_apply (x0 : FVec Ideal S512x1024 .bf16) (x1 : FVec Ideal S1024x768 .bf16) (p : Fin 512) (q : Fin 768) :
    out0_2 (F := Ideal) x0 x1 (ix2 p q) = ∑ k : Fin 1024, (x0 (ix2 p k) * x1 (ix2 k q) : EReal) := by
  unfold out0_2
  rw [View.canon_unit_zero (by decide), View.ld_unit_zero (by decide), View.ld_unit_zero (by decide)]
  pointwise [k0_pay1]

/-- Which block of each array a grid point takes. -/
theorem blocks : ∀ t : Fin cfg0.N, win0_0.index t 0 = win0_2.index t 0 ∧ win0_0.index t 1 = 0
    ∧ win0_1.index t 1 = win0_2.index t 1 ∧ win0_1.index t 0 = 0 := by decide +kernel

theorem covers : (cfg0.win 2).Covers := by decide +kernel

variable (m : (l : Loc nD τ sig) → Buf (Elt Ideal) l) (c : Dev nD)

/-- What a grid point computes is the reference's product at the block's place. -/
theorem block_apply (t : Fin cfg0.N) (y : S512x768.Idx) :
    out0_2 (F := Ideal) (iblk m c 0 t) (iblk m c 1 t) y
      = val_main_v2 (F := Ideal) (V m c main_arg0) (V m c main_arg1) ((win0_2.rect t).emb y) := by
  obtain ⟨p, q, rfl⟩ : ∃ (p : Fin 512) (q : Fin 768), y = ix2 p q := ⟨y 0, y 1, eq_ix2 y⟩
  obtain ⟨r, x, s, z⟩ := blocks t
  rw [out_apply, val_main_v2_apply]
  exact Prod.sum_mul (fun k => congrArg (V m c main_arg0) (Prod.ext2 (f := (win0_0.rect t).emb (ix2 p k)) (g := lidx_main_v2 ((win0_2.rect t).emb (ix2 p q)) k)
      (Prod.emb_same win0_0 win0_2 t 0 0 r (ix2 p k) (ix2 p q) rfl rfl)
      (win0_0.rect_emb_val_of_index_zero t 1 x (ix2 p k))))
    (fun k => congrArg (V m c main_arg1) (Prod.ext2 (f := (win0_1.rect t).emb (ix2 k q)) (g := ridx_main_v2 ((win0_2.rect t).emb (ix2 p q)) k)
      (win0_1.rect_emb_val_of_index_zero t 0 z (ix2 k q))
      (Prod.emb_same win0_1 win0_2 t 1 1 s (ix2 k q) (ix2 p q) rfl rfl)))

/-- The returned array is the reference's, from the same arguments. -/
theorem value : (dats m 0 c).arrAt 2 cfg0.N
    = val_main_v2 (F := Ideal) (m ((c.tc : Thread nD τ).loc main_arg0)) (m ((c.tc : Thread nD τ).loc main_arg1)) := by
  rw [← V_main_arg0 m c, ← V_main_arg1 m c]
  refine (dats m 0 c).arrAt_eq_of_covers 2 _ covers fun t _ y => ?_
  rw [cast_eq, after0_2]
  exact block_apply m c t y

/-- The reference leaves its arguments as they were, and it has no semaphore. -/
theorem reference_frame : Cert.quiescent_InReferenceIdeal (hInReferenceIdeal := Cert.InReferenceIdeal.Gen.facts) :=
  fun m ρ _ => (θ_run (Cert.InReferenceIdeal.defs (F := Ideal)) _ _).mono
    (fun r h => ⟨fun c => (h c).2, sem_eq_zero_of_no_sems (by decide) r.2⟩) (Cert.InReferenceIdeal.Value.run m ρ)

/-- From equal arguments the call and its reference return the same array. -/
theorem agree : Cert.algebraic_InIdeal_InReferenceIdeal (hInIdeal := Cert.InIdeal.Gen.facts)
    (hInReferenceIdeal := Cert.InReferenceIdeal.Gen.facts) := by
  intro m ρ m' ρ' _ hag
  refine ⟨_, Value.run_blocks m ρ, ?_⟩
  refine (θ_run (Cert.InReferenceIdeal.defs (F := Ideal)) _ _).mono (fun r h c => ?_) (Cert.InReferenceIdeal.Value.run m' ρ')
  obtain ⟨h0, ha⟩ := h c
  obtain ⟨g0, g1⟩ := hag c
  rw [Cert.InReferenceIdeal.Read.val_main_v2_eq, g0, g1] at h0
  exact ⟨h0.trans (value m c).symm, ha⟩

end Cert.InIdeal.Hand

end
-- ==== Proof.InMem.lean ====
/- The product InMem: the projection to the memory attention's queries.
   What a block of it computes, what the array holds, and that this is what the reference computes. -/
module

public import proofs.«01_k».proof.Proof.Gen.InMemIdeal.Value
public import proofs.«01_k».proof.Proof.Gen.InMemReferenceIdeal.Read
public import proofs.«01_k».proof.Proof.Gen.InMemReferenceIdeal.Run
public import proofs.«01_k».proof.Proof.Prod
public import proofs.«01_k».proof.Defs

@[expose] public section

set_option maxRecDepth 16384

noncomputable section

namespace Cert.InMemIdeal.Hand

open Cert.InMemIdeal Cert.InMemIdeal.Gen Idealize.ShloMosaic Idealize.ShloMosaic.TcCoe Idealize.SL.Sem Pipeline
open Cert.InMemReferenceIdeal.Read (val_main_v2 val_main_v2_apply lidx_main_v2 ridx_main_v2)

/-- An entry of the body's block: a row of the first block against a column of the second. -/
theorem out_apply (x0 : FVec Ideal S512x1024 .bf16) (x1 : FVec Ideal S1024x256 .bf16) (p : Fin 512) (q : Fin 256) :
    out0_2 (F := Ideal) x0 x1 (ix2 p q) = ∑ k : Fin 1024, (x0 (ix2 p k) * x1 (ix2 k q) : EReal) := by
  unfold out0_2
  rw [View.canon_unit_zero (by decide), View.ld_unit_zero (by decide), View.ld_unit_zero (by decide)]
  pointwise [k0_pay1]

/-- Which block of each array a grid point takes. -/
theorem blocks : ∀ t : Fin cfg0.N, win0_0.index t 0 = win0_2.index t 0 ∧ win0_0.index t 1 = 0
    ∧ win0_1.index t 1 = win0_2.index t 1 ∧ win0_1.index t 0 = 0 := by decide +kernel

theorem covers : (cfg0.win 2).Covers := by decide +kernel

variable (m : (l : Loc nD τ sig) → Buf (Elt Ideal) l) (c : Dev nD)

/-- What a grid point computes is the reference's product at the block's place. -/
theorem block_apply (t : Fin cfg0.N) (y : S512x256.Idx) :
    out0_2 (F := Ideal) (iblk m c 0 t) (iblk m c 1 t) y
      = val_main_v2 (F := Ideal) (V m c main_arg0) (V m c main_arg1) ((win0_2.rect t).emb y) := by
  obtain ⟨p, q, rfl⟩ : ∃ (p : Fin 512) (q : Fin 256), y = ix2 p q := ⟨y 0, y 1, eq_ix2 y⟩
  obtain ⟨r, x, s, z⟩ := blocks t
  rw [out_apply, val_main_v2_apply]
  exact Prod.sum_mul (fun k => congrArg (V m c main_arg0) (Prod.ext2 (f := (win0_0.rect t).emb (ix2 p k)) (g := lidx_main_v2 ((win0_2.rect t).emb (ix2 p q)) k)
      (Prod.emb_same win0_0 win0_2 t 0 0 r (ix2 p k) (ix2 p q) rfl rfl)
      (win0_0.rect_emb_val_of_index_zero t 1 x (ix2 p k))))
    (fun k => congrArg (V m c main_arg1) (Prod.ext2 (f := (win0_1.rect t).emb (ix2 k q)) (g := ridx_main_v2 ((win0_2.rect t).emb (ix2 p q)) k)
      (win0_1.rect_emb_val_of_index_zero t 0 z (ix2 k q))
      (Prod.emb_same win0_1 win0_2 t 1 1 s (ix2 k q) (ix2 p q) rfl rfl)))

/-- The returned array is the reference's, from the same arguments. -/
theorem value : (dats m 0 c).arrAt 2 cfg0.N
    = val_main_v2 (F := Ideal) (m ((c.tc : Thread nD τ).loc main_arg0)) (m ((c.tc : Thread nD τ).loc main_arg1)) := by
  rw [← V_main_arg0 m c, ← V_main_arg1 m c]
  refine (dats m 0 c).arrAt_eq_of_covers 2 _ covers fun t _ y => ?_
  rw [cast_eq, after0_2]
  exact block_apply m c t y

/-- The reference leaves its arguments as they were, and it has no semaphore. -/
theorem reference_frame : Cert.quiescent_InMemReferenceIdeal (hInMemReferenceIdeal := Cert.InMemReferenceIdeal.Gen.facts) :=
  fun m ρ _ => (θ_run (Cert.InMemReferenceIdeal.defs (F := Ideal)) _ _).mono
    (fun r h => ⟨fun c => (h c).2, sem_eq_zero_of_no_sems (by decide) r.2⟩) (Cert.InMemReferenceIdeal.Value.run m ρ)

/-- From equal arguments the call and its reference return the same array. -/
theorem agree : Cert.algebraic_InMemIdeal_InMemReferenceIdeal (hInMemIdeal := Cert.InMemIdeal.Gen.facts)
    (hInMemReferenceIdeal := Cert.InMemReferenceIdeal.Gen.facts) := by
  intro m ρ m' ρ' _ hag
  refine ⟨_, Value.run_blocks m ρ, ?_⟩
  refine (θ_run (Cert.InMemReferenceIdeal.defs (F := Ideal)) _ _).mono (fun r h c => ?_) (Cert.InMemReferenceIdeal.Value.run m' ρ')
  obtain ⟨h0, ha⟩ := h c
  obtain ⟨g0, g1⟩ := hag c
  rw [Cert.InMemReferenceIdeal.Read.val_main_v2_eq, g0, g1] at h0
  exact ⟨h0.trans (value m c).symm, ha⟩

end Cert.InMemIdeal.Hand

end
-- ==== Proof.QkvWeight.lean ====
/- The product QkvWeight: the gradient of a projection to the attention's queries, keys or values.
   What a block of it computes, what the array holds, and that this is what the reference computes. -/
module

public import proofs.«01_k».proof.Proof.Gen.QkvWeightIdeal.Value
public import proofs.«01_k».proof.Proof.Gen.QkvWeightReferenceIdeal.Read
public import proofs.«01_k».proof.Proof.Gen.QkvWeightReferenceIdeal.Run
public import proofs.«01_k».proof.Proof.Prod
public import proofs.«01_k».proof.Defs

@[expose] public section

set_option maxRecDepth 16384

noncomputable section

namespace Cert.QkvWeightIdeal.Hand

open Cert.QkvWeightIdeal Cert.QkvWeightIdeal.Gen Idealize.ShloMosaic Idealize.ShloMosaic.TcCoe Idealize.SL.Sem Pipeline
open Cert.QkvWeightReferenceIdeal.Read (val_main_v5 val_main_v5_apply val_main_v4_apply idx_main_v4 val_main_v3_apply lidx_main_v3 ridx_main_v3)

/-- An entry of the body's block: a column of the first block against a column of the second. -/
theorem out_apply (x0 : FVec Ideal S2048x1024 .bf16) (x1 : FVec Ideal S2048x768 .f32) (p : Fin 1024) (q : Fin 768) :
    out0_2 (F := Ideal) x0 x1 (ix2 p q) = ∑ k : Fin 2048, (x0 (ix2 k p) * x1 (ix2 k q) : EReal) := by
  unfold out0_2
  rw [View.canon_unit_zero (by decide), View.ld_unit_zero (by decide), View.ld_unit_zero (by decide)]
  pointwise [k0_pay1]

/-- Which block of each array a grid point takes. -/
theorem blocks : ∀ t : Fin cfg0.N, win0_0.index t 1 = win0_2.index t 0 ∧ win0_0.index t 0 = 0
    ∧ win0_1.index t 1 = win0_2.index t 1 ∧ win0_1.index t 0 = 0 := by decide +kernel

theorem covers : (cfg0.win 2).Covers := by decide +kernel

variable (m : (l : Loc nD τ sig) → Buf (Elt Ideal) l) (c : Dev nD)

/-- What a grid point computes is the reference's product at the block's place. -/
theorem block_apply (t : Fin cfg0.N) (y : S1024x768.Idx) :
    out0_2 (F := Ideal) (iblk m c 0 t) (iblk m c 1 t) y
      = val_main_v5 (F := Ideal) (V m c main_arg0) (V m c main_arg1) ((win0_2.rect t).emb y) := by
  obtain ⟨p, q, rfl⟩ : ∃ (p : Fin 1024) (q : Fin 768), y = ix2 p q := ⟨y 0, y 1, eq_ix2 y⟩
  obtain ⟨r, x, s, z⟩ := blocks t
  rw [out_apply, val_main_v5_apply, val_main_v4_apply, val_main_v3_apply]
  exact Prod.sum_mul_swap (fun k => congrArg (V m c main_arg0) (Prod.ext2 (f := (win0_0.rect t).emb (ix2 k p)) (g := ridx_main_v3 (idx_main_v4 ((win0_2.rect t).emb (ix2 p q))) k)
      (win0_0.rect_emb_val_of_index_zero t 0 x (ix2 k p))
      (Prod.emb_same win0_0 win0_2 t 1 0 r (ix2 k p) (ix2 p q) rfl rfl)))
    (fun k => congrArg (V m c main_arg1) (Prod.ext2 (f := (win0_1.rect t).emb (ix2 k q)) (g := lidx_main_v3 (idx_main_v4 ((win0_2.rect t).emb (ix2 p q))) k)
      (win0_1.rect_emb_val_of_index_zero t 0 z (ix2 k q))
      (Prod.emb_same win0_1 win0_2 t 1 1 s (ix2 k q) (ix2 p q) rfl rfl)))

/-- The returned array is the reference's, from the same arguments. -/
theorem value : (dats m 0 c).arrAt 2 cfg0.N
    = val_main_v5 (F := Ideal) (m ((c.tc : Thread nD τ).loc main_arg0)) (m ((c.tc : Thread nD τ).loc main_arg1)) := by
  rw [← V_main_arg0 m c, ← V_main_arg1 m c]
  refine (dats m 0 c).arrAt_eq_of_covers 2 _ covers fun t _ y => ?_
  rw [cast_eq, after0_2]
  exact block_apply m c t y

/-- The reference leaves its arguments as they were, and it has no semaphore. -/
theorem reference_frame : Cert.quiescent_QkvWeightReferenceIdeal (hQkvWeightReferenceIdeal := Cert.QkvWeightReferenceIdeal.Gen.facts) :=
  fun m ρ _ => (θ_run (Cert.QkvWeightReferenceIdeal.defs (F := Ideal)) _ _).mono
    (fun r h => ⟨fun c => (h c).2, sem_eq_zero_of_no_sems (by decide) r.2⟩) (Cert.QkvWeightReferenceIdeal.Value.run m ρ)

/-- From equal arguments the call and its reference return the same array. -/
theorem agree : Cert.algebraic_QkvWeightIdeal_QkvWeightReferenceIdeal (hQkvWeightIdeal := Cert.QkvWeightIdeal.Gen.facts)
    (hQkvWeightReferenceIdeal := Cert.QkvWeightReferenceIdeal.Gen.facts) := by
  intro m ρ m' ρ' _ hag
  refine ⟨_, Value.run_blocks m ρ, ?_⟩
  refine (θ_run (Cert.QkvWeightReferenceIdeal.defs (F := Ideal)) _ _).mono (fun r h c => ?_) (Cert.QkvWeightReferenceIdeal.Value.run m' ρ')
  obtain ⟨h0, ha⟩ := h c
  obtain ⟨g0, g1⟩ := hag c
  rw [Cert.QkvWeightReferenceIdeal.Read.val_main_v5_eq, g0, g1] at h0
  exact ⟨h0.trans (value m c).symm, ha⟩

end Cert.QkvWeightIdeal.Hand

end
-- ==== Proof.QkvInput.lean ====
/- The product QkvInput: the gradient of a projection's input through the attention's queries or keys.
   What a block of it computes, what the array holds, and that this is what the reference computes. -/
module

public import proofs.«01_k».proof.Proof.Gen.QkvInputIdeal.Value
public import proofs.«01_k».proof.Proof.Gen.QkvInputReferenceIdeal.Read
public import proofs.«01_k».proof.Proof.Gen.QkvInputReferenceIdeal.Run
public import proofs.«01_k».proof.Proof.Prod
public import proofs.«01_k».proof.Defs

@[expose] public section

set_option maxRecDepth 16384

noncomputable section

namespace Cert.QkvInputIdeal.Hand

open Cert.QkvInputIdeal Cert.QkvInputIdeal.Gen Idealize.ShloMosaic Idealize.ShloMosaic.TcCoe Idealize.SL.Sem Pipeline
open Cert.QkvInputReferenceIdeal.Read (val_main_v3 val_main_v3_apply lidx_main_v3 ridx_main_v3)

/-- An entry of the body's block: a row of the first block against a row of the second. -/
theorem out_apply (x0 : FVec Ideal S512x768 .f32) (x1 : FVec Ideal S1024x768 .bf16) (p : Fin 512) (q : Fin 1024) :
    out0_2 (F := Ideal) x0 x1 (ix2 p q) = ∑ k : Fin 768, (x0 (ix2 p k) * x1 (ix2 q k) : EReal) := by
  unfold out0_2
  rw [View.canon_unit_zero (by decide), View.ld_unit_zero (by decide), View.ld_unit_zero (by decide)]
  pointwise [k0_pay1]

/-- Which block of each array a grid point takes. -/
theorem blocks : ∀ t : Fin cfg0.N, win0_0.index t 0 = win0_2.index t 0 ∧ win0_0.index t 1 = 0
    ∧ win0_1.index t 0 = win0_2.index t 1 ∧ win0_1.index t 1 = 0 := by decide +kernel

theorem covers : (cfg0.win 2).Covers := by decide +kernel

variable (m : (l : Loc nD τ sig) → Buf (Elt Ideal) l) (c : Dev nD)

/-- What a grid point computes is the reference's product at the block's place. -/
theorem block_apply (t : Fin cfg0.N) (y : S512x1024.Idx) :
    out0_2 (F := Ideal) (iblk m c 0 t) (iblk m c 1 t) y
      = val_main_v3 (F := Ideal) (V m c main_arg0) (V m c main_arg1) ((win0_2.rect t).emb y) := by
  obtain ⟨p, q, rfl⟩ : ∃ (p : Fin 512) (q : Fin 1024), y = ix2 p q := ⟨y 0, y 1, eq_ix2 y⟩
  obtain ⟨r, x, s, z⟩ := blocks t
  rw [out_apply, val_main_v3_apply]
  exact Prod.sum_mul (fun k => congrArg (V m c main_arg0) (Prod.ext2 (f := (win0_0.rect t).emb (ix2 p k)) (g := lidx_main_v3 ((win0_2.rect t).emb (ix2 p q)) k)
      (Prod.emb_same win0_0 win0_2 t 0 0 r (ix2 p k) (ix2 p q) rfl rfl)
      (win0_0.rect_emb_val_of_index_zero t 1 x (ix2 p k))))
    (fun k => congrArg (V m c main_arg1) (Prod.ext2 (f := (win0_1.rect t).emb (ix2 q k)) (g := ridx_main_v3 ((win0_2.rect t).emb (ix2 p q)) k)
      (Prod.emb_same win0_1 win0_2 t 0 1 s (ix2 q k) (ix2 p q) rfl rfl)
      (win0_1.rect_emb_val_of_index_zero t 1 z (ix2 q k))))

/-- The returned array is the reference's, from the same arguments. -/
theorem value : (dats m 0 c).arrAt 2 cfg0.N
    = val_main_v3 (F := Ideal) (m ((c.tc : Thread nD τ).loc main_arg0)) (m ((c.tc : Thread nD τ).loc main_arg1)) := by
  rw [← V_main_arg0 m c, ← V_main_arg1 m c]
  refine (dats m 0 c).arrAt_eq_of_covers 2 _ covers fun t _ y => ?_
  rw [cast_eq, after0_2]
  exact block_apply m c t y

/-- The reference leaves its arguments as they were, and it has no semaphore. -/
theorem reference_frame : Cert.quiescent_QkvInputReferenceIdeal (hQkvInputReferenceIdeal := Cert.QkvInputReferenceIdeal.Gen.facts) :=
  fun m ρ _ => (θ_run (Cert.QkvInputReferenceIdeal.defs (F := Ideal)) _ _).mono
    (fun r h => ⟨fun c => (h c).2, sem_eq_zero_of_no_sems (by decide) r.2⟩) (Cert.QkvInputReferenceIdeal.Value.run m ρ)

/-- From equal arguments the call and its reference return the same array. -/
theorem agree : Cert.algebraic_QkvInputIdeal_QkvInputReferenceIdeal (hQkvInputIdeal := Cert.QkvInputIdeal.Gen.facts)
    (hQkvInputReferenceIdeal := Cert.QkvInputReferenceIdeal.Gen.facts) := by
  intro m ρ m' ρ' _ hag
  refine ⟨_, Value.run_blocks m ρ, ?_⟩
  refine (θ_run (Cert.QkvInputReferenceIdeal.defs (F := Ideal)) _ _).mono (fun r h c => ?_) (Cert.QkvInputReferenceIdeal.Value.run m' ρ')
  obtain ⟨h0, ha⟩ := h c
  obtain ⟨g0, g1⟩ := hag c
  rw [Cert.QkvInputReferenceIdeal.Read.val_main_v3_eq, g0, g1] at h0
  exact ⟨h0.trans (value m c).symm, ha⟩

end Cert.QkvInputIdeal.Hand

end
-- ==== Proof.QkvInputAdd.lean ====
/- The product QkvInputAdd: the gradient of a projection's input through the attention's values, added to what came before.
   What a block of it computes, what the array holds, and that this is what the reference computes. -/
module

public import proofs.«01_k».proof.Proof.Gen.QkvInputAddIdeal.Value
public import proofs.«01_k».proof.Proof.Gen.QkvInputAddReferenceIdeal.Read
public import proofs.«01_k».proof.Proof.Gen.QkvInputAddReferenceIdeal.Run
public import proofs.«01_k».proof.Proof.Prod
public import proofs.«01_k».proof.Defs

@[expose] public section

set_option maxRecDepth 16384

noncomputable section

namespace Cert.QkvInputAddIdeal.Hand

open Cert.QkvInputAddIdeal Cert.QkvInputAddIdeal.Gen Idealize.ShloMosaic Idealize.ShloMosaic.TcCoe Idealize.SL.Sem Pipeline
open Cert.QkvInputAddReferenceIdeal.Read (val_main_v4 val_main_v4_apply val_main_v3_apply lidx_main_v3 ridx_main_v3)

/-- An entry of the body's block: a row of the first block against a row of the second, and the entry of the added block. -/
theorem out_apply (x0 : FVec Ideal S512x768 .f32) (x1 : FVec Ideal S1024x768 .bf16) (x2 : FVec Ideal S512x1024 .f32) (p : Fin 512) (q : Fin 1024) :
    out0_3 (F := Ideal) x0 x1 x2 (ix2 p q) = ((∑ k : Fin 768, (x0 (ix2 p k) * x1 (ix2 q k) : EReal)) + x2 (ix2 p q) : EReal) := by
  unfold out0_3
  rw [View.canon_unit_zero (by decide), View.ld_unit_zero (by decide), View.ld_unit_zero (by decide), View.ld_unit_zero (by decide)]
  pointwise [k0_pay1]

/-- Which block of each array a grid point takes. -/
theorem blocks : ∀ t : Fin cfg0.N, win0_0.index t 0 = win0_3.index t 0 ∧ win0_0.index t 1 = 0
    ∧ win0_1.index t 0 = win0_3.index t 1 ∧ win0_1.index t 1 = 0
    ∧ win0_2.index t = win0_3.index t := by decide +kernel

theorem covers : (cfg0.win 3).Covers := by decide +kernel

variable (m : (l : Loc nD τ sig) → Buf (Elt Ideal) l) (c : Dev nD)

/-- What a grid point computes is the reference's product at the block's place. -/
theorem block_apply (t : Fin cfg0.N) (y : S512x1024.Idx) :
    out0_3 (F := Ideal) (iblk m c 0 t) (iblk m c 1 t) (iblk m c 2 t) y
      = val_main_v4 (F := Ideal) (V m c main_arg0) (V m c main_arg1) (V m c main_arg2) ((win0_3.rect t).emb y) := by
  obtain ⟨p, q, rfl⟩ : ∃ (p : Fin 512) (q : Fin 1024), y = ix2 p q := ⟨y 0, y 1, eq_ix2 y⟩
  obtain ⟨r, x, s, z, w⟩ := blocks t
  rw [out_apply, val_main_v4_apply, val_main_v3_apply]
  have e : (win0_2.rect t).emb (ix2 p q) = (win0_3.rect t).emb (ix2 p q) :=
    Prod.ext2 (Prod.emb_same win0_2 win0_3 t 0 0 (congrFun w 0) (ix2 p q) (ix2 p q) rfl rfl)
      (Prod.emb_same win0_2 win0_3 t 1 1 (congrFun w 1) (ix2 p q) (ix2 p q) rfl rfl)
  exact Prod.add_swap (congrArg (V m c main_arg2) e) (Prod.sum_mul (fun k => congrArg (V m c main_arg0) (Prod.ext2 (f := (win0_0.rect t).emb (ix2 p k)) (g := lidx_main_v3 ((win0_3.rect t).emb (ix2 p q)) k)
      (Prod.emb_same win0_0 win0_3 t 0 0 r (ix2 p k) (ix2 p q) rfl rfl)
      (win0_0.rect_emb_val_of_index_zero t 1 x (ix2 p k))))
    (fun k => congrArg (V m c main_arg1) (Prod.ext2 (f := (win0_1.rect t).emb (ix2 q k)) (g := ridx_main_v3 ((win0_3.rect t).emb (ix2 p q)) k)
      (Prod.emb_same win0_1 win0_3 t 0 1 s (ix2 q k) (ix2 p q) rfl rfl)
      (win0_1.rect_emb_val_of_index_zero t 1 z (ix2 q k)))))

/-- The returned array is the reference's, from the same arguments. -/
theorem value : (dats m 0 c).arrAt 3 cfg0.N
    = val_main_v4 (F := Ideal) (m ((c.tc : Thread nD τ).loc main_arg0)) (m ((c.tc : Thread nD τ).loc main_arg1)) (m ((c.tc : Thread nD τ).loc main_arg2)) := by
  rw [← V_main_arg0 m c, ← V_main_arg1 m c, ← V_main_arg2 m c]
  refine (dats m 0 c).arrAt_eq_of_covers 3 _ covers fun t _ y => ?_
  rw [cast_eq, after0_3]
  exact block_apply m c t y

/-- The reference leaves its arguments as they were, and it has no semaphore. -/
theorem reference_frame : Cert.quiescent_QkvInputAddReferenceIdeal (hQkvInputAddReferenceIdeal := Cert.QkvInputAddReferenceIdeal.Gen.facts) :=
  fun m ρ _ => (θ_run (Cert.QkvInputAddReferenceIdeal.defs (F := Ideal)) _ _).mono
    (fun r h => ⟨fun c => (h c).2, sem_eq_zero_of_no_sems (by decide) r.2⟩) (Cert.QkvInputAddReferenceIdeal.Value.run m ρ)

/-- From equal arguments the call and its reference return the same array. -/
theorem agree : Cert.algebraic_QkvInputAddIdeal_QkvInputAddReferenceIdeal (hQkvInputAddIdeal := Cert.QkvInputAddIdeal.Gen.facts)
    (hQkvInputAddReferenceIdeal := Cert.QkvInputAddReferenceIdeal.Gen.facts) := by
  intro m ρ m' ρ' _ hag
  refine ⟨_, Value.run_blocks m ρ, ?_⟩
  refine (θ_run (Cert.QkvInputAddReferenceIdeal.defs (F := Ideal)) _ _).mono (fun r h c => ?_) (Cert.QkvInputAddReferenceIdeal.Value.run m' ρ')
  obtain ⟨h0, ha⟩ := h c
  obtain ⟨g0, g1, g2⟩ := hag c
  rw [Cert.QkvInputAddReferenceIdeal.Read.val_main_v4_eq, g0, g1, g2] at h0
  exact ⟨h0.trans (value m c).symm, ha⟩

end Cert.QkvInputAddIdeal.Hand

end
-- ==== Proof.GateWeight.lean ====
/- The product GateWeight: the gradient of the projection to the forget gates, padded to 128 columns.
   What a block of it computes, what the array holds, and that this is what the reference computes. -/
module

public import proofs.«01_k».proof.Proof.Gen.GateWeightIdeal.Value
public import proofs.«01_k».proof.Proof.Gen.GateWeightReferenceIdeal.Read
public import proofs.«01_k».proof.Proof.Gen.GateWeightReferenceIdeal.Run
public import proofs.«01_k».proof.Proof.Prod
public import proofs.«01_k».proof.Defs

@[expose] public section

set_option maxRecDepth 16384

noncomputable section

namespace Cert.GateWeightIdeal.Hand

open Cert.GateWeightIdeal Cert.GateWeightIdeal.Gen Idealize.ShloMosaic Idealize.ShloMosaic.TcCoe Idealize.SL.Sem Pipeline
open Cert.GateWeightReferenceIdeal.Read (val_main_v5 val_main_v5_apply val_main_v4_apply idx_main_v4 val_main_v3_apply lidx_main_v3 ridx_main_v3)

/-- An entry of the body's block: a column of the first block against a column of the second. -/
theorem out_apply (x0 : FVec Ideal S2048x1024 .bf16) (x1 : FVec Ideal S2048x128 .f32) (p : Fin 1024) (q : Fin 128) :
    out0_2 (F := Ideal) x0 x1 (ix2 p q) = ∑ k : Fin 2048, (x0 (ix2 k p) * x1 (ix2 k q) : EReal) := by
  unfold out0_2
  rw [View.canon_unit_zero (by decide), View.ld_unit_zero (by decide), View.ld_unit_zero (by decide)]
  pointwise [k0_pay1]

/-- Which block of each array a grid point takes. -/
theorem blocks : ∀ t : Fin cfg0.N, win0_0.index t 1 = win0_2.index t 0 ∧ win0_0.index t 0 = 0
    ∧ win0_1.index t 1 = win0_2.index t 1 ∧ win0_1.index t 0 = 0 := by decide +kernel

theorem covers : (cfg0.win 2).Covers := by decide +kernel

variable (m : (l : Loc nD τ sig) → Buf (Elt Ideal) l) (c : Dev nD)

/-- What a grid point computes is the reference's product at the block's place. -/
theorem block_apply (t : Fin cfg0.N) (y : S1024x128.Idx) :
    out0_2 (F := Ideal) (iblk m c 0 t) (iblk m c 1 t) y
      = val_main_v5 (F := Ideal) (V m c main_arg0) (V m c main_arg1) ((win0_2.rect t).emb y) := by
  obtain ⟨p, q, rfl⟩ : ∃ (p : Fin 1024) (q : Fin 128), y = ix2 p q := ⟨y 0, y 1, eq_ix2 y⟩
  obtain ⟨r, x, s, z⟩ := blocks t
  rw [out_apply, val_main_v5_apply, val_main_v4_apply, val_main_v3_apply]
  exact Prod.sum_mul_swap (fun k => congrArg (V m c main_arg0) (Prod.ext2 (f := (win0_0.rect t).emb (ix2 k p)) (g := ridx_main_v3 (idx_main_v4 ((win0_2.rect t).emb (ix2 p q))) k)
      (win0_0.rect_emb_val_of_index_zero t 0 x (ix2 k p))
      (Prod.emb_same win0_0 win0_2 t 1 0 r (ix2 k p) (ix2 p q) rfl rfl)))
    (fun k => congrArg (V m c main_arg1) (Prod.ext2 (f := (win0_1.rect t).emb (ix2 k q)) (g := lidx_main_v3 (idx_main_v4 ((win0_2.rect t).emb (ix2 p q))) k)
      (win0_1.rect_emb_val_of_index_zero t 0 z (ix2 k q))
      (Prod.emb_same win0_1 win0_2 t 1 1 s (ix2 k q) (ix2 p q) rfl rfl)))

/-- The returned array is the reference's, from the same arguments. -/
theorem value : (dats m 0 c).arrAt 2 cfg0.N
    = val_main_v5 (F := Ideal) (m ((c.tc : Thread nD τ).loc main_arg0)) (m ((c.tc : Thread nD τ).loc main_arg1)) := by
  rw [← V_main_arg0 m c, ← V_main_arg1 m c]
  refine (dats m 0 c).arrAt_eq_of_covers 2 _ covers fun t _ y => ?_
  rw [cast_eq, after0_2]
  exact block_apply m c t y

/-- The reference leaves its arguments as they were, and it has no semaphore. -/
theorem reference_frame : Cert.quiescent_GateWeightReferenceIdeal (hGateWeightReferenceIdeal := Cert.GateWeightReferenceIdeal.Gen.facts) :=
  fun m ρ _ => (θ_run (Cert.GateWeightReferenceIdeal.defs (F := Ideal)) _ _).mono
    (fun r h => ⟨fun c => (h c).2, sem_eq_zero_of_no_sems (by decide) r.2⟩) (Cert.GateWeightReferenceIdeal.Value.run m ρ)

/-- From equal arguments the call and its reference return the same array. -/
theorem agree : Cert.algebraic_GateWeightIdeal_GateWeightReferenceIdeal (hGateWeightIdeal := Cert.GateWeightIdeal.Gen.facts)
    (hGateWeightReferenceIdeal := Cert.GateWeightReferenceIdeal.Gen.facts) := by
  intro m ρ m' ρ' _ hag
  refine ⟨_, Value.run_blocks m ρ, ?_⟩
  refine (θ_run (Cert.GateWeightReferenceIdeal.defs (F := Ideal)) _ _).mono (fun r h c => ?_) (Cert.GateWeightReferenceIdeal.Value.run m' ρ')
  obtain ⟨h0, ha⟩ := h c
  obtain ⟨g0, g1⟩ := hag c
  rw [Cert.GateWeightReferenceIdeal.Read.val_main_v5_eq, g0, g1] at h0
  exact ⟨h0.trans (value m c).symm, ha⟩

end Cert.GateWeightIdeal.Hand

end
-- ==== Proof.GateInputAdd.lean ====
/- The product GateInputAdd: the gradient of a projection's input through the forget gates, added to what came before.
   What a block of it computes, what the array holds, and that this is what the reference computes. -/
module

public import proofs.«01_k».proof.Proof.Gen.GateInputAddIdeal.Value
public import proofs.«01_k».proof.Proof.Gen.GateInputAddReferenceIdeal.Read
public import proofs.«01_k».proof.Proof.Gen.GateInputAddReferenceIdeal.Run
public import proofs.«01_k».proof.Proof.Prod
public import proofs.«01_k».proof.Defs

@[expose] public section

set_option maxRecDepth 16384

noncomputable section

namespace Cert.GateInputAddIdeal.Hand

open Cert.GateInputAddIdeal Cert.GateInputAddIdeal.Gen Idealize.ShloMosaic Idealize.ShloMosaic.TcCoe Idealize.SL.Sem Pipeline
open Cert.GateInputAddReferenceIdeal.Read (val_main_v4 val_main_v4_apply val_main_v3_apply lidx_main_v3 ridx_main_v3)

/-- An entry of the body's block: a row of the first block against a row of the second, and the entry of the added block. -/
theorem out_apply (x0 : FVec Ideal S512x128 .f32) (x1 : FVec Ideal S1024x128 .bf16) (x2 : FVec Ideal S512x1024 .f32) (p : Fin 512) (q : Fin 1024) :
    out0_3 (F := Ideal) x0 x1 x2 (ix2 p q) = ((∑ k : Fin 128, (x0 (ix2 p k) * x1 (ix2 q k) : EReal)) + x2 (ix2 p q) : EReal) := by
  unfold out0_3
  rw [View.canon_unit_zero (by decide), View.ld_unit_zero (by decide), View.ld_unit_zero (by decide), View.ld_unit_zero (by decide)]
  pointwise [k0_pay1]

/-- Which block of each array a grid point takes. -/
theorem blocks : ∀ t : Fin cfg0.N, win0_0.index t 0 = win0_3.index t 0 ∧ win0_0.index t 1 = 0
    ∧ win0_1.index t 0 = win0_3.index t 1 ∧ win0_1.index t 1 = 0
    ∧ win0_2.index t = win0_3.index t := by decide +kernel

theorem covers : (cfg0.win 3).Covers := by decide +kernel

variable (m : (l : Loc nD τ sig) → Buf (Elt Ideal) l) (c : Dev nD)

/-- What a grid point computes is the reference's product at the block's place. -/
theorem block_apply (t : Fin cfg0.N) (y : S512x1024.Idx) :
    out0_3 (F := Ideal) (iblk m c 0 t) (iblk m c 1 t) (iblk m c 2 t) y
      = val_main_v4 (F := Ideal) (V m c main_arg0) (V m c main_arg1) (V m c main_arg2) ((win0_3.rect t).emb y) := by
  obtain ⟨p, q, rfl⟩ : ∃ (p : Fin 512) (q : Fin 1024), y = ix2 p q := ⟨y 0, y 1, eq_ix2 y⟩
  obtain ⟨r, x, s, z, w⟩ := blocks t
  rw [out_apply, val_main_v4_apply, val_main_v3_apply]
  have e : (win0_2.rect t).emb (ix2 p q) = (win0_3.rect t).emb (ix2 p q) :=
    Prod.ext2 (Prod.emb_same win0_2 win0_3 t 0 0 (congrFun w 0) (ix2 p q) (ix2 p q) rfl rfl)
      (Prod.emb_same win0_2 win0_3 t 1 1 (congrFun w 1) (ix2 p q) (ix2 p q) rfl rfl)
  exact Prod.add_swap (congrArg (V m c main_arg2) e) (Prod.sum_mul (fun k => congrArg (V m c main_arg0) (Prod.ext2 (f := (win0_0.rect t).emb (ix2 p k)) (g := lidx_main_v3 ((win0_3.rect t).emb (ix2 p q)) k)
      (Prod.emb_same win0_0 win0_3 t 0 0 r (ix2 p k) (ix2 p q) rfl rfl)
      (win0_0.rect_emb_val_of_index_zero t 1 x (ix2 p k))))
    (fun k => congrArg (V m c main_arg1) (Prod.ext2 (f := (win0_1.rect t).emb (ix2 q k)) (g := ridx_main_v3 ((win0_3.rect t).emb (ix2 p q)) k)
      (Prod.emb_same win0_1 win0_3 t 0 1 s (ix2 q k) (ix2 p q) rfl rfl)
      (win0_1.rect_emb_val_of_index_zero t 1 z (ix2 q k)))))

/-- The returned array is the reference's, from the same arguments. -/
theorem value : (dats m 0 c).arrAt 3 cfg0.N
    = val_main_v4 (F := Ideal) (m ((c.tc : Thread nD τ).loc main_arg0)) (m ((c.tc : Thread nD τ).loc main_arg1)) (m ((c.tc : Thread nD τ).loc main_arg2)) := by
  rw [← V_main_arg0 m c, ← V_main_arg1 m c, ← V_main_arg2 m c]
  refine (dats m 0 c).arrAt_eq_of_covers 3 _ covers fun t _ y => ?_
  rw [cast_eq, after0_3]
  exact block_apply m c t y

/-- The reference leaves its arguments as they were, and it has no semaphore. -/
theorem reference_frame : Cert.quiescent_GateInputAddReferenceIdeal (hGateInputAddReferenceIdeal := Cert.GateInputAddReferenceIdeal.Gen.facts) :=
  fun m ρ _ => (θ_run (Cert.GateInputAddReferenceIdeal.defs (F := Ideal)) _ _).mono
    (fun r h => ⟨fun c => (h c).2, sem_eq_zero_of_no_sems (by decide) r.2⟩) (Cert.GateInputAddReferenceIdeal.Value.run m ρ)

/-- From equal arguments the call and its reference return the same array. -/
theorem agree : Cert.algebraic_GateInputAddIdeal_GateInputAddReferenceIdeal (hGateInputAddIdeal := Cert.GateInputAddIdeal.Gen.facts)
    (hGateInputAddReferenceIdeal := Cert.GateInputAddReferenceIdeal.Gen.facts) := by
  intro m ρ m' ρ' _ hag
  refine ⟨_, Value.run_blocks m ρ, ?_⟩
  refine (θ_run (Cert.GateInputAddReferenceIdeal.defs (F := Ideal)) _ _).mono (fun r h c => ?_) (Cert.GateInputAddReferenceIdeal.Value.run m' ρ')
  obtain ⟨h0, ha⟩ := h c
  obtain ⟨g0, g1, g2⟩ := hag c
  rw [Cert.GateInputAddReferenceIdeal.Read.val_main_v4_eq, g0, g1, g2] at h0
  exact ⟨h0.trans (value m c).symm, ha⟩

end Cert.GateInputAddIdeal.Hand

end
-- ==== Proof.Gate.lean ====
/- The product Gate: the projection to the forget gates, padded to 128 columns.
   What a block of it computes, what the array holds, and that this is what the reference computes. -/
module

public import proofs.«01_k».proof.Proof.Gen.GateIdeal.Value
public import proofs.«01_k».proof.Proof.Gen.GateReferenceIdeal.Read
public import proofs.«01_k».proof.Proof.Gen.GateReferenceIdeal.Run
public import proofs.«01_k».proof.Proof.Prod
public import proofs.«01_k».proof.Defs

@[expose] public section

set_option maxRecDepth 16384

noncomputable section

namespace Cert.GateIdeal.Hand

open Cert.GateIdeal Cert.GateIdeal.Gen Idealize.ShloMosaic Idealize.ShloMosaic.TcCoe Idealize.SL.Sem Pipeline
open Cert.GateReferenceIdeal.Read (val_main_v2 val_main_v2_apply lidx_main_v2 ridx_main_v2)

/-- An entry of the body's block: a row of the first block against a column of the second. -/
theorem out_apply (x0 : FVec Ideal S512x1024 .bf16) (x1 : FVec Ideal S1024x128 .bf16) (p : Fin 512) (q : Fin 128) :
    out0_2 (F := Ideal) x0 x1 (ix2 p q) = ∑ k : Fin 1024, (x0 (ix2 p k) * x1 (ix2 k q) : EReal) := by
  unfold out0_2
  rw [View.canon_unit_zero (by decide), View.ld_unit_zero (by decide), View.ld_unit_zero (by decide)]
  pointwise [k0_pay1]

/-- Which block of each array a grid point takes. -/
theorem blocks : ∀ t : Fin cfg0.N, win0_0.index t 0 = win0_2.index t 0 ∧ win0_0.index t 1 = 0
    ∧ win0_1.index t 1 = win0_2.index t 1 ∧ win0_1.index t 0 = 0 := by decide +kernel

theorem covers : (cfg0.win 2).Covers := by decide +kernel

variable (m : (l : Loc nD τ sig) → Buf (Elt Ideal) l) (c : Dev nD)

/-- What a grid point computes is the reference's product at the block's place. -/
theorem block_apply (t : Fin cfg0.N) (y : S512x128.Idx) :
    out0_2 (F := Ideal) (iblk m c 0 t) (iblk m c 1 t) y
      = val_main_v2 (F := Ideal) (V m c main_arg0) (V m c main_arg1) ((win0_2.rect t).emb y) := by
  obtain ⟨p, q, rfl⟩ : ∃ (p : Fin 512) (q : Fin 128), y = ix2 p q := ⟨y 0, y 1, eq_ix2 y⟩
  obtain ⟨r, x, s, z⟩ := blocks t
  rw [out_apply, val_main_v2_apply]
  exact Prod.sum_mul (fun k => congrArg (V m c main_arg0) (Prod.ext2 (f := (win0_0.rect t).emb (ix2 p k)) (g := lidx_main_v2 ((win0_2.rect t).emb (ix2 p q)) k)
      (Prod.emb_same win0_0 win0_2 t 0 0 r (ix2 p k) (ix2 p q) rfl rfl)
      (win0_0.rect_emb_val_of_index_zero t 1 x (ix2 p k))))
    (fun k => congrArg (V m c main_arg1) (Prod.ext2 (f := (win0_1.rect t).emb (ix2 k q)) (g := ridx_main_v2 ((win0_2.rect t).emb (ix2 p q)) k)
      (win0_1.rect_emb_val_of_index_zero t 0 z (ix2 k q))
      (Prod.emb_same win0_1 win0_2 t 1 1 s (ix2 k q) (ix2 p q) rfl rfl)))

/-- The returned array is the reference's, from the same arguments. -/
theorem value : (dats m 0 c).arrAt 2 cfg0.N
    = val_main_v2 (F := Ideal) (m ((c.tc : Thread nD τ).loc main_arg0)) (m ((c.tc : Thread nD τ).loc main_arg1)) := by
  rw [← V_main_arg0 m c, ← V_main_arg1 m c]
  refine (dats m 0 c).arrAt_eq_of_covers 2 _ covers fun t _ y => ?_
  rw [cast_eq, after0_2]
  exact block_apply m c t y

/-- The reference leaves its arguments as they were, and it has no semaphore. -/
theorem reference_frame : Cert.quiescent_GateReferenceIdeal (hGateReferenceIdeal := Cert.GateReferenceIdeal.Gen.facts) :=
  fun m ρ _ => (θ_run (Cert.GateReferenceIdeal.defs (F := Ideal)) _ _).mono
    (fun r h => ⟨fun c => (h c).2, sem_eq_zero_of_no_sems (by decide) r.2⟩) (Cert.GateReferenceIdeal.Value.run m ρ)

/-- From equal arguments the call and its reference return the same array. -/
theorem agree : Cert.algebraic_GateIdeal_GateReferenceIdeal (hGateIdeal := Cert.GateIdeal.Gen.facts)
    (hGateReferenceIdeal := Cert.GateReferenceIdeal.Gen.facts) := by
  intro m ρ m' ρ' _ hag
  refine ⟨_, Value.run_blocks m ρ, ?_⟩
  refine (θ_run (Cert.GateReferenceIdeal.defs (F := Ideal)) _ _).mono (fun r h c => ?_) (Cert.GateReferenceIdeal.Value.run m' ρ')
  obtain ⟨h0, ha⟩ := h c
  obtain ⟨g0, g1⟩ := hag c
  rw [Cert.GateReferenceIdeal.Read.val_main_v2_eq, g0, g1] at h0
  exact ⟨h0.trans (value m c).symm, ha⟩

end Cert.GateIdeal.Hand

end
-- ==== Proof.MemKvWeight.lean ====
/- The product MemKvWeight: the gradient of a projection to the memory's keys or values.
   What a block of it computes, what the array holds, and that this is what the reference computes. -/
module

public import proofs.«01_k».proof.Proof.Gen.MemKvWeightIdeal.Value
public import proofs.«01_k».proof.Proof.Gen.MemKvWeightReferenceIdeal.Read
public import proofs.«01_k».proof.Proof.Gen.MemKvWeightReferenceIdeal.Run
public import proofs.«01_k».proof.Proof.Prod
public import proofs.«01_k».proof.Defs

@[expose] public section

set_option maxRecDepth 16384

noncomputable section

namespace Cert.MemKvWeightIdeal.Hand

open Cert.MemKvWeightIdeal Cert.MemKvWeightIdeal.Gen Idealize.ShloMosaic Idealize.ShloMosaic.TcCoe Idealize.SL.Sem Pipeline
open Cert.MemKvWeightReferenceIdeal.Read (val_main_v5 val_main_v5_apply val_main_v4_apply idx_main_v4 val_main_v3_apply lidx_main_v3 ridx_main_v3)

/-- An entry of the body's block: a column of the first block against a column of the second. -/
theorem out_apply (x0 : FVec Ideal S256x1024 .bf16) (x1 : FVec Ideal S256x256 .f32) (p : Fin 1024) (q : Fin 256) :
    out0_2 (F := Ideal) x0 x1 (ix2 p q) = ∑ k : Fin 256, (x0 (ix2 k p) * x1 (ix2 k q) : EReal) := by
  unfold out0_2
  rw [View.canon_unit_zero (by decide), View.ld_unit_zero (by decide), View.ld_unit_zero (by decide)]
  pointwise [k0_pay1]

/-- Which block of each array a grid point takes. -/
theorem blocks : ∀ t : Fin cfg0.N, win0_0.index t 1 = win0_2.index t 0 ∧ win0_0.index t 0 = 0
    ∧ win0_1.index t 1 = win0_2.index t 1 ∧ win0_1.index t 0 = 0 := by decide +kernel

theorem covers : (cfg0.win 2).Covers := by decide +kernel

variable (m : (l : Loc nD τ sig) → Buf (Elt Ideal) l) (c : Dev nD)

/-- What a grid point computes is the reference's product at the block's place. -/
theorem block_apply (t : Fin cfg0.N) (y : S1024x256.Idx) :
    out0_2 (F := Ideal) (iblk m c 0 t) (iblk m c 1 t) y
      = val_main_v5 (F := Ideal) (V m c main_arg0) (V m c main_arg1) ((win0_2.rect t).emb y) := by
  obtain ⟨p, q, rfl⟩ : ∃ (p : Fin 1024) (q : Fin 256), y = ix2 p q := ⟨y 0, y 1, eq_ix2 y⟩
  obtain ⟨r, x, s, z⟩ := blocks t
  rw [out_apply, val_main_v5_apply, val_main_v4_apply, val_main_v3_apply]
  exact Prod.sum_mul_swap (fun k => congrArg (V m c main_arg0) (Prod.ext2 (f := (win0_0.rect t).emb (ix2 k p)) (g := ridx_main_v3 (idx_main_v4 ((win0_2.rect t).emb (ix2 p q))) k)
      (win0_0.rect_emb_val_of_index_zero t 0 x (ix2 k p))
      (Prod.emb_same win0_0 win0_2 t 1 0 r (ix2 k p) (ix2 p q) rfl rfl)))
    (fun k => congrArg (V m c main_arg1) (Prod.ext2 (f := (win0_1.rect t).emb (ix2 k q)) (g := lidx_main_v3 (idx_main_v4 ((win0_2.rect t).emb (ix2 p q))) k)
      (win0_1.rect_emb_val_of_index_zero t 0 z (ix2 k q))
      (Prod.emb_same win0_1 win0_2 t 1 1 s (ix2 k q) (ix2 p q) rfl rfl)))

/-- The returned array is the reference's, from the same arguments. -/
theorem value : (dats m 0 c).arrAt 2 cfg0.N
    = val_main_v5 (F := Ideal) (m ((c.tc : Thread nD τ).loc main_arg0)) (m ((c.tc : Thread nD τ).loc main_arg1)) := by
  rw [← V_main_arg0 m c, ← V_main_arg1 m c]
  refine (dats m 0 c).arrAt_eq_of_covers 2 _ covers fun t _ y => ?_
  rw [cast_eq, after0_2]
  exact block_apply m c t y

/-- The reference leaves its arguments as they were, and it has no semaphore. -/
theorem reference_frame : Cert.quiescent_MemKvWeightReferenceIdeal (hMemKvWeightReferenceIdeal := Cert.MemKvWeightReferenceIdeal.Gen.facts) :=
  fun m ρ _ => (θ_run (Cert.MemKvWeightReferenceIdeal.defs (F := Ideal)) _ _).mono
    (fun r h => ⟨fun c => (h c).2, sem_eq_zero_of_no_sems (by decide) r.2⟩) (Cert.MemKvWeightReferenceIdeal.Value.run m ρ)

/-- From equal arguments the call and its reference return the same array. -/
theorem agree : Cert.algebraic_MemKvWeightIdeal_MemKvWeightReferenceIdeal (hMemKvWeightIdeal := Cert.MemKvWeightIdeal.Gen.facts)
    (hMemKvWeightReferenceIdeal := Cert.MemKvWeightReferenceIdeal.Gen.facts) := by
  intro m ρ m' ρ' _ hag
  refine ⟨_, Value.run_blocks m ρ, ?_⟩
  refine (θ_run (Cert.MemKvWeightReferenceIdeal.defs (F := Ideal)) _ _).mono (fun r h c => ?_) (Cert.MemKvWeightReferenceIdeal.Value.run m' ρ')
  obtain ⟨h0, ha⟩ := h c
  obtain ⟨g0, g1⟩ := hag c
  rw [Cert.MemKvWeightReferenceIdeal.Read.val_main_v5_eq, g0, g1] at h0
  exact ⟨h0.trans (value m c).symm, ha⟩

end Cert.MemKvWeightIdeal.Hand

end
-- ==== Proof.MemKvInput.lean ====
/- The product MemKvInput: the gradient of the memory tokens through their keys.
   What a block of it computes, what the array holds, and that this is what the reference computes. -/
module

public import proofs.«01_k».proof.Proof.Gen.MemKvInputIdeal.Value
public import proofs.«01_k».proof.Proof.Gen.MemKvInputReferenceIdeal.Read
public import proofs.«01_k».proof.Proof.Gen.MemKvInputReferenceIdeal.Run
public import proofs.«01_k».proof.Proof.Prod
public import proofs.«01_k».proof.Defs

@[expose] public section

set_option maxRecDepth 16384

noncomputable section

namespace Cert.MemKvInputIdeal.Hand

open Cert.MemKvInputIdeal Cert.MemKvInputIdeal.Gen Idealize.ShloMosaic Idealize.ShloMosaic.TcCoe Idealize.SL.Sem Pipeline
open Cert.MemKvInputReferenceIdeal.Read (val_main_v3 val_main_v3_apply lidx_main_v3 ridx_main_v3)

/-- An entry of the body's block: a row of the first block against a row of the second. -/
theorem out_apply (x0 : FVec Ideal S256x256 .f32) (x1 : FVec Ideal S1024x256 .bf16) (p : Fin 256) (q : Fin 1024) :
    out0_2 (F := Ideal) x0 x1 (ix2 p q) = ∑ k : Fin 256, (x0 (ix2 p k) * x1 (ix2 q k) : EReal) := by
  unfold out0_2
  rw [View.canon_unit_zero (by decide), View.ld_unit_zero (by decide), View.ld_unit_zero (by decide)]
  pointwise [k0_pay1]

/-- Which block of each array a grid point takes. -/
theorem blocks : ∀ t : Fin cfg0.N, win0_0.index t 0 = win0_2.index t 0 ∧ win0_0.index t 1 = 0
    ∧ win0_1.index t 0 = win0_2.index t 1 ∧ win0_1.index t 1 = 0 := by decide +kernel

theorem covers : (cfg0.win 2).Covers := by decide +kernel

variable (m : (l : Loc nD τ sig) → Buf (Elt Ideal) l) (c : Dev nD)

/-- What a grid point computes is the reference's product at the block's place. -/
theorem block_apply (t : Fin cfg0.N) (y : S256x1024.Idx) :
    out0_2 (F := Ideal) (iblk m c 0 t) (iblk m c 1 t) y
      = val_main_v3 (F := Ideal) (V m c main_arg0) (V m c main_arg1) ((win0_2.rect t).emb y) := by
  obtain ⟨p, q, rfl⟩ : ∃ (p : Fin 256) (q : Fin 1024), y = ix2 p q := ⟨y 0, y 1, eq_ix2 y⟩
  obtain ⟨r, x, s, z⟩ := blocks t
  rw [out_apply, val_main_v3_apply]
  exact Prod.sum_mul (fun k => congrArg (V m c main_arg0) (Prod.ext2 (f := (win0_0.rect t).emb (ix2 p k)) (g := lidx_main_v3 ((win0_2.rect t).emb (ix2 p q)) k)
      (Prod.emb_same win0_0 win0_2 t 0 0 r (ix2 p k) (ix2 p q) rfl rfl)
      (win0_0.rect_emb_val_of_index_zero t 1 x (ix2 p k))))
    (fun k => congrArg (V m c main_arg1) (Prod.ext2 (f := (win0_1.rect t).emb (ix2 q k)) (g := ridx_main_v3 ((win0_2.rect t).emb (ix2 p q)) k)
      (Prod.emb_same win0_1 win0_2 t 0 1 s (ix2 q k) (ix2 p q) rfl rfl)
      (win0_1.rect_emb_val_of_index_zero t 1 z (ix2 q k))))

/-- The returned array is the reference's, from the same arguments. -/
theorem value : (dats m 0 c).arrAt 2 cfg0.N
    = val_main_v3 (F := Ideal) (m ((c.tc : Thread nD τ).loc main_arg0)) (m ((c.tc : Thread nD τ).loc main_arg1)) := by
  rw [← V_main_arg0 m c, ← V_main_arg1 m c]
  refine (dats m 0 c).arrAt_eq_of_covers 2 _ covers fun t _ y => ?_
  rw [cast_eq, after0_2]
  exact block_apply m c t y

/-- The reference leaves its arguments as they were, and it has no semaphore. -/
theorem reference_frame : Cert.quiescent_MemKvInputReferenceIdeal (hMemKvInputReferenceIdeal := Cert.MemKvInputReferenceIdeal.Gen.facts) :=
  fun m ρ _ => (θ_run (Cert.MemKvInputReferenceIdeal.defs (F := Ideal)) _ _).mono
    (fun r h => ⟨fun c => (h c).2, sem_eq_zero_of_no_sems (by decide) r.2⟩) (Cert.MemKvInputReferenceIdeal.Value.run m ρ)

/-- From equal arguments the call and its reference return the same array. -/
theorem agree : Cert.algebraic_MemKvInputIdeal_MemKvInputReferenceIdeal (hMemKvInputIdeal := Cert.MemKvInputIdeal.Gen.facts)
    (hMemKvInputReferenceIdeal := Cert.MemKvInputReferenceIdeal.Gen.facts) := by
  intro m ρ m' ρ' _ hag
  refine ⟨_, Value.run_blocks m ρ, ?_⟩
  refine (θ_run (Cert.MemKvInputReferenceIdeal.defs (F := Ideal)) _ _).mono (fun r h c => ?_) (Cert.MemKvInputReferenceIdeal.Value.run m' ρ')
  obtain ⟨h0, ha⟩ := h c
  obtain ⟨g0, g1⟩ := hag c
  rw [Cert.MemKvInputReferenceIdeal.Read.val_main_v3_eq, g0, g1] at h0
  exact ⟨h0.trans (value m c).symm, ha⟩

end Cert.MemKvInputIdeal.Hand

end
-- ==== Proof.MemKvInputAdd.lean ====
/- The product MemKvInputAdd: the gradient of the memory tokens through their keys or values, added to what came before.
   What a block of it computes, what the array holds, and that this is what the reference computes. -/
module

public import proofs.«01_k».proof.Proof.Gen.MemKvInputAddIdeal.Value
public import proofs.«01_k».proof.Proof.Gen.MemKvInputAddReferenceIdeal.Read
public import proofs.«01_k».proof.Proof.Gen.MemKvInputAddReferenceIdeal.Run
public import proofs.«01_k».proof.Proof.Prod
public import proofs.«01_k».proof.Defs

@[expose] public section

set_option maxRecDepth 16384

noncomputable section

namespace Cert.MemKvInputAddIdeal.Hand

open Cert.MemKvInputAddIdeal Cert.MemKvInputAddIdeal.Gen Idealize.ShloMosaic Idealize.ShloMosaic.TcCoe Idealize.SL.Sem Pipeline
open Cert.MemKvInputAddReferenceIdeal.Read (val_main_v4 val_main_v4_apply val_main_v3_apply lidx_main_v3 ridx_main_v3)

/-- An entry of the body's block: a row of the first block against a row of the second, and the entry of the added block. -/
theorem out_apply (x0 : FVec Ideal S256x256 .f32) (x1 : FVec Ideal S1024x256 .bf16) (x2 : FVec Ideal S256x1024 .f32) (p : Fin 256) (q : Fin 1024) :
    out0_3 (F := Ideal) x0 x1 x2 (ix2 p q) = ((∑ k : Fin 256, (x0 (ix2 p k) * x1 (ix2 q k) : EReal)) + x2 (ix2 p q) : EReal) := by
  unfold out0_3
  rw [View.canon_unit_zero (by decide), View.ld_unit_zero (by decide), View.ld_unit_zero (by decide), View.ld_unit_zero (by decide)]
  pointwise [k0_pay1]

/-- Which block of each array a grid point takes. -/
theorem blocks : ∀ t : Fin cfg0.N, win0_0.index t 0 = win0_3.index t 0 ∧ win0_0.index t 1 = 0
    ∧ win0_1.index t 0 = win0_3.index t 1 ∧ win0_1.index t 1 = 0
    ∧ win0_2.index t = win0_3.index t := by decide +kernel

theorem covers : (cfg0.win 3).Covers := by decide +kernel

variable (m : (l : Loc nD τ sig) → Buf (Elt Ideal) l) (c : Dev nD)

/-- What a grid point computes is the reference's product at the block's place. -/
theorem block_apply (t : Fin cfg0.N) (y : S256x1024.Idx) :
    out0_3 (F := Ideal) (iblk m c 0 t) (iblk m c 1 t) (iblk m c 2 t) y
      = val_main_v4 (F := Ideal) (V m c main_arg0) (V m c main_arg1) (V m c main_arg2) ((win0_3.rect t).emb y) := by
  obtain ⟨p, q, rfl⟩ : ∃ (p : Fin 256) (q : Fin 1024), y = ix2 p q := ⟨y 0, y 1, eq_ix2 y⟩
  obtain ⟨r, x, s, z, w⟩ := blocks t
  rw [out_apply, val_main_v4_apply, val_main_v3_apply]
  have e : (win0_2.rect t).emb (ix2 p q) = (win0_3.rect t).emb (ix2 p q) :=
    Prod.ext2 (Prod.emb_same win0_2 win0_3 t 0 0 (congrFun w 0) (ix2 p q) (ix2 p q) rfl rfl)
      (Prod.emb_same win0_2 win0_3 t 1 1 (congrFun w 1) (ix2 p q) (ix2 p q) rfl rfl)
  exact Prod.add_swap (congrArg (V m c main_arg2) e) (Prod.sum_mul (fun k => congrArg (V m c main_arg0) (Prod.ext2 (f := (win0_0.rect t).emb (ix2 p k)) (g := lidx_main_v3 ((win0_3.rect t).emb (ix2 p q)) k)
      (Prod.emb_same win0_0 win0_3 t 0 0 r (ix2 p k) (ix2 p q) rfl rfl)
      (win0_0.rect_emb_val_of_index_zero t 1 x (ix2 p k))))
    (fun k => congrArg (V m c main_arg1) (Prod.ext2 (f := (win0_1.rect t).emb (ix2 q k)) (g := ridx_main_v3 ((win0_3.rect t).emb (ix2 p q)) k)
      (Prod.emb_same win0_1 win0_3 t 0 1 s (ix2 q k) (ix2 p q) rfl rfl)
      (win0_1.rect_emb_val_of_index_zero t 1 z (ix2 q k)))))

/-- The returned array is the reference's, from the same arguments. -/
theorem value : (dats m 0 c).arrAt 3 cfg0.N
    = val_main_v4 (F := Ideal) (m ((c.tc : Thread nD τ).loc main_arg0)) (m ((c.tc : Thread nD τ).loc main_arg1)) (m ((c.tc : Thread nD τ).loc main_arg2)) := by
  rw [← V_main_arg0 m c, ← V_main_arg1 m c, ← V_main_arg2 m c]
  refine (dats m 0 c).arrAt_eq_of_covers 3 _ covers fun t _ y => ?_
  rw [cast_eq, after0_3]
  exact block_apply m c t y

/-- The reference leaves its arguments as they were, and it has no semaphore. -/
theorem reference_frame : Cert.quiescent_MemKvInputAddReferenceIdeal (hMemKvInputAddReferenceIdeal := Cert.MemKvInputAddReferenceIdeal.Gen.facts) :=
  fun m ρ _ => (θ_run (Cert.MemKvInputAddReferenceIdeal.defs (F := Ideal)) _ _).mono
    (fun r h => ⟨fun c => (h c).2, sem_eq_zero_of_no_sems (by decide) r.2⟩) (Cert.MemKvInputAddReferenceIdeal.Value.run m ρ)

/-- From equal arguments the call and its reference return the same array. -/
theorem agree : Cert.algebraic_MemKvInputAddIdeal_MemKvInputAddReferenceIdeal (hMemKvInputAddIdeal := Cert.MemKvInputAddIdeal.Gen.facts)
    (hMemKvInputAddReferenceIdeal := Cert.MemKvInputAddReferenceIdeal.Gen.facts) := by
  intro m ρ m' ρ' _ hag
  refine ⟨_, Value.run_blocks m ρ, ?_⟩
  refine (θ_run (Cert.MemKvInputAddReferenceIdeal.defs (F := Ideal)) _ _).mono (fun r h c => ?_) (Cert.MemKvInputAddReferenceIdeal.Value.run m' ρ')
  obtain ⟨h0, ha⟩ := h c
  obtain ⟨g0, g1, g2⟩ := hag c
  rw [Cert.MemKvInputAddReferenceIdeal.Read.val_main_v4_eq, g0, g1, g2] at h0
  exact ⟨h0.trans (value m c).symm, ha⟩

end Cert.MemKvInputAddIdeal.Hand

end
-- ==== Proof.MemKv.lean ====
/- The product MemKv: a projection of the memory tokens to keys or values.
   What a block of it computes, what the array holds, and that this is what the reference computes. -/
module

public import proofs.«01_k».proof.Proof.Gen.MemKvIdeal.Value
public import proofs.«01_k».proof.Proof.Gen.MemKvReferenceIdeal.Read
public import proofs.«01_k».proof.Proof.Gen.MemKvReferenceIdeal.Run
public import proofs.«01_k».proof.Proof.Prod
public import proofs.«01_k».proof.Defs

@[expose] public section

set_option maxRecDepth 16384

noncomputable section

namespace Cert.MemKvIdeal.Hand

open Cert.MemKvIdeal Cert.MemKvIdeal.Gen Idealize.ShloMosaic Idealize.ShloMosaic.TcCoe Idealize.SL.Sem Pipeline
open Cert.MemKvReferenceIdeal.Read (val_main_v2 val_main_v2_apply lidx_main_v2 ridx_main_v2)

/-- An entry of the body's block: a row of the first block against a column of the second. -/
theorem out_apply (x0 : FVec Ideal S256x1024 .bf16) (x1 : FVec Ideal S1024x256 .bf16) (p : Fin 256) (q : Fin 256) :
    out0_2 (F := Ideal) x0 x1 (ix2 p q) = ∑ k : Fin 1024, (x0 (ix2 p k) * x1 (ix2 k q) : EReal) := by
  unfold out0_2
  rw [View.canon_unit_zero (by decide), View.ld_unit_zero (by decide), View.ld_unit_zero (by decide)]
  pointwise [k0_pay1]

/-- Which block of each array a grid point takes. -/
theorem blocks : ∀ t : Fin cfg0.N, win0_0.index t 0 = win0_2.index t 0 ∧ win0_0.index t 1 = 0
    ∧ win0_1.index t 1 = win0_2.index t 1 ∧ win0_1.index t 0 = 0 := by decide +kernel

theorem covers : (cfg0.win 2).Covers := by decide +kernel

variable (m : (l : Loc nD τ sig) → Buf (Elt Ideal) l) (c : Dev nD)

/-- What a grid point computes is the reference's product at the block's place. -/
theorem block_apply (t : Fin cfg0.N) (y : S256x256.Idx) :
    out0_2 (F := Ideal) (iblk m c 0 t) (iblk m c 1 t) y
      = val_main_v2 (F := Ideal) (V m c main_arg0) (V m c main_arg1) ((win0_2.rect t).emb y) := by
  obtain ⟨p, q, rfl⟩ : ∃ (p : Fin 256) (q : Fin 256), y = ix2 p q := ⟨y 0, y 1, eq_ix2 y⟩
  obtain ⟨r, x, s, z⟩ := blocks t
  rw [out_apply, val_main_v2_apply]
  exact Prod.sum_mul (fun k => congrArg (V m c main_arg0) (Prod.ext2 (f := (win0_0.rect t).emb (ix2 p k)) (g := lidx_main_v2 ((win0_2.rect t).emb (ix2 p q)) k)
      (Prod.emb_same win0_0 win0_2 t 0 0 r (ix2 p k) (ix2 p q) rfl rfl)
      (win0_0.rect_emb_val_of_index_zero t 1 x (ix2 p k))))
    (fun k => congrArg (V m c main_arg1) (Prod.ext2 (f := (win0_1.rect t).emb (ix2 k q)) (g := ridx_main_v2 ((win0_2.rect t).emb (ix2 p q)) k)
      (win0_1.rect_emb_val_of_index_zero t 0 z (ix2 k q))
      (Prod.emb_same win0_1 win0_2 t 1 1 s (ix2 k q) (ix2 p q) rfl rfl)))

/-- The returned array is the reference's, from the same arguments. -/
theorem value : (dats m 0 c).arrAt 2 cfg0.N
    = val_main_v2 (F := Ideal) (m ((c.tc : Thread nD τ).loc main_arg0)) (m ((c.tc : Thread nD τ).loc main_arg1)) := by
  rw [← V_main_arg0 m c, ← V_main_arg1 m c]
  refine (dats m 0 c).arrAt_eq_of_covers 2 _ covers fun t _ y => ?_
  rw [cast_eq, after0_2]
  exact block_apply m c t y

/-- The reference leaves its arguments as they were, and it has no semaphore. -/
theorem reference_frame : Cert.quiescent_MemKvReferenceIdeal (hMemKvReferenceIdeal := Cert.MemKvReferenceIdeal.Gen.facts) :=
  fun m ρ _ => (θ_run (Cert.MemKvReferenceIdeal.defs (F := Ideal)) _ _).mono
    (fun r h => ⟨fun c => (h c).2, sem_eq_zero_of_no_sems (by decide) r.2⟩) (Cert.MemKvReferenceIdeal.Value.run m ρ)

/-- From equal arguments the call and its reference return the same array. -/
theorem agree : Cert.algebraic_MemKvIdeal_MemKvReferenceIdeal (hMemKvIdeal := Cert.MemKvIdeal.Gen.facts)
    (hMemKvReferenceIdeal := Cert.MemKvReferenceIdeal.Gen.facts) := by
  intro m ρ m' ρ' _ hag
  refine ⟨_, Value.run_blocks m ρ, ?_⟩
  refine (θ_run (Cert.MemKvReferenceIdeal.defs (F := Ideal)) _ _).mono (fun r h c => ?_) (Cert.MemKvReferenceIdeal.Value.run m' ρ')
  obtain ⟨h0, ha⟩ := h c
  obtain ⟨g0, g1⟩ := hag c
  rw [Cert.MemKvReferenceIdeal.Read.val_main_v2_eq, g0, g1] at h0
  exact ⟨h0.trans (value m c).symm, ha⟩

end Cert.MemKvIdeal.Hand

end
-- ==== Proof.AdamNorms.lean ====
/- The optimiser's step on g_mix and g_ffn: the three arrays that the call returns are the reference's. -/
module

public import proofs.«01_k».proof.Proof.Gen.AdamNormsIdeal.Value
public import proofs.«01_k».proof.Proof.Gen.AdamNormsReferenceIdeal.Read
public import proofs.«01_k».proof.Proof.Gen.AdamNormsReferenceIdeal.Run
public import proofs.«01_k».proof.Defs

@[expose] public section

noncomputable section

namespace Cert.AdamNormsIdeal.Hand

open Cert.AdamNormsIdeal Cert.AdamNormsIdeal.Gen Idealize.ShloMosaic Idealize.ShloMosaic.TcCoe Idealize.SL.Sem
open Cert.AdamNormsReferenceIdeal.Read

variable (w g m v : FVec Ideal S4x1024 .f32)

/-- The reference's new first moment is the kernel's. -/
theorem moment1 : val_main_v4 (F := Ideal) g m = Value.G5 g m := by
  funext i
  rw [val_main_v4_apply, val_main_v1_apply, val_main_v0_apply, val_main_v3_apply, val_main_v2_apply]
  rfl

/-- The reference's new second moment is the kernel's. -/
theorem moment2 : val_main_v10 (F := Ideal) g v = Value.G6 g v := by
  funext i
  rw [val_main_v10_apply, val_main_v6_apply, val_main_v5_apply, val_main_v9_apply, val_main_v8_apply, val_main_v7_apply]
  rfl

/-- The reference's step is the kernel's. -/
theorem step : val_main_v23 (F := Ideal) w g m v = Value.G4 g m v w := by
  funext i
  rw [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, moment1, moment2]
  rfl

/-- The reference leaves its arguments as they were, and it has no semaphore. -/
theorem reference_frame : Cert.quiescent_AdamNormsReferenceIdeal (hAdamNormsReferenceIdeal := Cert.AdamNormsReferenceIdeal.Gen.facts) :=
  fun m ρ _ => (θ_run (Cert.AdamNormsReferenceIdeal.defs (F := Ideal)) _ _).mono
    (fun r h => ⟨fun c => (h c).2.2.2, sem_eq_zero_of_no_sems (by decide) r.2⟩) (Cert.AdamNormsReferenceIdeal.Value.run m ρ)

/-- From equal arguments the call and its reference return the same step and the same moments. -/
theorem agree : Cert.algebraic_AdamNormsIdeal_AdamNormsReferenceIdeal (hAdamNormsIdeal := Cert.AdamNormsIdeal.Gen.facts)
    (hAdamNormsReferenceIdeal := Cert.AdamNormsReferenceIdeal.Gen.facts) := by
  intro m ρ m' ρ' _ hag
  refine ⟨_, _, _, Value.run m ρ, ?_⟩
  refine (θ_run (Cert.AdamNormsReferenceIdeal.defs (F := Ideal)) _ _).mono (fun r h c => ?_) (Cert.AdamNormsReferenceIdeal.Value.run m' ρ')
  obtain ⟨h0, h1, h2, ha⟩ := h c
  obtain ⟨g0, g1, g2, g3⟩ := hag c
  rw [val_main_v23_eq, g0, g1, g2, g3] at h0
  rw [val_main_v4_eq, g1, g2] at h1
  rw [val_main_v10_eq, g1, g3] at h2
  exact ⟨h0.trans (step _ _ _ _), h1.trans (moment1 _ _), h2.trans (moment2 _ _), ha⟩

end Cert.AdamNormsIdeal.Hand

end
-- ==== Proof.AdamInA.lean ====
/- The optimiser's step on w_in_a: the three arrays that the call returns are the reference's. -/
module

public import proofs.«01_k».proof.Proof.Gen.AdamInAIdeal.Value
public import proofs.«01_k».proof.Proof.Gen.AdamInAReferenceIdeal.Read
public import proofs.«01_k».proof.Proof.Gen.AdamInAReferenceIdeal.Run
public import proofs.«01_k».proof.Defs

@[expose] public section

noncomputable section

namespace Cert.AdamInAIdeal.Hand

open Cert.AdamInAIdeal Cert.AdamInAIdeal.Gen Idealize.ShloMosaic Idealize.ShloMosaic.TcCoe Idealize.SL.Sem
open Cert.AdamInAReferenceIdeal.Read

variable (w g m v : FVec Ideal S2048x448 .f32)

/-- The reference's new first moment is the kernel's. -/
theorem moment1 : val_main_v4 (F := Ideal) g m = Value.G5 g m := by
  funext i
  rw [val_main_v4_apply, val_main_v1_apply, val_main_v0_apply, val_main_v3_apply, val_main_v2_apply]
  rfl

/-- The reference's new second moment is the kernel's. -/
theorem moment2 : val_main_v10 (F := Ideal) g v = Value.G6 g v := by
  funext i
  rw [val_main_v10_apply, val_main_v6_apply, val_main_v5_apply, val_main_v9_apply, val_main_v8_apply, val_main_v7_apply]
  rfl

/-- The reference's step is the kernel's. -/
theorem step : val_main_v23 (F := Ideal) w g m v = Value.G4 g m v w := by
  funext i
  rw [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, moment1, moment2]
  rfl

/-- The reference leaves its arguments as they were, and it has no semaphore. -/
theorem reference_frame : Cert.quiescent_AdamInAReferenceIdeal (hAdamInAReferenceIdeal := Cert.AdamInAReferenceIdeal.Gen.facts) :=
  fun m ρ _ => (θ_run (Cert.AdamInAReferenceIdeal.defs (F := Ideal)) _ _).mono
    (fun r h => ⟨fun c => (h c).2.2.2, sem_eq_zero_of_no_sems (by decide) r.2⟩) (Cert.AdamInAReferenceIdeal.Value.run m ρ)

/-- From equal arguments the call and its reference return the same step and the same moments. -/
theorem agree : Cert.algebraic_AdamInAIdeal_AdamInAReferenceIdeal (hAdamInAIdeal := Cert.AdamInAIdeal.Gen.facts)
    (hAdamInAReferenceIdeal := Cert.AdamInAReferenceIdeal.Gen.facts) := by
  intro m ρ m' ρ' _ hag
  refine ⟨_, _, _, Value.run m ρ, ?_⟩
  refine (θ_run (Cert.AdamInAReferenceIdeal.defs (F := Ideal)) _ _).mono (fun r h c => ?_) (Cert.AdamInAReferenceIdeal.Value.run m' ρ')
  obtain ⟨h0, h1, h2, ha⟩ := h c
  obtain ⟨g0, g1, g2, g3⟩ := hag c
  rw [val_main_v23_eq, g0, g1, g2, g3] at h0
  rw [val_main_v4_eq, g1, g2] at h1
  rw [val_main_v10_eq, g1, g3] at h2
  exact ⟨h0.trans (step _ _ _ _), h1.trans (moment1 _ _), h2.trans (moment2 _ _), ha⟩

end Cert.AdamInAIdeal.Hand

end
-- ==== Proof.AdamGlu.lean ====
/- The optimiser's step on b_glu: the three arrays that the call returns are the reference's. -/
module

public import proofs.«01_k».proof.Proof.Gen.AdamGluIdeal.Value
public import proofs.«01_k».proof.Proof.Gen.AdamGluReferenceIdeal.Read
public import proofs.«01_k».proof.Proof.Gen.AdamGluReferenceIdeal.Run
public import proofs.«01_k».proof.Defs

@[expose] public section

noncomputable section

namespace Cert.AdamGluIdeal.Hand

open Cert.AdamGluIdeal Cert.AdamGluIdeal.Gen Idealize.ShloMosaic Idealize.ShloMosaic.TcCoe Idealize.SL.Sem
open Cert.AdamGluReferenceIdeal.Read

variable (w g m v : FVec Ideal S2x384 .f32)

/-- The reference's new first moment is the kernel's. -/
theorem moment1 : val_main_v4 (F := Ideal) g m = Value.G5 g m := by
  funext i
  rw [val_main_v4_apply, val_main_v1_apply, val_main_v0_apply, val_main_v3_apply, val_main_v2_apply]
  rfl

/-- The reference's new second moment is the kernel's. -/
theorem moment2 : val_main_v10 (F := Ideal) g v = Value.G6 g v := by
  funext i
  rw [val_main_v10_apply, val_main_v6_apply, val_main_v5_apply, val_main_v9_apply, val_main_v8_apply, val_main_v7_apply]
  rfl

/-- The reference's step is the kernel's. -/
theorem step : val_main_v23 (F := Ideal) w g m v = Value.G4 g m v w := by
  funext i
  rw [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, moment1, moment2]
  rfl

/-- The reference leaves its arguments as they were, and it has no semaphore. -/
theorem reference_frame : Cert.quiescent_AdamGluReferenceIdeal (hAdamGluReferenceIdeal := Cert.AdamGluReferenceIdeal.Gen.facts) :=
  fun m ρ _ => (θ_run (Cert.AdamGluReferenceIdeal.defs (F := Ideal)) _ _).mono
    (fun r h => ⟨fun c => (h c).2.2.2, sem_eq_zero_of_no_sems (by decide) r.2⟩) (Cert.AdamGluReferenceIdeal.Value.run m ρ)

/-- From equal arguments the call and its reference return the same step and the same moments. -/
theorem agree : Cert.algebraic_AdamGluIdeal_AdamGluReferenceIdeal (hAdamGluIdeal := Cert.AdamGluIdeal.Gen.facts)
    (hAdamGluReferenceIdeal := Cert.AdamGluReferenceIdeal.Gen.facts) := by
  intro m ρ m' ρ' _ hag
  refine ⟨_, _, _, Value.run m ρ, ?_⟩
  refine (θ_run (Cert.AdamGluReferenceIdeal.defs (F := Ideal)) _ _).mono (fun r h c => ?_) (Cert.AdamGluReferenceIdeal.Value.run m' ρ')
  obtain ⟨h0, h1, h2, ha⟩ := h c
  obtain ⟨g0, g1, g2, g3⟩ := hag c
  rw [val_main_v23_eq, g0, g1, g2, g3] at h0
  rw [val_main_v4_eq, g1, g2] at h1
  rw [val_main_v10_eq, g1, g3] at h2
  exact ⟨h0.trans (step _ _ _ _), h1.trans (moment1 _ _), h2.trans (moment2 _ _), ha⟩

end Cert.AdamGluIdeal.Hand

end
-- ==== Proof.AdamConv.lean ====
/- The optimiser's step on w_dw_a: the three arrays that the call returns are the reference's. -/
module

public import proofs.«01_k».proof.Proof.Gen.AdamConvIdeal.Value
public import proofs.«01_k».proof.Proof.Gen.AdamConvReferenceIdeal.Read
public import proofs.«01_k».proof.Proof.Gen.AdamConvReferenceIdeal.Run
public import proofs.«01_k».proof.Defs

@[expose] public section

noncomputable section

namespace Cert.AdamConvIdeal.Hand

open Cert.AdamConvIdeal Cert.AdamConvIdeal.Gen Idealize.ShloMosaic Idealize.ShloMosaic.TcCoe Idealize.SL.Sem
open Cert.AdamConvReferenceIdeal.Read

variable (w g m v : FVec Ideal S62x192 .f32)

/-- The reference's new first moment is the kernel's. -/
theorem moment1 : val_main_v4 (F := Ideal) g m = Value.G5 g m := by
  funext i
  rw [val_main_v4_apply, val_main_v1_apply, val_main_v0_apply, val_main_v3_apply, val_main_v2_apply]
  rfl

/-- The reference's new second moment is the kernel's. -/
theorem moment2 : val_main_v10 (F := Ideal) g v = Value.G6 g v := by
  funext i
  rw [val_main_v10_apply, val_main_v6_apply, val_main_v5_apply, val_main_v9_apply, val_main_v8_apply, val_main_v7_apply]
  rfl

/-- The reference's step is the kernel's. -/
theorem step : val_main_v23 (F := Ideal) w g m v = Value.G4 g m v w := by
  funext i
  rw [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, moment1, moment2]
  rfl

/-- The reference leaves its arguments as they were, and it has no semaphore. -/
theorem reference_frame : Cert.quiescent_AdamConvReferenceIdeal (hAdamConvReferenceIdeal := Cert.AdamConvReferenceIdeal.Gen.facts) :=
  fun m ρ _ => (θ_run (Cert.AdamConvReferenceIdeal.defs (F := Ideal)) _ _).mono
    (fun r h => ⟨fun c => (h c).2.2.2, sem_eq_zero_of_no_sems (by decide) r.2⟩) (Cert.AdamConvReferenceIdeal.Value.run m ρ)

/-- From equal arguments the call and its reference return the same step and the same moments. -/
theorem agree : Cert.algebraic_AdamConvIdeal_AdamConvReferenceIdeal (hAdamConvIdeal := Cert.AdamConvIdeal.Gen.facts)
    (hAdamConvReferenceIdeal := Cert.AdamConvReferenceIdeal.Gen.facts) := by
  intro m ρ m' ρ' _ hag
  refine ⟨_, _, _, Value.run m ρ, ?_⟩
  refine (θ_run (Cert.AdamConvReferenceIdeal.defs (F := Ideal)) _ _).mono (fun r h c => ?_) (Cert.AdamConvReferenceIdeal.Value.run m' ρ')
  obtain ⟨h0, h1, h2, ha⟩ := h c
  obtain ⟨g0, g1, g2, g3⟩ := hag c
  rw [val_main_v23_eq, g0, g1, g2, g3] at h0
  rw [val_main_v4_eq, g1, g2] at h1
  rw [val_main_v10_eq, g1, g3] at h2
  exact ⟨h0.trans (step _ _ _ _), h1.trans (moment1 _ _), h2.trans (moment2 _ _), ha⟩

end Cert.AdamConvIdeal.Hand

end
-- ==== Proof.AdamChannels.lean ====
/- The optimiser's step on b_dw_a, ln_g and ln_b: the three arrays that the call returns are the reference's. -/
module

public import proofs.«01_k».proof.Proof.Gen.AdamChannelsIdeal.Value
public import proofs.«01_k».proof.Proof.Gen.AdamChannelsReferenceIdeal.Read
public import proofs.«01_k».proof.Proof.Gen.AdamChannelsReferenceIdeal.Run
public import proofs.«01_k».proof.Defs

@[expose] public section

noncomputable section

namespace Cert.AdamChannelsIdeal.Hand

open Cert.AdamChannelsIdeal Cert.AdamChannelsIdeal.Gen Idealize.ShloMosaic Idealize.ShloMosaic.TcCoe Idealize.SL.Sem
open Cert.AdamChannelsReferenceIdeal.Read

variable (w g m v : FVec Ideal S2x192 .f32)

/-- The reference's new first moment is the kernel's. -/
theorem moment1 : val_main_v4 (F := Ideal) g m = Value.G5 g m := by
  funext i
  rw [val_main_v4_apply, val_main_v1_apply, val_main_v0_apply, val_main_v3_apply, val_main_v2_apply]
  rfl

/-- The reference's new second moment is the kernel's. -/
theorem moment2 : val_main_v10 (F := Ideal) g v = Value.G6 g v := by
  funext i
  rw [val_main_v10_apply, val_main_v6_apply, val_main_v5_apply, val_main_v9_apply, val_main_v8_apply, val_main_v7_apply]
  rfl

/-- The reference's step is the kernel's. -/
theorem step : val_main_v23 (F := Ideal) w g m v = Value.G4 g m v w := by
  funext i
  rw [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, moment1, moment2]
  rfl

/-- The reference leaves its arguments as they were, and it has no semaphore. -/
theorem reference_frame : Cert.quiescent_AdamChannelsReferenceIdeal (hAdamChannelsReferenceIdeal := Cert.AdamChannelsReferenceIdeal.Gen.facts) :=
  fun m ρ _ => (θ_run (Cert.AdamChannelsReferenceIdeal.defs (F := Ideal)) _ _).mono
    (fun r h => ⟨fun c => (h c).2.2.2, sem_eq_zero_of_no_sems (by decide) r.2⟩) (Cert.AdamChannelsReferenceIdeal.Value.run m ρ)

/-- From equal arguments the call and its reference return the same step and the same moments. -/
theorem agree : Cert.algebraic_AdamChannelsIdeal_AdamChannelsReferenceIdeal (hAdamChannelsIdeal := Cert.AdamChannelsIdeal.Gen.facts)
    (hAdamChannelsReferenceIdeal := Cert.AdamChannelsReferenceIdeal.Gen.facts) := by
  intro m ρ m' ρ' _ hag
  refine ⟨_, _, _, Value.run m ρ, ?_⟩
  refine (θ_run (Cert.AdamChannelsReferenceIdeal.defs (F := Ideal)) _ _).mono (fun r h c => ?_) (Cert.AdamChannelsReferenceIdeal.Value.run m' ρ')
  obtain ⟨h0, h1, h2, ha⟩ := h c
  obtain ⟨g0, g1, g2, g3⟩ := hag c
  rw [val_main_v23_eq, g0, g1, g2, g3] at h0
  rw [val_main_v4_eq, g1, g2] at h1
  rw [val_main_v10_eq, g1, g3] at h2
  exact ⟨h0.trans (step _ _ _ _), h1.trans (moment1 _ _), h2.trans (moment2 _ _), ha⟩

end Cert.AdamChannelsIdeal.Hand

end
-- ==== Proof.AdamGain.lean ====
/- The optimiser's step on g_kv, g_mem and g_final: the three arrays that the call returns are the reference's. -/
module

public import proofs.«01_k».proof.Proof.Gen.AdamGainIdeal.Value
public import proofs.«01_k».proof.Proof.Gen.AdamGainReferenceIdeal.Read
public import proofs.«01_k».proof.Proof.Gen.AdamGainReferenceIdeal.Run
public import proofs.«01_k».proof.Defs

@[expose] public section

noncomputable section

namespace Cert.AdamGainIdeal.Hand

open Cert.AdamGainIdeal Cert.AdamGainIdeal.Gen Idealize.ShloMosaic Idealize.ShloMosaic.TcCoe Idealize.SL.Sem
open Cert.AdamGainReferenceIdeal.Read

variable (w g m v : FVec Ideal S1x1024 .f32)

/-- The reference's new first moment is the kernel's. -/
theorem moment1 : val_main_v4 (F := Ideal) g m = Value.G5 g m := by
  funext i
  rw [val_main_v4_apply, val_main_v1_apply, val_main_v0_apply, val_main_v3_apply, val_main_v2_apply]
  rfl

/-- The reference's new second moment is the kernel's. -/
theorem moment2 : val_main_v10 (F := Ideal) g v = Value.G6 g v := by
  funext i
  rw [val_main_v10_apply, val_main_v6_apply, val_main_v5_apply, val_main_v9_apply, val_main_v8_apply, val_main_v7_apply]
  rfl

/-- The reference's step is the kernel's. -/
theorem step : val_main_v23 (F := Ideal) w g m v = Value.G4 g m v w := by
  funext i
  rw [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, moment1, moment2]
  rfl

/-- The reference leaves its arguments as they were, and it has no semaphore. -/
theorem reference_frame : Cert.quiescent_AdamGainReferenceIdeal (hAdamGainReferenceIdeal := Cert.AdamGainReferenceIdeal.Gen.facts) :=
  fun m ρ _ => (θ_run (Cert.AdamGainReferenceIdeal.defs (F := Ideal)) _ _).mono
    (fun r h => ⟨fun c => (h c).2.2.2, sem_eq_zero_of_no_sems (by decide) r.2⟩) (Cert.AdamGainReferenceIdeal.Value.run m ρ)

/-- From equal arguments the call and its reference return the same step and the same moments. -/
theorem agree : Cert.algebraic_AdamGainIdeal_AdamGainReferenceIdeal (hAdamGainIdeal := Cert.AdamGainIdeal.Gen.facts)
    (hAdamGainReferenceIdeal := Cert.AdamGainReferenceIdeal.Gen.facts) := by
  intro m ρ m' ρ' _ hag
  refine ⟨_, _, _, Value.run m ρ, ?_⟩
  refine (θ_run (Cert.AdamGainReferenceIdeal.defs (F := Ideal)) _ _).mono (fun r h c => ?_) (Cert.AdamGainReferenceIdeal.Value.run m' ρ')
  obtain ⟨h0, h1, h2, ha⟩ := h c
  obtain ⟨g0, g1, g2, g3⟩ := hag c
  rw [val_main_v23_eq, g0, g1, g2, g3] at h0
  rw [val_main_v4_eq, g1, g2] at h1
  rw [val_main_v10_eq, g1, g3] at h2
  exact ⟨h0.trans (step _ _ _ _), h1.trans (moment1 _ _), h2.trans (moment2 _ _), ha⟩

end Cert.AdamGainIdeal.Hand

end
-- ==== Proof.AdamKvf.lean ====
/- The optimiser's step on w_kvf: the three arrays that the call returns are the reference's. -/
module

public import proofs.«01_k».proof.Proof.Gen.AdamKvfIdeal.Value
public import proofs.«01_k».proof.Proof.Gen.AdamKvfReferenceIdeal.Read
public import proofs.«01_k».proof.Proof.Gen.AdamKvfReferenceIdeal.Run
public import proofs.«01_k».proof.Defs

@[expose] public section

noncomputable section

namespace Cert.AdamKvfIdeal.Hand

open Cert.AdamKvfIdeal Cert.AdamKvfIdeal.Gen Idealize.ShloMosaic Idealize.ShloMosaic.TcCoe Idealize.SL.Sem
open Cert.AdamKvfReferenceIdeal.Read

variable (w g m v : FVec Ideal S1024x387 .f32)

/-- The reference's new first moment is the kernel's. -/
theorem moment1 : val_main_v4 (F := Ideal) g m = Value.G5 g m := by
  funext i
  rw [val_main_v4_apply, val_main_v1_apply, val_main_v0_apply, val_main_v3_apply, val_main_v2_apply]
  rfl

/-- The reference's new second moment is the kernel's. -/
theorem moment2 : val_main_v10 (F := Ideal) g v = Value.G6 g v := by
  funext i
  rw [val_main_v10_apply, val_main_v6_apply, val_main_v5_apply, val_main_v9_apply, val_main_v8_apply, val_main_v7_apply]
  rfl

/-- The reference's step is the kernel's. -/
theorem step : val_main_v23 (F := Ideal) w g m v = Value.G4 g m v w := by
  funext i
  rw [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, moment1, moment2]
  rfl

/-- The reference leaves its arguments as they were, and it has no semaphore. -/
theorem reference_frame : Cert.quiescent_AdamKvfReferenceIdeal (hAdamKvfReferenceIdeal := Cert.AdamKvfReferenceIdeal.Gen.facts) :=
  fun m ρ _ => (θ_run (Cert.AdamKvfReferenceIdeal.defs (F := Ideal)) _ _).mono
    (fun r h => ⟨fun c => (h c).2.2.2, sem_eq_zero_of_no_sems (by decide) r.2⟩) (Cert.AdamKvfReferenceIdeal.Value.run m ρ)

/-- From equal arguments the call and its reference return the same step and the same moments. -/
theorem agree : Cert.algebraic_AdamKvfIdeal_AdamKvfReferenceIdeal (hAdamKvfIdeal := Cert.AdamKvfIdeal.Gen.facts)
    (hAdamKvfReferenceIdeal := Cert.AdamKvfReferenceIdeal.Gen.facts) := by
  intro m ρ m' ρ' _ hag
  refine ⟨_, _, _, Value.run m ρ, ?_⟩
  refine (θ_run (Cert.AdamKvfReferenceIdeal.defs (F := Ideal)) _ _).mono (fun r h c => ?_) (Cert.AdamKvfReferenceIdeal.Value.run m' ρ')
  obtain ⟨h0, h1, h2, ha⟩ := h c
  obtain ⟨g0, g1, g2, g3⟩ := hag c
  rw [val_main_v23_eq, g0, g1, g2, g3] at h0
  rw [val_main_v4_eq, g1, g2] at h1
  rw [val_main_v10_eq, g1, g3] at h2
  exact ⟨h0.trans (step _ _ _ _), h1.trans (moment1 _ _), h2.trans (moment2 _ _), ha⟩

end Cert.AdamKvfIdeal.Hand

end
-- ==== Proof.AdamForget.lean ====
/- The optimiser's step on b_f: the three arrays that the call returns are the reference's. -/
module

public import proofs.«01_k».proof.Proof.Gen.AdamForgetIdeal.Value
public import proofs.«01_k».proof.Proof.Gen.AdamForgetReferenceIdeal.Read
public import proofs.«01_k».proof.Proof.Gen.AdamForgetReferenceIdeal.Run
public import proofs.«01_k».proof.Defs

@[expose] public section

noncomputable section

namespace Cert.AdamForgetIdeal.Hand

open Cert.AdamForgetIdeal Cert.AdamForgetIdeal.Gen Idealize.ShloMosaic Idealize.ShloMosaic.TcCoe Idealize.SL.Sem
open Cert.AdamForgetReferenceIdeal.Read

variable (w g m v : FVec Ideal S1x12 .f32)

/-- The reference's new first moment is the kernel's. -/
theorem moment1 : val_main_v4 (F := Ideal) g m = Value.G5 g m := by
  funext i
  rw [val_main_v4_apply, val_main_v1_apply, val_main_v0_apply, val_main_v3_apply, val_main_v2_apply]
  rfl

/-- The reference's new second moment is the kernel's. -/
theorem moment2 : val_main_v10 (F := Ideal) g v = Value.G6 g v := by
  funext i
  rw [val_main_v10_apply, val_main_v6_apply, val_main_v5_apply, val_main_v9_apply, val_main_v8_apply, val_main_v7_apply]
  rfl

/-- The reference's step is the kernel's. -/
theorem step : val_main_v23 (F := Ideal) w g m v = Value.G4 g m v w := by
  funext i
  rw [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, moment1, moment2]
  rfl

/-- The reference leaves its arguments as they were, and it has no semaphore. -/
theorem reference_frame : Cert.quiescent_AdamForgetReferenceIdeal (hAdamForgetReferenceIdeal := Cert.AdamForgetReferenceIdeal.Gen.facts) :=
  fun m ρ _ => (θ_run (Cert.AdamForgetReferenceIdeal.defs (F := Ideal)) _ _).mono
    (fun r h => ⟨fun c => (h c).2.2.2, sem_eq_zero_of_no_sems (by decide) r.2⟩) (Cert.AdamForgetReferenceIdeal.Value.run m ρ)

/-- From equal arguments the call and its reference return the same step and the same moments. -/
theorem agree : Cert.algebraic_AdamForgetIdeal_AdamForgetReferenceIdeal (hAdamForgetIdeal := Cert.AdamForgetIdeal.Gen.facts)
    (hAdamForgetReferenceIdeal := Cert.AdamForgetReferenceIdeal.Gen.facts) := by
  intro m ρ m' ρ' _ hag
  refine ⟨_, _, _, Value.run m ρ, ?_⟩
  refine (θ_run (Cert.AdamForgetReferenceIdeal.defs (F := Ideal)) _ _).mono (fun r h c => ?_) (Cert.AdamForgetReferenceIdeal.Value.run m' ρ')
  obtain ⟨h0, h1, h2, ha⟩ := h c
  obtain ⟨g0, g1, g2, g3⟩ := hag c
  rw [val_main_v23_eq, g0, g1, g2, g3] at h0
  rw [val_main_v4_eq, g1, g2] at h1
  rw [val_main_v10_eq, g1, g3] at h2
  exact ⟨h0.trans (step _ _ _ _), h1.trans (moment1 _ _), h2.trans (moment2 _ _), ha⟩

end Cert.AdamForgetIdeal.Hand

end
-- ==== Proof.AdamInB.lean ====
/- The optimiser's step on w_in_b: the three arrays that the call returns are the reference's. -/
module

public import proofs.«01_k».proof.Proof.Gen.AdamInBIdeal.Value
public import proofs.«01_k».proof.Proof.Gen.AdamInBReferenceIdeal.Read
public import proofs.«01_k».proof.Proof.Gen.AdamInBReferenceIdeal.Run
public import proofs.«01_k».proof.Defs

@[expose] public section

noncomputable section

namespace Cert.AdamInBIdeal.Hand

open Cert.AdamInBIdeal Cert.AdamInBIdeal.Gen Idealize.ShloMosaic Idealize.ShloMosaic.TcCoe Idealize.SL.Sem
open Cert.AdamInBReferenceIdeal.Read

variable (w g m v : FVec Ideal S512x1024 .f32)

/-- The reference's new first moment is the kernel's. -/
theorem moment1 : val_main_v4 (F := Ideal) g m = Value.G5 g m := by
  funext i
  rw [val_main_v4_apply, val_main_v1_apply, val_main_v0_apply, val_main_v3_apply, val_main_v2_apply]
  rfl

/-- The reference's new second moment is the kernel's. -/
theorem moment2 : val_main_v10 (F := Ideal) g v = Value.G6 g v := by
  funext i
  rw [val_main_v10_apply, val_main_v6_apply, val_main_v5_apply, val_main_v9_apply, val_main_v8_apply, val_main_v7_apply]
  rfl

/-- The reference's step is the kernel's. -/
theorem step : val_main_v23 (F := Ideal) w g m v = Value.G4 g m v w := by
  funext i
  rw [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, moment1, moment2]
  rfl

/-- The reference leaves its arguments as they were, and it has no semaphore. -/
theorem reference_frame : Cert.quiescent_AdamInBReferenceIdeal (hAdamInBReferenceIdeal := Cert.AdamInBReferenceIdeal.Gen.facts) :=
  fun m ρ _ => (θ_run (Cert.AdamInBReferenceIdeal.defs (F := Ideal)) _ _).mono
    (fun r h => ⟨fun c => (h c).2.2.2, sem_eq_zero_of_no_sems (by decide) r.2⟩) (Cert.AdamInBReferenceIdeal.Value.run m ρ)

/-- From equal arguments the call and its reference return the same step and the same moments. -/
theorem agree : Cert.algebraic_AdamInBIdeal_AdamInBReferenceIdeal (hAdamInBIdeal := Cert.AdamInBIdeal.Gen.facts)
    (hAdamInBReferenceIdeal := Cert.AdamInBReferenceIdeal.Gen.facts) := by
  intro m ρ m' ρ' _ hag
  refine ⟨_, _, _, Value.run m ρ, ?_⟩
  refine (θ_run (Cert.AdamInBReferenceIdeal.defs (F := Ideal)) _ _).mono (fun r h c => ?_) (Cert.AdamInBReferenceIdeal.Value.run m' ρ')
  obtain ⟨h0, h1, h2, ha⟩ := h c
  obtain ⟨g0, g1, g2, g3⟩ := hag c
  rw [val_main_v23_eq, g0, g1, g2, g3] at h0
  rw [val_main_v4_eq, g1, g2] at h1
  rw [val_main_v10_eq, g1, g3] at h2
  exact ⟨h0.trans (step _ _ _ _), h1.trans (moment1 _ _), h2.trans (moment2 _ _), ha⟩

end Cert.AdamInBIdeal.Hand

end
-- ==== Proof.AdamMemKv.lean ====
/- The optimiser's step on w_mem_kv: the three arrays that the call returns are the reference's. -/
module

public import proofs.«01_k».proof.Proof.Gen.AdamMemKvIdeal.Value
public import proofs.«01_k».proof.Proof.Gen.AdamMemKvReferenceIdeal.Read
public import proofs.«01_k».proof.Proof.Gen.AdamMemKvReferenceIdeal.Run
public import proofs.«01_k».proof.Defs

@[expose] public section

noncomputable section

namespace Cert.AdamMemKvIdeal.Hand

open Cert.AdamMemKvIdeal Cert.AdamMemKvIdeal.Gen Idealize.ShloMosaic Idealize.ShloMosaic.TcCoe Idealize.SL.Sem
open Cert.AdamMemKvReferenceIdeal.Read

variable (w g m v : FVec Ideal S1024x512 .f32)

/-- The reference's new first moment is the kernel's. -/
theorem moment1 : val_main_v4 (F := Ideal) g m = Value.G5 g m := by
  funext i
  rw [val_main_v4_apply, val_main_v1_apply, val_main_v0_apply, val_main_v3_apply, val_main_v2_apply]
  rfl

/-- The reference's new second moment is the kernel's. -/
theorem moment2 : val_main_v10 (F := Ideal) g v = Value.G6 g v := by
  funext i
  rw [val_main_v10_apply, val_main_v6_apply, val_main_v5_apply, val_main_v9_apply, val_main_v8_apply, val_main_v7_apply]
  rfl

/-- The reference's step is the kernel's. -/
theorem step : val_main_v23 (F := Ideal) w g m v = Value.G4 g m v w := by
  funext i
  rw [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, moment1, moment2]
  rfl

/-- The reference leaves its arguments as they were, and it has no semaphore. -/
theorem reference_frame : Cert.quiescent_AdamMemKvReferenceIdeal (hAdamMemKvReferenceIdeal := Cert.AdamMemKvReferenceIdeal.Gen.facts) :=
  fun m ρ _ => (θ_run (Cert.AdamMemKvReferenceIdeal.defs (F := Ideal)) _ _).mono
    (fun r h => ⟨fun c => (h c).2.2.2, sem_eq_zero_of_no_sems (by decide) r.2⟩) (Cert.AdamMemKvReferenceIdeal.Value.run m ρ)

/-- From equal arguments the call and its reference return the same step and the same moments. -/
theorem agree : Cert.algebraic_AdamMemKvIdeal_AdamMemKvReferenceIdeal (hAdamMemKvIdeal := Cert.AdamMemKvIdeal.Gen.facts)
    (hAdamMemKvReferenceIdeal := Cert.AdamMemKvReferenceIdeal.Gen.facts) := by
  intro m ρ m' ρ' _ hag
  refine ⟨_, _, _, Value.run m ρ, ?_⟩
  refine (θ_run (Cert.AdamMemKvReferenceIdeal.defs (F := Ideal)) _ _).mono (fun r h c => ?_) (Cert.AdamMemKvReferenceIdeal.Value.run m' ρ')
  obtain ⟨h0, h1, h2, ha⟩ := h c
  obtain ⟨g0, g1, g2, g3⟩ := hag c
  rw [val_main_v23_eq, g0, g1, g2, g3] at h0
  rw [val_main_v4_eq, g1, g2] at h1
  rw [val_main_v10_eq, g1, g3] at h2
  exact ⟨h0.trans (step _ _ _ _), h1.trans (moment1 _ _), h2.trans (moment2 _ _), ha⟩

end Cert.AdamMemKvIdeal.Hand

end
-- ==== Proof.AdamOut.lean ====
/- The optimiser's step on w_out: the three arrays that the call returns are the reference's. -/
module

public import proofs.«01_k».proof.Proof.Gen.AdamOutIdeal.Value
public import proofs.«01_k».proof.Proof.Gen.AdamOutReferenceIdeal.Read
public import proofs.«01_k».proof.Proof.Gen.AdamOutReferenceIdeal.Run
public import proofs.«01_k».proof.Defs

@[expose] public section

noncomputable section

namespace Cert.AdamOutIdeal.Hand

open Cert.AdamOutIdeal Cert.AdamOutIdeal.Gen Idealize.ShloMosaic Idealize.ShloMosaic.TcCoe Idealize.SL.Sem
open Cert.AdamOutReferenceIdeal.Read

variable (w g m v : FVec Ideal S1024x1024 .f32)

/-- The reference's new first moment is the kernel's. -/
theorem moment1 : val_main_v4 (F := Ideal) g m = Value.G5 g m := by
  funext i
  rw [val_main_v4_apply, val_main_v1_apply, val_main_v0_apply, val_main_v3_apply, val_main_v2_apply]
  rfl

/-- The reference's new second moment is the kernel's. -/
theorem moment2 : val_main_v10 (F := Ideal) g v = Value.G6 g v := by
  funext i
  rw [val_main_v10_apply, val_main_v6_apply, val_main_v5_apply, val_main_v9_apply, val_main_v8_apply, val_main_v7_apply]
  rfl

/-- The reference's step is the kernel's. -/
theorem step : val_main_v23 (F := Ideal) w g m v = Value.G4 g m v w := by
  funext i
  rw [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, moment1, moment2]
  rfl

/-- The reference leaves its arguments as they were, and it has no semaphore. -/
theorem reference_frame : Cert.quiescent_AdamOutReferenceIdeal (hAdamOutReferenceIdeal := Cert.AdamOutReferenceIdeal.Gen.facts) :=
  fun m ρ _ => (θ_run (Cert.AdamOutReferenceIdeal.defs (F := Ideal)) _ _).mono
    (fun r h => ⟨fun c => (h c).2.2.2, sem_eq_zero_of_no_sems (by decide) r.2⟩) (Cert.AdamOutReferenceIdeal.Value.run m ρ)

/-- From equal arguments the call and its reference return the same step and the same moments. -/
theorem agree : Cert.algebraic_AdamOutIdeal_AdamOutReferenceIdeal (hAdamOutIdeal := Cert.AdamOutIdeal.Gen.facts)
    (hAdamOutReferenceIdeal := Cert.AdamOutReferenceIdeal.Gen.facts) := by
  intro m ρ m' ρ' _ hag
  refine ⟨_, _, _, Value.run m ρ, ?_⟩
  refine (θ_run (Cert.AdamOutReferenceIdeal.defs (F := Ideal)) _ _).mono (fun r h c => ?_) (Cert.AdamOutReferenceIdeal.Value.run m' ρ')
  obtain ⟨h0, h1, h2, ha⟩ := h c
  obtain ⟨g0, g1, g2, g3⟩ := hag c
  rw [val_main_v23_eq, g0, g1, g2, g3] at h0
  rw [val_main_v4_eq, g1, g2] at h1
  rw [val_main_v10_eq, g1, g3] at h2
  exact ⟨h0.trans (step _ _ _ _), h1.trans (moment1 _ _), h2.trans (moment2 _ _), ha⟩

end Cert.AdamOutIdeal.Hand

end
-- ==== Proof.AdamUp.lean ====
/- The optimiser's step on w_up: the three arrays that the call returns are the reference's. -/
module

public import proofs.«01_k».proof.Proof.Gen.AdamUpIdeal.Value
public import proofs.«01_k».proof.Proof.Gen.AdamUpReferenceIdeal.Read
public import proofs.«01_k».proof.Proof.Gen.AdamUpReferenceIdeal.Run
public import proofs.«01_k».proof.Defs

@[expose] public section

noncomputable section

namespace Cert.AdamUpIdeal.Hand

open Cert.AdamUpIdeal Cert.AdamUpIdeal.Gen Idealize.ShloMosaic Idealize.ShloMosaic.TcCoe Idealize.SL.Sem
open Cert.AdamUpReferenceIdeal.Read

variable (w g m v : FVec Ideal S4096x1408 .f32)

/-- The reference's new first moment is the kernel's. -/
theorem moment1 : val_main_v4 (F := Ideal) g m = Value.G5 g m := by
  funext i
  rw [val_main_v4_apply, val_main_v1_apply, val_main_v0_apply, val_main_v3_apply, val_main_v2_apply]
  rfl

/-- The reference's new second moment is the kernel's. -/
theorem moment2 : val_main_v10 (F := Ideal) g v = Value.G6 g v := by
  funext i
  rw [val_main_v10_apply, val_main_v6_apply, val_main_v5_apply, val_main_v9_apply, val_main_v8_apply, val_main_v7_apply]
  rfl

/-- The reference's step is the kernel's. -/
theorem step : val_main_v23 (F := Ideal) w g m v = Value.G4 g m v w := by
  funext i
  rw [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, moment1, moment2]
  rfl

/-- The reference leaves its arguments as they were, and it has no semaphore. -/
theorem reference_frame : Cert.quiescent_AdamUpReferenceIdeal (hAdamUpReferenceIdeal := Cert.AdamUpReferenceIdeal.Gen.facts) :=
  fun m ρ _ => (θ_run (Cert.AdamUpReferenceIdeal.defs (F := Ideal)) _ _).mono
    (fun r h => ⟨fun c => (h c).2.2.2, sem_eq_zero_of_no_sems (by decide) r.2⟩) (Cert.AdamUpReferenceIdeal.Value.run m ρ)

/-- From equal arguments the call and its reference return the same step and the same moments. -/
theorem agree : Cert.algebraic_AdamUpIdeal_AdamUpReferenceIdeal (hAdamUpIdeal := Cert.AdamUpIdeal.Gen.facts)
    (hAdamUpReferenceIdeal := Cert.AdamUpReferenceIdeal.Gen.facts) := by
  intro m ρ m' ρ' _ hag
  refine ⟨_, _, _, Value.run m ρ, ?_⟩
  refine (θ_run (Cert.AdamUpReferenceIdeal.defs (F := Ideal)) _ _).mono (fun r h c => ?_) (Cert.AdamUpReferenceIdeal.Value.run m' ρ')
  obtain ⟨h0, h1, h2, ha⟩ := h c
  obtain ⟨g0, g1, g2, g3⟩ := hag c
  rw [val_main_v23_eq, g0, g1, g2, g3] at h0
  rw [val_main_v4_eq, g1, g2] at h1
  rw [val_main_v10_eq, g1, g3] at h2
  exact ⟨h0.trans (step _ _ _ _), h1.trans (moment1 _ _), h2.trans (moment2 _ _), ha⟩

end Cert.AdamUpIdeal.Hand

end
-- ==== Proof.AdamFfnConv.lean ====
/- The optimiser's step on w_dw_f: the three arrays that the call returns are the reference's. -/
module

public import proofs.«01_k».proof.Proof.Gen.AdamFfnConvIdeal.Value
public import proofs.«01_k».proof.Proof.Gen.AdamFfnConvReferenceIdeal.Read
public import proofs.«01_k».proof.Proof.Gen.AdamFfnConvReferenceIdeal.Run
public import proofs.«01_k».proof.Defs

@[expose] public section

noncomputable section

namespace Cert.AdamFfnConvIdeal.Hand

open Cert.AdamFfnConvIdeal Cert.AdamFfnConvIdeal.Gen Idealize.ShloMosaic Idealize.ShloMosaic.TcCoe Idealize.SL.Sem
open Cert.AdamFfnConvReferenceIdeal.Read

variable (w g m v : FVec Ideal S12x1408 .f32)

/-- The reference's new first moment is the kernel's. -/
theorem moment1 : val_main_v4 (F := Ideal) g m = Value.G5 g m := by
  funext i
  rw [val_main_v4_apply, val_main_v1_apply, val_main_v0_apply, val_main_v3_apply, val_main_v2_apply]
  rfl

/-- The reference's new second moment is the kernel's. -/
theorem moment2 : val_main_v10 (F := Ideal) g v = Value.G6 g v := by
  funext i
  rw [val_main_v10_apply, val_main_v6_apply, val_main_v5_apply, val_main_v9_apply, val_main_v8_apply, val_main_v7_apply]
  rfl

/-- The reference's step is the kernel's. -/
theorem step : val_main_v23 (F := Ideal) w g m v = Value.G4 g m v w := by
  funext i
  rw [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, moment1, moment2]
  rfl

/-- The reference leaves its arguments as they were, and it has no semaphore. -/
theorem reference_frame : Cert.quiescent_AdamFfnConvReferenceIdeal (hAdamFfnConvReferenceIdeal := Cert.AdamFfnConvReferenceIdeal.Gen.facts) :=
  fun m ρ _ => (θ_run (Cert.AdamFfnConvReferenceIdeal.defs (F := Ideal)) _ _).mono
    (fun r h => ⟨fun c => (h c).2.2.2, sem_eq_zero_of_no_sems (by decide) r.2⟩) (Cert.AdamFfnConvReferenceIdeal.Value.run m ρ)

/-- From equal arguments the call and its reference return the same step and the same moments. -/
theorem agree : Cert.algebraic_AdamFfnConvIdeal_AdamFfnConvReferenceIdeal (hAdamFfnConvIdeal := Cert.AdamFfnConvIdeal.Gen.facts)
    (hAdamFfnConvReferenceIdeal := Cert.AdamFfnConvReferenceIdeal.Gen.facts) := by
  intro m ρ m' ρ' _ hag
  refine ⟨_, _, _, Value.run m ρ, ?_⟩
  refine (θ_run (Cert.AdamFfnConvReferenceIdeal.defs (F := Ideal)) _ _).mono (fun r h c => ?_) (Cert.AdamFfnConvReferenceIdeal.Value.run m' ρ')
  obtain ⟨h0, h1, h2, ha⟩ := h c
  obtain ⟨g0, g1, g2, g3⟩ := hag c
  rw [val_main_v23_eq, g0, g1, g2, g3] at h0
  rw [val_main_v4_eq, g1, g2] at h1
  rw [val_main_v10_eq, g1, g3] at h2
  exact ⟨h0.trans (step _ _ _ _), h1.trans (moment1 _ _), h2.trans (moment2 _ _), ha⟩

end Cert.AdamFfnConvIdeal.Hand

end
-- ==== Proof.AdamFfnBias.lean ====
/- The optimiser's step on b_dw_f: the three arrays that the call returns are the reference's. -/
module

public import proofs.«01_k».proof.Proof.Gen.AdamFfnBiasIdeal.Value
public import proofs.«01_k».proof.Proof.Gen.AdamFfnBiasReferenceIdeal.Read
public import proofs.«01_k».proof.Proof.Gen.AdamFfnBiasReferenceIdeal.Run
public import proofs.«01_k».proof.Defs

@[expose] public section

noncomputable section

namespace Cert.AdamFfnBiasIdeal.Hand

open Cert.AdamFfnBiasIdeal Cert.AdamFfnBiasIdeal.Gen Idealize.ShloMosaic Idealize.ShloMosaic.TcCoe Idealize.SL.Sem
open Cert.AdamFfnBiasReferenceIdeal.Read

variable (w g m v : FVec Ideal S4x5632 .f32)

/-- The reference's new first moment is the kernel's. -/
theorem moment1 : val_main_v4 (F := Ideal) g m = Value.G5 g m := by
  funext i
  rw [val_main_v4_apply, val_main_v1_apply, val_main_v0_apply, val_main_v3_apply, val_main_v2_apply]
  rfl

/-- The reference's new second moment is the kernel's. -/
theorem moment2 : val_main_v10 (F := Ideal) g v = Value.G6 g v := by
  funext i
  rw [val_main_v10_apply, val_main_v6_apply, val_main_v5_apply, val_main_v9_apply, val_main_v8_apply, val_main_v7_apply]
  rfl

/-- The reference's step is the kernel's. -/
theorem step : val_main_v23 (F := Ideal) w g m v = Value.G4 g m v w := by
  funext i
  rw [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, moment1, moment2]
  rfl

/-- The reference leaves its arguments as they were, and it has no semaphore. -/
theorem reference_frame : Cert.quiescent_AdamFfnBiasReferenceIdeal (hAdamFfnBiasReferenceIdeal := Cert.AdamFfnBiasReferenceIdeal.Gen.facts) :=
  fun m ρ _ => (θ_run (Cert.AdamFfnBiasReferenceIdeal.defs (F := Ideal)) _ _).mono
    (fun r h => ⟨fun c => (h c).2.2.2, sem_eq_zero_of_no_sems (by decide) r.2⟩) (Cert.AdamFfnBiasReferenceIdeal.Value.run m ρ)

/-- From equal arguments the call and its reference return the same step and the same moments. -/
theorem agree : Cert.algebraic_AdamFfnBiasIdeal_AdamFfnBiasReferenceIdeal (hAdamFfnBiasIdeal := Cert.AdamFfnBiasIdeal.Gen.facts)
    (hAdamFfnBiasReferenceIdeal := Cert.AdamFfnBiasReferenceIdeal.Gen.facts) := by
  intro m ρ m' ρ' _ hag
  refine ⟨_, _, _, Value.run m ρ, ?_⟩
  refine (θ_run (Cert.AdamFfnBiasReferenceIdeal.defs (F := Ideal)) _ _).mono (fun r h c => ?_) (Cert.AdamFfnBiasReferenceIdeal.Value.run m' ρ')
  obtain ⟨h0, h1, h2, ha⟩ := h c
  obtain ⟨g0, g1, g2, g3⟩ := hag c
  rw [val_main_v23_eq, g0, g1, g2, g3] at h0
  rw [val_main_v4_eq, g1, g2] at h1
  rw [val_main_v10_eq, g1, g3] at h2
  exact ⟨h0.trans (step _ _ _ _), h1.trans (moment1 _ _), h2.trans (moment2 _ _), ha⟩

end Cert.AdamFfnBiasIdeal.Hand

end
-- ==== Proof.AdamDown.lean ====
/- The optimiser's step on w_down: the three arrays that the call returns are the reference's. -/
module

public import proofs.«01_k».proof.Proof.Gen.AdamDownIdeal.Value
public import proofs.«01_k».proof.Proof.Gen.AdamDownReferenceIdeal.Read
public import proofs.«01_k».proof.Proof.Gen.AdamDownReferenceIdeal.Run
public import proofs.«01_k».proof.Defs

@[expose] public section

noncomputable section

namespace Cert.AdamDownIdeal.Hand

open Cert.AdamDownIdeal Cert.AdamDownIdeal.Gen Idealize.ShloMosaic Idealize.ShloMosaic.TcCoe Idealize.SL.Sem
open Cert.AdamDownReferenceIdeal.Read

variable (w g m v : FVec Ideal S2816x1024 .f32)

/-- The reference's new first moment is the kernel's. -/
theorem moment1 : val_main_v4 (F := Ideal) g m = Value.G5 g m := by
  funext i
  rw [val_main_v4_apply, val_main_v1_apply, val_main_v0_apply, val_main_v3_apply, val_main_v2_apply]
  rfl

/-- The reference's new second moment is the kernel's. -/
theorem moment2 : val_main_v10 (F := Ideal) g v = Value.G6 g v := by
  funext i
  rw [val_main_v10_apply, val_main_v6_apply, val_main_v5_apply, val_main_v9_apply, val_main_v8_apply, val_main_v7_apply]
  rfl

/-- The reference's step is the kernel's. -/
theorem step : val_main_v23 (F := Ideal) w g m v = Value.G4 g m v w := by
  funext i
  rw [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, moment1, moment2]
  rfl

/-- The reference leaves its arguments as they were, and it has no semaphore. -/
theorem reference_frame : Cert.quiescent_AdamDownReferenceIdeal (hAdamDownReferenceIdeal := Cert.AdamDownReferenceIdeal.Gen.facts) :=
  fun m ρ _ => (θ_run (Cert.AdamDownReferenceIdeal.defs (F := Ideal)) _ _).mono
    (fun r h => ⟨fun c => (h c).2.2.2, sem_eq_zero_of_no_sems (by decide) r.2⟩) (Cert.AdamDownReferenceIdeal.Value.run m ρ)

/-- From equal arguments the call and its reference return the same step and the same moments. -/
theorem agree : Cert.algebraic_AdamDownIdeal_AdamDownReferenceIdeal (hAdamDownIdeal := Cert.AdamDownIdeal.Gen.facts)
    (hAdamDownReferenceIdeal := Cert.AdamDownReferenceIdeal.Gen.facts) := by
  intro m ρ m' ρ' _ hag
  refine ⟨_, _, _, Value.run m ρ, ?_⟩
  refine (θ_run (Cert.AdamDownReferenceIdeal.defs (F := Ideal)) _ _).mono (fun r h c => ?_) (Cert.AdamDownReferenceIdeal.Value.run m' ρ')
  obtain ⟨h0, h1, h2, ha⟩ := h c
  obtain ⟨g0, g1, g2, g3⟩ := hag c
  rw [val_main_v23_eq, g0, g1, g2, g3] at h0
  rw [val_main_v4_eq, g1, g2] at h1
  rw [val_main_v10_eq, g1, g3] at h2
  exact ⟨h0.trans (step _ _ _ _), h1.trans (moment1 _ _), h2.trans (moment2 _ _), ha⟩

end Cert.AdamDownIdeal.Hand

end
-- ==== Proof.lean ====
/- The claim about the attention's backward pass, the products and the optimiser. Each kernel runs and leaves its arguments
   and its counters as they were. The attention's masked scores are read as −∞, and over the reals its five arrays are the
   gradients of the attention. The products and the optimiser return what their references return. -/
module

public import proofs.«01_k».proof.Defs
public import proofs.«01_k».proof.Proof.BodyP
public import proofs.«01_k».proof.Proof.Body
public import proofs.«01_k».proof.Proof.Fin
public import proofs.«01_k».proof.Proof.Value
public import proofs.«01_k».proof.Proof.Gen.ReferenceIdeal.Run
public import proofs.«01_k».proof.Proof.Gen.ReferenceIdeal.Read
public import proofs.«01_k».proof.Proof.Gen.DownHidden.Frame
public import proofs.«01_k».proof.Proof.DownHidden
public import proofs.«01_k».proof.Proof.Gen.DownWeight.Frame
public import proofs.«01_k».proof.Proof.DownWeight
public import proofs.«01_k».proof.Proof.Gen.UpInput.Frame
public import proofs.«01_k».proof.Proof.UpInput
public import proofs.«01_k».proof.Proof.Gen.UpInputAdd.Frame
public import proofs.«01_k».proof.Proof.UpInputAdd
public import proofs.«01_k».proof.Proof.Gen.UpWeight.Frame
public import proofs.«01_k».proof.Proof.UpWeight
public import proofs.«01_k».proof.Proof.Gen.Up.Frame
public import proofs.«01_k».proof.Proof.Up
public import proofs.«01_k».proof.Proof.Gen.Down.Frame
public import proofs.«01_k».proof.Proof.Down
public import proofs.«01_k».proof.Proof.Gen.OutMixInput.Frame
public import proofs.«01_k».proof.Proof.OutMixInput
public import proofs.«01_k».proof.Proof.Gen.OutMemInput.Frame
public import proofs.«01_k».proof.Proof.OutMemInput
public import proofs.«01_k».proof.Proof.Gen.OutMixWeight.Frame
public import proofs.«01_k».proof.Proof.OutMixWeight
public import proofs.«01_k».proof.Proof.Gen.OutMemWeight.Frame
public import proofs.«01_k».proof.Proof.OutMemWeight
public import proofs.«01_k».proof.Proof.Gen.OutMix.Frame
public import proofs.«01_k».proof.Proof.OutMix
public import proofs.«01_k».proof.Proof.Gen.OutMem.Frame
public import proofs.«01_k».proof.Proof.OutMem
public import proofs.«01_k».proof.Proof.Gen.InWeight.Frame
public import proofs.«01_k».proof.Proof.InWeight
public import proofs.«01_k».proof.Proof.Gen.InMemWeight.Frame
public import proofs.«01_k».proof.Proof.InMemWeight
public import proofs.«01_k».proof.Proof.Gen.InInput.Frame
public import proofs.«01_k».proof.Proof.InInput
public import proofs.«01_k».proof.Proof.Gen.InInputAdd.Frame
public import proofs.«01_k».proof.Proof.InInputAdd
public import proofs.«01_k».proof.Proof.Gen.InMemInputAdd.Frame
public import proofs.«01_k».proof.Proof.InMemInputAdd
public import proofs.«01_k».proof.Proof.Gen.In.Frame
public import proofs.«01_k».proof.Proof.In
public import proofs.«01_k».proof.Proof.Gen.InMem.Frame
public import proofs.«01_k».proof.Proof.InMem
public import proofs.«01_k».proof.Proof.Gen.QkvWeight.Frame
public import proofs.«01_k».proof.Proof.QkvWeight
public import proofs.«01_k».proof.Proof.Gen.QkvInput.Frame
public import proofs.«01_k».proof.Proof.QkvInput
public import proofs.«01_k».proof.Proof.Gen.QkvInputAdd.Frame
public import proofs.«01_k».proof.Proof.QkvInputAdd
public import proofs.«01_k».proof.Proof.Gen.GateWeight.Frame
public import proofs.«01_k».proof.Proof.GateWeight
public import proofs.«01_k».proof.Proof.Gen.GateInputAdd.Frame
public import proofs.«01_k».proof.Proof.GateInputAdd
public import proofs.«01_k».proof.Proof.Gen.Gate.Frame
public import proofs.«01_k».proof.Proof.Gate
public import proofs.«01_k».proof.Proof.Gen.MemKvWeight.Frame
public import proofs.«01_k».proof.Proof.MemKvWeight
public import proofs.«01_k».proof.Proof.Gen.MemKvInput.Frame
public import proofs.«01_k».proof.Proof.MemKvInput
public import proofs.«01_k».proof.Proof.Gen.MemKvInputAdd.Frame
public import proofs.«01_k».proof.Proof.MemKvInputAdd
public import proofs.«01_k».proof.Proof.Gen.MemKv.Frame
public import proofs.«01_k».proof.Proof.MemKv
public import proofs.«01_k».proof.Proof.Gen.AdamNorms.Frame
public import proofs.«01_k».proof.Proof.AdamNorms
public import proofs.«01_k».proof.Proof.Gen.AdamInA.Frame
public import proofs.«01_k».proof.Proof.AdamInA
public import proofs.«01_k».proof.Proof.Gen.AdamGlu.Frame
public import proofs.«01_k».proof.Proof.AdamGlu
public import proofs.«01_k».proof.Proof.Gen.AdamConv.Frame
public import proofs.«01_k».proof.Proof.AdamConv
public import proofs.«01_k».proof.Proof.Gen.AdamChannels.Frame
public import proofs.«01_k».proof.Proof.AdamChannels
public import proofs.«01_k».proof.Proof.Gen.AdamGain.Frame
public import proofs.«01_k».proof.Proof.AdamGain
public import proofs.«01_k».proof.Proof.Gen.AdamKvf.Frame
public import proofs.«01_k».proof.Proof.AdamKvf
public import proofs.«01_k».proof.Proof.Gen.AdamForget.Frame
public import proofs.«01_k».proof.Proof.AdamForget
public import proofs.«01_k».proof.Proof.Gen.AdamInB.Frame
public import proofs.«01_k».proof.Proof.AdamInB
public import proofs.«01_k».proof.Proof.Gen.AdamMemKv.Frame
public import proofs.«01_k».proof.Proof.AdamMemKv
public import proofs.«01_k».proof.Proof.Gen.AdamOut.Frame
public import proofs.«01_k».proof.Proof.AdamOut
public import proofs.«01_k».proof.Proof.Gen.AdamUp.Frame
public import proofs.«01_k».proof.Proof.AdamUp
public import proofs.«01_k».proof.Proof.Gen.AdamFfnConv.Frame
public import proofs.«01_k».proof.Proof.AdamFfnConv
public import proofs.«01_k».proof.Proof.Gen.AdamFfnBias.Frame
public import proofs.«01_k».proof.Proof.AdamFfnBias
public import proofs.«01_k».proof.Proof.Gen.AdamDown.Frame
public import proofs.«01_k».proof.Proof.AdamDown
public import Idealize.ShloMosaic.Adequacy
public import Idealize.ShloMosaic.Init

@[expose] public section

noncomputable section

namespace Cert.Proof

open Idealize.ShloMosaic Idealize.SL.Sem Idealize.ShloMosaic.TcCoe

/-- The reference has no semaphore: its run ends with the arguments unchanged and every counter at zero. -/
theorem reference_frame (m : (l : Loc Cert.ReferenceIdeal.nD Cert.ReferenceIdeal.τ Cert.ReferenceIdeal.sig) → Buf (Elt Ideal) l)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run (Cert.ReferenceIdeal.defs (F := Ideal)) _ _).mono
    (fun r h => ⟨fun c => (h c).2.2.2.2.2, sem_eq_zero_of_no_sems (by decide) r.2⟩) (Cert.ReferenceIdeal.Value.run m ρ)

section
open Cert.KernelIdeal Cert.KernelIdeal.Gen
variable (m : (l : Loc nD τ sig) → Buf (Elt Ideal) l) (ρ : Dev nD → PrngReg)

/-- The kernel's run: the five returned arrays as the grid leaves them, the arguments as they were. -/
theorem kernel_run : θ_run (Cert.KernelIdeal.defs (F := Ideal)) (onTc (τ := τ) (Cert.KernelIdeal.main (F := Ideal)))
    ⟨m, fun _ => 0, ρ⟩ (fun r => ∀ c : Dev nD,
      r.2.mem ((c.tc : Thread nD τ).loc main_v53_0) = (Own.dats m 0 c).arrAt 8 cfg0.N
      ∧ r.2.mem ((c.tc : Thread nD τ).loc main_v53_1) = (Own.dats m 0 c).arrAt 9 cfg0.N
      ∧ r.2.mem ((c.tc : Thread nD τ).loc main_v53_2) = (Own.dats m 0 c).arrAt 10 cfg0.N
      ∧ r.2.mem ((c.tc : Thread nD τ).loc main_v53_3) = (Own.dats m 0 c).arrAt 11 cfg0.N
      ∧ r.2.mem ((c.tc : Thread nD τ).loc main_v53_4) = (Own.dats m 0 c).arrAt 12 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (Cert.KernelIdeal.defs (F := Ideal)) _ _).mono
    (fun r h c => ⟨(h.1 c).1 8, (h.1 c).1 9, (h.1 c).1 10, (h.1 c).1 11, (h.1 c).1 12, h.2.1 c⟩)
    (θ_run_and (Own.run_post m ρ) (Own.frame m ρ))

end

/-- From equal finite arguments the backward attention call and its reference return the same five arrays. -/
theorem attention_agree : Cert.algebraic_KernelIdeal_ReferenceIdeal_pre_finite (hKernelIdeal := Cert.KernelIdeal.Gen.facts)
    (hReferenceIdeal := Cert.ReferenceIdeal.Gen.facts) (hPre_finite := Cert.KernelIdeal.Hand.finFacts) := by
  intro m ρ m' ρ' hpre hag
  refine ⟨_, _, _, _, _, kernel_run m ρ, ?_⟩
  refine (θ_run (Cert.ReferenceIdeal.defs (F := Ideal)) _ _).mono (fun r h c => ?_) (Cert.ReferenceIdeal.Value.run m' ρ')
  obtain ⟨h0, h1, h2, h3, h4, ha⟩ := h c
  obtain ⟨g0, g1, g2, g3, g4⟩ := hag c
  obtain ⟨N, S, A⟩ := Cert.KernelIdeal.Hand.exists_nums _ _ _ _ _ (hpre c)
  have R := Cert.KernelIdeal.Hand.arrays m c S A
  rw [Cert.ReferenceIdeal.Read.val_main_v88_eq, g0, g1, g2, g3, g4] at h0
  rw [Cert.ReferenceIdeal.Read.val_main_v87_eq, g0, g1, g2, g3, g4] at h1
  rw [Cert.ReferenceIdeal.Read.val_main_v86_eq, g0, g1, g3, g4] at h2
  rw [Cert.ReferenceIdeal.Read.val_main_v92_eq, g0, g1, g2, g3, g4] at h3
  rw [Cert.ReferenceIdeal.Read.val_main_v96_eq, g0, g1, g2, g3, g4] at h4
  exact ⟨h0.trans (Cert.KernelIdeal.Hand.value8 m c S A R).symm, h1.trans (Cert.KernelIdeal.Hand.value9 m c S A R).symm,
    h2.trans (Cert.KernelIdeal.Hand.value10 m c S A R).symm, h3.trans (Cert.KernelIdeal.Hand.value11 m c S A R).symm,
    h4.trans (Cert.KernelIdeal.Hand.value12 m c S A R).symm, ha⟩

/-- All claims together: the facts of each program, the frames, and what each kernel computes. -/
theorem claim : Cert.Claim :=
  ⟨Cert.Kernel.Gen.facts, Cert.KernelIdeal.Gen.facts, Cert.ReferenceIdeal.Gen.facts,
    Cert.DownHidden.Gen.facts, Cert.DownHiddenIdeal.Gen.facts, Cert.DownHiddenReferenceIdeal.Gen.facts,
    Cert.DownWeight.Gen.facts, Cert.DownWeightIdeal.Gen.facts, Cert.DownWeightReferenceIdeal.Gen.facts,
    Cert.UpInput.Gen.facts, Cert.UpInputIdeal.Gen.facts, Cert.UpInputReferenceIdeal.Gen.facts,
    Cert.UpInputAdd.Gen.facts, Cert.UpInputAddIdeal.Gen.facts, Cert.UpInputAddReferenceIdeal.Gen.facts,
    Cert.UpWeight.Gen.facts, Cert.UpWeightIdeal.Gen.facts, Cert.UpWeightReferenceIdeal.Gen.facts,
    Cert.Up.Gen.facts, Cert.UpIdeal.Gen.facts, Cert.UpReferenceIdeal.Gen.facts,
    Cert.Down.Gen.facts, Cert.DownIdeal.Gen.facts, Cert.DownReferenceIdeal.Gen.facts,
    Cert.OutMixInput.Gen.facts, Cert.OutMixInputIdeal.Gen.facts, Cert.OutMixInputReferenceIdeal.Gen.facts,
    Cert.OutMemInput.Gen.facts, Cert.OutMemInputIdeal.Gen.facts, Cert.OutMemInputReferenceIdeal.Gen.facts,
    Cert.OutMixWeight.Gen.facts, Cert.OutMixWeightIdeal.Gen.facts, Cert.OutMixWeightReferenceIdeal.Gen.facts,
    Cert.OutMemWeight.Gen.facts, Cert.OutMemWeightIdeal.Gen.facts, Cert.OutMemWeightReferenceIdeal.Gen.facts,
    Cert.OutMix.Gen.facts, Cert.OutMixIdeal.Gen.facts, Cert.OutMixReferenceIdeal.Gen.facts,
    Cert.OutMem.Gen.facts, Cert.OutMemIdeal.Gen.facts, Cert.OutMemReferenceIdeal.Gen.facts,
    Cert.InWeight.Gen.facts, Cert.InWeightIdeal.Gen.facts, Cert.InWeightReferenceIdeal.Gen.facts,
    Cert.InMemWeight.Gen.facts, Cert.InMemWeightIdeal.Gen.facts, Cert.InMemWeightReferenceIdeal.Gen.facts,
    Cert.InInput.Gen.facts, Cert.InInputIdeal.Gen.facts, Cert.InInputReferenceIdeal.Gen.facts,
    Cert.InInputAdd.Gen.facts, Cert.InInputAddIdeal.Gen.facts, Cert.InInputAddReferenceIdeal.Gen.facts,
    Cert.InMemInputAdd.Gen.facts, Cert.InMemInputAddIdeal.Gen.facts, Cert.InMemInputAddReferenceIdeal.Gen.facts,
    Cert.In.Gen.facts, Cert.InIdeal.Gen.facts, Cert.InReferenceIdeal.Gen.facts,
    Cert.InMem.Gen.facts, Cert.InMemIdeal.Gen.facts, Cert.InMemReferenceIdeal.Gen.facts,
    Cert.QkvWeight.Gen.facts, Cert.QkvWeightIdeal.Gen.facts, Cert.QkvWeightReferenceIdeal.Gen.facts,
    Cert.QkvInput.Gen.facts, Cert.QkvInputIdeal.Gen.facts, Cert.QkvInputReferenceIdeal.Gen.facts,
    Cert.QkvInputAdd.Gen.facts, Cert.QkvInputAddIdeal.Gen.facts, Cert.QkvInputAddReferenceIdeal.Gen.facts,
    Cert.GateWeight.Gen.facts, Cert.GateWeightIdeal.Gen.facts, Cert.GateWeightReferenceIdeal.Gen.facts,
    Cert.GateInputAdd.Gen.facts, Cert.GateInputAddIdeal.Gen.facts, Cert.GateInputAddReferenceIdeal.Gen.facts,
    Cert.Gate.Gen.facts, Cert.GateIdeal.Gen.facts, Cert.GateReferenceIdeal.Gen.facts,
    Cert.MemKvWeight.Gen.facts, Cert.MemKvWeightIdeal.Gen.facts, Cert.MemKvWeightReferenceIdeal.Gen.facts,
    Cert.MemKvInput.Gen.facts, Cert.MemKvInputIdeal.Gen.facts, Cert.MemKvInputReferenceIdeal.Gen.facts,
    Cert.MemKvInputAdd.Gen.facts, Cert.MemKvInputAddIdeal.Gen.facts, Cert.MemKvInputAddReferenceIdeal.Gen.facts,
    Cert.MemKv.Gen.facts, Cert.MemKvIdeal.Gen.facts, Cert.MemKvReferenceIdeal.Gen.facts,
    Cert.AdamNorms.Gen.facts, Cert.AdamNormsIdeal.Gen.facts, Cert.AdamNormsReferenceIdeal.Gen.facts,
    Cert.AdamInA.Gen.facts, Cert.AdamInAIdeal.Gen.facts, Cert.AdamInAReferenceIdeal.Gen.facts,
    Cert.AdamGlu.Gen.facts, Cert.AdamGluIdeal.Gen.facts, Cert.AdamGluReferenceIdeal.Gen.facts,
    Cert.AdamConv.Gen.facts, Cert.AdamConvIdeal.Gen.facts, Cert.AdamConvReferenceIdeal.Gen.facts,
    Cert.AdamChannels.Gen.facts, Cert.AdamChannelsIdeal.Gen.facts, Cert.AdamChannelsReferenceIdeal.Gen.facts,
    Cert.AdamGain.Gen.facts, Cert.AdamGainIdeal.Gen.facts, Cert.AdamGainReferenceIdeal.Gen.facts,
    Cert.AdamKvf.Gen.facts, Cert.AdamKvfIdeal.Gen.facts, Cert.AdamKvfReferenceIdeal.Gen.facts,
    Cert.AdamForget.Gen.facts, Cert.AdamForgetIdeal.Gen.facts, Cert.AdamForgetReferenceIdeal.Gen.facts,
    Cert.AdamInB.Gen.facts, Cert.AdamInBIdeal.Gen.facts, Cert.AdamInBReferenceIdeal.Gen.facts,
    Cert.AdamMemKv.Gen.facts, Cert.AdamMemKvIdeal.Gen.facts, Cert.AdamMemKvReferenceIdeal.Gen.facts,
    Cert.AdamOut.Gen.facts, Cert.AdamOutIdeal.Gen.facts, Cert.AdamOutReferenceIdeal.Gen.facts,
    Cert.AdamUp.Gen.facts, Cert.AdamUpIdeal.Gen.facts, Cert.AdamUpReferenceIdeal.Gen.facts,
    Cert.AdamFfnConv.Gen.facts, Cert.AdamFfnConvIdeal.Gen.facts, Cert.AdamFfnConvReferenceIdeal.Gen.facts,
    Cert.AdamFfnBias.Gen.facts, Cert.AdamFfnBiasIdeal.Gen.facts, Cert.AdamFfnBiasReferenceIdeal.Gen.facts,
    Cert.AdamDown.Gen.facts, Cert.AdamDownIdeal.Gen.facts, Cert.AdamDownReferenceIdeal.Gen.facts,
    Cert.KernelIdeal.Hand.finFacts,
    fun m ρ _ => Cert.Kernel.Own.frame m ρ, fun m ρ _ => Cert.Kernel.Own.frame m ρ,
    fun m ρ _ => Cert.KernelIdeal.Own.frame m ρ, fun m ρ _ => Cert.KernelIdeal.Own.frame m ρ,
    fun m ρ _ => reference_frame m ρ, fun m ρ _ => reference_frame m ρ,
    fun m ρ _ => Cert.DownHidden.Gen.frame m ρ, fun m ρ _ => Cert.DownHiddenIdeal.Gen.frame m ρ, Cert.DownHiddenIdeal.Hand.reference_frame,
    fun m ρ _ => Cert.DownWeight.Gen.frame m ρ, fun m ρ _ => Cert.DownWeightIdeal.Gen.frame m ρ, Cert.DownWeightIdeal.Hand.reference_frame,
    fun m ρ _ => Cert.UpInput.Gen.frame m ρ, fun m ρ _ => Cert.UpInputIdeal.Gen.frame m ρ, Cert.UpInputIdeal.Hand.reference_frame,
    fun m ρ _ => Cert.UpInputAdd.Gen.frame m ρ, fun m ρ _ => Cert.UpInputAddIdeal.Gen.frame m ρ, Cert.UpInputAddIdeal.Hand.reference_frame,
    fun m ρ _ => Cert.UpWeight.Gen.frame m ρ, fun m ρ _ => Cert.UpWeightIdeal.Gen.frame m ρ, Cert.UpWeightIdeal.Hand.reference_frame,
    fun m ρ _ => Cert.Up.Gen.frame m ρ, fun m ρ _ => Cert.UpIdeal.Gen.frame m ρ, Cert.UpIdeal.Hand.reference_frame,
    fun m ρ _ => Cert.Down.Gen.frame m ρ, fun m ρ _ => Cert.DownIdeal.Gen.frame m ρ, Cert.DownIdeal.Hand.reference_frame,
    fun m ρ _ => Cert.OutMixInput.Gen.frame m ρ, fun m ρ _ => Cert.OutMixInputIdeal.Gen.frame m ρ, Cert.OutMixInputIdeal.Hand.reference_frame,
    fun m ρ _ => Cert.OutMemInput.Gen.frame m ρ, fun m ρ _ => Cert.OutMemInputIdeal.Gen.frame m ρ, Cert.OutMemInputIdeal.Hand.reference_frame,
    fun m ρ _ => Cert.OutMixWeight.Gen.frame m ρ, fun m ρ _ => Cert.OutMixWeightIdeal.Gen.frame m ρ, Cert.OutMixWeightIdeal.Hand.reference_frame,
    fun m ρ _ => Cert.OutMemWeight.Gen.frame m ρ, fun m ρ _ => Cert.OutMemWeightIdeal.Gen.frame m ρ, Cert.OutMemWeightIdeal.Hand.reference_frame,
    fun m ρ _ => Cert.OutMix.Gen.frame m ρ, fun m ρ _ => Cert.OutMixIdeal.Gen.frame m ρ, Cert.OutMixIdeal.Hand.reference_frame,
    fun m ρ _ => Cert.OutMem.Gen.frame m ρ, fun m ρ _ => Cert.OutMemIdeal.Gen.frame m ρ, Cert.OutMemIdeal.Hand.reference_frame,
    fun m ρ _ => Cert.InWeight.Gen.frame m ρ, fun m ρ _ => Cert.InWeightIdeal.Gen.frame m ρ, Cert.InWeightIdeal.Hand.reference_frame,
    fun m ρ _ => Cert.InMemWeight.Gen.frame m ρ, fun m ρ _ => Cert.InMemWeightIdeal.Gen.frame m ρ, Cert.InMemWeightIdeal.Hand.reference_frame,
    fun m ρ _ => Cert.InInput.Gen.frame m ρ, fun m ρ _ => Cert.InInputIdeal.Gen.frame m ρ, Cert.InInputIdeal.Hand.reference_frame,
    fun m ρ _ => Cert.InInputAdd.Gen.frame m ρ, fun m ρ _ => Cert.InInputAddIdeal.Gen.frame m ρ, Cert.InInputAddIdeal.Hand.reference_frame,
    fun m ρ _ => Cert.InMemInputAdd.Gen.frame m ρ, fun m ρ _ => Cert.InMemInputAddIdeal.Gen.frame m ρ, Cert.InMemInputAddIdeal.Hand.reference_frame,
    fun m ρ _ => Cert.In.Gen.frame m ρ, fun m ρ _ => Cert.InIdeal.Gen.frame m ρ, Cert.InIdeal.Hand.reference_frame,
    fun m ρ _ => Cert.InMem.Gen.frame m ρ, fun m ρ _ => Cert.InMemIdeal.Gen.frame m ρ, Cert.InMemIdeal.Hand.reference_frame,
    fun m ρ _ => Cert.QkvWeight.Gen.frame m ρ, fun m ρ _ => Cert.QkvWeightIdeal.Gen.frame m ρ, Cert.QkvWeightIdeal.Hand.reference_frame,
    fun m ρ _ => Cert.QkvInput.Gen.frame m ρ, fun m ρ _ => Cert.QkvInputIdeal.Gen.frame m ρ, Cert.QkvInputIdeal.Hand.reference_frame,
    fun m ρ _ => Cert.QkvInputAdd.Gen.frame m ρ, fun m ρ _ => Cert.QkvInputAddIdeal.Gen.frame m ρ, Cert.QkvInputAddIdeal.Hand.reference_frame,
    fun m ρ _ => Cert.GateWeight.Gen.frame m ρ, fun m ρ _ => Cert.GateWeightIdeal.Gen.frame m ρ, Cert.GateWeightIdeal.Hand.reference_frame,
    fun m ρ _ => Cert.GateInputAdd.Gen.frame m ρ, fun m ρ _ => Cert.GateInputAddIdeal.Gen.frame m ρ, Cert.GateInputAddIdeal.Hand.reference_frame,
    fun m ρ _ => Cert.Gate.Gen.frame m ρ, fun m ρ _ => Cert.GateIdeal.Gen.frame m ρ, Cert.GateIdeal.Hand.reference_frame,
    fun m ρ _ => Cert.MemKvWeight.Gen.frame m ρ, fun m ρ _ => Cert.MemKvWeightIdeal.Gen.frame m ρ, Cert.MemKvWeightIdeal.Hand.reference_frame,
    fun m ρ _ => Cert.MemKvInput.Gen.frame m ρ, fun m ρ _ => Cert.MemKvInputIdeal.Gen.frame m ρ, Cert.MemKvInputIdeal.Hand.reference_frame,
    fun m ρ _ => Cert.MemKvInputAdd.Gen.frame m ρ, fun m ρ _ => Cert.MemKvInputAddIdeal.Gen.frame m ρ, Cert.MemKvInputAddIdeal.Hand.reference_frame,
    fun m ρ _ => Cert.MemKv.Gen.frame m ρ, fun m ρ _ => Cert.MemKvIdeal.Gen.frame m ρ, Cert.MemKvIdeal.Hand.reference_frame,
    fun m ρ _ => Cert.AdamNorms.Gen.frame m ρ, fun m ρ _ => Cert.AdamNormsIdeal.Gen.frame m ρ, Cert.AdamNormsIdeal.Hand.reference_frame,
    fun m ρ _ => Cert.AdamInA.Gen.frame m ρ, fun m ρ _ => Cert.AdamInAIdeal.Gen.frame m ρ, Cert.AdamInAIdeal.Hand.reference_frame,
    fun m ρ _ => Cert.AdamGlu.Gen.frame m ρ, fun m ρ _ => Cert.AdamGluIdeal.Gen.frame m ρ, Cert.AdamGluIdeal.Hand.reference_frame,
    fun m ρ _ => Cert.AdamConv.Gen.frame m ρ, fun m ρ _ => Cert.AdamConvIdeal.Gen.frame m ρ, Cert.AdamConvIdeal.Hand.reference_frame,
    fun m ρ _ => Cert.AdamChannels.Gen.frame m ρ, fun m ρ _ => Cert.AdamChannelsIdeal.Gen.frame m ρ, Cert.AdamChannelsIdeal.Hand.reference_frame,
    fun m ρ _ => Cert.AdamGain.Gen.frame m ρ, fun m ρ _ => Cert.AdamGainIdeal.Gen.frame m ρ, Cert.AdamGainIdeal.Hand.reference_frame,
    fun m ρ _ => Cert.AdamKvf.Gen.frame m ρ, fun m ρ _ => Cert.AdamKvfIdeal.Gen.frame m ρ, Cert.AdamKvfIdeal.Hand.reference_frame,
    fun m ρ _ => Cert.AdamForget.Gen.frame m ρ, fun m ρ _ => Cert.AdamForgetIdeal.Gen.frame m ρ, Cert.AdamForgetIdeal.Hand.reference_frame,
    fun m ρ _ => Cert.AdamInB.Gen.frame m ρ, fun m ρ _ => Cert.AdamInBIdeal.Gen.frame m ρ, Cert.AdamInBIdeal.Hand.reference_frame,
    fun m ρ _ => Cert.AdamMemKv.Gen.frame m ρ, fun m ρ _ => Cert.AdamMemKvIdeal.Gen.frame m ρ, Cert.AdamMemKvIdeal.Hand.reference_frame,
    fun m ρ _ => Cert.AdamOut.Gen.frame m ρ, fun m ρ _ => Cert.AdamOutIdeal.Gen.frame m ρ, Cert.AdamOutIdeal.Hand.reference_frame,
    fun m ρ _ => Cert.AdamUp.Gen.frame m ρ, fun m ρ _ => Cert.AdamUpIdeal.Gen.frame m ρ, Cert.AdamUpIdeal.Hand.reference_frame,
    fun m ρ _ => Cert.AdamFfnConv.Gen.frame m ρ, fun m ρ _ => Cert.AdamFfnConvIdeal.Gen.frame m ρ, Cert.AdamFfnConvIdeal.Hand.reference_frame,
    fun m ρ _ => Cert.AdamFfnBias.Gen.frame m ρ, fun m ρ _ => Cert.AdamFfnBiasIdeal.Gen.frame m ρ, Cert.AdamFfnBiasIdeal.Hand.reference_frame,
    fun m ρ _ => Cert.AdamDown.Gen.frame m ρ, fun m ρ _ => Cert.AdamDownIdeal.Gen.frame m ρ, Cert.AdamDownIdeal.Hand.reference_frame,
    IdealRules.named_const.statement Cert.KernelIdeal.κ "mask" .f32 0xF149F2CA#32 ⊥ rfl, attention_agree,
    trivial, Cert.DownHiddenIdeal.Hand.agree,
    trivial, Cert.DownWeightIdeal.Hand.agree,
    trivial, Cert.UpInputIdeal.Hand.agree,
    trivial, Cert.UpInputAddIdeal.Hand.agree,
    trivial, Cert.UpWeightIdeal.Hand.agree,
    trivial, Cert.UpIdeal.Hand.agree,
    trivial, Cert.DownIdeal.Hand.agree,
    trivial, Cert.OutMixInputIdeal.Hand.agree,
    trivial, Cert.OutMemInputIdeal.Hand.agree,
    trivial, Cert.OutMixWeightIdeal.Hand.agree,
    trivial, Cert.OutMemWeightIdeal.Hand.agree,
    trivial, Cert.OutMixIdeal.Hand.agree,
    trivial, Cert.OutMemIdeal.Hand.agree,
    trivial, Cert.InWeightIdeal.Hand.agree,
    trivial, Cert.InMemWeightIdeal.Hand.agree,
    trivial, Cert.InInputIdeal.Hand.agree,
    trivial, Cert.InInputAddIdeal.Hand.agree,
    trivial, Cert.InMemInputAddIdeal.Hand.agree,
    trivial, Cert.InIdeal.Hand.agree,
    trivial, Cert.InMemIdeal.Hand.agree,
    trivial, Cert.QkvWeightIdeal.Hand.agree,
    trivial, Cert.QkvInputIdeal.Hand.agree,
    trivial, Cert.QkvInputAddIdeal.Hand.agree,
    trivial, Cert.GateWeightIdeal.Hand.agree,
    trivial, Cert.GateInputAddIdeal.Hand.agree,
    trivial, Cert.GateIdeal.Hand.agree,
    trivial, Cert.MemKvWeightIdeal.Hand.agree,
    trivial, Cert.MemKvInputIdeal.Hand.agree,
    trivial, Cert.MemKvInputAddIdeal.Hand.agree,
    trivial, Cert.MemKvIdeal.Hand.agree,
    trivial, Cert.AdamNormsIdeal.Hand.agree,
    trivial, Cert.AdamInAIdeal.Hand.agree,
    trivial, Cert.AdamGluIdeal.Hand.agree,
    trivial, Cert.AdamConvIdeal.Hand.agree,
    trivial, Cert.AdamChannelsIdeal.Hand.agree,
    trivial, Cert.AdamGainIdeal.Hand.agree,
    trivial, Cert.AdamKvfIdeal.Hand.agree,
    trivial, Cert.AdamForgetIdeal.Hand.agree,
    trivial, Cert.AdamInBIdeal.Hand.agree,
    trivial, Cert.AdamMemKvIdeal.Hand.agree,
    trivial, Cert.AdamOutIdeal.Hand.agree,
    trivial, Cert.AdamUpIdeal.Hand.agree,
    trivial, Cert.AdamFfnConvIdeal.Hand.agree,
    trivial, Cert.AdamFfnBiasIdeal.Hand.agree,
    trivial, Cert.AdamDownIdeal.Hand.agree⟩

end Cert.Proof

end
